-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_reals [hPre_reals : Cert.Pre_reals.Facts] (m : (ℓ : Loc Cert.KernelIdeal.nD Cert.KernelIdeal.τ Cert.KernelIdeal.sig) → Buf (Elt Ideal) ℓ) : Prop :=
  ∀ c : Dev Cert.KernelIdeal.nD,
    (Cert.Pre_reals.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_reals [hPre_reals : Cert.Pre_reals.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_reals.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_reals2 [hPre_reals2 : Cert.Pre_reals2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_reals2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_reals2 [hPre_reals2 : Cert.Pre_reals2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_reals2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 [hPre_a_chip : Cert.Pre_a_chip.Facts] (m : (ℓ : Loc Cert.Kernel10.nD Cert.Kernel10.τ Cert.Kernel10.sig) → Buf (Elt Bits) ℓ) : Prop :=
  ∀ c : Dev Cert.Kernel10.nD,
    (Cert.Pre_a_chip.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3))) = (fun _ => 1#1)

def Pre_Kernel10Ideal [hPre_a_chip : Cert.Pre_a_chip.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_a_chip.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_a_chip [hPre_a_chip : Cert.Pre_a_chip.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_a_chip.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 [hPre_own_chip : Cert.Pre_own_chip.Facts] (m : (ℓ : Loc Cert.Kernel11.nD Cert.Kernel11.τ Cert.Kernel11.sig) → Buf (Elt Bits) ℓ) : Prop :=
  ∀ c : Dev Cert.Kernel11.nD,
    (Cert.Pre_own_chip.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2))) = (fun _ => 1#1)

def Pre_Kernel11Ideal [hPre_own_chip : Cert.Pre_own_chip.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_own_chip.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_own_chip [hPre_own_chip : Cert.Pre_own_chip.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_own_chip.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_reals12 [hPre_reals12 : Cert.Pre_reals12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_reals12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_reals12 [hPre_reals12 : Cert.Pre_reals12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_reals12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_reals [hKernelIdeal : Cert.KernelIdeal.Facts] [hPre_reals : Cert.Pre_reals.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_reals m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_reals [hReferenceIdeal : Cert.ReferenceIdeal.Facts] [hPre_reals : Cert.Pre_reals.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_reals m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_reals2 [hKernel2Ideal : Cert.Kernel2Ideal.Facts] [hPre_reals2 : Cert.Pre_reals2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_reals2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_reals2 [hReference2Ideal : Cert.Reference2Ideal.Facts] [hPre_reals2 : Cert.Pre_reals2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_reals2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] [hPre_a_chip : Cert.Pre_a_chip.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] [hPre_a_chip : Cert.Pre_a_chip.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_a_chip [hReference10Ideal : Cert.Reference10Ideal.Facts] [hPre_a_chip : Cert.Pre_a_chip.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_a_chip m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] [hPre_own_chip : Cert.Pre_own_chip.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] [hPre_own_chip : Cert.Pre_own_chip.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_own_chip [hReference11Ideal : Cert.Reference11Ideal.Facts] [hPre_own_chip : Cert.Pre_own_chip.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_own_chip m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_reals12 [hKernel12Ideal : Cert.Kernel12Ideal.Facts] [hPre_reals12 : Cert.Pre_reals12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_reals12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_reals12 [hReference12Ideal : Cert.Reference12Ideal.Facts] [hPre_reals12 : Cert.Pre_reals12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_reals12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal_pre_reals [hKernelIdeal : Cert.KernelIdeal.Facts] [hReferenceIdeal : Cert.ReferenceIdeal.Facts] [hPre_reals : Cert.Pre_reals.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_reals m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_reals2 [hKernel2Ideal : Cert.Kernel2Ideal.Facts] [hReference2Ideal : Cert.Reference2Ideal.Facts] [hPre_reals2 : Cert.Pre_reals2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_reals2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)) (v8 : (c : Dev Cert.Kernel2Ideal.nD) → Buf (Elt Ideal) ((c.tc : Thread Cert.Kernel2Ideal.nD Cert.Kernel2Ideal.τ).loc Cert.Kernel2Ideal.main_v0_8)) (v9 : (c : Dev Cert.Kernel2Ideal.nD) → Buf (Elt Ideal) ((c.tc : Thread Cert.Kernel2Ideal.nD Cert.Kernel2Ideal.τ).loc Cert.Kernel2Ideal.main_v0_9)) (v10 : (c : Dev Cert.Kernel2Ideal.nD) → Buf (Elt Ideal) ((c.tc : Thread Cert.Kernel2Ideal.nD Cert.Kernel2Ideal.τ).loc Cert.Kernel2Ideal.main_v0_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_v0_8) = v8 c
          ∧ r.2.mem ((c.tc : Thread Cert.Kernel2Ideal.nD Cert.Kernel2Ideal.τ).loc Cert.Kernel2Ideal.main_v0_9) = v9 c
          ∧ r.2.mem ((c.tc : Thread Cert.Kernel2Ideal.nD Cert.Kernel2Ideal.τ).loc Cert.Kernel2Ideal.main_v0_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_v103) = v1 c
          ∧ r.2.mem ((c.tc : Thread Cert.Reference2Ideal.nD Cert.Reference2Ideal.τ).loc Cert.Reference2Ideal.main_v104) = v2 c
          ∧ r.2.mem ((c.tc : Thread Cert.Reference2Ideal.nD Cert.Reference2Ideal.τ).loc Cert.Reference2Ideal.main_v105) = v3 c
          ∧ r.2.mem ((c.tc : Thread Cert.Reference2Ideal.nD Cert.Reference2Ideal.τ).loc Cert.Reference2Ideal.main_v106) = v4 c
          ∧ r.2.mem ((c.tc : Thread Cert.Reference2Ideal.nD Cert.Reference2Ideal.τ).loc Cert.Reference2Ideal.main_v100) = v5 c
          ∧ r.2.mem ((c.tc : Thread Cert.Reference2Ideal.nD Cert.Reference2Ideal.τ).loc Cert.Reference2Ideal.main_v102) = v6 c
          ∧ r.2.mem ((c.tc : Thread Cert.Reference2Ideal.nD Cert.Reference2Ideal.τ).loc Cert.Reference2Ideal.main_v108) = v7 c
          ∧ r.2.mem ((c.tc : Thread Cert.Reference2Ideal.nD Cert.Reference2Ideal.τ).loc Cert.Reference2Ideal.main_v109) = v8 c
          ∧ r.2.mem ((c.tc : Thread Cert.Reference2Ideal.nD Cert.Reference2Ideal.τ).loc Cert.Reference2Ideal.main_v91) = v9 c
          ∧ r.2.mem ((c.tc : Thread Cert.Reference2Ideal.nD Cert.Reference2Ideal.τ).loc Cert.Reference2Ideal.main_v110) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_v31) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_v18) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg0) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_v10) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)) (v4 : (c : Dev Cert.Kernel7Ideal.nD) → Buf (Elt Ideal) ((c.tc : Thread Cert.Kernel7Ideal.nD Cert.Kernel7Ideal.τ).loc Cert.Kernel7Ideal.main_v0_4)) (v5 : (c : Dev Cert.Kernel7Ideal.nD) → Buf (Elt Ideal) ((c.tc : Thread Cert.Kernel7Ideal.nD Cert.Kernel7Ideal.τ).loc Cert.Kernel7Ideal.main_v0_5)) (v6 : (c : Dev Cert.Kernel7Ideal.nD) → Buf (Elt Ideal) ((c.tc : Thread Cert.Kernel7Ideal.nD Cert.Kernel7Ideal.τ).loc Cert.Kernel7Ideal.main_v0_6)) (v7 : (c : Dev Cert.Kernel7Ideal.nD) → Buf (Elt Ideal) ((c.tc : Thread Cert.Kernel7Ideal.nD Cert.Kernel7Ideal.τ).loc Cert.Kernel7Ideal.main_v0_7)) (v8 : (c : Dev Cert.Kernel7Ideal.nD) → Buf (Elt Ideal) ((c.tc : Thread Cert.Kernel7Ideal.nD Cert.Kernel7Ideal.τ).loc Cert.Kernel7Ideal.main_v0_8)) (v9 : (c : Dev Cert.Kernel7Ideal.nD) → Buf (Elt Ideal) ((c.tc : Thread Cert.Kernel7Ideal.nD Cert.Kernel7Ideal.τ).loc Cert.Kernel7Ideal.main_v0_9)) (v10 : (c : Dev Cert.Kernel7Ideal.nD) → Buf (Elt Ideal) ((c.tc : Thread Cert.Kernel7Ideal.nD Cert.Kernel7Ideal.τ).loc Cert.Kernel7Ideal.main_v0_10)) (v11 : (c : Dev Cert.Kernel7Ideal.nD) → Buf (Elt Ideal) ((c.tc : Thread Cert.Kernel7Ideal.nD Cert.Kernel7Ideal.τ).loc Cert.Kernel7Ideal.main_v0_11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_v0_4) = v4 c
          ∧ r.2.mem ((c.tc : Thread Cert.Kernel7Ideal.nD Cert.Kernel7Ideal.τ).loc Cert.Kernel7Ideal.main_v0_5) = v5 c
          ∧ r.2.mem ((c.tc : Thread Cert.Kernel7Ideal.nD Cert.Kernel7Ideal.τ).loc Cert.Kernel7Ideal.main_v0_6) = v6 c
          ∧ r.2.mem ((c.tc : Thread Cert.Kernel7Ideal.nD Cert.Kernel7Ideal.τ).loc Cert.Kernel7Ideal.main_v0_7) = v7 c
          ∧ r.2.mem ((c.tc : Thread Cert.Kernel7Ideal.nD Cert.Kernel7Ideal.τ).loc Cert.Kernel7Ideal.main_v0_8) = v8 c
          ∧ r.2.mem ((c.tc : Thread Cert.Kernel7Ideal.nD Cert.Kernel7Ideal.τ).loc Cert.Kernel7Ideal.main_v0_9) = v9 c
          ∧ r.2.mem ((c.tc : Thread Cert.Kernel7Ideal.nD Cert.Kernel7Ideal.τ).loc Cert.Kernel7Ideal.main_v0_10) = v10 c
          ∧ r.2.mem ((c.tc : Thread Cert.Kernel7Ideal.nD Cert.Kernel7Ideal.τ).loc Cert.Kernel7Ideal.main_v0_11) = v11 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_arg0) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v4) = v2 c
          ∧ r.2.mem ((c.tc : Thread Cert.Reference7Ideal.nD Cert.Reference7Ideal.τ).loc Cert.Reference7Ideal.main_v10) = v3 c
          ∧ r.2.mem ((c.tc : Thread Cert.Reference7Ideal.nD Cert.Reference7Ideal.τ).loc Cert.Reference7Ideal.main_arg1) = v4 c
          ∧ r.2.mem ((c.tc : Thread Cert.Reference7Ideal.nD Cert.Reference7Ideal.τ).loc Cert.Reference7Ideal.main_v47) = v5 c
          ∧ r.2.mem ((c.tc : Thread Cert.Reference7Ideal.nD Cert.Reference7Ideal.τ).loc Cert.Reference7Ideal.main_v28) = v6 c
          ∧ r.2.mem ((c.tc : Thread Cert.Reference7Ideal.nD Cert.Reference7Ideal.τ).loc Cert.Reference7Ideal.main_v34) = v7 c
          ∧ r.2.mem ((c.tc : Thread Cert.Reference7Ideal.nD Cert.Reference7Ideal.τ).loc Cert.Reference7Ideal.main_arg2) = v8 c
          ∧ r.2.mem ((c.tc : Thread Cert.Reference7Ideal.nD Cert.Reference7Ideal.τ).loc Cert.Reference7Ideal.main_v71) = v9 c
          ∧ r.2.mem ((c.tc : Thread Cert.Reference7Ideal.nD Cert.Reference7Ideal.τ).loc Cert.Reference7Ideal.main_v52) = v10 c
          ∧ r.2.mem ((c.tc : Thread Cert.Reference7Ideal.nD Cert.Reference7Ideal.τ).loc Cert.Reference7Ideal.main_v58) = v11 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)) (v6 : (c : Dev Cert.Kernel8Ideal.nD) → Buf (Elt Ideal) ((c.tc : Thread Cert.Kernel8Ideal.nD Cert.Kernel8Ideal.τ).loc Cert.Kernel8Ideal.main_v0_6)) (v7 : (c : Dev Cert.Kernel8Ideal.nD) → Buf (Elt Ideal) ((c.tc : Thread Cert.Kernel8Ideal.nD Cert.Kernel8Ideal.τ).loc Cert.Kernel8Ideal.main_v0_7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_v0_6) = v6 c
          ∧ r.2.mem ((c.tc : Thread Cert.Kernel8Ideal.nD Cert.Kernel8Ideal.τ).loc Cert.Kernel8Ideal.main_v0_7) = v7 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_arg0) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_v10) = v3 c
          ∧ r.2.mem ((c.tc : Thread Cert.Reference8Ideal.nD Cert.Reference8Ideal.τ).loc Cert.Reference8Ideal.main_arg1) = v4 c
          ∧ r.2.mem ((c.tc : Thread Cert.Reference8Ideal.nD Cert.Reference8Ideal.τ).loc Cert.Reference8Ideal.main_v47) = v5 c
          ∧ r.2.mem ((c.tc : Thread Cert.Reference8Ideal.nD Cert.Reference8Ideal.τ).loc Cert.Reference8Ideal.main_v28) = v6 c
          ∧ r.2.mem ((c.tc : Thread Cert.Reference8Ideal.nD Cert.Reference8Ideal.τ).loc Cert.Reference8Ideal.main_v34) = v7 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v11) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] [hPre_a_chip : Cert.Pre_a_chip.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_on_own_columns [hKernel11Ideal : Cert.Kernel11Ideal.Facts] [hReference11Ideal : Cert.Reference11Ideal.Facts] [hPre_own_chip : Cert.Pre_own_chip.Facts] [hOn_own_columns : Cert.On_own_columns.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          (∀ i : (⟨2, ![4096, 6656]⟩ : Shape).Idx, (Cert.On_own_columns.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) i = 1#1 → r.2.mem ((c.tc : Thread Cert.Kernel11Ideal.nD Cert.Kernel11Ideal.τ).loc Cert.Kernel11Ideal.main_v0) i = v0 c i)
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          (∀ i : (⟨2, ![4096, 6656]⟩ : Shape).Idx, (Cert.On_own_columns.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) i = 1#1 → r.2.mem ((c.tc : Thread Cert.Reference11Ideal.nD Cert.Reference11Ideal.τ).loc Cert.Reference11Ideal.main_v2) i = v0 c i)
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  IdealRules.named_const.Statement Cert.Kernel12Ideal.κ "masked" .f32 0xF149F2CA#32 ⊥

def algebraic_Kernel12Ideal_Reference12Ideal_pre_reals12 [hKernel12Ideal : Cert.Kernel12Ideal.Facts] [hReference12Ideal : Cert.Reference12Ideal.Facts] [hPre_reals12 : Cert.Pre_reals12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_reals12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v43_0)) (v1 : (c : Dev Cert.Kernel12Ideal.nD) → Buf (Elt Ideal) ((c.tc : Thread Cert.Kernel12Ideal.nD Cert.Kernel12Ideal.τ).loc Cert.Kernel12Ideal.main_v43_1)) (v2 : (c : Dev Cert.Kernel12Ideal.nD) → Buf (Elt Ideal) ((c.tc : Thread Cert.Kernel12Ideal.nD Cert.Kernel12Ideal.τ).loc Cert.Kernel12Ideal.main_v43_2)) (v3 : (c : Dev Cert.Kernel12Ideal.nD) → Buf (Elt Ideal) ((c.tc : Thread Cert.Kernel12Ideal.nD Cert.Kernel12Ideal.τ).loc Cert.Kernel12Ideal.main_v43_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v43_0) = v0 c
          ∧ r.2.mem ((c.tc : Thread Cert.Kernel12Ideal.nD Cert.Kernel12Ideal.τ).loc Cert.Kernel12Ideal.main_v43_1) = v1 c
          ∧ r.2.mem ((c.tc : Thread Cert.Kernel12Ideal.nD Cert.Kernel12Ideal.τ).loc Cert.Kernel12Ideal.main_v43_2) = v2 c
          ∧ r.2.mem ((c.tc : Thread Cert.Kernel12Ideal.nD Cert.Kernel12Ideal.τ).loc Cert.Kernel12Ideal.main_v43_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v161) = v0 c
          ∧ r.2.mem ((c.tc : Thread Cert.Reference12Ideal.nD Cert.Reference12Ideal.τ).loc Cert.Reference12Ideal.main_v163) = v1 c
          ∧ r.2.mem ((c.tc : Thread Cert.Reference12Ideal.nD Cert.Reference12Ideal.τ).loc Cert.Reference12Ideal.main_v166) = v2 c
          ∧ r.2.mem ((c.tc : Thread Cert.Reference12Ideal.nD Cert.Reference12Ideal.τ).loc Cert.Reference12Ideal.main_v173) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m ((c.tc : Thread Cert.Kernel13Ideal.nD Cert.Kernel13Ideal.τ).loc Cert.Kernel13Ideal.main_arg0) = Layout.block ⟨3, ![2, 512, 6656]⟩ ⟨3, ![16, 512, 6656]⟩ 0 8 c (m' (((0 : Dev Cert.Reference13Ideal.nD).tc : Thread Cert.Reference13Ideal.nD Cert.Reference13Ideal.τ).loc Cert.Reference13Ideal.main_arg0))
      ∧ m ((c.tc : Thread Cert.Kernel13Ideal.nD Cert.Kernel13Ideal.τ).loc Cert.Kernel13Ideal.main_arg1) = Layout.block ⟨5, ![4, 4, 2, 32, 256]⟩ ⟨5, ![32, 4, 2, 32, 256]⟩ 0 8 c (m' (((0 : Dev Cert.Reference13Ideal.nD).tc : Thread Cert.Reference13Ideal.nD Cert.Reference13Ideal.τ).loc Cert.Reference13Ideal.main_arg1))
      ∧ m ((c.tc : Thread Cert.Kernel13Ideal.nD Cert.Kernel13Ideal.τ).loc Cert.Kernel13Ideal.main_arg2) = Layout.block ⟨5, ![4, 4, 2, 32, 256]⟩ ⟨5, ![32, 4, 2, 32, 256]⟩ 0 8 c (m' (((0 : Dev Cert.Reference13Ideal.nD).tc : Thread Cert.Reference13Ideal.nD Cert.Reference13Ideal.τ).loc Cert.Reference13Ideal.main_arg2))) →
    ∃ (v0 : Buf (Elt Ideal) (((0 : Dev Cert.Reference13Ideal.nD).tc : Thread Cert.Reference13Ideal.nD Cert.Reference13Ideal.τ).loc Cert.Reference13Ideal.main_v12)) (v1 : Buf (Elt Ideal) (((0 : Dev Cert.Reference13Ideal.nD).tc : Thread Cert.Reference13Ideal.nD Cert.Reference13Ideal.τ).loc Cert.Reference13Ideal.main_v25)) (v2 : Buf (Elt Ideal) (((0 : Dev Cert.Reference13Ideal.nD).tc : Thread Cert.Reference13Ideal.nD Cert.Reference13Ideal.τ).loc Cert.Reference13Ideal.main_v38)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = Layout.block ⟨2, ![512, 6656]⟩ ⟨2, ![4096, 6656]⟩ 0 8 c v0
          ∧ r.2.mem ((c.tc : Thread Cert.Kernel13Ideal.nD Cert.Kernel13Ideal.τ).loc Cert.Kernel13Ideal.main_v1_1) = Layout.block ⟨4, ![4, 4, 32, 256]⟩ ⟨4, ![32, 4, 32, 256]⟩ 0 8 c v1
          ∧ r.2.mem ((c.tc : Thread Cert.Kernel13Ideal.nD Cert.Kernel13Ideal.τ).loc Cert.Kernel13Ideal.main_v1_2) = Layout.block ⟨4, ![4, 4, 32, 256]⟩ ⟨4, ![32, 4, 32, 256]⟩ 0 8 c v2
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r =>
          r.2.mem (((0 : Dev Cert.Reference13Ideal.nD).tc : Thread Cert.Reference13Ideal.nD Cert.Reference13Ideal.τ).loc Cert.Reference13Ideal.main_v12) = v0
          ∧ r.2.mem (((0 : Dev Cert.Reference13Ideal.nD).tc : Thread Cert.Reference13Ideal.nD Cert.Reference13Ideal.τ).loc Cert.Reference13Ideal.main_v25) = v1
          ∧ r.2.mem (((0 : Dev Cert.Reference13Ideal.nD).tc : Thread Cert.Reference13Ideal.nD Cert.Reference13Ideal.τ).loc Cert.Reference13Ideal.main_v38) = v2
          ∧ r.2.mem (((0 : Dev Cert.Reference13Ideal.nD).tc : Thread Cert.Reference13Ideal.nD Cert.Reference13Ideal.τ).loc Cert.Reference13Ideal.main_arg0) = m' (((0 : Dev Cert.Reference13Ideal.nD).tc : Thread Cert.Reference13Ideal.nD Cert.Reference13Ideal.τ).loc Cert.Reference13Ideal.main_arg0)
          ∧ r.2.mem (((0 : Dev Cert.Reference13Ideal.nD).tc : Thread Cert.Reference13Ideal.nD Cert.Reference13Ideal.τ).loc Cert.Reference13Ideal.main_arg1) = m' (((0 : Dev Cert.Reference13Ideal.nD).tc : Thread Cert.Reference13Ideal.nD Cert.Reference13Ideal.τ).loc Cert.Reference13Ideal.main_arg1)
          ∧ r.2.mem (((0 : Dev Cert.Reference13Ideal.nD).tc : Thread Cert.Reference13Ideal.nD Cert.Reference13Ideal.τ).loc Cert.Reference13Ideal.main_arg2) = m' (((0 : Dev Cert.Reference13Ideal.nD).tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_reals : Cert.Pre_reals.Facts) (hPre_reals2 : Cert.Pre_reals2.Facts) (hPre_a_chip : Cert.Pre_a_chip.Facts) (hPre_own_chip : Cert.Pre_own_chip.Facts) (hPre_reals12 : Cert.Pre_reals12.Facts) (hOn_own_columns : Cert.On_own_columns.Facts),
    quiescent_Kernel (hKernel := hKernel)
    ∧ quiescent_KernelIdeal (hKernelIdeal := hKernelIdeal)
    ∧ quiescent_KernelIdeal_pre_reals (hKernelIdeal := hKernelIdeal) (hPre_reals := hPre_reals)
    ∧ quiescent_ReferenceIdeal (hReferenceIdeal := hReferenceIdeal)
    ∧ quiescent_ReferenceIdeal_pre_reals (hReferenceIdeal := hReferenceIdeal) (hPre_reals := hPre_reals)
    ∧ quiescent_Kernel2 (hKernel2 := hKernel2)
    ∧ quiescent_Kernel2Ideal (hKernel2Ideal := hKernel2Ideal)
    ∧ quiescent_Kernel2Ideal_pre_reals2 (hKernel2Ideal := hKernel2Ideal) (hPre_reals2 := hPre_reals2)
    ∧ quiescent_Reference2Ideal (hReference2Ideal := hReference2Ideal)
    ∧ quiescent_Reference2Ideal_pre_reals2 (hReference2Ideal := hReference2Ideal) (hPre_reals2 := hPre_reals2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10) (hPre_a_chip := hPre_a_chip)
    ∧ quiescent_Kernel10Ideal (hKernel10Ideal := hKernel10Ideal) (hPre_a_chip := hPre_a_chip)
    ∧ quiescent_Reference10Ideal (hReference10Ideal := hReference10Ideal)
    ∧ quiescent_Reference10Ideal_pre_a_chip (hReference10Ideal := hReference10Ideal) (hPre_a_chip := hPre_a_chip)
    ∧ quiescent_Kernel11 (hKernel11 := hKernel11) (hPre_own_chip := hPre_own_chip)
    ∧ quiescent_Kernel11Ideal (hKernel11Ideal := hKernel11Ideal) (hPre_own_chip := hPre_own_chip)
    ∧ quiescent_Reference11Ideal (hReference11Ideal := hReference11Ideal)
    ∧ quiescent_Reference11Ideal_pre_own_chip (hReference11Ideal := hReference11Ideal) (hPre_own_chip := hPre_own_chip)
    ∧ quiescent_Kernel12 (hKernel12 := hKernel12)
    ∧ quiescent_Kernel12Ideal (hKernel12Ideal := hKernel12Ideal)
    ∧ quiescent_Kernel12Ideal_pre_reals12 (hKernel12Ideal := hKernel12Ideal) (hPre_reals12 := hPre_reals12)
    ∧ quiescent_Reference12Ideal (hReference12Ideal := hReference12Ideal)
    ∧ quiescent_Reference12Ideal_pre_reals12 (hReference12Ideal := hReference12Ideal) (hPre_reals12 := hPre_reals12)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_reals (hKernelIdeal := hKernelIdeal) (hReferenceIdeal := hReferenceIdeal) (hPre_reals := hPre_reals)
    ∧ preserves_Kernel2_Kernel2Ideal
    ∧ algebraic_Kernel2Ideal_Reference2Ideal_pre_reals2 (hKernel2Ideal := hKernel2Ideal) (hReference2Ideal := hReference2Ideal) (hPre_reals2 := hPre_reals2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal) (hPre_a_chip := hPre_a_chip)
    ∧ preserves_Kernel11_Kernel11Ideal
    ∧ algebraic_Kernel11Ideal_Reference11Ideal_on_own_columns (hKernel11Ideal := hKernel11Ideal) (hReference11Ideal := hReference11Ideal) (hPre_own_chip := hPre_own_chip) (hOn_own_columns := hOn_own_columns)
    ∧ preserves_Kernel12_Kernel12Ideal
    ∧ algebraic_Kernel12Ideal_Reference12Ideal_pre_reals12 (hKernel12Ideal := hKernel12Ideal) (hReference12Ideal := hReference12Ideal) (hPre_reals12 := hPre_reals12)
    ∧ preserves_Kernel13_Kernel13Ideal
    ∧ algebraic_Kernel13Ideal_Reference13Ideal (hKernel13Ideal := hKernel13Ideal) (hReference13Ideal := hReference13Ideal)
-- ==== On_own_columns.lean ====
abbrev S4096x1024 : Shape := ⟨2, ![4096, 1024]⟩
abbrev S1024x6656 : Shape := ⟨2, ![1024, 6656]⟩
abbrev S1 : Shape := ⟨1, ![1]⟩
abbrev S4096x6656 : Shape := ⟨2, ![4096, 6656]⟩
abbrev S_ : Shape := ⟨0, ![]⟩

class Facts : Prop where
  shapeCasts_S1_S_ : S1.ShapeCasts S_
  bcast_S_S4096x6656 : S_.BroadcastsInDim S4096x6656 (![] : Fin 0 → Fin S4096x6656.rank)

variable [Facts]

def fn {F : FTy → Type} [FloatOps F] (main_arg0 : FVec F S4096x1024 .bf16) (main_arg1 : FVec F S1024x6656 .bf16) (main_arg2 : IVec S1 32) : IVec S4096x6656 1 :=
  let main_v0 : IVec S4096x6656 32 := iotaInDim S4096x6656 32 1
  let main_v1 : IVec S_ 32 := shapeCast S_ main_arg2 shapeCasts_S1_S_
  let main_c : IVec S_ 32 := constantI S_ 32 1664#32
  let main_v2 : IVec S_ 32 := muli main_v1 main_c
  let main_v3 : IVec S4096x6656 32 := broadcastInDim S4096x6656 ![] bcast_S_S4096x6656 main_v2
  let main_v4 : IVec S4096x6656 1 := cmpi .sge main_v0 main_v3
  let main_c_0 : IVec S_ 32 := constantI S_ 32 1664#32
  let main_v5 : IVec S_ 32 := addi main_v2 main_c_0
  let main_v6 : IVec S4096x6656 32 := broadcastInDim S4096x6656 ![] bcast_S_S4096x6656 main_v5
  let main_v7 : IVec S4096x6656 1 := cmpi .slt main_v0 main_v6
  let main_v8 : IVec S4096x6656 1 := andi main_v4 main_v7
  main_v8
-- ==== Pre_a_chip.lean ====
abbrev S4096x1024 : Shape := ⟨2, ![4096, 1024]⟩
abbrev S1024x6656 : Shape := ⟨2, ![1024, 6656]⟩
abbrev S1 : Shape := ⟨1, ![1]⟩
abbrev S4096x6656 : Shape := ⟨2, ![4096, 6656]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x1024 .bf16) (main_arg1 : FVec F S1024x6656 .bf16) (main_arg2 : IVec S1 32) (main_arg3 : FVec F S4096x6656 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_own_chip.lean ====
abbrev S4096x1024 : Shape := ⟨2, ![4096, 1024]⟩
abbrev S1024x6656 : Shape := ⟨2, ![1024, 6656]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x1024 .bf16) (main_arg1 : FVec F S1024x6656 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_reals.lean ====
abbrev S4096x1024 : Shape := ⟨2, ![4096, 1024]⟩
abbrev S4096x512 : Shape := ⟨2, ![4096, 512]⟩
abbrev S4096x2048 : Shape := ⟨2, ![4096, 2048]⟩
abbrev S1024x6656 : Shape := ⟨2, ![1024, 6656]⟩
abbrev S1x3072 : Shape := ⟨2, ![1, 3072]⟩
abbrev S1x1024 : Shape := ⟨2, ![1, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1024x6656 : S_.BroadcastsInDim S1024x6656 (![] : Fin 0 → Fin S1024x6656.rank)
  reducesTo_S1024x6656_S_d0_1 : S1024x6656.ReducesTo [0, 1] S_
  bcast_S_S1x3072 : S_.BroadcastsInDim S1x3072 (![] : Fin 0 → Fin S1x3072.rank)
  reducesTo_S1x3072_S_d0_1 : S1x3072.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x3072 .f32) (main_arg9 : FVec F S1x1024 .f32) (main_v34 : IVec S_ 1) (main_v35 : FVec F S4096x1024 .f32) : IVec S_ 1 :=
  let main_cst_10 : FVec F S_ .f32 := constant S_ .f32 0x7F800000#32
  let main_v36 : FVec F S4096x1024 .f32 := broadcastInDim S4096x1024 ![] bcast_S_S4096x1024 main_cst_10
  let main_v37 : IVec S4096x1024 1 := cmpf .olt main_v35 main_v36
  let main_c_11 : IVec S_ 1 := constantI S_ 1 1#1
  let main_v38 : IVec S_ 1 := (fun x v => Host.reduce IntOp.andi x v reducesTo_S4096x1024_S_d0_1 h_S_) main_v37 main_c_11
  let main_v39 : IVec S_ 1 := andi main_v34 main_v38
  let main_v40 : FVec F S1x3072 .f32 := Host.absf main_arg8
  let main_cst_12 : FVec F S_ .f32 := constant S_ .f32 0x7F800000#32
  let main_v41 : FVec F S1x3072 .f32 := broadcastInDim S1x3072 ![] bcast_S_S1x3072 main_cst_12
  let main_v42 : IVec S1x3072 1 := cmpf .olt main_v40 main_v41
  let main_c_13 : IVec S_ 1 := constantI S_ 1 1#1
  let main_v43 : IVec S_ 1 := (fun x v => Host.reduce IntOp.andi x v reducesTo_S1x3072_S_d0_1 h_S_) main_v42 main_c_13
  let main_v44 : IVec S_ 1 := andi main_v39 main_v43
  let main_v45 : FVec F S1x1024 .f32 := Host.absf main_arg9
  let main_cst_14 : FVec F S_ .f32 := constant S_ .f32 0x7F800000#32
  let main_v46 : FVec F S1x1024 .f32 := broadcastInDim S1x1024 ![] bcast_S_S1x1024 main_cst_14
  let main_v47 : IVec S1x1024 1 := cmpf .olt main_v45 main_v46
  let main_c_15 : IVec S_ 1 := constantI S_ 1 1#1
  let main_v48 : IVec S_ 1 := (fun x v => Host.reduce IntOp.andi x v reducesTo_S1x1024_S_d0_1 h_S_) main_v47 main_c_15
  let main_v49 : IVec S_ 1 := andi main_v44 main_v48
  main_v49

def fn_part1 {F : FTy → Type} [FloatOps F] (main_arg4 : FVec F S4096x2048 .bf16) (main_arg5 : FVec F S1024x6656 .bf16) (main_arg6 : FVec F S4096x1024 .f32) (main_arg8 : FVec F S1x3072 .f32) (main_arg9 : FVec F S1x1024 .f32) (main_v16 : IVec S_ 1) (main_v17 : FVec F S4096x2048 .f32) : IVec S_ 1 :=
  let main_v18 : FVec F S4096x2048 .f32 := Host.absf main_v17
  let main_cst_4 : FVec F S_ .f32 := constant S_ .f32 0x7F800000#32
  let main_v19 : FVec F S4096x2048 .f32 := broadcastInDim S4096x2048 ![] bcast_S_S4096x2048 main_cst_4
  let main_v20 : IVec S4096x2048 1 := cmpf .olt main_v18 main_v19
  let main_c_5 : IVec S_ 1 := constantI S_ 1 1#1
  let main_v21 : IVec S_ 1 := (fun x v => Host.reduce IntOp.andi x v reducesTo_S4096x2048_S_d0_1 h_S_) main_v20 main_c_5
  let main_v22 : IVec S_ 1 := andi main_v16 main_v21
  let main_v23 : FVec F S4096x2048 .f32 := (extf .f32 · bitsLt_bf16_f32) main_arg4
  let main_v24 : FVec F S4096x2048 .f32 := Host.absf main_v23
  let main_cst_6 : FVec F S_ .f32 := constant S_ .f32 0x7F800000#32
  let main_v25 : FVec F S4096x2048 .f32 := broadcastInDim S4096x2048 ![] bcast_S_S4096x2048 main_cst_6
  let main_v26 : IVec S4096x2048 1 := cmpf .olt main_v24 main_v25
  let main_c_7 : IVec S_ 1 := constantI S_ 1 1#1
  let main_v27 : IVec S_ 1 := (fun x v => Host.reduce IntOp.andi x v reducesTo_S4096x2048_S_d0_1 h_S_) main_v26 main_c_7
  let main_v28 : IVec S_ 1 := andi main_v22 main_v27
  let main_v29 : FVec F S1024x6656 .f32 := (extf .f32 · bitsLt_bf16_f32) main_arg5
  let main_v30 : FVec F S1024x6656 .f32 := Host.absf main_v29
  let main_cst_8 : FVec F S_ .f32 := constant S_ .f32 0x7F800000#32
  let main_v31 : FVec F S1024x6656 .f32 := broadcastInDim S1024x6656 ![] bcast_S_S1024x6656 main_cst_8
  let main_v32 : IVec S1024x6656 1 := cmpf .olt main_v30 main_v31
  let main_c_9 : IVec S_ 1 := constantI S_ 1 1#1
  let main_v33 : IVec S_ 1 := (fun x v => Host.reduce IntOp.andi x v reducesTo_S1024x6656_S_d0_1 h_S_) main_v32 main_c_9
  let main_v34 : IVec S_ 1 := andi main_v28 main_v33
  let main_v35 : FVec F S4096x1024 .f32 := Host.absf main_arg6
  fn_part2 (F := F) main_arg8 main_arg9 main_v34 main_v35

def fn {F : FTy → Type} [FloatOps F] (main_arg0 : FVec F S4096x1024 .bf16) (main_arg1 : FVec F S4096x512 .bf16) (main_arg2 : FVec F S4096x1024 .bf16) (main_arg3 : FVec F S4096x2048 .bf16) (main_arg4 : FVec F S4096x2048 .bf16) (main_arg5 : FVec F S1024x6656 .bf16) (main_arg6 : FVec F S4096x1024 .f32) (main_arg7 : FVec F S4096x1024 .f32) (main_arg8 : FVec F S1x3072 .f32) (main_arg9 : FVec F S1x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S4096x1024 .f32 := (extf .f32 · bitsLt_bf16_f32) main_arg2
  let main_v12 : FVec F S4096x1024 .f32 := Host.absf main_v11
  let main_cst_2 : FVec F S_ .f32 := constant S_ .f32 0x7F800000#32
  let main_v13 : FVec F S4096x1024 .f32 := broadcastInDim S4096x1024 ![] bcast_S_S4096x1024 main_cst_2
  let main_v14 : IVec S4096x1024 1 := cmpf .olt main_v12 main_v13
  let main_c_3 : IVec S_ 1 := constantI S_ 1 1#1
  let main_v15 : IVec S_ 1 := (fun x v => Host.reduce IntOp.andi x v reducesTo_S4096x1024_S_d0_1 h_S_) main_v14 main_c_3
  let main_v16 : IVec S_ 1 := andi main_v10 main_v15
  let main_v17 : FVec F S4096x2048 .f32 := (extf .f32 · bitsLt_bf16_f32) main_arg3
  fn_part1 (F := F) main_arg4 main_arg5 main_arg6 main_arg8 main_arg9 main_v16 main_v17
-- ==== Pre_reals12.lean ====
abbrev S4096x6656 : Shape := ⟨2, ![4096, 6656]⟩
abbrev S1x4096 : Shape := ⟨2, ![1, 4096]⟩
abbrev S1x16 : Shape := ⟨2, ![1, 16]⟩
abbrev S4096x1280 : Shape := ⟨2, ![4096, 1280]⟩
abbrev S_ : Shape := ⟨0, ![]⟩

class Facts : Prop where
  slices_S4096x6656_S4096x1280_0_0 : S4096x6656.Slices ![0, 0] S4096x1280
  bcast_S_S4096x1280 : S_.BroadcastsInDim S4096x1280 (![] : Fin 0 → Fin S4096x1280.rank)
  reducesTo_S4096x1280_S_d0_1 : S4096x1280.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S4096x6656 .f32) (main_arg1 : IVec S1x4096 32) (main_arg2 : FVec F S1x16 .f32) : IVec S_ 1 :=
  let main_v0 : FVec F S4096x1280 .f32 := (extractStridedSlice S4096x1280 ![0, 0] · slices_S4096x6656_S4096x1280_0_0) main_arg0
  let main_v1 : FVec F S4096x1280 .f32 := Host.absf main_v0
  let main_cst : FVec F S_ .f32 := constant S_ .f32 0x7F800000#32
  let main_v2 : FVec F S4096x1280 .f32 := broadcastInDim S4096x1280 ![] bcast_S_S4096x1280 main_cst
  let main_v3 : IVec S4096x1280 1 := cmpf .olt main_v1 main_v2
  let main_c : IVec S_ 1 := constantI S_ 1 1#1
  let main_v4 : IVec S_ 1 := (fun x v => Host.reduce IntOp.andi x v reducesTo_S4096x1280_S_d0_1 h_S_) main_v3 main_c
  let main_v5 : FVec F S1x16 .f32 := Host.absf main_arg2
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  let main_c_1 : IVec S_ 1 := constantI S_ 1 1#1
  let main_v8 : IVec S_ 1 := (fun x v => Host.reduce IntOp.andi x v reducesTo_S1x16_S_d0_1 h_S_) main_v7 main_c_1
  let main_v9 : IVec S_ 1 := andi main_v4 main_v8
  main_v9
-- ==== Pre_reals2.lean ====
abbrev S4096x1024 : Shape := ⟨2, ![4096, 1024]⟩
abbrev S4096x6656 : Shape := ⟨2, ![4096, 6656]⟩
abbrev S1024x1024 : Shape := ⟨2, ![1024, 1024]⟩
abbrev S1x3072 : Shape := ⟨2, ![1, 3072]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x6656 : S_.BroadcastsInDim S4096x6656 (![] : Fin 0 → Fin S4096x6656.rank)
  reducesTo_S4096x6656_S_d0_1 : S4096x6656.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x3072 : S_.BroadcastsInDim S1x3072 (![] : Fin 0 → Fin S1x3072.rank)
  reducesTo_S1x3072_S_d0_1 : S1x3072.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v51 : IVec S1x1024 1) (main_c_17 : IVec S_ 1) : IVec S_ 1 :=
  let main_v52 : IVec S_ 1 := (fun x v => Host.reduce IntOp.andi x v reducesTo_S1x1024_S_d0_1 h_S_) main_v51 main_c_17
  let main_v53 : IVec S_ 1 := andi main_v48 main_v52
  main_v53

def fn_part2 {F : FTy → Type} [FloatOps F] (main_arg7 : FVec F S1024x1024 .bf16) (main_arg8 : FVec F S1x3072 .f32) (main_arg9 : FVec F S1x1024 .f32) (main_v31 : IVec S_ 1) (main_v33 : FVec F S1024x1024 .f32) (main_v34 : FVec F S1024x1024 .f32) : IVec S_ 1 :=
  let main_v35 : IVec S1024x1024 1 := cmpf .olt main_v33 main_v34
  let main_c_11 : IVec S_ 1 := constantI S_ 1 1#1
  let main_v36 : IVec S_ 1 := (fun x v => Host.reduce IntOp.andi x v reducesTo_S1024x1024_S_d0_1 h_S_) main_v35 main_c_11
  let main_v37 : IVec S_ 1 := andi main_v31 main_v36
  let main_v38 : FVec F S1024x1024 .f32 := (extf .f32 · bitsLt_bf16_f32) main_arg7
  let main_v39 : FVec F S1024x1024 .f32 := Host.absf main_v38
  let main_cst_12 : FVec F S_ .f32 := constant S_ .f32 0x7F800000#32
  let main_v40 : FVec F S1024x1024 .f32 := broadcastInDim S1024x1024 ![] bcast_S_S1024x1024 main_cst_12
  let main_v41 : IVec S1024x1024 1 := cmpf .olt main_v39 main_v40
  let main_c_13 : IVec S_ 1 := constantI S_ 1 1#1
  let main_v42 : IVec S_ 1 := (fun x v => Host.reduce IntOp.andi x v reducesTo_S1024x1024_S_d0_1 h_S_) main_v41 main_c_13
  let main_v43 : IVec S_ 1 := andi main_v37 main_v42
  let main_v44 : FVec F S1x3072 .f32 := Host.absf main_arg8
  let main_cst_14 : FVec F S_ .f32 := constant S_ .f32 0x7F800000#32
  let main_v45 : FVec F S1x3072 .f32 := broadcastInDim S1x3072 ![] bcast_S_S1x3072 main_cst_14
  let main_v46 : IVec S1x3072 1 := cmpf .olt main_v44 main_v45
  let main_c_15 : IVec S_ 1 := constantI S_ 1 1#1
  let main_v47 : IVec S_ 1 := (fun x v => Host.reduce IntOp.andi x v reducesTo_S1x3072_S_d0_1 h_S_) main_v46 main_c_15
  let main_v48 : IVec S_ 1 := andi main_v43 main_v47
  let main_v49 : FVec F S1x1024 .f32 := Host.absf main_arg9
  let main_cst_16 : FVec F S_ .f32 := constant S_ .f32 0x7F800000#32
  let main_v50 : FVec F S1x1024 .f32 := broadcastInDim S1x1024 ![] bcast_S_S1x1024 main_cst_16
  let main_v51 : IVec S1x1024 1 := cmpf .olt main_v49 main_v50
  let main_c_17 : IVec S_ 1 := constantI S_ 1 1#1
  fn_part3 (F := F) main_v48 main_v51 main_c_17

def fn_part1 {F : FTy → Type} [FloatOps F] (main_arg4 : FVec F S4096x6656 .f32) (main_arg5 : FVec F S1024x1024 .bf16) (main_arg6 : FVec F S1024x1024 .bf16) (main_arg7 : FVec F S1024x1024 .bf16) (main_arg8 : FVec F S1x3072 .f32) (main_arg9 : FVec F S1x1024 .f32) (main_v14 : IVec S_ 1) (main_v16 : FVec F S4096x1024 .f32) (main_cst_4 : FVec F S_ .f32) : IVec S_ 1 :=
  let main_v17 : FVec F S4096x1024 .f32 := broadcastInDim S4096x1024 ![] bcast_S_S4096x1024 main_cst_4
  let main_v18 : IVec S4096x1024 1 := cmpf .olt main_v16 main_v17
  let main_c_5 : IVec S_ 1 := constantI S_ 1 1#1
  let main_v19 : IVec S_ 1 := (fun x v => Host.reduce IntOp.andi x v reducesTo_S4096x1024_S_d0_1 h_S_) main_v18 main_c_5
  let main_v20 : IVec S_ 1 := andi main_v14 main_v19
  let main_v21 : FVec F S4096x6656 .f32 := Host.absf main_arg4
  let main_cst_6 : FVec F S_ .f32 := constant S_ .f32 0x7F800000#32
  let main_v22 : FVec F S4096x6656 .f32 := broadcastInDim S4096x6656 ![] bcast_S_S4096x6656 main_cst_6
  let main_v23 : IVec S4096x6656 1 := cmpf .olt main_v21 main_v22
  let main_c_7 : IVec S_ 1 := constantI S_ 1 1#1
  let main_v24 : IVec S_ 1 := (fun x v => Host.reduce IntOp.andi x v reducesTo_S4096x6656_S_d0_1 h_S_) main_v23 main_c_7
  let main_v25 : IVec S_ 1 := andi main_v20 main_v24
  let main_v26 : FVec F S1024x1024 .f32 := (extf .f32 · bitsLt_bf16_f32) main_arg5
  let main_v27 : FVec F S1024x1024 .f32 := Host.absf main_v26
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  let main_c_9 : IVec S_ 1 := constantI S_ 1 1#1
  let main_v30 : IVec S_ 1 := (fun x v => Host.reduce IntOp.andi x v reducesTo_S1024x1024_S_d0_1 h_S_) main_v29 main_c_9
  let main_v31 : IVec S_ 1 := andi main_v25 main_v30
  let main_v32 : FVec F S1024x1024 .f32 := (extf .f32 · bitsLt_bf16_f32) main_arg6
  let main_v33 : FVec F S1024x1024 .f32 := Host.absf main_v32
  let main_cst_10 : FVec F S_ .f32 := constant S_ .f32 0x7F800000#32
  let main_v34 : FVec F S1024x1024 .f32 := broadcastInDim S1024x1024 ![] bcast_S_S1024x1024 main_cst_10
  fn_part2 (F := F) main_arg7 main_arg8 main_arg9 main_v31 main_v33 main_v34

def fn {F : FTy → Type} [FloatOps F] (main_arg0 : FVec F S4096x1024 .f32) (main_arg1 : FVec F S4096x1024 .f32) (main_arg2 : FVec F S4096x1024 .bf16) (main_arg3 : FVec F S4096x1024 .bf16) (main_arg4 : FVec F S4096x6656 .f32) (main_arg5 : FVec F S1024x1024 .bf16) (main_arg6 : FVec F S1024x1024 .bf16) (main_arg7 : FVec F S1024x1024 .bf16) (main_arg8 : FVec F S1x3072 .f32) (main_arg9 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := (extf .f32 · bitsLt_bf16_f32) main_arg2
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  let main_v15 : FVec F S4096x1024 .f32 := (extf .f32 · bitsLt_bf16_f32) main_arg3
  let main_v16 : FVec F S4096x1024 .f32 := Host.absf main_v15
  let main_cst_4 : FVec F S_ .f32 := constant S_ .f32 0x7F800000#32
  fn_part1 (F := F) main_arg4 main_arg5 main_arg6 main_arg7 main_arg8 main_arg9 main_v14 main_v16 main_cst_4
-- ==== Kernel.lean ====
abbrev S4096x1024 : Shape := ⟨2, ![4096, 1024]⟩
abbrev S4096x512 : Shape := ⟨2, ![4096, 512]⟩
abbrev S4096x2048 : Shape := ⟨2, ![4096, 2048]⟩
abbrev S1024x6656 : Shape := ⟨2, ![1024, 6656]⟩
abbrev S1x3072 : Shape := ⟨2, ![1, 3072]⟩
abbrev S1x1024 : Shape := ⟨2, ![1, 1024]⟩
abbrev S512x1024 : Shape := ⟨2, ![512, 1024]⟩
abbrev S512x512 : Shape := ⟨2, ![512, 512]⟩
abbrev S512x2048 : Shape := ⟨2, ![512, 2048]⟩
abbrev S1024x1024 : Shape := ⟨2, ![1024, 1024]⟩
abbrev S1024x512 : Shape := ⟨2, ![1024, 512]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .bf16⟩
  | .hbm, ⟨3, _⟩ => ⟨S4096x2048, .bf16⟩
  | .hbm, ⟨4, _⟩ => ⟨S4096x2048, .bf16⟩
  | .hbm, ⟨5, _⟩ => ⟨S1024x6656, .bf16⟩
  | .hbm, ⟨6, _⟩ => ⟨S4096x1024, .f32⟩
  | .hbm, ⟨7, _⟩ => ⟨S4096x1024, .f32⟩
  | .hbm, ⟨8, _⟩ => ⟨S1x3072, .f32⟩
  | .hbm, ⟨9, _⟩ => ⟨S1x1024, .f32⟩
  | .hbm, ⟨10, _⟩ => ⟨S4096x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1024x6656, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x3072, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x6656 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S4096x1024 : Shape := ⟨2, ![4096, 1024]⟩
abbrev S4096x512 : Shape := ⟨2, ![4096, 512]⟩
abbrev S4096x2048 : Shape := ⟨2, ![4096, 2048]⟩
abbrev S1024x6656 : Shape := ⟨2, ![1024, 6656]⟩
abbrev S1x3072 : Shape := ⟨2, ![1, 3072]⟩
abbrev S1x1024 : Shape := ⟨2, ![1, 1024]⟩
abbrev S4096x6656 : Shape := ⟨2, ![4096, 6656]⟩
abbrev S1x4096x6656 : Shape := ⟨3, ![1, 4096, 6656]⟩
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096 : Shape := ⟨1, ![4096]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .bf16⟩
  | .hbm, ⟨3, _⟩ => ⟨S4096x2048, .bf16⟩
  | .hbm, ⟨4, _⟩ => ⟨S4096x2048, .bf16⟩
  | .hbm, ⟨5, _⟩ => ⟨S1024x6656, .bf16⟩
  | .hbm, ⟨6, _⟩ => ⟨S4096x1024, .f32⟩
  | .hbm, ⟨7, _⟩ => ⟨S4096x1024, .f32⟩
  | .hbm, ⟨8, _⟩ => ⟨S1x3072, .f32⟩
  | .hbm, ⟨9, _⟩ => ⟨S1x1024, .f32⟩
  | .hbm, ⟨10, _⟩ => ⟨S4096x6656, .bf16⟩
  | .hbm, ⟨11, _⟩ => ⟨S4096x6656, .f32⟩
  | .hbm, ⟨12, _⟩ => ⟨S1x4096x6656, .f32⟩
  | .hbm, ⟨13, _⟩ => ⟨S1024x6656, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x4096x1024, .f32⟩
  | .hbm, ⟨18, _⟩ => ⟨S1024, .f32⟩
  | .hbm, ⟨19, _⟩ => ⟨S1x4096x1024, .f32⟩
  | .hbm, ⟨20, _⟩ => ⟨S_, .f32⟩
  | .hbm, ⟨21, _⟩ => ⟨S1x4096, .f32⟩
  | .hbm, ⟨22, _⟩ => ⟨S1x4096x1, .f32⟩
  | .hbm, ⟨23, _⟩ => ⟨S_, .f32⟩
  | .hbm, ⟨24, _⟩ => ⟨S1x4096x1, .f32⟩
  | .hbm, ⟨25, _⟩ => ⟨S1x4096x1, .f32⟩
  | .hbm, ⟨26, _⟩ => ⟨S_, .f32⟩
  | .hbm, ⟨27, _⟩ => ⟨S1x4096x1, .f32⟩
  | .hbm, ⟨28, _⟩ => ⟨S1x4096x1, .f32⟩
  | .hbm, ⟨29, _⟩ => ⟨S1x4096x1, .f32⟩
  | .hbm, ⟨30, _⟩ => ⟨S1x4096x1, .f32⟩
  | .hbm, ⟨31, _⟩ => ⟨S_, .f32⟩
  | .hbm, ⟨32, _⟩ => ⟨S1x4096x1, .f32⟩
  | .hbm, ⟨33, _⟩ => ⟨S1x4096x1, .f32⟩
  | .hbm, ⟨34, _⟩ => ⟨S1x4096x1024, .f32⟩
  | .hbm, ⟨35, _⟩ => ⟨S1x4096x1024, .f32⟩
  | .hbm, ⟨36, _⟩ => ⟨S1x1x1024, .f32⟩
  | .hbm, ⟨37, _⟩ => ⟨S1x4096x1024, .f32⟩
  | .hbm, ⟨38, _⟩ => ⟨S1x4096x1024, .f32⟩
  | .hbm, ⟨39, _⟩ => ⟨S1x1x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S1x4096x1024, .f32⟩
  | .hbm, ⟨44, _⟩ => ⟨S1x4096x1024, .f32⟩
  | .hbm, ⟨45, _⟩ => ⟨S1x1x1024, .f32⟩
  | .hbm, ⟨46, _⟩ => ⟨S1x4096x1024, .f32⟩
  | .hbm, ⟨47, _⟩ => ⟨S1x4096x1024, .f32⟩
  | .hbm, ⟨48, _⟩ => ⟨S1x4096x6656, .f32⟩
  | .hbm, ⟨49, _⟩ => ⟨S1x4096x1024, .f32⟩
  | .hbm, ⟨50, _⟩ => ⟨S1x4096x1024, .f32⟩
  | .hbm, ⟨51, _⟩ => ⟨S_, .f32⟩
  | .hbm, ⟨52, _⟩ => ⟨S1x1024, .f32⟩
  | .hbm, ⟨53, _⟩ => ⟨S1x1x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S1x4096x1024, .f32⟩
  | .hbm, ⟨58, _⟩ => ⟨S_, .f32⟩
  | .hbm, ⟨59, _⟩ => ⟨S1x1024, .f32⟩
  | .hbm, ⟨60, _⟩ => ⟨S1x1x1024, .f32⟩
  | .hbm, ⟨61, _⟩ => ⟨S1x4096x1024, .f32⟩
  | .hbm, ⟨62, _⟩ => ⟨S1x4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S1x4096x1024, .f32⟩
  | .hbm, ⟨67, _⟩ => ⟨S_, .f32⟩
  | .hbm, ⟨68, _⟩ => ⟨S1x1024, .f32⟩
  | .hbm, ⟨69, _⟩ => ⟨S1x1x1024, .f32⟩
  | .hbm, ⟨70, _⟩ => ⟨S1x4096x1024, .f32⟩
  | .hbm, ⟨71, _⟩ => ⟨S1x4096x1024, .f32⟩
  | .hbm, ⟨72, _⟩ => ⟨S_, .f32⟩
  | .hbm, ⟨73, _⟩ => ⟨S1024, .f32⟩
  | .hbm, ⟨74, _⟩ => ⟨S1x4096x1024, .f32⟩
  | .hbm, ⟨75, _⟩ => ⟨S_, .f32⟩
  | .hbm, ⟨76, _⟩ => ⟨S1x4096, .f32⟩
  | .hbm, ⟨77, _⟩ => ⟨S1x4096x1, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S1x4096x1, .f32⟩
  | .hbm, ⟨82, _⟩ => ⟨S_, .f32⟩
  | .hbm, ⟨83, _⟩ => ⟨S1x4096x1, .f32⟩
  | .hbm, ⟨84, _⟩ => ⟨S1x4096x1, .f32⟩
  | .hbm, ⟨85, _⟩ => ⟨S_, .f32⟩
  | .hbm, ⟨86, _⟩ => ⟨S4096, .f32⟩
  | .hbm, ⟨87, _⟩ => ⟨S1x4096, .f32⟩
  | .hbm, ⟨88, _⟩ => ⟨S1x4096x1024, .f32⟩
  | .hbm, ⟨89, _⟩ => ⟨S1x4096x1024, .f32⟩
  | .hbm, ⟨90, _⟩ => ⟨S1x4096x1024, .f32⟩
  | .hbm, ⟨91, _⟩ => ⟨S1x4096x1024, .f32⟩
  | .hbm, ⟨92, _⟩ => ⟨S1x4096x1024, .f32⟩
  | .hbm, ⟨93, _⟩ => ⟨S4096x1024, .f32⟩
  | .hbm, ⟨94, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Kernel2.lean ====
abbrev S4096x1024 : Shape := ⟨2, ![4096, 1024]⟩
abbrev S4096x6656 : Shape := ⟨2, ![4096, 6656]⟩
abbrev S1024x1024 : Shape := ⟨2, ![1024, 1024]⟩
abbrev S1x3072 : Shape := ⟨2, ![1, 3072]⟩
abbrev S1x1024 : Shape := ⟨2, ![1, 1024]⟩
abbrev S4096x2048 : Shape := ⟨2, ![4096, 2048]⟩
abbrev S1x128 : Shape := ⟨2, ![1, 128]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 21
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4096x6656, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x3072, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .f32⟩
  | .hbm, ⟨16, _⟩ => ⟨S4096x1024, .f32⟩
  | .hbm, ⟨17, _⟩ => ⟨S4096x2048, .bf16⟩
  | .hbm, ⟨18, _⟩ => ⟨S1x1024, .f32⟩
  | .hbm, ⟨19, _⟩ => ⟨S1x1024, .f32⟩
  | .hbm, ⟨20, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x3072, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x2048, .bf16⟩
  | .local _ .vmem, ⟨36, _⟩ => ⟨S256x2048, .bf16⟩
  | .local _ .vmem, ⟨37, _⟩ => ⟨S1x1024, .f32⟩
  | .local _ .vmem, ⟨38, _⟩ => ⟨S1x1024, .f32⟩
  | .local _ .vmem, ⟨39, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem22_0 : DmaSem sig := 38
abbrev cc0_sem23_0 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference2Ideal.lean ====
abbrev S4096x1024 : Shape := ⟨2, ![4096, 1024]⟩
abbrev S4096x6656 : Shape := ⟨2, ![4096, 6656]⟩
abbrev S1024x1024 : Shape := ⟨2, ![1024, 1024]⟩
abbrev S1x3072 : Shape := ⟨2, ![1, 3072]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S4096x2048 : Shape := ⟨2, ![4096, 2048]⟩
abbrev S1x128 : Shape := ⟨2, ![1, 128]⟩

abbrev nBuf : Space → Nat
  | .hbm => 145
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .bf16⟩
  | 3 => ⟨S4096x1024, .bf16⟩
  | 4 => ⟨S4096x6656, .f32⟩
  | 5 => ⟨S1024x1024, .bf16⟩
  | 6 => ⟨S1024x1024, .bf16⟩
  | 7 => ⟨S1024x1024, .bf16⟩
  | 8 => ⟨S1x3072, .f32⟩
  | 9 => ⟨S1x1024, .f32⟩
  | 10 => ⟨S4096x1024, .f32⟩
  | 11 => ⟨S4096x1024, .f32⟩
  | 12 => ⟨S1024x1024, .f32⟩
  | 13 => ⟨S1024x1024, .f32⟩
  | 14 => ⟨S1024x1024, .f32⟩
  | 15 => ⟨S4096x1024, .f32⟩
  | 16 => ⟨S4096x1024, .f32⟩
  | 17 => ⟨S1x1024, .f32⟩
  | 18 => ⟨S4096x1024, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x1024, .f32⟩
  | 68 => ⟨S4096x1024, .f32⟩
  | 69 => ⟨S1x1024, .f32⟩
  | 70 => ⟨S4096x1024, .f32⟩
  | 71 => ⟨S4096x1024, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S_, .f32⟩
  | 78 => ⟨S4096, .f32⟩
  | 79 => ⟨S_, .f32⟩
  | 80 => ⟨S4096, .f32⟩
  | 81 => ⟨S4096, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S4096, .f32⟩
  | 90 => ⟨S_, .f32⟩
  | 91 => ⟨S4096, .f32⟩
  | 92 => ⟨S4096, .f32⟩
  | 93 => ⟨S4096x1024, .f32⟩
  | 94 => ⟨S4096x1024, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S4096x1024, .f32⟩
  | 101 => ⟨S_, .f32⟩
  | 102 => ⟨S1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1024, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S_, .f32⟩
  | 124 => ⟨S1024, .f32⟩
  | 125 => ⟨S1x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .bf16⟩
  | 10 => ⟨S4096x1024, .bf16⟩
  | 11 => ⟨S4096x1024, .bf16⟩
  | 12 => ⟨S4096x1024, .bf16⟩
  | 13 => ⟨S4096x2048, .f32⟩
  | 14 => ⟨S4096x2048, .bf16⟩
  | 15 => ⟨S1x1024, .f32⟩
  | 16 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_cst_14 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_cst_16 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_cst_19 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_20 : Ref sig .tc := ⟨.hbm, 110, rfl⟩
abbrev main_v79 : Ref sig .tc := ⟨.hbm, 111, rfl⟩
abbrev main_v80 : Ref sig .tc := ⟨.hbm, 112, rfl⟩
abbrev main_cst_21 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩

abbrev nD : Nat := 1
abbrev τ : Topo := Topo.v7x

variable {F : FTy → Type} [FloatOps F]
-- ==== Kernel3.lean ====
abbrev S1024x4096 : Shape := ⟨2, ![1024, 4096]⟩
abbrev S4096x1024 : Shape := ⟨2, ![4096, 1024]⟩
abbrev S4096x512 : Shape := ⟨2, ![4096, 512]⟩
abbrev S4096x2048 : Shape := ⟨2, ![4096, 2048]⟩
abbrev S1024x6656 : Shape := ⟨2, ![1024, 6656]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S4096x512, .bf16⟩
  | .hbm, ⟨3, _⟩ => ⟨S4096x1024, .bf16⟩
  | .hbm, ⟨4, _⟩ => ⟨S4096x2048, .bf16⟩
  | .hbm, ⟨5, _⟩ => ⟨S4096x2048, .bf16⟩
  | .hbm, ⟨6, _⟩ => ⟨S1024x6656, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S4096x512, .bf16⟩
  | .local _ .vmem, ⟨9, _⟩ => ⟨S4096x512, .bf16⟩
  | .local _ .vmem, ⟨10, _⟩ => ⟨S4096x512, .bf16⟩
  | .local _ .vmem, ⟨11, _⟩ => ⟨S1024x512, .f32⟩
  | .local _ .vmem, ⟨12, _⟩ => ⟨S1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c3_i32 : BitVec 32 := 3#32
  let v6 : BitVec 1 := Scalar.cmpi .slt arg0 c3_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c3_i32_3 : BitVec 32 := 3#32
  let v10 : BitVec 1 := Scalar.cmpi .sge arg0 c3_i32_3
  let c5_i32 : BitVec 32 := 5#32
  let v11 : BitVec 1 := Scalar.cmpi .slt arg0 c5_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c5_i32_5 : BitVec 32 := 5#32
  let v15 : BitVec 1 := Scalar.cmpi .sge arg0 c5_i32_5
  let c9_i32 : BitVec 32 := 9#32
  let v16 : BitVec 1 := Scalar.cmpi .slt arg0 c9_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond5 (i : grid0.Coords) : BitVec 1 :=
  let arg0 : BitVec 32 := BitVec.ofNat 32 (i 0).val
  let c9_i32_7 : BitVec 32 := 9#32
  let v20 : BitVec 1 := Scalar.cmpi .sge arg0 c9_i32_7
  let c13_i32 : BitVec 32 := 13#32
  let v21 : BitVec 1 := Scalar.cmpi .slt arg0 c13_i32
  let v22 : BitVec 1 := Scalar.andi v20 v21
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S1024x4096 : Shape := ⟨2, ![1024, 4096]⟩
abbrev S4096x1024 : Shape := ⟨2, ![4096, 1024]⟩
abbrev S4096x512 : Shape := ⟨2, ![4096, 512]⟩
abbrev S4096x2048 : Shape := ⟨2, ![4096, 2048]⟩
abbrev S4096x6656 : Shape := ⟨2, ![4096, 6656]⟩
abbrev S_ : Shape := ⟨0, ![]⟩
abbrev S1024x6656 : Shape := ⟨2, ![1024, 6656]⟩
abbrev S6656x1024 : Shape := ⟨2, ![6656, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S4096x512, .bf16⟩
  | .hbm, ⟨3, _⟩ => ⟨S4096x1024, .bf16⟩
  | .hbm, ⟨4, _⟩ => ⟨S4096x2048, .bf16⟩
  | .hbm, ⟨5, _⟩ => ⟨S4096x2048, .bf16⟩
  | .hbm, ⟨6, _⟩ => ⟨S4096x1024, .bf16⟩
  | .hbm, ⟨7, _⟩ => ⟨S4096x1024, .f32⟩
  | .hbm, ⟨8, _⟩ => ⟨S4096x6656, .bf16⟩
  | .hbm, ⟨9, _⟩ => ⟨S4096x6656, .f32⟩
  | .hbm, ⟨10, _⟩ => ⟨S_, .f32⟩
  | .hbm, ⟨11, _⟩ => ⟨S1024x6656, .f32⟩
  | .hbm, ⟨12, _⟩ => ⟨S4096x6656, .f32⟩
  | .hbm, ⟨13, _⟩ => ⟨S6656x1024, .f32⟩
  | .hbm, ⟨14, _⟩ => ⟨S1024x6656, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S1024x128 : Shape := ⟨2, ![1024, 128]⟩
abbrev S128x768 : Shape := ⟨2, ![128, 768]⟩
abbrev S1024x768 : Shape := ⟨2, ![1024, 768]⟩
abbrev S256x128 : Shape := ⟨2, ![256, 128]⟩
abbrev S256x768 : Shape := ⟨2, ![256, 768]⟩

abbrev nBuf : Space → Nat
  | .hbm => 9
  | .vmem => 17
  | .smem => 0
  | _ => 0

abbrev bufTy : (tb : Table) → Fin (tcTables nBuf tb) → BufTy
  | .hbm, ⟨0, _⟩ => ⟨S1024x128, .f32⟩
  | .hbm, ⟨1, _⟩ => ⟨S128x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S256x128, .f32⟩
  | .local _ .vmem, ⟨1, _⟩ => ⟨S256x128, .f32⟩
  | .local _ .vmem, ⟨2, _⟩ => ⟨S128x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S1024x128 : Shape := ⟨2, ![1024, 128]⟩
abbrev S128x768 : Shape := ⟨2, ![128, 768]⟩
abbrev S1024x768 : Shape := ⟨2, ![1024, 768]⟩
abbrev S128x1024 : Shape := ⟨2, ![128, 1024]⟩
abbrev S768x1024 : Shape := ⟨2, ![768, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S128x1024, .f32⟩
  | .hbm, ⟨6, _⟩ => ⟨S128x1024, .bf16⟩
  | .hbm, ⟨7, _⟩ => ⟨S128x1024, .f32⟩
  | .hbm, ⟨8, _⟩ => ⟨S128x768, .bf16⟩
  | .hbm, ⟨9, _⟩ => ⟨S128x768, .f32⟩
  | .hbm, ⟨10, _⟩ => ⟨S128x768, .f32⟩
  | .hbm, ⟨11, _⟩ => ⟨S768x1024, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S_, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S_, .f32⟩
  | .hbm, ⟨32, _⟩ => ⟨S1024x768, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel6.lean ====
abbrev S1024x1664 : Shape := ⟨2, ![1024, 1664]⟩
abbrev S256x1664 : Shape := ⟨2, ![256, 1664]⟩

abbrev nBuf : Space → Nat
  | .hbm => 8
  | .vmem => 16
  | .smem => 0
  | _ => 0

abbrev bufTy : (tb : Table) → Fin (tcTables nBuf tb) → BufTy
  | .hbm, ⟨0, _⟩ => ⟨S1024x1664, .f32⟩
  | .hbm, ⟨1, _⟩ => ⟨S1024x1664, .f32⟩
  | .hbm, ⟨2, _⟩ => ⟨S1024x1664, .f32⟩
  | .hbm, ⟨3, _⟩ => ⟨S1024x1664, .f32⟩
  | .hbm, ⟨4, _⟩ => ⟨S1024x1664, .f32⟩
  | .hbm, ⟨5, _⟩ => ⟨S1024x1664, .f32⟩
  | .hbm, ⟨6, _⟩ => ⟨S1024x1664, .f32⟩
  | .hbm, ⟨7, _⟩ => ⟨S1024x1664, .f32⟩
  | .local _ .vmem, ⟨0, _⟩ => ⟨S256x1664, .f32⟩
  | .local _ .vmem, ⟨1, _⟩ => ⟨S256x1664, .f32⟩
  | .local _ .vmem, ⟨2, _⟩ => ⟨S256x1664, .f32⟩
  | .local _ .vmem, ⟨3, _⟩ => ⟨S256x1664, .f32⟩
  | .local _ .vmem, ⟨4, _⟩ => ⟨S256x1664, .f32⟩
  | .local _ .vmem, ⟨5, _⟩ => ⟨S256x1664, .f32⟩
  | .local _ .vmem, ⟨6, _⟩ => ⟨S256x1664, .f32⟩
  | .local _ .vmem, ⟨7, _⟩ => ⟨S256x1664, .f32⟩
  | .local _ .vmem, ⟨8, _⟩ => ⟨S256x1664, .f32⟩
  | .local _ .vmem, ⟨9, _⟩ => ⟨S256x1664, .f32⟩
  | .local _ .vmem, ⟨10, _⟩ => ⟨S256x1664, .f32⟩
  | .local _ .vmem, ⟨11, _⟩ => ⟨S256x1664, .f32⟩
  | .local _ .vmem, ⟨12, _⟩ => ⟨S256x1664, .f32⟩
  | .local _ .vmem, ⟨13, _⟩ => ⟨S256x1664, .f32⟩
  | .local _ .vmem, ⟨14, _⟩ => ⟨S256x1664, .f32⟩
  | .local _ .vmem, ⟨15, _⟩ => ⟨S256x1664, .f32⟩
  | _, _ => ⟨S1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1024x1664 : Shape := ⟨2, ![1024, 1664]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1664, .f32⟩
  | .hbm, ⟨1, _⟩ => ⟨S1024x1664, .f32⟩
  | .hbm, ⟨2, _⟩ => ⟨S1024x1664, .f32⟩
  | .hbm, ⟨3, _⟩ => ⟨S1024x1664, .f32⟩
  | .hbm, ⟨4, _⟩ => ⟨S_, .f32⟩
  | .hbm, ⟨5, _⟩ => ⟨S1024x1664, .f32⟩
  | .hbm, ⟨6, _⟩ => ⟨S1024x1664, .f32⟩
  | .hbm, ⟨7, _⟩ => ⟨S_, .f32⟩
  | .hbm, ⟨8, _⟩ => ⟨S1024x1664, .f32⟩
  | .hbm, ⟨9, _⟩ => ⟨S1024x1664, .f32⟩
  | .hbm, ⟨10, _⟩ => ⟨S1024x1664, .f32⟩
  | .hbm, ⟨11, _⟩ => ⟨S_, .f32⟩
  | .hbm, ⟨12, _⟩ => ⟨S1024x1664, .f32⟩
  | .hbm, ⟨13, _⟩ => ⟨S1024x1664, .f32⟩
  | .hbm, ⟨14, _⟩ => ⟨S1024x1664, .f32⟩
  | .hbm, ⟨15, _⟩ => ⟨S_, .f32⟩
  | .hbm, ⟨16, _⟩ => ⟨S1024x1664, .f32⟩
  | .hbm, ⟨17, _⟩ => ⟨S1024x1664, .f32⟩
  | .hbm, ⟨18, _⟩ => ⟨S1024x1664, .f32⟩
  | .hbm, ⟨19, _⟩ => ⟨S_, .f32⟩
  | .hbm, ⟨20, _⟩ => ⟨S1024x1664, .f32⟩
  | .hbm, ⟨21, _⟩ => ⟨S1024x1664, .f32⟩
  | .hbm, ⟨22, _⟩ => ⟨S_, .f32⟩
  | .hbm, ⟨23, _⟩ => ⟨S1024x1664, .f32⟩
  | .hbm, ⟨24, _⟩ => ⟨S1024x1664, .f32⟩
  | .hbm, ⟨25, _⟩ => ⟨S1024x1664, .f32⟩
  | .hbm, ⟨26, _⟩ => ⟨S_, .f32⟩
  | .hbm, ⟨27, _⟩ => ⟨S1024x1664, .f32⟩
  | .hbm, ⟨28, _⟩ => ⟨S1024x1664, .f32⟩
  | .hbm, ⟨29, _⟩ => ⟨S1024x1664, .f32⟩
  | .hbm, ⟨30, _⟩ => ⟨S_, .f32⟩
  | .hbm, ⟨31, _⟩ => ⟨S1024x1664, .f32⟩
  | .hbm, ⟨32, _⟩ => ⟨S1024x1664, .f32⟩
  | .hbm, ⟨33, _⟩ => ⟨S1024x1664, .f32⟩
  | .hbm, ⟨34, _⟩ => ⟨S_, .f32⟩
  | .hbm, ⟨35, _⟩ => ⟨S1024x1664, .f32⟩
  | .hbm, ⟨36, _⟩ => ⟨S1024x1664, .f32⟩
  | _, _ => ⟨S1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S256x1024 : Shape := ⟨2, ![256, 1024]⟩
abbrev S64x1024 : Shape := ⟨2, ![64, 1024]⟩

abbrev nBuf : Space → Nat
  | .hbm => 24
  | .vmem => 48
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference7Ideal.lean ====
abbrev S256x1024 : Shape := ⟨2, ![256, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S_, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S_, .f32⟩
  | .hbm, ⟨76, _⟩ => ⟨S256x1024, .f32⟩
  | .hbm, ⟨77, _⟩ => ⟨S256x1024, .f32⟩
  | .hbm, ⟨78, _⟩ => ⟨S_, .f32⟩
  | .hbm, ⟨79, _⟩ => ⟨S256x1024, .f32⟩
  | .hbm, ⟨80, _⟩ => ⟨S256x1024, .f32⟩
  | .hbm, ⟨81, _⟩ => ⟨S_, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S256x1024, .f32⟩
  | .hbm, ⟨89, _⟩ => ⟨S_, .f32⟩
  | .hbm, ⟨90, _⟩ => ⟨S256x1024, .f32⟩
  | .hbm, ⟨91, _⟩ => ⟨S256x1024, .f32⟩
  | .hbm, ⟨92, _⟩ => ⟨S256x1024, .f32⟩
  | .hbm, ⟨93, _⟩ => ⟨S_, .f32⟩
  | .hbm, ⟨94, _⟩ => ⟨S256x1024, .f32⟩
  | .hbm, ⟨95, _⟩ => ⟨S256x1024, .f32⟩
  | .hbm, ⟨96, _⟩ => ⟨S_, .f32⟩
  | .hbm, ⟨97, _⟩ => ⟨S256x1024, .f32⟩
  | .hbm, ⟨98, _⟩ => ⟨S256x1024, .f32⟩
  | .hbm, ⟨99, _⟩ => ⟨S256x1024, .f32⟩
  | .hbm, ⟨100, _⟩ => ⟨S_, .f32⟩
  | .hbm, ⟨101, _⟩ => ⟨S256x1024, .f32⟩
  | .hbm, ⟨102, _⟩ => ⟨S256x1024, .f32⟩
  | .hbm, ⟨103, _⟩ => ⟨S256x1024, .f32⟩
  | .hbm, ⟨104, _⟩ => ⟨S_, .f32⟩
  | .hbm, ⟨105, _⟩ => ⟨S256x1024, .f32⟩
  | .hbm, ⟨106, _⟩ => ⟨S256x1024, .f32⟩
  | .hbm, ⟨107, _⟩ => ⟨S256x1024, .f32⟩
  | .hbm, ⟨108, _⟩ => ⟨S_, .f32⟩
  | .hbm, ⟨109, _⟩ => ⟨S256x1024, .f32⟩
  | .hbm, ⟨110, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel8.lean ====
abbrev S256x256 : Shape := ⟨2, ![256, 256]⟩
abbrev S64x256 : Shape := ⟨2, ![64, 256]⟩

abbrev nBuf : Space → Nat
  | .hbm => 16
  | .vmem => 32
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | .local _ .vmem, ⟨18, _⟩ => ⟨S64x256, .f32⟩
  | .local _ .vmem, ⟨19, _⟩ => ⟨S64x256, .f32⟩
  | .local _ .vmem, ⟨20, _⟩ => ⟨S64x256, .f32⟩
  | .local _ .vmem, ⟨21, _⟩ => ⟨S64x256, .f32⟩
  | .local _ .vmem, ⟨22, _⟩ => ⟨S64x256, .f32⟩
  | .local _ .vmem, ⟨23, _⟩ => ⟨S64x256, .f32⟩
  | .local _ .vmem, ⟨24, _⟩ => ⟨S64x256, .f32⟩
  | .local _ .vmem, ⟨25, _⟩ => ⟨S64x256, .f32⟩
  | .local _ .vmem, ⟨26, _⟩ => ⟨S64x256, .f32⟩
  | .local _ .vmem, ⟨27, _⟩ => ⟨S64x256, .f32⟩
  | .local _ .vmem, ⟨28, _⟩ => ⟨S64x256, .f32⟩
  | .local _ .vmem, ⟨29, _⟩ => ⟨S64x256, .f32⟩
  | .local _ .vmem, ⟨30, _⟩ => ⟨S64x256, .f32⟩
  | .local _ .vmem, ⟨31, _⟩ => ⟨S64x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference8Ideal.lean ====
abbrev S256x256 : Shape := ⟨2, ![256, 256]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S_, .f32⟩
  | .hbm, ⟨42, _⟩ => ⟨S256x256, .f32⟩
  | .hbm, ⟨43, _⟩ => ⟨S256x256, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S_, .f32⟩
  | .hbm, ⟨53, _⟩ => ⟨S256x256, .f32⟩
  | .hbm, ⟨54, _⟩ => ⟨S256x256, .f32⟩
  | .hbm, ⟨55, _⟩ => ⟨S256x256, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S_, .f32⟩
  | .hbm, ⟨64, _⟩ => ⟨S256x256, .f32⟩
  | .hbm, ⟨65, _⟩ => ⟨S256x256, .f32⟩
  | .hbm, ⟨66, _⟩ => ⟨S256x256, .f32⟩
  | .hbm, ⟨67, _⟩ => ⟨S_, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel9.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S8x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference9Ideal.lean ====
abbrev S8x16x1024 : Shape := ⟨3, ![8, 16, 1024]⟩
abbrev S16x1024 : Shape := ⟨2, ![16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel10.lean ====
abbrev S4096x1024 : Shape := ⟨2, ![4096, 1024]⟩
abbrev S1024x6656 : Shape := ⟨2, ![1024, 6656]⟩
abbrev S1 : Shape := ⟨1, ![1]⟩
abbrev S4096x6656 : Shape := ⟨2, ![4096, 6656]⟩
abbrev S512x1024 : Shape := ⟨2, ![512, 1024]⟩
abbrev S1024x1664 : Shape := ⟨2, ![1024, 1664]⟩
abbrev S512x1664 : Shape := ⟨2, ![512, 1664]⟩

abbrev nBuf : Space → Nat
  | .hbm => 4
  | .vmem => 5
  | .smem => 1
  | _ => 0

abbrev bufTy : (tb : Table) → Fin (tcTables nBuf tb) → BufTy
  | .hbm, ⟨0, _⟩ => ⟨S4096x1024, .bf16⟩
  | .hbm, ⟨1, _⟩ => ⟨S1024x6656, .bf16⟩
  | .hbm, ⟨2, _⟩ => ⟨S4096x6656, .f32⟩
  | .hbm, ⟨3, _⟩ => ⟨S4096x6656, .f32⟩
  | .local _ .vmem, ⟨0, _⟩ => ⟨S512x1024, .bf16⟩
  | .local _ .vmem, ⟨1, _⟩ => ⟨S512x1024, .bf16⟩
  | .local _ .vmem, ⟨2, _⟩ => ⟨S1024x1664, .bf16⟩
  | .local _ .vmem, ⟨3, _⟩ => ⟨S512x1664, .f32⟩
  | .local _ .vmem, ⟨4, _⟩ => ⟨S512x1664, .f32⟩
  | .local _ .smem, ⟨0, _⟩ => ⟨S1, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  let c0_i32_0 : BitVec 32 := 0#32
  ![c0_i32.toNat, v1.toNat]

def cc0_transform_3 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  ![arg1.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x6656 : Shape := ⟨2, ![1024, 6656]⟩
abbrev S1 : Shape := ⟨1, ![1]⟩
abbrev S4096x6656 : Shape := ⟨2, ![4096, 6656]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6656, .bf16⟩
  | .hbm, ⟨2, _⟩ => ⟨S1, .i32⟩
  | .hbm, ⟨3, _⟩ => ⟨S4096x6656, .f32⟩
  | .hbm, ⟨4, _⟩ => ⟨S4096x1024, .f32⟩
  | .hbm, ⟨5, _⟩ => ⟨S1024x6656, .f32⟩
  | .hbm, ⟨6, _⟩ => ⟨S4096x6656, .f32⟩
  | .hbm, ⟨7, _⟩ => ⟨S4096x6656, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4096x6656, .i32⟩
  | .hbm, ⟨12, _⟩ => ⟨S4096x6656, .i1⟩
  | .hbm, ⟨13, _⟩ => ⟨S_, .i32⟩
  | .hbm, ⟨14, _⟩ => ⟨S_, .i32⟩
  | .hbm, ⟨15, _⟩ => ⟨S4096x6656, .i32⟩
  | .hbm, ⟨16, _⟩ => ⟨S4096x6656, .i1⟩
  | .hbm, ⟨17, _⟩ => ⟨S4096x6656, .i1⟩
  | .hbm, ⟨18, _⟩ => ⟨S4096x6656, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel11.lean ====
abbrev S4096x1024 : Shape := ⟨2, ![4096, 1024]⟩
abbrev S1024x6656 : Shape := ⟨2, ![1024, 6656]⟩
abbrev S1 : Shape := ⟨1, ![1]⟩
abbrev S4096x6656 : Shape := ⟨2, ![4096, 6656]⟩
abbrev S512x1024 : Shape := ⟨2, ![512, 1024]⟩
abbrev S1024x1664 : Shape := ⟨2, ![1024, 1664]⟩
abbrev S512x1664 : Shape := ⟨2, ![512, 1664]⟩

abbrev nBuf : Space → Nat
  | .hbm => 3
  | .vmem => 5
  | .smem => 1
  | _ => 0

abbrev bufTy : (tb : Table) → Fin (tcTables nBuf tb) → BufTy
  | .hbm, ⟨0, _⟩ => ⟨S4096x1024, .bf16⟩
  | .hbm, ⟨1, _⟩ => ⟨S1024x6656, .bf16⟩
  | .hbm, ⟨2, _⟩ => ⟨S4096x6656, .f32⟩
  | .local _ .vmem, ⟨0, _⟩ => ⟨S512x1024, .bf16⟩
  | .local _ .vmem, ⟨1, _⟩ => ⟨S512x1024, .bf16⟩
  | .local _ .vmem, ⟨2, _⟩ => ⟨S1024x1664, .bf16⟩
  | .local _ .vmem, ⟨3, _⟩ => ⟨S512x1664, .f32⟩
  | .local _ .vmem, ⟨4, _⟩ => ⟨S512x1664, .f32⟩
  | .local _ .smem, ⟨0, _⟩ => ⟨S1, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  let c0_i32_0 : BitVec 32 := 0#32
  ![c0_i32.toNat, v1.toNat]

def cc0_transform_2 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S1) ![v0.toNat] S1.size (k0_off1_inb i)) numel1_S1
  let c0_i32 : BitVec 32 := 0#32
  ![arg1.toNat, v1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x1024 : Shape := ⟨2, ![4096, 1024]⟩
abbrev S1024x6656 : Shape := ⟨2, ![1024, 6656]⟩
abbrev S1 : Shape := ⟨1, ![1]⟩
abbrev S4096x6656 : Shape := ⟨2, ![4096, 6656]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6656, .bf16⟩
  | .hbm, ⟨2, _⟩ => ⟨S1, .i32⟩
  | .hbm, ⟨3, _⟩ => ⟨S4096x1024, .f32⟩
  | .hbm, ⟨4, _⟩ => ⟨S1024x6656, .f32⟩
  | .hbm, ⟨5, _⟩ => ⟨S4096x6656, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x6656 : Shape := ⟨2, ![4096, 6656]⟩
abbrev S1x4096 : Shape := ⟨2, ![1, 4096]⟩
abbrev S1x16 : Shape := ⟨2, ![1, 16]⟩
abbrev S128 : Shape := ⟨1, ![128]⟩
abbrev S_ : Shape := ⟨0, ![]⟩
abbrev S8 : Shape := ⟨1, ![8]⟩
abbrev S1x8 : Shape := ⟨2, ![1, 8]⟩
abbrev S16x8 : Shape := ⟨2, ![16, 8]⟩
abbrev S1x128 : Shape := ⟨2, ![1, 128]⟩
abbrev S4096x1 : Shape := ⟨2, ![4096, 1]⟩
abbrev S4096x128 : Shape := ⟨2, ![4096, 128]⟩
abbrev S4096x1024 : Shape := ⟨2, ![4096, 1024]⟩
abbrev S4096x256 : Shape := ⟨2, ![4096, 256]⟩
abbrev S4096x2048 : Shape := ⟨2, ![4096, 2048]⟩
abbrev S128x1024 : Shape := ⟨2, ![128, 1024]⟩
abbrev S128x512 : Shape := ⟨2, ![128, 512]⟩
abbrev S128x128 : Shape := ⟨2, ![128, 128]⟩
abbrev S128x256 : Shape := ⟨2, ![128, 256]⟩
abbrev S128x2048 : Shape := ⟨2, ![128, 2048]⟩
abbrev S512x128 : Shape := ⟨2, ![512, 128]⟩
abbrev S256x128 : Shape := ⟨2, ![256, 128]⟩
abbrev S256x512 : Shape := ⟨2, ![256, 512]⟩
abbrev S256x256 : Shape := ⟨2, ![256, 256]⟩
abbrev S512x256 : Shape := ⟨2, ![512, 256]⟩
abbrev S512x1 : Shape := ⟨2, ![512, 1]⟩
abbrev S1x1 : Shape := ⟨2, ![1, 1]⟩
abbrev S512 : Shape := ⟨1, ![512]⟩

abbrev nBuf : Space → Nat
  | .hbm => 73
  | .vmem => 30
  | .smem => 1
  | _ => 0

abbrev bufTy : (tb : Table) → Fin (tcTables nBuf tb) → BufTy
  | .hbm, ⟨0, _⟩ => ⟨S4096x6656, .f32⟩
  | .hbm, ⟨1, _⟩ => ⟨S1x4096, .i32⟩
  | .hbm, ⟨2, _⟩ => ⟨S1x16, .f32⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i32⟩
  | .hbm, ⟨7, _⟩ => ⟨S_, .i32⟩
  | .hbm, ⟨8, _⟩ => ⟨S128, .i32⟩
  | .hbm, ⟨9, _⟩ => ⟨S128, .i1⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S1x8, .f32⟩
  | .hbm, ⟨25, _⟩ => ⟨S16x8, .f32⟩
  | .hbm, ⟨26, _⟩ => ⟨S128, .f32⟩
  | .hbm, ⟨27, _⟩ => ⟨S_, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S1x128, .f32⟩
  | .hbm, ⟨32, _⟩ => ⟨S4096x1, .i32⟩
  | .hbm, ⟨33, _⟩ => ⟨S4096x1, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S4096x128, .i32⟩
  | .hbm, ⟨40, _⟩ => ⟨S_, .i32⟩
  | .hbm, ⟨41, _⟩ => ⟨S4096x128, .i32⟩
  | .hbm, ⟨42, _⟩ => ⟨S4096x128, .i32⟩
  | .hbm, ⟨43, _⟩ => ⟨S_, .i32⟩
  | .hbm, ⟨44, _⟩ => ⟨S4096x128, .i32⟩
  | .hbm, ⟨45, _⟩ => ⟨S4096x128, .i1⟩
  | .hbm, ⟨46, _⟩ => ⟨S_, .f32⟩
  | .hbm, ⟨47, _⟩ => ⟨S_, .f32⟩
  | .hbm, ⟨48, _⟩ => ⟨S4096x128, .f32⟩
  | .hbm, ⟨49, _⟩ => ⟨S4096x128, .f32⟩
  | .hbm, ⟨50, _⟩ => ⟨S_, .i32⟩
  | .hbm, ⟨51, _⟩ => ⟨S4096x128, .i32⟩
  | .hbm, ⟨52, _⟩ => ⟨S4096x128, .i1⟩
  | .hbm, ⟨53, _⟩ => ⟨S4096x128, .f32⟩
  | .hbm, ⟨54, _⟩ => ⟨S_, .f32⟩
  | .hbm, ⟨55, _⟩ => ⟨S_, .f32⟩
  | .hbm, ⟨56, _⟩ => ⟨S4096x128, .f32⟩
  | .hbm, ⟨57, _⟩ => ⟨S4096x128, .f32⟩
  | .hbm, ⟨58, _⟩ => ⟨S_, .i32⟩
  | .hbm, ⟨59, _⟩ => ⟨S4096x128, .i32⟩
  | .hbm, ⟨60, _⟩ => ⟨S4096x128, .i1⟩
  | .hbm, ⟨61, _⟩ => ⟨S_, .i32⟩
  | .hbm, ⟨62, _⟩ => ⟨S4096x128, .i32⟩
  | .hbm, ⟨63, _⟩ => ⟨S4096x128, .i1⟩
  | .hbm, ⟨64, _⟩ => ⟨S4096x128, .i1⟩
  | .hbm, ⟨65, _⟩ => ⟨S_, .f32⟩
  | .hbm, ⟨66, _⟩ => ⟨S_, .f32⟩
  | .hbm, ⟨67, _⟩ => ⟨S4096x128, .f32⟩
  | .hbm, ⟨68, _⟩ => ⟨S4096x128, .f32⟩
  | .hbm, ⟨69, _⟩ => ⟨S4096x1024, .bf16⟩
  | .hbm, ⟨70, _⟩ => ⟨S4096x1024, .bf16⟩
  | .hbm, ⟨71, _⟩ => ⟨S4096x256, .bf16⟩
  | .hbm, ⟨72, _⟩ => ⟨S4096x2048, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x256, .bf16⟩
  | .local _ .vmem, ⟨27, _⟩ => ⟨S128x256, .bf16⟩
  | .local _ .vmem, ⟨28, _⟩ => ⟨S128x2048, .f32⟩
  | .local _ .vmem, ⟨29, _⟩ => ⟨S128x2048, .f32⟩
  | .local _ .smem, ⟨0, _⟩ => ⟨S1x16, .f32⟩
  | _, _ => ⟨S4096x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_call2_v0 : Ref sig .tc := ⟨.hbm, 55, rfl⟩
abbrev main_call2_v1 : Ref sig .tc := ⟨.hbm, 56, rfl⟩
abbrev main_v36 : Ref sig .tc := ⟨.hbm, 57, rfl⟩
abbrev main_c_10 : Ref sig .tc := ⟨.hbm, 58, rfl⟩
abbrev main_v37 : Ref sig .tc := ⟨.hbm, 59, rfl⟩
abbrev main_v38 : Ref sig .tc := ⟨.hbm, 60, rfl⟩
abbrev main_c_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_12 : Ref sig .tc := ⟨.hbm, 65, rfl⟩
abbrev main_call3_v0 : Ref sig .tc := ⟨.hbm, 66, rfl⟩
abbrev main_call3_v1 : Ref sig .tc := ⟨.hbm, 67, rfl⟩
abbrev main_v42 : Ref sig .tc := ⟨.hbm, 68, rfl⟩
abbrev main_v43_0 : Ref sig .tc := ⟨.hbm, 69, rfl⟩
abbrev main_v43_1 : Ref sig .tc := ⟨.hbm, 70, rfl⟩
abbrev main_v43_2 : Ref sig .tc := ⟨.hbm, 71, rfl⟩
abbrev main_v43_3 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel12Ideal.lean ====
variable {F : FTy → Type} [FloatOps F] [Named F]
def κ : String → Option EReal := fun
  | "masked" => some ⊥
  | _ => none
-- ==== Reference12Ideal.lean ====
abbrev S4096x6656 : Shape := ⟨2, ![4096, 6656]⟩
abbrev S1x4096 : Shape := ⟨2, ![1, 4096]⟩
abbrev S1x16 : Shape := ⟨2, ![1, 16]⟩
abbrev S4096x1024 : Shape := ⟨2, ![4096, 1024]⟩
abbrev S1x4096x1024 : Shape := ⟨3, ![1, 4096, 1024]⟩
abbrev S4096x256 : Shape := ⟨2, ![4096, 256]⟩
abbrev S1x4096x256 : Shape := ⟨3, ![1, 4096, 256]⟩
abbrev S1x4096x16x64 : Shape := ⟨4, ![1, 4096, 16, 64]⟩
abbrev S1x4096x1 : Shape := ⟨3, ![1, 4096, 1]⟩
abbrev S8 : Shape := ⟨1, ![8]⟩
abbrev S_ : Shape := ⟨0, ![]⟩
abbrev S1x1x8 : Shape := ⟨3, ![1, 1, 8]⟩
abbrev S1x4096x8 : Shape := ⟨3, ![1, 4096, 8]⟩
abbrev S1x4096x1x8 : Shape := ⟨4, ![1, 4096, 1, 8]⟩
abbrev S1x4096x16x16 : Shape := ⟨4, ![1, 4096, 16, 16]⟩
abbrev S1x4096x16x8 : Shape := ⟨4, ![1, 4096, 16, 8]⟩
abbrev S1x4096x16x48 : Shape := ⟨4, ![1, 4096, 16, 48]⟩
abbrev S1x4096x4x64 : Shape := ⟨4, ![1, 4096, 4, 64]⟩
abbrev S1x4096x4x16 : Shape := ⟨4, ![1, 4096, 4, 16]⟩
abbrev S1x4096x4x8 : Shape := ⟨4, ![1, 4096, 4, 8]⟩
abbrev S1x4096x4x48 : Shape := ⟨4, ![1, 4096, 4, 48]⟩
abbrev S16 : Shape := ⟨1, ![16]⟩
abbrev S1x32x128x4x4x64 : Shape := ⟨6, ![1, 32, 128, 4, 4, 64]⟩
abbrev S1x128x4x64 : Shape := ⟨4, ![1, 128, 4, 64]⟩
abbrev S1x4224x4x64 : Shape := ⟨4, ![1, 4224, 4, 64]⟩
abbrev S1x33x128x4x64 : Shape := ⟨5, ![1, 33, 128, 4, 64]⟩
abbrev S1x32x128x4x64 : Shape := ⟨5, ![1, 32, 128, 4, 64]⟩
abbrev S1x32x256x4x64 : Shape := ⟨5, ![1, 32, 256, 4, 64]⟩
abbrev S1x32x4x256x128x4 : Shape := ⟨6, ![1, 32, 4, 256, 128, 4]⟩
abbrev S1x32x4x4x128x256 : Shape := ⟨6, ![1, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S4x4 : Shape := ⟨2, ![4, 4]⟩
abbrev S1x1x4x4x1x1 : Shape := ⟨6, ![1, 1, 4, 4, 1, 1]⟩
abbrev S1x32x4x4x128 : Shape := ⟨5, ![1, 32, 4, 4, 128]⟩
abbrev S1x32x4x4x128x1 : Shape := ⟨6, ![1, 32, 4, 4, 128, 1]⟩
abbrev S1x32x4x64x4x128 : Shape := ⟨6, ![1, 32, 4, 64, 4, 128]⟩
abbrev S4096x16x64 : Shape := ⟨3, ![4096, 16, 64]⟩
abbrev S4096x4x64 : Shape := ⟨3, ![4096, 4, 64]⟩
abbrev S32x4x4x128x256 : Shape := ⟨5, ![32, 4, 4, 128, 256]⟩
abbrev S32x4x4x128x128 : Shape := ⟨5, ![32, 4, 4, 128, 128]⟩
abbrev S32x4x2x2x128x128 : Shape := ⟨6, ![32, 4, 2, 2, 128, 128]⟩
abbrev S32x128x4x2x2x128 : Shape := ⟨6, ![32, 128, 4, 2, 2, 128]⟩
abbrev S4096x2048 : Shape := ⟨2, ![4096, 2048]⟩

abbrev nBuf : Space → Nat
  | .hbm => 209
  | .vmem => 0
  | .smem => 0
  | _ => 0

abbrev hbmTy0_0 (i : Nat) : BufTy := match i % 128 with
  | 0 => ⟨S4096x6656, .f32⟩
  | 1 => ⟨S1x4096, .i32⟩
  | 2 => ⟨S1x16, .f32⟩
  | 3 => ⟨S4096x1024, .f32⟩
  | 4 => ⟨S1x4096x1024, .f32⟩
  | 5 => ⟨S4096x256, .f32⟩
  | 6 => ⟨S1x4096x256, .f32⟩
  | 7 => ⟨S4096x256, .f32⟩
  | 8 => ⟨S1x4096x256, .f32⟩
  | 9 => ⟨S4096x1024, .f32⟩
  | 10 => ⟨S1x4096x1024, .f32⟩
  | 11 => ⟨S1x4096x16x64, .f32⟩
  | 12 => ⟨S1x4096x1, .i32⟩
  | 13 => ⟨S1x4096x1, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S1x1x8, .f32⟩
  | 29 => ⟨S1x4096x8, .f32⟩
  | 30 => ⟨S1x4096x8, .f32⟩
  | 31 => ⟨S1x4096x8, .f32⟩
  | 32 => ⟨S1x4096x8, .f32⟩
  | 33 => ⟨S1x4096x1x8, .f32⟩
  | 34 => ⟨S1x4096x8, .f32⟩
  | 35 => ⟨S1x4096x1x8, .f32⟩
  | 36 => ⟨S1x4096x16x16, .f32⟩
  | 37 => ⟨S1x4096x16x8, .f32⟩
  | 38 => ⟨S1x4096x16x8, .f32⟩
  | 39 => ⟨S1x4096x16x8, .f32⟩
  | 40 => ⟨S1x4096x16x8, .f32⟩
  | 41 => ⟨S1x4096x16x8, .f32⟩
  | 42 => ⟨S1x4096x16x8, .f32⟩
  | 43 => ⟨S1x4096x16x8, .f32⟩
  | 44 => ⟨S1x4096x16x8, .f32⟩
  | 45 => ⟨S1x4096x16x8, .f32⟩
  | 46 => ⟨S1x4096x16x8, .f32⟩
  | 47 => ⟨S1x4096x16x8, .f32⟩
  | 48 => ⟨S1x4096x16x8, .f32⟩
  | 49 => ⟨S1x4096x16x16, .f32⟩
  | 50 => ⟨S1x4096x16x48, .f32⟩
  | 51 => ⟨S1x4096x16x64, .f32⟩
  | 52 => ⟨S1x4096x4x64, .f32⟩
  | 53 => ⟨S1x4096x1, .i32⟩
  | 54 => ⟨S1x4096x1, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S1x1x8, .f32⟩
  | 70 => ⟨S1x4096x8, .f32⟩
  | 71 => ⟨S1x4096x8, .f32⟩
  | 72 => ⟨S1x4096x8, .f32⟩
  | 73 => ⟨S1x4096x8, .f32⟩
  | 74 => ⟨S1x4096x1x8, .f32⟩
  | 75 => ⟨S1x4096x8, .f32⟩
  | 76 => ⟨S1x4096x1x8, .f32⟩
  | 77 => ⟨S1x4096x4x16, .f32⟩
  | 78 => ⟨S1x4096x4x8, .f32⟩
  | 79 => ⟨S1x4096x4x8, .f32⟩
  | 80 => ⟨S1x4096x4x8, .f32⟩
  | 81 => ⟨S1x4096x4x8, .f32⟩
  | 82 => ⟨S1x4096x4x8, .f32⟩
  | 83 => ⟨S1x4096x4x8, .f32⟩
  | 84 => ⟨S1x4096x4x8, .f32⟩
  | 85 => ⟨S1x4096x4x8, .f32⟩
  | 86 => ⟨S1x4096x4x8, .f32⟩
  | 87 => ⟨S1x4096x4x8, .f32⟩
  | 88 => ⟨S1x4096x4x8, .f32⟩
  | 89 => ⟨S1x4096x4x8, .f32⟩
  | 90 => ⟨S1x4096x4x16, .f32⟩
  | 91 => ⟨S1x4096x4x48, .f32⟩
  | 92 => ⟨S1x4096x4x64, .f32⟩
  | 93 => ⟨S1x4096x4x64, .f32⟩
  | 94 => ⟨S16, .f32⟩
  | 95 => ⟨S1x32x128x4x4x64, .f32⟩
  | 96 => ⟨S_, .f32⟩
  | 97 => ⟨S1x128x4x64, .f32⟩
  | 98 => ⟨S1x4224x4x64, .f32⟩
  | 99 => ⟨S1x33x128x4x64, .f32⟩
  | 100 => ⟨S1x32x128x4x64, .f32⟩
  | 101 => ⟨S1x32x128x4x64, .f32⟩
  | 102 => ⟨S1x32x256x4x64, .f32⟩
  | 103 => ⟨S1x32x4x256x128x4, .f32⟩
  | 104 => ⟨S1x32x4x4x128x256, .f32⟩
  | 105 => ⟨S_, .f32⟩
  | 106 => ⟨S1x32x4x4x128x256, .f32⟩
  | 107 => ⟨S1x32x4x4x128x256, .f32⟩
  | 108 => ⟨S128, .i32⟩
  | 109 => ⟨S128x1, .i32⟩
  | 110 => ⟨S256, .i32⟩
  | 111 => ⟨S1x256, .i32⟩
  | 112 => ⟨S_, .i32⟩
  | 113 => ⟨S128x1, .i32⟩
  | 114 => ⟨S128x1, .i32⟩
  | 115 => ⟨S128x256, .i32⟩
  | 116 => ⟨S128x256, .i32⟩
  | 117 => ⟨S128x256, .i32⟩
  | 118 => ⟨S_, .i32⟩
  | 119 => ⟨S128x256, .i32⟩
  | 120 => ⟨S128x256, .i1⟩
  | 121 => ⟨S_, .i32⟩
  | 122 => ⟨S128x256, .i32⟩
  | 123 => ⟨S128x256, .i1⟩
  | 124 => ⟨S128x256, .i1⟩
  | 125 => ⟨S32, .i32⟩
  | 126 => ⟨S32x1, .i32⟩
  | 127 => ⟨S_, .i32⟩
  | _ => ⟨S4096x6656, .f32⟩

abbrev hbmTy0_1 (i : Nat) : BufTy := match i % 128 with
  | 0 => ⟨S32x1, .i32⟩
  | 1 => ⟨S32x1, .i32⟩
  | 2 => ⟨S_, .i32⟩
  | 3 => ⟨S32x1, .i32⟩
  | 4 => ⟨S32x1, .i32⟩
  | 5 => ⟨S256, .i32⟩
  | 6 => ⟨S1x256, .i32⟩
  | 7 => ⟨S32x256, .i32⟩
  | 8 => ⟨S32x256, .i32⟩
  | 9 => ⟨S32x256, .i32⟩
  | 10 => ⟨S1x128x256, .i1⟩
  | 11 => ⟨S_, .i32⟩
  | 12 => ⟨S32x256, .i32⟩
  | 13 => ⟨S32x256, .i1⟩
  | 14 => ⟨S32x1x256, .i1⟩
  | 15 => ⟨S32x128x256, .i1⟩
  | 16 => ⟨S32x128x256, .i1⟩
  | 17 => ⟨S32x128x256, .i1⟩
  | 18 => ⟨S1x32x1x1x128x256, .i1⟩
  | 19 => ⟨S_, .f32⟩
  | 20 => ⟨S_, .f32⟩
  | 21 => ⟨S1x32x4x4x128x256, .i1⟩
  | 22 => ⟨S1x32x4x4x128x256, .f32⟩
  | 23 => ⟨S1x32x4x4x128x256, .f32⟩
  | 24 => ⟨S4x4, .f32⟩
  | 25 => ⟨S1x1x4x4x1x1, .f32⟩
  | 26 => ⟨S_, .f32⟩
  | 27 => ⟨S1x32x4x4x128, .f32⟩
  | 28 => ⟨S1x32x4x4x128x1, .f32⟩
  | 29 => ⟨S1x32x4x4x128x1, .f32⟩
  | 30 => ⟨S1x32x4x4x128x1, .f32⟩
  | 31 => ⟨S1x32x4x4x128x256, .f32⟩
  | 32 => ⟨S1x32x4x4x128x256, .f32⟩
  | 33 => ⟨S1x32x4x4x128x256, .f32⟩
  | 34 => ⟨S_, .f32⟩
  | 35 => ⟨S1x32x4x4x128, .f32⟩
  | 36 => ⟨S1x32x4x4x128x1, .f32⟩
  | 37 => ⟨S1x32x4x4x128x1, .f32⟩
  | 38 => ⟨S1x32x4x4x128x1, .f32⟩
  | 39 => ⟨S1x32x4x4x128x1, .f32⟩
  | 40 => ⟨S1x32x4x4x128x1, .f32⟩
  | 41 => ⟨S1x32x4x4x128x256, .f32⟩
  | 42 => ⟨S1x32x4x4x128x256, .f32⟩
  | 43 => ⟨S_, .f32⟩
  | 44 => ⟨S1x128x4x64, .f32⟩
  | 45 => ⟨S1x4224x4x64, .f32⟩
  | 46 => ⟨S1x33x128x4x64, .f32⟩
  | 47 => ⟨S1x32x128x4x64, .f32⟩
  | 48 => ⟨S1x32x128x4x64, .f32⟩
  | 49 => ⟨S1x32x256x4x64, .f32⟩
  | 50 => ⟨S1x32x4x64x4x128, .f32⟩
  | 51 => ⟨S1x32x128x4x4x64, .f32⟩
  | 52 => ⟨S1x4096x1024, .f32⟩
  | 53 => ⟨S1x4096x1024, .f32⟩
  | 54 => ⟨S1x4096x1024, .f32⟩
  | 55 => ⟨S_, .f32⟩
  | 56 => ⟨S1x4096x1024, .f32⟩
  | 57 => ⟨S1x4096x1024, .f32⟩
  | 58 => ⟨S_, .f32⟩
  | 59 => ⟨S1x4096x1024, .f32⟩
  | 60 => ⟨S1x4096x1024, .f32⟩
  | 61 => ⟨S1x4096x1024, .f32⟩
  | 62 => ⟨S1x4096x1024, .f32⟩
  | 63 => ⟨S4096x16x64, .f32⟩
  | 64 => ⟨S_, .f32⟩
  | 65 => ⟨S4096x16x64, .f32⟩
  | 66 => ⟨S4096x16x64, .f32⟩
  | 67 => ⟨S4096x1024, .f32⟩
  | 68 => ⟨S4096x1024, .bf16⟩
  | 69 => ⟨S4096x1024, .f32⟩
  | 70 => ⟨S4096x1024, .bf16⟩
  | 71 => ⟨S4096x4x64, .f32⟩
  | 72 => ⟨S4096x256, .f32⟩
  | 73 => ⟨S4096x256, .bf16⟩
  | 74 => ⟨S32x4x4x128x256, .f32⟩
  | 75 => ⟨S32x4x4x128x128, .f32⟩
  | 76 => ⟨S32x4x4x128x128, .f32⟩
  | 77 => ⟨S32x4x4x128x128, .f32⟩
  | 78 => ⟨S32x4x2x2x128x128, .f32⟩
  | 79 => ⟨S32x128x4x2x2x128, .f32⟩
  | 80 => ⟨S4096x2048, .f32⟩
  | _ => ⟨S4096x6656, .f32⟩

abbrev hbmTy (i : Nat) : BufTy := match i / 128 with
  | 0 => hbmTy0_0 i
  | 1 => hbmTy0_1 i
  | _ => ⟨S4096x6656, .f32⟩

abbrev bufTy : (tb : Table) → Fin (tcTables nBuf tb) → BufTy
  | .hbm, ⟨i, _⟩ => hbmTy i
  | _, _ => ⟨S4096x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_3 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_7 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_c : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_c_9 : Ref sig .tc := ⟨.hbm, 118, rfl⟩
abbrev main_v104 : Ref sig .tc := ⟨.hbm, 119, rfl⟩
abbrev main_v105 : Ref sig .tc := ⟨.hbm, 120, rfl⟩
abbrev main_c_10 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_c_11 : Ref sig .tc := ⟨.hbm, 127, rfl⟩
abbrev main_v111 : Ref sig .tc := ⟨.hbm, 128, rfl⟩
abbrev main_v112 : Ref sig .tc := ⟨.hbm, 129, rfl⟩
abbrev main_c_12 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_c_13 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_cst_14 : Ref sig .tc := ⟨.hbm, 147, rfl⟩
abbrev main_call0_v0 : Ref sig .tc := ⟨.hbm, 148, rfl⟩
abbrev main_call0_v1 : Ref sig .tc := ⟨.hbm, 149, rfl⟩
abbrev main_call0_v2 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_cst_15 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_cst_16 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_cst_17 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_call1_v0 : Ref sig .tc := ⟨.hbm, 181, rfl⟩
abbrev main_call1_v1 : Ref sig .tc := ⟨.hbm, 182, rfl⟩
abbrev main_call1_cst : Ref sig .tc := ⟨.hbm, 183, rfl⟩
abbrev main_call1_v2 : Ref sig .tc := ⟨.hbm, 184, rfl⟩
abbrev main_call1_v3 : Ref sig .tc := ⟨.hbm, 185, rfl⟩
abbrev main_call1_cst_0 : Ref sig .tc := ⟨.hbm, 186, rfl⟩
abbrev main_call1_v4 : Ref sig .tc := ⟨.hbm, 187, rfl⟩
abbrev main_call1_v5 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_18 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩

abbrev nD : Nat := 1
abbrev τ : Topo := Topo.v7x

variable {F : FTy → Type} [FloatOps F]
-- ==== Kernel13.lean ====
abbrev S2x512x6656 : Shape := ⟨3, ![2, 512, 6656]⟩
abbrev S4x4x2x32x256 : Shape := ⟨5, ![4, 4, 2, 32, 256]⟩
abbrev S512x6656 : Shape := ⟨2, ![512, 6656]⟩
abbrev S4x4x32x256 : Shape := ⟨4, ![4, 4, 32, 256]⟩
abbrev S3 : Shape := ⟨1, ![3]⟩
abbrev S_ : Shape := ⟨0, ![]⟩
abbrev S1 : Shape := ⟨1, ![1]⟩
abbrev S1x512x6656 : Shape := ⟨3, ![1, 512, 6656]⟩
abbrev S4x4x1x32x256 : Shape := ⟨5, ![4, 4, 1, 32, 256]⟩

abbrev nBuf : Space → Nat
  | .hbm => 6
  | .vmem => 0
  | .smem => 0
  | _ => 0

abbrev bufTy : (tb : Table) → Fin (tcTables nBuf tb) → BufTy
  | .hbm, ⟨0, _⟩ => ⟨S2x512x6656, .f32⟩
  | .hbm, ⟨1, _⟩ => ⟨S4x4x2x32x256, .f32⟩
  | .hbm, ⟨2, _⟩ => ⟨S4x4x2x32x256, .f32⟩
  | .hbm, ⟨3, _⟩ => ⟨S512x6656, .f32⟩
  | .hbm, ⟨4, _⟩ => ⟨S4x4x32x256, .f32⟩
  | .hbm, ⟨5, _⟩ => ⟨S4x4x32x256, .f32⟩
  | _, _ => ⟨S2x512x6656, .f32⟩

abbrev bufScoped : (cs : CoreSpace) → Fin (nBuf (.core cs)) → Bool
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v4 : BitVec 32 := Dev.word d0
  let c4_i32 : BitVec 32 := 4#32
  let v5 : BitVec 32 := Scalar.divsi v4 c4_i32
  let c2_i32_0 : BitVec 32 := 2#32
  let v6 : BitVec 32 := Scalar.remsi v5 c2_i32_0
  let c4_i32_7 : BitVec 32 := 4#32
  let v14 : BitVec 32 := Scalar.muli v6 c4_i32_7
  let v15 : BitVec 32 := Scalar.addi c0_i32 v14
  let v7 : BitVec 32 := Dev.word d0
  let c2_i32_2 : BitVec 32 := 2#32
  let v8 : BitVec 32 := Scalar.divsi v7 c2_i32_2
  let c2_i32_1 : BitVec 32 := 2#32
  let v9 : BitVec 32 := Scalar.remsi v8 c2_i32_1
  let c2_i32_8 : BitVec 32 := 2#32
  let v16 : BitVec 32 := Scalar.muli v9 c2_i32_8
  let v17 : BitVec 32 := Scalar.addi v15 v16
  let v10 : BitVec 32 := Dev.word d0
  let c1_i32_4 : BitVec 32 := 1#32
  let v11 : BitVec 32 := Scalar.divsi v10 c1_i32_4
  let c2_i32_3 : BitVec 32 := 2#32
  let v12 : BitVec 32 := Scalar.remsi v11 c2_i32_3
  let c1_i32_5 : BitVec 32 := 1#32
  let v13 : BitVec 32 := Scalar.xori v12 c1_i32_5
  let c1_i32_9 : BitVec 32 := 1#32
  let v18 : BitVec 32 := Scalar.muli v13 c1_i32_9
  let v19 : BitVec 32 := Scalar.addi v17 v18
  v19.toNat
def k0_off1 (d0 : Dev nD) : Fin 3 → Nat :=
  let c1_i32_11 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v20 : BitVec 32 := Scalar.subi c1_i32_11 v2
  let c0_i32_41 : BitVec 32 := 0#32
  let c0_i32_42 : BitVec 32 := 0#32
  ![v20.toNat, 0, 0]
def k0_dev2 (d0 : Dev nD) : Nat :=
  let c0_i32_38 : BitVec 32 := 0#32
  let v21 : BitVec 32 := Dev.word d0
  let c4_i32_13 : BitVec 32 := 4#32
  let v22 : BitVec 32 := Scalar.divsi v21 c4_i32_13
  let c2_i32_12 : BitVec 32 := 2#32
  let v23 : BitVec 32 := Scalar.remsi v22 c2_i32_12
  let c4_i32_37 : BitVec 32 := 4#32
  let v53 : BitVec 32 := Scalar.muli v23 c4_i32_37
  let v54 : BitVec 32 := Scalar.addi c0_i32_38 v53
  let v24 : BitVec 32 := Dev.word d0
  let c2_i32_15 : BitVec 32 := 2#32
  let v25 : BitVec 32 := Scalar.divsi v24 c2_i32_15
  let c2_i32_14 : BitVec 32 := 2#32
  let v26 : BitVec 32 := Scalar.remsi v25 c2_i32_14
  let c2_i32_39 : BitVec 32 := 2#32
  let v55 : BitVec 32 := Scalar.muli v26 c2_i32_39
  let v56 : BitVec 32 := Scalar.addi v54 v55
  let v27 : BitVec 32 := Dev.word d0
  let c1_i32_17 : BitVec 32 := 1#32
  let v28 : BitVec 32 := Scalar.divsi v27 c1_i32_17
  let c2_i32_16 : BitVec 32 := 2#32
  let v29 : BitVec 32 := Scalar.remsi v28 c2_i32_16
  let c1_i32_18 : BitVec 32 := 1#32
  let v30 : BitVec 32 := Scalar.xori v29 c1_i32_18
  let c1_i32_40 : BitVec 32 := 1#32
  let v57 : BitVec 32 := Scalar.muli v30 c1_i32_40
  let v58 : BitVec 32 := Scalar.addi v56 v57
  v58.toNat
def k0_off2 (d0 : Dev nD) : Fin 5 → Nat :=
  let c0_i32_49 : BitVec 32 := 0#32
  let c0_i32_50 : BitVec 32 := 0#32
  let c1_i32_19 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v31 : BitVec 32 := Scalar.subi c1_i32_19 v2
  let c0_i32_51 : BitVec 32 := 0#32
  let c0_i32_52 : BitVec 32 := 0#32
  ![0, 0, v31.toNat, 0, 0]
def k0_dev3 (d0 : Dev nD) : Nat :=
  let c0_i32_46 : BitVec 32 := 0#32
  let v32 : BitVec 32 := Dev.word d0
  let c4_i32_21 : BitVec 32 := 4#32
  let v33 : BitVec 32 := Scalar.divsi v32 c4_i32_21
  let c2_i32_20 : BitVec 32 := 2#32
  let v34 : BitVec 32 := Scalar.remsi v33 c2_i32_20
  let c4_i32_45 : BitVec 32 := 4#32
  let v65 : BitVec 32 := Scalar.muli v34 c4_i32_45
  let v66 : BitVec 32 := Scalar.addi c0_i32_46 v65
  let v35 : BitVec 32 := Dev.word d0
  let c2_i32_23 : BitVec 32 := 2#32
  let v36 : BitVec 32 := Scalar.divsi v35 c2_i32_23
  let c2_i32_22 : BitVec 32 := 2#32
  let v37 : BitVec 32 := Scalar.remsi v36 c2_i32_22
  let c2_i32_47 : BitVec 32 := 2#32
  let v67 : BitVec 32 := Scalar.muli v37 c2_i32_47
  let v68 : BitVec 32 := Scalar.addi v66 v67
  let v38 : BitVec 32 := Dev.word d0
  let c1_i32_25 : BitVec 32 := 1#32
  let v39 : BitVec 32 := Scalar.divsi v38 c1_i32_25
  let c2_i32_24 : BitVec 32 := 2#32
  let v40 : BitVec 32 := Scalar.remsi v39 c2_i32_24
  let c1_i32_26 : BitVec 32 := 1#32
  let v41 : BitVec 32 := Scalar.xori v40 c1_i32_26
  let c1_i32_48 : BitVec 32 := 1#32
  let v69 : BitVec 32 := Scalar.muli v41 c1_i32_48
  let v70 : BitVec 32 := Scalar.addi v68 v69
  v70.toNat
def k0_dev4 (d0 : Dev nD) : Nat :=
  let c0_i32_56 : BitVec 32 := 0#32
  let v43 : BitVec 32 := Dev.word d0
  let c4_i32_29 : BitVec 32 := 4#32
  let v44 : BitVec 32 := Scalar.divsi v43 c4_i32_29
  let c2_i32_28 : BitVec 32 := 2#32
  let v45 : BitVec 32 := Scalar.remsi v44 c2_i32_28
  let c4_i32_55 : BitVec 32 := 4#32
  let v77 : BitVec 32 := Scalar.muli v45 c4_i32_55
  let v78 : BitVec 32 := Scalar.addi c0_i32_56 v77
  let v46 : BitVec 32 := Dev.word d0
  let c2_i32_31 : BitVec 32 := 2#32
  let v47 : BitVec 32 := Scalar.divsi v46 c2_i32_31
  let c2_i32_30 : BitVec 32 := 2#32
  let v48 : BitVec 32 := Scalar.remsi v47 c2_i32_30
  let c2_i32_57 : BitVec 32 := 2#32
  let v79 : BitVec 32 := Scalar.muli v48 c2_i32_57
  let v80 : BitVec 32 := Scalar.addi v78 v79
  let v49 : BitVec 32 := Dev.word d0
  let c1_i32_33 : BitVec 32 := 1#32
  let v50 : BitVec 32 := Scalar.divsi v49 c1_i32_33
  let c2_i32_32 : BitVec 32 := 2#32
  let v51 : BitVec 32 := Scalar.remsi v50 c2_i32_32
  let c1_i32_34 : BitVec 32 := 1#32
  let v52 : BitVec 32 := Scalar.xori v51 c1_i32_34
  let c1_i32_58 : BitVec 32 := 1#32
  let v81 : BitVec 32 := Scalar.muli v52 c1_i32_58
  let v82 : BitVec 32 := Scalar.addi v80 v81
  v82.toNat
-- ==== Reference13Ideal.lean ====
abbrev S16x512x6656 : Shape := ⟨3, ![16, 512, 6656]⟩
abbrev S32x4x2x32x256 : Shape := ⟨5, ![32, 4, 2, 32, 256]⟩
abbrev S4x2x2x512x6656 : Shape := ⟨5, ![4, 2, 2, 512, 6656]⟩
abbrev S4x1x2x512x6656 : Shape := ⟨5, ![4, 1, 2, 512, 6656]⟩
abbrev S4x2x512x6656 : Shape := ⟨4, ![4, 2, 512, 6656]⟩
abbrev S4x1x512x6656 : Shape := ⟨4, ![4, 1, 512, 6656]⟩
abbrev S4x512x6656 : Shape := ⟨3, ![4, 512, 6656]⟩
abbrev S4096x6656 : Shape := ⟨2, ![4096, 6656]⟩
abbrev S4x2x4x4x2x32x256 : Shape := ⟨7, ![4, 2, 4, 4, 2, 32, 256]⟩
abbrev S4x1x4x4x2x32x256 : Shape := ⟨7, ![4, 1, 4, 4, 2, 32, 256]⟩
abbrev S4x4x4x2x32x256 : Shape := ⟨6, ![4, 4, 4, 2, 32, 256]⟩
abbrev S4x4x4x1x32x256 : Shape := ⟨6, ![4, 4, 4, 1, 32, 256]⟩
abbrev S4x4x4x32x256 : Shape := ⟨5, ![4, 4, 4, 32, 256]⟩
abbrev S4x1x4x4x32x256 : Shape := ⟨6, ![4, 1, 4, 4, 32, 256]⟩
abbrev S4x2x4x4x32x256 : Shape := ⟨6, ![4, 2, 4, 4, 32, 256]⟩
abbrev S32x4x32x256 : Shape := ⟨4, ![32, 4, 32, 256]⟩

abbrev nBuf : Space → Nat
  | .hbm => 42
  | .vmem => 0
  | .smem => 0
  | _ => 0

abbrev bufTy : (tb : Table) → Fin (tcTables nBuf tb) → BufTy
  | .hbm, ⟨0, _⟩ => ⟨S16x512x6656, .f32⟩
  | .hbm, ⟨1, _⟩ => ⟨S32x4x2x32x256, .f32⟩
  | .hbm, ⟨2, _⟩ => ⟨S32x4x2x32x256, .f32⟩
  | .hbm, ⟨3, _⟩ => ⟨S4x2x2x512x6656, .f32⟩
  | .hbm, ⟨4, _⟩ => ⟨S4x1x2x512x6656, .f32⟩
  | .hbm, ⟨5, _⟩ => ⟨S4x2x512x6656, .f32⟩
  | .hbm, ⟨6, _⟩ => ⟨S4x1x512x6656, .f32⟩
  | .hbm, ⟨7, _⟩ => ⟨S4x512x6656, .f32⟩
  | .hbm, ⟨8, _⟩ => ⟨S4x1x2x512x6656, .f32⟩
  | .hbm, ⟨9, _⟩ => ⟨S4x2x512x6656, .f32⟩
  | .hbm, ⟨10, _⟩ => ⟨S4x1x512x6656, .f32⟩
  | .hbm, ⟨11, _⟩ => ⟨S4x512x6656, .f32⟩
  | .hbm, ⟨12, _⟩ => ⟨S4x1x512x6656, .f32⟩
  | .hbm, ⟨13, _⟩ => ⟨S4x1x512x6656, .f32⟩
  | .hbm, ⟨14, _⟩ => ⟨S4x2x512x6656, .f32⟩
  | .hbm, ⟨15, _⟩ => ⟨S4096x6656, .f32⟩
  | .hbm, ⟨16, _⟩ => ⟨S4x2x4x4x2x32x256, .f32⟩
  | .hbm, ⟨17, _⟩ => ⟨S4x1x4x4x2x32x256, .f32⟩
  | .hbm, ⟨18, _⟩ => ⟨S4x4x4x2x32x256, .f32⟩
  | .hbm, ⟨19, _⟩ => ⟨S4x4x4x1x32x256, .f32⟩
  | .hbm, ⟨20, _⟩ => ⟨S4x4x4x32x256, .f32⟩
  | .hbm, ⟨21, _⟩ => ⟨S4x1x4x4x2x32x256, .f32⟩
  | .hbm, ⟨22, _⟩ => ⟨S4x4x4x2x32x256, .f32⟩
  | .hbm, ⟨23, _⟩ => ⟨S4x4x4x1x32x256, .f32⟩
  | .hbm, ⟨24, _⟩ => ⟨S4x4x4x32x256, .f32⟩
  | .hbm, ⟨25, _⟩ => ⟨S4x1x4x4x32x256, .f32⟩
  | .hbm, ⟨26, _⟩ => ⟨S4x1x4x4x32x256, .f32⟩
  | .hbm, ⟨27, _⟩ => ⟨S4x2x4x4x32x256, .f32⟩
  | .hbm, ⟨28, _⟩ => ⟨S32x4x32x256, .f32⟩
  | .hbm, ⟨29, _⟩ => ⟨S4x2x4x4x2x32x256, .f32⟩
  | .hbm, ⟨30, _⟩ => ⟨S4x1x4x4x2x32x256, .f32⟩
  | .hbm, ⟨31, _⟩ => ⟨S4x4x4x2x32x256, .f32⟩
  | .hbm, ⟨32, _⟩ => ⟨S4x4x4x1x32x256, .f32⟩
  | .hbm, ⟨33, _⟩ => ⟨S4x4x4x32x256, .f32⟩
  | .hbm, ⟨34, _⟩ => ⟨S4x1x4x4x2x32x256, .f32⟩
  | .hbm, ⟨35, _⟩ => ⟨S4x4x4x2x32x256, .f32⟩
  | .hbm, ⟨36, _⟩ => ⟨S4x4x4x1x32x256, .f32⟩
  | .hbm, ⟨37, _⟩ => ⟨S4x4x4x32x256, .f32⟩
  | .hbm, ⟨38, _⟩ => ⟨S4x1x4x4x32x256, .f32⟩
  | .hbm, ⟨39, _⟩ => ⟨S4x1x4x4x32x256, .f32⟩
  | .hbm, ⟨40, _⟩ => ⟨S4x2x4x4x32x256, .f32⟩
  | .hbm, ⟨41, _⟩ => ⟨S32x4x32x256, .f32⟩
  | _, _ => ⟨S16x512x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩

abbrev nD : Nat := 1
abbrev τ : Topo := Topo.v7x

variable {F : FTy → Type} [FloatOps F]
-- ==== Proof.InRef.lean ====
/- The reference's gradients of the pre-norm and the input projection, read at an index. -/
module

public import proofs.«01_k».proof.Proof.Gen.ReferenceIdeal.Run
public import Idealize.ShloMosaic.Lib.Pipeline.ValueKit

@[expose] public section

set_option maxRecDepth 16384

noncomputable section

namespace Cert.InBwd

open Cert.ReferenceIdeal Cert.ReferenceIdeal.Gen Idealize.ShloMosaic Idealize.ShloMosaic.TcCoe Idealize.SL.Sem

/-- A host sum over axes of size one reads the one element that is left. -/
theorem hostReduceAdd_one {s t : Shape} {axes : List (Fin s.rank)} (h : s.ReducesTo axes t) (x : s.Idx → EReal)
    (init : EReal) (j : t.Idx) (i : s.Idx) (hi : ∀ k, h.drop k = j ↔ k = i) : Ideal.hostReduceAdd h x init j = init + x i := by
  unfold Ideal.hostReduceAdd
  congr 1
  refine (Finset.sum_eq_single_of_mem i (by simp [hi]) fun k hk hne => ?_)
  exact absurd ((hi k).mp (by simpa using hk)) hne

/-- A sum over two leading axes of size one. -/
theorem sum01 (v : S1x1x1024.Idx → EReal) (init : EReal) (j : Fin 1024) :
    Ideal.hostReduceAdd reducesTo_S1x1x1024_S1024_d0_1 v init (ix1 j) = init + v (ix3 0 0 j) := by
  refine hostReduceAdd_one _ _ _ _ _ fun k => ⟨fun hk => ?_, fun hk => ?_⟩
  · have h0 := congrArg Fin.val (congrFun hk 0)
    funext a
    fin_cases a
    · exact Subsingleton.elim (α := Fin 1) _ _
    · exact Subsingleton.elim (α := Fin 1) _ _
    · exact Fin.ext h0
  · subst hk
    funext b
    fin_cases b
    rfl

/-- A sum over a leading and a last axis of size one. -/
theorem sum02 (v : S1x4096x1.Idx → EReal) (init : EReal) (j : Fin 4096) :
    Ideal.hostReduceAdd reducesTo_S1x4096x1_S4096_d0_2 v init (ix1 j) = init + v (ix3 0 j 0) := by
  refine hostReduceAdd_one _ _ _ _ _ fun k => ⟨fun hk => ?_, fun hk => ?_⟩
  · have h0 := congrArg Fin.val (congrFun hk 0)
    funext a
    fin_cases a
    · exact Subsingleton.elim (α := Fin 1) _ _
    · exact Fin.ext h0
    · exact Subsingleton.elim (α := Fin 1) _ _
  · subst hk
    funext b
    fin_cases b
    rfl

/-- The cotangent of the normalised activations: the projection's cotangent against the weights. -/
def DH (a0 : FVec Ideal S4096x1024 .bf16) (a1 : FVec Ideal S4096x512 .bf16) (a2 : FVec Ideal S4096x1024 .bf16)
    (a3 a4 : FVec Ideal S4096x2048 .bf16) (w : FVec Ideal S1024x6656 .bf16) : FVec Ideal S1x4096x1024 .f32 :=
  Host.dotGeneral dot_S1x4096x6656_S1024x6656_S1x4096x1024_2_1_01_0_n_n none
    (broadcastInDim S1x4096x6656 ![1, 2] bcast_S4096x6656_S1x4096x6656_1_2 (extf .f32 (concatenate S4096x6656 1
      [⟨S4096x1024, a0⟩, ⟨S4096x512, a1⟩, ⟨S4096x1024, a2⟩, ⟨S4096x2048, a3⟩, ⟨S4096x2048, a4⟩]
      concatenates_S4096x1024_S4096x512_S4096x1024_S4096x2048_S4096x2048_S4096x6656_d1) bitsLt_bf16_f32))
    (extf .f32 w bitsLt_bf16_f32)

/-- The rows with their batch axis. -/
def XB (x : FVec Ideal S4096x1024 .f32) : FVec Ideal S1x4096x1024 .f32 :=
  broadcastInDim S1x4096x1024 ![1, 2] bcast_S4096x1024_S1x4096x1024_1_2 x

/-- The mean square of a row, plus epsilon. -/
def MS (x : FVec Ideal S4096x1024 .f32) : FVec Ideal S1x4096x1 .f32 :=
  addf (Host.divf (broadcastInDim S1x4096x1 ![0, 1] bcast_S1x4096_S1x4096x1_0_1
      (Host.reduceAdd (mulf (XB x) (XB x)) (constant S_ .f32 0x00000000#32) reducesTo_S1x4096x1024_S1x4096_d2 h_S_))
    (broadcastInDim S1x4096x1 ![] bcast_S_S1x4096x1 (constant S_ .f32 0x44800000#32)))
    (broadcastInDim S1x4096x1 ![] bcast_S_S1x4096x1 (constant S_ .f32 0x358637BD#32))

/-- The reciprocal root, over the row's lanes. -/
def RB (x : FVec Ideal S4096x1024 .f32) : FVec Ideal S1x4096x1024 .f32 :=
  broadcastInDim S1x4096x1024 ![0, 1, 2] bcast_S1x4096x1_S1x4096x1024_0_1_2 (Host.rsqrt (MS x))

/-- The norm's weight, over the rows. -/
def GB (g : FVec Ideal S1x1024 .f32) : FVec Ideal S1x4096x1024 .f32 :=
  broadcastInDim S1x4096x1024 ![0, 1, 2] bcast_S1x1x1024_S1x4096x1024_0_1_2
    (broadcastInDim S1x1x1024 ![2] bcast_S1024_S1x1x1024_2 (shapeCast _ g shapeCasts_S1x1024_S1024))

/-- One plus the scale, over the rows. -/
def SB (a : FVec Ideal S1x3072 .f32) : FVec Ideal S1x4096x1024 .f32 :=
  broadcastInDim S1x4096x1024 ![0, 1, 2] bcast_S1x1x1024_S1x4096x1024_0_1_2
    (addf (broadcastInDim S1x1x1024 ![] bcast_S_S1x1x1024 (constant S_ .f32 0x3F800000#32))
      (broadcastInDim S1x1x1024 ![0, 2] bcast_S1x1024_S1x1x1024_0_2
        (extractStridedSlice S1x1024 ![0, 1024] a slices_S1x3072_S1x1024_0_1024)))

/-- A column sum, in the reference's two steps. -/
def CS (v : FVec Ideal S1x4096x1024 .f32) : FVec Ideal S1024 .f32 :=
  Host.reduceAdd (shapeCast _ (Host.reduceAdd v (constant S_ .f32 0x00000000#32) reducesTo_S1x4096x1024_S1x1024_d1 h_S_)
    shapeCasts_S1x1024_S1x1x1024) (constant S_ .f32 0x00000000#32) reducesTo_S1x1x1024_S1024_d0_1 h_S_

/-- The cotangent that reaches a row through the mean of its squares, over the row's lanes. -/
def TB (d : FVec Ideal S1x4096x1024 .f32) (x : FVec Ideal S4096x1024 .f32) : FVec Ideal S1x4096x1024 .f32 :=
  broadcastInDim S1x4096x1024 ![0, 1] bcast_S1x4096_S1x4096x1024_0_1 (broadcastInDim S1x4096 ![1] bcast_S4096_S1x4096_1
    (Host.reduceAdd (Host.divf (mulf
        (shapeCast _ (Host.reduceAdd (mulf (XB x) d) (constant S_ .f32 0x00000000#32) reducesTo_S1x4096x1024_S1x4096_d2 h_S_)
          shapeCasts_S1x4096_S1x4096x1)
        (mulf (broadcastInDim S1x4096x1 ![] bcast_S_S1x4096x1 (constant S_ .f32 0xBF000000#32))
          (Host.divf (Host.rsqrt (MS x)) (MS x))))
      (broadcastInDim S1x4096x1 ![] bcast_S_S1x4096x1 (constant S_ .f32 0x44800000#32)))
      (constant S_ .f32 0x00000000#32) reducesTo_S1x4096x1_S4096_d0_2 h_S_))

/-- The gradient of the rows. -/
def GX (D : FVec Ideal S1x4096x1024 .f32) (x u : FVec Ideal S4096x1024 .f32) (a : FVec Ideal S1x3072 .f32)
    (g : FVec Ideal S1x1024 .f32) : FVec Ideal S4096x1024 .f32 :=
  shapeCast _ (addf (addf (addf (XB u) (mulf (mulf (mulf D (SB a)) (GB g)) (RB x)))
      (mulf (XB x) (TB (mulf (mulf D (SB a)) (GB g)) x)))
    (mulf (TB (mulf (mulf D (SB a)) (GB g)) x) (XB x))) shapeCasts_S1x4096x1024_S4096x1024

/-- The gradient of the shift. -/
def GSH (D : FVec Ideal S1x4096x1024 .f32) : FVec Ideal S1x1024 .f32 :=
  broadcastInDim S1x1024 ![1] bcast_S1024_S1x1024_1 (CS D)

/-- The gradient of the scale. -/
def GSC (D : FVec Ideal S1x4096x1024 .f32) (x : FVec Ideal S4096x1024 .f32) (g : FVec Ideal S1x1024 .f32) : FVec Ideal S1x1024 .f32 :=
  broadcastInDim S1x1024 ![1] bcast_S1024_S1x1024_1 (CS (mulf (mulf (mulf (XB x) (RB x)) (GB g)) D))

/-- The gradient of the norm's weight. -/
def GNG (D : FVec Ideal S1x4096x1024 .f32) (x : FVec Ideal S4096x1024 .f32) (a : FVec Ideal S1x3072 .f32) : FVec Ideal S1x1024 .f32 :=
  broadcastInDim S1x1024 ![1] bcast_S1024_S1x1024_1 (CS (mulf (mulf (XB x) (RB x)) (mulf D (SB a))))

/-- A sum over the projection's columns, by its five pieces. -/
theorem sum_five (f : Fin 6656 → EReal) : ∑ x, f x = ∑ x : Fin 1024, f ⟨x.val, by omega⟩ + ∑ x : Fin 512, f ⟨1024 + x.val, by omega⟩
    + ∑ x : Fin 1024, f ⟨1536 + x.val, by omega⟩ + ∑ x : Fin 2048, f ⟨2560 + x.val, by omega⟩
    + ∑ x : Fin 2048, f ⟨4608 + x.val, by omega⟩ := by
  have e1 := Fin.sum_univ_add (M := EReal) (a := 4608) (b := 2048) f
  have e2 := Fin.sum_univ_add (M := EReal) (a := 2560) (b := 2048) fun x => f (Fin.castAdd 2048 x)
  have e3 := Fin.sum_univ_add (M := EReal) (a := 1536) (b := 1024) fun x => f (Fin.castAdd 2048 (Fin.castAdd 2048 x))
  have e4 := Fin.sum_univ_add (M := EReal) (a := 1024) (b := 512) fun x => f (Fin.castAdd 2048 (Fin.castAdd 2048 (Fin.castAdd 1024 x)))
  exact e1.trans (congrArg (· + _) (e2.trans (congrArg (· + _) (e3.trans (congrArg (· + _) e4)))))

theorem DH_at (a0 : FVec Ideal S4096x1024 .bf16) (a1 : FVec Ideal S4096x512 .bf16) (a2 : FVec Ideal S4096x1024 .bf16)
    (a3 a4 : FVec Ideal S4096x2048 .bf16) (w : FVec Ideal S1024x6656 .bf16) (b : Fin 1) (i : Fin 4096) (j : Fin 1024) :
    DH a0 a1 a2 a3 a4 w (ix3 b i j) = ∑ x : Fin 1024, a0 (ix2 i x) * w (ix2 j ⟨x.val, by omega⟩)
      + ∑ x : Fin 512, a1 (ix2 i x) * w (ix2 j ⟨1024 + x.val, by omega⟩)
      + ∑ x : Fin 1024, a2 (ix2 i x) * w (ix2 j ⟨1536 + x.val, by omega⟩)
      + ∑ x : Fin 2048, a3 (ix2 i x) * w (ix2 j ⟨2560 + x.val, by omega⟩)
      + ∑ x : Fin 2048, a4 (ix2 i x) * w (ix2 j ⟨4608 + x.val, by omega⟩) := by
  pointwise [DH]
  rw [sum_five]
  refine congrArg₂ (· + ·) (congrArg₂ (· + ·) (congrArg₂ (· + ·) (congrArg₂ (· + ·) ?_ ?_) ?_) ?_) ?_ <;>
    refine Finset.sum_congr rfl fun x _ => congrArg (· * _) ?_ <;> have hx := x.isLt
  · rw [dif_pos (by simp)]
  · rw [dif_neg (by simp), dif_pos (by simp)]
    exact congrArg (fun k => a1 (ix2 i k)) (Fin.ext (by simp))
  · rw [dif_neg (by simp; omega), dif_neg (by simp; omega), dif_pos (by simp; omega)]
    exact congrArg (fun k => a2 (ix2 i k)) (Fin.ext (by simp; omega))
  · rw [dif_neg (by simp; omega), dif_neg (by simp; omega), dif_neg (by simp; omega), dif_pos (by simp; omega)]
    exact congrArg (fun k => a3 (ix2 i k)) (Fin.ext (by simp; omega))
  · rw [dif_neg (by simp; omega), dif_neg (by simp; omega), dif_neg (by simp; omega), dif_neg (by simp; omega)]
    exact congrArg (fun k => a4 (ix2 i k)) (Fin.ext (by simp; omega))

theorem XB_at (x : FVec Ideal S4096x1024 .f32) (b : Fin 1) (i : Fin 4096) (j : Fin 1024) : XB x (ix3 b i j) = x (ix2 i j) := by
  pointwise [XB]

/-- The mean square of a row, plus epsilon, as a number. -/
def ms (x : Fin 1024 → EReal) : EReal := Ideal.div (∑ k, x k * x k) (Ideal.ofBits FTy.f32 1149239296#32) + Ideal.ofBits FTy.f32 897988541#32

theorem MS_at (x : FVec Ideal S4096x1024 .f32) (b : Fin 1) (i : Fin 4096) (z : Fin 1) :
    MS x (ix3 b i z) = ms fun k => x (ix2 i k) := by
  pointwise [MS, XB, ms]

theorem RB_at (x : FVec Ideal S4096x1024 .f32) (b : Fin 1) (i : Fin 4096) (j : Fin 1024) :
    RB x (ix3 b i j) = Ideal.rsqrt (ms fun k => x (ix2 i k)) := by
  pointwise [RB, MS, XB, ms]

theorem SB_at (a : FVec Ideal S1x3072 .f32) (b : Fin 1) (i : Fin 4096) (j : Fin 1024) :
    SB a (ix3 b i j) = 1 + a (ix2 0 ⟨1024 + j.val, by omega⟩) := by
  pointwise [SB]

theorem GB_at (g : FVec Ideal S1x1024 .f32) (b : Fin 1) (i : Fin 4096) (j : Fin 1024) : GB g (ix3 b i j) = g (ix2 0 j) := by
  pointwise [GB]

theorem CS_at (D : FVec Ideal S1x4096x1024 .f32) (j : Fin 1024) : CS D (ix1 j) = ∑ i : Fin 4096, D (ix3 0 i j) := by
  pointwise [CS]
  rw [sum01]
  pointwise []

/-- What reaches a row's element through the mean of squares, as a number. -/
def tb (x d : Fin 1024 → EReal) : EReal :=
  Ideal.div ((∑ k, x k * d k) * (Ideal.ofBits FTy.f32 3204448256#32 * Ideal.div (Ideal.rsqrt (ms x)) (ms x)))
    (Ideal.ofBits FTy.f32 1149239296#32)

theorem TB_at (d : FVec Ideal S1x4096x1024 .f32) (x : FVec Ideal S4096x1024 .f32) (b : Fin 1) (i : Fin 4096) (j : Fin 1024) :
    TB d x (ix3 b i j) = tb (fun k => x (ix2 i k)) (fun k => d (ix3 0 i k)) := by
  pointwise [TB, XB]
  rw [sum02]
  pointwise [MS, XB, tb, ms]

theorem GX_at (D : FVec Ideal S1x4096x1024 .f32) (x u : FVec Ideal S4096x1024 .f32) (a : FVec Ideal S1x3072 .f32)
    (g : FVec Ideal S1x1024 .f32) (i : Fin 4096) (j : Fin 1024) :
    GX D x u a g (ix2 i j) = u (ix2 i j)
      + D (ix3 0 i j) * (1 + a (ix2 0 ⟨1024 + j.val, by omega⟩)) * g (ix2 0 j) * Ideal.rsqrt (ms fun k => x (ix2 i k))
      + x (ix2 i j) * tb (fun k => x (ix2 i k)) (fun k => D (ix3 0 i k) * (1 + a (ix2 0 ⟨1024 + k.val, by omega⟩)) * g (ix2 0 k))
      + tb (fun k => x (ix2 i k)) (fun k => D (ix3 0 i k) * (1 + a (ix2 0 ⟨1024 + k.val, by omega⟩)) * g (ix2 0 k)) * x (ix2 i j) := by
  pointwise [GX]
  have e (k : Fin 1024) : mulf (mulf D (SB a)) (GB g) (ix3 0 i k)
      = D (ix3 0 i k) * (1 + a (ix2 0 ⟨1024 + k.val, by omega⟩)) * g (ix2 0 k) := by
    pointwise []
    simp only [SB_at, GB_at]
  simp only [XB_at, SB_at, GB_at, RB_at, TB_at, e]

theorem GSH_at (D : FVec Ideal S1x4096x1024 .f32) (j : Fin 1024) : GSH D (ix2 0 j) = ∑ i : Fin 4096, D (ix3 0 i j) := by
  pointwise [GSH]
  rw [CS_at]

theorem GSC_at (D : FVec Ideal S1x4096x1024 .f32) (x : FVec Ideal S4096x1024 .f32) (g : FVec Ideal S1x1024 .f32) (j : Fin 1024) :
    GSC D x g (ix2 0 j) = ∑ i : Fin 4096, x (ix2 i j) * Ideal.rsqrt (ms fun k => x (ix2 i k)) * g (ix2 0 j) * D (ix3 0 i j) := by
  pointwise [GSC]
  rw [CS_at]
  refine Finset.sum_congr rfl fun i _ => ?_
  pointwise []
  simp only [XB_at, GB_at, RB_at]

theorem GNG_at (D : FVec Ideal S1x4096x1024 .f32) (x : FVec Ideal S4096x1024 .f32) (a : FVec Ideal S1x3072 .f32) (j : Fin 1024) :
    GNG D x a (ix2 0 j) = ∑ i : Fin 4096, x (ix2 i j) * Ideal.rsqrt (ms fun k => x (ix2 i k))
      * (D (ix3 0 i j) * (1 + a (ix2 0 ⟨1024 + j.val, by omega⟩))) := by
  pointwise [GNG]
  rw [CS_at]
  refine Finset.sum_congr rfl fun i _ => ?_
  pointwise []
  simp only [XB_at, SB_at, RB_at]

end Cert.InBwd

end
-- ==== Proof.Lift.lean ====
/- Sums and quotients of real numbers inside the extended reals, and the row identity of the norm's gradient. -/
module

public import proofs.«01_k».proof.Proof.InRef
public import Idealize.ShloMosaic.Lib.ReduceAll

@[expose] public section

set_option maxRecDepth 16384

noncomputable section

namespace Cert.Lift

open Idealize.ShloMosaic

/-- A finite sum of real numbers is a real number. -/
theorem coe_sum {ι : Type} (s : Finset ι) (f : ι → ℝ) : ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

theorem lanes : Ideal.ofBits FTy.f32 1149239296#32 = ((1024 : ℝ) : EReal) := by
  unfold Ideal.ofBits
  simp [Ideal.ieee]
  rw [← EReal.coe_mul]
  norm_num

theorem eps : Ideal.ofBits FTy.f32 897988541#32 = ((8796093 / 2 ^ 43 : ℝ) : EReal) := by
  unfold Ideal.ofBits
  simp [Ideal.ieee]
  rw [← EReal.coe_mul]
  norm_num

theorem neg_half : Ideal.ofBits FTy.f32 3204448256#32 = ((-1 / 2 : ℝ) : EReal) := by
  unfold Ideal.ofBits
  simp [Ideal.ieee]
  rw [← EReal.coe_mul]
  norm_num

/-- An array whose elements are real numbers. -/
def Reals {α : Type} (f : α → EReal) : Prop := ∀ i, ∃ r : ℝ, f i = (r : EReal)

theorem Reals.choose {α : Type} {f : α → EReal} (h : Reals f) : ∃ g : α → ℝ, ∀ i, f i = (g i : EReal) := Classical.skolem.mp h

/-- The mean of squares plus epsilon of a real row. -/
def msr (x : Fin 1024 → ℝ) : ℝ := (∑ k, x k * x k) * (1 / 1024) + 8796093 / 2 ^ 43

theorem msr_pos (x : Fin 1024 → ℝ) : 0 < msr x := by
  have : 0 ≤ ∑ k, x k * x k := Finset.sum_nonneg fun k _ => mul_self_nonneg _
  unfold msr
  positivity

theorem ms_coe (x : Fin 1024 → ℝ) : Cert.InBwd.ms (fun k => (x k : EReal)) = (msr x : EReal) := by
  unfold Cert.InBwd.ms msr
  rw [lanes, eps, Ideal.div_coe (by norm_num)]
  simp only [← EReal.coe_mul, coe_sum, ← EReal.coe_add]

theorem rsqrt_ms_coe (x : Fin 1024 → ℝ) : Ideal.rsqrt (Cert.InBwd.ms fun k => (x k : EReal)) = (((√(msr x))⁻¹ : ℝ) : EReal) := by
  have h := msr_pos x
  rw [ms_coe, Ideal.rsqrt_coe, if_neg (not_lt.mpr h.le), if_neg h.ne']

theorem tb_coe (x d : Fin 1024 → ℝ) : Cert.InBwd.tb (fun k => (x k : EReal)) (fun k => (d k : EReal))
    = (((∑ k, x k * d k) * (-1 / 2 * ((√(msr x))⁻¹ * (1 / msr x))) * (1 / 1024) : ℝ) : EReal) := by
  unfold Cert.InBwd.tb
  rw [rsqrt_ms_coe, ms_coe, Ideal.div_coe (msr_pos x).ne', neg_half, lanes, Ideal.div_coe (by norm_num)]
  simp only [← EReal.coe_mul, coe_sum]

/-- The norm's gradient at one element of a row: the normalised row's form is the form that differentiates the mean of squares. -/
theorem row (x d : Fin 1024 → ℝ) (u : EReal) (j : Fin 1024) :
    u + Ideal.rsqrt (Cert.InBwd.ms fun k => (x k : EReal)) * ((d j : EReal)
      - (x j : EReal) * Ideal.rsqrt (Cert.InBwd.ms fun k => (x k : EReal))
        * Ideal.div (∑ k, (d k : EReal) * ((x k : EReal) * Ideal.rsqrt (Cert.InBwd.ms fun k => (x k : EReal))))
          (Ideal.ofBits FTy.f32 1149239296#32))
    = u + (d j : EReal) * Ideal.rsqrt (Cert.InBwd.ms fun k => (x k : EReal))
      + (x j : EReal) * Cert.InBwd.tb (fun k => (x k : EReal)) (fun k => (d k : EReal))
      + Cert.InBwd.tb (fun k => (x k : EReal)) (fun k => (d k : EReal)) * (x j : EReal) := by
  have h := msr_pos x
  rw [tb_coe, rsqrt_ms_coe, lanes, Ideal.div_coe (by norm_num), add_assoc, add_assoc]
  congr 1
  simp only [← EReal.coe_mul, coe_sum, ← EReal.coe_add, ← EReal.coe_sub]
  congr 1
  have hs : ∑ k, d k * (x k * (√(msr x))⁻¹) = (∑ k, x k * d k) * (√(msr x))⁻¹ := by
    rw [Finset.sum_mul]
    exact Finset.sum_congr rfl fun k _ => by ring
  have hr : 1 / msr x = (√(msr x))⁻¹ * (√(msr x))⁻¹ := by
    rw [← mul_inv, Real.mul_self_sqrt h.le, one_div]
  rw [hs, hr]
  ring

end Cert.Lift

end
-- ==== Proof.InKer.lean ====
/- The kernel's four results: what each grid point computes of the rows it holds. -/
module

public import proofs.«01_k».proof.Proof.Gen.KernelIdeal.Value
public import proofs.«01_k».proof.Proof.Lift
public import Idealize.ShloMosaic.Lib.Pipeline.ValueKit

@[expose] public section

set_option maxRecDepth 16384

noncomputable section

namespace Cert.KernelIdeal.InBwd

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] ∧ win0_10.index t = ![t.val, 0]
    ∧ win0_11.index t = ![0, 0] ∧ win0_12.index t = ![0, 0] ∧ win0_13.index t = ![0, 0] :=
  (by decide +kernel : ∀ t : Fin grid0.N, _)

theorem p1 (v30 v32 v33 v62 v65) (r : Fin 512) (j : Fin 1024) : k0_pay1 (F := Ideal) v30 v32 v33 v62 v65 (ix2 r j)
    = v65 (ix2 r j) + v30 (ix2 r 0) * (v62 (ix2 r j) * v33 (ix2 0 j) - v32 (ix2 r j)
      * Ideal.div (∑ x : Fin 1024, v62 (ix2 r x) * v33 (ix2 0 x) * v32 (ix2 r x)) (Ideal.ofBits FTy.f32 1149239296#32)) := by
  pointwise [k0_pay1]

theorem p2 (v0 v1 v3 v4 v7 v8 v11 v12 v15 v16) (r : Fin 512) (j : Fin 1024) :
    k0_pay2 (F := Ideal) v0 v1 v3 v4 v7 v8 v11 v12 v15 v16 (ix2 r j)
    = ∑ x : Fin 1024, v0 (ix2 r x) * v1 (ix2 j x) + ∑ x : Fin 512, v3 (ix2 r x) * v4 (ix2 j x)
      + ∑ x : Fin 1024, v7 (ix2 r x) * v8 (ix2 j x) + ∑ x : Fin 2048, v11 (ix2 r x) * v12 (ix2 j x)
      + ∑ x : Fin 2048, v15 (ix2 r x) * v16 (ix2 j x) := by
  pointwise [k0_pay2]

theorem p8 (x) (r : Fin 512) (z : Fin 1) : k0_pay8 (F := Ideal) (k0_pay6 x) k0_pay7 (ix2 r z)
    = Ideal.rsqrt (Cert.InBwd.ms fun k => x (ix2 r k)) := by
  pointwise [k0_pay8, k0_pay7, k0_pay6, Cert.InBwd.ms]

theorem p9 (x) (r : Fin 512) (j : Fin 1024) : k0_pay9 (F := Ideal) x (k0_pay6 x) k0_pay7 (ix2 r j)
    = x (ix2 r j) * Ideal.rsqrt (Cert.InBwd.ms fun k => x (ix2 r k)) := by
  pointwise [k0_pay9, k0_pay8, k0_pay7, k0_pay6, Cert.InBwd.ms]

theorem p14 (D a) (r : Fin 512) (j : Fin 1024) : k0_pay14 (F := Ideal) D a (ix2 r j) = D (ix2 r j) * (1 + a (ix2 0 j)) := by
  pointwise [k0_pay14, k0_pay10]

theorem p11 (D s) (y : S1x1024.Idx) : k0_pay11 (F := Ideal) D s y = s y + ∑ x : Fin 512, D (ix2 x (y 1)) := by
  pointwise [k0_pay11]

theorem p12 (D x g s) (y : S1x1024.Idx) : k0_pay12 (F := Ideal) D x (k0_pay6 x) k0_pay7 g s y
    = s y + ∑ r : Fin 512, D (ix2 r (y 1)) * (x (ix2 r (y 1)) * Ideal.rsqrt (Cert.InBwd.ms fun k => x (ix2 r k)) * g (ix2 0 (y 1))) := by
  pointwise [k0_pay12, k0_pay9, k0_pay8, k0_pay7, k0_pay6, Cert.InBwd.ms]

theorem p13 (D x a s) (y : S1x1024.Idx) : k0_pay13 (F := Ideal) D x (k0_pay6 x) k0_pay7 a s y
    = s y + ∑ r : Fin 512, D (ix2 r (y 1)) * (1 + a (ix2 0 (y 1))) * (x (ix2 r (y 1)) * Ideal.rsqrt (Cert.InBwd.ms fun k => x (ix2 r k))) := by
  pointwise [k0_pay13, k0_pay10, k0_pay9, k0_pay8, k0_pay7, k0_pay6, Cert.InBwd.ms]

theorem p3 (y : S1x1024.Idx) : k0_pay3 (F := Ideal) y = 0 := by
  pointwise [k0_pay3]

theorem p4 (y : S1x1024.Idx) : k0_pay4 (F := Ideal) y = 0 := by
  pointwise [k0_pay4]

theorem p5 (y : S1x1024.Idx) : k0_pay5 (F := Ideal) y = 0 := by
  pointwise [k0_pay5]

variable (c : Dev nD)

/-- The cotangent of the normalised activations, of the arguments in memory. -/
def D : FVec Ideal Cert.ReferenceIdeal.S1x4096x1024 .f32 := Cert.InBwd.DH (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5))

/-- The same cotangent on the rows that a grid point holds. -/
def dhk (t : Fin cfg0.N) : FVec Ideal S512x1024 .f32 :=
  k0_pay2 (iblk m c 0 t) (View.ld (iblk m c 5 t) (Rect.unit ![0, 0] ![1024, 1024] inb_S1024x6656_S1024x1024_0_0))
    (iblk m c 1 t) (View.ld (iblk m c 5 t) (Rect.unit ![0, 1024] ![1024, 512] inb_S1024x6656_S1024x512_0_1024))
    (iblk m c 2 t) (View.ld (iblk m c 5 t) (Rect.unit ![0, 1536] ![1024, 1024] inb_S1024x6656_S1024x1024_0_1536))
    (iblk m c 3 t) (View.ld (iblk m c 5 t) (Rect.unit ![0, 2560] ![1024, 2048] inb_S1024x6656_S1024x2048_0_2560))
    (iblk m c 4 t) (View.ld (iblk m c 5 t) (Rect.unit ![0, 4608] ![1024, 2048] inb_S1024x6656_S1024x2048_0_4608))

theorem lt8 (t : Fin cfg0.N) : t.val < 8 := lt_of_lt_of_eq t.isLt (by decide +kernel)

theorem dhk_at (t : Fin cfg0.N) (r : Fin 512) (j : Fin 1024) :
    dhk m c t (ix2 r j) = D m c (ix3 0 ⟨512 * t.val + r.val, by have := lt8 t; omega⟩ j) := by
  unfold dhk D
  rw [p2, Cert.InBwd.DH_at]
  blk_point [iblk, V, idx t]

theorem x_at (t : Fin cfg0.N) (r : Fin 512) (j : Fin 1024) :
    (iblk m c 6 t : FVec Ideal S512x1024 .f32) (ix2 r j)
      = (m ((c.tc : Thread nD τ).loc main_arg6) : FVec Ideal S4096x1024 .f32) (ix2 ⟨512 * t.val + r.val, by have := lt8 t; omega⟩ j) := by
  blk_point [iblk, V, idx t]

theorem u_at (t : Fin cfg0.N) (r : Fin 512) (j : Fin 1024) :
    (iblk m c 7 t : FVec Ideal S512x1024 .f32) (ix2 r j)
      = (m ((c.tc : Thread nD τ).loc main_arg7) : FVec Ideal S4096x1024 .f32) (ix2 ⟨512 * t.val + r.val, by have := lt8 t; omega⟩ j) := by
  blk_point [iblk, V, idx t]

theorem a_at (t : Fin cfg0.N) (j : Fin 1024) :
    (View.ld (iblk m c 8 t) (Rect.unit ![0, 1024] ![1, 1024] inb_S1x3072_S1x1024_0_1024) : FVec Ideal S1x1024 .f32) (ix2 0 j)
      = (m ((c.tc : Thread nD τ).loc main_arg8) : FVec Ideal S1x3072 .f32) (ix2 0 ⟨1024 + j.val, by omega⟩) := by
  blk_point [iblk, V, idx t]

theorem g_at (t : Fin cfg0.N) (j : Fin 1024) :
    (iblk m c 9 t : FVec Ideal S1x1024 .f32) (ix2 0 j) = (m ((c.tc : Thread nD τ).loc main_arg9) : FVec Ideal S1x1024 .f32) (ix2 0 j) := by
  blk_point [iblk, V, idx t]

/-- A row's place in the whole array. -/
abbrev rw8 (s : Fin 8) (k : Fin 512) : Fin 4096 := ⟨s.val * 512 + k.val, by omega⟩

theorem dhk_at' (t : Fin cfg0.N) (s : Fin 8) (h : t.val = s.val) (r : Fin 512) (j : Fin 1024) :
    dhk m c t (ix2 r j) = D m c (ix3 0 (rw8 s r) j) := by
  rw [dhk_at]
  exact congrArg (fun k => D m c (ix3 0 k j)) (Fin.ext (by simp; omega))

theorem x_at' (t : Fin cfg0.N) (s : Fin 8) (h : t.val = s.val) (r : Fin 512) (j : Fin 1024) :
    (iblk m c 6 t : FVec Ideal S512x1024 .f32) (ix2 r j)
      = (m ((c.tc : Thread nD τ).loc main_arg6) : FVec Ideal S4096x1024 .f32) (ix2 (rw8 s r) j) := by
  rw [x_at]
  exact congrArg (fun k => (m ((c.tc : Thread nD τ).loc main_arg6) : FVec Ideal S4096x1024 .f32) (ix2 k j)) (Fin.ext (by simp; omega))

/-- A grid point's rows, the scale and the norm's weight, as the point reads them. -/
abbrev xv (t : Fin cfg0.N) (r : Fin 512) (j : Fin 1024) : EReal := (iblk m c 6 t : FVec Ideal S512x1024 .f32) (ix2 r j)
abbrev gv (t : Fin cfg0.N) (j : Fin 1024) : EReal := (iblk m c 9 t : FVec Ideal S1x1024 .f32) (ix2 0 j)
abbrev av (t : Fin cfg0.N) (j : Fin 1024) : EReal :=
  (View.ld (iblk m c 8 t) (Rect.unit ![0, 1024] ![1, 1024] inb_S1x3072_S1x1024_0_1024) : FVec Ideal S1x1024 .f32) (ix2 0 j)

theorem eta (y : S1x1024.Idx) : y = ix2 0 (y 1) := by
  funext a
  fin_cases a
  · exact Subsingleton.elim (α := Fin 1) _ _
  · rfl

/-- The rows, the modulation row and the norm's weight in memory. -/
abbrev X (i : S4096x1024.Idx) : EReal := (m ((c.tc : Thread nD τ).loc main_arg6) : FVec Ideal S4096x1024 .f32) i
abbrev A (i : S1x3072.Idx) : EReal := (m ((c.tc : Thread nD τ).loc main_arg8) : FVec Ideal S1x3072 .f32) i
abbrev G (i : S1x1024.Idx) : EReal := (m ((c.tc : Thread nD τ).loc main_arg9) : FVec Ideal S1x1024 .f32) i

theorem part12 (t : Fin cfg0.N) (s : Fin 8) (h : t.val = s.val) (r : Fin 512) (j : Fin 1024) :
    dhk m c t (ix2 r j) * (xv m c t r j * Ideal.rsqrt (Cert.InBwd.ms fun k => xv m c t r k) * gv m c t j)
    = X m c (ix2 (rw8 s r) j)
      * Ideal.rsqrt (Cert.InBwd.ms fun k => X m c (ix2 (rw8 s r) k))
      * G m c (ix2 0 j) * D m c (ix3 0 (rw8 s r) j) := by
  rw [dhk_at' m c t s h, show gv m c t j = G m c (ix2 0 j) from g_at m c t j, mul_comm]
  simp only [show ∀ k, xv m c t r k = X m c (ix2 (rw8 s r) k) from x_at' m c t s h r]

theorem part13 (t : Fin cfg0.N) (s : Fin 8) (h : t.val = s.val) (r : Fin 512) (j : Fin 1024) :
    dhk m c t (ix2 r j) * (1 + av m c t j) * (xv m c t r j * Ideal.rsqrt (Cert.InBwd.ms fun k => xv m c t r k))
    = X m c (ix2 (rw8 s r) j)
      * Ideal.rsqrt (Cert.InBwd.ms fun k => X m c (ix2 (rw8 s r) k))
      * (D m c (ix3 0 (rw8 s r) j)
        * (1 + A m c (ix2 0 ⟨1024 + j.val, by omega⟩))) := by
  rw [dhk_at' m c t s h, show av m c t j = A m c (ix2 0 ⟨1024 + j.val, by omega⟩) from a_at m c t j, mul_comm]
  simp only [show ∀ k, xv m c t r k = X m c (ix2 (rw8 s r) k) from x_at' m c t s h r]

theorem last11 (t : Fin cfg0.N) (hf : t.val % 8 = 7) (j : Fin 1024) : (outsAt0 m c t.val t.isLt).2.1 (ix2 0 j)
    = Cert.InBwd.GSH (D m c) (ix2 0 j) := by
  rw [Cert.InBwd.GSH_at]
  rw [Pipeline.eq_sum_fin_of_reset_step_apply_of_flush (fun n h => (outsAt0 m c n h).2.1) 8 (fun _ => 0)
    (fun t y => ∑ x : Fin 512, dhk m c t (ix2 x (y 1)))
    (fun t h j => by rw [outsAt0_A m c t h]; frame_out; exact (p11 _ _ _).trans (congrArg (· + _) (p3 _)))
    (fun t h j => by rw [outsAt0_B m c t h]; frame_out; exact p11 _ _ _) t hf _, zero_add]
  exact Fin.sum_mul_add_congr fun s k hl => dhk_at' m c _ s (by have := lt8 t; simp; omega) k _

theorem final11 : (dats m 0 c).arrAt 11 cfg0.N
    = Cert.InBwd.GSH (D m c) := by
  refine (dats m 0 c).arrAt_eq_of_covers 11 _ (by decide +kernel) fun t hf y => ?_
  have hy : (win0_11.blk t).view.emb y = (ix2 0 ((show S1x1024.Idx from y) 1) : S1x1024.Idx) := by
    blk_point [iblk, V, idx t]
  blk_simp
  rw [after0_11]
  have hl : ∀ y : S1x1024.Idx, (outsAt0 m c t.val t.isLt).2.1 y = Cert.InBwd.GSH (D m c) (ix2 0 (y 1)) := fun y =>
    (congrArg _ (eta y)).trans (last11 m c t ((flush0_11 t).mp hf) (y 1))
  exact (hl y).trans (congrArg (Cert.InBwd.GSH (D m c)) hy.symm)

theorem last12 (t : Fin cfg0.N) (hf : t.val % 8 = 7) (j : Fin 1024) : (outsAt0 m c t.val t.isLt).2.2.1 (ix2 0 j)
    = Cert.InBwd.GSC (D m c) (m ((c.tc : Thread nD τ).loc main_arg6)) (m ((c.tc : Thread nD τ).loc main_arg9)) (ix2 0 j) := by
  rw [Cert.InBwd.GSC_at]
  rw [Pipeline.eq_sum_fin_of_reset_step_apply_of_flush (fun n h => (outsAt0 m c n h).2.2.1) 8 (fun _ => 0)
    (fun t y => ∑ r : Fin 512, dhk m c t (ix2 r (y 1)) * (xv m c t r (y 1)
      * Ideal.rsqrt (Cert.InBwd.ms fun k => xv m c t r k)
      * gv m c t (y 1)))
    (fun t h j => by rw [outsAt0_A m c t h]; frame_out; exact (p12 _ _ _ _ _).trans (congrArg (· + _) (p4 _)))
    (fun t h j => by rw [outsAt0_B m c t h]; frame_out; exact p12 _ _ _ _ _) t hf _, zero_add]
  refine Fin.sum_mul_add_congr fun s k hl => ?_
  have hs : 8 * (t.val / 8) + s.val = s.val := by have := lt8 t; omega
  exact part12 m c _ s hs k j

theorem final12 : (dats m 0 c).arrAt 12 cfg0.N
    = Cert.InBwd.GSC (D m c) (m ((c.tc : Thread nD τ).loc main_arg6)) (m ((c.tc : Thread nD τ).loc main_arg9)) := by
  refine (dats m 0 c).arrAt_eq_of_covers 12 _ (by decide +kernel) fun t hf y => ?_
  have hy : (win0_12.blk t).view.emb y = (ix2 0 ((show S1x1024.Idx from y) 1) : S1x1024.Idx) := by
    blk_point [iblk, V, idx t]
  blk_simp
  rw [after0_12]
  have hl : ∀ y : S1x1024.Idx, (outsAt0 m c t.val t.isLt).2.2.1 y = Cert.InBwd.GSC (D m c) (m ((c.tc : Thread nD τ).loc main_arg6)) (m ((c.tc : Thread nD τ).loc main_arg9)) (ix2 0 (y 1)) := fun y =>
    (congrArg _ (eta y)).trans (last12 m c t ((flush0_12 t).mp hf) (y 1))
  exact (hl y).trans (congrArg (Cert.InBwd.GSC (D m c) (m ((c.tc : Thread nD τ).loc main_arg6)) (m ((c.tc : Thread nD τ).loc main_arg9))) hy.symm)

theorem last13 (t : Fin cfg0.N) (hf : t.val % 8 = 7) (j : Fin 1024) : (outsAt0 m c t.val t.isLt).2.2.2 (ix2 0 j)
    = Cert.InBwd.GNG (D m c) (m ((c.tc : Thread nD τ).loc main_arg6)) (m ((c.tc : Thread nD τ).loc main_arg8)) (ix2 0 j) := by
  rw [Cert.InBwd.GNG_at]
  rw [Pipeline.eq_sum_fin_of_reset_step_apply_of_flush (fun n h => (outsAt0 m c n h).2.2.2) 8 (fun _ => 0)
    (fun t y => ∑ r : Fin 512, dhk m c t (ix2 r (y 1))
      * (1 + av m c t (y 1))
      * (xv m c t r (y 1)
        * Ideal.rsqrt (Cert.InBwd.ms fun k => xv m c t r k)))
    (fun t h j => by rw [outsAt0_A m c t h]; frame_out; exact (p13 _ _ _ _ _).trans (congrArg (· + _) (p5 _)))
    (fun t h j => by rw [outsAt0_B m c t h]; frame_out; exact p13 _ _ _ _ _) t hf _, zero_add]
  refine Fin.sum_mul_add_congr fun s k hl => ?_
  have hs : 8 * (t.val / 8) + s.val = s.val := by have := lt8 t; omega
  exact part13 m c _ s hs k j

theorem final13 : (dats m 0 c).arrAt 13 cfg0.N
    = Cert.InBwd.GNG (D m c) (m ((c.tc : Thread nD τ).loc main_arg6)) (m ((c.tc : Thread nD τ).loc main_arg8)) := by
  refine (dats m 0 c).arrAt_eq_of_covers 13 _ (by decide +kernel) fun t hf y => ?_
  have hy : (win0_13.blk t).view.emb y = (ix2 0 ((show S1x1024.Idx from y) 1) : S1x1024.Idx) := by
    blk_point [iblk, V, idx t]
  blk_simp
  rw [after0_13]
  have hl : ∀ y : S1x1024.Idx, (outsAt0 m c t.val t.isLt).2.2.2 y = Cert.InBwd.GNG (D m c) (m ((c.tc : Thread nD τ).loc main_arg6)) (m ((c.tc : Thread nD τ).loc main_arg8)) (ix2 0 (y 1)) := fun y =>
    (congrArg _ (eta y)).trans (last13 m c t ((flush0_13 t).mp hf) (y 1))
  exact (hl y).trans (congrArg (Cert.InBwd.GNG (D m c) (m ((c.tc : Thread nD τ).loc main_arg6)) (m ((c.tc : Thread nD τ).loc main_arg8))) hy.symm)

open Cert.Lift

/-- What a grid point stores of the gradient of the rows, in either case. -/
theorem gx_after (t : Fin cfg0.N) (y : S512x1024.Idx) : (outsAt0 m c t.val t.isLt).1 y
    = k0_pay1 (k0_pay8 (k0_pay6 (iblk m c 6 t)) k0_pay7) (k0_pay9 (iblk m c 6 t) (k0_pay6 (iblk m c 6 t)) k0_pay7) (iblk m c 9 t)
      (k0_pay14 (dhk m c t) (View.ld (iblk m c 8 t) (Rect.unit ![0, 1024] ![1, 1024] inb_S1x3072_S1x1024_0_1024))) (iblk m c 7 t) y := by
  by_cases h : t.val % 8 = 0
  · rw [outsAt0_A m c t h]; frame_out; rfl
  · rw [outsAt0_B m c t h]; frame_out; rfl

theorem D_real (h0 : Reals (m ((c.tc : Thread nD τ).loc main_arg0) : FVec Ideal S4096x1024 .bf16))
    (h1 : Reals (m ((c.tc : Thread nD τ).loc main_arg1) : FVec Ideal S4096x512 .bf16))
    (h2 : Reals (m ((c.tc : Thread nD τ).loc main_arg2) : FVec Ideal S4096x1024 .bf16))
    (h3 : Reals (m ((c.tc : Thread nD τ).loc main_arg3) : FVec Ideal S4096x2048 .bf16))
    (h4 : Reals (m ((c.tc : Thread nD τ).loc main_arg4) : FVec Ideal S4096x2048 .bf16))
    (h5 : Reals (m ((c.tc : Thread nD τ).loc main_arg5) : FVec Ideal S1024x6656 .bf16)) (i : Fin 4096) (j : Fin 1024) :
    ∃ r : ℝ, D m c (ix3 0 i j) = (r : EReal) := by
  obtain ⟨b0, h0⟩ := h0.choose
  obtain ⟨b1, h1⟩ := h1.choose
  obtain ⟨b2, h2⟩ := h2.choose
  obtain ⟨b3, h3⟩ := h3.choose
  obtain ⟨b4, h4⟩ := h4.choose
  obtain ⟨b5, h5⟩ := h5.choose
  unfold D
  rw [Cert.InBwd.DH_at]
  simp only [h0, h1, h2, h3, h4, h5, ← EReal.coe_mul, coe_sum, ← EReal.coe_add]
  exact ⟨_, rfl⟩

theorem rows10 (hD : ∀ i j, ∃ r : ℝ, D m c (ix3 0 i j) = (r : EReal))
    (h6 : Reals (m ((c.tc : Thread nD τ).loc main_arg6) : FVec Ideal S4096x1024 .f32))
    (h8 : Reals (m ((c.tc : Thread nD τ).loc main_arg8) : FVec Ideal S1x3072 .f32))
    (h9 : Reals (m ((c.tc : Thread nD τ).loc main_arg9) : FVec Ideal S1x1024 .f32))
    (t : Fin cfg0.N) (r : Fin 512) (j : Fin 1024) : (outsAt0 m c t.val t.isLt).1 (ix2 r j) = Cert.InBwd.GX (D m c) (m ((c.tc : Thread nD τ).loc main_arg6))
    (m ((c.tc : Thread nD τ).loc main_arg7)) (m ((c.tc : Thread nD τ).loc main_arg8)) (m ((c.tc : Thread nD τ).loc main_arg9))
      (ix2 ⟨512 * t.val + r.val, by have := lt8 t; omega⟩ j) := by
  obtain ⟨bx, h6⟩ := h6.choose
  obtain ⟨ba, h8⟩ := h8.choose
  obtain ⟨bg, h9⟩ := h9.choose
  choose bd hd using hD
  rw [Cert.InBwd.GX_at, gx_after, p1]
  simp only [p8, p9, p14, dhk_at, x_at, u_at, a_at, g_at]
  simp only [h6, h8, h9, hd, ← EReal.coe_one, ← EReal.coe_add, ← EReal.coe_mul]
  exact row (fun k => bx (ix2 ⟨512 * t.val + r.val, by have := lt8 t; omega⟩ k)) _ _ j

theorem final10 (hD : ∀ i j, ∃ r : ℝ, D m c (ix3 0 i j) = (r : EReal))
    (h6 : Reals (m ((c.tc : Thread nD τ).loc main_arg6) : FVec Ideal S4096x1024 .f32))
    (h8 : Reals (m ((c.tc : Thread nD τ).loc main_arg8) : FVec Ideal S1x3072 .f32))
    (h9 : Reals (m ((c.tc : Thread nD τ).loc main_arg9) : FVec Ideal S1x1024 .f32)) :
    (dats m 0 c).arrAt 10 cfg0.N = Cert.InBwd.GX (D m c) (m ((c.tc : Thread nD τ).loc main_arg6))
    (m ((c.tc : Thread nD τ).loc main_arg7)) (m ((c.tc : Thread nD τ).loc main_arg8)) (m ((c.tc : Thread nD τ).loc main_arg9)) := by
  refine (dats m 0 c).arrAt_eq_of_covers 10 _ (by decide +kernel) fun t hf y => ?_
  have e : ∀ y : S512x1024.Idx, (win0_10.blk t).view.emb y
      = (ix2 ⟨512 * t.val + (y 0).val, by have := lt8 t; have := (y 0).isLt; simp at *; omega⟩ (y 1) : S4096x1024.Idx) := fun y => by
    blk_point [iblk, V, idx t]
  blk_simp
  rw [after0_10]
  have hr : ∀ y : S512x1024.Idx, (outsAt0 m c t.val t.isLt).1 y = Cert.InBwd.GX (D m c) (m ((c.tc : Thread nD τ).loc main_arg6))
    (m ((c.tc : Thread nD τ).loc main_arg7)) (m ((c.tc : Thread nD τ).loc main_arg8)) (m ((c.tc : Thread nD τ).loc main_arg9))
      (ix2 ⟨512 * t.val + (y 0).val, by have := lt8 t; have := (y 0).isLt; simp at *; omega⟩ (y 1)) := fun y => by
    have := rows10 m c hD h6 h8 h9 t (y 0) (y 1)
    rwa [show (ix2 (y 0) (y 1) : S512x1024.Idx) = y from by idx_vars y] at this
  exact (hr y).trans (congrArg (Cert.InBwd.GX (D m c) (m ((c.tc : Thread nD τ).loc main_arg6))
    (m ((c.tc : Thread nD τ).loc main_arg7)) (m ((c.tc : Thread nD τ).loc main_arg8)) (m ((c.tc : Thread nD τ).loc main_arg9))) (e y).symm)

end Cert.KernelIdeal.InBwd

end
-- ==== Proof.InRun.lean ====
/- The reference's run, its results named. -/
module

public import proofs.«01_k».proof.Proof.InRef
public import Idealize.ShloMosaic.Lib.Claim
public import Idealize.ShloMosaic.Lib.Quiescent

@[expose] public section

set_option maxRecDepth 16384

noncomputable section

namespace Cert.InBwd

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- The cotangent of the normalised activations, of the arguments in memory. -/
def DM (c : Dev nD) : FVec Ideal S1x4096x1024 .f32 := DH (m ((c.tc : Thread nD τ).loc main_arg0))
  (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5))

theorem run : θ_run defs (onTc (τ := τ) (main (F := Ideal))) ⟨m, fun _ => 0, ρ⟩ fun r => ∀ c : Dev nD,
    r.2.mem ((c.tc : Thread nD τ).loc main_v69) = GX (DM m c) (m ((c.tc : Thread nD τ).loc main_arg6))
      (m ((c.tc : Thread nD τ).loc main_arg7)) (m ((c.tc : Thread nD τ).loc main_arg8)) (m ((c.tc : Thread nD τ).loc main_arg9))
    ∧ r.2.mem ((c.tc : Thread nD τ).loc main_v39) = GSH (DM m c)
    ∧ r.2.mem ((c.tc : Thread nD τ).loc main_v46) = GSC (DM m c) (m ((c.tc : Thread nD τ).loc main_arg6)) (m ((c.tc : Thread nD τ).loc main_arg9))
    ∧ r.2.mem ((c.tc : Thread nD τ).loc main_v70) = GNG (DM m c) (m ((c.tc : Thread nD τ).loc main_arg6)) (m ((c.tc : Thread nD τ).loc main_arg8))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run defs _ _).mono (fun _ h c => ⟨(h c).1.trans rfl, (h c).2.1.trans rfl, (h c).2.2.1.trans rfl, (h c).2.2.2.1.trans rfl, (h c).2.2.2.2⟩)
    (Cert.ReferenceIdeal.Value.run m ρ)

end Cert.InBwd

end
-- ==== Proof.Pre.lean ====
/- What the precondition says: every element of the arrays it names is a real number. -/
module

public import proofs.«01_k».proof.Proof.Lift
public import proofs.«01_k».proof.Defs

@[expose] public section

set_option maxRecDepth 16384

noncomputable section

namespace Cert.Lift

open Idealize.ShloMosaic

theorem top_bits : Ideal.ofBits FTy.f32 2139095040#32 = (⊤ : EReal) := by
  unfold Ideal.ofBits
  simp [Ideal.ieee]

theorem real_of_lt {x : EReal} (h : max x (-x) < ⊤) : ∃ r : ℝ, x = (r : EReal) := by
  induction x using EReal.rec with
  | bot => simp at h
  | top => simp at h
  | coe r => exact ⟨r, rfl⟩

theorem reals_of_all {s t u w : Shape} {axes : List (Fin s.rank)} [Subsingleton t.Idx] (x : FVec Ideal s .f32) (init : u.Idx → BitVec 1)
    {d : Fin w.rank → Fin s.rank} (hb : w.BroadcastsInDim s d) (h : s.ReducesTo axes t) (hu : 0 < u.numel) (j : t.Idx)
    (e : Host.reduce IntOp.andi (cmpf .olt (Host.absf x) (broadcastInDim s d hb (constant w .f32 0x7F800000#32))) init h hu j = 1#1) :
    Reals (fun i => (x i : EReal)) := fun i => by
  have h1 := Host.reduce_andi_all _ _ _ _ _ e i
  change BitVec.ofBool (decide (max (x i) (-(x i)) < Ideal.ofBits FTy.f32 2139095040#32)) = 1#1 at h1
  rw [top_bits] at h1
  refine real_of_lt (x := x i) ?_
  by_contra hn
  rw [decide_eq_false hn] at h1
  exact absurd h1 (by decide)

/-- Two arrays of one bit each, both one, when their conjunction is. -/
theorem and_one {s : Shape} {a b : IVec s 1} {j : s.Idx} (h : andi a b j = 1#1) : a j = 1#1 ∧ b j = 1#1 := IntOp.andi_eq_one.1 h

instance facts : Cert.Pre_reals.Facts where
  bitsLt_bf16_f32 := by decide
  bcast_S_S4096x1024 := by decide
  reducesTo_S4096x1024_S_d0_1 := by decide
  h_S_ := by decide
  bcast_S_S4096x512 := by decide
  reducesTo_S4096x512_S_d0_1 := by decide
  bcast_S_S4096x2048 := by decide
  reducesTo_S4096x2048_S_d0_1 := by decide
  bcast_S_S1024x6656 := by decide
  reducesTo_S1024x6656_S_d0_1 := by decide
  bcast_S_S1x3072 := by decide
  reducesTo_S1x3072_S_d0_1 := by decide
  bcast_S_S1x1024 := by decide
  reducesTo_S1x1024_S_d0_1 := by decide

variable (a0 : FVec Ideal Cert.Pre_reals.S4096x1024 .bf16) (a1 : FVec Ideal Cert.Pre_reals.S4096x512 .bf16)
  (a2 : FVec Ideal Cert.Pre_reals.S4096x1024 .bf16) (a3 a4 : FVec Ideal Cert.Pre_reals.S4096x2048 .bf16)
  (a5 : FVec Ideal Cert.Pre_reals.S1024x6656 .bf16) (a6 a7 : FVec Ideal Cert.Pre_reals.S4096x1024 .f32)
  (a8 : FVec Ideal Cert.Pre_reals.S1x3072 .f32) (a9 : FVec Ideal Cert.Pre_reals.S1x1024 .f32)

theorem reals_of_pre (h : Cert.Pre_reals.fn (F := Ideal) a0 a1 a2 a3 a4 a5 a6 a7 a8 a9 = fun _ => 1#1) :
    Reals a0 ∧ Reals a1 ∧ Reals a2 ∧ Reals a3 ∧ Reals a4 ∧ Reals a5 ∧ Reals a6 ∧ Reals a8 ∧ Reals a9 := by
  have h0 := congrFun h (fun a : Fin 0 => a.elim0)
  unfold Cert.Pre_reals.fn Cert.Pre_reals.fn_part1 Cert.Pre_reals.fn_part2 at h0
  obtain ⟨h0, h9⟩ := and_one h0
  obtain ⟨h0, h8⟩ := and_one h0
  obtain ⟨h0, h6⟩ := and_one h0
  obtain ⟨h0, h5⟩ := and_one h0
  obtain ⟨h0, h4⟩ := and_one h0
  obtain ⟨h0, h3⟩ := and_one h0
  obtain ⟨h0, h2⟩ := and_one h0
  obtain ⟨h0, h1⟩ := and_one h0
  haveI : Subsingleton Cert.Pre_reals.S_.Idx := ⟨fun a b => funext fun k => k.elim0⟩
  exact ⟨reals_of_all _ _ _ _ _ _ h0, reals_of_all _ _ _ _ _ _ h1, reals_of_all _ _ _ _ _ _ h2, reals_of_all _ _ _ _ _ _ h3,
    reals_of_all _ _ _ _ _ _ h4, reals_of_all _ _ _ _ _ _ h5, reals_of_all _ _ _ _ _ _ h6, reals_of_all _ _ _ _ _ _ h8,
    reals_of_all _ _ _ _ _ _ h9⟩

end Cert.Lift

end
-- ==== Proof.MergeRef.lean ====
/- The merge of the two branches, the loss head and their gradient as the plain program computes them: named arrays, and each array at an index. -/
module

public import proofs.«01_k».proof.Proof.Gen.Reference2Ideal.Run
public import proofs.«01_k».proof.Proof.Lift
public import Idealize.ShloMosaic.Lib.Pipeline.ValueKit

@[expose] public section

set_option maxRecDepth 16384

noncomputable section

namespace Cert.Merge

open Cert.Reference2Ideal Cert.Reference2Ideal.Gen Idealize.ShloMosaic Idealize.ShloMosaic.TcCoe Idealize.SL.Sem
open Cert.InBwd (hostReduceAdd_one ms tb)

/-- The ten arguments: the input rows, the target rows, what the two branches return, the projections, the three weights, the
modulation row and the last norm's weight. -/
structure Args where
  x : FVec Ideal S4096x1024 .f32
  t : FVec Ideal S4096x1024 .f32
  ya : FVec Ideal S4096x1024 .bf16
  yr : FVec Ideal S4096x1024 .bf16
  p : FVec Ideal S4096x6656 .f32
  wa : FVec Ideal S1024x1024 .bf16
  wr : FVec Ideal S1024x1024 .bf16
  wo : FVec Ideal S1024x1024 .bf16
  a : FVec Ideal S1x3072 .f32
  f : FVec Ideal S1x1024 .f32

variable (I : Args)

/-- One, all over the rows. -/
def ONE : FVec Ideal S4096x1024 .f32 := broadcastInDim S4096x1024 ![] bcast_S_S4096x1024 (constant S_ .f32 0x3F800000#32)

/-- The logistic function of an array. -/
def SIG (z : FVec Ideal S4096x1024 .f32) : FVec Ideal S4096x1024 .f32 := Host.divf ONE (addf ONE (Host.exp (Host.negf z)))

def SA : FVec Ideal S4096x1024 .f32 := SIG (extractStridedSlice S4096x1024 ![0, 4608] I.p slices_S4096x6656_S4096x1024_0_4608)
def SR : FVec Ideal S4096x1024 .f32 := SIG (extractStridedSlice S4096x1024 ![0, 5632] I.p slices_S4096x6656_S4096x1024_0_5632)

def PA : FVec Ideal S4096x1024 .f32 := Host.dotGeneral dot_S4096x1024_S1024x1024_S4096x1024_1_0_0_1_n_n none (extf .f32 I.ya bitsLt_bf16_f32) (extf .f32 I.wa bitsLt_bf16_f32)
def PR : FVec Ideal S4096x1024 .f32 := Host.dotGeneral dot_S4096x1024_S1024x1024_S4096x1024_1_0_0_1_n_n none (extf .f32 I.yr bitsLt_bf16_f32) (extf .f32 I.wr bitsLt_bf16_f32)

/-- The merged branches. -/
def MG : FVec Ideal S4096x1024 .f32 := addf (mulf (SA I) (PA I)) (mulf (SR I) (PR I))

def O : FVec Ideal S4096x1024 .f32 := Host.dotGeneral dot_S4096x1024_S1024x1024_S4096x1024_1_0_0_1_n_n none (MG I) (extf .f32 I.wo bitsLt_bf16_f32)

def GATE : FVec Ideal S1x1024 .f32 := extractStridedSlice S1x1024 ![0, 2048] I.a slices_S1x3072_S1x1024_0_2048
def GB : FVec Ideal S4096x1024 .f32 := broadcastInDim S4096x1024 ![0, 1] bcast_S1x1024_S4096x1024_0_1 (GATE I)

/-- The rows that reach the last norm. -/
def X2 : FVec Ideal S4096x1024 .f32 := addf I.x (mulf (GB I) (O I))

def MS2 : FVec Ideal S4096x1 .f32 :=
  addf (Host.divf (broadcastInDim S4096x1 ![0] bcast_S4096_S4096x1_0 (Host.reduceAdd (mulf (X2 I) (X2 I)) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

def RB2 : FVec Ideal S4096x1024 .f32 := broadcastInDim S4096x1024 ![0, 1] bcast_S4096x1_S4096x1024_0_1 (Host.rsqrt (MS2 I))
def XN : FVec Ideal S4096x1024 .f32 := mulf (X2 I) (RB2 I)

def FB : FVec Ideal S4096x1024 .f32 := broadcastInDim S4096x1024 ![0, 1] bcast_S1x1024_S4096x1024_0_1
  (broadcastInDim S1x1024 ![1] bcast_S1024_S1x1024_1 (shapeCast _ I.f shapeCasts_S1x1024_S1024))

/-- The error of the output. -/
def ER : FVec Ideal S4096x1024 .f32 := subf (mulf (XN I) (FB I)) I.t

/-- The gradient of the output. -/
def DY : FVec Ideal S4096x1024 .f32 :=
  mulf (broadcastInDim S4096x1024 ![0] bcast_S4096_S4096x1024_0 (Host.divf
    (broadcastInDim S4096 ![] bcast_S_S4096 (mulf (constant S_ .f32 0x3F000000#32) (constant S_ .f32 0x3F800000#32)))
    (broadcastInDim S4096 ![] bcast_S_S4096 (constant S_ .f32 0x44800000#32))))
    (mulf (broadcastInDim S4096x1024 ![] bcast_S_S4096x1024 (constant S_ .f32 0x40000000#32)) (ER I))

def DN : FVec Ideal S4096x1024 .f32 := mulf (DY I) (FB I)

/-- What reaches a row through its mean of squares. -/
def TB2 : FVec Ideal S4096x1024 .f32 :=
  broadcastInDim S4096x1024 ![0] bcast_S4096_S4096x1024_0 (Host.reduceAdd (Host.divf
    (mulf (shapeCast _ (Host.reduceAdd (mulf (X2 I) (DN I)) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (MS2 I)) (MS2 I))))
    (broadcastInDim S4096x1 ![] bcast_S_S4096x1 (constant S_ .f32 0x44800000#32))) (constant S_ .f32 0x00000000#32) reducesTo_S4096x1_S4096_d1 h_S_)

/-- The gradient of the rows. -/
def DX : FVec Ideal S4096x1024 .f32 := addf (addf (mulf (DN I) (RB2 I)) (mulf (X2 I) (TB2 I))) (mulf (TB2 I) (X2 I))

def DO : FVec Ideal S4096x1024 .f32 := mulf (GB I) (DX I)
def DG : FVec Ideal S1x1024 .f32 := shapeCast _ (Host.reduceAdd (mulf (DX I) (O I)) (constant S_ .f32 0x00000000#32) reducesTo_S4096x1024_S1024_d0 h_S_) shapeCasts_S1024_S1x1024
def DM : FVec Ideal S4096x1024 .f32 := Host.dotGeneral dot_S4096x1024_S1024x1024_S4096x1024_1_1_0_0_n_n none (DO I) (extf .f32 I.wo bitsLt_bf16_f32)
def DA : FVec Ideal S4096x1024 .f32 := mulf (SA I) (DM I)
def DR : FVec Ideal S4096x1024 .f32 := mulf (SR I) (DM I)
def DYA : FVec Ideal S4096x1024 .f32 := Host.dotGeneral dot_S4096x1024_S1024x1024_S4096x1024_1_1_0_0_n_n none (DA I) (extf .f32 I.wa bitsLt_bf16_f32)
def DYR : FVec Ideal S4096x1024 .f32 := Host.dotGeneral dot_S4096x1024_S1024x1024_S4096x1024_1_1_0_0_n_n none (DR I) (extf .f32 I.wr bitsLt_bf16_f32)
def ZA : FVec Ideal S4096x1024 .f32 := mulf (mulf (DM I) (PA I)) (mulf (SA I) (subf ONE (SA I)))
def ZR : FVec Ideal S4096x1024 .f32 := mulf (mulf (DM I) (PR I)) (mulf (SR I) (subf ONE (SR I)))

/-- The gradient of the two gates' columns. -/
def DC : FVec Ideal S4096x2048 .f32 := concatenate S4096x2048 1 [⟨S4096x1024, ZA I⟩, ⟨S4096x1024, ZR I⟩] concatenates_S4096x1024_S4096x1024_S4096x2048_d1

/-- The gradient of the last norm's weight. -/
def DF : FVec Ideal S1x1024 .f32 := broadcastInDim S1x1024 ![1] bcast_S1024_S1x1024_1 (Host.reduceAdd (shapeCast S1x1024
  (Host.reduceAdd (mulf (XN I) (DY I)) (constant S_ .f32 0x00000000#32) reducesTo_S4096x1024_S1024_d0 h_S_) shapeCasts_S1024_S1x1024)
  (constant S_ .f32 0x00000000#32) reducesTo_S1x1024_S1024_d0 h_S_)

/-- The loss of the rows, over a row of lanes. -/
def LOSS : FVec Ideal S1x128 .f32 := broadcastInDim S1x128 ![] bcast_S_S1x128 (mulf (constant S_ .f32 0x3F000000#32)
  (Host.reduceAdd (Host.divf (Host.reduceAdd (mulf (ER I) (ER I)) (constant S_ .f32 0x00000000#32) reducesTo_S4096x1024_S4096_d1 h_S_)
    (broadcastInDim S4096 ![] bcast_S_S4096 (constant S_ .f32 0x44800000#32))) (constant S_ .f32 0x00000000#32) reducesTo_S4096_S_d0 h_S_))

section Run
variable (m : (ℓ : Loc nD τ sig) → Buf (Elt Ideal) ℓ) (ρ : Dev nD → PrngReg)

/-- The arguments in memory. -/
def args (c : Dev nD) : Args := ⟨m ((c.tc : Thread nD τ).loc main_arg0), m ((c.tc : Thread nD τ).loc main_arg1),
  m ((c.tc : Thread nD τ).loc main_arg2), m ((c.tc : Thread nD τ).loc main_arg3), m ((c.tc : Thread nD τ).loc main_arg4),
  m ((c.tc : Thread nD τ).loc main_arg5), m ((c.tc : Thread nD τ).loc main_arg6), m ((c.tc : Thread nD τ).loc main_arg7),
  m ((c.tc : Thread nD τ).loc main_arg8), m ((c.tc : Thread nD τ).loc main_arg9)⟩

theorem run : θ_run defs (onTc (τ := τ) (main (F := Ideal))) ⟨m, fun _ => 0, ρ⟩ fun r => ∀ c : Dev nD,
    r.2.mem ((c.tc : Thread nD τ).loc main_v86) = DX (args m c)
    ∧ r.2.mem ((c.tc : Thread nD τ).loc main_v103) = MG (args m c)
    ∧ r.2.mem ((c.tc : Thread nD τ).loc main_v104) = DO (args m c)
    ∧ r.2.mem ((c.tc : Thread nD τ).loc main_v105) = DA (args m c)
    ∧ r.2.mem ((c.tc : Thread nD τ).loc main_v106) = DR (args m c)
    ∧ r.2.mem ((c.tc : Thread nD τ).loc main_v100) = DYA (args m c)
    ∧ r.2.mem ((c.tc : Thread nD τ).loc main_v102) = DYR (args m c)
    ∧ r.2.mem ((c.tc : Thread nD τ).loc main_v108) = DC (args m c)
    ∧ r.2.mem ((c.tc : Thread nD τ).loc main_v109) = DF (args m c)
    ∧ r.2.mem ((c.tc : Thread nD τ).loc main_v91) = DG (args m c)
    ∧ r.2.mem ((c.tc : Thread nD τ).loc main_v110) = LOSS (args m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run defs _ _).mono (fun _ h c => ⟨(h c).1.trans rfl, (h c).2.1.trans rfl, (h c).2.2.1.trans rfl, (h c).2.2.2.1.trans rfl,
    (h c).2.2.2.2.1.trans rfl, (h c).2.2.2.2.2.1.trans rfl, (h c).2.2.2.2.2.2.1.trans rfl, (h c).2.2.2.2.2.2.2.1.trans rfl,
    (h c).2.2.2.2.2.2.2.2.1.trans rfl, (h c).2.2.2.2.2.2.2.2.2.1.trans rfl, (h c).2.2.2.2.2.2.2.2.2.2.1.trans rfl,
    (h c).2.2.2.2.2.2.2.2.2.2.2⟩)
    (Cert.Reference2Ideal.Value.run m ρ)

end Run

end Cert.Merge

end
-- ==== Proof.MergeAt.lean ====
/- The plain program's arrays, each at an index. -/
module

public import proofs.«01_k».proof.Proof.MergeRef

@[expose] public section

set_option maxRecDepth 16384

noncomputable section

namespace Cert.Merge

open Cert.Reference2Ideal Cert.Reference2Ideal.Gen Idealize.ShloMosaic Idealize.ShloMosaic.TcCoe Idealize.SL.Sem
open Cert.InBwd (hostReduceAdd_one ms tb)

variable (I : Args) (i : Fin 4096) (j : Fin 1024)

/-- The logistic function. -/
def sg (z : EReal) : EReal := Ideal.div 1 (1 + Ideal.exp (-z))

/-- A half over the lanes, which scales the error twice over. -/
abbrev half : EReal := Ideal.ofBits FTy.f32 1056964608#32
abbrev two : EReal := Ideal.ofBits FTy.f32 1073741824#32
abbrev lanes : EReal := Ideal.ofBits FTy.f32 1149239296#32

def sa : EReal := sg (I.p (ix2 i ⟨4608 + j.val, by omega⟩))
def sr : EReal := sg (I.p (ix2 i ⟨5632 + j.val, by omega⟩))
def pa : EReal := ∑ k : Fin 1024, I.ya (ix2 i k) * I.wa (ix2 k j)
def pr : EReal := ∑ k : Fin 1024, I.yr (ix2 i k) * I.wr (ix2 k j)
def mg : EReal := sa I i j * pa I i j + sr I i j * pr I i j
def o : EReal := ∑ k : Fin 1024, mg I i k * I.wo (ix2 k j)
def gate : EReal := I.a (ix2 0 ⟨2048 + j.val, by omega⟩)
def x2 : EReal := I.x (ix2 i j) + gate I j * o I i j
def rs : EReal := Ideal.rsqrt (ms fun k => x2 I i k)
def xn : EReal := x2 I i j * rs I i
def er : EReal := xn I i j * I.f (ix2 0 j) - I.t (ix2 i j)
def dy : EReal := Ideal.div half lanes * (two * er I i j)
def dn : EReal := dy I i j * I.f (ix2 0 j)
def tb2 : EReal := tb (fun k => x2 I i k) (fun k => dn I i k)
def dx : EReal := dn I i j * rs I i + x2 I i j * tb2 I i + tb2 I i * x2 I i j
def do_ : EReal := gate I j * dx I i j
def dm : EReal := ∑ k : Fin 1024, do_ I i k * I.wo (ix2 j k)
def da : EReal := sa I i j * dm I i j
def dr : EReal := sr I i j * dm I i j

theorem ONE_at : ONE (ix2 i j) = 1 := by pointwise [ONE]

theorem SIG_at (z) : SIG z (ix2 i j) = sg (z (ix2 i j)) := by
  pointwise [SIG, ONE_at, sg]

theorem SA_at : SA I (ix2 i j) = sa I i j := by
  unfold SA
  rw [SIG_at]
  pointwise [sa]

theorem SR_at : SR I (ix2 i j) = sr I i j := by
  unfold SR
  rw [SIG_at]
  pointwise [sr]

theorem PA_at : PA I (ix2 i j) = pa I i j := by pointwise [PA, pa]

theorem PR_at : PR I (ix2 i j) = pr I i j := by pointwise [PR, pr]

theorem MG_at : MG I (ix2 i j) = mg I i j := by pointwise [MG, mg, SA_at, SR_at, PA_at, PR_at]

theorem O_at : O I (ix2 i j) = o I i j := by pointwise [O, o, MG_at]

theorem GB_at : GB I (ix2 i j) = gate I j := by pointwise [GB, GATE, gate]

theorem X2_at : X2 I (ix2 i j) = x2 I i j := by pointwise [X2, x2, GB_at, O_at]

theorem MS2_at (z : Fin 1) : MS2 I (ix2 i z) = ms fun k => x2 I i k := by pointwise [MS2, ms, X2_at]

theorem RB2_at : RB2 I (ix2 i j) = rs I i := by pointwise [RB2, rs, MS2_at]

theorem XN_at : XN I (ix2 i j) = xn I i j := by pointwise [XN, xn, RB2_at, X2_at]

theorem FB_at : FB I (ix2 i j) = I.f (ix2 0 j) := by pointwise [FB]

theorem ER_at : ER I (ix2 i j) = er I i j := by pointwise [ER, er, XN_at, FB_at]

theorem DY_at : DY I (ix2 i j) = dy I i j := by pointwise [DY, dy, ER_at]

theorem DN_at : DN I (ix2 i j) = dn I i j := by pointwise [DN, dn, DY_at, FB_at]

theorem TB2_at : TB2 I (ix2 i j) = tb2 I i := by
  pointwise [TB2]
  rw [Fin.sum_univ_one]
  pointwise [X2_at, DN_at, MS2_at, tb2, tb]

theorem DX_at : DX I (ix2 i j) = dx I i j := by pointwise [DX, dx, DN_at, RB2_at, X2_at, TB2_at]

theorem DO_at : DO I (ix2 i j) = do_ I i j := by pointwise [DO, do_, GB_at, DX_at]

theorem DM_at : DM I (ix2 i j) = dm I i j := by pointwise [DM, dm, DO_at]

theorem DA_at : DA I (ix2 i j) = da I i j := by pointwise [DA, da, SA_at, DM_at]

theorem DR_at : DR I (ix2 i j) = dr I i j := by pointwise [DR, dr, SR_at, DM_at]

theorem DYA_at : DYA I (ix2 i j) = ∑ k : Fin 1024, da I i k * I.wa (ix2 j k) := by pointwise [DYA, DA_at]

theorem DYR_at : DYR I (ix2 i j) = ∑ k : Fin 1024, dr I i k * I.wr (ix2 j k) := by pointwise [DYR, DR_at]

theorem ZA_at : ZA I (ix2 i j) = dm I i j * pa I i j * (sa I i j * (1 - sa I i j)) := by pointwise [ZA, DM_at, PA_at, SA_at, ONE_at]

theorem ZR_at : ZR I (ix2 i j) = dm I i j * pr I i j * (sr I i j * (1 - sr I i j)) := by pointwise [ZR, DM_at, PR_at, SR_at, ONE_at]

theorem DC_left (k : Fin 2048) (h : k.val < 1024) : DC I (ix2 i k) = ZA I (ix2 i ⟨k.val, h⟩) := by
  pointwise [DC]
  rw [dif_pos h]

theorem DC_right (k : Fin 2048) (h : ¬ k.val < 1024) : DC I (ix2 i k) = ZR I (ix2 i ⟨k.val - 1024, by omega⟩) := by
  pointwise [DC]
  rw [dif_neg h]

theorem DG_at : DG I (ix2 0 j) = ∑ i : Fin 4096, dx I i j * o I i j := by pointwise [DG, DX_at, O_at]

theorem DF_at : DF I (ix2 0 j) = ∑ i : Fin 4096, xn I i j * dy I i j := by
  pointwise [DF]
  rw [Fin.sum_univ_one]
  pointwise [XN_at, DY_at]

theorem LOSS_at (l : Fin 128) : LOSS I (ix2 0 l) = half * ∑ i : Fin 4096, Ideal.div (∑ k : Fin 1024, er I i k * er I i k) lanes := by
  pointwise [LOSS, ER_at]

end Cert.Merge

end
-- ==== Proof.MergeReal.lean ====
/- Arguments of real numbers: the merged rows, the error and its gradient are then real, and the norm's gradient has the kernel's form. -/
module

public import proofs.«01_k».proof.Proof.MergeAt
public import proofs.«01_k».proof.Proof.Pre
public import proofs.«01_k».proof.Pre_reals2

@[expose] public section

set_option maxRecDepth 16384

noncomputable section

namespace Cert.Merge

open Idealize.ShloMosaic Idealize.ShloMosaic.TcCoe Idealize.SL.Sem
open Cert.InBwd (ms tb)
open Cert.Lift (Reals coe_sum and_one reals_of_all)

theorem half_coe : half = ((1 / 2 : ℝ) : EReal) := by
  unfold half Ideal.ofBits
  simp [Ideal.ieee]
  rw [← EReal.coe_mul]
  norm_num

theorem two_coe : two = ((2 : ℝ) : EReal) := by
  unfold two Ideal.ofBits
  simp [Ideal.ieee]
  rw [← EReal.coe_mul]
  norm_num

theorem inv_lanes : Ideal.ofBits FTy.f32 981467136#32 = ((1 / 1024 : ℝ) : EReal) := by
  unfold Ideal.ofBits
  simp [Ideal.ieee]
  rw [← EReal.coe_mul]
  norm_num

/-- An error over the lanes, doubled and halved. -/
theorem dy_form (e : EReal) : e * Ideal.ofBits FTy.f32 981467136#32 = Ideal.div half lanes * (two * e) := by
  rw [← mul_assoc, mul_comm e, inv_lanes]
  congr 1
  rw [half_coe, two_coe, show lanes = _ from Cert.Lift.lanes, Ideal.div_coe (by norm_num), ← EReal.coe_mul, ← EReal.coe_mul]
  norm_num

theorem sg_real (z : ℝ) : ∃ r : ℝ, sg (z : EReal) = (r : EReal) := by
  unfold sg
  have h : (1 + Real.exp (-z)) ≠ 0 := by positivity
  rw [← EReal.coe_neg, Ideal.exp_coe, ← EReal.coe_one, ← EReal.coe_add, Ideal.div_coe h, ← EReal.coe_mul]
  exact ⟨_, rfl⟩

/-- Every element of every argument is a real number. -/
structure Args.Real (I : Args) : Prop where
  x : Reals I.x
  t : Reals I.t
  ya : Reals I.ya
  yr : Reals I.yr
  p : Reals I.p
  wa : Reals I.wa
  wr : Reals I.wr
  wo : Reals I.wo
  a : Reals I.a
  f : Reals I.f

variable {I : Args} (H : I.Real)
include H

theorem mg_real (i : Fin 4096) (j : Fin 1024) : ∃ r : ℝ, mg I i j = (r : EReal) := by
  obtain ⟨bya, hya⟩ := H.ya.choose
  obtain ⟨byr, hyr⟩ := H.yr.choose
  obtain ⟨bwa, hwa⟩ := H.wa.choose
  obtain ⟨bwr, hwr⟩ := H.wr.choose
  obtain ⟨bp, hp⟩ := H.p.choose
  unfold mg sa sr pa pr
  obtain ⟨u, hu⟩ := sg_real (bp (ix2 i ⟨4608 + j.val, by omega⟩))
  obtain ⟨v, hv⟩ := sg_real (bp (ix2 i ⟨5632 + j.val, by omega⟩))
  simp only [hp, hu, hv, hya, hyr, hwa, hwr, ← EReal.coe_mul, coe_sum, ← EReal.coe_add]
  exact ⟨_, rfl⟩

theorem x2_real (i : Fin 4096) (j : Fin 1024) : ∃ r : ℝ, x2 I i j = (r : EReal) := by
  choose bm hm using mg_real H
  obtain ⟨bw, hw⟩ := H.wo.choose
  obtain ⟨ba, ha⟩ := H.a.choose
  obtain ⟨bx, hx⟩ := H.x.choose
  unfold x2 gate o
  simp only [hm, hw, ha, hx, ← EReal.coe_mul, coe_sum, ← EReal.coe_add]
  exact ⟨_, rfl⟩

theorem er_real (i : Fin 4096) (j : Fin 1024) : ∃ r : ℝ, er I i j = (r : EReal) := by
  choose bx hx using x2_real H
  obtain ⟨bf, hf⟩ := H.f.choose
  obtain ⟨bt, ht⟩ := H.t.choose
  unfold er xn rs
  simp only [hx]
  rw [Cert.Lift.rsqrt_ms_coe]
  simp only [hf, ht, ← EReal.coe_mul, ← EReal.coe_sub]
  exact ⟨_, rfl⟩

theorem dn_real (i : Fin 4096) (j : Fin 1024) : ∃ r : ℝ, dn I i j = (r : EReal) := by
  obtain ⟨e, he⟩ := er_real H i j
  obtain ⟨bf, hf⟩ := H.f.choose
  unfold dn dy
  rw [← dy_form, he, hf, inv_lanes]
  simp only [← EReal.coe_mul]
  exact ⟨_, rfl⟩

/-- The gradient of a row in the form that takes the mean over the normalised row. -/
theorem dx_form (i : Fin 4096) (j : Fin 1024) :
    rs I i * (dn I i j - xn I i j * Ideal.div (∑ k : Fin 1024, dn I i k * xn I i k) lanes) = dx I i j := by
  choose bx hx using x2_real H
  choose bd hd using dn_real H
  have h := Cert.Lift.row (bx i) (bd i) 0 j
  unfold dx tb2 xn rs
  simp only [zero_add] at h
  simp only [hx, hd]
  exact h

/-- The loss of the rows as the sum of sixteen parts. -/
theorem loss_form : ∑ s : Fin 16, half * ∑ k : Fin 256, (∑ j : Fin 1024, er I ⟨s.val * 256 + k.val, by omega⟩ j
      * er I ⟨s.val * 256 + k.val, by omega⟩ j) * Ideal.ofBits FTy.f32 981467136#32
    = half * ∑ i : Fin 4096, Ideal.div (∑ k : Fin 1024, er I i k * er I i k) lanes := by
  choose be he using er_real H
  have hs : ∑ s : Fin 16, ∑ k : Fin 256, (∑ j : Fin 1024, be ⟨s.val * 256 + k.val, by omega⟩ j * be ⟨s.val * 256 + k.val, by omega⟩ j) * (1 / 1024 : ℝ)
      = ∑ i : Fin 4096, (∑ j : Fin 1024, be i j * be i j) * (1 / 1024) :=
    Fin.sum_mul_add_congr fun s k hl => rfl
  simp only [he, inv_lanes, show lanes = _ from Cert.Lift.lanes, half_coe, Ideal.div_coe (show (1024 : ℝ) ≠ 0 by norm_num), ← EReal.coe_mul, coe_sum]
  rw [← hs, Finset.mul_sum]

instance facts2 : Cert.Pre_reals2.Facts where
  bcast_S_S4096x1024 := by decide
  reducesTo_S4096x1024_S_d0_1 := by decide
  h_S_ := by decide
  bitsLt_bf16_f32 := by decide
  bcast_S_S4096x6656 := by decide
  reducesTo_S4096x6656_S_d0_1 := by decide
  bcast_S_S1024x1024 := by decide
  reducesTo_S1024x1024_S_d0_1 := by decide
  bcast_S_S1x3072 := by decide
  reducesTo_S1x3072_S_d0_1 := by decide
  bcast_S_S1x1024 := by decide
  reducesTo_S1x1024_S_d0_1 := by decide

omit H in
theorem real_of_pre (h : Cert.Pre_reals2.fn (F := Ideal) I.x I.t I.ya I.yr I.p I.wa I.wr I.wo I.a I.f = fun _ => 1#1) : I.Real := by
  have h0 := congrFun h (fun a : Fin 0 => a.elim0)
  unfold Cert.Pre_reals2.fn Cert.Pre_reals2.fn_part1 Cert.Pre_reals2.fn_part2 Cert.Pre_reals2.fn_part3 at h0
  obtain ⟨h0, h9⟩ := and_one h0
  obtain ⟨h0, h8⟩ := and_one h0
  obtain ⟨h0, h7⟩ := and_one h0
  obtain ⟨h0, h6⟩ := and_one h0
  obtain ⟨h0, h5⟩ := and_one h0
  obtain ⟨h0, h4⟩ := and_one h0
  obtain ⟨h0, h3⟩ := and_one h0
  obtain ⟨h0, h2⟩ := and_one h0
  obtain ⟨h0, h1⟩ := and_one h0
  haveI : Subsingleton Cert.Pre_reals2.S_.Idx := ⟨fun a b => funext fun k => k.elim0⟩
  exact ⟨reals_of_all _ _ _ _ _ _ h0, reals_of_all _ _ _ _ _ _ h1, reals_of_all _ _ _ _ _ _ h2, reals_of_all _ _ _ _ _ _ h3,
    reals_of_all _ _ _ _ _ _ h4, reals_of_all _ _ _ _ _ _ h5, reals_of_all _ _ _ _ _ _ h6, reals_of_all _ _ _ _ _ _ h7,
    reals_of_all _ _ _ _ _ _ h8, reals_of_all _ _ _ _ _ _ h9⟩

end Cert.Merge

end
-- ==== Proof.MergePay.lean ====
/- The merge kernel's rows: what each grid point reads, and what it computes of them at an index. -/
module

public import proofs.«01_k».proof.Proof.Gen.Kernel2Ideal.Value
public import proofs.«01_k».proof.Proof.MergeReal
public import Idealize.ShloMosaic.Lib.Pipeline.ValueKit

@[expose] public section

set_option maxRecDepth 16384

noncomputable section

namespace Cert.Kernel2Ideal.Merge

open Cert.Kernel2Ideal Cert.Kernel2Ideal.Gen Idealize.ShloMosaic Idealize.ShloMosaic.TcCoe Idealize.SL.Sem
open Idealize.ShloMosaic.Pipeline (Dat)
open Cert.Merge (Args sg sa sr pa pr mg o gate x2 rs xn er dy dn dx do_ dm da dr half two lanes)
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 9] ∧ win0_5.index t = ![t.val, 10] ∧ win0_6.index t = ![t.val, 11]
    ∧ win0_7.index t = ![t.val, 12] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![t.val, 0] ∧ win0_20.index t = ![t.val, 0] ∧ win0_21.index t = ![0, 0] ∧ win0_22.index t = ![0, 0]
    ∧ win0_23.index t = ![0, 0] :=
  (by decide +kernel : ∀ t : Fin grid0.N, _)

variable (c : Dev nD)

/-- The arguments in memory. -/
def args : Args := ⟨m ((c.tc : Thread nD τ).loc main_arg0), m ((c.tc : Thread nD τ).loc main_arg1),
  m ((c.tc : Thread nD τ).loc main_arg2), m ((c.tc : Thread nD τ).loc main_arg3), m ((c.tc : Thread nD τ).loc main_arg4),
  m ((c.tc : Thread nD τ).loc main_arg5), m ((c.tc : Thread nD τ).loc main_arg6), m ((c.tc : Thread nD τ).loc main_arg7),
  m ((c.tc : Thread nD τ).loc main_arg8), m ((c.tc : Thread nD τ).loc main_arg9)⟩

theorem lt16 (t : Fin cfg0.N) : t.val < 16 := lt_of_lt_of_eq t.isLt (by decide +kernel)

/-- A row's place in the whole array. -/
abbrev row (t : Fin cfg0.N) (r : Fin 256) : Fin 4096 := ⟨256 * t.val + r.val, by have := lt16 t; omega⟩

variable (t : Fin cfg0.N) (r : Fin 256) (j : Fin 1024)

theorem x_at : (iblk m c 0 t : FVec Ideal S256x1024 .f32) (ix2 r j) = (args m c).x (ix2 (row t r) j) := by
  blk_point [iblk, V, idx t, args]

theorem t_at : (iblk m c 1 t : FVec Ideal S256x1024 .f32) (ix2 r j) = (args m c).t (ix2 (row t r) j) := by
  blk_point [iblk, V, idx t, args]

theorem ya_at : (iblk m c 2 t : FVec Ideal S256x1024 .bf16) (ix2 r j) = (args m c).ya (ix2 (row t r) j) := by
  blk_point [iblk, V, idx t, args]

theorem yr_at : (iblk m c 3 t : FVec Ideal S256x1024 .bf16) (ix2 r j) = (args m c).yr (ix2 (row t r) j) := by
  blk_point [iblk, V, idx t, args]

theorem p4_at (k : Fin 512) : (iblk m c 4 t : FVec Ideal S256x512 .f32) (ix2 r k)
    = (args m c).p (ix2 (row t r) ⟨4608 + k.val, by omega⟩) := by
  blk_point [iblk, V, idx t, args]

theorem p5_at (k : Fin 512) : (iblk m c 5 t : FVec Ideal S256x512 .f32) (ix2 r k)
    = (args m c).p (ix2 (row t r) ⟨5120 + k.val, by omega⟩) := by
  blk_point [iblk, V, idx t, args]

theorem p6_at (k : Fin 512) : (iblk m c 6 t : FVec Ideal S256x512 .f32) (ix2 r k)
    = (args m c).p (ix2 (row t r) ⟨5632 + k.val, by omega⟩) := by
  blk_point [iblk, V, idx t, args]

theorem p7_at (k : Fin 512) : (iblk m c 7 t : FVec Ideal S256x512 .f32) (ix2 r k)
    = (args m c).p (ix2 (row t r) ⟨6144 + k.val, by omega⟩) := by
  blk_point [iblk, V, idx t, args]

theorem wa_at (k : Fin 1024) : (iblk m c 8 t : FVec Ideal S1024x1024 .bf16) (ix2 k j) = (args m c).wa (ix2 k j) := by
  blk_point [iblk, V, idx t, args]

theorem wr_at (k : Fin 1024) : (iblk m c 9 t : FVec Ideal S1024x1024 .bf16) (ix2 k j) = (args m c).wr (ix2 k j) := by
  blk_point [iblk, V, idx t, args]

theorem wo_at (k : Fin 1024) : (iblk m c 10 t : FVec Ideal S1024x1024 .bf16) (ix2 k j) = (args m c).wo (ix2 k j) := by
  blk_point [iblk, V, idx t, args]

/-- The gate's part of the modulation row, as a point reads it. -/
abbrev gt : FVec Ideal S1x1024 .f32 := View.ld (iblk m c 11 t) (Rect.unit ![0, 2048] ![1, 1024] inb_S1x3072_S1x1024_0_2048)

theorem gt_at : gt m c t (ix2 0 j) = gate (args m c) j := by
  show (View.ld (iblk m c 11 t) (Rect.unit ![0, 2048] ![1, 1024] inb_S1x3072_S1x1024_0_2048) : FVec Ideal S1x1024 .f32) (ix2 0 j)
    = (m ((c.tc : Thread nD τ).loc main_arg8) : FVec Ideal S1x3072 .f32) (ix2 0 ⟨2048 + j.val, by omega⟩)
  blk_point [iblk, V, idx t]

theorem f_at : (iblk m c 12 t : FVec Ideal S1x1024 .f32) (ix2 0 j) = (args m c).f (ix2 0 j) := by
  blk_point [iblk, V, idx t, args]

theorem pa_at : k0_pay9 (F := Ideal) (iblk m c 2 t) (iblk m c 8 t) (ix2 r j) = pa (args m c) (row t r) j := by
  pointwise [k0_pay9, pa, ya_at, wa_at]

theorem pr_at : k0_pay10 (F := Ideal) (iblk m c 3 t) (iblk m c 9 t) (ix2 r j) = pr (args m c) (row t r) j := by
  pointwise [k0_pay10, pr, yr_at, wr_at]

theorem sa_at : k0_pay11 (F := Ideal) (iblk m c 4 t) (iblk m c 5 t) (ix2 r j) = sa (args m c) (row t r) j := by
  by_cases h : j.val < 512
  · pointwise [k0_pay11]
    rw [dif_pos h, zero_sub, p4_at]
    rfl
  · pointwise [k0_pay11]
    rw [dif_neg h, zero_sub, p5_at]
    unfold sa sg
    congr 6
    exact Fin.ext (by simp; omega)

theorem sr_at : k0_pay12 (F := Ideal) (iblk m c 6 t) (iblk m c 7 t) (ix2 r j) = sr (args m c) (row t r) j := by
  by_cases h : j.val < 512
  · pointwise [k0_pay12]
    rw [dif_pos h, zero_sub, p6_at]
    rfl
  · pointwise [k0_pay12]
    rw [dif_neg h, zero_sub, p7_at]
    unfold sr sg
    congr 6
    exact Fin.ext (by simp; omega)

/-- The merged rows of a point. -/
def mgt : FVec Ideal S256x1024 .f32 := k0_pay13 (iblk m c 2 t) (iblk m c 8 t) (iblk m c 3 t) (iblk m c 9 t) (iblk m c 4 t) (iblk m c 5 t)
  (iblk m c 6 t) (iblk m c 7 t)

theorem mgt_at : mgt m c t (ix2 r j) = mg (args m c) (row t r) j := by
  pointwise [mgt, k0_pay13, pa_at, pr_at, sa_at, sr_at, mg]

theorem o_at : k0_pay15 (F := Ideal) (mgt m c t) (iblk m c 10 t) (ix2 r j) = o (args m c) (row t r) j := by
  pointwise [k0_pay15, k0_pay14, mgt_at, wo_at, o]

theorem x2_at : k0_pay16 (F := Ideal) (gt m c t) (mgt m c t) (iblk m c 10 t) (iblk m c 0 t) (ix2 r j) = x2 (args m c) (row t r) j := by
  pointwise [k0_pay16, o_at, gt_at, x_at, x2]

/-- The reciprocal root of the mean of squares, the normalised rows and the gradient that reaches them. -/
abbrev rst : FVec Ideal S256x1 .f32 := k0_pay17 (gt m c t) (mgt m c t) (iblk m c 10 t) (iblk m c 0 t)
abbrev xnt : FVec Ideal S256x1024 .f32 := k0_pay18 (gt m c t) (mgt m c t) (iblk m c 10 t) (iblk m c 0 t)
abbrev dnt : FVec Ideal S256x1024 .f32 := k0_pay23 (gt m c t) (iblk m c 12 t) (mgt m c t) (iblk m c 10 t) (iblk m c 0 t) (iblk m c 1 t)
abbrev mnt : FVec Ideal S256x1 .f32 := k0_pay24 (gt m c t) (iblk m c 12 t) (mgt m c t) (iblk m c 10 t) (iblk m c 0 t) (iblk m c 1 t)

theorem rst_at (z : Fin 1) : rst m c t (ix2 r z) = rs (args m c) (row t r) := by
  pointwise [k0_pay17, x2_at, rs, Cert.InBwd.ms]

theorem xnt_at : xnt m c t (ix2 r j) = xn (args m c) (row t r) j := by
  pointwise [k0_pay18, x2_at, rst_at, xn]

theorem er_at : k0_pay19 (F := Ideal) (gt m c t) (iblk m c 12 t) (mgt m c t) (iblk m c 10 t) (iblk m c 0 t) (iblk m c 1 t) (ix2 r j)
    = er (args m c) (row t r) j := by
  pointwise [k0_pay19, xnt_at, f_at, t_at, er]

theorem dy_at : k0_pay21 (F := Ideal) (gt m c t) (iblk m c 12 t) (mgt m c t) (iblk m c 10 t) (iblk m c 0 t) (iblk m c 1 t) (ix2 r j)
    = dy (args m c) (row t r) j := by
  pointwise [k0_pay21, er_at]
  exact Cert.Merge.dy_form _

theorem dnt_at : dnt m c t (ix2 r j) = dn (args m c) (row t r) j := by
  pointwise [k0_pay23, dy_at, f_at, dn]

theorem mnt_at (z : Fin 1) : mnt m c t (ix2 r z)
    = Ideal.div (∑ k : Fin 1024, dn (args m c) (row t r) k * xn (args m c) (row t r) k) lanes := by
  pointwise [k0_pay24, dnt_at, xnt_at]

section
variable (H : (args m c).Real)
include H

theorem dx_at : k0_pay25 (rst m c t) (xnt m c t) (dnt m c t) (mnt m c t) (ix2 r j) = dx (args m c) (row t r) j := by
  pointwise [k0_pay25, rst_at, xnt_at, dnt_at, mnt_at]
  exact Cert.Merge.dx_form H _ _

theorem do_at : k0_pay27 (gt m c t) (rst m c t) (xnt m c t) (dnt m c t) (mnt m c t) (ix2 r j) = do_ (args m c) (row t r) j := by
  pointwise [k0_pay27, dx_at m c t _ _ H, gt_at]
  exact mul_comm _ _

theorem dm_at : k0_pay28 (gt m c t) (rst m c t) (xnt m c t) (dnt m c t) (mnt m c t) (iblk m c 10 t) (ix2 r j) = dm (args m c) (row t r) j := by
  pointwise [k0_pay28, do_at m c t _ _ H, wo_at, dm]

theorem da_at : k0_pay29 (gt m c t) (k0_pay11 (iblk m c 4 t) (iblk m c 5 t)) (rst m c t) (xnt m c t) (dnt m c t) (mnt m c t) (iblk m c 10 t) (ix2 r j)
    = da (args m c) (row t r) j := by
  pointwise [k0_pay29, dm_at m c t _ _ H, sa_at]
  exact mul_comm _ _

theorem dr_at : k0_pay30 (gt m c t) (k0_pay12 (iblk m c 6 t) (iblk m c 7 t)) (rst m c t) (xnt m c t) (dnt m c t) (mnt m c t) (iblk m c 10 t) (ix2 r j)
    = dr (args m c) (row t r) j := by
  pointwise [k0_pay30, dm_at m c t _ _ H, sr_at]
  exact mul_comm _ _

theorem dya_at : k0_pay31 (gt m c t) (k0_pay11 (iblk m c 4 t) (iblk m c 5 t)) (rst m c t) (xnt m c t) (dnt m c t) (mnt m c t) (iblk m c 10 t)
    (iblk m c 8 t) (ix2 r j) = Cert.Merge.DYA (args m c) (ix2 (row t r) j) := by
  rw [Cert.Merge.DYA_at]
  pointwise [k0_pay31, da_at m c t _ _ H, wa_at]

theorem dyr_at : k0_pay32 (gt m c t) (k0_pay12 (iblk m c 6 t) (iblk m c 7 t)) (rst m c t) (xnt m c t) (dnt m c t) (mnt m c t) (iblk m c 10 t)
    (iblk m c 9 t) (ix2 r j) = Cert.Merge.DYR (args m c) (ix2 (row t r) j) := by
  rw [Cert.Merge.DYR_at]
  pointwise [k0_pay32, dr_at m c t _ _ H, wr_at]

theorem za_at : k0_pay1 (k0_pay11 (iblk m c 4 t) (iblk m c 5 t))
    (k0_pay33 (gt m c t) (k0_pay9 (iblk m c 2 t) (iblk m c 8 t)) (rst m c t) (xnt m c t) (dnt m c t) (mnt m c t) (iblk m c 10 t)) (ix2 r j)
    = Cert.Merge.ZA (args m c) (ix2 (row t r) j) := by
  rw [Cert.Merge.ZA_at]
  pointwise [k0_pay1, k0_pay33, dm_at m c t _ _ H, sa_at, pa_at]
  exact mul_assoc _ _ _

theorem zr_at : k0_pay2 (k0_pay10 (iblk m c 3 t) (iblk m c 9 t)) (k0_pay12 (iblk m c 6 t) (iblk m c 7 t))
    (k0_pay28 (gt m c t) (rst m c t) (xnt m c t) (dnt m c t) (mnt m c t) (iblk m c 10 t)) (ix2 r j)
    = Cert.Merge.ZR (args m c) (ix2 (row t r) j) := by
  rw [Cert.Merge.ZR_at]
  pointwise [k0_pay2, dm_at m c t _ _ H, sr_at, pr_at]
  exact mul_assoc _ _ _

theorem dg_at (z : Fin 1) : k0_pay26 (k0_pay15 (mgt m c t) (iblk m c 10 t)) (rst m c t) (xnt m c t) (dnt m c t) (mnt m c t) (ix2 z j)
    = ∑ r : Fin 256, dx (args m c) (row t r) j * o (args m c) (row t r) j := by
  pointwise [k0_pay26, dx_at m c t _ _ H, o_at]

end

theorem df_at (z : Fin 1) : k0_pay22 (F := Ideal) (gt m c t) (iblk m c 12 t) (mgt m c t) (iblk m c 10 t) (iblk m c 0 t) (iblk m c 1 t) (ix2 z j)
    = ∑ r : Fin 256, xn (args m c) (row t r) j * dy (args m c) (row t r) j := by
  pointwise [k0_pay22, dy_at, xnt_at]
  exact Finset.sum_congr rfl fun k _ => mul_comm _ _

theorem loss_at (z z' : Fin 1) : k0_pay20 (F := Ideal) (gt m c t) (iblk m c 12 t) (mgt m c t) (iblk m c 10 t) (iblk m c 0 t) (iblk m c 1 t) (ix2 z z')
    = half * ∑ r : Fin 256, (∑ k : Fin 1024, er (args m c) (row t r) k * er (args m c) (row t r) k) * Ideal.ofBits FTy.f32 981467136#32 := by
  pointwise [k0_pay20, er_at]

end Cert.Kernel2Ideal.Merge

end
-- ==== Proof.MergeKer.lean ====
/- The merge kernel's eleven results. -/
module

public import proofs.«01_k».proof.Proof.MergePay

@[expose] public section

set_option maxRecDepth 16384

noncomputable section

namespace Cert.Kernel2Ideal.Merge

open Cert.Kernel2Ideal Cert.Kernel2Ideal.Gen Idealize.ShloMosaic Idealize.ShloMosaic.TcCoe Idealize.SL.Sem
open Idealize.ShloMosaic.Pipeline (Dat)
open Cert.Merge (Args sg sa sr pa pr mg o gate x2 rs xn er dy dn dx do_ dm da dr half two lanes)
variable (m : (ℓ : Loc nD τ sig) → Buf (Elt Ideal) ℓ) (c : Dev nD)

theorem after_13 (t : Fin cfg0.N) (y : S256x1024.Idx) : (outsAt0 m c t.val t.isLt).1 y = k0_pay25 (rst m c t) (xnt m c t) (dnt m c t) (mnt m c t) y := by
  by_cases h : t.val % 16 = 0
  · rw [outsAt0_A m c t h]; frame_out; rfl
  · rw [outsAt0_B m c t h]; frame_out; rfl

theorem rows13 (H : (args m c).Real) (t : Fin cfg0.N) (r : Fin 256) (j : Fin 1024) : (outsAt0 m c t.val t.isLt).1 (ix2 r j)
    = Cert.Merge.DX (args m c) (ix2 (row t r) j) := by
  rw [after_13, Cert.Merge.DX_at]
  exact dx_at m c t r j H

theorem final13 (H : (args m c).Real) : (dats m 0 c).arrAt 13 cfg0.N = Cert.Merge.DX (args m c) := by
  refine (dats m 0 c).arrAt_eq_of_covers 13 _ (by decide +kernel) fun t hf y => ?_
  have e : ∀ y : S256x1024.Idx, (win0_13.blk t).view.emb y = (ix2 (row t (y 0)) (y 1) : S4096x1024.Idx) := fun y => by
    blk_point [iblk, V, idx t]
  blk_simp
  rw [after0_13]
  have hr : ∀ y : S256x1024.Idx, (outsAt0 m c t.val t.isLt).1 y = Cert.Merge.DX (args m c) (ix2 (row t (y 0)) (y 1)) := fun y => by
    have := rows13 m c H t (y 0) (y 1)
    rwa [show (ix2 (y 0) (y 1) : S256x1024.Idx) = y from by idx_vars y] at this
  exact (hr y).trans (congrArg (Cert.Merge.DX (args m c)) (e y).symm)

theorem after_14 (t : Fin cfg0.N) (y : S256x1024.Idx) : (outsAt0 m c t.val t.isLt).2.1 y = k0_pay14 (mgt m c t) y := by
  by_cases h : t.val % 16 = 0
  · rw [outsAt0_A m c t h]; frame_out; rfl
  · rw [outsAt0_B m c t h]; frame_out; rfl

theorem rows14 (t : Fin cfg0.N) (r : Fin 256) (j : Fin 1024) : (outsAt0 m c t.val t.isLt).2.1 (ix2 r j)
    = Cert.Merge.MG (args m c) (ix2 (row t r) j) := by
  rw [after_14, Cert.Merge.MG_at]
  exact mgt_at m c t r j

theorem final14 : (dats m 0 c).arrAt 14 cfg0.N = Cert.Merge.MG (args m c) := by
  refine (dats m 0 c).arrAt_eq_of_covers 14 _ (by decide +kernel) fun t hf y => ?_
  have e : ∀ y : S256x1024.Idx, (win0_14.blk t).view.emb y = (ix2 (row t (y 0)) (y 1) : S4096x1024.Idx) := fun y => by
    blk_point [iblk, V, idx t]
  blk_simp
  rw [after0_14]
  have hr : ∀ y : S256x1024.Idx, (outsAt0 m c t.val t.isLt).2.1 y = Cert.Merge.MG (args m c) (ix2 (row t (y 0)) (y 1)) := fun y => by
    have := rows14 m c t (y 0) (y 1)
    rwa [show (ix2 (y 0) (y 1) : S256x1024.Idx) = y from by idx_vars y] at this
  exact (hr y).trans (congrArg (Cert.Merge.MG (args m c)) (e y).symm)

theorem after_15 (t : Fin cfg0.N) (y : S256x1024.Idx) : (outsAt0 m c t.val t.isLt).2.2.1 y = k0_pay27 (gt m c t) (rst m c t) (xnt m c t) (dnt m c t) (mnt m c t) y := by
  by_cases h : t.val % 16 = 0
  · rw [outsAt0_A m c t h]; frame_out; rfl
  · rw [outsAt0_B m c t h]; frame_out; rfl

theorem rows15 (H : (args m c).Real) (t : Fin cfg0.N) (r : Fin 256) (j : Fin 1024) : (outsAt0 m c t.val t.isLt).2.2.1 (ix2 r j)
    = Cert.Merge.DO (args m c) (ix2 (row t r) j) := by
  rw [after_15, Cert.Merge.DO_at]
  exact do_at m c t r j H

theorem final15 (H : (args m c).Real) : (dats m 0 c).arrAt 15 cfg0.N = Cert.Merge.DO (args m c) := by
  refine (dats m 0 c).arrAt_eq_of_covers 15 _ (by decide +kernel) fun t hf y => ?_
  have e : ∀ y : S256x1024.Idx, (win0_15.blk t).view.emb y = (ix2 (row t (y 0)) (y 1) : S4096x1024.Idx) := fun y => by
    blk_point [iblk, V, idx t]
  blk_simp
  rw [after0_15]
  have hr : ∀ y : S256x1024.Idx, (outsAt0 m c t.val t.isLt).2.2.1 y = Cert.Merge.DO (args m c) (ix2 (row t (y 0)) (y 1)) := fun y => by
    have := rows15 m c H t (y 0) (y 1)
    rwa [show (ix2 (y 0) (y 1) : S256x1024.Idx) = y from by idx_vars y] at this
  exact (hr y).trans (congrArg (Cert.Merge.DO (args m c)) (e y).symm)

theorem after_16 (t : Fin cfg0.N) (y : S256x1024.Idx) : (outsAt0 m c t.val t.isLt).2.2.2.1 y = k0_pay29 (gt m c t) (k0_pay11 (iblk m c 4 t) (iblk m c 5 t)) (rst m c t) (xnt m c t) (dnt m c t) (mnt m c t) (iblk m c 10 t) y := by
  by_cases h : t.val % 16 = 0
  · rw [outsAt0_A m c t h]; frame_out; rfl
  · rw [outsAt0_B m c t h]; frame_out; rfl

theorem rows16 (H : (args m c).Real) (t : Fin cfg0.N) (r : Fin 256) (j : Fin 1024) : (outsAt0 m c t.val t.isLt).2.2.2.1 (ix2 r j)
    = Cert.Merge.DA (args m c) (ix2 (row t r) j) := by
  rw [after_16, Cert.Merge.DA_at]
  exact da_at m c t r j H

theorem final16 (H : (args m c).Real) : (dats m 0 c).arrAt 16 cfg0.N = Cert.Merge.DA (args m c) := by
  refine (dats m 0 c).arrAt_eq_of_covers 16 _ (by decide +kernel) fun t hf y => ?_
  have e : ∀ y : S256x1024.Idx, (win0_16.blk t).view.emb y = (ix2 (row t (y 0)) (y 1) : S4096x1024.Idx) := fun y => by
    blk_point [iblk, V, idx t]
  blk_simp
  rw [after0_16]
  have hr : ∀ y : S256x1024.Idx, (outsAt0 m c t.val t.isLt).2.2.2.1 y = Cert.Merge.DA (args m c) (ix2 (row t (y 0)) (y 1)) := fun y => by
    have := rows16 m c H t (y 0) (y 1)
    rwa [show (ix2 (y 0) (y 1) : S256x1024.Idx) = y from by idx_vars y] at this
  exact (hr y).trans (congrArg (Cert.Merge.DA (args m c)) (e y).symm)

theorem after_17 (t : Fin cfg0.N) (y : S256x1024.Idx) : (outsAt0 m c t.val t.isLt).2.2.2.2.1 y = k0_pay30 (gt m c t) (k0_pay12 (iblk m c 6 t) (iblk m c 7 t)) (rst m c t) (xnt m c t) (dnt m c t) (mnt m c t) (iblk m c 10 t) y := by
  by_cases h : t.val % 16 = 0
  · rw [outsAt0_A m c t h]; frame_out; rfl
  · rw [outsAt0_B m c t h]; frame_out; rfl

theorem rows17 (H : (args m c).Real) (t : Fin cfg0.N) (r : Fin 256) (j : Fin 1024) : (outsAt0 m c t.val t.isLt).2.2.2.2.1 (ix2 r j)
    = Cert.Merge.DR (args m c) (ix2 (row t r) j) := by
  rw [after_17, Cert.Merge.DR_at]
  exact dr_at m c t r j H

theorem final17 (H : (args m c).Real) : (dats m 0 c).arrAt 17 cfg0.N = Cert.Merge.DR (args m c) := by
  refine (dats m 0 c).arrAt_eq_of_covers 17 _ (by decide +kernel) fun t hf y => ?_
  have e : ∀ y : S256x1024.Idx, (win0_17.blk t).view.emb y = (ix2 (row t (y 0)) (y 1) : S4096x1024.Idx) := fun y => by
    blk_point [iblk, V, idx t]
  blk_simp
  rw [after0_17]
  have hr : ∀ y : S256x1024.Idx, (outsAt0 m c t.val t.isLt).2.2.2.2.1 y = Cert.Merge.DR (args m c) (ix2 (row t (y 0)) (y 1)) := fun y => by
    have := rows17 m c H t (y 0) (y 1)
    rwa [show (ix2 (y 0) (y 1) : S256x1024.Idx) = y from by idx_vars y] at this
  exact (hr y).trans (congrArg (Cert.Merge.DR (args m c)) (e y).symm)

theorem after_18 (t : Fin cfg0.N) (y : S256x1024.Idx) : (outsAt0 m c t.val t.isLt).2.2.2.2.2.1 y = k0_pay31 (gt m c t) (k0_pay11 (iblk m c 4 t) (iblk m c 5 t)) (rst m c t) (xnt m c t) (dnt m c t) (mnt m c t) (iblk m c 10 t) (iblk m c 8 t) y := by
  by_cases h : t.val % 16 = 0
  · rw [outsAt0_A m c t h]; frame_out; rfl
  · rw [outsAt0_B m c t h]; frame_out; rfl

theorem rows18 (H : (args m c).Real) (t : Fin cfg0.N) (r : Fin 256) (j : Fin 1024) : (outsAt0 m c t.val t.isLt).2.2.2.2.2.1 (ix2 r j)
    = Cert.Merge.DYA (args m c) (ix2 (row t r) j) := by
  rw [after_18]
  exact dya_at m c t r j H

theorem final18 (H : (args m c).Real) : (dats m 0 c).arrAt 18 cfg0.N = Cert.Merge.DYA (args m c) := by
  refine (dats m 0 c).arrAt_eq_of_covers 18 _ (by decide +kernel) fun t hf y => ?_
  have e : ∀ y : S256x1024.Idx, (win0_18.blk t).view.emb y = (ix2 (row t (y 0)) (y 1) : S4096x1024.Idx) := fun y => by
    blk_point [iblk, V, idx t]
  blk_simp
  rw [after0_18]
  have hr : ∀ y : S256x1024.Idx, (outsAt0 m c t.val t.isLt).2.2.2.2.2.1 y = Cert.Merge.DYA (args m c) (ix2 (row t (y 0)) (y 1)) := fun y => by
    have := rows18 m c H t (y 0) (y 1)
    rwa [show (ix2 (y 0) (y 1) : S256x1024.Idx) = y from by idx_vars y] at this
  exact (hr y).trans (congrArg (Cert.Merge.DYA (args m c)) (e y).symm)

theorem after_19 (t : Fin cfg0.N) (y : S256x1024.Idx) : (outsAt0 m c t.val t.isLt).2.2.2.2.2.2.1 y = k0_pay32 (gt m c t) (k0_pay12 (iblk m c 6 t) (iblk m c 7 t)) (rst m c t) (xnt m c t) (dnt m c t) (mnt m c t) (iblk m c 10 t) (iblk m c 9 t) y := by
  by_cases h : t.val % 16 = 0
  · rw [outsAt0_A m c t h]; frame_out; rfl
  · rw [outsAt0_B m c t h]; frame_out; rfl

theorem rows19 (H : (args m c).Real) (t : Fin cfg0.N) (r : Fin 256) (j : Fin 1024) : (outsAt0 m c t.val t.isLt).2.2.2.2.2.2.1 (ix2 r j)
    = Cert.Merge.DYR (args m c) (ix2 (row t r) j) := by
  rw [after_19]
  exact dyr_at m c t r j H

theorem final19 (H : (args m c).Real) : (dats m 0 c).arrAt 19 cfg0.N = Cert.Merge.DYR (args m c) := by
  refine (dats m 0 c).arrAt_eq_of_covers 19 _ (by decide +kernel) fun t hf y => ?_
  have e : ∀ y : S256x1024.Idx, (win0_19.blk t).view.emb y = (ix2 (row t (y 0)) (y 1) : S4096x1024.Idx) := fun y => by
    blk_point [iblk, V, idx t]
  blk_simp
  rw [after0_19]
  have hr : ∀ y : S256x1024.Idx, (outsAt0 m c t.val t.isLt).2.2.2.2.2.2.1 y = Cert.Merge.DYR (args m c) (ix2 (row t (y 0)) (y 1)) := fun y => by
    have := rows19 m c H t (y 0) (y 1)
    rwa [show (ix2 (y 0) (y 1) : S256x1024.Idx) = y from by idx_vars y] at this
  exact (hr y).trans (congrArg (Cert.Merge.DYR (args m c)) (e y).symm)

theorem eta (y : S1x1024.Idx) : y = ix2 0 (y 1) := by
  funext a
  fin_cases a
  · exact Subsingleton.elim (α := Fin 1) _ _
  · rfl

/-- A point's row in the whole array, at a point given by its number. -/
theorem row_eq (t : Fin cfg0.N) (s : Fin 16) (h : t.val = s.val) (k : Fin 256) : row t k = ⟨s.val * 256 + k.val, by omega⟩ :=
  Fin.ext (by simp; omega)

theorem step21 (t : Fin cfg0.N) (v : FVec Ideal S1x1024 .f32) (y : S1x1024.Idx) : k0_pay6 (k0_pay22 (gt m c t) (iblk m c 12 t) (mgt m c t) (iblk m c 10 t) (iblk m c 0 t) (iblk m c 1 t)) v y
    = v y + ∑ r : Fin 256, xn (args m c) (row t r) (y 1) * dy (args m c) (row t r) (y 1) := by
  have h : ∀ j : Fin 1024, k0_pay6 (k0_pay22 (gt m c t) (iblk m c 12 t) (mgt m c t) (iblk m c 10 t) (iblk m c 0 t) (iblk m c 1 t)) v (ix2 0 j) = v (ix2 0 j) + ∑ r : Fin 256, xn (args m c) (row t r) j * dy (args m c) (row t r) j := fun j => by
    pointwise [k0_pay6]
    rw [df_at m c t j]
  exact (congrArg _ (eta y)).trans ((h (y 1)).trans (congrArg (v · + _) (eta y).symm))

theorem zero21 (y : S1x1024.Idx) : k0_pay3 (F := Ideal) y = 0 := by
  pointwise [k0_pay3]

theorem last21 (t : Fin cfg0.N) (hf : t.val % 16 = 15) (j : Fin 1024) : (outsAt0 m c t.val t.isLt).2.2.2.2.2.2.2.2.1 (ix2 0 j)
    = Cert.Merge.DF (args m c) (ix2 0 j) := by
  rw [Cert.Merge.DF_at]
  rw [Pipeline.eq_sum_fin_of_reset_step_apply_of_flush (fun n h => (outsAt0 m c n h).2.2.2.2.2.2.2.2.1) 16 (fun _ => 0)
    (fun t y => ∑ r : Fin 256, xn (args m c) (row t r) (y 1) * dy (args m c) (row t r) (y 1))
    (fun t h j => by rw [outsAt0_A m c t h]; frame_out; exact (step21 m c t _ _).trans (congrArg (· + _) (zero21 _)))
    (fun t h j => by rw [outsAt0_B m c t h]; frame_out; exact step21 m c t _ _) t hf _, zero_add]
  refine Fin.sum_mul_add_congr fun s k hl => ?_
  have hs : 16 * (t.val / 16) + s.val = s.val := by have := lt16 t; omega
  rw [row_eq _ s hs k]
  rfl

theorem final21 : (dats m 0 c).arrAt 21 cfg0.N = Cert.Merge.DF (args m c) := by
  refine (dats m 0 c).arrAt_eq_of_covers 21 _ (by decide +kernel) fun t hf y => ?_
  have hy : (win0_21.blk t).view.emb y = (ix2 0 ((show S1x1024.Idx from y) 1) : S1x1024.Idx) := by
    blk_point [iblk, V, idx t]
  blk_simp
  rw [after0_21]
  have hl : ∀ y : S1x1024.Idx, (outsAt0 m c t.val t.isLt).2.2.2.2.2.2.2.2.1 y = Cert.Merge.DF (args m c) (ix2 0 (y 1)) := fun y =>
    (congrArg _ (eta y)).trans (last21 m c t ((flush0_21 t).mp hf) (y 1))
  exact (hl y).trans (congrArg (Cert.Merge.DF (args m c)) hy.symm)

theorem step22 (H : (args m c).Real) (t : Fin cfg0.N) (v : FVec Ideal S1x1024 .f32) (y : S1x1024.Idx) : k0_pay7 (k0_pay26 (k0_pay15 (mgt m c t) (iblk m c 10 t)) (rst m c t) (xnt m c t) (dnt m c t) (mnt m c t)) v y
    = v y + ∑ r : Fin 256, dx (args m c) (row t r) (y 1) * o (args m c) (row t r) (y 1) := by
  have h : ∀ j : Fin 1024, k0_pay7 (k0_pay26 (k0_pay15 (mgt m c t) (iblk m c 10 t)) (rst m c t) (xnt m c t) (dnt m c t) (mnt m c t)) v (ix2 0 j) = v (ix2 0 j) + ∑ r : Fin 256, dx (args m c) (row t r) j * o (args m c) (row t r) j := fun j => by
    pointwise [k0_pay7]
    rw [dg_at m c t j H]
  exact (congrArg _ (eta y)).trans ((h (y 1)).trans (congrArg (v · + _) (eta y).symm))

theorem zero22 (y : S1x1024.Idx) : k0_pay4 (F := Ideal) y = 0 := by
  pointwise [k0_pay4]

theorem last22 (H : (args m c).Real) (t : Fin cfg0.N) (hf : t.val % 16 = 15) (j : Fin 1024) : (outsAt0 m c t.val t.isLt).2.2.2.2.2.2.2.2.2.1 (ix2 0 j)
    = Cert.Merge.DG (args m c) (ix2 0 j) := by
  rw [Cert.Merge.DG_at]
  rw [Pipeline.eq_sum_fin_of_reset_step_apply_of_flush (fun n h => (outsAt0 m c n h).2.2.2.2.2.2.2.2.2.1) 16 (fun _ => 0)
    (fun t y => ∑ r : Fin 256, dx (args m c) (row t r) (y 1) * o (args m c) (row t r) (y 1))
    (fun t h j => by rw [outsAt0_A m c t h]; frame_out; exact (step22 m c H t _ _).trans (congrArg (· + _) (zero22 _)))
    (fun t h j => by rw [outsAt0_B m c t h]; frame_out; exact step22 m c H t _ _) t hf _, zero_add]
  refine Fin.sum_mul_add_congr fun s k hl => ?_
  have hs : 16 * (t.val / 16) + s.val = s.val := by have := lt16 t; omega
  rw [row_eq _ s hs k]
  rfl

theorem final22 (H : (args m c).Real) : (dats m 0 c).arrAt 22 cfg0.N = Cert.Merge.DG (args m c) := by
  refine (dats m 0 c).arrAt_eq_of_covers 22 _ (by decide +kernel) fun t hf y => ?_
  have hy : (win0_22.blk t).view.emb y = (ix2 0 ((show S1x1024.Idx from y) 1) : S1x1024.Idx) := by
    blk_point [iblk, V, idx t]
  blk_simp
  rw [after0_22]
  have hl : ∀ y : S1x1024.Idx, (outsAt0 m c t.val t.isLt).2.2.2.2.2.2.2.2.2.1 y = Cert.Merge.DG (args m c) (ix2 0 (y 1)) := fun y =>
    (congrArg _ (eta y)).trans (last22 m c H t ((flush0_22 t).mp hf) (y 1))
  exact (hl y).trans (congrArg (Cert.Merge.DG (args m c)) hy.symm)

theorem eta' (y : S1x128.Idx) : y = ix2 0 (y 1) := by
  funext a
  fin_cases a
  · exact Subsingleton.elim (α := Fin 1) _ _
  · rfl

theorem step23 (t : Fin cfg0.N) (v : FVec Ideal S1x128 .f32) (y : S1x128.Idx) : k0_pay8 (k0_pay20 (gt m c t) (iblk m c 12 t) (mgt m c t) (iblk m c 10 t) (iblk m c 0 t) (iblk m c 1 t)) v y
    = v y + half * ∑ r : Fin 256, (∑ k : Fin 1024, er (args m c) (row t r) k * er (args m c) (row t r) k) * Ideal.ofBits FTy.f32 981467136#32 := by
  have h : ∀ l : Fin 128, k0_pay8 (k0_pay20 (gt m c t) (iblk m c 12 t) (mgt m c t) (iblk m c 10 t) (iblk m c 0 t) (iblk m c 1 t)) v (ix2 0 l) = v (ix2 0 l) + half * ∑ r : Fin 256, (∑ k : Fin 1024, er (args m c) (row t r) k * er (args m c) (row t r) k) * Ideal.ofBits FTy.f32 981467136#32 := fun l => by
    pointwise [k0_pay8]
    rw [loss_at m c t]
  exact (congrArg _ (eta' y)).trans ((h (y 1)).trans (congrArg (v · + _) (eta' y).symm))

theorem zero23 (y : S1x128.Idx) : k0_pay5 (F := Ideal) y = 0 := by
  pointwise [k0_pay5]

theorem last23 (H : (args m c).Real) (t : Fin cfg0.N) (hf : t.val % 16 = 15) (l : Fin 128) : (outsAt0 m c t.val t.isLt).2.2.2.2.2.2.2.2.2.2 (ix2 0 l)
    = Cert.Merge.LOSS (args m c) (ix2 0 l) := by
  rw [Cert.Merge.LOSS_at, ← Cert.Merge.loss_form H]
  rw [Pipeline.eq_sum_fin_of_reset_step_apply_of_flush (fun n h => (outsAt0 m c n h).2.2.2.2.2.2.2.2.2.2) 16 (fun _ => 0)
    (fun t y => half * ∑ r : Fin 256, (∑ k : Fin 1024, er (args m c) (row t r) k * er (args m c) (row t r) k) * Ideal.ofBits FTy.f32 981467136#32)
    (fun t h j => by rw [outsAt0_A m c t h]; frame_out; exact (step23 m c t _ _).trans (congrArg (· + _) (zero23 _)))
    (fun t h j => by rw [outsAt0_B m c t h]; frame_out; exact step23 m c t _ _) t hf _, zero_add]
  refine Finset.sum_congr rfl fun s _ => congrArg (half * ·) (Finset.sum_congr rfl fun k _ => ?_)
  have hs : 16 * (t.val / 16) + s.val = s.val := by have := lt16 t; omega
  rw [row_eq _ s hs k]

theorem final23 (H : (args m c).Real) : (dats m 0 c).arrAt 23 cfg0.N = Cert.Merge.LOSS (args m c) := by
  refine (dats m 0 c).arrAt_eq_of_covers 23 _ (by decide +kernel) fun t hf y => ?_
  have hy : (win0_23.blk t).view.emb y = (ix2 0 ((show S1x128.Idx from y) 1) : S1x128.Idx) := by
    blk_point [iblk, V, idx t]
  blk_simp
  rw [after0_23]
  have hl : ∀ y : S1x128.Idx, (outsAt0 m c t.val t.isLt).2.2.2.2.2.2.2.2.2.2 y = Cert.Merge.LOSS (args m c) (ix2 0 (y 1)) := fun y =>
    (congrArg _ (eta' y)).trans (last23 m c H t ((flush0_23 t).mp hf) (y 1))
  exact (hl y).trans (congrArg (Cert.Merge.LOSS (args m c)) hy.symm)

theorem left20 (H : (args m c).Real) (t : Fin cfg0.N) (x : S256x1024.Idx) (r : Fin 256) (k : Fin 2048) (h0 : r.val = (x 0).val) (h1 : k.val = (x 1).val) :
    k0_pay1 (k0_pay11 (iblk m c 4 t) (iblk m c 5 t)) (k0_pay33 (gt m c t) (k0_pay9 (iblk m c 2 t) (iblk m c 8 t)) (rst m c t) (xnt m c t) (dnt m c t) (mnt m c t) (iblk m c 10 t)) x = Cert.Merge.DC (args m c) (ix2 (row t r) k) := by
  have hx : (x 1).val < 1024 := (x 1).isLt
  rw [Cert.Merge.DC_left _ _ _ (h1 ▸ hx)]
  have := za_at m c t (x 0) (x 1) H
  rw [show (ix2 (x 0) (x 1) : S256x1024.Idx) = x from by idx_vars x] at this
  refine this.trans (congrArg _ ?_)
  congr 1
  · exact Fin.ext (by simp [h0])
  · exact Fin.ext h1.symm

theorem right20 (H : (args m c).Real) (t : Fin cfg0.N) (x : S256x1024.Idx) (r : Fin 256) (k : Fin 2048) (h0 : r.val = (x 0).val) (h1 : k.val = 1024 + (x 1).val) :
    k0_pay2 (k0_pay10 (iblk m c 3 t) (iblk m c 9 t)) (k0_pay12 (iblk m c 6 t) (iblk m c 7 t)) (k0_pay28 (gt m c t) (rst m c t) (xnt m c t) (dnt m c t) (mnt m c t) (iblk m c 10 t)) x = Cert.Merge.DC (args m c) (ix2 (row t r) k) := by
  have hx : (x 1).val < 1024 := (x 1).isLt
  rw [Cert.Merge.DC_right _ _ _ (by omega)]
  have := zr_at m c t (x 0) (x 1) H
  rw [show (ix2 (x 0) (x 1) : S256x1024.Idx) = x from by idx_vars x] at this
  refine this.trans (congrArg _ ?_)
  congr 1
  · exact Fin.ext (by simp [h0])
  · exact Fin.ext (by simp; omega)

/-- What a point stores of the gates' gradient: the first gate's columns, then the second's. -/
theorem rows20 (H : (args m c).Real) (t : Fin cfg0.N) (y : S256x2048.Idx) : (outsAt0 m c t.val t.isLt).2.2.2.2.2.2.2.1 y
    = Cert.Merge.DC (args m c) (ix2 (row t (y 0)) (y 1)) := by
  by_cases h : t.val % 16 = 0
  · rw [outsAt0_A m c t h]
    frame_out
    canon_tiles x h
    · exact right20 m c H t x (y 0) (y 1) h0 h1
    · exact left20 m c H t x (y 0) (y 1) h0 h1
  · rw [outsAt0_B m c t h]
    frame_out
    canon_tiles x h
    · exact right20 m c H t x (y 0) (y 1) h0 h1
    · exact left20 m c H t x (y 0) (y 1) h0 h1

theorem final20 (H : (args m c).Real) : (dats m 0 c).arrAt 20 cfg0.N = Cert.Merge.DC (args m c) := by
  refine (dats m 0 c).arrAt_eq_of_covers 20 _ (by decide +kernel) fun t hf y => ?_
  have e : ∀ y : S256x2048.Idx, (win0_20.blk t).view.emb y = (ix2 (row t (y 0)) (y 1) : S4096x2048.Idx) := fun y => by
    blk_point [iblk, V, idx t]
  blk_simp
  rw [after0_20]
  exact (rows20 m c H t y).trans (congrArg (Cert.Merge.DC (args m c)) (e y).symm)

end Cert.Kernel2Ideal.Merge

end
-- ==== Proof.InGrad.lean ====
/- The gradient of the input projection's weight: the reference's product, and the kernel's thirteen column blocks of it. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.InGrad

open Idealize.ShloMosaic Idealize.ShloMosaic.TcCoe Idealize.SL.Sem

/-- The reference's gradient, of its arguments. -/
def GW (h : FVec Ideal Cert.Reference3Ideal.S1024x4096 .bf16) (a0 : FVec Ideal Cert.Reference3Ideal.S4096x1024 .bf16) (a1 : FVec Ideal Cert.Reference3Ideal.S4096x512 .bf16)
    (a2 : FVec Ideal Cert.Reference3Ideal.S4096x1024 .bf16) (a3 a4 : FVec Ideal Cert.Reference3Ideal.S4096x2048 .bf16) : FVec Ideal Cert.Reference3Ideal.S1024x6656 .f32 :=
  transpose Cert.Reference3Ideal.S1024x6656 [1, 0]
    (Host.dotGeneral Cert.Reference3Ideal.dot_S4096x6656_S4096x1024_S6656x1024_0_0_1_1_n_n none
      (extf .f32 (concatenate Cert.Reference3Ideal.S4096x6656 1 [⟨Cert.Reference3Ideal.S4096x1024, a0⟩, ⟨Cert.Reference3Ideal.S4096x512, a1⟩, ⟨Cert.Reference3Ideal.S4096x1024, a2⟩, ⟨Cert.Reference3Ideal.S4096x2048, a3⟩,
        ⟨Cert.Reference3Ideal.S4096x2048, a4⟩] Cert.Reference3Ideal.Gen.concatenates_S4096x1024_S4096x512_S4096x1024_S4096x2048_S4096x2048_S4096x6656_d1)
        Cert.Reference3Ideal.Gen.bitsLt_bf16_f32)
      (extf .f32 (transpose Cert.Reference3Ideal.S4096x1024 [1, 0] h Cert.Reference3Ideal.Gen.transposes_S1024x4096_S4096x1024_1_0) Cert.Reference3Ideal.Gen.bitsLt_bf16_f32))
    Cert.Reference3Ideal.Gen.transposes_S6656x1024_S1024x6656_1_0

theorem GW_at0 (h a0 a1 a2 a3 a4) (i : Fin 1024) (j : Fin 1024) (n : Fin 6656) (hn : n.val = 0 + j.val) :
    GW h a0 a1 a2 a3 a4 (ix2 i n) = ∑ k : Fin 4096, a0 (ix2 k j) * h (ix2 i k) := by
  have hl : 0 + j.val < 6656 := by clear hn; omega
  obtain rfl : n = ⟨0 + j.val, hl⟩ := Fin.ext hn
  pointwise [GW]

theorem GW_at1 (h a0 a1 a2 a3 a4) (i : Fin 1024) (j : Fin 512) (n : Fin 6656) (hn : n.val = 1024 + j.val) :
    GW h a0 a1 a2 a3 a4 (ix2 i n) = ∑ k : Fin 4096, a1 (ix2 k j) * h (ix2 i k) := by
  have hl : 1024 + j.val < 6656 := by clear hn; omega
  obtain rfl : n = ⟨1024 + j.val, hl⟩ := Fin.ext hn
  pointwise [GW]

theorem GW_at2 (h a0 a1 a2 a3 a4) (i : Fin 1024) (j : Fin 1024) (n : Fin 6656) (hn : n.val = 1536 + j.val) :
    GW h a0 a1 a2 a3 a4 (ix2 i n) = ∑ k : Fin 4096, a2 (ix2 k j) * h (ix2 i k) := by
  have hl : 1536 + j.val < 6656 := by clear hn; omega
  obtain rfl : n = ⟨1536 + j.val, hl⟩ := Fin.ext hn
  pointwise [GW]
  refine Finset.sum_congr rfl fun x _ => ?_
  rw [dif_neg (by omega), dif_neg (by omega), dif_pos (by omega)]
  exact congrArg (fun q => a2 (ix2 x q) * h (ix2 i x)) (Fin.ext (by dsimp only; omega))

theorem GW_at3 (h a0 a1 a2 a3 a4) (i : Fin 1024) (j : Fin 2048) (n : Fin 6656) (hn : n.val = 2560 + j.val) :
    GW h a0 a1 a2 a3 a4 (ix2 i n) = ∑ k : Fin 4096, a3 (ix2 k j) * h (ix2 i k) := by
  have hl : 2560 + j.val < 6656 := by clear hn; omega
  obtain rfl : n = ⟨2560 + j.val, hl⟩ := Fin.ext hn
  pointwise [GW]
  refine Finset.sum_congr rfl fun x _ => ?_
  rw [dif_neg (by omega), dif_neg (by omega), dif_neg (by omega), dif_pos (by omega)]
  exact congrArg (fun q => a3 (ix2 x q) * h (ix2 i x)) (Fin.ext (by dsimp only; omega))

theorem GW_at4 (h a0 a1 a2 a3 a4) (i : Fin 1024) (j : Fin 2048) (n : Fin 6656) (hn : n.val = 4608 + j.val) :
    GW h a0 a1 a2 a3 a4 (ix2 i n) = ∑ k : Fin 4096, a4 (ix2 k j) * h (ix2 i k) := by
  have hl : 4608 + j.val < 6656 := by clear hn; omega
  obtain rfl : n = ⟨4608 + j.val, hl⟩ := Fin.ext hn
  pointwise [GW]
  refine Finset.sum_congr rfl fun x _ => ?_
  rw [dif_neg (by omega), dif_neg (by omega), dif_neg (by omega), dif_neg (by omega)]
  exact congrArg (fun q => a4 (ix2 x q) * h (ix2 i x)) (Fin.ext (by dsimp only; omega))

section
open Cert.Kernel3Ideal Cert.Kernel3Ideal.Gen
open Idealize.ShloMosaic.Pipeline (Dat)
variable (m : (ℓ : Loc nD τ sig) → Buf (Elt Ideal) ℓ) (c : Dev nD)

theorem idx : ∀ t : Fin cfg0.N, win0_0.index t = ![0, 0] ∧ win0_6.index t = ![0, t.val] :=
  (by decide +kernel : ∀ t : Fin grid0.N, _)

theorem idx1 : ∀ t : Fin cfg0.N, t.val < 2 → win0_1.index t = ![0, t.val] :=
  (by decide +kernel : ∀ t : Fin grid0.N, _)

theorem idx2 : ∀ t : Fin cfg0.N, t.val = 2 → win0_2.index t = ![0, 0] :=
  (by decide +kernel : ∀ t : Fin grid0.N, _)

theorem idx3 : ∀ t : Fin cfg0.N, 3 ≤ t.val ∧ t.val ≤ 4 → win0_3.index t = ![0, t.val - 3] :=
  (by decide +kernel : ∀ t : Fin grid0.N, _)

theorem idx4 : ∀ t : Fin cfg0.N, 5 ≤ t.val ∧ t.val ≤ 8 → win0_4.index t = ![0, t.val - 5] :=
  (by decide +kernel : ∀ t : Fin grid0.N, _)

theorem idx5 : ∀ t : Fin cfg0.N, 9 ≤ t.val → win0_5.index t = ![0, t.val - 9] :=
  (by decide +kernel : ∀ t : Fin grid0.N, _)

theorem lt13 (t : Fin cfg0.N) : t.val < 13 := lt_of_lt_of_eq t.isLt (by decide +kernel)

theorem p1 (h b) (i : Fin 1024) (j : Fin 512) : k0_pay1 (F := Ideal) h b (ix2 i j)
    = ∑ k : Fin 4096, b (ix2 k j) * h (ix2 i k) := by
  pointwise [k0_pay1]
  exact Finset.sum_congr rfl fun k _ => mul_comm _ _

theorem p2 (h b) (i : Fin 1024) (j : Fin 512) : k0_pay2 (F := Ideal) h b (ix2 i j)
    = ∑ k : Fin 4096, b (ix2 k j) * h (ix2 i k) := by
  pointwise [k0_pay2]
  exact Finset.sum_congr rfl fun k _ => mul_comm _ _

theorem p3 (h b) (i : Fin 1024) (j : Fin 512) : k0_pay3 (F := Ideal) h b (ix2 i j)
    = ∑ k : Fin 4096, b (ix2 k j) * h (ix2 i k) := by
  pointwise [k0_pay3]
  exact Finset.sum_congr rfl fun k _ => mul_comm _ _

theorem p4 (h b) (i : Fin 1024) (j : Fin 512) : k0_pay4 (F := Ideal) h b (ix2 i j)
    = ∑ k : Fin 4096, b (ix2 k j) * h (ix2 i k) := by
  pointwise [k0_pay4]
  exact Finset.sum_congr rfl fun k _ => mul_comm _ _

theorem p5 (h b) (i : Fin 1024) (j : Fin 512) : k0_pay5 (F := Ideal) h b (ix2 i j)
    = ∑ k : Fin 4096, b (ix2 k j) * h (ix2 i k) := by
  pointwise [k0_pay5]
  exact Finset.sum_congr rfl fun k _ => mul_comm _ _

/-- The reference's gradient of the kernel's arguments. -/
abbrev W : FVec Ideal S1024x6656 .f32 := GW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

theorem colsA (t : Fin cfg0.N) (ht : t.val < 2) (i : Fin 1024) (j : Fin 512) : outsAt0 m c t.val t.isLt (ix2 i j)
    = W m c (ix2 i ⟨512 * t.val + j.val, by have := lt13 t; omega⟩) := by
  rw [outsAt0_A m c t (by have := lt13 t; omega) (by have := lt13 t; omega) (by have := lt13 t; omega) (by have := lt13 t; omega) (by have := lt13 t; omega)]
  frame_out
  rw [p1]
  refine Eq.trans ?_ (GW_at0 _ _ _ _ _ _ i ⟨512 * (t.val) + j.val, by have := lt13 t; omega⟩ _ (by have := lt13 t; dsimp only; omega)).symm
  refine Finset.sum_congr rfl fun k _ => ?_
  blk_point [iblk, V, idx t, idx1 t ht]

theorem colsB (t : Fin cfg0.N) (ht : t.val = 2) (i : Fin 1024) (j : Fin 512) : outsAt0 m c t.val t.isLt (ix2 i j)
    = W m c (ix2 i ⟨512 * t.val + j.val, by have := lt13 t; omega⟩) := by
  rw [outsAt0_B m c t (by have := lt13 t; omega) (by have := lt13 t; omega) (by have := lt13 t; omega) (by have := lt13 t; omega) (by have := lt13 t; omega)]
  frame_out
  rw [p2]
  refine Eq.trans ?_ (GW_at1 _ _ _ _ _ _ i ⟨512 * (0) + j.val, by have := lt13 t; omega⟩ _ (by have := lt13 t; dsimp only; omega)).symm
  refine Finset.sum_congr rfl fun k _ => ?_
  blk_point [iblk, V, idx t, idx2 t ht]

theorem colsC (t : Fin cfg0.N) (ht : 3 ≤ t.val ∧ t.val ≤ 4) (i : Fin 1024) (j : Fin 512) : outsAt0 m c t.val t.isLt (ix2 i j)
    = W m c (ix2 i ⟨512 * t.val + j.val, by have := lt13 t; omega⟩) := by
  rw [outsAt0_C m c t (by have := lt13 t; omega) (by have := lt13 t; omega) (by have := lt13 t; omega) (by have := lt13 t; omega) (by have := lt13 t; omega)]
  frame_out
  rw [p3]
  refine Eq.trans ?_ (GW_at2 _ _ _ _ _ _ i ⟨512 * (t.val - 3) + j.val, by have := lt13 t; omega⟩ _ (by have := lt13 t; dsimp only; omega)).symm
  refine Finset.sum_congr rfl fun k _ => ?_
  blk_point [iblk, V, idx t, idx3 t ht]

theorem colsD (t : Fin cfg0.N) (ht : 5 ≤ t.val ∧ t.val ≤ 8) (i : Fin 1024) (j : Fin 512) : outsAt0 m c t.val t.isLt (ix2 i j)
    = W m c (ix2 i ⟨512 * t.val + j.val, by have := lt13 t; omega⟩) := by
  rw [outsAt0_D m c t (by have := lt13 t; omega) (by have := lt13 t; omega) (by have := lt13 t; omega) (by have := lt13 t; omega) (by have := lt13 t; omega)]
  frame_out
  rw [p4]
  refine Eq.trans ?_ (GW_at3 _ _ _ _ _ _ i ⟨512 * (t.val - 5) + j.val, by have := lt13 t; omega⟩ _ (by have := lt13 t; dsimp only; omega)).symm
  refine Finset.sum_congr rfl fun k _ => ?_
  blk_point [iblk, V, idx t, idx4 t ht]

theorem colsE (t : Fin cfg0.N) (ht : 9 ≤ t.val) (i : Fin 1024) (j : Fin 512) : outsAt0 m c t.val t.isLt (ix2 i j)
    = W m c (ix2 i ⟨512 * t.val + j.val, by have := lt13 t; omega⟩) := by
  rw [outsAt0_E m c t (by have := lt13 t; omega) (by have := lt13 t; omega) (by have := lt13 t; omega) (by have := lt13 t; omega) (by have := lt13 t; omega)]
  frame_out
  rw [p5]
  refine Eq.trans ?_ (GW_at4 _ _ _ _ _ _ i ⟨512 * (t.val - 9) + j.val, by have := lt13 t; omega⟩ _ (by have := lt13 t; dsimp only; omega)).symm
  refine Finset.sum_congr rfl fun k _ => ?_
  blk_point [iblk, V, idx t, idx5 t ht]

theorem cols (t : Fin cfg0.N) (i : Fin 1024) (j : Fin 512) : outsAt0 m c t.val t.isLt (ix2 i j)
    = W m c (ix2 i ⟨512 * t.val + j.val, by have := lt13 t; omega⟩) := by
  rcases (by omega : t.val < 2 ∨ t.val = 2 ∨ (3 ≤ t.val ∧ t.val ≤ 4) ∨ (5 ≤ t.val ∧ t.val ≤ 8) ∨ 9 ≤ t.val) with h | h | h | h | h
  · exact colsA m c t h i j
  · exact colsB m c t h i j
  · exact colsC m c t h i j
  · exact colsD m c t h i j
  · exact colsE m c t h i j

theorem final : (dats m 0 c).arrAt 6 cfg0.N = W m c := by
  refine (dats m 0 c).arrAt_eq_of_covers 6 _ (by decide +kernel) fun t hf y => ?_
  have e : ∀ y : S1024x512.Idx, (win0_6.blk t).view.emb y
      = (ix2 (y 0) ⟨512 * t.val + (y 1).val, by have := lt13 t; have := (y 1).isLt; simp at *; omega⟩ : S1024x6656.Idx) := fun y => by
    blk_point [iblk, V, idx t]
  blk_simp
  rw [after0_6]
  have hr : ∀ y : S1024x512.Idx, outsAt0 m c t.val t.isLt y = W m c
      (ix2 (y 0) ⟨512 * t.val + (y 1).val, by have := lt13 t; have := (y 1).isLt; simp at *; omega⟩) := fun y => by
    have := cols m c t (y 0) (y 1)
    rwa [show (ix2 (y 0) (y 1) : S1024x512.Idx) = y from by idx_vars y] at this
  exact (hr y).trans (congrArg (W m c) (e y).symm)

end

end Cert.InGrad

end
-- ==== Proof.SqGrad.lean ====
/- The gradient of a square weight: the reference's product, and the kernel's two column blocks of it. -/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.SqGrad

open Idealize.ShloMosaic Idealize.ShloMosaic.TcCoe Idealize.SL.Sem

/-- The reference's gradient, of its arguments. -/
def GW (y d : FVec Ideal Cert.Reference4Ideal.S4096x1024 .bf16) : FVec Ideal Cert.Reference4Ideal.S1024x1024 .f32 :=
  transpose Cert.Reference4Ideal.S1024x1024 [1, 0]
    (Host.dotGeneral Cert.Reference4Ideal.dot_S4096x1024_S4096x1024_S1024x1024_0_0_1_1_n_n none
      (extf .f32 d Cert.Reference4Ideal.Gen.bitsLt_bf16_f32) (extf .f32 y Cert.Reference4Ideal.Gen.bitsLt_bf16_f32))
    Cert.Reference4Ideal.Gen.transposes_S1024x1024_S1024x1024_1_0

theorem GW_at (y d) (i j : Fin 1024) : GW y d (ix2 i j) = ∑ k : Fin 4096, d (ix2 k j) * y (ix2 k i) := by
  pointwise [GW]

section
open Cert.Kernel4Ideal Cert.Kernel4Ideal.Gen
open Idealize.ShloMosaic.Pipeline (Dat)
variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

theorem lt2 (t : Fin cfg0.N) : t.val < 2 := lt_of_lt_of_eq t.isLt (by decide +kernel)

theorem p1 (y b) (i : Fin 1024) (j : Fin 512) : k0_pay1 (F := Ideal) y b (ix2 i j)
    = ∑ k : Fin 4096, y (ix2 k i) * b (ix2 k j) := by
  pointwise [k0_pay1]

theorem cols (t : Fin cfg0.N) (i : Fin 1024) (j : Fin 512) : outsAt0 m c t (ix2 i j)
    = GW (m ((c.tc : Thread nD τ).loc main_arg0)) (m ((c.tc : Thread nD τ).loc main_arg1))
      (ix2 i ⟨512 * t.val + j.val, by have := lt2 t; omega⟩) := by
  rw [GW_at]
  unfold outsAt0
  frame_out
  rw [p1]
  refine Finset.sum_congr rfl fun k _ => (mul_comm _ _).trans ?_
  blk_point [iblk, V, idx t]

theorem final : (dats m 0 c).arrAt 2 cfg0.N
    = GW (m ((c.tc : Thread nD τ).loc main_arg0)) (m ((c.tc : Thread nD τ).loc main_arg1)) := by
  refine (dats m 0 c).arrAt_eq_of_covers 2 _ (by decide +kernel) fun t hf y => ?_
  have e : ∀ y : S1024x512.Idx, (win0_2.blk t).view.emb y
      = (ix2 (y 0) ⟨512 * t.val + (y 1).val, by have := lt2 t; have := (y 1).isLt; simp at *; omega⟩ : S1024x1024.Idx) := fun y => by
    blk_point [iblk, V, idx t]
  blk_simp
  rw [after0_2]
  have hr : ∀ y : S1024x512.Idx, outsAt0 m c t y = GW (m ((c.tc : Thread nD τ).loc main_arg0)) (m ((c.tc : Thread nD τ).loc main_arg1))
      (ix2 (y 0) ⟨512 * t.val + (y 1).val, by have := lt2 t; have := (y 1).isLt; simp at *; omega⟩) := fun y => by
    have := cols m c t (y 0) (y 1)
    rwa [show (ix2 (y 0) (y 1) : S1024x512.Idx) = y from by idx_vars y] at this
  exact (hr y).trans (congrArg (GW (m ((c.tc : Thread nD τ).loc main_arg0)) (m ((c.tc : Thread nD τ).loc main_arg1))) (e y).symm)

end

end Cert.SqGrad

end
-- ==== Proof.Adam.lean ====
/- One AdamW step, elementwise, as the reference's operations compute it over the extended reals. -/
module

public import Idealize.ShloMosaic.Lib.Pipeline.ValueKit

@[expose] public section

set_option maxRecDepth 16384

noncomputable section

namespace Cert.Adam

open Idealize.ShloMosaic Idealize.ShloMosaic.TcCoe Idealize.SL.Sem

variable {s : Shape}

/-- The first moment of one entry after the step. -/
def mom (g m : EReal) : EReal := Ideal.ofBits FTy.f32 0x3F666666#32 * m + Ideal.ofBits FTy.f32 0x3DCCCCCD#32 * g

/-- The second moment of one entry after the step. -/
def var (g v : EReal) : EReal := Ideal.ofBits FTy.f32 0x3F7FBE77#32 * v + Ideal.ofBits FTy.f32 0x3A83126F#32 * (g * g)

/-- The change of one weight. -/
def step (w g m v : EReal) : EReal := Ideal.ofBits FTy.f32 0xBA83126F#32
  * (Ideal.div (Ideal.div (mom g m) (Ideal.ofBits FTy.f32 0x3F26BD02#32))
      (Ideal.sqrt (Ideal.div (var g v) (Ideal.ofBits FTy.f32 0x3C231ACC#32)) + Ideal.ofBits FTy.f32 0x322BCC77#32)
    + Ideal.ofBits FTy.f32 0x3C23D70A#32 * w)

/-- The three, over an array. -/
def MO (g m : FVec Ideal s .f32) : FVec Ideal s .f32 := fun i => mom (g i) (m i)
def VA (g v : FVec Ideal s .f32) : FVec Ideal s .f32 := fun i => var (g i) (v i)
def CH (w g m v : FVec Ideal s .f32) : FVec Ideal s .f32 := fun i => step (w i) (g i) (m i) (v i)

end Cert.Adam

end
-- ==== Proof.AdaStep.lean ====
/- The update of the modulation's weight: the gradient's product and the step, in the reference and in the kernel's row blocks. -/
module

public import proofs.«01_k».proof.Proof.Gen.Kernel5Ideal.Value
public import proofs.«01_k».proof.Proof.Gen.Reference5Ideal.Run
public import proofs.«01_k».proof.Proof.Adam
public import Idealize.ShloMosaic.Lib.Claim
public import Idealize.ShloMosaic.Lib.Quiescent

@[expose] public section

set_option maxRecDepth 16384

noncomputable section

namespace Cert.AdaStep

open Cert.Adam Idealize.ShloMosaic Idealize.ShloMosaic.TcCoe Idealize.SL.Sem

/-- The reference's gradient, of its arguments. -/
def GA (a : FVec Ideal Cert.Reference5Ideal.S1024x128 .f32) (d : FVec Ideal Cert.Reference5Ideal.S128x768 .f32) :
    FVec Ideal Cert.Reference5Ideal.S1024x768 .f32 :=
  transpose Cert.Reference5Ideal.S1024x768 [1, 0] (Host.dotGeneral Cert.Reference5Ideal.dot_S128x768_S128x1024_S768x1024_0_0_1_1_n_n none
    (extf .f32 (truncf .bf16 d Cert.Reference5Ideal.Gen.bitsLt_bf16_f32) Cert.Reference5Ideal.Gen.bitsLt_bf16_f32)
    (extf .f32 (truncf .bf16 (transpose Cert.Reference5Ideal.S128x1024 [1, 0] a Cert.Reference5Ideal.Gen.transposes_S1024x128_S128x1024_1_0)
      Cert.Reference5Ideal.Gen.bitsLt_bf16_f32) Cert.Reference5Ideal.Gen.bitsLt_bf16_f32)) Cert.Reference5Ideal.Gen.transposes_S768x1024_S1024x768_1_0

theorem GA_at (a d) (i : Fin 1024) (j : Fin 768) : GA a d (ix2 i j) = ∑ k : Fin 128, d (ix2 k j) * a (ix2 i k) := by
  pointwise [GA]

section
open Cert.Kernel5Ideal Cert.Kernel5Ideal.Gen
open Idealize.ShloMosaic.Pipeline (Dat)
variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

theorem ltN (t : Fin cfg0.N) : t.val < 4 := lt_of_lt_of_eq t.isLt (by decide +kernel)

theorem pg (a d) (r : Fin 256) (j : Fin 768) : k0_pay1 (F := Ideal) a d (ix2 r j) = ∑ k : Fin 128, a (ix2 r k) * d (ix2 k j) := by
  pointwise [k0_pay1]

theorem pm (a d m) (r : Fin 256) (j : Fin 768) : k0_pay2 (F := Ideal) a d m (ix2 r j) = mom (k0_pay1 (F := Ideal) a d (ix2 r j)) (m (ix2 r j)) := by
  pointwise [k0_pay2, mom]

theorem pv (a d v) (r : Fin 256) (j : Fin 768) : k0_pay3 (F := Ideal) a d v (ix2 r j) = var (k0_pay1 (F := Ideal) a d (ix2 r j)) (v (ix2 r j)) := by
  pointwise [k0_pay3, var]

theorem ps (a d w m v) (r : Fin 256) (j : Fin 768) : k0_pay4 (F := Ideal) a d w m v (ix2 r j)
    = step (w (ix2 r j)) (k0_pay1 (F := Ideal) a d (ix2 r j)) (m (ix2 r j)) (v (ix2 r j)) := by
  pointwise [k0_pay4, k0_pay2, k0_pay3, step, mom, var]

theorem grad (t : Fin cfg0.N) (r : Fin 256) (j : Fin 768) : k0_pay1 (F := Ideal) (iblk m c 0 t) (iblk m c 1 t) (ix2 r j)
    = (GA (m ((c.tc : Thread nD τ).loc main_arg0)) (m ((c.tc : Thread nD τ).loc main_arg1))) (ix2 ⟨256 * t.val + r.val, by have := ltN t; omega⟩ j) := by
  rw [pg, GA_at]
  refine Finset.sum_congr rfl fun k _ => (mul_comm _ _).trans ?_
  blk_point [iblk, V, idx t]

theorem blk2 (t : Fin cfg0.N) (r : Fin 256) (j : Fin 768) : iblk m c 2 t (ix2 r j)
    = (m ((c.tc : Thread nD τ).loc main_arg2)) (ix2 ⟨256 * t.val + r.val, by have := ltN t; omega⟩ j) := by
  blk_point [iblk, V, idx t]

theorem blk3 (t : Fin cfg0.N) (r : Fin 256) (j : Fin 768) : iblk m c 3 t (ix2 r j)
    = (m ((c.tc : Thread nD τ).loc main_arg3)) (ix2 ⟨256 * t.val + r.val, by have := ltN t; omega⟩ j) := by
  blk_point [iblk, V, idx t]

theorem blk4 (t : Fin cfg0.N) (r : Fin 256) (j : Fin 768) : iblk m c 4 t (ix2 r j)
    = (m ((c.tc : Thread nD τ).loc main_arg4)) (ix2 ⟨256 * t.val + r.val, by have := ltN t; omega⟩ j) := by
  blk_point [iblk, V, idx t]

theorem rows5 (t : Fin cfg0.N) (r : Fin 256) (j : Fin 768) :
    out0_5 (iblk m c 0 t) (iblk m c 1 t) (iblk m c 2 t) (iblk m c 3 t) (iblk m c 4 t) (ix2 r j)
      = (GA (m ((c.tc : Thread nD τ).loc main_arg0)) (m ((c.tc : Thread nD τ).loc main_arg1))) (ix2 ⟨256 * t.val + r.val, by have := ltN t; omega⟩ j) := by
  unfold out0_5
  frame_out
  exact grad m c t r j

theorem final5 : (dats m 0 c).arrAt 5 cfg0.N = (GA (m ((c.tc : Thread nD τ).loc main_arg0)) (m ((c.tc : Thread nD τ).loc main_arg1))) := by
  refine (dats m 0 c).arrAt_eq_of_covers 5 _ (by decide +kernel) fun t hf y => ?_
  have e : ∀ y : S256x768.Idx, (win0_5.blk t).view.emb y
      = (ix2 ⟨256 * t.val + (y 0).val, by have := ltN t; have := (y 0).isLt; simp at *; omega⟩ (y 1) : S1024x768.Idx) := fun y => by
    blk_point [iblk, V, idx t]
  blk_simp
  rw [after0_5]
  have hr : ∀ y : S256x768.Idx, out0_5 (iblk m c 0 t) (iblk m c 1 t) (iblk m c 2 t) (iblk m c 3 t) (iblk m c 4 t) y
      = (GA (m ((c.tc : Thread nD τ).loc main_arg0)) (m ((c.tc : Thread nD τ).loc main_arg1))) (ix2 ⟨256 * t.val + (y 0).val, by have := ltN t; have := (y 0).isLt; simp at *; omega⟩ (y 1)) := fun y => by
    have := rows5 m c t (y 0) (y 1)
    rwa [show (ix2 (y 0) (y 1) : S256x768.Idx) = y from by idx_vars y] at this
  exact (hr y).trans (congrArg (GA (m ((c.tc : Thread nD τ).loc main_arg0)) (m ((c.tc : Thread nD τ).loc main_arg1))) (e y).symm)

theorem rows6 (t : Fin cfg0.N) (r : Fin 256) (j : Fin 768) :
    out0_6 (iblk m c 0 t) (iblk m c 1 t) (iblk m c 2 t) (iblk m c 3 t) (iblk m c 4 t) (ix2 r j)
      = (CH (m ((c.tc : Thread nD τ).loc main_arg2)) (GA (m ((c.tc : Thread nD τ).loc main_arg0)) (m ((c.tc : Thread nD τ).loc main_arg1))) (m ((c.tc : Thread nD τ).loc main_arg3)) (m ((c.tc : Thread nD τ).loc main_arg4))) (ix2 ⟨256 * t.val + r.val, by have := ltN t; omega⟩ j) := by
  unfold out0_6
  frame_out
  rw [ps, grad]
  exact (congrArg (fun w => step w _ _ _) (blk2 m c t r j)).trans ((congrArg (fun q => step _ _ q _) (blk3 m c t r j)).trans (congrArg (step _ _ _) (blk4 m c t r j)))

theorem final6 : (dats m 0 c).arrAt 6 cfg0.N = (CH (m ((c.tc : Thread nD τ).loc main_arg2)) (GA (m ((c.tc : Thread nD τ).loc main_arg0)) (m ((c.tc : Thread nD τ).loc main_arg1))) (m ((c.tc : Thread nD τ).loc main_arg3)) (m ((c.tc : Thread nD τ).loc main_arg4))) := by
  refine (dats m 0 c).arrAt_eq_of_covers 6 _ (by decide +kernel) fun t hf y => ?_
  have e : ∀ y : S256x768.Idx, (win0_6.blk t).view.emb y
      = (ix2 ⟨256 * t.val + (y 0).val, by have := ltN t; have := (y 0).isLt; simp at *; omega⟩ (y 1) : S1024x768.Idx) := fun y => by
    blk_point [iblk, V, idx t]
  blk_simp
  rw [after0_6]
  have hr : ∀ y : S256x768.Idx, out0_6 (iblk m c 0 t) (iblk m c 1 t) (iblk m c 2 t) (iblk m c 3 t) (iblk m c 4 t) y
      = (CH (m ((c.tc : Thread nD τ).loc main_arg2)) (GA (m ((c.tc : Thread nD τ).loc main_arg0)) (m ((c.tc : Thread nD τ).loc main_arg1))) (m ((c.tc : Thread nD τ).loc main_arg3)) (m ((c.tc : Thread nD τ).loc main_arg4))) (ix2 ⟨256 * t.val + (y 0).val, by have := ltN t; have := (y 0).isLt; simp at *; omega⟩ (y 1)) := fun y => by
    have := rows6 m c t (y 0) (y 1)
    rwa [show (ix2 (y 0) (y 1) : S256x768.Idx) = y from by idx_vars y] at this
  exact (hr y).trans (congrArg (CH (m ((c.tc : Thread nD τ).loc main_arg2)) (GA (m ((c.tc : Thread nD τ).loc main_arg0)) (m ((c.tc : Thread nD τ).loc main_arg1))) (m ((c.tc : Thread nD τ).loc main_arg3)) (m ((c.tc : Thread nD τ).loc main_arg4))) (e y).symm)

theorem rows7 (t : Fin cfg0.N) (r : Fin 256) (j : Fin 768) :
    out0_7 (iblk m c 0 t) (iblk m c 1 t) (iblk m c 2 t) (iblk m c 3 t) (iblk m c 4 t) (ix2 r j)
      = (MO (GA (m ((c.tc : Thread nD τ).loc main_arg0)) (m ((c.tc : Thread nD τ).loc main_arg1))) (m ((c.tc : Thread nD τ).loc main_arg3))) (ix2 ⟨256 * t.val + r.val, by have := ltN t; omega⟩ j) := by
  unfold out0_7
  frame_out
  rw [pm, grad]
  exact congrArg (mom _) (blk3 m c t r j)

theorem final7 : (dats m 0 c).arrAt 7 cfg0.N = (MO (GA (m ((c.tc : Thread nD τ).loc main_arg0)) (m ((c.tc : Thread nD τ).loc main_arg1))) (m ((c.tc : Thread nD τ).loc main_arg3))) := by
  refine (dats m 0 c).arrAt_eq_of_covers 7 _ (by decide +kernel) fun t hf y => ?_
  have e : ∀ y : S256x768.Idx, (win0_7.blk t).view.emb y
      = (ix2 ⟨256 * t.val + (y 0).val, by have := ltN t; have := (y 0).isLt; simp at *; omega⟩ (y 1) : S1024x768.Idx) := fun y => by
    blk_point [iblk, V, idx t]
  blk_simp
  rw [after0_7]
  have hr : ∀ y : S256x768.Idx, out0_7 (iblk m c 0 t) (iblk m c 1 t) (iblk m c 2 t) (iblk m c 3 t) (iblk m c 4 t) y
      = (MO (GA (m ((c.tc : Thread nD τ).loc main_arg0)) (m ((c.tc : Thread nD τ).loc main_arg1))) (m ((c.tc : Thread nD τ).loc main_arg3))) (ix2 ⟨256 * t.val + (y 0).val, by have := ltN t; have := (y 0).isLt; simp at *; omega⟩ (y 1)) := fun y => by
    have := rows7 m c t (y 0) (y 1)
    rwa [show (ix2 (y 0) (y 1) : S256x768.Idx) = y from by idx_vars y] at this
  exact (hr y).trans (congrArg (MO (GA (m ((c.tc : Thread nD τ).loc main_arg0)) (m ((c.tc : Thread nD τ).loc main_arg1))) (m ((c.tc : Thread nD τ).loc main_arg3))) (e y).symm)

theorem rows8 (t : Fin cfg0.N) (r : Fin 256) (j : Fin 768) :
    out0_8 (iblk m c 0 t) (iblk m c 1 t) (iblk m c 2 t) (iblk m c 3 t) (iblk m c 4 t) (ix2 r j)
      = (VA (GA (m ((c.tc : Thread nD τ).loc main_arg0)) (m ((c.tc : Thread nD τ).loc main_arg1))) (m ((c.tc : Thread nD τ).loc main_arg4))) (ix2 ⟨256 * t.val + r.val, by have := ltN t; omega⟩ j) := by
  unfold out0_8
  frame_out
  rw [pv, grad]
  exact congrArg (var _) (blk4 m c t r j)

theorem final8 : (dats m 0 c).arrAt 8 cfg0.N = (VA (GA (m ((c.tc : Thread nD τ).loc main_arg0)) (m ((c.tc : Thread nD τ).loc main_arg1))) (m ((c.tc : Thread nD τ).loc main_arg4))) := by
  refine (dats m 0 c).arrAt_eq_of_covers 8 _ (by decide +kernel) fun t hf y => ?_
  have e : ∀ y : S256x768.Idx, (win0_8.blk t).view.emb y
      = (ix2 ⟨256 * t.val + (y 0).val, by have := ltN t; have := (y 0).isLt; simp at *; omega⟩ (y 1) : S1024x768.Idx) := fun y => by
    blk_point [iblk, V, idx t]
  blk_simp
  rw [after0_8]
  have hr : ∀ y : S256x768.Idx, out0_8 (iblk m c 0 t) (iblk m c 1 t) (iblk m c 2 t) (iblk m c 3 t) (iblk m c 4 t) y
      = (VA (GA (m ((c.tc : Thread nD τ).loc main_arg0)) (m ((c.tc : Thread nD τ).loc main_arg1))) (m ((c.tc : Thread nD τ).loc main_arg4))) (ix2 ⟨256 * t.val + (y 0).val, by have := ltN t; have := (y 0).isLt; simp at *; omega⟩ (y 1)) := fun y => by
    have := rows8 m c t (y 0) (y 1)
    rwa [show (ix2 (y 0) (y 1) : S256x768.Idx) = y from by idx_vars y] at this
  exact (hr y).trans (congrArg (VA (GA (m ((c.tc : Thread nD τ).loc main_arg0)) (m ((c.tc : Thread nD τ).loc main_arg1))) (m ((c.tc : Thread nD τ).loc main_arg4))) (e y).symm)

end

section
open Cert.Reference5Ideal Cert.Reference5Ideal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c.tc : Thread nD τ).loc main_v7) = (GA (m ((c.tc : Thread nD τ).loc main_arg0)) (m ((c.tc : Thread nD τ).loc main_arg1)))
    ∧ r.2.mem ((c.tc : Thread nD τ).loc main_v31) = (CH (m ((c.tc : Thread nD τ).loc main_arg2)) (GA (m ((c.tc : Thread nD τ).loc main_arg0)) (m ((c.tc : Thread nD τ).loc main_arg1))) (m ((c.tc : Thread nD τ).loc main_arg3)) (m ((c.tc : Thread nD τ).loc main_arg4)))
    ∧ r.2.mem ((c.tc : Thread nD τ).loc main_v12) = (MO (GA (m ((c.tc : Thread nD τ).loc main_arg0)) (m ((c.tc : Thread nD τ).loc main_arg1))) (m ((c.tc : Thread nD τ).loc main_arg3)))
    ∧ r.2.mem ((c.tc : Thread nD τ).loc main_v18) = (VA (GA (m ((c.tc : Thread nD τ).loc main_arg0)) (m ((c.tc : Thread nD τ).loc main_arg1))) (m ((c.tc : Thread nD τ).loc main_arg4)))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3))
    ∧ r.2.mem ((c.tc : Thread nD τ).loc main_arg4) = (m ((c.tc : Thread nD τ).loc main_arg4)) :=
  (θ_run defs _ _).mono (fun _ h c => ⟨(h c).1.trans rfl, (h c).2.1.trans rfl, (h c).2.2.1.trans rfl, (h c).2.2.2.1.trans rfl, (h c).2.2.2.2⟩)
    (Cert.Reference5Ideal.Value.run m ρ)

end

end Cert.AdaStep

end
-- ==== Proof.InStep.lean ====
/- The update of the input projection's weight: the reference's step, and the kernel's row blocks of it. -/
module

public import proofs.«01_k».proof.Proof.Gen.Kernel6Ideal.Value
public import proofs.«01_k».proof.Proof.Gen.Reference6Ideal.Run
public import proofs.«01_k».proof.Proof.Adam
public import Idealize.ShloMosaic.Lib.Claim
public import Idealize.ShloMosaic.Lib.Quiescent

@[expose] public section

set_option maxRecDepth 16384

noncomputable section

namespace Cert.InStep

open Cert.Adam Idealize.ShloMosaic Idealize.ShloMosaic.TcCoe Idealize.SL.Sem

section
open Cert.Kernel6Ideal Cert.Kernel6Ideal.Gen
open Idealize.ShloMosaic.Pipeline (Dat)
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

theorem ltN (t : Fin cfg0.N) : t.val < 4 := lt_of_lt_of_eq t.isLt (by decide +kernel)

theorem pm0 (g m) (r : Fin 256) (j : Fin 1664) : k0_pay1 (F := Ideal) g m (ix2 r j) = mom (g (ix2 r j)) (m (ix2 r j)) := by
  pointwise [k0_pay1, mom]

theorem pv0 (g v) (r : Fin 256) (j : Fin 1664) : k0_pay2 (F := Ideal) g v (ix2 r j) = var (g (ix2 r j)) (v (ix2 r j)) := by
  pointwise [k0_pay2, var]

theorem ps0 (g w m v) (r : Fin 256) (j : Fin 1664) : k0_pay3 (F := Ideal) g w m v (ix2 r j)
    = step (w (ix2 r j)) (g (ix2 r j)) (m (ix2 r j)) (v (ix2 r j)) := by
  pointwise [k0_pay3, k0_pay1, k0_pay2, step, mom, var]

theorem rows4 (t : Fin cfg0.N) (r : Fin 256) (j : Fin 1664) :
    out0_4 (iblk m c 0 t) (iblk m c 1 t) (iblk m c 2 t) (iblk m c 3 t) (ix2 r j)
      = (m ((c.tc : Thread nD τ).loc main_arg0)) (ix2 ⟨256 * t.val + r.val, by have := ltN t; omega⟩ j) := by
  unfold out0_4
  frame_out
  blk_point [iblk, V, idx t]

theorem final4 : (dats m 0 c).arrAt 4 cfg0.N = (m ((c.tc : Thread nD τ).loc main_arg0)) := by
  refine (dats m 0 c).arrAt_eq_of_covers 4 _ (by decide +kernel) fun t hf y => ?_
  have e : ∀ y : S256x1664.Idx, (win0_4.blk t).view.emb y
      = (ix2 ⟨256 * t.val + (y 0).val, by have := ltN t; have := (y 0).isLt; simp at *; omega⟩ (y 1) : S1024x1664.Idx) := fun y => by
    blk_point [iblk, V, idx t]
  blk_simp
  rw [after0_4]
  have hr : ∀ y : S256x1664.Idx, out0_4 (iblk m c 0 t) (iblk m c 1 t) (iblk m c 2 t) (iblk m c 3 t) y
      = (m ((c.tc : Thread nD τ).loc main_arg0)) (ix2 ⟨256 * t.val + (y 0).val, by have := ltN t; have := (y 0).isLt; simp at *; omega⟩ (y 1)) := fun y => by
    have := rows4 m c t (y 0) (y 1)
    rwa [show (ix2 (y 0) (y 1) : S256x1664.Idx) = y from by idx_vars y] at this
  exact (hr y).trans (congrArg (m ((c.tc : Thread nD τ).loc main_arg0)) (e y).symm)

theorem rows5 (t : Fin cfg0.N) (r : Fin 256) (j : Fin 1664) :
    out0_5 (iblk m c 0 t) (iblk m c 1 t) (iblk m c 2 t) (iblk m c 3 t) (ix2 r j)
      = (CH (m ((c.tc : Thread nD τ).loc main_arg1)) (m ((c.tc : Thread nD τ).loc main_arg0)) (m ((c.tc : Thread nD τ).loc main_arg2)) (m ((c.tc : Thread nD τ).loc main_arg3))) (ix2 ⟨256 * t.val + r.val, by have := ltN t; omega⟩ j) := by
  unfold out0_5
  frame_out
  rw [ps0]
  blk_point [CH, iblk, V, idx t]

theorem final5 : (dats m 0 c).arrAt 5 cfg0.N = (CH (m ((c.tc : Thread nD τ).loc main_arg1)) (m ((c.tc : Thread nD τ).loc main_arg0)) (m ((c.tc : Thread nD τ).loc main_arg2)) (m ((c.tc : Thread nD τ).loc main_arg3))) := by
  refine (dats m 0 c).arrAt_eq_of_covers 5 _ (by decide +kernel) fun t hf y => ?_
  have e : ∀ y : S256x1664.Idx, (win0_5.blk t).view.emb y
      = (ix2 ⟨256 * t.val + (y 0).val, by have := ltN t; have := (y 0).isLt; simp at *; omega⟩ (y 1) : S1024x1664.Idx) := fun y => by
    blk_point [iblk, V, idx t]
  blk_simp
  rw [after0_5]
  have hr : ∀ y : S256x1664.Idx, out0_5 (iblk m c 0 t) (iblk m c 1 t) (iblk m c 2 t) (iblk m c 3 t) y
      = (CH (m ((c.tc : Thread nD τ).loc main_arg1)) (m ((c.tc : Thread nD τ).loc main_arg0)) (m ((c.tc : Thread nD τ).loc main_arg2)) (m ((c.tc : Thread nD τ).loc main_arg3))) (ix2 ⟨256 * t.val + (y 0).val, by have := ltN t; have := (y 0).isLt; simp at *; omega⟩ (y 1)) := fun y => by
    have := rows5 m c t (y 0) (y 1)
    rwa [show (ix2 (y 0) (y 1) : S256x1664.Idx) = y from by idx_vars y] at this
  exact (hr y).trans (congrArg (CH (m ((c.tc : Thread nD τ).loc main_arg1)) (m ((c.tc : Thread nD τ).loc main_arg0)) (m ((c.tc : Thread nD τ).loc main_arg2)) (m ((c.tc : Thread nD τ).loc main_arg3))) (e y).symm)

theorem rows6 (t : Fin cfg0.N) (r : Fin 256) (j : Fin 1664) :
    out0_6 (iblk m c 0 t) (iblk m c 1 t) (iblk m c 2 t) (iblk m c 3 t) (ix2 r j)
      = (MO (m ((c.tc : Thread nD τ).loc main_arg0)) (m ((c.tc : Thread nD τ).loc main_arg2))) (ix2 ⟨256 * t.val + r.val, by have := ltN t; omega⟩ j) := by
  unfold out0_6
  frame_out
  rw [pm0]
  blk_point [MO, iblk, V, idx t]

theorem final6 : (dats m 0 c).arrAt 6 cfg0.N = (MO (m ((c.tc : Thread nD τ).loc main_arg0)) (m ((c.tc : Thread nD τ).loc main_arg2))) := by
  refine (dats m 0 c).arrAt_eq_of_covers 6 _ (by decide +kernel) fun t hf y => ?_
  have e : ∀ y : S256x1664.Idx, (win0_6.blk t).view.emb y
      = (ix2 ⟨256 * t.val + (y 0).val, by have := ltN t; have := (y 0).isLt; simp at *; omega⟩ (y 1) : S1024x1664.Idx) := fun y => by
    blk_point [iblk, V, idx t]
  blk_simp
  rw [after0_6]
  have hr : ∀ y : S256x1664.Idx, out0_6 (iblk m c 0 t) (iblk m c 1 t) (iblk m c 2 t) (iblk m c 3 t) y
      = (MO (m ((c.tc : Thread nD τ).loc main_arg0)) (m ((c.tc : Thread nD τ).loc main_arg2))) (ix2 ⟨256 * t.val + (y 0).val, by have := ltN t; have := (y 0).isLt; simp at *; omega⟩ (y 1)) := fun y => by
    have := rows6 m c t (y 0) (y 1)
    rwa [show (ix2 (y 0) (y 1) : S256x1664.Idx) = y from by idx_vars y] at this
  exact (hr y).trans (congrArg (MO (m ((c.tc : Thread nD τ).loc main_arg0)) (m ((c.tc : Thread nD τ).loc main_arg2))) (e y).symm)

theorem rows7 (t : Fin cfg0.N) (r : Fin 256) (j : Fin 1664) :
    out0_7 (iblk m c 0 t) (iblk m c 1 t) (iblk m c 2 t) (iblk m c 3 t) (ix2 r j)
      = (VA (m ((c.tc : Thread nD τ).loc main_arg0)) (m ((c.tc : Thread nD τ).loc main_arg3))) (ix2 ⟨256 * t.val + r.val, by have := ltN t; omega⟩ j) := by
  unfold out0_7
  frame_out
  rw [pv0]
  blk_point [VA, iblk, V, idx t]

theorem final7 : (dats m 0 c).arrAt 7 cfg0.N = (VA (m ((c.tc : Thread nD τ).loc main_arg0)) (m ((c.tc : Thread nD τ).loc main_arg3))) := by
  refine (dats m 0 c).arrAt_eq_of_covers 7 _ (by decide +kernel) fun t hf y => ?_
  have e : ∀ y : S256x1664.Idx, (win0_7.blk t).view.emb y
      = (ix2 ⟨256 * t.val + (y 0).val, by have := ltN t; have := (y 0).isLt; simp at *; omega⟩ (y 1) : S1024x1664.Idx) := fun y => by
    blk_point [iblk, V, idx t]
  blk_simp
  rw [after0_7]
  have hr : ∀ y : S256x1664.Idx, out0_7 (iblk m c 0 t) (iblk m c 1 t) (iblk m c 2 t) (iblk m c 3 t) y
      = (VA (m ((c.tc : Thread nD τ).loc main_arg0)) (m ((c.tc : Thread nD τ).loc main_arg3))) (ix2 ⟨256 * t.val + (y 0).val, by have := ltN t; have := (y 0).isLt; simp at *; omega⟩ (y 1)) := fun y => by
    have := rows7 m c t (y 0) (y 1)
    rwa [show (ix2 (y 0) (y 1) : S256x1664.Idx) = y from by idx_vars y] at this
  exact (hr y).trans (congrArg (VA (m ((c.tc : Thread nD τ).loc main_arg0)) (m ((c.tc : Thread nD τ).loc main_arg3))) (e y).symm)

end

section
open Cert.Reference6Ideal Cert.Reference6Ideal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c.tc : Thread nD τ).loc main_arg0) = (m ((c.tc : Thread nD τ).loc main_arg0))
    ∧ r.2.mem ((c.tc : Thread nD τ).loc main_v23) = (CH (m ((c.tc : Thread nD τ).loc main_arg1)) (m ((c.tc : Thread nD τ).loc main_arg0)) (m ((c.tc : Thread nD τ).loc main_arg2)) (m ((c.tc : Thread nD τ).loc main_arg3)))
    ∧ r.2.mem ((c.tc : Thread nD τ).loc main_v4) = (MO (m ((c.tc : Thread nD τ).loc main_arg0)) (m ((c.tc : Thread nD τ).loc main_arg2)))
    ∧ r.2.mem ((c.tc : Thread nD τ).loc main_v10) = (VA (m ((c.tc : Thread nD τ).loc main_arg0)) (m ((c.tc : Thread nD τ).loc main_arg3)))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3)) :=
  (θ_run defs _ _).mono (fun _ h c => ⟨(h c).1.trans rfl, (h c).2.1.trans rfl, (h c).2.2.1.trans rfl, (h c).2.2.2.1.trans rfl, (h c).2.2.2.2⟩)
    (Cert.Reference6Ideal.Value.run m ρ)

end

end Cert.InStep

end
-- ==== Proof.SqStep.lean ====
/- The update of the three square weights: the reference's step, and the kernel's row blocks of it. -/
module

public import proofs.«01_k».proof.Proof.Gen.Kernel7Ideal.Value
public import proofs.«01_k».proof.Proof.Gen.Reference7Ideal.Run
public import proofs.«01_k».proof.Proof.Adam
public import Idealize.ShloMosaic.Lib.Claim
public import Idealize.ShloMosaic.Lib.Quiescent

@[expose] public section

set_option maxRecDepth 16384

noncomputable section

namespace Cert.SqStep

open Cert.Adam Idealize.ShloMosaic Idealize.ShloMosaic.TcCoe Idealize.SL.Sem

section
open Cert.Kernel7Ideal Cert.Kernel7Ideal.Gen
open Idealize.ShloMosaic.Pipeline (Dat)
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] ∧ win0_23.index t = ![t.val, 0] :=
  (by decide +kernel : ∀ t : Fin grid0.N, _)

theorem ltN (t : Fin cfg0.N) : t.val < 4 := lt_of_lt_of_eq t.isLt (by decide +kernel)

theorem pm0 (g m) (r : Fin 64) (j : Fin 1024) : k0_pay1 (F := Ideal) g m (ix2 r j) = mom (g (ix2 r j)) (m (ix2 r j)) := by
  pointwise [k0_pay1, mom]

theorem pv0 (g v) (r : Fin 64) (j : Fin 1024) : k0_pay2 (F := Ideal) g v (ix2 r j) = var (g (ix2 r j)) (v (ix2 r j)) := by
  pointwise [k0_pay2, var]

theorem ps0 (g w m v) (r : Fin 64) (j : Fin 1024) : k0_pay3 (F := Ideal) g w m v (ix2 r j)
    = step (w (ix2 r j)) (g (ix2 r j)) (m (ix2 r j)) (v (ix2 r j)) := by
  pointwise [k0_pay3, k0_pay1, k0_pay2, step, mom, var]

theorem pm1 (g m) (r : Fin 64) (j : Fin 1024) : k0_pay4 (F := Ideal) g m (ix2 r j) = mom (g (ix2 r j)) (m (ix2 r j)) := by
  pointwise [k0_pay4, mom]

theorem pv1 (g v) (r : Fin 64) (j : Fin 1024) : k0_pay5 (F := Ideal) g v (ix2 r j) = var (g (ix2 r j)) (v (ix2 r j)) := by
  pointwise [k0_pay5, var]

theorem ps1 (g w m v) (r : Fin 64) (j : Fin 1024) : k0_pay6 (F := Ideal) g w m v (ix2 r j)
    = step (w (ix2 r j)) (g (ix2 r j)) (m (ix2 r j)) (v (ix2 r j)) := by
  pointwise [k0_pay6, k0_pay4, k0_pay5, step, mom, var]

theorem pm2 (g m) (r : Fin 64) (j : Fin 1024) : k0_pay7 (F := Ideal) g m (ix2 r j) = mom (g (ix2 r j)) (m (ix2 r j)) := by
  pointwise [k0_pay7, mom]

theorem pv2 (g v) (r : Fin 64) (j : Fin 1024) : k0_pay8 (F := Ideal) g v (ix2 r j) = var (g (ix2 r j)) (v (ix2 r j)) := by
  pointwise [k0_pay8, var]

theorem ps2 (g w m v) (r : Fin 64) (j : Fin 1024) : k0_pay9 (F := Ideal) g w m v (ix2 r j)
    = step (w (ix2 r j)) (g (ix2 r j)) (m (ix2 r j)) (v (ix2 r j)) := by
  pointwise [k0_pay9, k0_pay7, k0_pay8, step, mom, var]

theorem rows12 (t : Fin cfg0.N) (r : Fin 64) (j : Fin 1024) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (m ((c.tc : Thread nD τ).loc main_arg0)) (ix2 ⟨64 * t.val + r.val, by have := ltN t; omega⟩ j) := by
  unfold out0_12
  frame_out
  blk_point [iblk, V, idx t]

theorem final12 : (dats m 0 c).arrAt 12 cfg0.N = (m ((c.tc : Thread nD τ).loc main_arg0)) := by
  refine (dats m 0 c).arrAt_eq_of_covers 12 _ (by decide +kernel) fun t hf y => ?_
  have e : ∀ y : S64x1024.Idx, (win0_12.blk t).view.emb y
      = (ix2 ⟨64 * t.val + (y 0).val, by have := ltN t; have := (y 0).isLt; simp at *; omega⟩ (y 1) : S256x1024.Idx) := fun y => by
    blk_point [iblk, V, idx t]
  blk_simp
  rw [after0_12]
  have hr : ∀ y : S64x1024.Idx, out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (m ((c.tc : Thread nD τ).loc main_arg0)) (ix2 ⟨64 * t.val + (y 0).val, by have := ltN t; have := (y 0).isLt; simp at *; omega⟩ (y 1)) := fun y => by
    have := rows12 m c t (y 0) (y 1)
    rwa [show (ix2 (y 0) (y 1) : S64x1024.Idx) = y from by idx_vars y] at this
  exact (hr y).trans (congrArg (m ((c.tc : Thread nD τ).loc main_arg0)) (e y).symm)

theorem rows13 (t : Fin cfg0.N) (r : Fin 64) (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (CH (m ((c.tc : Thread nD τ).loc main_arg3)) (m ((c.tc : Thread nD τ).loc main_arg0)) (m ((c.tc : Thread nD τ).loc main_arg6)) (m ((c.tc : Thread nD τ).loc main_arg9))) (ix2 ⟨64 * t.val + r.val, by have := ltN t; omega⟩ j) := by
  unfold out0_13
  frame_out
  rw [ps0]
  blk_point [CH, iblk, V, idx t]

theorem final13 : (dats m 0 c).arrAt 13 cfg0.N = (CH (m ((c.tc : Thread nD τ).loc main_arg3)) (m ((c.tc : Thread nD τ).loc main_arg0)) (m ((c.tc : Thread nD τ).loc main_arg6)) (m ((c.tc : Thread nD τ).loc main_arg9))) := by
  refine (dats m 0 c).arrAt_eq_of_covers 13 _ (by decide +kernel) fun t hf y => ?_
  have e : ∀ y : S64x1024.Idx, (win0_13.blk t).view.emb y
      = (ix2 ⟨64 * t.val + (y 0).val, by have := ltN t; have := (y 0).isLt; simp at *; omega⟩ (y 1) : S256x1024.Idx) := fun y => by
    blk_point [iblk, V, idx t]
  blk_simp
  rw [after0_13]
  have hr : ∀ y : S64x1024.Idx, out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (CH (m ((c.tc : Thread nD τ).loc main_arg3)) (m ((c.tc : Thread nD τ).loc main_arg0)) (m ((c.tc : Thread nD τ).loc main_arg6)) (m ((c.tc : Thread nD τ).loc main_arg9))) (ix2 ⟨64 * t.val + (y 0).val, by have := ltN t; have := (y 0).isLt; simp at *; omega⟩ (y 1)) := fun y => by
    have := rows13 m c t (y 0) (y 1)
    rwa [show (ix2 (y 0) (y 1) : S64x1024.Idx) = y from by idx_vars y] at this
  exact (hr y).trans (congrArg (CH (m ((c.tc : Thread nD τ).loc main_arg3)) (m ((c.tc : Thread nD τ).loc main_arg0)) (m ((c.tc : Thread nD τ).loc main_arg6)) (m ((c.tc : Thread nD τ).loc main_arg9))) (e y).symm)

theorem rows14 (t : Fin cfg0.N) (r : Fin 64) (j : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (MO (m ((c.tc : Thread nD τ).loc main_arg0)) (m ((c.tc : Thread nD τ).loc main_arg6))) (ix2 ⟨64 * t.val + r.val, by have := ltN t; omega⟩ j) := by
  unfold out0_14
  frame_out
  rw [pm0]
  blk_point [MO, iblk, V, idx t]

theorem final14 : (dats m 0 c).arrAt 14 cfg0.N = (MO (m ((c.tc : Thread nD τ).loc main_arg0)) (m ((c.tc : Thread nD τ).loc main_arg6))) := by
  refine (dats m 0 c).arrAt_eq_of_covers 14 _ (by decide +kernel) fun t hf y => ?_
  have e : ∀ y : S64x1024.Idx, (win0_14.blk t).view.emb y
      = (ix2 ⟨64 * t.val + (y 0).val, by have := ltN t; have := (y 0).isLt; simp at *; omega⟩ (y 1) : S256x1024.Idx) := fun y => by
    blk_point [iblk, V, idx t]
  blk_simp
  rw [after0_14]
  have hr : ∀ y : S64x1024.Idx, out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (MO (m ((c.tc : Thread nD τ).loc main_arg0)) (m ((c.tc : Thread nD τ).loc main_arg6))) (ix2 ⟨64 * t.val + (y 0).val, by have := ltN t; have := (y 0).isLt; simp at *; omega⟩ (y 1)) := fun y => by
    have := rows14 m c t (y 0) (y 1)
    rwa [show (ix2 (y 0) (y 1) : S64x1024.Idx) = y from by idx_vars y] at this
  exact (hr y).trans (congrArg (MO (m ((c.tc : Thread nD τ).loc main_arg0)) (m ((c.tc : Thread nD τ).loc main_arg6))) (e y).symm)

theorem rows15 (t : Fin cfg0.N) (r : Fin 64) (j : Fin 1024) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (VA (m ((c.tc : Thread nD τ).loc main_arg0)) (m ((c.tc : Thread nD τ).loc main_arg9))) (ix2 ⟨64 * t.val + r.val, by have := ltN t; omega⟩ j) := by
  unfold out0_15
  frame_out
  rw [pv0]
  blk_point [VA, iblk, V, idx t]

theorem final15 : (dats m 0 c).arrAt 15 cfg0.N = (VA (m ((c.tc : Thread nD τ).loc main_arg0)) (m ((c.tc : Thread nD τ).loc main_arg9))) := by
  refine (dats m 0 c).arrAt_eq_of_covers 15 _ (by decide +kernel) fun t hf y => ?_
  have e : ∀ y : S64x1024.Idx, (win0_15.blk t).view.emb y
      = (ix2 ⟨64 * t.val + (y 0).val, by have := ltN t; have := (y 0).isLt; simp at *; omega⟩ (y 1) : S256x1024.Idx) := fun y => by
    blk_point [iblk, V, idx t]
  blk_simp
  rw [after0_15]
  have hr : ∀ y : S64x1024.Idx, out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (VA (m ((c.tc : Thread nD τ).loc main_arg0)) (m ((c.tc : Thread nD τ).loc main_arg9))) (ix2 ⟨64 * t.val + (y 0).val, by have := ltN t; have := (y 0).isLt; simp at *; omega⟩ (y 1)) := fun y => by
    have := rows15 m c t (y 0) (y 1)
    rwa [show (ix2 (y 0) (y 1) : S64x1024.Idx) = y from by idx_vars y] at this
  exact (hr y).trans (congrArg (VA (m ((c.tc : Thread nD τ).loc main_arg0)) (m ((c.tc : Thread nD τ).loc main_arg9))) (e y).symm)

theorem rows16 (t : Fin cfg0.N) (r : Fin 64) (j : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (m ((c.tc : Thread nD τ).loc main_arg1)) (ix2 ⟨64 * t.val + r.val, by have := ltN t; omega⟩ j) := by
  unfold out0_16
  frame_out
  blk_point [iblk, V, idx t]

theorem final16 : (dats m 0 c).arrAt 16 cfg0.N = (m ((c.tc : Thread nD τ).loc main_arg1)) := by
  refine (dats m 0 c).arrAt_eq_of_covers 16 _ (by decide +kernel) fun t hf y => ?_
  have e : ∀ y : S64x1024.Idx, (win0_16.blk t).view.emb y
      = (ix2 ⟨64 * t.val + (y 0).val, by have := ltN t; have := (y 0).isLt; simp at *; omega⟩ (y 1) : S256x1024.Idx) := fun y => by
    blk_point [iblk, V, idx t]
  blk_simp
  rw [after0_16]
  have hr : ∀ y : S64x1024.Idx, out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (m ((c.tc : Thread nD τ).loc main_arg1)) (ix2 ⟨64 * t.val + (y 0).val, by have := ltN t; have := (y 0).isLt; simp at *; omega⟩ (y 1)) := fun y => by
    have := rows16 m c t (y 0) (y 1)
    rwa [show (ix2 (y 0) (y 1) : S64x1024.Idx) = y from by idx_vars y] at this
  exact (hr y).trans (congrArg (m ((c.tc : Thread nD τ).loc main_arg1)) (e y).symm)

theorem rows17 (t : Fin cfg0.N) (r : Fin 64) (j : Fin 1024) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (CH (m ((c.tc : Thread nD τ).loc main_arg4)) (m ((c.tc : Thread nD τ).loc main_arg1)) (m ((c.tc : Thread nD τ).loc main_arg7)) (m ((c.tc : Thread nD τ).loc main_arg10))) (ix2 ⟨64 * t.val + r.val, by have := ltN t; omega⟩ j) := by
  unfold out0_17
  frame_out
  rw [ps1]
  blk_point [CH, iblk, V, idx t]

theorem final17 : (dats m 0 c).arrAt 17 cfg0.N = (CH (m ((c.tc : Thread nD τ).loc main_arg4)) (m ((c.tc : Thread nD τ).loc main_arg1)) (m ((c.tc : Thread nD τ).loc main_arg7)) (m ((c.tc : Thread nD τ).loc main_arg10))) := by
  refine (dats m 0 c).arrAt_eq_of_covers 17 _ (by decide +kernel) fun t hf y => ?_
  have e : ∀ y : S64x1024.Idx, (win0_17.blk t).view.emb y
      = (ix2 ⟨64 * t.val + (y 0).val, by have := ltN t; have := (y 0).isLt; simp at *; omega⟩ (y 1) : S256x1024.Idx) := fun y => by
    blk_point [iblk, V, idx t]
  blk_simp
  rw [after0_17]
  have hr : ∀ y : S64x1024.Idx, out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (CH (m ((c.tc : Thread nD τ).loc main_arg4)) (m ((c.tc : Thread nD τ).loc main_arg1)) (m ((c.tc : Thread nD τ).loc main_arg7)) (m ((c.tc : Thread nD τ).loc main_arg10))) (ix2 ⟨64 * t.val + (y 0).val, by have := ltN t; have := (y 0).isLt; simp at *; omega⟩ (y 1)) := fun y => by
    have := rows17 m c t (y 0) (y 1)
    rwa [show (ix2 (y 0) (y 1) : S64x1024.Idx) = y from by idx_vars y] at this
  exact (hr y).trans (congrArg (CH (m ((c.tc : Thread nD τ).loc main_arg4)) (m ((c.tc : Thread nD τ).loc main_arg1)) (m ((c.tc : Thread nD τ).loc main_arg7)) (m ((c.tc : Thread nD τ).loc main_arg10))) (e y).symm)

theorem rows18 (t : Fin cfg0.N) (r : Fin 64) (j : Fin 1024) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (MO (m ((c.tc : Thread nD τ).loc main_arg1)) (m ((c.tc : Thread nD τ).loc main_arg7))) (ix2 ⟨64 * t.val + r.val, by have := ltN t; omega⟩ j) := by
  unfold out0_18
  frame_out
  rw [pm1]
  blk_point [MO, iblk, V, idx t]

theorem final18 : (dats m 0 c).arrAt 18 cfg0.N = (MO (m ((c.tc : Thread nD τ).loc main_arg1)) (m ((c.tc : Thread nD τ).loc main_arg7))) := by
  refine (dats m 0 c).arrAt_eq_of_covers 18 _ (by decide +kernel) fun t hf y => ?_
  have e : ∀ y : S64x1024.Idx, (win0_18.blk t).view.emb y
      = (ix2 ⟨64 * t.val + (y 0).val, by have := ltN t; have := (y 0).isLt; simp at *; omega⟩ (y 1) : S256x1024.Idx) := fun y => by
    blk_point [iblk, V, idx t]
  blk_simp
  rw [after0_18]
  have hr : ∀ y : S64x1024.Idx, out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (MO (m ((c.tc : Thread nD τ).loc main_arg1)) (m ((c.tc : Thread nD τ).loc main_arg7))) (ix2 ⟨64 * t.val + (y 0).val, by have := ltN t; have := (y 0).isLt; simp at *; omega⟩ (y 1)) := fun y => by
    have := rows18 m c t (y 0) (y 1)
    rwa [show (ix2 (y 0) (y 1) : S64x1024.Idx) = y from by idx_vars y] at this
  exact (hr y).trans (congrArg (MO (m ((c.tc : Thread nD τ).loc main_arg1)) (m ((c.tc : Thread nD τ).loc main_arg7))) (e y).symm)

theorem rows19 (t : Fin cfg0.N) (r : Fin 64) (j : Fin 1024) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (VA (m ((c.tc : Thread nD τ).loc main_arg1)) (m ((c.tc : Thread nD τ).loc main_arg10))) (ix2 ⟨64 * t.val + r.val, by have := ltN t; omega⟩ j) := by
  unfold out0_19
  frame_out
  rw [pv1]
  blk_point [VA, iblk, V, idx t]

theorem final19 : (dats m 0 c).arrAt 19 cfg0.N = (VA (m ((c.tc : Thread nD τ).loc main_arg1)) (m ((c.tc : Thread nD τ).loc main_arg10))) := by
  refine (dats m 0 c).arrAt_eq_of_covers 19 _ (by decide +kernel) fun t hf y => ?_
  have e : ∀ y : S64x1024.Idx, (win0_19.blk t).view.emb y
      = (ix2 ⟨64 * t.val + (y 0).val, by have := ltN t; have := (y 0).isLt; simp at *; omega⟩ (y 1) : S256x1024.Idx) := fun y => by
    blk_point [iblk, V, idx t]
  blk_simp
  rw [after0_19]
  have hr : ∀ y : S64x1024.Idx, out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (VA (m ((c.tc : Thread nD τ).loc main_arg1)) (m ((c.tc : Thread nD τ).loc main_arg10))) (ix2 ⟨64 * t.val + (y 0).val, by have := ltN t; have := (y 0).isLt; simp at *; omega⟩ (y 1)) := fun y => by
    have := rows19 m c t (y 0) (y 1)
    rwa [show (ix2 (y 0) (y 1) : S64x1024.Idx) = y from by idx_vars y] at this
  exact (hr y).trans (congrArg (VA (m ((c.tc : Thread nD τ).loc main_arg1)) (m ((c.tc : Thread nD τ).loc main_arg10))) (e y).symm)

theorem rows20 (t : Fin cfg0.N) (r : Fin 64) (j : Fin 1024) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (m ((c.tc : Thread nD τ).loc main_arg2)) (ix2 ⟨64 * t.val + r.val, by have := ltN t; omega⟩ j) := by
  unfold out0_20
  frame_out
  blk_point [iblk, V, idx t]

theorem final20 : (dats m 0 c).arrAt 20 cfg0.N = (m ((c.tc : Thread nD τ).loc main_arg2)) := by
  refine (dats m 0 c).arrAt_eq_of_covers 20 _ (by decide +kernel) fun t hf y => ?_
  have e : ∀ y : S64x1024.Idx, (win0_20.blk t).view.emb y
      = (ix2 ⟨64 * t.val + (y 0).val, by have := ltN t; have := (y 0).isLt; simp at *; omega⟩ (y 1) : S256x1024.Idx) := fun y => by
    blk_point [iblk, V, idx t]
  blk_simp
  rw [after0_20]
  have hr : ∀ y : S64x1024.Idx, out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (m ((c.tc : Thread nD τ).loc main_arg2)) (ix2 ⟨64 * t.val + (y 0).val, by have := ltN t; have := (y 0).isLt; simp at *; omega⟩ (y 1)) := fun y => by
    have := rows20 m c t (y 0) (y 1)
    rwa [show (ix2 (y 0) (y 1) : S64x1024.Idx) = y from by idx_vars y] at this
  exact (hr y).trans (congrArg (m ((c.tc : Thread nD τ).loc main_arg2)) (e y).symm)

theorem rows21 (t : Fin cfg0.N) (r : Fin 64) (j : Fin 1024) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (CH (m ((c.tc : Thread nD τ).loc main_arg5)) (m ((c.tc : Thread nD τ).loc main_arg2)) (m ((c.tc : Thread nD τ).loc main_arg8)) (m ((c.tc : Thread nD τ).loc main_arg11))) (ix2 ⟨64 * t.val + r.val, by have := ltN t; omega⟩ j) := by
  unfold out0_21
  frame_out
  rw [ps2]
  blk_point [CH, iblk, V, idx t]

theorem final21 : (dats m 0 c).arrAt 21 cfg0.N = (CH (m ((c.tc : Thread nD τ).loc main_arg5)) (m ((c.tc : Thread nD τ).loc main_arg2)) (m ((c.tc : Thread nD τ).loc main_arg8)) (m ((c.tc : Thread nD τ).loc main_arg11))) := by
  refine (dats m 0 c).arrAt_eq_of_covers 21 _ (by decide +kernel) fun t hf y => ?_
  have e : ∀ y : S64x1024.Idx, (win0_21.blk t).view.emb y
      = (ix2 ⟨64 * t.val + (y 0).val, by have := ltN t; have := (y 0).isLt; simp at *; omega⟩ (y 1) : S256x1024.Idx) := fun y => by
    blk_point [iblk, V, idx t]
  blk_simp
  rw [after0_21]
  have hr : ∀ y : S64x1024.Idx, out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (CH (m ((c.tc : Thread nD τ).loc main_arg5)) (m ((c.tc : Thread nD τ).loc main_arg2)) (m ((c.tc : Thread nD τ).loc main_arg8)) (m ((c.tc : Thread nD τ).loc main_arg11))) (ix2 ⟨64 * t.val + (y 0).val, by have := ltN t; have := (y 0).isLt; simp at *; omega⟩ (y 1)) := fun y => by
    have := rows21 m c t (y 0) (y 1)
    rwa [show (ix2 (y 0) (y 1) : S64x1024.Idx) = y from by idx_vars y] at this
  exact (hr y).trans (congrArg (CH (m ((c.tc : Thread nD τ).loc main_arg5)) (m ((c.tc : Thread nD τ).loc main_arg2)) (m ((c.tc : Thread nD τ).loc main_arg8)) (m ((c.tc : Thread nD τ).loc main_arg11))) (e y).symm)

theorem rows22 (t : Fin cfg0.N) (r : Fin 64) (j : Fin 1024) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (MO (m ((c.tc : Thread nD τ).loc main_arg2)) (m ((c.tc : Thread nD τ).loc main_arg8))) (ix2 ⟨64 * t.val + r.val, by have := ltN t; omega⟩ j) := by
  unfold out0_22
  frame_out
  rw [pm2]
  blk_point [MO, iblk, V, idx t]

theorem final22 : (dats m 0 c).arrAt 22 cfg0.N = (MO (m ((c.tc : Thread nD τ).loc main_arg2)) (m ((c.tc : Thread nD τ).loc main_arg8))) := by
  refine (dats m 0 c).arrAt_eq_of_covers 22 _ (by decide +kernel) fun t hf y => ?_
  have e : ∀ y : S64x1024.Idx, (win0_22.blk t).view.emb y
      = (ix2 ⟨64 * t.val + (y 0).val, by have := ltN t; have := (y 0).isLt; simp at *; omega⟩ (y 1) : S256x1024.Idx) := fun y => by
    blk_point [iblk, V, idx t]
  blk_simp
  rw [after0_22]
  have hr : ∀ y : S64x1024.Idx, out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (MO (m ((c.tc : Thread nD τ).loc main_arg2)) (m ((c.tc : Thread nD τ).loc main_arg8))) (ix2 ⟨64 * t.val + (y 0).val, by have := ltN t; have := (y 0).isLt; simp at *; omega⟩ (y 1)) := fun y => by
    have := rows22 m c t (y 0) (y 1)
    rwa [show (ix2 (y 0) (y 1) : S64x1024.Idx) = y from by idx_vars y] at this
  exact (hr y).trans (congrArg (MO (m ((c.tc : Thread nD τ).loc main_arg2)) (m ((c.tc : Thread nD τ).loc main_arg8))) (e y).symm)

theorem rows23 (t : Fin cfg0.N) (r : Fin 64) (j : Fin 1024) :
    out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r j)
      = (VA (m ((c.tc : Thread nD τ).loc main_arg2)) (m ((c.tc : Thread nD τ).loc main_arg11))) (ix2 ⟨64 * t.val + r.val, by have := ltN t; omega⟩ j) := by
  unfold out0_23
  frame_out
  rw [pv2]
  blk_point [VA, iblk, V, idx t]

theorem final23 : (dats m 0 c).arrAt 23 cfg0.N = (VA (m ((c.tc : Thread nD τ).loc main_arg2)) (m ((c.tc : Thread nD τ).loc main_arg11))) := by
  refine (dats m 0 c).arrAt_eq_of_covers 23 _ (by decide +kernel) fun t hf y => ?_
  have e : ∀ y : S64x1024.Idx, (win0_23.blk t).view.emb y
      = (ix2 ⟨64 * t.val + (y 0).val, by have := ltN t; have := (y 0).isLt; simp at *; omega⟩ (y 1) : S256x1024.Idx) := fun y => by
    blk_point [iblk, V, idx t]
  blk_simp
  rw [after0_23]
  have hr : ∀ y : S64x1024.Idx, out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y
      = (VA (m ((c.tc : Thread nD τ).loc main_arg2)) (m ((c.tc : Thread nD τ).loc main_arg11))) (ix2 ⟨64 * t.val + (y 0).val, by have := ltN t; have := (y 0).isLt; simp at *; omega⟩ (y 1)) := fun y => by
    have := rows23 m c t (y 0) (y 1)
    rwa [show (ix2 (y 0) (y 1) : S64x1024.Idx) = y from by idx_vars y] at this
  exact (hr y).trans (congrArg (VA (m ((c.tc : Thread nD τ).loc main_arg2)) (m ((c.tc : Thread nD τ).loc main_arg11))) (e y).symm)

end

section
open Cert.Reference7Ideal Cert.Reference7Ideal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c.tc : Thread nD τ).loc main_arg0) = (m ((c.tc : Thread nD τ).loc main_arg0))
    ∧ r.2.mem ((c.tc : Thread nD τ).loc main_v23) = (CH (m ((c.tc : Thread nD τ).loc main_arg3)) (m ((c.tc : Thread nD τ).loc main_arg0)) (m ((c.tc : Thread nD τ).loc main_arg6)) (m ((c.tc : Thread nD τ).loc main_arg9)))
    ∧ r.2.mem ((c.tc : Thread nD τ).loc main_v4) = (MO (m ((c.tc : Thread nD τ).loc main_arg0)) (m ((c.tc : Thread nD τ).loc main_arg6)))
    ∧ r.2.mem ((c.tc : Thread nD τ).loc main_v10) = (VA (m ((c.tc : Thread nD τ).loc main_arg0)) (m ((c.tc : Thread nD τ).loc main_arg9)))
    ∧ r.2.mem ((c.tc : Thread nD τ).loc main_arg1) = (m ((c.tc : Thread nD τ).loc main_arg1))
    ∧ r.2.mem ((c.tc : Thread nD τ).loc main_v47) = (CH (m ((c.tc : Thread nD τ).loc main_arg4)) (m ((c.tc : Thread nD τ).loc main_arg1)) (m ((c.tc : Thread nD τ).loc main_arg7)) (m ((c.tc : Thread nD τ).loc main_arg10)))
    ∧ r.2.mem ((c.tc : Thread nD τ).loc main_v28) = (MO (m ((c.tc : Thread nD τ).loc main_arg1)) (m ((c.tc : Thread nD τ).loc main_arg7)))
    ∧ r.2.mem ((c.tc : Thread nD τ).loc main_v34) = (VA (m ((c.tc : Thread nD τ).loc main_arg1)) (m ((c.tc : Thread nD τ).loc main_arg10)))
    ∧ r.2.mem ((c.tc : Thread nD τ).loc main_arg2) = (m ((c.tc : Thread nD τ).loc main_arg2))
    ∧ r.2.mem ((c.tc : Thread nD τ).loc main_v71) = (CH (m ((c.tc : Thread nD τ).loc main_arg5)) (m ((c.tc : Thread nD τ).loc main_arg2)) (m ((c.tc : Thread nD τ).loc main_arg8)) (m ((c.tc : Thread nD τ).loc main_arg11)))
    ∧ r.2.mem ((c.tc : Thread nD τ).loc main_v52) = (MO (m ((c.tc : Thread nD τ).loc main_arg2)) (m ((c.tc : Thread nD τ).loc main_arg8)))
    ∧ r.2.mem ((c.tc : Thread nD τ).loc main_v58) = (VA (m ((c.tc : Thread nD τ).loc main_arg2)) (m ((c.tc : Thread nD τ).loc main_arg11)))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3))
    ∧ r.2.mem ((c.tc : Thread nD τ).loc main_arg4) = (m ((c.tc : Thread nD τ).loc main_arg4))
    ∧ r.2.mem ((c.tc : Thread nD τ).loc main_arg5) = (m ((c.tc : Thread nD τ).loc main_arg5))
    ∧ r.2.mem ((c.tc : Thread nD τ).loc main_arg6) = (m ((c.tc : Thread nD τ).loc main_arg6))
    ∧ r.2.mem ((c.tc : Thread nD τ).loc main_arg7) = (m ((c.tc : Thread nD τ).loc main_arg7))
    ∧ r.2.mem ((c.tc : Thread nD τ).loc main_arg8) = (m ((c.tc : Thread nD τ).loc main_arg8))
    ∧ r.2.mem ((c.tc : Thread nD τ).loc main_arg9) = (m ((c.tc : Thread nD τ).loc main_arg9))
    ∧ r.2.mem ((c.tc : Thread nD τ).loc main_arg10) = (m ((c.tc : Thread nD τ).loc main_arg10))
    ∧ r.2.mem ((c.tc : Thread nD τ).loc main_arg11) = (m ((c.tc : Thread nD τ).loc main_arg11)) :=
  (θ_run defs _ _).mono (fun _ h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2.1.trans rfl, (h c).2.2.2.2.2.2.2.2.1.trans rfl, (h c).2.2.2.2.2.2.2.2.2.1.trans rfl, (h c).2.2.2.2.2.2.2.2.2.2.1.trans rfl, (h c).2.2.2.2.2.2.2.2.2.2.2.1.trans rfl, (h c).2.2.2.2.2.2.2.2.2.2.2.2⟩)
    (Cert.Reference7Ideal.Value.run m ρ)

end

end Cert.SqStep

end
-- ==== Proof.RgStep.lean ====
/- The update of the two recurrence gates' weights: the reference's step, and the kernel's row blocks of it. -/
module

public import proofs.«01_k».proof.Proof.Gen.Kernel8Ideal.Value
public import proofs.«01_k».proof.Proof.Gen.Reference8Ideal.Run
public import proofs.«01_k».proof.Proof.Adam
public import Idealize.ShloMosaic.Lib.Claim
public import Idealize.ShloMosaic.Lib.Quiescent

@[expose] public section

set_option maxRecDepth 16384

noncomputable section

namespace Cert.RgStep

open Cert.Adam Idealize.ShloMosaic Idealize.ShloMosaic.TcCoe Idealize.SL.Sem

section
open Cert.Kernel8Ideal Cert.Kernel8Ideal.Gen
open Idealize.ShloMosaic.Pipeline (Dat)
variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

theorem ltN (t : Fin cfg0.N) : t.val < 4 := lt_of_lt_of_eq t.isLt (by decide +kernel)

theorem pm0 (g m) (r : Fin 64) (j : Fin 256) : k0_pay1 (F := Ideal) g m (ix2 r j) = mom (g (ix2 r j)) (m (ix2 r j)) := by
  pointwise [k0_pay1, mom]

theorem pv0 (g v) (r : Fin 64) (j : Fin 256) : k0_pay2 (F := Ideal) g v (ix2 r j) = var (g (ix2 r j)) (v (ix2 r j)) := by
  pointwise [k0_pay2, var]

theorem ps0 (g w m v) (r : Fin 64) (j : Fin 256) : k0_pay3 (F := Ideal) g w m v (ix2 r j)
    = step (w (ix2 r j)) (g (ix2 r j)) (m (ix2 r j)) (v (ix2 r j)) := by
  pointwise [k0_pay3, k0_pay1, k0_pay2, step, mom, var]

theorem pm1 (g m) (r : Fin 64) (j : Fin 256) : k0_pay4 (F := Ideal) g m (ix2 r j) = mom (g (ix2 r j)) (m (ix2 r j)) := by
  pointwise [k0_pay4, mom]

theorem pv1 (g v) (r : Fin 64) (j : Fin 256) : k0_pay5 (F := Ideal) g v (ix2 r j) = var (g (ix2 r j)) (v (ix2 r j)) := by
  pointwise [k0_pay5, var]

theorem ps1 (g w m v) (r : Fin 64) (j : Fin 256) : k0_pay6 (F := Ideal) g w m v (ix2 r j)
    = step (w (ix2 r j)) (g (ix2 r j)) (m (ix2 r j)) (v (ix2 r j)) := by
  pointwise [k0_pay6, k0_pay4, k0_pay5, step, mom, var]

theorem rows8 (t : Fin cfg0.N) (r : Fin 64) (j : Fin 256) :
    out0_8 (iblk m c 0 t) (iblk m c 1 t) (iblk m c 2 t) (iblk m c 3 t) (iblk m c 4 t) (iblk m c 5 t) (iblk m c 6 t) (iblk m c 7 t) (ix2 r j)
      = (m ((c.tc : Thread nD τ).loc main_arg0)) (ix2 ⟨64 * t.val + r.val, by have := ltN t; omega⟩ j) := by
  unfold out0_8
  frame_out
  blk_point [iblk, V, idx t]

theorem final8 : (dats m 0 c).arrAt 8 cfg0.N = (m ((c.tc : Thread nD τ).loc main_arg0)) := by
  refine (dats m 0 c).arrAt_eq_of_covers 8 _ (by decide +kernel) fun t hf y => ?_
  have e : ∀ y : S64x256.Idx, (win0_8.blk t).view.emb y
      = (ix2 ⟨64 * t.val + (y 0).val, by have := ltN t; have := (y 0).isLt; simp at *; omega⟩ (y 1) : S256x256.Idx) := fun y => by
    blk_point [iblk, V, idx t]
  blk_simp
  rw [after0_8]
  have hr : ∀ y : S64x256.Idx, out0_8 (iblk m c 0 t) (iblk m c 1 t) (iblk m c 2 t) (iblk m c 3 t) (iblk m c 4 t) (iblk m c 5 t) (iblk m c 6 t) (iblk m c 7 t) y
      = (m ((c.tc : Thread nD τ).loc main_arg0)) (ix2 ⟨64 * t.val + (y 0).val, by have := ltN t; have := (y 0).isLt; simp at *; omega⟩ (y 1)) := fun y => by
    have := rows8 m c t (y 0) (y 1)
    rwa [show (ix2 (y 0) (y 1) : S64x256.Idx) = y from by idx_vars y] at this
  exact (hr y).trans (congrArg (m ((c.tc : Thread nD τ).loc main_arg0)) (e y).symm)

theorem rows9 (t : Fin cfg0.N) (r : Fin 64) (j : Fin 256) :
    out0_9 (iblk m c 0 t) (iblk m c 1 t) (iblk m c 2 t) (iblk m c 3 t) (iblk m c 4 t) (iblk m c 5 t) (iblk m c 6 t) (iblk m c 7 t) (ix2 r j)
      = (CH (m ((c.tc : Thread nD τ).loc main_arg2)) (m ((c.tc : Thread nD τ).loc main_arg0)) (m ((c.tc : Thread nD τ).loc main_arg4)) (m ((c.tc : Thread nD τ).loc main_arg6))) (ix2 ⟨64 * t.val + r.val, by have := ltN t; omega⟩ j) := by
  unfold out0_9
  frame_out
  rw [ps0]
  blk_point [CH, iblk, V, idx t]

theorem final9 : (dats m 0 c).arrAt 9 cfg0.N = (CH (m ((c.tc : Thread nD τ).loc main_arg2)) (m ((c.tc : Thread nD τ).loc main_arg0)) (m ((c.tc : Thread nD τ).loc main_arg4)) (m ((c.tc : Thread nD τ).loc main_arg6))) := by
  refine (dats m 0 c).arrAt_eq_of_covers 9 _ (by decide +kernel) fun t hf y => ?_
  have e : ∀ y : S64x256.Idx, (win0_9.blk t).view.emb y
      = (ix2 ⟨64 * t.val + (y 0).val, by have := ltN t; have := (y 0).isLt; simp at *; omega⟩ (y 1) : S256x256.Idx) := fun y => by
    blk_point [iblk, V, idx t]
  blk_simp
  rw [after0_9]
  have hr : ∀ y : S64x256.Idx, out0_9 (iblk m c 0 t) (iblk m c 1 t) (iblk m c 2 t) (iblk m c 3 t) (iblk m c 4 t) (iblk m c 5 t) (iblk m c 6 t) (iblk m c 7 t) y
      = (CH (m ((c.tc : Thread nD τ).loc main_arg2)) (m ((c.tc : Thread nD τ).loc main_arg0)) (m ((c.tc : Thread nD τ).loc main_arg4)) (m ((c.tc : Thread nD τ).loc main_arg6))) (ix2 ⟨64 * t.val + (y 0).val, by have := ltN t; have := (y 0).isLt; simp at *; omega⟩ (y 1)) := fun y => by
    have := rows9 m c t (y 0) (y 1)
    rwa [show (ix2 (y 0) (y 1) : S64x256.Idx) = y from by idx_vars y] at this
  exact (hr y).trans (congrArg (CH (m ((c.tc : Thread nD τ).loc main_arg2)) (m ((c.tc : Thread nD τ).loc main_arg0)) (m ((c.tc : Thread nD τ).loc main_arg4)) (m ((c.tc : Thread nD τ).loc main_arg6))) (e y).symm)

theorem rows10 (t : Fin cfg0.N) (r : Fin 64) (j : Fin 256) :
    out0_10 (iblk m c 0 t) (iblk m c 1 t) (iblk m c 2 t) (iblk m c 3 t) (iblk m c 4 t) (iblk m c 5 t) (iblk m c 6 t) (iblk m c 7 t) (ix2 r j)
      = (MO (m ((c.tc : Thread nD τ).loc main_arg0)) (m ((c.tc : Thread nD τ).loc main_arg4))) (ix2 ⟨64 * t.val + r.val, by have := ltN t; omega⟩ j) := by
  unfold out0_10
  frame_out
  rw [pm0]
  blk_point [MO, iblk, V, idx t]

theorem final10 : (dats m 0 c).arrAt 10 cfg0.N = (MO (m ((c.tc : Thread nD τ).loc main_arg0)) (m ((c.tc : Thread nD τ).loc main_arg4))) := by
  refine (dats m 0 c).arrAt_eq_of_covers 10 _ (by decide +kernel) fun t hf y => ?_
  have e : ∀ y : S64x256.Idx, (win0_10.blk t).view.emb y
      = (ix2 ⟨64 * t.val + (y 0).val, by have := ltN t; have := (y 0).isLt; simp at *; omega⟩ (y 1) : S256x256.Idx) := fun y => by
    blk_point [iblk, V, idx t]
  blk_simp
  rw [after0_10]
  have hr : ∀ y : S64x256.Idx, out0_10 (iblk m c 0 t) (iblk m c 1 t) (iblk m c 2 t) (iblk m c 3 t) (iblk m c 4 t) (iblk m c 5 t) (iblk m c 6 t) (iblk m c 7 t) y
      = (MO (m ((c.tc : Thread nD τ).loc main_arg0)) (m ((c.tc : Thread nD τ).loc main_arg4))) (ix2 ⟨64 * t.val + (y 0).val, by have := ltN t; have := (y 0).isLt; simp at *; omega⟩ (y 1)) := fun y => by
    have := rows10 m c t (y 0) (y 1)
    rwa [show (ix2 (y 0) (y 1) : S64x256.Idx) = y from by idx_vars y] at this
  exact (hr y).trans (congrArg (MO (m ((c.tc : Thread nD τ).loc main_arg0)) (m ((c.tc : Thread nD τ).loc main_arg4))) (e y).symm)

theorem rows11 (t : Fin cfg0.N) (r : Fin 64) (j : Fin 256) :
    out0_11 (iblk m c 0 t) (iblk m c 1 t) (iblk m c 2 t) (iblk m c 3 t) (iblk m c 4 t) (iblk m c 5 t) (iblk m c 6 t) (iblk m c 7 t) (ix2 r j)
      = (VA (m ((c.tc : Thread nD τ).loc main_arg0)) (m ((c.tc : Thread nD τ).loc main_arg6))) (ix2 ⟨64 * t.val + r.val, by have := ltN t; omega⟩ j) := by
  unfold out0_11
  frame_out
  rw [pv0]
  blk_point [VA, iblk, V, idx t]

theorem final11 : (dats m 0 c).arrAt 11 cfg0.N = (VA (m ((c.tc : Thread nD τ).loc main_arg0)) (m ((c.tc : Thread nD τ).loc main_arg6))) := by
  refine (dats m 0 c).arrAt_eq_of_covers 11 _ (by decide +kernel) fun t hf y => ?_
  have e : ∀ y : S64x256.Idx, (win0_11.blk t).view.emb y
      = (ix2 ⟨64 * t.val + (y 0).val, by have := ltN t; have := (y 0).isLt; simp at *; omega⟩ (y 1) : S256x256.Idx) := fun y => by
    blk_point [iblk, V, idx t]
  blk_simp
  rw [after0_11]
  have hr : ∀ y : S64x256.Idx, out0_11 (iblk m c 0 t) (iblk m c 1 t) (iblk m c 2 t) (iblk m c 3 t) (iblk m c 4 t) (iblk m c 5 t) (iblk m c 6 t) (iblk m c 7 t) y
      = (VA (m ((c.tc : Thread nD τ).loc main_arg0)) (m ((c.tc : Thread nD τ).loc main_arg6))) (ix2 ⟨64 * t.val + (y 0).val, by have := ltN t; have := (y 0).isLt; simp at *; omega⟩ (y 1)) := fun y => by
    have := rows11 m c t (y 0) (y 1)
    rwa [show (ix2 (y 0) (y 1) : S64x256.Idx) = y from by idx_vars y] at this
  exact (hr y).trans (congrArg (VA (m ((c.tc : Thread nD τ).loc main_arg0)) (m ((c.tc : Thread nD τ).loc main_arg6))) (e y).symm)

theorem rows12 (t : Fin cfg0.N) (r : Fin 64) (j : Fin 256) :
    out0_12 (iblk m c 0 t) (iblk m c 1 t) (iblk m c 2 t) (iblk m c 3 t) (iblk m c 4 t) (iblk m c 5 t) (iblk m c 6 t) (iblk m c 7 t) (ix2 r j)
      = (m ((c.tc : Thread nD τ).loc main_arg1)) (ix2 ⟨64 * t.val + r.val, by have := ltN t; omega⟩ j) := by
  unfold out0_12
  frame_out
  blk_point [iblk, V, idx t]

theorem final12 : (dats m 0 c).arrAt 12 cfg0.N = (m ((c.tc : Thread nD τ).loc main_arg1)) := by
  refine (dats m 0 c).arrAt_eq_of_covers 12 _ (by decide +kernel) fun t hf y => ?_
  have e : ∀ y : S64x256.Idx, (win0_12.blk t).view.emb y
      = (ix2 ⟨64 * t.val + (y 0).val, by have := ltN t; have := (y 0).isLt; simp at *; omega⟩ (y 1) : S256x256.Idx) := fun y => by
    blk_point [iblk, V, idx t]
  blk_simp
  rw [after0_12]
  have hr : ∀ y : S64x256.Idx, out0_12 (iblk m c 0 t) (iblk m c 1 t) (iblk m c 2 t) (iblk m c 3 t) (iblk m c 4 t) (iblk m c 5 t) (iblk m c 6 t) (iblk m c 7 t) y
      = (m ((c.tc : Thread nD τ).loc main_arg1)) (ix2 ⟨64 * t.val + (y 0).val, by have := ltN t; have := (y 0).isLt; simp at *; omega⟩ (y 1)) := fun y => by
    have := rows12 m c t (y 0) (y 1)
    rwa [show (ix2 (y 0) (y 1) : S64x256.Idx) = y from by idx_vars y] at this
  exact (hr y).trans (congrArg (m ((c.tc : Thread nD τ).loc main_arg1)) (e y).symm)

theorem rows13 (t : Fin cfg0.N) (r : Fin 64) (j : Fin 256) :
    out0_13 (iblk m c 0 t) (iblk m c 1 t) (iblk m c 2 t) (iblk m c 3 t) (iblk m c 4 t) (iblk m c 5 t) (iblk m c 6 t) (iblk m c 7 t) (ix2 r j)
      = (CH (m ((c.tc : Thread nD τ).loc main_arg3)) (m ((c.tc : Thread nD τ).loc main_arg1)) (m ((c.tc : Thread nD τ).loc main_arg5)) (m ((c.tc : Thread nD τ).loc main_arg7))) (ix2 ⟨64 * t.val + r.val, by have := ltN t; omega⟩ j) := by
  unfold out0_13
  frame_out
  rw [ps1]
  blk_point [CH, iblk, V, idx t]

theorem final13 : (dats m 0 c).arrAt 13 cfg0.N = (CH (m ((c.tc : Thread nD τ).loc main_arg3)) (m ((c.tc : Thread nD τ).loc main_arg1)) (m ((c.tc : Thread nD τ).loc main_arg5)) (m ((c.tc : Thread nD τ).loc main_arg7))) := by
  refine (dats m 0 c).arrAt_eq_of_covers 13 _ (by decide +kernel) fun t hf y => ?_
  have e : ∀ y : S64x256.Idx, (win0_13.blk t).view.emb y
      = (ix2 ⟨64 * t.val + (y 0).val, by have := ltN t; have := (y 0).isLt; simp at *; omega⟩ (y 1) : S256x256.Idx) := fun y => by
    blk_point [iblk, V, idx t]
  blk_simp
  rw [after0_13]
  have hr : ∀ y : S64x256.Idx, out0_13 (iblk m c 0 t) (iblk m c 1 t) (iblk m c 2 t) (iblk m c 3 t) (iblk m c 4 t) (iblk m c 5 t) (iblk m c 6 t) (iblk m c 7 t) y
      = (CH (m ((c.tc : Thread nD τ).loc main_arg3)) (m ((c.tc : Thread nD τ).loc main_arg1)) (m ((c.tc : Thread nD τ).loc main_arg5)) (m ((c.tc : Thread nD τ).loc main_arg7))) (ix2 ⟨64 * t.val + (y 0).val, by have := ltN t; have := (y 0).isLt; simp at *; omega⟩ (y 1)) := fun y => by
    have := rows13 m c t (y 0) (y 1)
    rwa [show (ix2 (y 0) (y 1) : S64x256.Idx) = y from by idx_vars y] at this
  exact (hr y).trans (congrArg (CH (m ((c.tc : Thread nD τ).loc main_arg3)) (m ((c.tc : Thread nD τ).loc main_arg1)) (m ((c.tc : Thread nD τ).loc main_arg5)) (m ((c.tc : Thread nD τ).loc main_arg7))) (e y).symm)

theorem rows14 (t : Fin cfg0.N) (r : Fin 64) (j : Fin 256) :
    out0_14 (iblk m c 0 t) (iblk m c 1 t) (iblk m c 2 t) (iblk m c 3 t) (iblk m c 4 t) (iblk m c 5 t) (iblk m c 6 t) (iblk m c 7 t) (ix2 r j)
      = (MO (m ((c.tc : Thread nD τ).loc main_arg1)) (m ((c.tc : Thread nD τ).loc main_arg5))) (ix2 ⟨64 * t.val + r.val, by have := ltN t; omega⟩ j) := by
  unfold out0_14
  frame_out
  rw [pm1]
  blk_point [MO, iblk, V, idx t]

theorem final14 : (dats m 0 c).arrAt 14 cfg0.N = (MO (m ((c.tc : Thread nD τ).loc main_arg1)) (m ((c.tc : Thread nD τ).loc main_arg5))) := by
  refine (dats m 0 c).arrAt_eq_of_covers 14 _ (by decide +kernel) fun t hf y => ?_
  have e : ∀ y : S64x256.Idx, (win0_14.blk t).view.emb y
      = (ix2 ⟨64 * t.val + (y 0).val, by have := ltN t; have := (y 0).isLt; simp at *; omega⟩ (y 1) : S256x256.Idx) := fun y => by
    blk_point [iblk, V, idx t]
  blk_simp
  rw [after0_14]
  have hr : ∀ y : S64x256.Idx, out0_14 (iblk m c 0 t) (iblk m c 1 t) (iblk m c 2 t) (iblk m c 3 t) (iblk m c 4 t) (iblk m c 5 t) (iblk m c 6 t) (iblk m c 7 t) y
      = (MO (m ((c.tc : Thread nD τ).loc main_arg1)) (m ((c.tc : Thread nD τ).loc main_arg5))) (ix2 ⟨64 * t.val + (y 0).val, by have := ltN t; have := (y 0).isLt; simp at *; omega⟩ (y 1)) := fun y => by
    have := rows14 m c t (y 0) (y 1)
    rwa [show (ix2 (y 0) (y 1) : S64x256.Idx) = y from by idx_vars y] at this
  exact (hr y).trans (congrArg (MO (m ((c.tc : Thread nD τ).loc main_arg1)) (m ((c.tc : Thread nD τ).loc main_arg5))) (e y).symm)

theorem rows15 (t : Fin cfg0.N) (r : Fin 64) (j : Fin 256) :
    out0_15 (iblk m c 0 t) (iblk m c 1 t) (iblk m c 2 t) (iblk m c 3 t) (iblk m c 4 t) (iblk m c 5 t) (iblk m c 6 t) (iblk m c 7 t) (ix2 r j)
      = (VA (m ((c.tc : Thread nD τ).loc main_arg1)) (m ((c.tc : Thread nD τ).loc main_arg7))) (ix2 ⟨64 * t.val + r.val, by have := ltN t; omega⟩ j) := by
  unfold out0_15
  frame_out
  rw [pv1]
  blk_point [VA, iblk, V, idx t]

theorem final15 : (dats m 0 c).arrAt 15 cfg0.N = (VA (m ((c.tc : Thread nD τ).loc main_arg1)) (m ((c.tc : Thread nD τ).loc main_arg7))) := by
  refine (dats m 0 c).arrAt_eq_of_covers 15 _ (by decide +kernel) fun t hf y => ?_
  have e : ∀ y : S64x256.Idx, (win0_15.blk t).view.emb y
      = (ix2 ⟨64 * t.val + (y 0).val, by have := ltN t; have := (y 0).isLt; simp at *; omega⟩ (y 1) : S256x256.Idx) := fun y => by
    blk_point [iblk, V, idx t]
  blk_simp
  rw [after0_15]
  have hr : ∀ y : S64x256.Idx, out0_15 (iblk m c 0 t) (iblk m c 1 t) (iblk m c 2 t) (iblk m c 3 t) (iblk m c 4 t) (iblk m c 5 t) (iblk m c 6 t) (iblk m c 7 t) y
      = (VA (m ((c.tc : Thread nD τ).loc main_arg1)) (m ((c.tc : Thread nD τ).loc main_arg7))) (ix2 ⟨64 * t.val + (y 0).val, by have := ltN t; have := (y 0).isLt; simp at *; omega⟩ (y 1)) := fun y => by
    have := rows15 m c t (y 0) (y 1)
    rwa [show (ix2 (y 0) (y 1) : S64x256.Idx) = y from by idx_vars y] at this
  exact (hr y).trans (congrArg (VA (m ((c.tc : Thread nD τ).loc main_arg1)) (m ((c.tc : Thread nD τ).loc main_arg7))) (e y).symm)

end

section
open Cert.Reference8Ideal Cert.Reference8Ideal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c.tc : Thread nD τ).loc main_arg0) = (m ((c.tc : Thread nD τ).loc main_arg0))
    ∧ r.2.mem ((c.tc : Thread nD τ).loc main_v23) = (CH (m ((c.tc : Thread nD τ).loc main_arg2)) (m ((c.tc : Thread nD τ).loc main_arg0)) (m ((c.tc : Thread nD τ).loc main_arg4)) (m ((c.tc : Thread nD τ).loc main_arg6)))
    ∧ r.2.mem ((c.tc : Thread nD τ).loc main_v4) = (MO (m ((c.tc : Thread nD τ).loc main_arg0)) (m ((c.tc : Thread nD τ).loc main_arg4)))
    ∧ r.2.mem ((c.tc : Thread nD τ).loc main_v10) = (VA (m ((c.tc : Thread nD τ).loc main_arg0)) (m ((c.tc : Thread nD τ).loc main_arg6)))
    ∧ r.2.mem ((c.tc : Thread nD τ).loc main_arg1) = (m ((c.tc : Thread nD τ).loc main_arg1))
    ∧ r.2.mem ((c.tc : Thread nD τ).loc main_v47) = (CH (m ((c.tc : Thread nD τ).loc main_arg3)) (m ((c.tc : Thread nD τ).loc main_arg1)) (m ((c.tc : Thread nD τ).loc main_arg5)) (m ((c.tc : Thread nD τ).loc main_arg7)))
    ∧ r.2.mem ((c.tc : Thread nD τ).loc main_v28) = (MO (m ((c.tc : Thread nD τ).loc main_arg1)) (m ((c.tc : Thread nD τ).loc main_arg5)))
    ∧ r.2.mem ((c.tc : Thread nD τ).loc main_v34) = (VA (m ((c.tc : Thread nD τ).loc main_arg1)) (m ((c.tc : Thread nD τ).loc main_arg7)))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3))
    ∧ r.2.mem ((c.tc : Thread nD τ).loc main_arg4) = (m ((c.tc : Thread nD τ).loc main_arg4))
    ∧ r.2.mem ((c.tc : Thread nD τ).loc main_arg5) = (m ((c.tc : Thread nD τ).loc main_arg5))
    ∧ r.2.mem ((c.tc : Thread nD τ).loc main_arg6) = (m ((c.tc : Thread nD τ).loc main_arg6))
    ∧ r.2.mem ((c.tc : Thread nD τ).loc main_arg7) = (m ((c.tc : Thread nD τ).loc main_arg7)) :=
  (θ_run defs _ _).mono (fun _ h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2.1.trans rfl, (h c).2.2.2.2.2.2.2.2⟩)
    (Cert.Reference8Ideal.Value.run m ρ)

end

end Cert.RgStep

end
-- ==== Proof.SmStep.lean ====
/- The update of the small parameters: the sum over the devices' rows and the step, in the reference and in the kernel. -/
module

public import proofs.«01_k».proof.Proof.Gen.Kernel9Ideal.Value
public import proofs.«01_k».proof.Proof.Gen.Reference9Ideal.Run
public import proofs.«01_k».proof.Proof.Adam
public import Idealize.ShloMosaic.Lib.Claim
public import Idealize.ShloMosaic.Lib.Quiescent

@[expose] public section

set_option maxRecDepth 16384

noncomputable section

namespace Cert.SmStep

open Cert.Adam Idealize.ShloMosaic Idealize.ShloMosaic.TcCoe Idealize.SL.Sem

/-- The reference's gradient, of its argument. -/
def GS (a : FVec Ideal Cert.Reference9Ideal.S8x16x1024 .f32) : FVec Ideal Cert.Reference9Ideal.S16x1024 .f32 :=
  Host.reduceAdd a (constant Cert.Reference9Ideal.S_ .f32 0x00000000#32) Cert.Reference9Ideal.Gen.reducesTo_S8x16x1024_S16x1024_d0
    Cert.Reference9Ideal.Gen.h_S_

theorem GS_at (a) (i : Fin 16) (j : Fin 1024) : GS a (ix2 i j) = ∑ k : Fin 8, a (ix3 k i j) := by
  pointwise [GS]

section
open Cert.Kernel9Ideal Cert.Kernel9Ideal.Gen Cert.Kernel9Ideal.Value
open Idealize.ShloMosaic.Pipeline (Dat)
variable (m : (ℓ : Loc nD τ sig) → Buf (Elt Ideal) ℓ) (c : Dev nD)

theorem sum_eq (a w b v) : G4 (F := Ideal) a w b v = GS a := by
  funext y
  obtain ⟨i, j, rfl⟩ : ∃ i j, y = ix2 i j := ⟨y 0, y 1, by idx_vars y⟩
  rw [GS_at, Fin.sum_univ_eight]
  pointwise [G4, k0_pay6, k0_pay4, View.ld]

theorem part (a w b v) (i : Fin 16) (j : Fin 1024) :
    k0_pay7 (F := Ideal) a w b v (ix2 i j) = Ideal.ofBits FTy.f32 0x3F666666#32 * b (ix2 i j) := by
  pointwise [k0_pay7, k0_pay5, View.ld]

theorem mo_eq (a w b v) : G6 (F := Ideal) a w b v = MO (GS a) b := by
  rw [← sum_eq a w b v]
  funext y
  obtain ⟨i, j, rfl⟩ : ∃ i j, y = ix2 i j := ⟨y 0, y 1, by idx_vars y⟩
  exact congrArg (fun q => q + Ideal.ofBits FTy.f32 0x3DCCCCCD#32 * G4 (F := Ideal) a w b v (ix2 i j)) (part a w b v i j)

theorem va_eq (a w b v) : G7 (F := Ideal) a w b v = VA (GS a) v := by
  rw [← sum_eq a w b v]
  rfl

theorem ch_eq (a w b v) : G5 (F := Ideal) a w b v = CH w (GS a) b v := by
  rw [← sum_eq a w b v]
  funext y
  have h := congrFun (mo_eq a w b v) y
  rw [← sum_eq a w b v] at h
  exact congrArg (fun q => Ideal.ofBits FTy.f32 0xBA83126F#32 * (Ideal.div (Ideal.div q (Ideal.ofBits FTy.f32 0x3F26BD02#32))
      (Ideal.sqrt (Ideal.div (var (G4 (F := Ideal) a w b v y) (v y)) (Ideal.ofBits FTy.f32 0x3C231ACC#32)) + Ideal.ofBits FTy.f32 0x322BCC77#32)
    + Ideal.ofBits FTy.f32 0x3C23D70A#32 * w y)) h

end

section
open Cert.Reference9Ideal Cert.Reference9Ideal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c.tc : Thread nD τ).loc main_v0) = (GS (m ((c.tc : Thread nD τ).loc main_arg0)))
    ∧ r.2.mem ((c.tc : Thread nD τ).loc main_v24) = (CH (m ((c.tc : Thread nD τ).loc main_arg1)) (GS (m ((c.tc : Thread nD τ).loc main_arg0))) (m ((c.tc : Thread nD τ).loc main_arg2)) (m ((c.tc : Thread nD τ).loc main_arg3)))
    ∧ r.2.mem ((c.tc : Thread nD τ).loc main_v5) = (MO (GS (m ((c.tc : Thread nD τ).loc main_arg0))) (m ((c.tc : Thread nD τ).loc main_arg2)))
    ∧ r.2.mem ((c.tc : Thread nD τ).loc main_v11) = (VA (GS (m ((c.tc : Thread nD τ).loc main_arg0))) (m ((c.tc : Thread nD τ).loc main_arg3)))
    ∧ r.2.mem ((c.tc : Thread nD τ).loc main_arg0) = (m ((c.tc : Thread nD τ).loc main_arg0))
    ∧ r.2.mem ((c.tc : Thread nD τ).loc main_arg1) = (m ((c.tc : Thread nD τ).loc main_arg1))
    ∧ r.2.mem ((c.tc : Thread nD τ).loc main_arg2) = (m ((c.tc : Thread nD τ).loc main_arg2))
    ∧ r.2.mem ((c.tc : Thread nD τ).loc main_arg3) = (m ((c.tc : Thread nD τ).loc main_arg3)) :=
  (θ_run defs _ _).mono (fun _ h c => ⟨(h c).1.trans rfl, (h c).2.1.trans rfl, (h c).2.2.1.trans rfl, (h c).2.2.2.1.trans rfl, (h c).2.2.2.2⟩)
    (Cert.Reference9Ideal.Value.run m ρ)

end

end Cert.SmStep

end
-- ==== Proof.ProjOk.lean ====
/- The input projection's call for the columns of another chip: the precondition puts its blocks inside their arrays. -/
module

public import proofs.«01_k».proof.Proof.Gen.Kernel10.Frame
public import proofs.«01_k».proof.Proof.Gen.Kernel10Ideal.Frame
public import proofs.«01_k».proof.Pre_a_chip
public import Idealize.ShloMosaic.Lib.Pipeline.ValueKit

@[expose] public section

set_option maxRecDepth 16384

noncomputable section

namespace Cert.ProjOk

open Idealize.ShloMosaic Idealize.ShloMosaic.TcCoe Idealize.SL.Sem

theorem one (a : (⟨1, ![1]⟩ : Shape).Idx) : a = ix1 0 := by
  idx_vars a
  exact congrArg ix1 (Fin.ext (by omega))

theorem facts : Cert.Pre_a_chip.Facts where
  bcast_S_S1 := by decide

/-- A chip that the precondition admits is one of the four. -/
theorem chip_lt {F : FTy → Type} [FloatOps F] (h : FVec F Cert.Pre_a_chip.S4096x1024 .bf16) (w : FVec F Cert.Pre_a_chip.S1024x6656 .bf16)
    (chip : IVec Cert.Pre_a_chip.S1 32) (into : FVec F Cert.Pre_a_chip.S4096x6656 .f32)
    (hp : @Cert.Pre_a_chip.fn facts F _ h w chip into = fun _ => 1#1) : (chip (ix1 0)).toNat < 4 := by
  have e := congrFun hp (ix1 0)
  simp only [Cert.Pre_a_chip.fn, andi, cmpi, broadcastInDim, constantI] at e
  generalize chip (ix1 0) = v at e
  clear hp
  have hv := BitVec.toInt_eq_toNat_cond v
  have lt := v.isLt
  have h1 : v.toInt < 4 := by
    by_contra hn
    simp [IntOp.andi, IntOp.cmpi, BitVec.slt, hn] at e
  have h0 : 0 ≤ v.toInt := by
    by_contra hn
    simp [IntOp.andi, IntOp.cmpi, BitVec.sle, hn] at e
  split at hv <;> omega

section
open Cert.Kernel10 Cert.Kernel10.Gen
variable {F : FTy → Type} [FloatOps F]

theorem Kernel10_w (pf : pre0.Contents (Elt F)) (i : grid0.Coords) :
    cc0_transform_1 Facts₀.k0_off1_inb Facts₀.numel1_S1 pf i = ![0, ((pf 0 : IVec S1 32) (ix1 0)).toNat] := by
  unfold cc0_transform_1
  refine congrArg (fun a : BitVec 32 => ![0, a.toNat]) (congrArg (pf 0 : IVec S1 32) (one _))

theorem Kernel10_o (pf : pre0.Contents (Elt F)) (i : grid0.Coords) :
    cc0_transform_3 Facts₀.k0_off1_inb Facts₀.numel1_S1 pf i = ![(i 1).val, ((pf 0 : IVec S1 32) (ix1 0)).toNat] := by
  unfold cc0_transform_3
  refine (congrArg (fun a : BitVec 32 => ![(BitVec.ofNat 32 (i 1).val).toNat, a.toNat]) (congrArg (pf 0 : IVec S1 32) (one _))).trans ?_
  rw [BitVec.toNat_ofNat, Nat.mod_eq_of_lt (lt_trans (i 1).isLt (by decide))]

/-- The blocks lie inside their arrays when the chip is one of the four. -/
theorem Kernel10_ok (pf : pre0.Contents (Elt F)) (h : ((pf 0 : IVec S1 32) (ix1 0)).toNat < 4) : ok0 (F := F) pf := by
  refine ⟨fun i => ?_, fun i => ?_⟩
  · rw [Kernel10_w]
    generalize ((pf 0 : IVec S1 32) (ix1 0)).toNat = k at h
    interval_cases k <;> decide
  · rw [Kernel10_o]
    have hi : (i 1).val < 8 := (i 1).isLt
    generalize (i 1).val = j at hi
    generalize ((pf 0 : IVec S1 32) (ix1 0)).toNat = k at h
    refine ⟨fun a => ?_, .inl rfl⟩
    fin_cases a <;> simp <;> omega

end

section
open Cert.Kernel10Ideal Cert.Kernel10Ideal.Gen
variable {F : FTy → Type} [FloatOps F]

theorem Kernel10Ideal_w (pf : pre0.Contents (Elt F)) (i : grid0.Coords) :
    cc0_transform_1 Facts₀.k0_off1_inb Facts₀.numel1_S1 pf i = ![0, ((pf 0 : IVec S1 32) (ix1 0)).toNat] := by
  unfold cc0_transform_1
  refine congrArg (fun a : BitVec 32 => ![0, a.toNat]) (congrArg (pf 0 : IVec S1 32) (one _))

theorem Kernel10Ideal_o (pf : pre0.Contents (Elt F)) (i : grid0.Coords) :
    cc0_transform_3 Facts₀.k0_off1_inb Facts₀.numel1_S1 pf i = ![(i 1).val, ((pf 0 : IVec S1 32) (ix1 0)).toNat] := by
  unfold cc0_transform_3
  refine (congrArg (fun a : BitVec 32 => ![(BitVec.ofNat 32 (i 1).val).toNat, a.toNat]) (congrArg (pf 0 : IVec S1 32) (one _))).trans ?_
  rw [BitVec.toNat_ofNat, Nat.mod_eq_of_lt (lt_trans (i 1).isLt (by decide))]

/-- The blocks lie inside their arrays when the chip is one of the four. -/
theorem Kernel10Ideal_ok (pf : pre0.Contents (Elt F)) (h : ((pf 0 : IVec S1 32) (ix1 0)).toNat < 4) : ok0 (F := F) pf := by
  refine ⟨fun i => ?_, fun i => ?_⟩
  · rw [Kernel10Ideal_w]
    generalize ((pf 0 : IVec S1 32) (ix1 0)).toNat = k at h
    interval_cases k <;> decide
  · rw [Kernel10Ideal_o]
    have hi : (i 1).val < 8 := (i 1).isLt
    generalize (i 1).val = j at hi
    generalize ((pf 0 : IVec S1 32) (ix1 0)).toNat = k at h
    refine ⟨fun a => ?_, .inl rfl⟩
    fin_cases a <;> simp <;> omega

end

end Cert.ProjOk

end
-- ==== Proof.ProjFrom.lean ====
/- The input projection's call for the columns of another chip: the reference's columns, and the kernel's blocks of them. -/
module

public import proofs.«01_k».proof.Proof.Gen.Kernel10Ideal.Frame
public import proofs.«01_k».proof.Proof.Gen.Reference10Ideal.Run
public import proofs.«01_k».proof.Proof.ProjOk
public import Idealize.ShloMosaic.Lib.Pipeline.ValueKit

@[expose] public section

set_option maxRecDepth 16384

noncomputable section

namespace Cert.ProjFrom

open Idealize.ShloMosaic Idealize.ShloMosaic.TcCoe Idealize.SL.Sem

section
open Cert.Reference10Ideal Cert.Reference10Ideal.Gen
/-- The reference's array: the product in the chip's columns, the rest as it was. -/
def out (h : FVec Ideal S4096x1024 .bf16) (w : FVec Ideal S1024x6656 .bf16) (chip : IVec S1 32) (into : FVec Ideal S4096x6656 .f32) :
    FVec Ideal S4096x6656 .f32 := select (andi (cmpi .sge (iotaInDim S4096x6656 32 1) (broadcastInDim S4096x6656 ![] bcast_S_S4096x6656 (muli (shapeCast _ chip shapeCasts_S1_S_) (constantI S_ 32 1664#32)))) (cmpi .slt (iotaInDim S4096x6656 32 1) (broadcastInDim S4096x6656 ![] bcast_S_S4096x6656 (addi (muli (shapeCast _ chip shapeCasts_S1_S_) (constantI S_ 32 1664#32)) (constantI S_ 32 1664#32))))) (Host.dotGeneral dot_S4096x1024_S1024x6656_S4096x6656_1_0_0_1_n_n none (extf .f32 h bitsLt_bf16_f32) (extf .f32 w bitsLt_bf16_f32)) into

theorem out_at (h w chip into) (k : Fin 4) (hk : (chip (ix1 0)).toNat = k.val) (r : Fin 4096) (j : Fin 6656) :
    out h w chip into (ix2 r j)
      = if k.val * 1664 ≤ j.val ∧ j.val < k.val * 1664 + 1664 then ∑ i : Fin 1024, h (ix2 r i) * w (ix2 i j) else into (ix2 r j) := by
  pointwise [out]
  rw [show chip (ix1 0) = BitVec.ofNat 32 k.val from BitVec.eq_of_toNat_eq (by rw [hk, BitVec.toNat_ofNat]; omega)]
  have hj : (BitVec.ofNat 32 j.val).toInt = (j.val : ℤ) := by
    rw [BitVec.toInt_eq_toNat_cond, BitVec.toNat_ofNat, Nat.mod_eq_of_lt (by omega), if_pos (by omega)]
  have h1 : ∀ k : Fin 4, (IntOp.muli (BitVec.ofNat 32 k.val) 1664#32).toInt = ((k.val * 1664 : ℕ) : ℤ) := by decide
  have h2 : ∀ k : Fin 4, (IntOp.addi (IntOp.muli (BitVec.ofNat 32 k.val) 1664#32) 1664#32).toInt = ((k.val * 1664 + 1664 : ℕ) : ℤ) := by decide
  simp only [IntOp.cmpi, BitVec.sle, BitVec.slt, hj, h1, h2, Nat.cast_le, Nat.cast_lt]
  by_cases a : k.val * 1664 ≤ j.val <;> by_cases b : j.val < k.val * 1664 + 1664 <;> simp [a, b, IntOp.andi, Scalar.select]
end

section
open Cert.Kernel10Ideal Cert.Kernel10Ideal.Gen
open Idealize.ShloMosaic.Pipeline (Dat)
variable (m : (ℓ : Loc nD τ sig) → Buf (Elt Ideal) ℓ) (hO : Ok m) (c : Dev nD)

/-- The chip whose columns are computed. -/
def chip : ℕ := ((m (((0 : Dev nD).tc : Thread nD τ).loc main_arg2) : IVec S1 32) (ix1 0)).toNat

theorem tbl_chip : ((tbl m 0 : IVec S1 32) (ix1 0)).toNat = chip m :=
  congrArg (fun f : IVec S1 32 => (f (ix1 0)).toNat) (V_main_arg2 m 0)

theorem crd : ∀ t : Fin grid0.N, ((grid0.coords t) 1).val = t.val := by decide +kernel
theorem idx0 : ∀ t : Fin grid0.N, cc0_transform_0 (grid0.coords t) = ![t.val, 0] := by decide +kernel

theorem idx (t : Fin (cfgM m hO).N) : ((cfgM m hO).win 0).index t = ![t.val, 0] ∧ ((cfgM m hO).win 1).index t = ![0, chip m]
    ∧ ((cfgM m hO).win 2).index t = ![t.val, chip m] := by
  refine ⟨idx0 t, ?_, ?_⟩
  · exact (ProjOk.Kernel10Ideal_w (tbl m) _).trans (by rw [tbl_chip])
  · exact (ProjOk.Kernel10Ideal_o (tbl m) _).trans (by rw [tbl_chip]; exact congrArg (fun n => ![n, chip m]) (crd t))

theorem lt8 (t : Fin (cfgM m hO).N) : t.val < 8 := lt_of_lt_of_eq t.isLt (show grid0.N = 8 by decide +kernel)

abbrev h' : FVec Ideal S4096x1024 .bf16 := m ((c.tc : Thread nD τ).loc main_arg0)
abbrev w' : FVec Ideal S1024x6656 .bf16 := m ((c.tc : Thread nD τ).loc main_arg1)
abbrev into' : FVec Ideal S4096x6656 .f32 := m ((c.tc : Thread nD τ).loc main_arg3)

theorem flush (t : Fin (cfgM m hO).N) : ((cfgM m hO).win 2).flush t = true := by
  have h := lt8 m hO t
  unfold Pipeline.Window.flush
  rw [Bool.and_eq_true, Bool.or_eq_true, decide_eq_true_eq, decide_eq_true_eq]
  refine ⟨rfl, or_iff_not_imp_left.2 fun hn => ?_⟩
  have h1 : t.val + 1 < (cfgM m hO).N := lt_of_le_of_ne t.isLt hn
  refine ⟨h1, fun e => ?_⟩
  have e' := ((idx m hO ⟨t.val + 1, h1⟩).2.2.symm.trans e).trans (idx m hO t).2.2
  have := congrFun e' 0
  simp at this

theorem p1 (x w) (r : Fin 512) (j : Fin 1664) : k0_pay1 (F := Ideal) x w (ix2 r j) = ∑ k : Fin 1024, x (ix2 r k) * w (ix2 k j) := by
  pointwise [k0_pay1]

theorem read_out (i : grid0.Coords) (a : Memref sig .tc .vmem S512x1024 .bf16) (ha : a.IsWhole) (b : Memref sig .tc .vmem S1024x1664 .bf16) (hb : b.IsWhole)
    (o : Memref sig .tc .vmem S512x1664 .f32) (ho : o.IsWhole) (x : FVec Ideal S512x1024 .bf16) (w : FVec Ideal S1024x1664 .bf16) (p : TbBuf0 (F := Ideal) c tbM0_0) :
    out0_A_2 c i a ha b hb o ho x w p = k0_pay1 (F := Ideal) x w := by
  frame_out

theorem left (t : Fin (cfgM m hO).N) : outsAt0 m hO c t = k0_pay1 (F := Ideal) (iblk m hO c 0 t) (iblk m hO c 1 t) :=
  read_out c _ _ _ _ _ _ _ _ _ _

theorem emb0 (t : Fin (cfgM m hO).N) (r : Fin 512) (k : Fin 1024) : (((cfgM m hO).win 0).blk t).view.emb (ix2 r k)
    = (ix2 ⟨512 * t.val + r.val, by have := lt8 m hO t; omega⟩ k : S4096x1024.Idx) := by
  funext a
  refine Fin.ext ((((cfgM m hO).win 0).rect_emb_val t (ix2 r k) a).trans ?_)
  rw [(idx m hO t).1]
  fin_cases a <;> simp [ix2] <;> omega

theorem emb1 (hk : chip m < 4) (t : Fin (cfgM m hO).N) (k : Fin 1024) (j : Fin 1664) : (((cfgM m hO).win 1).blk t).view.emb (ix2 k j)
    = (ix2 k ⟨1664 * chip m + j.val, by omega⟩ : S1024x6656.Idx) := by
  funext a
  refine Fin.ext ((((cfgM m hO).win 1).rect_emb_val t (ix2 k j) a).trans ?_)
  rw [(idx m hO t).2.1]
  fin_cases a <;> simp [ix2] <;> omega

theorem emb2 (hk : chip m < 4) (t : Fin (cfgM m hO).N) (r : Fin 512) (j : Fin 1664) : (((cfgM m hO).win 2).blk t).view.emb (ix2 r j)
    = (ix2 ⟨512 * t.val + r.val, by have := lt8 m hO t; omega⟩ ⟨1664 * chip m + j.val, by omega⟩ : S4096x6656.Idx) := by
  funext a
  refine Fin.ext ((((cfgM m hO).win 2).rect_emb_val t (ix2 r j) a).trans ?_)
  rw [(idx m hO t).2.2]
  fin_cases a <;> simp [ix2] <;> omega

theorem in0 (t : Fin (cfgM m hO).N) (r : Fin 512) (k : Fin 1024) : (iblk m hO c 0 t : FVec Ideal S512x1024 .bf16) (ix2 r k)
    = h' m c (ix2 ⟨512 * t.val + r.val, by have := lt8 m hO t; omega⟩ k) :=
  (congrFun (V_main_arg0 m c) _).trans (congrArg (h' m c) (emb0 m hO t r k))

theorem in1 (hk : chip m < 4) (t : Fin (cfgM m hO).N) (k : Fin 1024) (j : Fin 1664) : (iblk m hO c 1 t : FVec Ideal S1024x1664 .bf16) (ix2 k j)
    = w' m c (ix2 k ⟨1664 * chip m + j.val, by omega⟩) :=
  (congrFun (V_main_arg1 m c) _).trans (congrArg (w' m c) (emb1 m hO hk t k j))

/-- The reference's array of this run's arguments. -/
abbrev G : FVec Ideal S4096x6656 .f32 := out (h' m c) (w' m c) (m ((c.tc : Thread nD τ).loc main_arg2)) (into' m c)

theorem G_at (hk : chip m < 4) (r : Fin 4096) (j : Fin 6656) : G m c (ix2 r j)
    = if chip m * 1664 ≤ j.val ∧ j.val < chip m * 1664 + 1664 then ∑ i : Fin 1024, h' m c (ix2 r i) * w' m c (ix2 i j) else into' m c (ix2 r j) :=
  out_at _ _ _ _ ⟨chip m, hk⟩ (by obtain rfl : c = 0 := Subsingleton.elim _ _; rfl) r j

theorem at_blk (hk : chip m < 4) (t : Fin (cfgM m hO).N) (r : Fin 512) (j : Fin 1664) : outsAt0 m hO c t (ix2 r j)
    = G m c (ix2 ⟨512 * t.val + r.val, by have := lt8 m hO t; omega⟩ ⟨1664 * chip m + j.val, by omega⟩) := by
  rw [G_at m c hk, if_pos ⟨by simp only []; omega, by simp only []; omega⟩]
  refine (congrFun (left m hO c t) _).trans ((p1 _ _ r j).trans ?_)
  exact Finset.sum_congr rfl fun k _ => congrArg₂ (· * ·) (in0 m hO c t r k) (in1 m hO c hk t k j)

theorem entry : V m c main_v0 = into' m c := by
  unfold V hostOps0
  after_results <;> rfl

theorem mem (hk : chip m < 4) (r : Fin 4096) (j : Fin 6656) (h : chip m * 1664 ≤ j.val ∧ j.val < chip m * 1664 + 1664) :
    ∃ t : Fin (cfgM m hO).N, ((cfgM m hO).win 2).flush t = true ∧ (ix2 r j : S4096x6656.Idx) ∈ (((cfgM m hO).win 2).blk t).view.set := by
  refine ⟨⟨r.val / 512, lt_of_lt_of_eq (by omega) (show grid0.N = 8 by decide +kernel).symm⟩, flush m hO _, ?_⟩
  have e2 := emb2 m hO hk ⟨r.val / 512, lt_of_lt_of_eq (by omega) (show grid0.N = 8 by decide +kernel).symm⟩
    ⟨r.val % 512, by omega⟩ ⟨j.val - 1664 * chip m, by omega⟩
  have e3 : (ix2 r j : S4096x6656.Idx) = _ := Eq.trans (congrArg₂ ix2 (Fin.ext (by simp only []; omega)) (Fin.ext (by simp only []; omega))) e2.symm
  exact e3.symm ▸ View.emb_mem_set _ _

theorem at_ix (X Y : FVec Ideal S4096x6656 .f32) (h : ∀ (r : Fin 4096) (j : Fin 6656), X (ix2 r j) = Y (ix2 r j)) : X = Y :=
  funext fun i => by
    have e : (ix2 (i 0) (i 1) : S4096x6656.Idx) = i := by idx_vars i
    rw [← e]; exact h _ _

theorem at_ix' (X Y : FVec Ideal S512x1664 .f32) (h : ∀ (r : Fin 512) (j : Fin 1664), X (ix2 r j) = Y (ix2 r j)) : X = Y :=
  funext fun i => by
    have e : (ix2 (i 0) (i 1) : S512x1664.Idx) = i := by idx_vars i
    rw [← e]; exact h _ _

theorem stored (hk : chip m < 4) (t : Fin (cfgM m hO).N) (hf : ((cfgM m hO).win 2).flush t = true) :
    (dats m hO 0 c).flushed 2 t = (((cfgM m hO).win 2).blk t).view.read (Elt Ideal) (G m c) :=
  (after0_2 m hO c t).trans (at_ix' (X := outsAt0 m hO c t) (Y := (((cfgM m hO).win 2).blk t).view.read (Elt Ideal) (G m c)) fun r j => (at_blk m hO c hk t r j).trans (congrArg (G m c) (emb2 m hO hk t r j).symm))

theorem final_at (hk : chip m < 4) (r : Fin 4096) (j : Fin 6656) :
    (dats m hO 0 c).arrAt 2 (cfgM m hO).N (ix2 r j : S4096x6656.Idx) = G m c (ix2 r j) := by
  refine ((dats m hO 0 c).arrAt_eq_piecewise 2 (G m c) (stored m hO c hk) _).trans ?_
  by_cases hi : ∃ t : Fin (cfgM m hO).N, ((cfgM m hO).win 2).flush t = true ∧ (ix2 r j : S4096x6656.Idx) ∈ (((cfgM m hO).win 2).blk t).view.set
  · exact if_pos hi
  · refine (if_neg hi).trans ((congrFun ((A_eq m hO c 2).trans (entry m c)) _).trans ?_)
    refine Eq.trans ?_ (G_at m c hk r j).symm
    exact (if_neg fun h => hi (mem m hO hk r j h)).symm

/-- The array at the end of the run. -/
theorem final (hk : chip m < 4) : (dats m hO 0 c).arrAt 2 (cfgM m hO).N = G m c :=
  at_ix (X := (dats m hO 0 c).arrAt 2 (cfgM m hO).N) (Y := G m c) (final_at m hO c hk)

/-- The run with its result named. -/
theorem run (ρ : Dev nD → PrngReg) (hk : chip m < 4) : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  have hO : Ok m := ProjOk.Kernel10Ideal_ok (tbl m) (by rw [tbl_chip]; exact hk)
  (θ_run defs _ _).mono (fun r h c => ⟨((h.1 c).1 2).trans (final m hO c hk), h.2 c⟩)
    (θ_run_and (run_main m ρ hO) (unchanged m ρ hO))
end

end Cert.ProjFrom

end
-- ==== Proof.OwnOk.lean ====
/- The input projection's call for the chip's own columns: the precondition puts its blocks inside their arrays. -/
module

public import proofs.«01_k».proof.Proof.Gen.Kernel11.Frame
public import proofs.«01_k».proof.Proof.Gen.Kernel11Ideal.Frame
public import proofs.«01_k».proof.Pre_own_chip
public import proofs.«01_k».proof.On_own_columns
public import proofs.«01_k».proof.Proof.ProjOk
public import Idealize.ShloMosaic.Lib.Pipeline.ValueKit

@[expose] public section

set_option maxRecDepth 16384

noncomputable section

namespace Cert.OwnOk

open Idealize.ShloMosaic Idealize.ShloMosaic.TcCoe Idealize.SL.Sem

theorem facts : Cert.Pre_own_chip.Facts where
  bcast_S_S1 := by decide

theorem onfacts : Cert.On_own_columns.Facts where
  shapeCasts_S1_S_ := by decide
  bcast_S_S4096x6656 := by decide

/-- A chip that the precondition admits is one of the four: the other call's condition says the same of the chip. -/
theorem chip_lt {F : FTy → Type} [FloatOps F] (h : FVec F Cert.Pre_own_chip.S4096x1024 .bf16) (w : FVec F Cert.Pre_own_chip.S1024x6656 .bf16)
    (chip : IVec Cert.Pre_own_chip.S1 32) (into : FVec F Cert.Pre_a_chip.S4096x6656 .f32)
    (hp : @Cert.Pre_own_chip.fn facts F _ h w chip = fun _ => 1#1) : (chip (ix1 0)).toNat < 4 :=
  Cert.ProjOk.chip_lt h w chip into hp

/-- A column that the mask selects is one of the chip's. -/
theorem mask_in {F : FTy → Type} [FloatOps F] (h : FVec F Cert.On_own_columns.S4096x1024 .bf16) (w : FVec F Cert.On_own_columns.S1024x6656 .bf16)
    (chip : IVec Cert.On_own_columns.S1 32) (k : Fin 4) (hk : (chip (ix1 0)).toNat = k.val) (r : Fin 4096) (j : Fin 6656)
    (hm : @Cert.On_own_columns.fn onfacts F _ h w chip (ix2 r j) = 1#1) : k.val * 1664 ≤ j.val ∧ j.val < k.val * 1664 + 1664 := by
  have e : IntOp.andi (IntOp.cmpi .sge (BitVec.ofNat 32 j.val) (IntOp.muli (chip (ix1 0)) 1664#32))
      (IntOp.cmpi .slt (BitVec.ofNat 32 j.val) (IntOp.addi (IntOp.muli (chip (ix1 0)) 1664#32) 1664#32)) = 1#1 := by
    refine Eq.trans ?_ hm
    pointwise [Cert.On_own_columns.fn]
  rw [show chip (ix1 0) = BitVec.ofNat 32 k.val from BitVec.eq_of_toNat_eq (by rw [hk, BitVec.toNat_ofNat]; omega)] at e
  have hj : (BitVec.ofNat 32 j.val).toInt = (j.val : ℤ) := by
    rw [BitVec.toInt_eq_toNat_cond, BitVec.toNat_ofNat, Nat.mod_eq_of_lt (by omega), if_pos (by omega)]
  have h1 : ∀ k : Fin 4, (IntOp.muli (BitVec.ofNat 32 k.val) 1664#32).toInt = ((k.val * 1664 : ℕ) : ℤ) := by decide
  have h2 : ∀ k : Fin 4, (IntOp.addi (IntOp.muli (BitVec.ofNat 32 k.val) 1664#32) 1664#32).toInt = ((k.val * 1664 + 1664 : ℕ) : ℤ) := by decide
  simp only [IntOp.cmpi, BitVec.sle, BitVec.slt, hj, h1, h2, Nat.cast_le, Nat.cast_lt] at e
  by_cases a : k.val * 1664 ≤ j.val <;> by_cases b : j.val < k.val * 1664 + 1664 <;> simp [a, b, IntOp.andi] at e ⊢

section
open Cert.Kernel11 Cert.Kernel11.Gen
variable {F : FTy → Type} [FloatOps F]

theorem Kernel11_w (pf : pre0.Contents (Elt F)) (i : grid0.Coords) :
    cc0_transform_1 Facts₀.k0_off1_inb Facts₀.numel1_S1 pf i = ![0, ((pf 0 : IVec S1 32) (ix1 0)).toNat] := by
  unfold cc0_transform_1
  refine congrArg (fun a : BitVec 32 => ![0, a.toNat]) (congrArg (pf 0 : IVec S1 32) (ProjOk.one _))

theorem Kernel11_o (pf : pre0.Contents (Elt F)) (i : grid0.Coords) :
    cc0_transform_2 Facts₀.k0_off1_inb Facts₀.numel1_S1 pf i = ![(i 1).val, ((pf 0 : IVec S1 32) (ix1 0)).toNat] := by
  unfold cc0_transform_2
  refine (congrArg (fun a : BitVec 32 => ![(BitVec.ofNat 32 (i 1).val).toNat, a.toNat]) (congrArg (pf 0 : IVec S1 32) (ProjOk.one _))).trans ?_
  rw [BitVec.toNat_ofNat, Nat.mod_eq_of_lt (lt_trans (i 1).isLt (by decide))]

/-- The blocks lie inside their arrays when the chip is one of the four. -/
theorem Kernel11_ok (pf : pre0.Contents (Elt F)) (h : ((pf 0 : IVec S1 32) (ix1 0)).toNat < 4) : ok0 (F := F) pf := by
  refine ⟨fun i => ?_, fun i => ?_⟩
  · rw [Kernel11_w]
    generalize ((pf 0 : IVec S1 32) (ix1 0)).toNat = k at h
    interval_cases k <;> decide
  · rw [Kernel11_o]
    have hi : (i 1).val < 8 := (i 1).isLt
    generalize (i 1).val = j at hi
    generalize ((pf 0 : IVec S1 32) (ix1 0)).toNat = k at h
    refine ⟨fun a => ?_, .inl rfl⟩
    fin_cases a <;> simp <;> omega

end

section
open Cert.Kernel11Ideal Cert.Kernel11Ideal.Gen
variable {F : FTy → Type} [FloatOps F]

theorem Kernel11Ideal_w (pf : pre0.Contents (Elt F)) (i : grid0.Coords) :
    cc0_transform_1 Facts₀.k0_off1_inb Facts₀.numel1_S1 pf i = ![0, ((pf 0 : IVec S1 32) (ix1 0)).toNat] := by
  unfold cc0_transform_1
  refine congrArg (fun a : BitVec 32 => ![0, a.toNat]) (congrArg (pf 0 : IVec S1 32) (ProjOk.one _))

theorem Kernel11Ideal_o (pf : pre0.Contents (Elt F)) (i : grid0.Coords) :
    cc0_transform_2 Facts₀.k0_off1_inb Facts₀.numel1_S1 pf i = ![(i 1).val, ((pf 0 : IVec S1 32) (ix1 0)).toNat] := by
  unfold cc0_transform_2
  refine (congrArg (fun a : BitVec 32 => ![(BitVec.ofNat 32 (i 1).val).toNat, a.toNat]) (congrArg (pf 0 : IVec S1 32) (ProjOk.one _))).trans ?_
  rw [BitVec.toNat_ofNat, Nat.mod_eq_of_lt (lt_trans (i 1).isLt (by decide))]

/-- The blocks lie inside their arrays when the chip is one of the four. -/
theorem Kernel11Ideal_ok (pf : pre0.Contents (Elt F)) (h : ((pf 0 : IVec S1 32) (ix1 0)).toNat < 4) : ok0 (F := F) pf := by
  refine ⟨fun i => ?_, fun i => ?_⟩
  · rw [Kernel11Ideal_w]
    generalize ((pf 0 : IVec S1 32) (ix1 0)).toNat = k at h
    interval_cases k <;> decide
  · rw [Kernel11Ideal_o]
    have hi : (i 1).val < 8 := (i 1).isLt
    generalize (i 1).val = j at hi
    generalize ((pf 0 : IVec S1 32) (ix1 0)).toNat = k at h
    refine ⟨fun a => ?_, .inl rfl⟩
    fin_cases a <;> simp <;> omega

end

end Cert.OwnOk

end
-- ==== Proof.ProjOwn.lean ====
/- The input projection's call for the chip's own columns: the product, and the kernel's blocks of it. -/
module

public import proofs.«01_k».proof.Proof.Gen.Kernel11Ideal.Frame
public import proofs.«01_k».proof.Proof.Gen.Reference11Ideal.Run
public import proofs.«01_k».proof.Proof.OwnOk
public import Idealize.ShloMosaic.Lib.Pipeline.ValueKit

@[expose] public section

set_option maxRecDepth 16384

noncomputable section

namespace Cert.ProjOwn

open Idealize.ShloMosaic Idealize.ShloMosaic.TcCoe Idealize.SL.Sem

section
open Cert.Reference11Ideal Cert.Reference11Ideal.Gen
/-- The reference's array: the product. -/
def out (h : FVec Ideal S4096x1024 .bf16) (w : FVec Ideal S1024x6656 .bf16) : FVec Ideal S4096x6656 .f32 :=
  Host.dotGeneral dot_S4096x1024_S1024x6656_S4096x6656_1_0_0_1_n_n none (extf .f32 h bitsLt_bf16_f32) (extf .f32 w bitsLt_bf16_f32)

theorem out_at (h w) (r : Fin 4096) (j : Fin 6656) : out h w (ix2 r j) = ∑ i : Fin 1024, h (ix2 r i) * w (ix2 i j) := by
  pointwise [out]
end

section
open Cert.Kernel11Ideal Cert.Kernel11Ideal.Gen
open Idealize.ShloMosaic.Pipeline (Dat)
variable (m : (ℓ : Loc nD τ sig) → Buf (Elt Ideal) ℓ) (hO : Ok m) (c : Dev nD)

/-- The chip whose columns are computed. -/
def chip : ℕ := ((m (((0 : Dev nD).tc : Thread nD τ).loc main_arg2) : IVec S1 32) (ix1 0)).toNat

theorem tbl_chip : ((tbl m 0 : IVec S1 32) (ix1 0)).toNat = chip m :=
  congrArg (fun f : IVec S1 32 => (f (ix1 0)).toNat) (V_main_arg2 m 0)

theorem crd : ∀ t : Fin grid0.N, ((grid0.coords t) 1).val = t.val := by decide +kernel
theorem idx0 : ∀ t : Fin grid0.N, cc0_transform_0 (grid0.coords t) = ![t.val, 0] := by decide +kernel

theorem idx (t : Fin (cfgM m hO).N) : ((cfgM m hO).win 0).index t = ![t.val, 0] ∧ ((cfgM m hO).win 1).index t = ![0, chip m]
    ∧ ((cfgM m hO).win 2).index t = ![t.val, chip m] := by
  refine ⟨idx0 t, ?_, ?_⟩
  · exact (OwnOk.Kernel11Ideal_w (tbl m) _).trans (by rw [tbl_chip])
  · exact (OwnOk.Kernel11Ideal_o (tbl m) _).trans (by rw [tbl_chip]; exact congrArg (fun n => ![n, chip m]) (crd t))

theorem lt8 (t : Fin (cfgM m hO).N) : t.val < 8 := lt_of_lt_of_eq t.isLt (show grid0.N = 8 by decide +kernel)

abbrev h' : FVec Ideal S4096x1024 .bf16 := m ((c.tc : Thread nD τ).loc main_arg0)
abbrev w' : FVec Ideal S1024x6656 .bf16 := m ((c.tc : Thread nD τ).loc main_arg1)

theorem flush (t : Fin (cfgM m hO).N) : ((cfgM m hO).win 2).flush t = true := by
  have h := lt8 m hO t
  unfold Pipeline.Window.flush
  rw [Bool.and_eq_true, Bool.or_eq_true, decide_eq_true_eq, decide_eq_true_eq]
  refine ⟨rfl, or_iff_not_imp_left.2 fun hn => ?_⟩
  have h1 : t.val + 1 < (cfgM m hO).N := lt_of_le_of_ne t.isLt hn
  refine ⟨h1, fun e => ?_⟩
  have e' := ((idx m hO ⟨t.val + 1, h1⟩).2.2.symm.trans e).trans (idx m hO t).2.2
  have := congrFun e' 0
  simp at this

theorem p1 (x w) (r : Fin 512) (j : Fin 1664) : k0_pay1 (F := Ideal) x w (ix2 r j) = ∑ k : Fin 1024, x (ix2 r k) * w (ix2 k j) := by
  pointwise [k0_pay1]

theorem read_out (i : grid0.Coords) (a : Memref sig .tc .vmem S512x1024 .bf16) (ha : a.IsWhole) (b : Memref sig .tc .vmem S1024x1664 .bf16) (hb : b.IsWhole)
    (o : Memref sig .tc .vmem S512x1664 .f32) (ho : o.IsWhole) (x : FVec Ideal S512x1024 .bf16) (w : FVec Ideal S1024x1664 .bf16) (p : TbBuf0 (F := Ideal) c tbM0_0) :
    out0_A_2 c i a ha b hb o ho x w p = k0_pay1 (F := Ideal) x w := by
  frame_out

theorem left (t : Fin (cfgM m hO).N) : outsAt0 m hO c t = k0_pay1 (F := Ideal) (iblk m hO c 0 t) (iblk m hO c 1 t) :=
  read_out c _ _ _ _ _ _ _ _ _ _

theorem emb0 (t : Fin (cfgM m hO).N) (r : Fin 512) (k : Fin 1024) : (((cfgM m hO).win 0).blk t).view.emb (ix2 r k)
    = (ix2 ⟨512 * t.val + r.val, by have := lt8 m hO t; omega⟩ k : S4096x1024.Idx) := by
  funext a
  refine Fin.ext ((((cfgM m hO).win 0).rect_emb_val t (ix2 r k) a).trans ?_)
  rw [(idx m hO t).1]
  fin_cases a <;> simp [ix2] <;> omega

theorem emb1 (hk : chip m < 4) (t : Fin (cfgM m hO).N) (k : Fin 1024) (j : Fin 1664) : (((cfgM m hO).win 1).blk t).view.emb (ix2 k j)
    = (ix2 k ⟨1664 * chip m + j.val, by omega⟩ : S1024x6656.Idx) := by
  funext a
  refine Fin.ext ((((cfgM m hO).win 1).rect_emb_val t (ix2 k j) a).trans ?_)
  rw [(idx m hO t).2.1]
  fin_cases a <;> simp [ix2] <;> omega

theorem emb2 (hk : chip m < 4) (t : Fin (cfgM m hO).N) (r : Fin 512) (j : Fin 1664) : (((cfgM m hO).win 2).blk t).view.emb (ix2 r j)
    = (ix2 ⟨512 * t.val + r.val, by have := lt8 m hO t; omega⟩ ⟨1664 * chip m + j.val, by omega⟩ : S4096x6656.Idx) := by
  funext a
  refine Fin.ext ((((cfgM m hO).win 2).rect_emb_val t (ix2 r j) a).trans ?_)
  rw [(idx m hO t).2.2]
  fin_cases a <;> simp [ix2] <;> omega

theorem in0 (t : Fin (cfgM m hO).N) (r : Fin 512) (k : Fin 1024) : (iblk m hO c 0 t : FVec Ideal S512x1024 .bf16) (ix2 r k)
    = h' m c (ix2 ⟨512 * t.val + r.val, by have := lt8 m hO t; omega⟩ k) :=
  (congrFun (V_main_arg0 m c) _).trans (congrArg (h' m c) (emb0 m hO t r k))

theorem in1 (hk : chip m < 4) (t : Fin (cfgM m hO).N) (k : Fin 1024) (j : Fin 1664) : (iblk m hO c 1 t : FVec Ideal S1024x1664 .bf16) (ix2 k j)
    = w' m c (ix2 k ⟨1664 * chip m + j.val, by omega⟩) :=
  (congrFun (V_main_arg1 m c) _).trans (congrArg (w' m c) (emb1 m hO hk t k j))

/-- The reference's array of this run's arguments. -/
abbrev G : FVec Ideal S4096x6656 .f32 := out (h' m c) (w' m c)

theorem at_blk (hk : chip m < 4) (t : Fin (cfgM m hO).N) (r : Fin 512) (j : Fin 1664) : outsAt0 m hO c t (ix2 r j)
    = G m c (ix2 ⟨512 * t.val + r.val, by have := lt8 m hO t; omega⟩ ⟨1664 * chip m + j.val, by omega⟩) := by
  rw [G, out_at]
  refine (congrFun (left m hO c t) _).trans ((p1 _ _ r j).trans ?_)
  exact Finset.sum_congr rfl fun k _ => congrArg₂ (· * ·) (in0 m hO c t r k) (in1 m hO c hk t k j)

theorem mem (hk : chip m < 4) (r : Fin 4096) (j : Fin 6656) (h : chip m * 1664 ≤ j.val ∧ j.val < chip m * 1664 + 1664) :
    ∃ t : Fin (cfgM m hO).N, ((cfgM m hO).win 2).flush t = true ∧ (ix2 r j : S4096x6656.Idx) ∈ (((cfgM m hO).win 2).blk t).view.set := by
  refine ⟨⟨r.val / 512, lt_of_lt_of_eq (by omega) (show grid0.N = 8 by decide +kernel).symm⟩, flush m hO _, ?_⟩
  have e2 := emb2 m hO hk ⟨r.val / 512, lt_of_lt_of_eq (by omega) (show grid0.N = 8 by decide +kernel).symm⟩
    ⟨r.val % 512, by omega⟩ ⟨j.val - 1664 * chip m, by omega⟩
  have e3 : (ix2 r j : S4096x6656.Idx) = _ := Eq.trans (congrArg₂ ix2 (Fin.ext (by simp only []; omega)) (Fin.ext (by simp only []; omega))) e2.symm
  exact e3.symm ▸ View.emb_mem_set _ _

theorem at_ix' (X Y : FVec Ideal S512x1664 .f32) (h : ∀ (r : Fin 512) (j : Fin 1664), X (ix2 r j) = Y (ix2 r j)) : X = Y :=
  funext fun i => by
    have e : (ix2 (i 0) (i 1) : S512x1664.Idx) = i := by idx_vars i
    rw [← e]; exact h _ _

theorem stored (hk : chip m < 4) (t : Fin (cfgM m hO).N) (hf : ((cfgM m hO).win 2).flush t = true) :
    (dats m hO 0 c).flushed 2 t = (((cfgM m hO).win 2).blk t).view.read (Elt Ideal) (G m c) :=
  (after0_2 m hO c t).trans (at_ix' (X := outsAt0 m hO c t) (Y := (((cfgM m hO).win 2).blk t).view.read (Elt Ideal) (G m c)) fun r j => (at_blk m hO c hk t r j).trans (congrArg (G m c) (emb2 m hO hk t r j).symm))

/-- The array at the end of the run, in the chip's columns. -/
theorem final_at (hk : chip m < 4) (r : Fin 4096) (j : Fin 6656) (h : chip m * 1664 ≤ j.val ∧ j.val < chip m * 1664 + 1664) :
    (dats m hO 0 c).arrAt 2 (cfgM m hO).N (ix2 r j : S4096x6656.Idx) = G m c (ix2 r j) :=
  ((dats m hO 0 c).arrAt_eq_piecewise 2 (G m c) (stored m hO c hk) _).trans (if_pos (mem m hO hk r j h))

/-- The run with its result named. -/
theorem run (ρ : Dev nD → PrngReg) (hk : chip m < 4) : θ_run defs (onTc (τ := τ) (main (F := Ideal))) ⟨m, fun _ => 0, ρ⟩ fun r => ∀ c : Dev nD,
      (∀ (r' : Fin 4096) (j : Fin 6656), chip m * 1664 ≤ j.val ∧ j.val < chip m * 1664 + 1664 →
        (r.2.mem ((c.tc : Thread nD τ).loc main_v0) : FVec Ideal S4096x6656 .f32) (ix2 r' j) = G m c (ix2 r' j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  have hO : Ok m := OwnOk.Kernel11Ideal_ok (tbl m) (by rw [tbl_chip]; exact hk)
  (θ_run defs _ _).mono (fun r h c => ⟨fun r' j hj => (congrFun ((h.1 c).1 2) _).trans (final_at m hO c hk r' j hj), h.2 c⟩)
    (θ_run_and (run_main m ρ hO) (unchanged m ρ hO))
end

end Cert.ProjOwn

end
-- ==== Proof.AttKer.lean ====
/- The attention kernel's point: the steps it takes, each a function of arrays, and its output block as their composition. -/
module

public import proofs.«01_k».proof.Proof.Gen.Kernel12Ideal.Value
public import Idealize.ShloMosaic.Lib.Pipeline.ValueKit

@[expose] public section

set_option maxRecDepth 65536

noncomputable section

namespace Cert.Kernel12Ideal.Att

open Cert.Kernel12Ideal Cert.Kernel12Ideal.Gen Idealize.ShloMosaic Idealize.ShloMosaic.TcCoe Idealize.SL.Sem
open Idealize.ShloMosaic.Pipeline (Dat)

/-- Two heads' lanes, turned by the angles of their tables. -/
def ROT (c sa sb x : FVec Ideal S128x128 .f32) : FVec Ideal S128x128 .f32 :=
  addf (addf (mulf x c) (mulf (dynamicRotate 1 120#32 none x rotates_S128x128_d1) sa))
    (mulf (dynamicRotate 1 8#32 none x rotates_S128x128_d1) sb)

/-- The queries of a block, turned and scaled. -/
def QR (c sa sb : FVec Ideal S128x128 .f32) (x : FVec Ideal S128x1024 .f32) : FVec Ideal S128x1024 .f32 :=
  mulf (concatenate S128x1024 1 [⟨S128x128, ROT c sa sb (extractStridedSlice S128x128 ![0, 0] x slices_S128x1024_o0_0_S128x128)⟩, ⟨S128x128, ROT c sa sb (extractStridedSlice S128x128 ![0, 128] x slices_S128x1024_o0_128_S128x128)⟩, ⟨S128x128, ROT c sa sb (extractStridedSlice S128x128 ![0, 256] x slices_S128x1024_o0_256_S128x128)⟩, ⟨S128x128, ROT c sa sb (extractStridedSlice S128x128 ![0, 384] x slices_S128x1024_o0_384_S128x128)⟩, ⟨S128x128, ROT c sa sb (extractStridedSlice S128x128 ![0, 512] x slices_S128x1024_o0_512_S128x128)⟩, ⟨S128x128, ROT c sa sb (extractStridedSlice S128x128 ![0, 640] x slices_S128x1024_o0_640_S128x128)⟩, ⟨S128x128, ROT c sa sb (extractStridedSlice S128x128 ![0, 768] x slices_S128x1024_o0_768_S128x128)⟩, ⟨S128x128, ROT c sa sb (extractStridedSlice S128x128 ![0, 896] x slices_S128x1024_o0_896_S128x128)⟩]
    concatenates_S128x128_S128x128_S128x128_S128x128_S128x128_S128x128_S128x128_S128x128_S128x1024_d1)
    (broadcast S128x1024 (Scalar.ofBits .f32 0x3E000000#32))

/-- The keys of a block, turned. -/
def KR (c sa sb : FVec Ideal S128x128 .f32) (x : FVec Ideal S128x256 .f32) : FVec Ideal S128x256 .f32 :=
  concatenate S128x256 1 [⟨S128x128, ROT c sa sb (extractStridedSlice S128x128 ![0, 0] x slices_S128x256_o0_0_S128x128)⟩,
    ⟨S128x128, ROT c sa sb (extractStridedSlice S128x128 ![0, 128] x slices_S128x256_o0_128_S128x128)⟩] concatenates_S128x128_S128x128_S128x256_d1

/-- Two blocks' rows, one under the other. -/
def TWO (p x : FVec Ideal S128x128 .f32) : FVec Ideal S256x128 .f32 :=
  concatenate S256x128 0 [⟨S128x128, p⟩, ⟨S128x128, x⟩] concatenates_S128x128_S128x128_S256x128_d0

def LOW : IVec S256x128 1 := cmpi .slt (iota .tc S256x128 32 [1] iota_S256x128_d1_w32) (broadcast S256x128 64#32)
def NIL : FVec Ideal S256x128 .f32 := broadcast S256x128 (Scalar.ofBits .f32 0x00000000#32)

/-- A key or value head in the low lanes of its pair: the two blocks' rows, in the low lanes and again in the high lanes. -/
def EV (w : FVec Ideal S256x128 .f32) : FVec Ideal S512x128 .bf16 :=
  truncf .bf16 (concatenate S512x128 0 [⟨S256x128, select LOW w NIL⟩,
    ⟨S256x128, dynamicRotate 1 64#32 none (select LOW w NIL) rotates_S256x128_d1⟩] concatenates_S256x128_S256x128_S512x128_d0) bitsLt_bf16_f32

/-- The same for a head in the high lanes of its pair. -/
def OD (w : FVec Ideal S256x128 .f32) : FVec Ideal S512x128 .bf16 :=
  truncf .bf16 (concatenate S512x128 0 [⟨S256x128, dynamicRotate 1 64#32 none (select LOW NIL w) rotates_S256x128_d1⟩,
    ⟨S256x128, select LOW NIL w⟩] concatenates_S256x128_S256x128_S512x128_d0) bitsLt_bf16_f32

/-- The scores of four query heads, 128 rows each. -/
def SC (a b : FVec Ideal S128x128 .f32) (k : FVec Ideal S512x128 .bf16) : FVec Ideal S512x256 .f32 :=
  concatenate S512x256 0 [
    ⟨S256x256, extractStridedSlice S256x256 ![0, 0] (matmul dot_S256x128_S512x128_S256x512_1_1_0_0_n_n none (truncf .bf16 (TWO a b) bitsLt_bf16_f32) k (constant S256x512 .f32 0x00000000#32)) slices_S256x512_o0_0_S256x256⟩,
    ⟨S256x256, extractStridedSlice S256x256 ![0, 256] (matmul dot_S256x128_S512x128_S256x512_1_1_0_0_n_n none (truncf .bf16 (TWO a b) bitsLt_bf16_f32) k (constant S256x512 .f32 0x00000000#32)) slices_S256x512_o0_256_S256x256⟩]
    concatenates_S256x256_S256x256_S512x256_d0

/-- A row's place among the four heads. -/
def GRP : IVec S512x1 32 := k0_pay54

/-- The four heads' sinks, a row each. -/
def COL (a b c d : Elt Ideal .f32) : FVec Ideal S512x1 .f32 :=
  select (cmpi .eq GRP (broadcast S512x1 3#32)) (broadcast S512x1 d)
    (select (cmpi .eq GRP (broadcast S512x1 2#32)) (broadcast S512x1 c)
      (select (cmpi .eq GRP (broadcast S512x1 1#32)) (broadcast S512x1 b) (broadcast S512x1 a)))

/-- The scores, the two blocks' columns laid over each other, and masked. -/
def FM (own none : IVec S512x128 1) (s : FVec Ideal S512x256 .f32) : FVec Ideal S512x128 .f32 :=
  select none (broadcast S512x128 (Named.named κ "masked" 0xF149F2CA#32))
    (select own (extractStridedSlice S512x128 ![0, 128] s slices_S512x256_o0_128_S512x128)
      (extractStridedSlice S512x128 ![0, 0] s slices_S512x256_o0_0_S512x128))

/-- The greatest of a row and its sink. -/
def MX (s : FVec Ideal S512x128 .f32) (k : FVec Ideal S512x1 .f32) : FVec Ideal S512x1 .f32 :=
  maximumf (shapeCast S512x1 (multiReduction .maximumf [1] S512 s 0xFF800000#32 reduces_S512x128_S512 (.inl rfl) rfl) shapeCasts_S512_S512x1) k

def EX (s : FVec Ideal S512x128 .f32) (k : FVec Ideal S512x1 .f32) : FVec Ideal S512x128 .f32 :=
  exp (subf s (broadcastTo S512x128 (MX s k) broadcasts_S512x1_S512x128))

/-- The weights of the keys. -/
def PN (s : FVec Ideal S512x128 .f32) (k : FVec Ideal S512x1 .f32) : FVec Ideal S512x128 .f32 :=
  divf (EX s k) (broadcastTo S512x128 (addf (shapeCast S512x1 (multiReduction .add [1] S512 (EX s k) 0x00000000#32 reduces_S512x128_S512 (.inl rfl) rfl) shapeCasts_S512_S512x1)
    (exp (subf k (MX s k)))) broadcasts_S512x1_S512x128)

/-- The weights over the two blocks' columns again. -/
def UF (own : IVec S512x128 1) (p : FVec Ideal S512x128 .f32) : FVec Ideal S512x256 .bf16 :=
  concatenate S512x256 1 [⟨S512x128, select own (broadcast S512x128 (Scalar.ofBits .bf16 0x0000#16)) (truncf .bf16 p bitsLt_bf16_f32)⟩,
    ⟨S512x128, select own (truncf .bf16 p bitsLt_bf16_f32) (broadcast S512x128 (Scalar.ofBits .bf16 0x0000#16))⟩] concatenates_S512x128_S512x128_S512x256_d1

/-- The values, weighed: two heads in each row. -/
def OB (u : FVec Ideal S512x256 .bf16) (v : FVec Ideal S512x128 .bf16) : FVec Ideal S256x128 .f32 :=
  matmul dot_S256x512_S512x128_S256x128_1_0_0_1_n_n none
    (concatenate S256x512 1 [⟨S256x256, extractStridedSlice S256x256 ![0, 0] u slices_S512x256_o0_0_S256x256⟩,
      ⟨S256x256, extractStridedSlice S256x256 ![256, 0] u slices_S512x256_o256_0_S256x256⟩] concatenates_S256x256_S256x256_S256x512_d1)
    v (constant S256x128 .f32 0x00000000#32)

/-- Which columns lie in a row's own block: those up to its diagonal. -/
def OWN : IVec S512x128 1 := k0_pay28 k0_pay27

/-- Which columns have no key: those of the block before, at the first block. -/
def NOK (n : BitVec 32) : IVec S512x128 1 := k0_pay29 n k0_pay27

/-- Four query heads: what they read of their one key and value head. -/
def HD (n : BitVec 32) (a b : FVec Ideal S128x128 .f32) (k v : FVec Ideal S512x128 .bf16) (s0 s1 s2 s3 : Elt Ideal .f32) : FVec Ideal S256x128 .f32 :=
  OB (UF OWN (PN (FM OWN (NOK n) (SC a b k)) (COL s0 s1 s2 s3))) v

/-- Half of what the heads read. -/
def LO (x : FVec Ideal S256x128 .f32) : FVec Ideal S128x128 .f32 := extractStridedSlice S128x128 ![0, 0] x slices_S256x128_o0_0_S128x128
def HI (x : FVec Ideal S256x128 .f32) : FVec Ideal S128x128 .f32 := extractStridedSlice S128x128 ![128, 0] x slices_S256x128_o128_0_S128x128

/-- A pair of key or value heads of two blocks. -/
def KV0 (p x : FVec Ideal S128x256 .f32) : FVec Ideal S256x128 .f32 :=
  TWO (extractStridedSlice S128x128 ![0, 0] p slices_S128x256_o0_0_S128x128) (extractStridedSlice S128x128 ![0, 0] x slices_S128x256_o0_0_S128x128)
def KV1 (p x : FVec Ideal S128x256 .f32) : FVec Ideal S256x128 .f32 :=
  TWO (extractStridedSlice S128x128 ![0, 128] p slices_S128x256_o0_128_S128x128) (extractStridedSlice S128x128 ![0, 128] x slices_S128x256_o0_128_S128x128)

/-- Two query heads of a block. -/
def Q0 (q : FVec Ideal S128x1024 .f32) : FVec Ideal S128x128 .f32 := extractStridedSlice S128x128 ![0, 0] q slices_S128x1024_o0_0_S128x128
def Q1 (q : FVec Ideal S128x1024 .f32) : FVec Ideal S128x128 .f32 := extractStridedSlice S128x128 ![0, 128] q slices_S128x1024_o0_128_S128x128
def Q2 (q : FVec Ideal S128x1024 .f32) : FVec Ideal S128x128 .f32 := extractStridedSlice S128x128 ![0, 256] q slices_S128x1024_o0_256_S128x128
def Q3 (q : FVec Ideal S128x1024 .f32) : FVec Ideal S128x128 .f32 := extractStridedSlice S128x128 ![0, 384] q slices_S128x1024_o0_384_S128x128
def Q4 (q : FVec Ideal S128x1024 .f32) : FVec Ideal S128x128 .f32 := extractStridedSlice S128x128 ![0, 512] q slices_S128x1024_o0_512_S128x128
def Q5 (q : FVec Ideal S128x1024 .f32) : FVec Ideal S128x128 .f32 := extractStridedSlice S128x128 ![0, 640] q slices_S128x1024_o0_640_S128x128
def Q6 (q : FVec Ideal S128x1024 .f32) : FVec Ideal S128x128 .f32 := extractStridedSlice S128x128 ![0, 768] q slices_S128x1024_o0_768_S128x128
def Q7 (q : FVec Ideal S128x1024 .f32) : FVec Ideal S128x128 .f32 := extractStridedSlice S128x128 ![0, 896] q slices_S128x1024_o0_896_S128x128

/-- The gate's factor. -/
def GT (g0 g1 : FVec Ideal S128x512 .f32) : FVec Ideal S128x1024 .f32 :=
  mulf (concatenate S128x1024 1 [⟨S128x512, g0⟩, ⟨S128x512, g1⟩] concatenates_S128x512_S128x512_S128x1024_d1)
    (divf (broadcast S128x1024 (Scalar.ofBits .f32 0x3F800000#32)) (addf (broadcast S128x1024 (Scalar.ofBits .f32 0x3F800000#32))
      (exp (subf (broadcast S128x1024 (Scalar.ofBits .f32 0x00000000#32)) (concatenate S128x1024 1 [⟨S128x512, g0⟩, ⟨S128x512, g1⟩] concatenates_S128x512_S128x512_S128x1024_d1)))))

/-- What a point is handed: its block's number, the tables of its block and of the one before, the queries, the keys and values of both,
the gate, and the sinks. -/
structure Pt where
  n : BitVec 32
  c : FVec Ideal S128x128 .f32
  sa : FVec Ideal S128x128 .f32
  sb : FVec Ideal S128x128 .f32
  c' : FVec Ideal S128x128 .f32
  sa' : FVec Ideal S128x128 .f32
  sb' : FVec Ideal S128x128 .f32
  q : FVec Ideal S128x1024 .f32
  k : FVec Ideal S128x256 .f32
  k' : FVec Ideal S128x256 .f32
  v : FVec Ideal S128x256 .f32
  v' : FVec Ideal S128x256 .f32
  g0 : FVec Ideal S128x512 .f32
  g1 : FVec Ideal S128x512 .f32
  s0 : Elt Ideal .f32
  s1 : Elt Ideal .f32
  s2 : Elt Ideal .f32
  s3 : Elt Ideal .f32
  s4 : Elt Ideal .f32
  s5 : Elt Ideal .f32
  s6 : Elt Ideal .f32
  s7 : Elt Ideal .f32
  s8 : Elt Ideal .f32
  s9 : Elt Ideal .f32
  s10 : Elt Ideal .f32
  s11 : Elt Ideal .f32
  s12 : Elt Ideal .f32
  s13 : Elt Ideal .f32
  s14 : Elt Ideal .f32
  s15 : Elt Ideal .f32

variable (P : Pt)

def Pt.qr : FVec Ideal S128x1024 .f32 := QR P.c P.sa P.sb P.q
def Pt.kr : FVec Ideal S128x256 .f32 := KR P.c P.sa P.sb P.k
def Pt.kr' : FVec Ideal S128x256 .f32 := KR P.c' P.sa' P.sb' P.k'
def Pt.h0 : FVec Ideal S256x128 .f32 := HD P.n (Q0 P.qr) (Q1 P.qr) (EV (KV0 P.kr' P.kr)) (EV (KV0 P.v' P.v)) P.s0 P.s2 P.s1 P.s3
def Pt.h1 : FVec Ideal S256x128 .f32 := HD P.n (Q2 P.qr) (Q3 P.qr) (OD (KV0 P.kr' P.kr)) (OD (KV0 P.v' P.v)) P.s4 P.s6 P.s5 P.s7
def Pt.h2 : FVec Ideal S256x128 .f32 := HD P.n (Q4 P.qr) (Q5 P.qr) (EV (KV1 P.kr' P.kr)) (EV (KV1 P.v' P.v)) P.s8 P.s10 P.s9 P.s11
def Pt.h3 : FVec Ideal S256x128 .f32 := HD P.n (Q6 P.qr) (Q7 P.qr) (OD (KV1 P.kr' P.kr)) (OD (KV1 P.v' P.v)) P.s12 P.s14 P.s13 P.s15

/-- The eight pairs of heads, side by side. -/
def Pt.o : FVec Ideal S128x1024 .f32 := concatenate S128x1024 1 [⟨S128x128, LO P.h0⟩, ⟨S128x128, HI P.h0⟩, ⟨S128x128, LO P.h1⟩, ⟨S128x128, HI P.h1⟩, ⟨S128x128, LO P.h2⟩, ⟨S128x128, HI P.h2⟩, ⟨S128x128, LO P.h3⟩, ⟨S128x128, HI P.h3⟩]
  concatenates_S128x128_S128x128_S128x128_S128x128_S128x128_S128x128_S128x128_S128x128_S128x1024_d1

/-- The block of rows that the point returns. -/
def Pt.y : FVec Ideal S128x1024 .bf16 := truncf .bf16 (mulf P.o (GT P.g0 P.g1)) bitsLt_bf16_f32

section
variable (own nok : IVec S512x128 1) (c sa sb : FVec Ideal S128x128 .f32) (x : FVec Ideal S128x1024 .f32) (k p : FVec Ideal S128x256 .f32)
  (b : FVec Ideal S512x128 .bf16) (s : FVec Ideal S512x256 .f32) (w : FVec Ideal S512x128 .f32) (s0 s1 s2 s3 : Elt Ideal .f32)

theorem same (h : S128x128.ShapeCasts S128x128) : shapeCast S128x128 c h = c := by
  funext i; idx_vars i; pointwise []
theorem e3 : k0_pay3 (F := Ideal) c = c := same c _
theorem e4 : k0_pay4 (F := Ideal) c = c := same c _
theorem e5 : k0_pay5 (F := Ideal) c = c := same c _
theorem e6 : k0_pay6 (F := Ideal) c = c := same c _
theorem e7 : k0_pay7 (F := Ideal) c = c := same c _
theorem e8 : k0_pay8 (F := Ideal) c = c := same c _
theorem e18 : k0_pay18 (F := Ideal) (k0_pay3 c) (k0_pay4 sa) (k0_pay5 sb) (k0_pay9 x) (k0_pay10 x) (k0_pay11 x) (k0_pay12 x) (k0_pay13 x) (k0_pay14 x)
    (k0_pay15 c sa sb x) (k0_pay16 c sa sb x) (k0_pay17 c sa x) 8#32 = QR (k0_pay3 c) (k0_pay4 sa) (k0_pay5 sb) x := rfl
theorem e23 : k0_pay23 (F := Ideal) (k0_pay3 c) (k0_pay4 sa) (k0_pay5 sb) (k0_pay19 k) (k0_pay20 k) (k0_pay21 (k0_pay3 c) k) (k0_pay22 k) = KR (k0_pay3 c) (k0_pay4 sa) (k0_pay5 sb) k := rfl
theorem e24 : k0_pay24 (F := Ideal) (k0_pay6 c) (k0_pay7 sa) (k0_pay8 sb) k = KR (k0_pay6 c) (k0_pay7 sa) (k0_pay8 sb) k := rfl
theorem e30 : k0_pay30 (F := Ideal) k p = EV (KV0 p k) := rfl
theorem e31 : k0_pay31 (F := Ideal) k p = OD (KV0 p k) := rfl
theorem e32 : k0_pay32 (F := Ideal) k p = EV (KV1 p k) := rfl
theorem e34 : k0_pay34 (F := Ideal) (k0_pay33 k p) = OD (KV1 p k) := rfl
theorem e35 : k0_pay35 (F := Ideal) k p = EV (KV0 p k) := rfl
theorem e36 : k0_pay36 (F := Ideal) k p = OD (KV0 p k) := rfl
theorem e37 : k0_pay37 (F := Ideal) k p = EV (KV1 p k) := rfl
theorem e38 : k0_pay38 (F := Ideal) k p = OD (KV1 p k) := rfl
theorem e39 : k0_pay39 (F := Ideal) x b = SC (Q0 x) (Q1 x) b := rfl
theorem e40 : k0_pay40 (F := Ideal) x b = SC (Q2 x) (Q3 x) b := rfl
theorem e41 : k0_pay41 (F := Ideal) x b = SC (Q4 x) (Q5 x) b := rfl
theorem e42 : k0_pay42 (F := Ideal) x b = SC (Q6 x) (Q7 x) b := rfl
theorem e46 : k0_pay46 (F := Ideal) own nok s k0_pay43 k0_pay44 k0_pay45 s0 s1 s2 s3 = PN (FM own nok s) (COL s0 s1 s2 s3) := rfl
theorem e57 : k0_pay57 (F := Ideal) own nok s k0_pay54 (k0_pay55 s0 s1) k0_pay56 s2 s3 = PN (FM own nok s) (COL s0 s1 s2 s3) := rfl
theorem e67 : k0_pay67 (F := Ideal) (iota .tc S512x1 32 [0] iota_S512x1_d0_w32) 128#32 k0_pay65 k0_pay66 s0 s1 s2 s3 = COL s0 s1 s2 s3 := rfl
theorem e70 (h : FVec Ideal S512x1 .f32) : k0_pay70 (F := Ideal) h (k0_pay68 own nok s) (k0_pay69 own nok s) = PN (FM own nok s) h := rfl
theorem e81 : k0_pay81 (F := Ideal) own nok s k0_pay78 k0_pay79 k0_pay80 s0 s1 s2 s3 = PN (FM own nok s) (COL s0 s1 s2 s3) := rfl
theorem e52 : k0_pay52 (F := Ideal) own b w = LO (OB (UF own w) b) := rfl
theorem e53 : k0_pay53 (F := Ideal) own b w = HI (OB (UF own w) b) := rfl
theorem e63 : k0_pay63 (F := Ideal) own nok b s k0_pay54 (k0_pay55 s0 s1) k0_pay56 s2 s3 = LO (OB (UF own (PN (FM own nok s) (COL s0 s1 s2 s3))) b) := rfl
theorem e64 : k0_pay64 (F := Ideal) own nok b s k0_pay54 (k0_pay55 s0 s1) k0_pay56 s2 s3 = HI (OB (UF own (PN (FM own nok s) (COL s0 s1 s2 s3))) b) := rfl
theorem e76 (h : FVec Ideal S512x1 .f32) : k0_pay76 (F := Ideal) own b h (k0_pay68 own nok s) (k0_pay69 own nok s) = LO (OB (UF own (PN (FM own nok s) h)) b) := rfl
theorem e77 (h : FVec Ideal S512x1 .f32) : k0_pay77 (F := Ideal) own b h (k0_pay68 own nok s) (k0_pay69 own nok s) = HI (OB (UF own (PN (FM own nok s) h)) b) := rfl
theorem e88 : k0_pay88 (F := Ideal) own nok s k0_pay78 k0_pay79 k0_pay80 s0 s1 s2 s3
    = select own (broadcast S512x128 (Scalar.ofBits .bf16 0x0000#16)) (truncf .bf16 (PN (FM own nok s) (COL s0 s1 s2 s3)) bitsLt_bf16_f32) := rfl
theorem e89 : k0_pay89 (F := Ideal) own nok s k0_pay78 k0_pay79 k0_pay80 s0 s1 s2 s3
    = select own (truncf .bf16 (PN (FM own nok s) (COL s0 s1 s2 s3)) bitsLt_bf16_f32) (broadcast S512x128 (Scalar.ofBits .bf16 0x0000#16)) := rfl
theorem e2 (a0 a1 a2 a3 a4 a5 : FVec Ideal S128x128 .f32) (g0 g1 : FVec Ideal S128x512 .f32) :
    k0_pay2 (F := Ideal) b a0 a1 a2 a3 a4 a5 (select own (broadcast S512x128 (Scalar.ofBits .bf16 0x0000#16)) (truncf .bf16 w bitsLt_bf16_f32))
      (select own (truncf .bf16 w bitsLt_bf16_f32) (broadcast S512x128 (Scalar.ofBits .bf16 0x0000#16))) g0 g1
    = truncf .bf16 (mulf (concatenate S128x1024 1 [⟨S128x128, a0⟩, ⟨S128x128, a1⟩, ⟨S128x128, a2⟩, ⟨S128x128, a3⟩, ⟨S128x128, a4⟩, ⟨S128x128, a5⟩,
      ⟨S128x128, LO (OB (UF own w) b)⟩, ⟨S128x128, HI (OB (UF own w) b)⟩]
      concatenates_S128x128_S128x128_S128x128_S128x128_S128x128_S128x128_S128x128_S128x128_S128x1024_d1) (GT g0 g1)) bitsLt_bf16_f32 := rfl
end

section
variable (m : (ℓ : Loc nD τ sig) → Buf (Elt Ideal) ℓ) (c : Dev nD) (t : Fin cfg0.N)

/-- What the point at block t is handed. -/
def pt : Pt where
  n := BitVec.ofNat 32 (grid0.coords t 0).val
  c := k0_pay3 (iblk m c 5 t)
  sa := k0_pay4 (iblk m c 6 t)
  sb := k0_pay5 (iblk m c 7 t)
  c' := k0_pay6 (iblk m c 8 t)
  sa' := k0_pay7 (iblk m c 9 t)
  sb' := k0_pay8 (iblk m c 10 t)
  q := X0_0 m c t
  k := View.ld (iblk m c 1 t) (Rect.unit ![0, 0] ![128, 256] inb_S128x512_S128x256_0_0)
  k' := View.ld (iblk m c 2 t) (Rect.unit ![0, 0] ![128, 256] inb_S128x512_S128x256_0_0)
  v := View.ld (iblk m c 1 t) (Rect.unit ![0, 256] ![128, 256] inb_S128x512_S128x256_0_256)
  v' := View.ld (iblk m c 2 t) (Rect.unit ![0, 256] ![128, 256] inb_S128x512_S128x256_0_256)
  g0 := iblk m c 3 t
  g1 := iblk m c 4 t
  s0 := View.ld (iblk m c 11 t) (Rect.unit ![0, 0] ![1, 1] inb_S1x16_S1x1_0_0) (Shape.Idx.first (lt_of_lt_of_eq Nat.one_pos (Eq.symm numel1_S1x1)))
  s1 := View.ld (iblk m c 11 t) (Rect.unit ![0, 1] ![1, 1] inb_S1x16_S1x1_0_1) (Shape.Idx.first (lt_of_lt_of_eq Nat.one_pos (Eq.symm numel1_S1x1)))
  s2 := View.ld (iblk m c 11 t) (Rect.unit ![0, 2] ![1, 1] inb_S1x16_S1x1_0_2) (Shape.Idx.first (lt_of_lt_of_eq Nat.one_pos (Eq.symm numel1_S1x1)))
  s3 := View.ld (iblk m c 11 t) (Rect.unit ![0, 3] ![1, 1] inb_S1x16_S1x1_0_3) (Shape.Idx.first (lt_of_lt_of_eq Nat.one_pos (Eq.symm numel1_S1x1)))
  s4 := View.ld (iblk m c 11 t) (Rect.unit ![0, 4] ![1, 1] inb_S1x16_S1x1_0_4) (Shape.Idx.first (lt_of_lt_of_eq Nat.one_pos (Eq.symm numel1_S1x1)))
  s5 := View.ld (iblk m c 11 t) (Rect.unit ![0, 5] ![1, 1] inb_S1x16_S1x1_0_5) (Shape.Idx.first (lt_of_lt_of_eq Nat.one_pos (Eq.symm numel1_S1x1)))
  s6 := View.ld (iblk m c 11 t) (Rect.unit ![0, 6] ![1, 1] inb_S1x16_S1x1_0_6) (Shape.Idx.first (lt_of_lt_of_eq Nat.one_pos (Eq.symm numel1_S1x1)))
  s7 := View.ld (iblk m c 11 t) (Rect.unit ![0, 7] ![1, 1] inb_S1x16_S1x1_0_7) (Shape.Idx.first (lt_of_lt_of_eq Nat.one_pos (Eq.symm numel1_S1x1)))
  s8 := View.ld (iblk m c 11 t) (Rect.unit ![0, 8] ![1, 1] inb_S1x16_S1x1_0_8) (Shape.Idx.first (lt_of_lt_of_eq Nat.one_pos (Eq.symm numel1_S1x1)))
  s9 := View.ld (iblk m c 11 t) (Rect.unit ![0, 9] ![1, 1] inb_S1x16_S1x1_0_9) (Shape.Idx.first (lt_of_lt_of_eq Nat.one_pos (Eq.symm numel1_S1x1)))
  s10 := View.ld (iblk m c 11 t) (Rect.unit ![0, 10] ![1, 1] inb_S1x16_S1x1_0_10) (Shape.Idx.first (lt_of_lt_of_eq Nat.one_pos (Eq.symm numel1_S1x1)))
  s11 := View.ld (iblk m c 11 t) (Rect.unit ![0, 11] ![1, 1] inb_S1x16_S1x1_0_11) (Shape.Idx.first (lt_of_lt_of_eq Nat.one_pos (Eq.symm numel1_S1x1)))
  s12 := View.ld (iblk m c 11 t) (Rect.unit ![0, 12] ![1, 1] inb_S1x16_S1x1_0_12) (Shape.Idx.first (lt_of_lt_of_eq Nat.one_pos (Eq.symm numel1_S1x1)))
  s13 := View.ld (iblk m c 11 t) (Rect.unit ![0, 13] ![1, 1] inb_S1x16_S1x1_0_13) (Shape.Idx.first (lt_of_lt_of_eq Nat.one_pos (Eq.symm numel1_S1x1)))
  s14 := View.ld (iblk m c 11 t) (Rect.unit ![0, 14] ![1, 1] inb_S1x16_S1x1_0_14) (Shape.Idx.first (lt_of_lt_of_eq Nat.one_pos (Eq.symm numel1_S1x1)))
  s15 := View.ld (iblk m c 11 t) (Rect.unit ![0, 15] ![1, 1] inb_S1x16_S1x1_0_15) (Shape.Idx.first (lt_of_lt_of_eq Nat.one_pos (Eq.symm numel1_S1x1)))

set_option maxHeartbeats 2000000 in
theorem out_eq : (outsAt0 m c t).1 = (pt m c t).y := by
  unfold outsAt0
  frame_out
  simp only [e18, e23, e24, e30, e31, e32, e34, e35, e36, e37, e38, e39, e40, e41, e42, e46, e57, e67, e70, e52, e53, e63, e64, e76, e77, e88, e89, e2]
  rw [e67]
  simp only [Pt.y, Pt.o, Pt.h0, Pt.h1, Pt.h2, Pt.h3, HD, Pt.qr, Pt.kr, Pt.kr', pt, OWN, NOK]
  rfl
end

end Cert.Kernel12Ideal.Att

end
-- ==== Proof.AttMath.lean ====
/- The arithmetic of the attention: turned heads, the weights of a row's keys, and weights over two blocks' keys laid over each other. -/
module

public import Idealize.ShloMosaic.PureOps
public import Idealize.ShloMosaic.Lib.IdealHost

@[expose] public section

set_option maxRecDepth 16384

noncomputable section

namespace Cert.Att

open Idealize.ShloMosaic

/-- A head's row, its first sixteen lanes turned by eight angles. -/
def rope (cs sn : Fin 8 → EReal) (x : Fin 64 → EReal) (d : Fin 64) : EReal :=
  if h : d.val < 8 then x d * cs ⟨d.val, h⟩ - x ⟨d.val + 8, by omega⟩ * sn ⟨d.val, h⟩
  else if h' : d.val < 16 then x d * cs ⟨d.val - 8, by omega⟩ + x ⟨d.val - 8, by omega⟩ * sn ⟨d.val - 8, by omega⟩
  else x d

/-- The greatest of a row's scores and its sink. -/
def top {n : ℕ} (f : Fin n → EReal) (k : EReal) : EReal := max ((Finset.univ : Finset (Fin n)).fold max ⊥ f) k

/-- The sum of a row's exponentials, its sink's among them. -/
def den {n : ℕ} (f : Fin n → EReal) (k : EReal) : EReal := ∑ t, Ideal.exp (f t - top f k) + Ideal.exp (k - top f k)

/-- The weight of a key. -/
def wt {n : ℕ} (f : Fin n → EReal) (k : EReal) (t : Fin n) : EReal := Ideal.div (Ideal.exp (f t - top f k)) (den f k)

theorem exp_nonneg (x : EReal) : 0 ≤ Ideal.exp x := by
  induction x using EReal.rec with
  | bot => exact le_refl _
  | top => exact le_top
  | coe r => exact EReal.coe_nonneg.2 (Real.exp_pos r).le

theorem fold_ne_top {n : ℕ} (f : Fin n → EReal) (h : ∀ t, f t ≠ ⊤) (s : Finset (Fin n)) : s.fold max ⊥ f ≠ ⊤ := by
  classical
  refine Finset.induction_on s (by simp) fun a s ha ih => ?_
  rw [Finset.fold_insert ha]
  rcases max_choice (f a) (s.fold max ⊥ f) with e | e <;> rw [e]
  · exact h a
  · exact ih

theorem den_ne_zero {n : ℕ} (f : Fin n → EReal) (k : ℝ) (h : ∀ t, f t ≠ ⊤) : den f (k : EReal) ≠ 0 := by
  have h1 : top f (k : EReal) ≠ ⊤ := by
    unfold top
    rcases max_choice ((Finset.univ : Finset (Fin n)).fold max ⊥ f) (k : EReal) with e | e <;> rw [e]
    · exact fold_ne_top f h _
    · exact EReal.coe_ne_top k
  have h2 : (k : EReal) ≤ top f (k : EReal) := le_max_right _ _
  have hr : ∃ r : ℝ, top f (k : EReal) = (r : EReal) := by
    generalize top f (k : EReal) = z at h1 h2
    induction z using EReal.rec with
    | bot => exact absurd (le_bot_iff.1 h2) (EReal.coe_ne_bot k)
    | top => exact absurd rfl h1
    | coe r => exact ⟨r, rfl⟩
  obtain ⟨r, hr⟩ := hr
  unfold den
  rw [hr]
  have hp : (0 : EReal) < Ideal.exp ((k : EReal) - (r : EReal)) := by
    rw [← EReal.coe_sub]
    exact EReal.coe_pos.2 (Real.exp_pos (k - r))
  exact (lt_of_lt_of_le hp (le_add_of_nonneg_left (Finset.sum_nonneg fun t _ => exp_nonneg _))).ne'

theorem wt_bot {n : ℕ} (f : Fin n → EReal) (k : EReal) (hd : den f k ≠ 0) (t : Fin n) (h : f t = ⊥) : wt f k t = 0 := by
  unfold wt
  rw [h, EReal.bot_sub, Ideal.exp_bot]
  exact Ideal.zero_div hd

/-- A row's scores, and −∞ where it has no key. -/
def ms (ok : Fin 256 → Prop) [DecidablePred ok] (s : Fin 256 → EReal) (t : Fin 256) : EReal := if ok t then s t else ⊥

/-- What a row reads. -/
def att (ok : Fin 256 → Prop) [DecidablePred ok] (s : Fin 256 → EReal) (k : EReal) (v : Fin 256 → EReal) : EReal :=
  ∑ t, wt (ms ok s) k t * v t

theorem ms_congr (ok : Fin 256 → Prop) [DecidablePred ok] (s s' : Fin 256 → EReal) (h : ∀ t, ok t → s t = s' t) : ms ok s = ms ok s' := by
  funext t
  unfold ms
  split
  · exact h t ‹_›
  · rfl

theorem att_congr (ok : Fin 256 → Prop) [DecidablePred ok] (s s' : Fin 256 → EReal) (k : ℝ) (v v' : Fin 256 → EReal)
    (hs : ∀ t, ok t → s t = s' t) (hv : ∀ t, ok t → v t = v' t) (ht : ∀ t, ok t → s' t ≠ ⊤) :
    att ok s (k : EReal) v = att ok s' (k : EReal) v' := by
  unfold att
  rw [ms_congr ok s s' hs]
  refine Finset.sum_congr rfl fun t _ => ?_
  by_cases h : ok t
  · rw [hv t h]
  · rw [wt_bot _ _ (den_ne_zero _ _ fun u => ?_) t (if_neg h), zero_mul, zero_mul]
    unfold ms
    split
    · exact ht u ‹_›
    · exact bot_ne_top

/-- A key of the block before, and of a row's own block. -/
abbrev ilo (j : Fin 128) : Fin 256 := ⟨j.val, by omega⟩
abbrev iup (j : Fin 128) : Fin 256 := ⟨128 + j.val, by omega⟩

section
variable (f : Fin 128 → EReal) (g : Fin 256 → EReal) (k : EReal)
  (h : ∀ j : Fin 128, (g (ilo j) = f j ∧ g (iup j) = ⊥) ∨ (g (ilo j) = ⊥ ∧ g (iup j) = f j))
include h

theorem fold_fold : (Finset.univ : Finset (Fin 256)).fold max ⊥ g = (Finset.univ : Finset (Fin 128)).fold max ⊥ f := by
  refine le_antisymm ?_ ?_
  · rw [Finset.fold_max_le]
    refine ⟨bot_le, fun t _ => ?_⟩
    have hf : ∀ j, f j ≤ (Finset.univ : Finset (Fin 128)).fold max ⊥ f := fun j => (Finset.le_fold_max _).2 (Or.inr ⟨j, Finset.mem_univ _, le_refl _⟩)
    by_cases ht : t.val < 128
    · rcases h ⟨t.val, ht⟩ with e | e
      · exact (le_of_eq e.1).trans (hf _)
      · exact (le_of_eq e.1).trans bot_le
    · have ht' : t = ⟨128 + (t.val - 128), by omega⟩ := Fin.ext (by simp; omega)
      rw [ht']
      rcases h ⟨t.val - 128, by omega⟩ with e | e
      · exact (le_of_eq e.2).trans bot_le
      · exact (le_of_eq e.2).trans (hf _)
  · rw [Finset.fold_max_le]
    refine ⟨bot_le, fun j _ => ?_⟩
    have hg : ∀ t, g t ≤ (Finset.univ : Finset (Fin 256)).fold max ⊥ g := fun t => (Finset.le_fold_max _).2 (Or.inr ⟨t, Finset.mem_univ _, le_refl _⟩)
    rcases h j with e | e
    · exact (le_of_eq e.1.symm).trans (hg _)
    · exact (le_of_eq e.2.symm).trans (hg _)

theorem top_fold : top g k = top f k := by unfold top; rw [fold_fold f g h]

omit h in
/-- A sum over two blocks. -/
theorem sum_two (u : Fin 256 → EReal) : ∑ t, u t = ∑ j : Fin 128, u (ilo j) + ∑ j : Fin 128, u (iup j) :=
  Fin.sum_univ_add (a := 128) (b := 128) u

theorem den_fold : den g k = den f k := by
  unfold den
  rw [top_fold f g k h, sum_two, ← Finset.sum_add_distrib]
  refine congrArg (· + _) (Finset.sum_congr rfl fun j _ => ?_)
  rcases h j with e | e <;> rw [e.1, e.2, EReal.bot_sub, Ideal.exp_bot]
  · rw [add_zero]
  · rw [zero_add]

theorem wt_fold (t : Fin 256) (j : Fin 128) (e : g t = f j) : wt g k t = wt f k j := by
  unfold wt
  rw [e, top_fold f g k h, den_fold f g k h]
end

/-- A nonnegative real factor of every term. -/
theorem sum_scale {n : ℕ} (a : EReal) (h0 : 0 ≤ a) (ha : a ≠ ⊤) (u : Fin n → EReal) : ∑ d, u d * a = (∑ d, u d) * a := by
  classical
  refine Finset.induction_on (Finset.univ : Finset (Fin n)) (by simp) fun d s hd ih => ?_
  rw [Finset.sum_insert hd, Finset.sum_insert hd, ih, EReal.right_distrib_of_nonneg_of_ne_top h0 ha]

end Cert.Att

end
-- ==== Proof.AttPay.lean ====
/- The attention kernel's steps, each at an index. -/
module

public import proofs.«01_k».proof.Proof.AttKer
public import proofs.«01_k».proof.Proof.AttMath

@[expose] public section

set_option maxRecDepth 65536

noncomputable section

namespace Cert.Kernel12Ideal.Att

open Cert.Kernel12Ideal Cert.Kernel12Ideal.Gen Idealize.ShloMosaic Idealize.ShloMosaic.TcCoe Idealize.SL.Sem
open Cert.Att

theorem bot_bits : Ideal.ofBits FTy.f32 4286578688#32 = (⊥ : EReal) := by
  unfold Ideal.ofBits
  simp [Ideal.ieee]

section
variable (c sa sb x : FVec Ideal S128x128 .f32)

theorem ROT_at (r l : Fin 128) : ROT c sa sb x (ix2 r l) = x (ix2 r l) * c (ix2 r l)
    + x (ix2 r ⟨(l.val + 8) % 128, by omega⟩) * sa (ix2 r l) + x (ix2 r ⟨(l.val + 120) % 128, by omega⟩) * sb (ix2 r l) := by
  pointwise [ROT]
  rfl

/-- A row of tables turns the two heads of a pair. -/
theorem ROT_rope (cs sn : Fin 8 → EReal) (r : Fin 128)
    (hc : ∀ l : Fin 128, c (ix2 r l) = if l.val % 64 < 16 then cs ⟨l.val % 8, by omega⟩ else 1)
    (ha : ∀ l : Fin 128, sa (ix2 r l) = if l.val % 64 < 8 then -sn ⟨l.val % 8, by omega⟩ else 0)
    (hb : ∀ l : Fin 128, sb (ix2 r l) = if l.val % 64 < 8 then (0 : EReal) else if l.val % 64 < 16 then sn ⟨l.val % 8, by omega⟩ else 0)
    (hi : Fin 2) (d : Fin 64) : ROT c sa sb x (ix2 r ⟨64 * hi.val + d.val, by omega⟩)
      = rope cs sn (fun d' => x (ix2 r ⟨64 * hi.val + d'.val, by omega⟩)) d := by
  have e : (64 * hi.val + d.val) % 64 = d.val := by omega
  rw [ROT_at, hc, ha, hb]
  simp only [e]
  unfold rope
  by_cases h : d.val < 8
  · rw [dif_pos h, if_pos (by omega), if_pos h, if_pos h, mul_zero, add_zero, mul_neg, ← sub_eq_add_neg]
    have e1 : (⟨(64 * hi.val + d.val) % 8, by omega⟩ : Fin 8) = ⟨d.val, h⟩ := Fin.ext (by simp; omega)
    have e2 : (⟨(64 * hi.val + d.val + 8) % 128, by omega⟩ : Fin 128) = ⟨64 * hi.val + (d.val + 8), by omega⟩ := Fin.ext (by simp; omega)
    rw [e1, e2]
  · rw [dif_neg h, if_neg h, if_neg h, mul_zero, add_zero]
    by_cases h' : d.val < 16
    · rw [dif_pos h', if_pos h', if_pos h']
      have e1 : (⟨(64 * hi.val + d.val) % 8, by omega⟩ : Fin 8) = ⟨d.val - 8, by omega⟩ := Fin.ext (by simp; omega)
      have e2 : (⟨(64 * hi.val + d.val + 120) % 128, by omega⟩ : Fin 128) = ⟨64 * hi.val + (d.val - 8), by omega⟩ := Fin.ext (by simp; omega)
      rw [e1, e2]
    · rw [dif_neg h', if_neg h', if_neg h', mul_zero, add_zero, mul_one]
end

theorem own_word : ∀ (i : Fin 512) (j : Fin 128), IntOp.cmpi .sle (BitVec.ofNat 32 j.val) (IntOp.andi (BitVec.ofNat 32 i.val) 127#32)
    = BitVec.ofBool (decide (j.val ≤ i.val % 128)) := by
  have h1 : ∀ i : Fin 512, IntOp.andi (BitVec.ofNat 32 i.val) 127#32 = BitVec.ofNat 32 (i.val % 128) := by decide +kernel
  have h2 : ∀ j r : Fin 128, IntOp.cmpi .sle (BitVec.ofNat 32 j.val) (BitVec.ofNat 32 r.val) = BitVec.ofBool (decide (j.val ≤ r.val)) := by decide +kernel
  intro i j
  rw [h1]
  exact h2 j ⟨i.val % 128, by omega⟩

theorem OWN_at (i : Fin 512) (j : Fin 128) : OWN (ix2 i j) = BitVec.ofBool (decide (j.val ≤ i.val % 128)) := by
  pointwise [OWN, k0_pay28, k0_pay27]
  exact own_word i j

theorem NOK_at (n : BitVec 32) (i : Fin 512) (j : Fin 128) : NOK n (ix2 i j) = BitVec.ofBool (decide (¬ j.val ≤ i.val % 128 ∧ n = 0#32)) := by
  pointwise [NOK, k0_pay28, k0_pay27, k0_pay29]
  rw [own_word]
  have e : Scalar.cmpi .eq n 0#32 = BitVec.ofBool (decide (n = 0#32)) := by
    by_cases h : n = 0#32
    · subst h; rfl
    · rw [decide_eq_false h]
      exact congrArg BitVec.ofBool (beq_eq_false_iff_ne.2 h)
  rw [e]
  by_cases h : j.val ≤ i.val % 128 <;> by_cases h' : n = 0#32 <;> simp [h, h', IntOp.andi, IntOp.xori]

theorem GRP_at : ∀ i : Fin 512, GRP (ix2 i 0) = BitVec.ofNat 32 (i.val / 128) := by decide +kernel

theorem COL_at (s0 s1 s2 s3 : Elt Ideal .f32) (hi half : Fin 2) (r : Fin 128) :
    COL s0 s1 s2 s3 (ix2 ⟨256 * hi.val + 128 * half.val + r.val, by omega⟩ 0)
      = if hi = 0 then (if half = 0 then s0 else s1) else (if half = 0 then s2 else s3) := by
  pointwise [COL]
  rw [GRP_at]
  have e : (256 * hi.val + 128 * half.val + r.val) / 128 = 2 * hi.val + half.val := by omega
  simp only [e]
  fin_cases hi <;> fin_cases half <;> rfl

/-- One key or value head of a pair, in the low lanes of the first rows and in the high lanes of the others. -/
def IsKV (e : Fin 65) (w2 : FVec Ideal S512x128 .bf16) (w : FVec Ideal S256x128 .f32) : Prop :=
  ∀ (x : Fin 256) (d : Fin 64),
    w2 (ix2 ⟨x.val, by omega⟩ ⟨d.val, by omega⟩) = w (ix2 x ⟨e.val + d.val, by omega⟩)
    ∧ w2 (ix2 ⟨x.val, by omega⟩ ⟨64 + d.val, by omega⟩) = 0
    ∧ w2 (ix2 ⟨256 + x.val, by omega⟩ ⟨d.val, by omega⟩) = 0
    ∧ w2 (ix2 ⟨256 + x.val, by omega⟩ ⟨64 + d.val, by omega⟩) = w (ix2 x ⟨e.val + d.val, by omega⟩)

theorem low_word (d : ℕ) (h : d < 128) : IntOp.cmpi .slt (BitVec.ofNat 32 d) 64#32 = BitVec.ofBool (decide (d < 64)) :=
  (by decide +kernel : ∀ d : Fin 128, IntOp.cmpi .slt (BitVec.ofNat 32 d.val) 64#32 = BitVec.ofBool (decide (d.val < 64))) ⟨d, h⟩

theorem sel_if {A : Type} (p : Prop) [Decidable p] (a b : A) : Scalar.select (BitVec.ofBool (decide p)) a b = if p then a else b := by
  by_cases h : p <;> simp [h, Scalar.select]

theorem EV_is (w : FVec Ideal S256x128 .f32) : IsKV 0 (EV w) w := by
  intro x d
  refine ⟨?_, ?_, ?_, ?_⟩
  all_goals pointwise [EV, LOW, NIL]
  all_goals rw [low_word _ (by omega), sel_if]
  · rw [if_pos (by omega)]
  · rw [if_neg (by omega)]
  · rw [if_neg (by omega)]
  · rw [if_pos (by omega)]
    exact congrArg (fun l => w (ix2 x l)) (Fin.ext (by simp; omega))

theorem OD_is (w : FVec Ideal S256x128 .f32) : IsKV 64 (OD w) w := by
  intro x d
  refine ⟨?_, ?_, ?_, ?_⟩
  all_goals pointwise [OD, LOW, NIL]
  all_goals rw [low_word _ (by omega), sel_if]
  · rw [if_neg (by omega)]
    exact congrArg (fun l => w (ix2 x l)) (Fin.ext (by simp; omega))
  · rw [if_pos (by omega)]
  · rw [if_pos (by omega)]
  · rw [if_neg (by omega)]

theorem PN_at (s : FVec Ideal S512x128 .f32) (k : FVec Ideal S512x1 .f32) (i : Fin 512) (t : Fin 128) :
    PN s k (ix2 i t) = wt (fun x => s (ix2 i x)) (k (ix2 i 0)) t := by
  pointwise [PN, EX, MX]
  rw [bot_bits]
  rfl

/-- Which keys a row has: the 128 up to its own, and none before the first. -/
def okp (z : Prop) (r : ℕ) (t : Fin 256) : Prop := r < t.val ∧ t.val ≤ r + 128 ∧ (z → 128 ≤ t.val)

instance (z : Prop) [Decidable z] (r : ℕ) : DecidablePred (okp z r) := fun t => by unfold okp; infer_instance

theorem FM_at (n : BitVec 32) (s : FVec Ideal S512x256 .f32) (i : Fin 512) (j : Fin 128) : FM OWN (NOK n) s (ix2 i j)
    = if ¬ j.val ≤ i.val % 128 ∧ n = 0#32 then (⊥ : EReal) else if j.val ≤ i.val % 128 then s (ix2 i ⟨128 + j.val, by omega⟩) else s (ix2 i ⟨j.val, by omega⟩) := by
  have e : Named.named (F := Ideal) (φ := .f32) κ "masked" (0xF149F2CA#32 : BitVec 32) = (⊥ : EReal) := rfl
  pointwise [FM]
  rw [NOK_at, OWN_at]
  rw [sel_if, sel_if, e]

theorem UF_lo (p : FVec Ideal S512x128 .f32) (i : Fin 512) (j : Fin 128) : UF OWN p (ix2 i (ilo j))
    = if j.val ≤ i.val % 128 then (0 : EReal) else p (ix2 i j) := by
  pointwise [UF]
  rw [OWN_at, sel_if]

theorem UF_hi (p : FVec Ideal S512x128 .f32) (i : Fin 512) (j : Fin 128) : UF OWN p (ix2 i (iup j))
    = if j.val ≤ i.val % 128 then p (ix2 i j) else (0 : EReal) := by
  pointwise [UF]
  rw [OWN_at, sel_if]

theorem sum128 (f : Fin 128 → EReal) : ∑ x, f x = ∑ d : Fin 64, f ⟨d.val, by omega⟩ + ∑ d : Fin 64, f ⟨64 + d.val, by omega⟩ :=
  Fin.sum_univ_add (a := 64) (b := 64) f

theorem r0 (i : Fin 256) : (⟨256 * (0 : Fin 2).val + i.val, by omega⟩ : Fin 512) = ⟨i.val, by omega⟩ := Fin.ext (Nat.zero_add _)
theorem r1 (i : Fin 256) : (⟨256 * (1 : Fin 2).val + i.val, by omega⟩ : Fin 512) = ⟨256 + i.val, by omega⟩ := rfl
theorem l0 (i : Fin 64) : (⟨64 * (0 : Fin 2).val + i.val, by omega⟩ : Fin 128) = ⟨i.val, by omega⟩ := Fin.ext (Nat.zero_add _)
theorem l1 (i : Fin 64) : (⟨64 * (1 : Fin 2).val + i.val, by omega⟩ : Fin 128) = ⟨64 + i.val, by omega⟩ := rfl

theorem OB_sum (u : FVec Ideal S512x256 .bf16) (v : FVec Ideal S512x128 .bf16) (i : Fin 256) (l : Fin 128) : OB u v (ix2 i l)
    = ∑ x : Fin 256, u (ix2 ⟨i.val, by omega⟩ x) * v (ix2 ⟨x.val, by omega⟩ l)
      + ∑ x : Fin 256, u (ix2 ⟨256 + i.val, by omega⟩ x) * v (ix2 ⟨256 + x.val, by omega⟩ l) := by
  pointwise [OB]

theorem SC_lo (a b : FVec Ideal S128x128 .f32) (v : FVec Ideal S512x128 .bf16) (i t : Fin 256) :
    SC a b v (ix2 ⟨i.val, by omega⟩ t) = ∑ x : Fin 128, TWO a b (ix2 i x) * v (ix2 ⟨t.val, by omega⟩ x) := by
  pointwise [SC]

theorem SC_hi (a b : FVec Ideal S128x128 .f32) (v : FVec Ideal S512x128 .bf16) (i t : Fin 256) :
    SC a b v (ix2 ⟨256 + i.val, by omega⟩ t) = ∑ x : Fin 128, TWO a b (ix2 i x) * v (ix2 ⟨256 + t.val, by omega⟩ x) := by
  pointwise [SC]

section
variable {e : Fin 65} {w2 : FVec Ideal S512x128 .bf16} {w : FVec Ideal S256x128 .f32} (hw : IsKV e w2 w)
include hw

theorem OB_at (u : FVec Ideal S512x256 .bf16) (i : Fin 256) (hi : Fin 2) (d : Fin 64) :
    OB u w2 (ix2 i ⟨64 * hi.val + d.val, by omega⟩)
      = ∑ x : Fin 256, u (ix2 ⟨256 * hi.val + i.val, by omega⟩ x) * w (ix2 x ⟨e.val + d.val, by omega⟩) := by
  rw [OB_sum]
  obtain rfl | rfl : hi = 0 ∨ hi = 1 := by omega
  · rw [l0, r0]
    simp only [fun x => (hw x d).1, fun x => (hw x d).2.2.1, mul_zero, Finset.sum_const_zero, add_zero]
  · rw [l1, r1]
    simp only [fun x => (hw x d).2.1, fun x => (hw x d).2.2.2, mul_zero, Finset.sum_const_zero, zero_add]

theorem SC_at (a b : FVec Ideal S128x128 .f32) (hi : Fin 2) (i t : Fin 256) :
    SC a b w2 (ix2 ⟨256 * hi.val + i.val, by omega⟩ t)
      = ∑ d : Fin 64, TWO a b (ix2 i ⟨64 * hi.val + d.val, by omega⟩) * w (ix2 t ⟨e.val + d.val, by omega⟩) := by
  obtain rfl | rfl : hi = 0 ∨ hi = 1 := by omega
  · rw [r0, SC_lo, sum128]
    simp only [l0, fun d => (hw t d).1, fun d => (hw t d).2.1, mul_zero, Finset.sum_const_zero, add_zero]
  · rw [r1, SC_hi, sum128]
    simp only [l1, fun d => (hw t d).2.2.1, fun d => (hw t d).2.2.2, mul_zero, Finset.sum_const_zero, zero_add]
end

theorem ms_pos {ok : Fin 256 → Prop} [DecidablePred ok] {s : Fin 256 → EReal} {t : Fin 256} (h : ok t) : ms ok s t = s t := if_pos h
theorem ms_neg {ok : Fin 256 → Prop} [DecidablePred ok] {s : Fin 256 → EReal} {t : Fin 256} (h : ¬ ok t) : ms ok s t = ⊥ := if_neg h

/-- The folded softmax of a row, laid out again, weighs the row's 256 keys. -/
theorem UF_wt (n : BitVec 32) (sc : FVec Ideal S512x256 .f32) (kv : FVec Ideal S512x1 .f32) (k : ℝ) (i : Fin 512) (r : ℕ)
    (hr : i.val % 128 = r) (hk : kv (ix2 i 0) = (k : EReal)) (ht : ∀ t, sc (ix2 i t) ≠ ⊤) (t : Fin 256) :
    UF OWN (PN (FM OWN (NOK n) sc) kv) (ix2 i t) = wt (ms (okp (n = 0#32) r) (fun t => sc (ix2 i t))) k t := by
  have hl : ∀ j : Fin 128, j.val ≤ r → ¬ okp (n = 0#32) r (ilo j) := fun j hj h' => by
    have := h'.1
    simp only at this
    omega
  have hh : ∀ j : Fin 128, ¬ j.val ≤ r → ¬ okp (n = 0#32) r (iup j) := fun j hj h' => by
    have := h'.2.1
    simp only at this
    omega
  have hp : ∀ j : Fin 128, j.val ≤ r → okp (n = 0#32) r (iup j) := fun j hj => by
    refine ⟨?_, ?_, fun _ => ?_⟩ <;> simp only <;> omega
  have hq : ∀ j : Fin 128, ¬ j.val ≤ r → n ≠ 0#32 → okp (n = 0#32) r (ilo j) := fun j hj hn => by
    refine ⟨?_, ?_, fun h' => absurd h' hn⟩ <;> simp only <;> omega
  have hz : ∀ j : Fin 128, n = 0#32 → ¬ okp (n = 0#32) r (ilo j) := fun j hn h' => by
    have := h'.2.2 hn
    simp only at this
    omega
  have h : ∀ j : Fin 128, (ms (okp (n = 0#32) r) (fun t => sc (ix2 i t)) (ilo j) = FM OWN (NOK n) sc (ix2 i j)
        ∧ ms (okp (n = 0#32) r) (fun t => sc (ix2 i t)) (iup j) = ⊥)
      ∨ (ms (okp (n = 0#32) r) (fun t => sc (ix2 i t)) (ilo j) = ⊥
        ∧ ms (okp (n = 0#32) r) (fun t => sc (ix2 i t)) (iup j) = FM OWN (NOK n) sc (ix2 i j)) := by
    intro j
    rw [FM_at, hr]
    by_cases hj : j.val ≤ r
    · refine .inr ⟨ms_neg (hl j hj), ?_⟩
      rw [ms_pos (hp j hj), if_neg (fun h' => h'.1 hj), if_pos hj]
    · refine .inl ⟨?_, ms_neg (hh j hj)⟩
      by_cases hn : n = 0#32
      · rw [ms_neg (hz j hn), if_pos ⟨hj, hn⟩]
      · rw [ms_pos (hq j hj hn), if_neg (fun h' => hn h'.2), if_neg hj]
  have hg : ∀ t, ms (okp (n = 0#32) r) (fun t => sc (ix2 i t)) t ≠ ⊤ := fun t => by
    unfold ms
    split
    · exact ht t
    · exact bot_ne_top
  have hP : ∀ j : Fin 128, PN (FM OWN (NOK n) sc) kv (ix2 i j) = wt (fun x => FM OWN (NOK n) sc (ix2 i x)) k j := fun j => by rw [PN_at, hk]
  have lo : ∀ j : Fin 128, UF OWN (PN (FM OWN (NOK n) sc) kv) (ix2 i (ilo j))
      = wt (ms (okp (n = 0#32) r) (fun t => sc (ix2 i t))) k (ilo j) := fun j => by
    rw [UF_lo, hP, hr]
    by_cases hj : j.val ≤ r
    · rw [if_pos hj]
      exact (wt_bot _ _ (den_ne_zero _ k hg) _ (ms_neg (hl j hj))).symm
    · rw [if_neg hj]
      refine (wt_fold _ _ _ h _ j ?_).symm
      rcases h j with h' | h'
      · exact h'.1
      · rw [h'.1, ← h'.2, ms_neg (hh j hj)]
  have up : ∀ j : Fin 128, UF OWN (PN (FM OWN (NOK n) sc) kv) (ix2 i (iup j))
      = wt (ms (okp (n = 0#32) r) (fun t => sc (ix2 i t))) k (iup j) := fun j => by
    rw [UF_hi, hP, hr]
    by_cases hj : j.val ≤ r
    · rw [if_pos hj]
      refine (wt_fold _ _ _ h _ j ?_).symm
      rcases h j with h' | h'
      · rw [h'.2, ← h'.1, ms_neg (hl j hj)]
      · exact h'.2
    · rw [if_neg hj]
      exact (wt_bot _ _ (den_ne_zero _ k hg) _ (ms_neg (hh j hj))).symm
  by_cases hlt : t.val < 128
  · exact lo ⟨t.val, hlt⟩
  · have hj : t.val - 128 < 128 ∧ 128 + (t.val - 128) = t.val := by omega
    have e : t = ⟨128 + (⟨t.val - 128, hj.1⟩ : Fin 128).val, hj.2.symm ▸ t.isLt⟩ := Fin.ext hj.2.symm
    rw [e]
    exact up ⟨t.val - 128, hj.1⟩

/-- Four heads of one key head, at an index. -/
theorem HD_at (n : BitVec 32) (a b : FVec Ideal S128x128 .f32) {e : Fin 65} {k2 v2 : FVec Ideal S512x128 .bf16}
    {kw vw : FVec Ideal S256x128 .f32} (hk : IsKV e k2 kw) (hv : IsKV e v2 vw) (s0 s1 s2 s3 : Elt Ideal .f32)
    (hi half : Fin 2) (r : Fin 128) (d : Fin 64) (k : ℝ)
    (hs : (if hi = 0 then (if half = 0 then s0 else s1) else (if half = 0 then s2 else s3)) = (k : EReal))
    (ht : ∀ t, (∑ d' : Fin 64, TWO a b (ix2 ⟨128 * half.val + r.val, by omega⟩ ⟨64 * hi.val + d'.val, by omega⟩)
          * kw (ix2 t ⟨e.val + d'.val, by omega⟩) : EReal) ≠ ⊤) :
    HD n a b k2 v2 s0 s1 s2 s3 (ix2 ⟨128 * half.val + r.val, by omega⟩ ⟨64 * hi.val + d.val, by omega⟩)
      = att (okp (n = 0#32) r.val) (fun t => ∑ d' : Fin 64, TWO a b (ix2 ⟨128 * half.val + r.val, by omega⟩ ⟨64 * hi.val + d'.val, by omega⟩)
          * kw (ix2 t ⟨e.val + d'.val, by omega⟩)) k (fun t => vw (ix2 t ⟨e.val + d.val, by omega⟩)) := by
  unfold HD
  rw [OB_at hv]
  have hsc := fun t => SC_at hk a b hi ⟨128 * half.val + r.val, by omega⟩ t
  have e1 : (256 * hi.val + (128 * half.val + r.val)) % 128 = r.val := by omega
  unfold att
  refine Finset.sum_congr rfl fun t _ => ?_
  rw [UF_wt n _ _ k ⟨256 * hi.val + (128 * half.val + r.val), by omega⟩ r.val e1]
  · simp only [hsc]
  · rw [← hs, ← COL_at s0 s1 s2 s3 hi half r]
    exact congrArg (fun l => COL s0 s1 s2 s3 (ix2 l 0)) (Fin.ext (by simp; omega))
  · intro t
    rw [hsc]
    exact ht t

end Cert.Kernel12Ideal.Att

end
-- ==== Proof.AttHead.lean ====
/- The attention kernel's block, at an index. -/
module

public import proofs.«01_k».proof.Proof.AttPay

@[expose] public section

set_option maxRecDepth 65536

noncomputable section

namespace Cert.Att

/-- A column of two blocks' rows. -/
def two (p x : Fin 128 → EReal) (t : Fin 256) : EReal := if h : t.val < 128 then p ⟨t.val, h⟩ else x ⟨t.val - 128, by omega⟩

theorem two_lo (p x : Fin 128 → EReal) (j : Fin 128) : two p x (ilo j) = p j := dif_pos j.isLt
theorem two_up (p x : Fin 128 → EReal) (j : Fin 128) : two p x (iup j) = x j := by
  unfold two
  rw [dif_neg (by simp)]
  exact congrArg x (Fin.ext (by simp))

theorem lo_or_up (P : Fin 256 → Prop) (h1 : ∀ j, P (ilo j)) (h2 : ∀ j, P (iup j)) (t : Fin 256) : P t := by
  by_cases h : t.val < 128
  · exact h1 ⟨t.val, h⟩
  · have e : t = iup ⟨t.val - 128, by omega⟩ := Fin.ext (by simp <;> omega)
    rw [e]
    exact h2 _

end Cert.Att

namespace Cert.Kernel12Ideal.Att

open Cert.Kernel12Ideal Cert.Kernel12Ideal.Gen Idealize.ShloMosaic Idealize.ShloMosaic.TcCoe Idealize.SL.Sem
open Cert.Att

theorem KV0_at (p x : FVec Ideal S128x256 .f32) (t : Fin 256) (l : Fin 128) :
    KV0 p x (ix2 t l) = two (fun u => p (ix2 u ⟨0 + l.val, by omega⟩)) (fun u => x (ix2 u ⟨0 + l.val, by omega⟩)) t := by
  revert t
  refine lo_or_up _ (fun j => ?_) (fun j => ?_)
  · rw [two_lo]
    pointwise [KV0, TWO]
  · rw [two_up]
    pointwise [KV0, TWO]

theorem KV1_at (p x : FVec Ideal S128x256 .f32) (t : Fin 256) (l : Fin 128) :
    KV1 p x (ix2 t l) = two (fun u => p (ix2 u ⟨128 + l.val, by omega⟩)) (fun u => x (ix2 u ⟨128 + l.val, by omega⟩)) t := by
  revert t
  refine lo_or_up _ (fun j => ?_) (fun j => ?_)
  · rw [two_lo]
    pointwise [KV1, TWO]
  · rw [two_up]
    pointwise [KV1, TWO]

theorem TWO0_at (q : FVec Ideal S128x1024 .f32) (half : Fin 2) (r l : Fin 128) :
    TWO (Q0 q) (Q1 q) (ix2 ⟨128 * half.val + r.val, by omega⟩ l) = q (ix2 r ⟨0 + 128 * half.val + l.val, by omega⟩) := by
  have h0 : TWO (Q0 q) (Q1 q) (ix2 (ilo r) l) = q (ix2 r ⟨0 + l.val, by omega⟩) := by
    pointwise [TWO, Q0, Q1]
  have h1 : TWO (Q0 q) (Q1 q) (ix2 (iup r) l) = q (ix2 r ⟨128 + l.val, by omega⟩) := by
    pointwise [TWO, Q0, Q1]
  obtain rfl | rfl : half = 0 ∨ half = 1 := by omega
  · refine Eq.trans ?_ (h0.trans ?_)
    · exact congrArg (fun i => TWO (Q0 q) (Q1 q) (ix2 i l)) (Fin.ext (by simp))
    · exact congrArg (fun i => q (ix2 r i)) (Fin.ext (by simp))
  · refine Eq.trans ?_ (h1.trans ?_)
    · exact congrArg (fun i => TWO (Q0 q) (Q1 q) (ix2 i l)) (Fin.ext (by simp))
    · exact congrArg (fun i => q (ix2 r i)) (Fin.ext (by simp))

theorem TWO1_at (q : FVec Ideal S128x1024 .f32) (half : Fin 2) (r l : Fin 128) :
    TWO (Q2 q) (Q3 q) (ix2 ⟨128 * half.val + r.val, by omega⟩ l) = q (ix2 r ⟨256 + 128 * half.val + l.val, by omega⟩) := by
  have h0 : TWO (Q2 q) (Q3 q) (ix2 (ilo r) l) = q (ix2 r ⟨256 + l.val, by omega⟩) := by
    pointwise [TWO, Q2, Q3]
  have h1 : TWO (Q2 q) (Q3 q) (ix2 (iup r) l) = q (ix2 r ⟨384 + l.val, by omega⟩) := by
    pointwise [TWO, Q2, Q3]
  obtain rfl | rfl : half = 0 ∨ half = 1 := by omega
  · refine Eq.trans ?_ (h0.trans ?_)
    · exact congrArg (fun i => TWO (Q2 q) (Q3 q) (ix2 i l)) (Fin.ext (by simp))
    · exact congrArg (fun i => q (ix2 r i)) (Fin.ext (by simp))
  · refine Eq.trans ?_ (h1.trans ?_)
    · exact congrArg (fun i => TWO (Q2 q) (Q3 q) (ix2 i l)) (Fin.ext (by simp))
    · exact congrArg (fun i => q (ix2 r i)) (Fin.ext (by simp))

theorem TWO2_at (q : FVec Ideal S128x1024 .f32) (half : Fin 2) (r l : Fin 128) :
    TWO (Q4 q) (Q5 q) (ix2 ⟨128 * half.val + r.val, by omega⟩ l) = q (ix2 r ⟨512 + 128 * half.val + l.val, by omega⟩) := by
  have h0 : TWO (Q4 q) (Q5 q) (ix2 (ilo r) l) = q (ix2 r ⟨512 + l.val, by omega⟩) := by
    pointwise [TWO, Q4, Q5]
  have h1 : TWO (Q4 q) (Q5 q) (ix2 (iup r) l) = q (ix2 r ⟨640 + l.val, by omega⟩) := by
    pointwise [TWO, Q4, Q5]
  obtain rfl | rfl : half = 0 ∨ half = 1 := by omega
  · refine Eq.trans ?_ (h0.trans ?_)
    · exact congrArg (fun i => TWO (Q4 q) (Q5 q) (ix2 i l)) (Fin.ext (by simp))
    · exact congrArg (fun i => q (ix2 r i)) (Fin.ext (by simp))
  · refine Eq.trans ?_ (h1.trans ?_)
    · exact congrArg (fun i => TWO (Q4 q) (Q5 q) (ix2 i l)) (Fin.ext (by simp))
    · exact congrArg (fun i => q (ix2 r i)) (Fin.ext (by simp))

theorem TWO3_at (q : FVec Ideal S128x1024 .f32) (half : Fin 2) (r l : Fin 128) :
    TWO (Q6 q) (Q7 q) (ix2 ⟨128 * half.val + r.val, by omega⟩ l) = q (ix2 r ⟨768 + 128 * half.val + l.val, by omega⟩) := by
  have h0 : TWO (Q6 q) (Q7 q) (ix2 (ilo r) l) = q (ix2 r ⟨768 + l.val, by omega⟩) := by
    pointwise [TWO, Q6, Q7]
  have h1 : TWO (Q6 q) (Q7 q) (ix2 (iup r) l) = q (ix2 r ⟨896 + l.val, by omega⟩) := by
    pointwise [TWO, Q6, Q7]
  obtain rfl | rfl : half = 0 ∨ half = 1 := by omega
  · refine Eq.trans ?_ (h0.trans ?_)
    · exact congrArg (fun i => TWO (Q6 q) (Q7 q) (ix2 i l)) (Fin.ext (by simp))
    · exact congrArg (fun i => q (ix2 r i)) (Fin.ext (by simp))
  · refine Eq.trans ?_ (h1.trans ?_)
    · exact congrArg (fun i => TWO (Q6 q) (Q7 q) (ix2 i l)) (Fin.ext (by simp))
    · exact congrArg (fun i => q (ix2 r i)) (Fin.ext (by simp))

section
variable (c sa sb : FVec Ideal S128x128 .f32)

theorem QR_p0 (x : FVec Ideal S128x1024 .f32) (r l : Fin 128) : QR c sa sb x (ix2 r ⟨0 + l.val, by omega⟩)
    = ROT c sa sb (extractStridedSlice S128x128 ![0, 0] x slices_S128x1024_o0_0_S128x128) (ix2 r l) * Ideal.ofBits FTy.f32 1040187392#32 := by
  pointwise [QR]
  repeat rw [dif_neg (by omega)]
  try rw [dif_pos (by omega)]
  first | done | exact congrArg (fun b => ROT c sa sb _ (ix2 r b) * _) (Fin.ext (by simp <;> omega))

theorem QR_p1 (x : FVec Ideal S128x1024 .f32) (r l : Fin 128) : QR c sa sb x (ix2 r ⟨128 + l.val, by omega⟩)
    = ROT c sa sb (extractStridedSlice S128x128 ![0, 128] x slices_S128x1024_o0_128_S128x128) (ix2 r l) * Ideal.ofBits FTy.f32 1040187392#32 := by
  pointwise [QR]
  repeat rw [dif_neg (by omega)]
  try rw [dif_pos (by omega)]
  first | done | exact congrArg (fun b => ROT c sa sb _ (ix2 r b) * _) (Fin.ext (by simp <;> omega))

theorem QR_p2 (x : FVec Ideal S128x1024 .f32) (r l : Fin 128) : QR c sa sb x (ix2 r ⟨256 + l.val, by omega⟩)
    = ROT c sa sb (extractStridedSlice S128x128 ![0, 256] x slices_S128x1024_o0_256_S128x128) (ix2 r l) * Ideal.ofBits FTy.f32 1040187392#32 := by
  pointwise [QR]
  repeat rw [dif_neg (by omega)]
  try rw [dif_pos (by omega)]
  first | done | exact congrArg (fun b => ROT c sa sb _ (ix2 r b) * _) (Fin.ext (by simp <;> omega))

theorem QR_p3 (x : FVec Ideal S128x1024 .f32) (r l : Fin 128) : QR c sa sb x (ix2 r ⟨384 + l.val, by omega⟩)
    = ROT c sa sb (extractStridedSlice S128x128 ![0, 384] x slices_S128x1024_o0_384_S128x128) (ix2 r l) * Ideal.ofBits FTy.f32 1040187392#32 := by
  pointwise [QR]
  repeat rw [dif_neg (by omega)]
  try rw [dif_pos (by omega)]
  first | done | exact congrArg (fun b => ROT c sa sb _ (ix2 r b) * _) (Fin.ext (by simp <;> omega))

theorem QR_p4 (x : FVec Ideal S128x1024 .f32) (r l : Fin 128) : QR c sa sb x (ix2 r ⟨512 + l.val, by omega⟩)
    = ROT c sa sb (extractStridedSlice S128x128 ![0, 512] x slices_S128x1024_o0_512_S128x128) (ix2 r l) * Ideal.ofBits FTy.f32 1040187392#32 := by
  pointwise [QR]
  repeat rw [dif_neg (by omega)]
  try rw [dif_pos (by omega)]
  first | done | exact congrArg (fun b => ROT c sa sb _ (ix2 r b) * _) (Fin.ext (by simp <;> omega))

theorem QR_p5 (x : FVec Ideal S128x1024 .f32) (r l : Fin 128) : QR c sa sb x (ix2 r ⟨640 + l.val, by omega⟩)
    = ROT c sa sb (extractStridedSlice S128x128 ![0, 640] x slices_S128x1024_o0_640_S128x128) (ix2 r l) * Ideal.ofBits FTy.f32 1040187392#32 := by
  pointwise [QR]
  repeat rw [dif_neg (by omega)]
  try rw [dif_pos (by omega)]
  first | done | exact congrArg (fun b => ROT c sa sb _ (ix2 r b) * _) (Fin.ext (by simp <;> omega))

theorem QR_p6 (x : FVec Ideal S128x1024 .f32) (r l : Fin 128) : QR c sa sb x (ix2 r ⟨768 + l.val, by omega⟩)
    = ROT c sa sb (extractStridedSlice S128x128 ![0, 768] x slices_S128x1024_o0_768_S128x128) (ix2 r l) * Ideal.ofBits FTy.f32 1040187392#32 := by
  pointwise [QR]
  repeat rw [dif_neg (by omega)]
  try rw [dif_pos (by omega)]
  first | done | exact congrArg (fun b => ROT c sa sb _ (ix2 r b) * _) (Fin.ext (by simp <;> omega))

theorem QR_p7 (x : FVec Ideal S128x1024 .f32) (r l : Fin 128) : QR c sa sb x (ix2 r ⟨896 + l.val, by omega⟩)
    = ROT c sa sb (extractStridedSlice S128x128 ![0, 896] x slices_S128x1024_o0_896_S128x128) (ix2 r l) * Ideal.ofBits FTy.f32 1040187392#32 := by
  pointwise [QR]
  repeat rw [dif_neg (by omega)]
  try rw [dif_pos (by omega)]
  first | done | exact congrArg (fun b => ROT c sa sb _ (ix2 r b) * _) (Fin.ext (by simp <;> omega))

theorem KR_p0 (x : FVec Ideal S128x256 .f32) (r l : Fin 128) : KR c sa sb x (ix2 r ⟨0 + l.val, by omega⟩)
    = ROT c sa sb (extractStridedSlice S128x128 ![0, 0] x slices_S128x256_o0_0_S128x128) (ix2 r l) := by
  pointwise [KR]

theorem KR_p1 (x : FVec Ideal S128x256 .f32) (r l : Fin 128) : KR c sa sb x (ix2 r ⟨128 + l.val, by omega⟩)
    = ROT c sa sb (extractStridedSlice S128x128 ![0, 128] x slices_S128x256_o0_128_S128x128) (ix2 r l) := by
  pointwise [KR]

/-- A row of tables: the cosines and sines of a head's eight angles, and no turn in the other lanes. -/
def Tab (cs sn : Fin 8 → EReal) (r : Fin 128) : Prop :=
  (∀ l : Fin 128, c (ix2 r l) = if l.val % 64 < 16 then cs ⟨l.val % 8, by omega⟩ else 1)
  ∧ (∀ l : Fin 128, sa (ix2 r l) = if l.val % 64 < 8 then -sn ⟨l.val % 8, by omega⟩ else 0)
  ∧ ∀ l : Fin 128, sb (ix2 r l) = if l.val % 64 < 8 then (0 : EReal) else if l.val % 64 < 16 then sn ⟨l.val % 8, by omega⟩ else 0

variable (cs sn : Fin 8 → EReal) (r : Fin 128) (hT : Tab c sa sb cs sn r)
include hT

theorem QR_at (x : FVec Ideal S128x1024 .f32) (h : Fin 16) (d : Fin 64) : QR c sa sb x (ix2 r ⟨64 * h.val + d.val, by omega⟩)
    = rope cs sn (fun d' => x (ix2 r ⟨64 * h.val + d'.val, by omega⟩)) d * Ideal.ofBits FTy.f32 1040187392#32 := by
  have hh : ∃ (p : Fin 8) (hi : Fin 2), h = ⟨2 * p.val + hi.val, by omega⟩ := ⟨⟨h.val / 2, by omega⟩, ⟨h.val % 2, by omega⟩, Fin.ext (by simp <;> omega)⟩
  obtain ⟨p, hi, rfl⟩ := hh
  obtain rfl | rfl | rfl | rfl | rfl | rfl | rfl | rfl : p = 0 ∨ p = 1 ∨ p = 2 ∨ p = 3 ∨ p = 4 ∨ p = 5 ∨ p = 6 ∨ p = 7 := by omega
  · refine Eq.trans ?_ ((QR_p0 c sa sb x r ⟨64 * hi.val + d.val, by omega⟩).trans ?_)
    · exact congrArg (fun i => QR c sa sb x (ix2 r i)) (Fin.ext (by have : (0 : Fin 8).val = 0 := rfl; simp only [this] <;> omega))
    · rw [ROT_rope c sa sb _ cs sn r hT.1 hT.2.1 hT.2.2]
      refine congrArg (fun f => rope cs sn f d * Ideal.ofBits FTy.f32 1040187392#32) (funext fun d' => ?_)
      rw [show ∀ i, extractStridedSlice S128x128 ![0, 0] x slices_S128x1024_o0_0_S128x128 (ix2 r i) = x (ix2 r ⟨0 + i.val, by omega⟩) from fun i => by pointwise []]
      exact congrArg (fun i => x (ix2 r i)) (Fin.ext (by have : (0 : Fin 8).val = 0 := rfl; simp only [this] <;> omega))
  · refine Eq.trans ?_ ((QR_p1 c sa sb x r ⟨64 * hi.val + d.val, by omega⟩).trans ?_)
    · exact congrArg (fun i => QR c sa sb x (ix2 r i)) (Fin.ext (by have : (1 : Fin 8).val = 1 := rfl; simp only [this] <;> omega))
    · rw [ROT_rope c sa sb _ cs sn r hT.1 hT.2.1 hT.2.2]
      refine congrArg (fun f => rope cs sn f d * Ideal.ofBits FTy.f32 1040187392#32) (funext fun d' => ?_)
      rw [show ∀ i, extractStridedSlice S128x128 ![0, 128] x slices_S128x1024_o0_128_S128x128 (ix2 r i) = x (ix2 r ⟨128 + i.val, by omega⟩) from fun i => by pointwise []]
      exact congrArg (fun i => x (ix2 r i)) (Fin.ext (by have : (1 : Fin 8).val = 1 := rfl; simp only [this] <;> omega))
  · refine Eq.trans ?_ ((QR_p2 c sa sb x r ⟨64 * hi.val + d.val, by omega⟩).trans ?_)
    · exact congrArg (fun i => QR c sa sb x (ix2 r i)) (Fin.ext (by have : (2 : Fin 8).val = 2 := rfl; simp only [this] <;> omega))
    · rw [ROT_rope c sa sb _ cs sn r hT.1 hT.2.1 hT.2.2]
      refine congrArg (fun f => rope cs sn f d * Ideal.ofBits FTy.f32 1040187392#32) (funext fun d' => ?_)
      rw [show ∀ i, extractStridedSlice S128x128 ![0, 256] x slices_S128x1024_o0_256_S128x128 (ix2 r i) = x (ix2 r ⟨256 + i.val, by omega⟩) from fun i => by pointwise []]
      exact congrArg (fun i => x (ix2 r i)) (Fin.ext (by have : (2 : Fin 8).val = 2 := rfl; simp only [this] <;> omega))
  · refine Eq.trans ?_ ((QR_p3 c sa sb x r ⟨64 * hi.val + d.val, by omega⟩).trans ?_)
    · exact congrArg (fun i => QR c sa sb x (ix2 r i)) (Fin.ext (by have : (3 : Fin 8).val = 3 := rfl; simp only [this] <;> omega))
    · rw [ROT_rope c sa sb _ cs sn r hT.1 hT.2.1 hT.2.2]
      refine congrArg (fun f => rope cs sn f d * Ideal.ofBits FTy.f32 1040187392#32) (funext fun d' => ?_)
      rw [show ∀ i, extractStridedSlice S128x128 ![0, 384] x slices_S128x1024_o0_384_S128x128 (ix2 r i) = x (ix2 r ⟨384 + i.val, by omega⟩) from fun i => by pointwise []]
      exact congrArg (fun i => x (ix2 r i)) (Fin.ext (by have : (3 : Fin 8).val = 3 := rfl; simp only [this] <;> omega))
  · refine Eq.trans ?_ ((QR_p4 c sa sb x r ⟨64 * hi.val + d.val, by omega⟩).trans ?_)
    · exact congrArg (fun i => QR c sa sb x (ix2 r i)) (Fin.ext (by have : (4 : Fin 8).val = 4 := rfl; simp only [this] <;> omega))
    · rw [ROT_rope c sa sb _ cs sn r hT.1 hT.2.1 hT.2.2]
      refine congrArg (fun f => rope cs sn f d * Ideal.ofBits FTy.f32 1040187392#32) (funext fun d' => ?_)
      rw [show ∀ i, extractStridedSlice S128x128 ![0, 512] x slices_S128x1024_o0_512_S128x128 (ix2 r i) = x (ix2 r ⟨512 + i.val, by omega⟩) from fun i => by pointwise []]
      exact congrArg (fun i => x (ix2 r i)) (Fin.ext (by have : (4 : Fin 8).val = 4 := rfl; simp only [this] <;> omega))
  · refine Eq.trans ?_ ((QR_p5 c sa sb x r ⟨64 * hi.val + d.val, by omega⟩).trans ?_)
    · exact congrArg (fun i => QR c sa sb x (ix2 r i)) (Fin.ext (by have : (5 : Fin 8).val = 5 := rfl; simp only [this] <;> omega))
    · rw [ROT_rope c sa sb _ cs sn r hT.1 hT.2.1 hT.2.2]
      refine congrArg (fun f => rope cs sn f d * Ideal.ofBits FTy.f32 1040187392#32) (funext fun d' => ?_)
      rw [show ∀ i, extractStridedSlice S128x128 ![0, 640] x slices_S128x1024_o0_640_S128x128 (ix2 r i) = x (ix2 r ⟨640 + i.val, by omega⟩) from fun i => by pointwise []]
      exact congrArg (fun i => x (ix2 r i)) (Fin.ext (by have : (5 : Fin 8).val = 5 := rfl; simp only [this] <;> omega))
  · refine Eq.trans ?_ ((QR_p6 c sa sb x r ⟨64 * hi.val + d.val, by omega⟩).trans ?_)
    · exact congrArg (fun i => QR c sa sb x (ix2 r i)) (Fin.ext (by have : (6 : Fin 8).val = 6 := rfl; simp only [this] <;> omega))
    · rw [ROT_rope c sa sb _ cs sn r hT.1 hT.2.1 hT.2.2]
      refine congrArg (fun f => rope cs sn f d * Ideal.ofBits FTy.f32 1040187392#32) (funext fun d' => ?_)
      rw [show ∀ i, extractStridedSlice S128x128 ![0, 768] x slices_S128x1024_o0_768_S128x128 (ix2 r i) = x (ix2 r ⟨768 + i.val, by omega⟩) from fun i => by pointwise []]
      exact congrArg (fun i => x (ix2 r i)) (Fin.ext (by have : (6 : Fin 8).val = 6 := rfl; simp only [this] <;> omega))
  · refine Eq.trans ?_ ((QR_p7 c sa sb x r ⟨64 * hi.val + d.val, by omega⟩).trans ?_)
    · exact congrArg (fun i => QR c sa sb x (ix2 r i)) (Fin.ext (by have : (7 : Fin 8).val = 7 := rfl; simp only [this] <;> omega))
    · rw [ROT_rope c sa sb _ cs sn r hT.1 hT.2.1 hT.2.2]
      refine congrArg (fun f => rope cs sn f d * Ideal.ofBits FTy.f32 1040187392#32) (funext fun d' => ?_)
      rw [show ∀ i, extractStridedSlice S128x128 ![0, 896] x slices_S128x1024_o0_896_S128x128 (ix2 r i) = x (ix2 r ⟨896 + i.val, by omega⟩) from fun i => by pointwise []]
      exact congrArg (fun i => x (ix2 r i)) (Fin.ext (by have : (7 : Fin 8).val = 7 := rfl; simp only [this] <;> omega))

theorem KR_at (x : FVec Ideal S128x256 .f32) (h : Fin 4) (d : Fin 64) : KR c sa sb x (ix2 r ⟨64 * h.val + d.val, by omega⟩)
    = rope cs sn (fun d' => x (ix2 r ⟨64 * h.val + d'.val, by omega⟩)) d := by
  have hh : ∃ (p : Fin 2) (hi : Fin 2), h = ⟨2 * p.val + hi.val, by omega⟩ := ⟨⟨h.val / 2, by omega⟩, ⟨h.val % 2, by omega⟩, Fin.ext (by simp <;> omega)⟩
  obtain ⟨p, hi, rfl⟩ := hh
  obtain rfl | rfl : p = 0 ∨ p = 1 := by omega
  · refine Eq.trans ?_ ((KR_p0 c sa sb x r ⟨64 * hi.val + d.val, by omega⟩).trans ?_)
    · exact congrArg (fun i => KR c sa sb x (ix2 r i)) (Fin.ext (by have : (0 : Fin 2).val = 0 := rfl; simp only [this] <;> omega))
    · rw [ROT_rope c sa sb _ cs sn r hT.1 hT.2.1 hT.2.2]
      refine congrArg (fun f => rope cs sn f d) (funext fun d' => ?_)
      rw [show ∀ i, extractStridedSlice S128x128 ![0, 0] x slices_S128x256_o0_0_S128x128 (ix2 r i) = x (ix2 r ⟨0 + i.val, by omega⟩) from fun i => by pointwise []]
      exact congrArg (fun i => x (ix2 r i)) (Fin.ext (by have : (0 : Fin 2).val = 0 := rfl; simp only [this] <;> omega))
  · refine Eq.trans ?_ ((KR_p1 c sa sb x r ⟨64 * hi.val + d.val, by omega⟩).trans ?_)
    · exact congrArg (fun i => KR c sa sb x (ix2 r i)) (Fin.ext (by have : (1 : Fin 2).val = 1 := rfl; simp only [this] <;> omega))
    · rw [ROT_rope c sa sb _ cs sn r hT.1 hT.2.1 hT.2.2]
      refine congrArg (fun f => rope cs sn f d) (funext fun d' => ?_)
      rw [show ∀ i, extractStridedSlice S128x128 ![0, 128] x slices_S128x256_o0_128_S128x128 (ix2 r i) = x (ix2 r ⟨128 + i.val, by omega⟩) from fun i => by pointwise []]
      exact congrArg (fun i => x (ix2 r i)) (Fin.ext (by have : (1 : Fin 2).val = 1 := rfl; simp only [this] <;> omega))

end

section
variable (P : Pt)

theorem o_p0 (r l : Fin 128) : P.o (ix2 r ⟨0 + l.val, by omega⟩) = P.h0 (ix2 (ilo r) l) := by
  pointwise [Pt.o, LO, HI]
  repeat rw [dif_neg (by omega)]
  try rw [dif_pos (by omega)]
  first | done | exact congrArg₂ (fun a b => P.h0 (ix2 a b)) (Fin.ext rfl) (Fin.ext (by simp <;> omega))

theorem o_p1 (r l : Fin 128) : P.o (ix2 r ⟨128 + l.val, by omega⟩) = P.h0 (ix2 (iup r) l) := by
  pointwise [Pt.o, LO, HI]
  repeat rw [dif_neg (by omega)]
  try rw [dif_pos (by omega)]
  first | done | exact congrArg₂ (fun a b => P.h0 (ix2 a b)) (Fin.ext rfl) (Fin.ext (by simp <;> omega))

theorem o_p2 (r l : Fin 128) : P.o (ix2 r ⟨256 + l.val, by omega⟩) = P.h1 (ix2 (ilo r) l) := by
  pointwise [Pt.o, LO, HI]
  repeat rw [dif_neg (by omega)]
  try rw [dif_pos (by omega)]
  first | done | exact congrArg₂ (fun a b => P.h1 (ix2 a b)) (Fin.ext rfl) (Fin.ext (by simp <;> omega))

theorem o_p3 (r l : Fin 128) : P.o (ix2 r ⟨384 + l.val, by omega⟩) = P.h1 (ix2 (iup r) l) := by
  pointwise [Pt.o, LO, HI]
  repeat rw [dif_neg (by omega)]
  try rw [dif_pos (by omega)]
  first | done | exact congrArg₂ (fun a b => P.h1 (ix2 a b)) (Fin.ext rfl) (Fin.ext (by simp <;> omega))

theorem o_p4 (r l : Fin 128) : P.o (ix2 r ⟨512 + l.val, by omega⟩) = P.h2 (ix2 (ilo r) l) := by
  pointwise [Pt.o, LO, HI]
  repeat rw [dif_neg (by omega)]
  try rw [dif_pos (by omega)]
  first | done | exact congrArg₂ (fun a b => P.h2 (ix2 a b)) (Fin.ext rfl) (Fin.ext (by simp <;> omega))

theorem o_p5 (r l : Fin 128) : P.o (ix2 r ⟨640 + l.val, by omega⟩) = P.h2 (ix2 (iup r) l) := by
  pointwise [Pt.o, LO, HI]
  repeat rw [dif_neg (by omega)]
  try rw [dif_pos (by omega)]
  first | done | exact congrArg₂ (fun a b => P.h2 (ix2 a b)) (Fin.ext rfl) (Fin.ext (by simp <;> omega))

theorem o_p6 (r l : Fin 128) : P.o (ix2 r ⟨768 + l.val, by omega⟩) = P.h3 (ix2 (ilo r) l) := by
  pointwise [Pt.o, LO, HI]
  repeat rw [dif_neg (by omega)]
  try rw [dif_pos (by omega)]
  first | done | exact congrArg₂ (fun a b => P.h3 (ix2 a b)) (Fin.ext rfl) (Fin.ext (by simp <;> omega))

theorem o_p7 (r l : Fin 128) : P.o (ix2 r ⟨896 + l.val, by omega⟩) = P.h3 (ix2 (iup r) l) := by
  pointwise [Pt.o, LO, HI]
  repeat rw [dif_neg (by omega)]
  try rw [dif_pos (by omega)]
  first | done | exact congrArg₂ (fun a b => P.h3 (ix2 a b)) (Fin.ext rfl) (Fin.ext (by simp <;> omega))

/-- The heads' sinks. -/
def Pt.sk : Fin 16 → Elt Ideal .f32 := ![P.s0, P.s1, P.s2, P.s3, P.s4, P.s5, P.s6, P.s7, P.s8, P.s9, P.s10, P.s11, P.s12, P.s13, P.s14, P.s15]

/-- A row's scores. -/
def Pt.sc (r : Fin 128) (h : Fin 16) (t : Fin 256) : EReal :=
  ∑ d : Fin 64, P.qr (ix2 r ⟨64 * h.val + d.val, by omega⟩)
    * two (fun u => P.kr' (ix2 u ⟨64 * (h.val / 4) + d.val, by omega⟩)) (fun u => P.kr (ix2 u ⟨64 * (h.val / 4) + d.val, by omega⟩)) t

/-- The values of a head's lane. -/
def Pt.vl (h : Fin 16) (d : Fin 64) : Fin 256 → EReal :=
  two (fun u => P.v' (ix2 u ⟨64 * (h.val / 4) + d.val, by omega⟩)) (fun u => P.v (ix2 u ⟨64 * (h.val / 4) + d.val, by omega⟩))

theorem o_g0 (r : Fin 128) (hi half : Fin 2) (d : Fin 64) (k : ℝ)
    (hs : P.sk ⟨0 + 2 * half.val + hi.val, by omega⟩ = (k : EReal))
    (ht : ∀ t, P.sc r ⟨0 + 2 * half.val + hi.val, by omega⟩ t ≠ ⊤) :
    P.o (ix2 r ⟨64 * (0 + 2 * half.val + hi.val) + d.val, by omega⟩)
      = att (okp (P.n = 0#32) r.val) (P.sc r ⟨0 + 2 * half.val + hi.val, by omega⟩) k (P.vl ⟨0 + 2 * half.val + hi.val, by omega⟩ d) := by
  have e4 : (0 + 2 * half.val + hi.val) / 4 = 0 := by omega
  have ho : P.o (ix2 r ⟨64 * (0 + 2 * half.val + hi.val) + d.val, by omega⟩)
      = P.h0 (ix2 ⟨128 * half.val + r.val, by omega⟩ ⟨64 * hi.val + d.val, by omega⟩) := by
    obtain rfl | rfl : half = 0 ∨ half = 1 := by omega
    · refine Eq.trans ?_ ((o_p0 P r ⟨64 * hi.val + d.val, by omega⟩).trans ?_)
      · exact congrArg (fun i => P.o (ix2 r i)) (Fin.ext (by simp <;> omega))
      · exact congrArg (fun i => P.h0 (ix2 i _)) (Fin.ext (by simp))
    · refine Eq.trans ?_ ((o_p1 P r ⟨64 * hi.val + d.val, by omega⟩).trans ?_)
      · exact congrArg (fun i => P.o (ix2 r i)) (Fin.ext (by simp <;> omega))
      · exact congrArg (fun i => P.h0 (ix2 i _)) (Fin.ext (by simp))
  have hsc : ∀ t, (∑ d' : Fin 64, TWO (Q0 P.qr) (Q1 P.qr) (ix2 ⟨128 * half.val + r.val, by omega⟩ ⟨64 * hi.val + d'.val, by omega⟩)
          * KV0 P.kr' P.kr (ix2 t ⟨(0 : Fin 65).val + d'.val, by omega⟩) : EReal) = P.sc r ⟨0 + 2 * half.val + hi.val, by omega⟩ t := fun t => by
    unfold Pt.sc
    refine Finset.sum_congr rfl fun d' _ => ?_
    rw [TWO0_at, KV0_at]
    have i1 : (⟨0 + 128 * half.val + (64 * hi.val + d'.val), by omega⟩ : Fin 1024) = ⟨64 * (0 + 2 * half.val + hi.val) + d'.val, by omega⟩ := Fin.ext (by simp <;> omega)
    have i2 : (⟨0 + ((0 : Fin 65).val + d'.val), by have := d'.isLt; have : (0 : Fin 65).val = 0 := rfl; omega⟩ : Fin 256) = ⟨64 * ((0 + 2 * half.val + hi.val) / 4) + d'.val, by omega⟩ := Fin.ext (by simp only [e4]; have : (0 : Fin 65).val = 0 := rfl; omega)
    simp only [i1, i2]
  have hv : (fun t => KV0 P.v' P.v (ix2 t ⟨(0 : Fin 65).val + d.val, by omega⟩) : Fin 256 → EReal) = P.vl ⟨0 + 2 * half.val + hi.val, by omega⟩ d := by
    funext t
    rw [KV0_at]
    unfold Pt.vl
    have i2 : (⟨0 + ((0 : Fin 65).val + d.val), by have := d.isLt; have : (0 : Fin 65).val = 0 := rfl; omega⟩ : Fin 256) = ⟨64 * ((0 + 2 * half.val + hi.val) / 4) + d.val, by omega⟩ := Fin.ext (by simp only [e4]; have : (0 : Fin 65).val = 0 := rfl; omega)
    simp only [i2]
  rw [ho]
  unfold Pt.h0
  rw [HD_at P.n _ _ (EV_is _) (EV_is _) P.s0 P.s2 P.s1 P.s3 hi half r d k ?_ (fun t => by rw [hsc]; exact ht t)]
  · rw [hv]
    exact congrArg (fun s => att _ s _ _) (funext hsc)
  · rw [← hs]
    obtain rfl | rfl : half = 0 ∨ half = 1 := by omega
    all_goals obtain rfl | rfl : hi = 0 ∨ hi = 1 := by omega
    all_goals rfl

theorem o_g1 (r : Fin 128) (hi half : Fin 2) (d : Fin 64) (k : ℝ)
    (hs : P.sk ⟨4 + 2 * half.val + hi.val, by omega⟩ = (k : EReal))
    (ht : ∀ t, P.sc r ⟨4 + 2 * half.val + hi.val, by omega⟩ t ≠ ⊤) :
    P.o (ix2 r ⟨64 * (4 + 2 * half.val + hi.val) + d.val, by omega⟩)
      = att (okp (P.n = 0#32) r.val) (P.sc r ⟨4 + 2 * half.val + hi.val, by omega⟩) k (P.vl ⟨4 + 2 * half.val + hi.val, by omega⟩ d) := by
  have e4 : (4 + 2 * half.val + hi.val) / 4 = 1 := by omega
  have ho : P.o (ix2 r ⟨64 * (4 + 2 * half.val + hi.val) + d.val, by omega⟩)
      = P.h1 (ix2 ⟨128 * half.val + r.val, by omega⟩ ⟨64 * hi.val + d.val, by omega⟩) := by
    obtain rfl | rfl : half = 0 ∨ half = 1 := by omega
    · refine Eq.trans ?_ ((o_p2 P r ⟨64 * hi.val + d.val, by omega⟩).trans ?_)
      · exact congrArg (fun i => P.o (ix2 r i)) (Fin.ext (by simp <;> omega))
      · exact congrArg (fun i => P.h1 (ix2 i _)) (Fin.ext (by simp))
    · refine Eq.trans ?_ ((o_p3 P r ⟨64 * hi.val + d.val, by omega⟩).trans ?_)
      · exact congrArg (fun i => P.o (ix2 r i)) (Fin.ext (by simp <;> omega))
      · exact congrArg (fun i => P.h1 (ix2 i _)) (Fin.ext (by simp))
  have hsc : ∀ t, (∑ d' : Fin 64, TWO (Q2 P.qr) (Q3 P.qr) (ix2 ⟨128 * half.val + r.val, by omega⟩ ⟨64 * hi.val + d'.val, by omega⟩)
          * KV0 P.kr' P.kr (ix2 t ⟨(64 : Fin 65).val + d'.val, by omega⟩) : EReal) = P.sc r ⟨4 + 2 * half.val + hi.val, by omega⟩ t := fun t => by
    unfold Pt.sc
    refine Finset.sum_congr rfl fun d' _ => ?_
    rw [TWO1_at, KV0_at]
    have i1 : (⟨256 + 128 * half.val + (64 * hi.val + d'.val), by omega⟩ : Fin 1024) = ⟨64 * (4 + 2 * half.val + hi.val) + d'.val, by omega⟩ := Fin.ext (by simp <;> omega)
    have i2 : (⟨0 + ((64 : Fin 65).val + d'.val), by have := d'.isLt; have : (64 : Fin 65).val = 64 := rfl; omega⟩ : Fin 256) = ⟨64 * ((4 + 2 * half.val + hi.val) / 4) + d'.val, by omega⟩ := Fin.ext (by simp only [e4]; have : (64 : Fin 65).val = 64 := rfl; omega)
    simp only [i1, i2]
  have hv : (fun t => KV0 P.v' P.v (ix2 t ⟨(64 : Fin 65).val + d.val, by omega⟩) : Fin 256 → EReal) = P.vl ⟨4 + 2 * half.val + hi.val, by omega⟩ d := by
    funext t
    rw [KV0_at]
    unfold Pt.vl
    have i2 : (⟨0 + ((64 : Fin 65).val + d.val), by have := d.isLt; have : (64 : Fin 65).val = 64 := rfl; omega⟩ : Fin 256) = ⟨64 * ((4 + 2 * half.val + hi.val) / 4) + d.val, by omega⟩ := Fin.ext (by simp only [e4]; have : (64 : Fin 65).val = 64 := rfl; omega)
    simp only [i2]
  rw [ho]
  unfold Pt.h1
  rw [HD_at P.n _ _ (OD_is _) (OD_is _) P.s4 P.s6 P.s5 P.s7 hi half r d k ?_ (fun t => by rw [hsc]; exact ht t)]
  · rw [hv]
    exact congrArg (fun s => att _ s _ _) (funext hsc)
  · rw [← hs]
    obtain rfl | rfl : half = 0 ∨ half = 1 := by omega
    all_goals obtain rfl | rfl : hi = 0 ∨ hi = 1 := by omega
    all_goals rfl

theorem o_g2 (r : Fin 128) (hi half : Fin 2) (d : Fin 64) (k : ℝ)
    (hs : P.sk ⟨8 + 2 * half.val + hi.val, by omega⟩ = (k : EReal))
    (ht : ∀ t, P.sc r ⟨8 + 2 * half.val + hi.val, by omega⟩ t ≠ ⊤) :
    P.o (ix2 r ⟨64 * (8 + 2 * half.val + hi.val) + d.val, by omega⟩)
      = att (okp (P.n = 0#32) r.val) (P.sc r ⟨8 + 2 * half.val + hi.val, by omega⟩) k (P.vl ⟨8 + 2 * half.val + hi.val, by omega⟩ d) := by
  have e4 : (8 + 2 * half.val + hi.val) / 4 = 2 := by omega
  have ho : P.o (ix2 r ⟨64 * (8 + 2 * half.val + hi.val) + d.val, by omega⟩)
      = P.h2 (ix2 ⟨128 * half.val + r.val, by omega⟩ ⟨64 * hi.val + d.val, by omega⟩) := by
    obtain rfl | rfl : half = 0 ∨ half = 1 := by omega
    · refine Eq.trans ?_ ((o_p4 P r ⟨64 * hi.val + d.val, by omega⟩).trans ?_)
      · exact congrArg (fun i => P.o (ix2 r i)) (Fin.ext (by simp <;> omega))
      · exact congrArg (fun i => P.h2 (ix2 i _)) (Fin.ext (by simp))
    · refine Eq.trans ?_ ((o_p5 P r ⟨64 * hi.val + d.val, by omega⟩).trans ?_)
      · exact congrArg (fun i => P.o (ix2 r i)) (Fin.ext (by simp <;> omega))
      · exact congrArg (fun i => P.h2 (ix2 i _)) (Fin.ext (by simp))
  have hsc : ∀ t, (∑ d' : Fin 64, TWO (Q4 P.qr) (Q5 P.qr) (ix2 ⟨128 * half.val + r.val, by omega⟩ ⟨64 * hi.val + d'.val, by omega⟩)
          * KV1 P.kr' P.kr (ix2 t ⟨(0 : Fin 65).val + d'.val, by omega⟩) : EReal) = P.sc r ⟨8 + 2 * half.val + hi.val, by omega⟩ t := fun t => by
    unfold Pt.sc
    refine Finset.sum_congr rfl fun d' _ => ?_
    rw [TWO2_at, KV1_at]
    have i1 : (⟨512 + 128 * half.val + (64 * hi.val + d'.val), by omega⟩ : Fin 1024) = ⟨64 * (8 + 2 * half.val + hi.val) + d'.val, by omega⟩ := Fin.ext (by simp <;> omega)
    have i2 : (⟨128 + ((0 : Fin 65).val + d'.val), by have := d'.isLt; have : (0 : Fin 65).val = 0 := rfl; omega⟩ : Fin 256) = ⟨64 * ((8 + 2 * half.val + hi.val) / 4) + d'.val, by omega⟩ := Fin.ext (by simp only [e4]; have : (0 : Fin 65).val = 0 := rfl; omega)
    simp only [i1, i2]
  have hv : (fun t => KV1 P.v' P.v (ix2 t ⟨(0 : Fin 65).val + d.val, by omega⟩) : Fin 256 → EReal) = P.vl ⟨8 + 2 * half.val + hi.val, by omega⟩ d := by
    funext t
    rw [KV1_at]
    unfold Pt.vl
    have i2 : (⟨128 + ((0 : Fin 65).val + d.val), by have := d.isLt; have : (0 : Fin 65).val = 0 := rfl; omega⟩ : Fin 256) = ⟨64 * ((8 + 2 * half.val + hi.val) / 4) + d.val, by omega⟩ := Fin.ext (by simp only [e4]; have : (0 : Fin 65).val = 0 := rfl; omega)
    simp only [i2]
  rw [ho]
  unfold Pt.h2
  rw [HD_at P.n _ _ (EV_is _) (EV_is _) P.s8 P.s10 P.s9 P.s11 hi half r d k ?_ (fun t => by rw [hsc]; exact ht t)]
  · rw [hv]
    exact congrArg (fun s => att _ s _ _) (funext hsc)
  · rw [← hs]
    obtain rfl | rfl : half = 0 ∨ half = 1 := by omega
    all_goals obtain rfl | rfl : hi = 0 ∨ hi = 1 := by omega
    all_goals rfl

theorem o_g3 (r : Fin 128) (hi half : Fin 2) (d : Fin 64) (k : ℝ)
    (hs : P.sk ⟨12 + 2 * half.val + hi.val, by omega⟩ = (k : EReal))
    (ht : ∀ t, P.sc r ⟨12 + 2 * half.val + hi.val, by omega⟩ t ≠ ⊤) :
    P.o (ix2 r ⟨64 * (12 + 2 * half.val + hi.val) + d.val, by omega⟩)
      = att (okp (P.n = 0#32) r.val) (P.sc r ⟨12 + 2 * half.val + hi.val, by omega⟩) k (P.vl ⟨12 + 2 * half.val + hi.val, by omega⟩ d) := by
  have e4 : (12 + 2 * half.val + hi.val) / 4 = 3 := by omega
  have ho : P.o (ix2 r ⟨64 * (12 + 2 * half.val + hi.val) + d.val, by omega⟩)
      = P.h3 (ix2 ⟨128 * half.val + r.val, by omega⟩ ⟨64 * hi.val + d.val, by omega⟩) := by
    obtain rfl | rfl : half = 0 ∨ half = 1 := by omega
    · refine Eq.trans ?_ ((o_p6 P r ⟨64 * hi.val + d.val, by omega⟩).trans ?_)
      · exact congrArg (fun i => P.o (ix2 r i)) (Fin.ext (by simp <;> omega))
      · exact congrArg (fun i => P.h3 (ix2 i _)) (Fin.ext (by simp))
    · refine Eq.trans ?_ ((o_p7 P r ⟨64 * hi.val + d.val, by omega⟩).trans ?_)
      · exact congrArg (fun i => P.o (ix2 r i)) (Fin.ext (by simp <;> omega))
      · exact congrArg (fun i => P.h3 (ix2 i _)) (Fin.ext (by simp))
  have hsc : ∀ t, (∑ d' : Fin 64, TWO (Q6 P.qr) (Q7 P.qr) (ix2 ⟨128 * half.val + r.val, by omega⟩ ⟨64 * hi.val + d'.val, by omega⟩)
          * KV1 P.kr' P.kr (ix2 t ⟨(64 : Fin 65).val + d'.val, by omega⟩) : EReal) = P.sc r ⟨12 + 2 * half.val + hi.val, by omega⟩ t := fun t => by
    unfold Pt.sc
    refine Finset.sum_congr rfl fun d' _ => ?_
    rw [TWO3_at, KV1_at]
    have i1 : (⟨768 + 128 * half.val + (64 * hi.val + d'.val), by omega⟩ : Fin 1024) = ⟨64 * (12 + 2 * half.val + hi.val) + d'.val, by omega⟩ := Fin.ext (by simp <;> omega)
    have i2 : (⟨128 + ((64 : Fin 65).val + d'.val), by have := d'.isLt; have : (64 : Fin 65).val = 64 := rfl; omega⟩ : Fin 256) = ⟨64 * ((12 + 2 * half.val + hi.val) / 4) + d'.val, by omega⟩ := Fin.ext (by simp only [e4]; have : (64 : Fin 65).val = 64 := rfl; omega)
    simp only [i1, i2]
  have hv : (fun t => KV1 P.v' P.v (ix2 t ⟨(64 : Fin 65).val + d.val, by omega⟩) : Fin 256 → EReal) = P.vl ⟨12 + 2 * half.val + hi.val, by omega⟩ d := by
    funext t
    rw [KV1_at]
    unfold Pt.vl
    have i2 : (⟨128 + ((64 : Fin 65).val + d.val), by have := d.isLt; have : (64 : Fin 65).val = 64 := rfl; omega⟩ : Fin 256) = ⟨64 * ((12 + 2 * half.val + hi.val) / 4) + d.val, by omega⟩ := Fin.ext (by simp only [e4]; have : (64 : Fin 65).val = 64 := rfl; omega)
    simp only [i2]
  rw [ho]
  unfold Pt.h3
  rw [HD_at P.n _ _ (OD_is _) (OD_is _) P.s12 P.s14 P.s13 P.s15 hi half r d k ?_ (fun t => by rw [hsc]; exact ht t)]
  · rw [hv]
    exact congrArg (fun s => att _ s _ _) (funext hsc)
  · rw [← hs]
    obtain rfl | rfl : half = 0 ∨ half = 1 := by omega
    all_goals obtain rfl | rfl : hi = 0 ∨ hi = 1 := by omega
    all_goals rfl

/-- What a row's head reads. -/
theorem o_at (r : Fin 128) (h : Fin 16) (d : Fin 64) (k : ℝ) (hs : P.sk h = (k : EReal)) (ht : ∀ t, P.sc r h t ≠ ⊤) :
    P.o (ix2 r ⟨64 * h.val + d.val, by omega⟩) = att (okp (P.n = 0#32) r.val) (P.sc r h) k (P.vl h d) := by
  have hh : ∃ (g : Fin 4) (hi half : Fin 2), h = ⟨4 * g.val + 2 * half.val + hi.val, by omega⟩ :=
    ⟨⟨h.val / 4, by omega⟩, ⟨h.val % 2, by omega⟩, ⟨h.val / 2 % 2, by omega⟩, Fin.ext (by simp <;> omega)⟩
  obtain ⟨g, hi, half, rfl⟩ := hh
  obtain rfl | rfl | rfl | rfl : g = 0 ∨ g = 1 ∨ g = 2 ∨ g = 3 := by omega
  · exact o_g0 P r hi half d k hs ht
  · exact o_g1 P r hi half d k hs ht
  · exact o_g2 P r hi half d k hs ht
  · exact o_g3 P r hi half d k hs ht

/-- The gate's row. -/
def Pt.g (r : Fin 128) (j : Fin 1024) : EReal := if h : j.val < 512 then P.g0 (ix2 r ⟨j.val, h⟩) else P.g1 (ix2 r ⟨j.val - 512, by omega⟩)

/-- What the point returns. -/
theorem y_at (r : Fin 128) (j : Fin 1024) : P.y (ix2 r j) = P.o (ix2 r j) * (P.g r j * Ideal.div 1 (1 + Ideal.exp (0 - P.g r j))) := by
  pointwise [Pt.y, GT]
  rfl
end

end Cert.Kernel12Ideal.Att

end
-- ==== Proof.AttTab.lean ====
/- The attention's tables of angles, which the host prepares for the kernel, at an index. -/
module

public import proofs.«01_k».proof.Proof.AttKer

@[expose] public section

set_option maxRecDepth 65536

noncomputable section

namespace Cert.Kernel12Ideal.Att

open Cert.Kernel12Ideal Cert.Kernel12Ideal.Gen Idealize.ShloMosaic Idealize.ShloMosaic.TcCoe Idealize.SL.Sem

/-- The eight frequencies. -/
def INV : FVec Ideal S8 .f32 := Host.powf (broadcastInDim S8 ![] bcast_S_S8 (constant S_ .f32 0x48F42400#32))
  (Host.divf (Host.negf (addf (broadcastInDim S8 ![] bcast_S_S8 (constant S_ .f32 0x00000000#32))
    (mulf (broadcastInDim S8 ![] bcast_S_S8 (constant S_ .f32 0x40000000#32)) (sitofp .f32 (iotaInDim S8 32 0)))))
    (broadcastInDim S8 ![] bcast_S_S8 (constant S_ .f32 0x41800000#32)))

/-- The frequencies of the lanes, and zero where a head is not turned. -/
def FRQ : FVec Ideal S128 .f32 := select
  (cmpi .slt (andi (iotaInDim S128 32 0) (broadcastInDim S128 ![] bcast_S_S128 (constantI S_ 32 63#32))) (broadcastInDim S128 ![] bcast_S_S128 (constantI S_ 32 16#32)))
  (shapeCast S128 (broadcastInDim S16x8 ![0, 1] bcast_S1x8_S16x8_0_1 (shapeCast S1x8 INV shapeCasts_S8_S1x8)) shapeCasts_S16x8_S128)
  (broadcastInDim S128 ![] bcast_S_S128 (constant S_ .f32 0x00000000#32))

/-- The angles. -/
def ANG (p : IVec S1x4096 32) : FVec Ideal S4096x128 .f32 :=
  mulf (broadcastInDim S4096x128 ![0, 1] bcast_S4096x1_S4096x128_0_1 (sitofp .f32 (shapeCast S4096x1 p shapeCasts_S1x4096_S4096x1)))
    (broadcastInDim S4096x128 ![0, 1] bcast_S1x128_S4096x128_0_1 (broadcastInDim S1x128 ![1] bcast_S128_S1x128_1 FRQ))

/-- A lane's place in its head. -/
def LAN : IVec S4096x128 32 := andi (iotaInDim S4096x128 32 1) (broadcastInDim S4096x128 ![] bcast_S_S4096x128 (constantI S_ 32 63#32))

def TC (p : IVec S1x4096 32) : FVec Ideal S4096x128 .f32 :=
  select (cmpi .slt LAN (broadcastInDim S4096x128 ![] bcast_S_S4096x128 (constantI S_ 32 16#32))) (Host.cos (ANG p))
    (broadcastInDim S4096x128 ![] bcast_S_S4096x128 (constant S_ .f32 0x3F800000#32))
def TA (p : IVec S1x4096 32) : FVec Ideal S4096x128 .f32 :=
  select (cmpi .slt LAN (broadcastInDim S4096x128 ![] bcast_S_S4096x128 (constantI S_ 32 8#32))) (Host.negf (Host.sin (ANG p)))
    (broadcastInDim S4096x128 ![] bcast_S_S4096x128 (constant S_ .f32 0x00000000#32))
def TB (p : IVec S1x4096 32) : FVec Ideal S4096x128 .f32 :=
  select (andi (cmpi .sge LAN (broadcastInDim S4096x128 ![] bcast_S_S4096x128 (constantI S_ 32 8#32)))
      (cmpi .slt LAN (broadcastInDim S4096x128 ![] bcast_S_S4096x128 (constantI S_ 32 16#32)))) (Host.sin (ANG p))
    (broadcastInDim S4096x128 ![] bcast_S_S4096x128 (constant S_ .f32 0x00000000#32))

section
variable (m : (ℓ : Loc nD τ sig) → Buf (Elt Ideal) ℓ) (c : Dev nD)

theorem V_TC : (V m c main_v32 : FVec Ideal S4096x128 .f32) = TC (m ((c.tc : Thread nD τ).loc main_arg1)) := by
  simp only [V, hostOps0, hostOps0_1, hostOps0_2, hostOps0_3, hostOps0_4, hostOps0_5, hostOps0_6, hostOps0_7, List.flatten_cons, List.flatten_nil,
    List.append_nil, List.cons_append, List.nil_append, StableHlo.TRef.unary, StableHlo.TRef.ternary]
  after_results
  rfl

theorem V_TA : (V m c main_v36 : FVec Ideal S4096x128 .f32) = TA (m ((c.tc : Thread nD τ).loc main_arg1)) := by
  simp only [V, hostOps0, hostOps0_1, hostOps0_2, hostOps0_3, hostOps0_4, hostOps0_5, hostOps0_6, hostOps0_7, List.flatten_cons, List.flatten_nil,
    List.append_nil, List.cons_append, List.nil_append, StableHlo.TRef.unary, StableHlo.TRef.ternary]
  after_results
  rfl

theorem V_TB : (V m c main_v42 : FVec Ideal S4096x128 .f32) = TB (m ((c.tc : Thread nD τ).loc main_arg1)) := by
  simp only [V, hostOps0, hostOps0_1, hostOps0_2, hostOps0_3, hostOps0_4, hostOps0_5, hostOps0_6, hostOps0_7, List.flatten_cons, List.flatten_nil,
    List.append_nil, List.cons_append, List.nil_append, StableHlo.TRef.unary, StableHlo.TRef.ternary]
  after_results
  rfl
end

/-- The frequency of a lane of eight. -/
def inv (j : Fin 8) : EReal := INV (ix1 j)

/-- A row's angle. -/
def ang (p : IVec S1x4096 32) (i : Fin 4096) (j : Fin 8) : EReal := (((p (ix2 0 i)).toInt : ℝ) : EReal) * inv j

theorem lan16 : ∀ l : Fin 128, IntOp.cmpi .slt (IntOp.andi (BitVec.ofNat 32 l.val) 63#32) 16#32 = BitVec.ofBool (decide (l.val % 64 < 16)) := by decide +kernel
theorem lan8 : ∀ l : Fin 128, IntOp.cmpi .slt (IntOp.andi (BitVec.ofNat 32 l.val) 63#32) 8#32 = BitVec.ofBool (decide (l.val % 64 < 8)) := by decide +kernel
theorem lan8' : ∀ l : Fin 128, IntOp.cmpi .sge (IntOp.andi (BitVec.ofNat 32 l.val) 63#32) 8#32 = BitVec.ofBool (decide (¬ l.val % 64 < 8)) := by decide +kernel

theorem FRQ_at (l : Fin 128) (h : l.val % 64 < 16) : FRQ (ix1 l) = inv ⟨l.val % 8, by omega⟩ := by
  pointwise [FRQ]
  rw [lan16, decide_eq_true h]
  rfl

theorem TC_at (p : IVec S1x4096 32) (i : Fin 4096) (l : Fin 128) : TC p (ix2 i l)
    = if l.val % 64 < 16 then Ideal.cos (ang p i ⟨l.val % 8, by omega⟩) else 1 := by
  pointwise [TC, ANG, LAN]
  rw [lan16]
  split <;> rename_i h
  · rw [decide_eq_true h, FRQ_at l h]; rfl
  · rw [decide_eq_false h]; rfl
theorem TA_at (p : IVec S1x4096 32) (i : Fin 4096) (l : Fin 128) : TA p (ix2 i l)
    = if l.val % 64 < 8 then -Ideal.sin (ang p i ⟨l.val % 8, by omega⟩) else 0 := by
  pointwise [TA, ANG, LAN]
  rw [lan8]
  split <;> rename_i h
  · rw [decide_eq_true h, FRQ_at l (by omega)]; rfl
  · rw [decide_eq_false h]; rfl
theorem TB_at (p : IVec S1x4096 32) (i : Fin 4096) (l : Fin 128) : TB p (ix2 i l)
    = if l.val % 64 < 8 then (0 : EReal) else if l.val % 64 < 16 then Ideal.sin (ang p i ⟨l.val % 8, by omega⟩) else 0 := by
  pointwise [TB, ANG, LAN]
  rw [lan8', lan16]
  split <;> rename_i h
  · rw [decide_eq_false (not_not.2 h)]
    cases decide (l.val % 64 < 16) <;> rfl
  · rw [decide_eq_true h]
    split <;> rename_i h'
    · rw [decide_eq_true h', FRQ_at l h']; rfl
    · rw [decide_eq_false h']; rfl

end Cert.Kernel12Ideal.Att

end
-- ==== Proof.AttSpec.lean ====
/- The attention, in plain mathematics: what a row's head reads of its own block's keys and of the block's before. -/
module

public import proofs.«01_k».proof.Proof.AttHead
public import proofs.«01_k».proof.Proof.AttTab

@[expose] public section

set_option maxRecDepth 65536

noncomputable section

namespace Cert.Att

open Cert.Kernel12Ideal Idealize.ShloMosaic Idealize.ShloMosaic.TcCoe
open Cert.Kernel12Ideal.Att (ang okp)

/-- A real number. -/
def IsR (x : EReal) : Prop := ∃ r : ℝ, x = (r : EReal)

theorem IsR.add {x y : EReal} : IsR x → IsR y → IsR (x + y) := fun ⟨a, ha⟩ ⟨b, hb⟩ => ⟨a + b, by rw [ha, hb, EReal.coe_add]⟩
theorem IsR.sub {x y : EReal} : IsR x → IsR y → IsR (x - y) := fun ⟨a, ha⟩ ⟨b, hb⟩ => ⟨a - b, by rw [ha, hb, EReal.coe_sub]⟩
theorem IsR.mul {x y : EReal} : IsR x → IsR y → IsR (x * y) := fun ⟨a, ha⟩ ⟨b, hb⟩ => ⟨a * b, by rw [ha, hb, EReal.coe_mul]⟩
theorem IsR.zero : IsR 0 := ⟨0, rfl⟩
theorem IsR.sum {ι : Type} (s : Finset ι) (f : ι → EReal) (h : ∀ i, IsR (f i)) : IsR (∑ i ∈ s, f i) := by
  classical
  induction s using Finset.induction_on with
  | empty => exact IsR.zero
  | insert a s ha ih => rw [Finset.sum_insert ha]; exact (h a).add ih
theorem IsR.ne_top {x : EReal} : IsR x → x ≠ ⊤ := fun ⟨a, ha⟩ => ha ▸ EReal.coe_ne_top a
theorem IsR.cos {x : EReal} : IsR x → IsR (Ideal.cos x) := fun ⟨a, ha⟩ => ⟨Real.cos a, by rw [ha]; rfl⟩
theorem IsR.sin {x : EReal} : IsR x → IsR (Ideal.sin x) := fun ⟨a, ha⟩ => ⟨Real.sin a, by rw [ha]; rfl⟩

theorem IsR.rope {cs sn : Fin 8 → EReal} {x : Fin 64 → EReal} (hc : ∀ j, IsR (cs j)) (hs : ∀ j, IsR (sn j)) (hx : ∀ d, IsR (x d)) (d : Fin 64) :
    IsR (rope cs sn x d) := by
  unfold Cert.Att.rope
  split
  · exact ((hx _).mul (hc _)).sub ((hx _).mul (hs _))
  · split
    · exact ((hx _).mul (hc _)).add ((hx _).mul (hs _))
    · exact hx _

/-- The scale of the scores. -/
def e8 : EReal := Ideal.ofBits FTy.f32 1040187392#32

theorem word_real (b : BitVec 32) (h : (b.extractLsb' 23 8).toNat ≠ 2 ^ 8 - 1) : IsR (Ideal.ofBits FTy.f32 b) := by
  unfold Ideal.ofBits Ideal.ieee
  simp only [if_neg h]
  split <;> exact ⟨_, rfl⟩

theorem word_pos (b : BitVec 32) (h : (b.extractLsb' 23 8).toNat ≠ 2 ^ 8 - 1) (h0 : (b.extractLsb' 23 8).toNat ≠ 0)
    (hn : (b.extractLsb' (8 + 23) 1 == 1#1) = false) : 0 < Ideal.ofBits FTy.f32 b := by
  unfold Ideal.ofBits Ideal.ieee
  simp only [if_neg h, if_neg h0, hn]
  refine EReal.coe_pos.2 ?_
  simp only [Bool.false_eq_true, if_false, one_mul]
  positivity

theorem e8_real : IsR e8 := word_real 1040187392#32 (by decide)
theorem e8_pos : 0 < e8 := word_pos 1040187392#32 (by decide) (by decide) (by decide)

theorem IsR.pow {x y : EReal} : IsR x → IsR y → IsR (Ideal.pow x y) := fun ⟨a, ha⟩ ⟨b, hb⟩ => ⟨Real.rpow a b, by rw [ha, hb]; rfl⟩
theorem IsR.neg {x : EReal} : IsR x → IsR (-x) := fun ⟨a, ha⟩ => ⟨-a, by rw [ha, EReal.coe_neg]⟩
theorem IsR.div {x y : EReal} : IsR x → IsR y → 0 < y → IsR (Ideal.div x y) := fun hx ⟨b, hb⟩ h => by
  rw [hb] at h ⊢
  rw [Ideal.div_coe (ne_of_gt (EReal.coe_pos.1 h))]
  exact hx.mul ⟨_, rfl⟩

theorem inv_real (j : Fin 8) : IsR (Cert.Kernel12Ideal.Att.inv j) := by
  unfold Cert.Kernel12Ideal.Att.inv
  pointwise [Cert.Kernel12Ideal.Att.INV]
  refine IsR.pow (word_real _ (by decide)) (IsR.div (IsR.neg (IsR.mul (word_real _ (by decide)) ⟨_, rfl⟩)) (word_real _ (by decide)) ?_)
  exact word_pos _ (by decide) (by decide) (by decide)

section
variable (A : FVec Ideal S4096x6656 .f32) (p : IVec S1x4096 32) (s : FVec Ideal S1x16 .f32)

theorem ang_real (i : Fin 4096) (j : Fin 8) : IsR (ang p i j) := by
  unfold Cert.Kernel12Ideal.Att.ang
  exact IsR.mul ⟨_, rfl⟩ (inv_real j)

/-- A row's query head, turned. -/
def rq (i : Fin 4096) (h : Fin 16) : Fin 64 → EReal :=
  rope (fun j => Ideal.cos (ang p i j)) (fun j => Ideal.sin (ang p i j)) (fun d => A (ix2 i ⟨64 * h.val + d.val, by omega⟩))

/-- A row's key head, turned. -/
def rk (i : Fin 4096) (g : Fin 4) : Fin 64 → EReal :=
  rope (fun j => Ideal.cos (ang p i j)) (fun j => Ideal.sin (ang p i j)) (fun d => A (ix2 i ⟨1024 + (64 * g.val + d.val), by omega⟩))

/-- A row's value head. -/
def rv (i : Fin 4096) (g : Fin 4) (d : Fin 64) : EReal := A (ix2 i ⟨1280 + (64 * g.val + d.val), by omega⟩)

/-- The rows of a block's keys: those of the block before (the first has none: its own), and its own. -/
def key (t : Fin 32) (u : Fin 256) : Fin 4096 := ⟨if u.val < 128 then 128 * (t.val - 1) + u.val else 128 * t.val + (u.val - 128), by split <;> omega⟩

theorem two_key (f : Fin 4096 → EReal) (t : Fin 32) (u : Fin 256) :
    two (fun v => f ⟨128 * (t.val - 1) + v.val, by omega⟩) (fun v => f ⟨128 * t.val + v.val, by omega⟩) u = f (key t u) := by
  unfold two key
  by_cases h : u.val < 128
  · rw [dif_pos h]
    exact congrArg f (Fin.ext (if_pos h).symm)
  · rw [dif_neg h]
    exact congrArg f (Fin.ext (if_neg h).symm)

/-- A row. -/
def row (t : Fin 32) (r : Fin 128) : Fin 4096 := ⟨128 * t.val + r.val, by omega⟩

/-- The key head of a query head. -/
def kh (h : Fin 16) : Fin 4 := ⟨h.val / 4, by omega⟩

/-- The score of a row's head and a key. -/
def score (t : Fin 32) (r : Fin 128) (h : Fin 16) (u : Fin 256) : EReal := (∑ d, rq A p (row t r) h d * rk A p (key t u) (kh h) d) * e8

/-- What a row's head returns. -/
def res (t : Fin 32) (r : Fin 128) (h : Fin 16) (d : Fin 64) : EReal :=
  att (okp (t.val = 0) r.val) (score A p t r h) (s (ix2 0 h)) (fun u => rv A (key t u) (kh h) d)
    * (A (ix2 (row t r) ⟨1536 + (64 * h.val + d.val), by omega⟩)
      * Ideal.div 1 (1 + Ideal.exp (-A (ix2 (row t r) ⟨1536 + (64 * h.val + d.val), by omega⟩))))

/-- The arguments are real where the attention reads them into its scores. -/
def Ok : Prop := (∀ (i : Fin 4096) (j : Fin 1280), IsR (A (ix2 i ⟨j.val, by omega⟩))) ∧ ∀ h : Fin 16, IsR (s (ix2 0 h))

theorem rq_real (hA : Ok A s) (i : Fin 4096) (h : Fin 16) (d : Fin 64) : IsR (rq A p i h d) :=
  IsR.rope (fun j => (ang_real p i j).cos) (fun j => (ang_real p i j).sin) (fun d => hA.1 i ⟨64 * h.val + d.val, by omega⟩) d

theorem rk_real (hA : Ok A s) (i : Fin 4096) (g : Fin 4) (d : Fin 64) : IsR (rk A p i g d) :=
  IsR.rope (fun j => (ang_real p i j).cos) (fun j => (ang_real p i j).sin) (fun d => hA.1 i ⟨1024 + (64 * g.val + d.val), by omega⟩) d

theorem score_real (hA : Ok A s) (t : Fin 32) (r : Fin 128) (h : Fin 16) (u : Fin 256) : IsR (score A p t r h u) :=
  (IsR.sum _ _ fun d => (rq_real A p s hA _ _ _).mul (rk_real A p s hA _ _ _)).mul e8_real
end

end Cert.Att

end
-- ==== Proof.AttRead.lean ====
/- What a point of the attention kernel is handed, read off the arguments. -/
module

public import proofs.«01_k».proof.Proof.AttSpec

@[expose] public section

set_option maxRecDepth 65536

noncomputable section

namespace Cert.Kernel12Ideal.Att

open Cert.Kernel12Ideal Cert.Kernel12Ideal.Gen Idealize.ShloMosaic Idealize.ShloMosaic.TcCoe Idealize.SL.Sem
open Idealize.ShloMosaic.Pipeline (Dat)
open Cert.Att

variable (m : (ℓ : Loc nD τ sig) → Buf (Elt Ideal) ℓ) (c : Dev nD)

theorem idx : ∀ t : Fin cfg0.N, win0_0.index t = ![t.val, 0] ∧ win0_1.index t = ![t.val, 2] ∧ win0_2.index t = ![t.val - 1, 2]
    ∧ win0_3.index t = ![t.val, 3] ∧ win0_4.index t = ![t.val, 4] ∧ win0_5.index t = ![t.val, 0] ∧ win0_6.index t = ![t.val, 0]
    ∧ win0_7.index t = ![t.val, 0] ∧ win0_8.index t = ![t.val - 1, 0] ∧ win0_9.index t = ![t.val - 1, 0] ∧ win0_10.index t = ![t.val - 1, 0]
    ∧ win0_11.index t = ![0, 0] ∧ win0_12.index t = ![t.val, 0] ∧ (grid0.coords t 0).val = t.val :=
  (by decide +kernel : ∀ t : Fin grid0.N, _)

theorem lt32 (t : Fin cfg0.N) : t.val < 32 := lt_of_lt_of_eq t.isLt (by decide +kernel)

/-- The point's block. -/
def blk (t : Fin cfg0.N) : Fin 32 := ⟨t.val, lt32 t⟩

/-- The arguments. -/
def A : FVec Ideal S4096x6656 .f32 := m ((c.tc : Thread nD τ).loc main_arg0)
def B : IVec S1x4096 32 := m ((c.tc : Thread nD τ).loc main_arg1)
def S : FVec Ideal S1x16 .f32 := m ((c.tc : Thread nD τ).loc main_arg2)

variable (t : Fin cfg0.N)

theorem i0 (r : Fin 128) (j : Fin 1024) : (X0_0 m c t : FVec Ideal S128x1024 .f32) (ix2 r j) = (A m c) (ix2 ⟨128 * t.val + r.val, by have := lt32 t; omega⟩ ⟨j.val, by omega⟩) := by
  refine Eq.trans ?_ (congrFun (V_main_arg0 m c) (ix2 ⟨128 * t.val + r.val, by have := lt32 t; omega⟩ ⟨j.val, by omega⟩))
  unfold X0_0 Pipeline.Window.fill
  rw [dif_pos (moved0_0 t _)]
  unfold iblk
  generalize V m c = W
  blk_point [idx t]

theorem i1 (r : Fin 128) (j : Fin 512) : (iblk m c 1 t : FVec Ideal S128x512 .f32) (ix2 r j) = (A m c) (ix2 ⟨128 * t.val + r.val, by have := lt32 t; omega⟩ ⟨1024 + j.val, by omega⟩) := by
  refine Eq.trans ?_ (congrFun (V_main_arg0 m c) (ix2 ⟨128 * t.val + r.val, by have := lt32 t; omega⟩ ⟨1024 + j.val, by omega⟩))
  unfold iblk
  generalize V m c = W
  blk_point [idx t]

theorem i2 (r : Fin 128) (j : Fin 512) : (iblk m c 2 t : FVec Ideal S128x512 .f32) (ix2 r j) = (A m c) (ix2 ⟨128 * (t.val - 1) + r.val, by have := lt32 t; omega⟩ ⟨1024 + j.val, by omega⟩) := by
  refine Eq.trans ?_ (congrFun (V_main_arg0 m c) (ix2 ⟨128 * (t.val - 1) + r.val, by have := lt32 t; omega⟩ ⟨1024 + j.val, by omega⟩))
  unfold iblk
  generalize V m c = W
  blk_point [idx t]

theorem i3 (r : Fin 128) (j : Fin 512) : (iblk m c 3 t : FVec Ideal S128x512 .f32) (ix2 r j) = (A m c) (ix2 ⟨128 * t.val + r.val, by have := lt32 t; omega⟩ ⟨1536 + j.val, by omega⟩) := by
  refine Eq.trans ?_ (congrFun (V_main_arg0 m c) (ix2 ⟨128 * t.val + r.val, by have := lt32 t; omega⟩ ⟨1536 + j.val, by omega⟩))
  unfold iblk
  generalize V m c = W
  blk_point [idx t]

theorem i4 (r : Fin 128) (j : Fin 512) : (iblk m c 4 t : FVec Ideal S128x512 .f32) (ix2 r j) = (A m c) (ix2 ⟨128 * t.val + r.val, by have := lt32 t; omega⟩ ⟨2048 + j.val, by omega⟩) := by
  refine Eq.trans ?_ (congrFun (V_main_arg0 m c) (ix2 ⟨128 * t.val + r.val, by have := lt32 t; omega⟩ ⟨2048 + j.val, by omega⟩))
  unfold iblk
  generalize V m c = W
  blk_point [idx t]

theorem i5 (r : Fin 128) (j : Fin 128) : (iblk m c 5 t : FVec Ideal S128x128 .f32) (ix2 r j) = (TC (B m c)) (ix2 ⟨128 * t.val + r.val, by have := lt32 t; omega⟩ j) := by
  refine Eq.trans ?_ (congrFun (V_TC m c) (ix2 ⟨128 * t.val + r.val, by have := lt32 t; omega⟩ j))
  unfold iblk
  generalize V m c = W
  blk_point [idx t]

theorem i6 (r : Fin 128) (j : Fin 128) : (iblk m c 6 t : FVec Ideal S128x128 .f32) (ix2 r j) = (TA (B m c)) (ix2 ⟨128 * t.val + r.val, by have := lt32 t; omega⟩ j) := by
  refine Eq.trans ?_ (congrFun (V_TA m c) (ix2 ⟨128 * t.val + r.val, by have := lt32 t; omega⟩ j))
  unfold iblk
  generalize V m c = W
  blk_point [idx t]

theorem i7 (r : Fin 128) (j : Fin 128) : (iblk m c 7 t : FVec Ideal S128x128 .f32) (ix2 r j) = (TB (B m c)) (ix2 ⟨128 * t.val + r.val, by have := lt32 t; omega⟩ j) := by
  refine Eq.trans ?_ (congrFun (V_TB m c) (ix2 ⟨128 * t.val + r.val, by have := lt32 t; omega⟩ j))
  unfold iblk
  generalize V m c = W
  blk_point [idx t]

theorem i8 (r : Fin 128) (j : Fin 128) : (iblk m c 8 t : FVec Ideal S128x128 .f32) (ix2 r j) = (TC (B m c)) (ix2 ⟨128 * (t.val - 1) + r.val, by have := lt32 t; omega⟩ j) := by
  refine Eq.trans ?_ (congrFun (V_TC m c) (ix2 ⟨128 * (t.val - 1) + r.val, by have := lt32 t; omega⟩ j))
  unfold iblk
  generalize V m c = W
  blk_point [idx t]

theorem i9 (r : Fin 128) (j : Fin 128) : (iblk m c 9 t : FVec Ideal S128x128 .f32) (ix2 r j) = (TA (B m c)) (ix2 ⟨128 * (t.val - 1) + r.val, by have := lt32 t; omega⟩ j) := by
  refine Eq.trans ?_ (congrFun (V_TA m c) (ix2 ⟨128 * (t.val - 1) + r.val, by have := lt32 t; omega⟩ j))
  unfold iblk
  generalize V m c = W
  blk_point [idx t]

theorem i10 (r : Fin 128) (j : Fin 128) : (iblk m c 10 t : FVec Ideal S128x128 .f32) (ix2 r j) = (TB (B m c)) (ix2 ⟨128 * (t.val - 1) + r.val, by have := lt32 t; omega⟩ j) := by
  refine Eq.trans ?_ (congrFun (V_TB m c) (ix2 ⟨128 * (t.val - 1) + r.val, by have := lt32 t; omega⟩ j))
  unfold iblk
  generalize V m c = W
  blk_point [idx t]

theorem i11 (j : Fin 16) : (iblk m c 11 t : FVec Ideal S1x16 .f32) (ix2 0 j) = S m c (ix2 0 j) := by
  refine Eq.trans ?_ (congrFun (V_main_arg2 m c) (ix2 0 j))
  unfold iblk
  generalize V m c = W
  blk_point [idx t]

theorem w_k (r : Fin 128) (j : Fin 256) : (pt m c t).k (ix2 r j) = A m c (ix2 ⟨128 * t.val + r.val, by have := lt32 t; omega⟩ ⟨1024 + j.val, by omega⟩) := by
  refine Eq.trans ?_ ((i1 m c t r ⟨j.val, by omega⟩).trans (congrArg (fun l => A m c (ix2 _ l)) (Fin.ext (by simp <;> omega))))
  unfold pt
  refine congrArg (iblk m c 1 t) (funext fun a => ?_)
  fin_cases a
  · exact Fin.ext (by simp [Rect.unit])
  · exact Fin.ext (by simp [Rect.unit])

theorem w_k' (r : Fin 128) (j : Fin 256) : (pt m c t).k' (ix2 r j) = A m c (ix2 ⟨128 * (t.val - 1) + r.val, by have := lt32 t; omega⟩ ⟨1024 + j.val, by omega⟩) := by
  refine Eq.trans ?_ ((i2 m c t r ⟨j.val, by omega⟩).trans (congrArg (fun l => A m c (ix2 _ l)) (Fin.ext (by simp <;> omega))))
  unfold pt
  refine congrArg (iblk m c 2 t) (funext fun a => ?_)
  fin_cases a
  · exact Fin.ext (by simp [Rect.unit])
  · exact Fin.ext (by simp [Rect.unit])

theorem w_v (r : Fin 128) (j : Fin 256) : (pt m c t).v (ix2 r j) = A m c (ix2 ⟨128 * t.val + r.val, by have := lt32 t; omega⟩ ⟨1280 + j.val, by omega⟩) := by
  refine Eq.trans ?_ ((i1 m c t r ⟨256 + j.val, by omega⟩).trans (congrArg (fun l => A m c (ix2 _ l)) (Fin.ext (by simp <;> omega))))
  unfold pt
  refine congrArg (iblk m c 1 t) (funext fun a => ?_)
  fin_cases a
  · exact Fin.ext (by simp [Rect.unit])
  · exact Fin.ext (by simp [Rect.unit])

theorem w_v' (r : Fin 128) (j : Fin 256) : (pt m c t).v' (ix2 r j) = A m c (ix2 ⟨128 * (t.val - 1) + r.val, by have := lt32 t; omega⟩ ⟨1280 + j.val, by omega⟩) := by
  refine Eq.trans ?_ ((i2 m c t r ⟨256 + j.val, by omega⟩).trans (congrArg (fun l => A m c (ix2 _ l)) (Fin.ext (by simp <;> omega))))
  unfold pt
  refine congrArg (iblk m c 2 t) (funext fun a => ?_)
  fin_cases a
  · exact Fin.ext (by simp [Rect.unit])
  · exact Fin.ext (by simp [Rect.unit])

theorem s0 : (pt m c t).s0 = S m c (ix2 0 0) := by
  refine Eq.trans ?_ (i11 m c t 0)
  unfold pt
  refine congrArg (iblk m c 11 t) (funext fun a => ?_)
  fin_cases a <;> rfl

theorem s1 : (pt m c t).s1 = S m c (ix2 0 1) := by
  refine Eq.trans ?_ (i11 m c t 1)
  unfold pt
  refine congrArg (iblk m c 11 t) (funext fun a => ?_)
  fin_cases a <;> rfl

theorem s2 : (pt m c t).s2 = S m c (ix2 0 2) := by
  refine Eq.trans ?_ (i11 m c t 2)
  unfold pt
  refine congrArg (iblk m c 11 t) (funext fun a => ?_)
  fin_cases a <;> rfl

theorem s3 : (pt m c t).s3 = S m c (ix2 0 3) := by
  refine Eq.trans ?_ (i11 m c t 3)
  unfold pt
  refine congrArg (iblk m c 11 t) (funext fun a => ?_)
  fin_cases a <;> rfl

theorem s4 : (pt m c t).s4 = S m c (ix2 0 4) := by
  refine Eq.trans ?_ (i11 m c t 4)
  unfold pt
  refine congrArg (iblk m c 11 t) (funext fun a => ?_)
  fin_cases a <;> rfl

theorem s5 : (pt m c t).s5 = S m c (ix2 0 5) := by
  refine Eq.trans ?_ (i11 m c t 5)
  unfold pt
  refine congrArg (iblk m c 11 t) (funext fun a => ?_)
  fin_cases a <;> rfl

theorem s6 : (pt m c t).s6 = S m c (ix2 0 6) := by
  refine Eq.trans ?_ (i11 m c t 6)
  unfold pt
  refine congrArg (iblk m c 11 t) (funext fun a => ?_)
  fin_cases a <;> rfl

theorem s7 : (pt m c t).s7 = S m c (ix2 0 7) := by
  refine Eq.trans ?_ (i11 m c t 7)
  unfold pt
  refine congrArg (iblk m c 11 t) (funext fun a => ?_)
  fin_cases a <;> rfl

theorem s8 : (pt m c t).s8 = S m c (ix2 0 8) := by
  refine Eq.trans ?_ (i11 m c t 8)
  unfold pt
  refine congrArg (iblk m c 11 t) (funext fun a => ?_)
  fin_cases a <;> rfl

theorem s9 : (pt m c t).s9 = S m c (ix2 0 9) := by
  refine Eq.trans ?_ (i11 m c t 9)
  unfold pt
  refine congrArg (iblk m c 11 t) (funext fun a => ?_)
  fin_cases a <;> rfl

theorem s10 : (pt m c t).s10 = S m c (ix2 0 10) := by
  refine Eq.trans ?_ (i11 m c t 10)
  unfold pt
  refine congrArg (iblk m c 11 t) (funext fun a => ?_)
  fin_cases a <;> rfl

theorem s11 : (pt m c t).s11 = S m c (ix2 0 11) := by
  refine Eq.trans ?_ (i11 m c t 11)
  unfold pt
  refine congrArg (iblk m c 11 t) (funext fun a => ?_)
  fin_cases a <;> rfl

theorem s12 : (pt m c t).s12 = S m c (ix2 0 12) := by
  refine Eq.trans ?_ (i11 m c t 12)
  unfold pt
  refine congrArg (iblk m c 11 t) (funext fun a => ?_)
  fin_cases a <;> rfl

theorem s13 : (pt m c t).s13 = S m c (ix2 0 13) := by
  refine Eq.trans ?_ (i11 m c t 13)
  unfold pt
  refine congrArg (iblk m c 11 t) (funext fun a => ?_)
  fin_cases a <;> rfl

theorem s14 : (pt m c t).s14 = S m c (ix2 0 14) := by
  refine Eq.trans ?_ (i11 m c t 14)
  unfold pt
  refine congrArg (iblk m c 11 t) (funext fun a => ?_)
  fin_cases a <;> rfl

theorem s15 : (pt m c t).s15 = S m c (ix2 0 15) := by
  refine Eq.trans ?_ (i11 m c t 15)
  unfold pt
  refine congrArg (iblk m c 11 t) (funext fun a => ?_)
  fin_cases a <;> rfl

theorem w_s (h : Fin 16) : (pt m c t).sk h = S m c (ix2 0 h) := by
  obtain rfl | rfl | rfl | rfl | rfl | rfl | rfl | rfl | rfl | rfl | rfl | rfl | rfl | rfl | rfl | rfl : h = 0 ∨ h = 1 ∨ h = 2 ∨ h = 3 ∨ h = 4 ∨ h = 5 ∨ h = 6 ∨ h = 7 ∨ h = 8 ∨ h = 9 ∨ h = 10 ∨ h = 11 ∨ h = 12 ∨ h = 13 ∨ h = 14 ∨ h = 15 := by omega
  · exact s0 m c t
  · exact s1 m c t
  · exact s2 m c t
  · exact s3 m c t
  · exact s4 m c t
  · exact s5 m c t
  · exact s6 m c t
  · exact s7 m c t
  · exact s8 m c t
  · exact s9 m c t
  · exact s10 m c t
  · exact s11 m c t
  · exact s12 m c t
  · exact s13 m c t
  · exact s14 m c t
  · exact s15 m c t

end Cert.Kernel12Ideal.Att

end
-- ==== Proof.AttWin.lean ====
/- What a point of the attention kernel returns, of the arguments. -/
module

public import proofs.«01_k».proof.Proof.AttRead

@[expose] public section

set_option maxRecDepth 65536
set_option maxHeartbeats 2000000

noncomputable section

namespace Cert.Kernel12Ideal.Att

open Cert.Kernel12Ideal Cert.Kernel12Ideal.Gen Idealize.ShloMosaic Idealize.ShloMosaic.TcCoe Idealize.SL.Sem
open Idealize.ShloMosaic.Pipeline (Dat)
open Cert.Att

variable (m : (ℓ : Loc nD τ sig) → Buf (Elt Ideal) ℓ) (c : Dev nD) (t : Fin cfg0.N)

theorem tabs (r : Fin 128) : Tab (pt m c t).c (pt m c t).sa (pt m c t).sb (fun j => Ideal.cos (ang (B m c) (row (blk t) r) j))
    (fun j => Ideal.sin (ang (B m c) (row (blk t) r) j)) r := by
  refine ⟨fun l => ?_, fun l => ?_, fun l => ?_⟩
  · exact (congrFun (e3 _) _).trans ((i5 m c t r l).trans (TC_at _ _ _))
  · exact (congrFun (e4 _) _).trans ((i6 m c t r l).trans (TA_at _ _ _))
  · have h1 : TB (B m c) (ix2 (row (blk t) r) l) = _ := TB_at (B m c) (row (blk t) r) l
    have h2 : (pt m c t).sb (ix2 r l) = (iblk m c 7 t : FVec Ideal S128x128 .f32) (ix2 r l) := by
      rw [show (pt m c t).sb = k0_pay5 (iblk m c 7 t) from rfl, Cert.Kernel12Ideal.Att.e5]
    have h3 := i7 m c t r l
    have h4 := h3.trans h1
    rw [h2]
    exact h4

/-- The row of the block before. -/
def row' (t : Fin 32) (r : Fin 128) : Fin 4096 := ⟨128 * (t.val - 1) + r.val, by omega⟩

theorem tabs' (r : Fin 128) : Tab (pt m c t).c' (pt m c t).sa' (pt m c t).sb' (fun j => Ideal.cos (ang (B m c) (row' (blk t) r) j))
    (fun j => Ideal.sin (ang (B m c) (row' (blk t) r) j)) r := by
  refine ⟨fun l => ?_, fun l => ?_, fun l => ?_⟩
  · exact (congrFun (e6 _) _).trans ((i8 m c t r l).trans (TC_at _ _ _))
  · exact (congrFun (e7 _) _).trans ((i9 m c t r l).trans (TA_at _ _ _))
  · have h1 : TB (B m c) (ix2 (row' (blk t) r) l) = _ := TB_at (B m c) (row' (blk t) r) l
    have h2 : (pt m c t).sb' (ix2 r l) = (iblk m c 10 t : FVec Ideal S128x128 .f32) (ix2 r l) := by
      rw [show (pt m c t).sb' = k0_pay8 (iblk m c 10 t) from rfl, Cert.Kernel12Ideal.Att.e8]
    have h3 := i10 m c t r l
    have h4 := h3.trans h1
    rw [h2]
    exact h4

theorem w_qr (r : Fin 128) (h : Fin 16) (d : Fin 64) : (pt m c t).qr (ix2 r ⟨64 * h.val + d.val, by omega⟩) = rq (A m c) (B m c) (row (blk t) r) h d * Cert.Att.e8 := by
  unfold Pt.qr
  rw [QR_at _ _ _ (fun j => Ideal.cos (ang (B m c) (row (blk t) r) j)) (fun j => Ideal.sin (ang (B m c) (row (blk t) r) j)) r (tabs m c t r)]
  exact congrArg (fun f => rope _ _ f d * _) (funext fun d' => i0 m c t r ⟨64 * h.val + d'.val, by omega⟩)

theorem w_kr (r : Fin 128) (g : Fin 4) (d : Fin 64) : (pt m c t).kr (ix2 r ⟨64 * g.val + d.val, by omega⟩) = rk (A m c) (B m c) (row (blk t) r) g d := by
  unfold Pt.kr
  rw [KR_at _ _ _ (fun j => Ideal.cos (ang (B m c) (row (blk t) r) j)) (fun j => Ideal.sin (ang (B m c) (row (blk t) r) j)) r (tabs m c t r)]
  exact congrArg (fun f => rope _ _ f d) (funext fun d' => w_k m c t r ⟨64 * g.val + d'.val, by omega⟩)

theorem w_kr' (r : Fin 128) (g : Fin 4) (d : Fin 64) : (pt m c t).kr' (ix2 r ⟨64 * g.val + d.val, by omega⟩) = rk (A m c) (B m c) (row' (blk t) r) g d := by
  unfold Pt.kr'
  rw [KR_at _ _ _ (fun j => Ideal.cos (ang (B m c) (row' (blk t) r) j)) (fun j => Ideal.sin (ang (B m c) (row' (blk t) r) j)) r (tabs' m c t r)]
  exact congrArg (fun f => rope _ _ f d) (funext fun d' => w_k' m c t r ⟨64 * g.val + d'.val, by omega⟩)

theorem w_sc (r : Fin 128) (h : Fin 16) (u : Fin 256) : (pt m c t).sc r h u = score (A m c) (B m c) (blk t) r h u := by
  unfold Pt.sc score
  rw [← sum_scale _ (le_of_lt e8_pos) e8_real.ne_top]
  refine Finset.sum_congr rfl fun d _ => ?_
  rw [w_qr, ← two_key (fun i => rk (A m c) (B m c) i (Cert.Att.kh h) d) (blk t) u, mul_right_comm]
  refine congrArg (fun x => _ * x * _) ?_
  exact congrArg₂ (fun f g => two f g u) (funext fun v => w_kr' m c t v (Cert.Att.kh h) d) (funext fun v => w_kr m c t v (Cert.Att.kh h) d)

theorem w_vl (h : Fin 16) (d : Fin 64) : (pt m c t).vl h d = fun u => rv (A m c) (key (blk t) u) (Cert.Att.kh h) d := by
  funext u
  rw [← two_key (fun i => rv (A m c) i (Cert.Att.kh h) d) (blk t) u]
  unfold Pt.vl
  exact congrArg₂ (fun f g => two f g u) (funext fun v => w_v' m c t v ⟨64 * (Cert.Att.kh h).val + d.val, by omega⟩)
    (funext fun v => w_v m c t v ⟨64 * (Cert.Att.kh h).val + d.val, by omega⟩)

theorem w_g (r : Fin 128) (j : Fin 1024) : (pt m c t).g r j = A m c (ix2 (row (blk t) r) ⟨1536 + j.val, by omega⟩) := by
  unfold Pt.g
  split
  · exact i3 m c t r ⟨j.val, ‹_›⟩
  · exact (i4 m c t r ⟨j.val - 512, by omega⟩).trans (congrArg (fun l => A m c (ix2 _ l)) (Fin.ext (by simp <;> omega)))

theorem n_zero : ((pt m c t).n = 0#32) = ((blk t).val = 0) := by
  have e : (pt m c t).n = BitVec.ofNat 32 t.val := congrArg (BitVec.ofNat 32) (idx t).2.2.2.2.2.2.2.2.2.2.2.2.2
  rw [e]
  refine propext ⟨fun h => ?_, fun h => ?_⟩
  · have := congrArg BitVec.toNat h
    have hl := lt32 t
    rw [BitVec.toNat_ofNat, Nat.mod_eq_of_lt (by omega)] at this
    exact this
  · have h' : t.val = 0 := h
    rw [h']

theorem okp_congr (z z' : Prop) [Decidable z] [Decidable z'] (e : z = z') (r : ℕ) (s : Fin 256 → EReal) (k : EReal) (v : Fin 256 → EReal) :
    att (okp z r) s k v = att (okp z' r) s k v := by
  subst e
  congr

/-- What the point returns. -/
theorem y_res (hA : Ok (A m c) (S m c)) (r : Fin 128) (h : Fin 16) (d : Fin 64) :
    (pt m c t).y (ix2 r ⟨64 * h.val + d.val, by omega⟩) = res (A m c) (B m c) (S m c) (blk t) r h d := by
  obtain ⟨k, hk⟩ := hA.2 h
  rw [y_at, w_g, o_at (pt m c t) r h d k ((w_s m c t h).trans hk) (fun u => by rw [w_sc]; exact (score_real _ _ _ hA _ _ _ _).ne_top)]
  unfold res
  rw [w_vl, show (pt m c t).sc r h = score (A m c) (B m c) (blk t) r h from funext (w_sc m c t r h), okp_congr _ _ (n_zero m c t), hk, zero_sub]

end Cert.Kernel12Ideal.Att

end
-- ==== Proof.AttRef.lean ====
/- The attention as the plain program computes it: named arrays, and each array at an index. -/
module

public import proofs.«01_k».proof.Proof.Gen.Reference12Ideal.Run
public import Idealize.ShloMosaic.Lib.Pipeline.ValueKit

@[expose] public section

set_option maxRecDepth 65536
set_option maxHeartbeats 1000000

noncomputable section

namespace Cert.AttRef

open Cert.Reference12Ideal Cert.Reference12Ideal.Gen Idealize.ShloMosaic Idealize.ShloMosaic.TcCoe Idealize.SL.Sem

section Arrays
variable (A : FVec Ideal S4096x6656 .f32) (p : IVec S1x4096 32) (s : FVec Ideal S1x16 .f32)

/-- The angles. -/
def ANG : FVec Ideal S1x4096x8 .f32 :=
  mulf (broadcastInDim S1x4096x8 ![0, 1, 2] bcast_S1x4096x1_S1x4096x8_0_1_2 (sitofp .f32 (broadcastInDim S1x4096x1 ![0, 1] bcast_S1x4096_S1x4096x1_0_1 p)))
    (broadcastInDim S1x4096x8 ![0, 1, 2] bcast_S1x1x8_S1x4096x8_0_1_2 (broadcastInDim S1x1x8 ![2] bcast_S8_S1x1x8_2
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

def CS : FVec Ideal S1x4096x1x8 .f32 := broadcastInDim S1x4096x1x8 ![0, 1, 3] bcast_S1x4096x8_S1x4096x1x8_0_1_3 (Host.cos (ANG p))
def SN : FVec Ideal S1x4096x1x8 .f32 := broadcastInDim S1x4096x1x8 ![0, 1, 3] bcast_S1x4096x8_S1x4096x1x8_0_1_3 (Host.sin (ANG p))

/-- The queries. -/
def Q : FVec Ideal S1x4096x16x64 .f32 := shapeCast _ (broadcastInDim S1x4096x1024 ![1, 2] bcast_S4096x1024_S1x4096x1024_1_2
  (extractStridedSlice S4096x1024 ![0, 0] A slices_S4096x6656_S4096x1024_0_0)) shapeCasts_S1x4096x1024_S1x4096x16x64
def Q1 (q : FVec Ideal S1x4096x16x64 .f32) : FVec Ideal S1x4096x16x8 .f32 :=
  extractStridedSlice S1x4096x16x8 ![0, 0, 0, 0] (extractStridedSlice S1x4096x16x16 ![0, 0, 0, 0] q slices_S1x4096x16x64_S1x4096x16x16_0_0_0_0) slices_S1x4096x16x16_S1x4096x16x8_0_0_0_0
def Q2 (q : FVec Ideal S1x4096x16x64 .f32) : FVec Ideal S1x4096x16x8 .f32 :=
  extractStridedSlice S1x4096x16x8 ![0, 0, 0, 8] (extractStridedSlice S1x4096x16x16 ![0, 0, 0, 0] q slices_S1x4096x16x64_S1x4096x16x16_0_0_0_0) slices_S1x4096x16x16_S1x4096x16x8_0_0_0_8

/-- The queries, turned. -/
def TQ (q : FVec Ideal S1x4096x16x64 .f32) (c n : FVec Ideal S1x4096x1x8 .f32) : FVec Ideal S1x4096x16x64 .f32 :=
  concatenate S1x4096x16x64 3 [⟨S1x4096x16x16, (concatenate S1x4096x16x16 3
    [⟨S1x4096x16x8, (subf (mulf (Q1 q) (broadcastInDim S1x4096x16x8 ![0, 1, 2, 3] bcast_S1x4096x1x8_S1x4096x16x8_0_1_2_3 c)) (mulf (Q2 q) (broadcastInDim S1x4096x16x8 ![0, 1, 2, 3] bcast_S1x4096x1x8_S1x4096x16x8_0_1_2_3 n)))⟩,
     ⟨S1x4096x16x8, (addf (mulf (Q2 q) (broadcastInDim S1x4096x16x8 ![0, 1, 2, 3] bcast_S1x4096x1x8_S1x4096x16x8_0_1_2_3 c)) (mulf (Q1 q) (broadcastInDim S1x4096x16x8 ![0, 1, 2, 3] bcast_S1x4096x1x8_S1x4096x16x8_0_1_2_3 n)))⟩]
    concatenates_S1x4096x16x8_S1x4096x16x8_S1x4096x16x16_d3)⟩,
    ⟨S1x4096x16x48, (extractStridedSlice S1x4096x16x48 ![0, 0, 0, 16] q slices_S1x4096x16x64_S1x4096x16x48_0_0_0_16)⟩] concatenates_S1x4096x16x16_S1x4096x16x48_S1x4096x16x64_d3

/-- The keys. -/
def K : FVec Ideal S1x4096x4x64 .f32 := shapeCast _ (broadcastInDim S1x4096x256 ![1, 2] bcast_S4096x256_S1x4096x256_1_2
  (extractStridedSlice S4096x256 ![0, 1024] A slices_S4096x6656_S4096x256_0_1024)) shapeCasts_S1x4096x256_S1x4096x4x64
def K1 (q : FVec Ideal S1x4096x4x64 .f32) : FVec Ideal S1x4096x4x8 .f32 :=
  extractStridedSlice S1x4096x4x8 ![0, 0, 0, 0] (extractStridedSlice S1x4096x4x16 ![0, 0, 0, 0] q slices_S1x4096x4x64_S1x4096x4x16_0_0_0_0) slices_S1x4096x4x16_S1x4096x4x8_0_0_0_0
def K2 (q : FVec Ideal S1x4096x4x64 .f32) : FVec Ideal S1x4096x4x8 .f32 :=
  extractStridedSlice S1x4096x4x8 ![0, 0, 0, 8] (extractStridedSlice S1x4096x4x16 ![0, 0, 0, 0] q slices_S1x4096x4x64_S1x4096x4x16_0_0_0_0) slices_S1x4096x4x16_S1x4096x4x8_0_0_0_8

/-- The keys, turned. -/
def TK (q : FVec Ideal S1x4096x4x64 .f32) (c n : FVec Ideal S1x4096x1x8 .f32) : FVec Ideal S1x4096x4x64 .f32 :=
  concatenate S1x4096x4x64 3 [⟨S1x4096x4x16, (concatenate S1x4096x4x16 3
    [⟨S1x4096x4x8, (subf (mulf (K1 q) (broadcastInDim S1x4096x4x8 ![0, 1, 2, 3] bcast_S1x4096x1x8_S1x4096x4x8_0_1_2_3 c)) (mulf (K2 q) (broadcastInDim S1x4096x4x8 ![0, 1, 2, 3] bcast_S1x4096x1x8_S1x4096x4x8_0_1_2_3 n)))⟩,
     ⟨S1x4096x4x8, (addf (mulf (K2 q) (broadcastInDim S1x4096x4x8 ![0, 1, 2, 3] bcast_S1x4096x1x8_S1x4096x4x8_0_1_2_3 c)) (mulf (K1 q) (broadcastInDim S1x4096x4x8 ![0, 1, 2, 3] bcast_S1x4096x1x8_S1x4096x4x8_0_1_2_3 n)))⟩]
    concatenates_S1x4096x4x8_S1x4096x4x8_S1x4096x4x16_d3)⟩,
    ⟨S1x4096x4x48, (extractStridedSlice S1x4096x4x48 ![0, 0, 0, 16] q slices_S1x4096x4x64_S1x4096x4x48_0_0_0_16)⟩] concatenates_S1x4096x4x16_S1x4096x4x48_S1x4096x4x64_d3

/-- The values. -/
def VL : FVec Ideal S1x4096x4x64 .f32 := shapeCast _ (broadcastInDim S1x4096x256 ![1, 2] bcast_S4096x256_S1x4096x256_1_2
  (extractStridedSlice S4096x256 ![0, 1280] A slices_S4096x6656_S4096x256_0_1280)) shapeCasts_S1x4096x256_S1x4096x4x64

/-- A block of zeros before an array's rows, and the rows in blocks. -/
def PAD (x : FVec Ideal S1x4096x4x64 .f32) : FVec Ideal S1x33x128x4x64 .f32 :=
  shapeCast _ (concatenate S1x4224x4x64 1 [⟨S1x128x4x64, (broadcastInDim S1x128x4x64 ![] bcast_S_S1x128x4x64 (constant S_ .f32 0x00000000#32))⟩, ⟨S1x4096x4x64, x⟩]
    concatenates_S1x128x4x64_S1x4096x4x64_S1x4224x4x64_d1) shapeCasts_S1x4224x4x64_S1x33x128x4x64

/-- A block's rows after the rows of the block before. -/
def TWO (x : FVec Ideal S1x33x128x4x64 .f32) : FVec Ideal S1x32x256x4x64 .f32 :=
  concatenate S1x32x256x4x64 2 [⟨S1x32x128x4x64, (extractStridedSlice S1x32x128x4x64 ![0, 0, 0, 0, 0] x slices_S1x33x128x4x64_S1x32x128x4x64_0_0_0_0_0)⟩,
    ⟨S1x32x128x4x64, (extractStridedSlice S1x32x128x4x64 ![0, 1, 0, 0, 0] x slices_S1x33x128x4x64_S1x32x128x4x64_0_1_0_0_0)⟩] concatenates_S1x32x128x4x64_S1x32x128x4x64_S1x32x256x4x64_d2

/-- How far a key lies before its row. -/
def DIF : IVec S128x256 32 := subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Where a row sees a key. -/
def SEE : IVec S32x128x256 1 := andi (broadcastInDim S32x128x256 ![0, 1, 2] bcast_S1x128x256_S32x128x256_0_1_2 (broadcastInDim S1x128x256 ![1, 2] bcast_S128x256_S1x128x256_1_2 (andi (cmpi .sge DIF (broadcastInDim S128x256 ![] bcast_S_S128x256 (constantI S_ 32 0#32))) (cmpi .slt DIF (broadcastInDim S128x256 ![] bcast_S_S128x256 (constantI S_ 32 128#32))))))
  (broadcastInDim S32x128x256 ![0, 1, 2] bcast_S32x1x256_S32x128x256_0_1_2 (broadcastInDim S32x1x256 ![0, 2] bcast_S32x256_S32x1x256_0_2 (cmpi .sge (addi (broadcastInDim S32x256 ![0, 1] bcast_S32x1_S32x256_0_1 (subi (muli (broadcastInDim S32x1 ![0] bcast_S32_S32x1_0 (iotaInDim S32 32 0)) (broadcastInDim S32x1 ![] bcast_S_S32x1 (constantI S_ 32 128#32))) (broadcastInDim S32x1 ![] bcast_S_S32x1 (constantI S_ 32 128#32)))) (broadcastInDim S32x256 ![0, 1] bcast_S1x256_S32x256_0_1 (broadcastInDim S1x256 ![1] bcast_S256_S1x256_1 (iotaInDim S256 32 0)))) (broadcastInDim S32x256 ![] bcast_S_S32x256 (constantI S_ 32 0#32)))))

/-- The scores, before the mask. -/
def SCO (k : FVec Ideal S1x32x256x4x64 .f32) (q : FVec Ideal S1x4096x16x64 .f32) : FVec Ideal S1x32x4x4x128x256 .f32 :=
  mulf (transpose S1x32x4x4x128x256 [0, 1, 2, 5, 4, 3] (Host.dotGeneral dot_S1x32x256x4x64_S1x32x128x4x4x64_S1x32x4x256x128x4_4_5_2_24_013_013 none k
    (shapeCast _ q shapeCasts_S1x4096x16x64_S1x32x128x4x4x64)) transposes_S1x32x4x256x128x4_S1x32x4x4x128x256_0_1_2_5_4_3)
    (broadcastInDim S1x32x4x4x128x256 ![] bcast_S_S1x32x4x4x128x256 (constant S_ .f32 0x3E000000#32))

/-- The scores. -/
def MSK (z : FVec Ideal S1x32x4x4x128x256 .f32) : FVec Ideal S1x32x4x4x128x256 .f32 :=
  select (broadcastInDim S1x32x4x4x128x256 ![0, 1, 2, 3, 4, 5] bcast_S1x32x1x1x128x256_S1x32x4x4x128x256_0_1_2_3_4_5 (broadcastInDim S1x32x1x1x128x256 ![1, 4, 5] bcast_S32x128x256_S1x32x1x1x128x256_1_4_5 SEE))
    z (broadcastInDim S1x32x4x4x128x256 ![] bcast_S_S1x32x4x4x128x256 (id (constant S_ .f32 0xFF800000#32)))

/-- The sinks. -/
def SNK : FVec Ideal S1x1x4x4x1x1 .f32 := broadcastInDim S1x1x4x4x1x1 ![2, 3] bcast_S4x4_S1x1x4x4x1x1_2_3 (shapeCast _ (shapeCast _ s shapeCasts_S1x16_S16) shapeCasts_S16_S4x4)

/-- The greatest score of a row, its sink among them. -/
def TOP (z : FVec Ideal S1x32x4x4x128x256 .f32) (k : FVec Ideal S1x1x4x4x1x1 .f32) : FVec Ideal S1x32x4x4x128x1 .f32 :=
  maximumf (broadcastInDim S1x32x4x4x128x1 ![0, 1, 2, 3, 4] bcast_S1x32x4x4x128_S1x32x4x4x128x1_0_1_2_3_4 (Host.reduce FloatOps.maximumf z (constant S_ .f32 0xFF800000#32) reducesTo_S1x32x4x4x128x256_S1x32x4x4x128_d5 h_S_))
    (broadcastInDim S1x32x4x4x128x1 ![0, 1, 2, 3, 4, 5] bcast_S1x1x4x4x1x1_S1x32x4x4x128x1_0_1_2_3_4_5 k)

def EXP (z : FVec Ideal S1x32x4x4x128x256 .f32) (t : FVec Ideal S1x32x4x4x128x1 .f32) : FVec Ideal S1x32x4x4x128x256 .f32 :=
  Host.exp (subf z (broadcastInDim S1x32x4x4x128x256 ![0, 1, 2, 3, 4, 5] bcast_S1x32x4x4x128x1_S1x32x4x4x128x256_0_1_2_3_4_5 t))

def DEN (e : FVec Ideal S1x32x4x4x128x256 .f32) (k : FVec Ideal S1x1x4x4x1x1 .f32) (t : FVec Ideal S1x32x4x4x128x1 .f32) : FVec Ideal S1x32x4x4x128x1 .f32 :=
  addf (broadcastInDim S1x32x4x4x128x1 ![0, 1, 2, 3, 4] bcast_S1x32x4x4x128_S1x32x4x4x128x1_0_1_2_3_4 (Host.reduceAdd e (constant S_ .f32 0x00000000#32) reducesTo_S1x32x4x4x128x256_S1x32x4x4x128_d5 h_S_))
    (Host.exp (subf (broadcastInDim S1x32x4x4x128x1 ![0, 1, 2, 3, 4, 5] bcast_S1x1x4x4x1x1_S1x32x4x4x128x1_0_1_2_3_4_5 k) t))

/-- The weights. -/
def WT (e : FVec Ideal S1x32x4x4x128x256 .f32) (d : FVec Ideal S1x32x4x4x128x1 .f32) : FVec Ideal S1x32x4x4x128x256 .f32 :=
  Host.divf e (broadcastInDim S1x32x4x4x128x256 ![0, 1, 2, 3, 4, 5] bcast_S1x32x4x4x128x1_S1x32x4x4x128x256_0_1_2_3_4_5 d)

/-- What the heads read. -/
def RD (v : FVec Ideal S1x32x256x4x64 .f32) (w : FVec Ideal S1x32x4x4x128x256 .f32) : FVec Ideal S1x32x128x4x4x64 .f32 :=
  transpose S1x32x128x4x4x64 [0, 1, 5, 2, 4, 3] (Host.dotGeneral dot_S1x32x256x4x64_S1x32x4x4x128x256_S1x32x4x64x4x128_2_5_4_34_013_012 none v w)
    transposes_S1x32x4x64x4x128_S1x32x128x4x4x64_0_1_5_2_4_3

/-- The gate. -/
def G : FVec Ideal S1x4096x1024 .f32 := broadcastInDim S1x4096x1024 ![1, 2] bcast_S4096x1024_S1x4096x1024_1_2 (extractStridedSlice S4096x1024 ![0, 1536] A slices_S4096x6656_S4096x1024_0_1536)

/-- What the heads return. -/
def FIN (o : FVec Ideal S1x32x128x4x4x64 .f32) (g : FVec Ideal S1x4096x1024 .f32) : FVec Ideal S4096x1024 .bf16 :=
  truncf .bf16 (shapeCast _ (mulf (shapeCast _ o shapeCasts_S1x32x128x4x4x64_S1x4096x1024) (mulf g (Host.divf (broadcastInDim S1x4096x1024 ![] bcast_S_S1x4096x1024 (constant S_ .f32 0x3F800000#32)) (addf (broadcastInDim S1x4096x1024 ![] bcast_S_S1x4096x1024 (constant S_ .f32 0x3F800000#32)) (Host.exp (Host.negf g)))))) shapeCasts_S1x4096x1024_S4096x1024) bitsLt_bf16_f32

def ZS : FVec Ideal S1x32x4x4x128x256 .f32 := SCO (TWO (PAD (TK (K A) (CS p) (SN p)))) (TQ (Q A) (CS p) (SN p))
def MZ : FVec Ideal S1x32x4x4x128x256 .f32 := MSK (ZS A p)
def TP : FVec Ideal S1x32x4x4x128x1 .f32 := TOP (MZ A p) (SNK s)
def EX : FVec Ideal S1x32x4x4x128x256 .f32 := EXP (MZ A p) (TP A p s)
def WW : FVec Ideal S1x32x4x4x128x256 .f32 := WT (EX A p s) (DEN (EX A p s) (SNK s) (TP A p s))
/-- The weights of the heads, each of a row's columns with the one key it sees there. -/
def COLS (w : FVec Ideal S1x32x4x4x128x256 .f32) : FVec Ideal S4096x2048 .f32 :=
  shapeCast _ (transpose S32x128x4x2x2x128 [0, 4, 1, 3, 2, 5] (shapeCast _ (addf
    (extractStridedSlice S32x4x4x128x128 ![0, 0, 0, 0, 0] (shapeCast S32x4x4x128x256 w shapeCasts_S1x32x4x4x128x256_S32x4x4x128x256) slices_S32x4x4x128x256_S32x4x4x128x128_0_0_0_0_0)
    (extractStridedSlice S32x4x4x128x128 ![0, 0, 0, 0, 128] (shapeCast S32x4x4x128x256 w shapeCasts_S1x32x4x4x128x256_S32x4x4x128x256) slices_S32x4x4x128x256_S32x4x4x128x128_0_0_0_0_128))
    shapeCasts_S32x4x4x128x128_S32x4x2x2x128x128) transposes_S32x4x2x2x128x128_S32x128x4x2x2x128_0_4_1_3_2_5) shapeCasts_S32x128x4x2x2x128_S4096x2048

def QF (q : FVec Ideal S1x4096x16x64 .f32) : FVec Ideal S4096x1024 .bf16 :=
  truncf .bf16 (shapeCast _ (mulf (shapeCast _ q shapeCasts_S1x4096x16x64_S4096x16x64) (broadcastInDim S4096x16x64 ![] bcast_S_S4096x16x64 (constant S_ .f32 0x3E000000#32)))
    shapeCasts_S4096x16x64_S4096x1024) bitsLt_bf16_f32
def KF (k : FVec Ideal S1x4096x4x64 .f32) : FVec Ideal S4096x256 .bf16 :=
  truncf .bf16 (shapeCast _ (shapeCast _ k shapeCasts_S1x4096x4x64_S4096x4x64) shapeCasts_S4096x4x64_S4096x256) bitsLt_bf16_f32

def QO : FVec Ideal S4096x1024 .bf16 := QF (TQ (Q A) (CS p) (SN p))
def KO : FVec Ideal S4096x256 .bf16 := KF (TK (K A) (CS p) (SN p))
def PO : FVec Ideal S4096x2048 .f32 := COLS (WW A p s)
def OUT : FVec Ideal S4096x1024 .bf16 := FIN (RD (TWO (PAD (VL A))) (WW A p s)) (G A)
end Arrays

section Run
variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
    r.2.mem ((c.tc : Thread nD τ).loc main_v161) = OUT (m ((c.tc : Thread nD τ).loc main_arg0)) (m ((c.tc : Thread nD τ).loc main_arg1)) (m ((c.tc : Thread nD τ).loc main_arg2))
    ∧ r.2.mem ((c.tc : Thread nD τ).loc main_v163) = QO (m ((c.tc : Thread nD τ).loc main_arg0)) (m ((c.tc : Thread nD τ).loc main_arg1))
    ∧ r.2.mem ((c.tc : Thread nD τ).loc main_v166) = KO (m ((c.tc : Thread nD τ).loc main_arg0)) (m ((c.tc : Thread nD τ).loc main_arg1))
    ∧ r.2.mem ((c.tc : Thread nD τ).loc main_v173) = PO (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h c).1.trans rfl, (h c).2.1.trans rfl, (h c).2.2.1.trans rfl, (h c).2.2.2.1.trans rfl, (h c).2.2.2.2⟩) (Cert.Reference12Ideal.Value.run m ρ)

end Run

end Cert.AttRef

end
-- ==== Proof.AttMask.lean ====
/- The attention as the plain program computes it: where a row sees a key. -/
module

public import proofs.«01_k».proof.Proof.AttRef
public import proofs.«01_k».proof.Proof.AttSpec
public import Idealize.ShloMosaic.Lib.Pipeline.ValueKit
public import Idealize.ShloMosaic.Lib.KernelVsHost

@[expose] public section

set_option maxRecDepth 65536
set_option maxHeartbeats 1000000

noncomputable section

namespace Cert.AttRef

open Cert.Reference12Ideal Cert.Reference12Ideal.Gen Idealize.ShloMosaic Idealize.ShloMosaic.TcCoe Idealize.SL.Sem
open Cert.Att (rope rq rk rv key row kh score res e8 ms top den wt att att_congr Ok score_real)
open Cert.Kernel12Ideal.Att (ang okp sel_if bot_bits)

theorem see_row : ∀ (r : Fin 128) (u : Fin 256), IntOp.andi
    (IntOp.cmpi CmpIPredicate.sge (IntOp.subi (IntOp.addi (BitVec.ofNat 32 r.val) 128#32) (BitVec.ofNat 32 u.val)) 0#32)
    (IntOp.cmpi CmpIPredicate.slt (IntOp.subi (IntOp.addi (BitVec.ofNat 32 r.val) 128#32) (BitVec.ofNat 32 u.val)) 128#32)
    = BitVec.ofBool (decide (r.val < u.val ∧ u.val ≤ r.val + 128)) := by
  have h1 : ∀ (r : Fin 128) (u : Fin 256), IntOp.subi (IntOp.addi (BitVec.ofNat 32 r.val) 128#32) (BitVec.ofNat 32 u.val)
      = BitVec.ofInt 32 (((r.val + 255 - u.val : ℕ) : ℤ) - 127) := fun r u => by
    unfold IntOp.subi IntOp.addi
    apply BitVec.eq_of_toNat_eq
    rw [BitVec.toNat_ofInt]
    simp
    omega
  have h2 : ∀ n : Fin 383, IntOp.andi (IntOp.cmpi CmpIPredicate.sge (BitVec.ofInt 32 ((n.val : ℤ) - 127)) 0#32)
      (IntOp.cmpi CmpIPredicate.slt (BitVec.ofInt 32 ((n.val : ℤ) - 127)) 128#32) = BitVec.ofBool (decide (127 ≤ n.val ∧ n.val < 255)) := by decide +kernel
  intro r u
  rw [h1]
  refine (h2 ⟨r.val + 255 - u.val, by omega⟩).trans (congrArg BitVec.ofBool (decide_eq_decide.2 ?_))
  constructor <;> intro h <;> simp at h ⊢ <;> omega

theorem see_block : ∀ (b : Fin 32) (u : Fin 256), IntOp.cmpi CmpIPredicate.sge
    (IntOp.addi (IntOp.subi (IntOp.muli (BitVec.ofNat 32 b.val) 128#32) 128#32) (BitVec.ofNat 32 u.val)) 0#32
    = BitVec.ofBool (decide (b.val = 0 → 128 ≤ u.val)) := by decide +kernel

theorem SEE_at (b : Fin 32) (r : Fin 128) (u : Fin 256) : SEE (ix3 b r u) = BitVec.ofBool (decide (okp (b.val = 0) r.val u)) := by
  pointwise [SEE, DIF]
  rw [see_row, see_block]
  by_cases h : r.val < u.val ∧ u.val ≤ r.val + 128 <;> by_cases h' : b.val = 0 → 128 ≤ u.val
  · rw [decide_eq_true h, decide_eq_true h', decide_eq_true (show okp (b.val = 0) r.val u from ⟨h.1, h.2, h'⟩)]; rfl
  · rw [decide_eq_true h, decide_eq_false h', decide_eq_false fun k : okp (b.val = 0) r.val u => h' k.2.2]; rfl
  · rw [decide_eq_false h, decide_eq_true h', decide_eq_false fun k : okp (b.val = 0) r.val u => h ⟨k.1, k.2.1⟩]; rfl
  · rw [decide_eq_false h, decide_eq_false h', decide_eq_false fun k : okp (b.val = 0) r.val u => h' k.2.2]; rfl

end Cert.AttRef

end
-- ==== Proof.AttAt.lean ====
/- The attention as the plain program computes it: each array at an index. -/
module

public import proofs.«01_k».proof.Proof.AttMask
public import proofs.«01_k».proof.Proof.AttSpec
public import Idealize.ShloMosaic.Lib.Pipeline.ValueKit
public import Idealize.ShloMosaic.Lib.KernelVsHost

@[expose] public section

set_option maxRecDepth 65536
set_option maxHeartbeats 1000000

noncomputable section

namespace Cert.AttRef

open Cert.Reference12Ideal Cert.Reference12Ideal.Gen Idealize.ShloMosaic Idealize.ShloMosaic.TcCoe Idealize.SL.Sem
open Cert.Att (rope rq rk rv key row kh score res e8 ms top den wt att att_congr Ok score_real)
open Cert.Kernel12Ideal.Att (ang okp sel_if bot_bits)

/-- A query head of a key head. -/
def hd (g j : Fin 4) : Fin 16 := ⟨4 * g.val + j.val, by omega⟩

section At
variable (A : FVec Ideal S4096x6656 .f32) (p : IVec S1x4096 32) (s : FVec Ideal S1x16 .f32)

theorem ANG_at (i : Fin 4096) (j : Fin 8) : ANG p (ix3 0 i j) = ang p i j := by
  unfold ang Cert.Kernel12Ideal.Att.inv
  pointwise [ANG, Cert.Kernel12Ideal.Att.INV]
  rfl

theorem CS_at (i : Fin 4096) (j : Fin 8) : CS p (ix4 0 i 0 j) = Ideal.cos (ang p i j) := by
  rw [← ANG_at]
  unfold CS
  generalize ANG p = a
  pointwise

theorem SN_at (i : Fin 4096) (j : Fin 8) : SN p (ix4 0 i 0 j) = Ideal.sin (ang p i j) := by
  rw [← ANG_at]
  unfold SN
  generalize ANG p = a
  pointwise

theorem Q_at (i : Fin 4096) (h : Fin 16) (d : Fin 64) : Q A (ix4 0 i h d) = A (ix2 i ⟨64 * h.val + d.val, by omega⟩) := by
  pointwise [Q]
  exact congrArg (fun z => A (ix2 i z)) (Fin.ext (by simp <;> omega))

theorem K_at (i : Fin 4096) (h : Fin 4) (d : Fin 64) : K A (ix4 0 i h d) = A (ix2 i ⟨1024 + (64 * h.val + d.val), by omega⟩) := by
  pointwise [K]
  exact congrArg (fun z => A (ix2 i z)) (Fin.ext (by simp <;> omega))

theorem VL_at (i : Fin 4096) (h : Fin 4) (d : Fin 64) : VL A (ix4 0 i h d) = A (ix2 i ⟨1280 + (64 * h.val + d.val), by omega⟩) := by
  pointwise [VL]
  exact congrArg (fun z => A (ix2 i z)) (Fin.ext (by simp <;> omega))

theorem TQ_at (q : FVec Ideal S1x4096x16x64 .f32) (c n : FVec Ideal S1x4096x1x8 .f32) (i : Fin 4096) (h : Fin 16) (d : Fin 64) :
    TQ q c n (ix4 0 i h d) = rope (fun j => c (ix4 0 i 0 j)) (fun j => n (ix4 0 i 0 j)) (fun d => q (ix4 0 i h d)) d := by
  have e : ∀ a b : Fin 64, a.val = b.val → q (ix4 0 i h a) = q (ix4 0 i h b) := fun a b h => by rw [Fin.ext h]
  unfold rope
  pointwise [TQ, Q1, Q2]
  by_cases h8 : d.val < 8
  · rw [dif_pos h8, dif_pos (by omega : d.val < 16), dif_pos h8, e ⟨8 + d.val, by omega⟩ ⟨d.val + 8, by omega⟩ (Nat.add_comm _ _)]
  · by_cases h16 : d.val < 16
    · rw [dif_neg h8, dif_pos h16, dif_pos h16, dif_neg h8, e ⟨8 + (d.val - 8), by omega⟩ d (by simp <;> omega)]
    · rw [dif_neg h8, dif_neg h16, dif_neg h16, e ⟨16 + (d.val - 16), by omega⟩ d (by simp <;> omega)]

theorem TK_at (q : FVec Ideal S1x4096x4x64 .f32) (c n : FVec Ideal S1x4096x1x8 .f32) (i : Fin 4096) (h : Fin 4) (d : Fin 64) :
    TK q c n (ix4 0 i h d) = rope (fun j => c (ix4 0 i 0 j)) (fun j => n (ix4 0 i 0 j)) (fun d => q (ix4 0 i h d)) d := by
  have e : ∀ a b : Fin 64, a.val = b.val → q (ix4 0 i h a) = q (ix4 0 i h b) := fun a b h => by rw [Fin.ext h]
  unfold rope
  pointwise [TK, K1, K2]
  by_cases h8 : d.val < 8
  · rw [dif_pos h8, dif_pos (by omega : d.val < 16), dif_pos h8, e ⟨8 + d.val, by omega⟩ ⟨d.val + 8, by omega⟩ (Nat.add_comm _ _)]
  · by_cases h16 : d.val < 16
    · rw [dif_neg h8, dif_pos h16, dif_pos h16, dif_neg h8, e ⟨8 + (d.val - 8), by omega⟩ d (by simp <;> omega)]
    · rw [dif_neg h8, dif_neg h16, dif_neg h16, e ⟨16 + (d.val - 16), by omega⟩ d (by simp <;> omega)]

theorem PAD_lo (x : FVec Ideal S1x4096x4x64 .f32) (v : Fin 128) (g : Fin 4) (d : Fin 64) : PAD x (ix5 0 0 v g d) = (0 : EReal) := by
  pointwise [PAD]

theorem PAD_up (x : FVec Ideal S1x4096x4x64 .f32) (b : Fin 32) (v : Fin 128) (g : Fin 4) (d : Fin 64) :
    PAD x (ix5 0 ⟨b.val + 1, by omega⟩ v g d) = x (ix4 0 ⟨128 * b.val + v.val, by omega⟩ g d) := by
  pointwise [PAD]
  rw [dif_neg (by omega)]
  exact congrArg (fun z => x (ix4 0 z g d)) (Fin.ext (by simp <;> omega))

theorem TWO_lo (x : FVec Ideal S1x33x128x4x64 .f32) (b : Fin 32) (u : Fin 256) (g : Fin 4) (d : Fin 64) (h : u.val < 128) :
    TWO x (ix5 0 b u g d) = x (ix5 0 ⟨b.val, by omega⟩ ⟨u.val, h⟩ g d) := by
  pointwise [TWO]
  rw [dif_pos h]

theorem TWO_up (x : FVec Ideal S1x33x128x4x64 .f32) (b : Fin 32) (u : Fin 256) (g : Fin 4) (d : Fin 64) (h : ¬ u.val < 128) :
    TWO x (ix5 0 b u g d) = x (ix5 0 ⟨b.val + 1, by omega⟩ ⟨u.val - 128, by omega⟩ g d) := by
  pointwise [TWO]
  rw [dif_neg h]
  exact congrArg (fun z => x (ix5 0 z ⟨u.val - 128, by omega⟩ g d)) (Fin.ext (Nat.add_comm _ _))

/-- A row that a block's rows see is a row of the array. -/
theorem KEY_at (x : FVec Ideal S1x4096x4x64 .f32) (b : Fin 32) (u : Fin 256) (g : Fin 4) (d : Fin 64) (h : b.val = 0 → 128 ≤ u.val) :
    TWO (PAD x) (ix5 0 b u g d) = x (ix4 0 (key b u) g d) := by
  by_cases hu : u.val < 128
  · obtain ⟨c, rfl⟩ : ∃ c : Fin 31, b = ⟨c.val + 1, by omega⟩ := ⟨⟨b.val - 1, by omega⟩, Fin.ext (by simp <;> omega)⟩
    rw [TWO_lo _ _ _ _ _ hu]
    refine (PAD_up x ⟨c.val, by omega⟩ ⟨u.val, hu⟩ g d).trans ?_
    exact congrArg (fun z => x (ix4 0 z g d)) (Fin.ext (by simp [key, hu]))
  · rw [TWO_up _ _ _ _ _ hu, PAD_up]
    exact congrArg (fun z => x (ix4 0 z g d)) (Fin.ext (by simp [key, hu]))

theorem SCO_at (k : FVec Ideal S1x32x256x4x64 .f32) (q : FVec Ideal S1x4096x16x64 .f32) (b : Fin 32) (g j : Fin 4) (r : Fin 128) (u : Fin 256) :
    SCO k q (ix6 0 b g j r u) = (∑ d, q (ix4 0 (row b r) (hd g j) d) * k (ix5 0 b u g d)) * e8 := by
  have e1 : ∀ h1, (⟨b.val * 128 + r.val, h1⟩ : Fin 4096) = row b r := fun _ => Fin.ext (by simp [row, Nat.mul_comm])
  have e2 : ∀ h1, (⟨g.val * 4 + j.val, h1⟩ : Fin 16) = hd g j := fun _ => Fin.ext (by simp [hd, Nat.mul_comm])
  pointwise [SCO]
  refine congrArg (· * e8) (Finset.sum_congr rfl fun d _ => ?_)
  rw [mul_comm, e1, e2]

theorem MSK_at (z : FVec Ideal S1x32x4x4x128x256 .f32) (b : Fin 32) (g j : Fin 4) (r : Fin 128) (u : Fin 256) :
    MSK z (ix6 0 b g j r u) = ms (okp (b.val = 0) r.val) (fun u => z (ix6 0 b g j r u)) u := by
  have hs := SEE_at b r u
  unfold MSK
  generalize SEE = e at hs
  pointwise
  rw [hs, sel_if]
  unfold ms
  refine if_congr Iff.rfl rfl ?_
  exact bot_bits

theorem SNK_at (g j : Fin 4) : SNK s (ix6 0 0 g j 0 0) = s (ix2 0 (hd g j)) := by
  pointwise [SNK]
  exact congrArg (fun z => s (ix2 0 z)) (Fin.ext (by simp [hd, Nat.mul_comm]))

theorem red : Shape.Reduces S1x32x4x4x128x256 [5] S1x32x4x4x128 := by decide

theorem lift_at (b : Fin 32) (g j : Fin 4) (r : Fin 128) (u : Fin 256) : red.lift (ix5 0 b g j r) u = ix6 0 b g j r u := by
  funext a
  fin_cases a <;> rfl

theorem MAX_at (z : FVec Ideal S1x32x4x4x128x256 .f32) (b : Fin 32) (g j : Fin 4) (r : Fin 128) :
    Host.reduce FloatOps.maximumf z (constant S_ .f32 0xFF800000#32) reducesTo_S1x32x4x4x128x256_S1x32x4x4x128_d5 h_S_ (ix5 0 b g j r)
      = (Finset.univ : Finset (Fin 256)).fold max ⊥ (fun u => z (ix6 0 b g j r u)) := by
  rw [hostReduce_maximumf_eq_multiReduction z 0xFF800000#32 reducesTo_S1x32x4x4x128x256_S1x32x4x4x128_d5 h_S_ red (by decide) (by decide)]
  refine (Idealize.ShloMosaic.Ideal.multiReduction_maximumf_single z _ red _ _ _).trans ?_
  rw [← bot_bits]
  exact congrArg (fun f => (Finset.univ : Finset (Fin 256)).fold max (Ideal.ofBits FTy.f32 4286578688#32) f) (funext fun u => congrArg z (lift_at b g j r u))

theorem up_w (w : FVec Ideal S1x32x4x4x128 .f32) (b : Fin 32) (g j : Fin 4) (r : Fin 128) :
    broadcastInDim S1x32x4x4x128x1 ![0, 1, 2, 3, 4] bcast_S1x32x4x4x128_S1x32x4x4x128x1_0_1_2_3_4 w (ix6 0 b g j r 0) = w (ix5 0 b g j r) := by
  pointwise

theorem up_k (k : FVec Ideal S1x1x4x4x1x1 .f32) (b : Fin 32) (g j : Fin 4) (r : Fin 128) :
    broadcastInDim S1x32x4x4x128x1 ![0, 1, 2, 3, 4, 5] bcast_S1x1x4x4x1x1_S1x32x4x4x128x1_0_1_2_3_4_5 k (ix6 0 b g j r 0) = k (ix6 0 0 g j 0 0) := by
  pointwise

theorem max_at (x y : FVec Ideal S1x32x4x4x128x1 .f32) (i : S1x32x4x4x128x1.Idx) : maximumf x y i = max (x i) (y i) := rfl

theorem TOP_at (z : FVec Ideal S1x32x4x4x128x256 .f32) (k : FVec Ideal S1x1x4x4x1x1 .f32) (b : Fin 32) (g j : Fin 4) (r : Fin 128) :
    TOP z k (ix6 0 b g j r 0) = top (fun u => z (ix6 0 b g j r u)) (k (ix6 0 0 g j 0 0)) := by
  unfold TOP top
  rw [max_at, up_w, up_k, MAX_at]

theorem EXP_at (z : FVec Ideal S1x32x4x4x128x256 .f32) (t : FVec Ideal S1x32x4x4x128x1 .f32) (b : Fin 32) (g j : Fin 4) (r : Fin 128) (u : Fin 256) :
    EXP z t (ix6 0 b g j r u) = Ideal.exp (z (ix6 0 b g j r u) - t (ix6 0 b g j r 0)) := by
  pointwise [EXP]

theorem DEN_at (e : FVec Ideal S1x32x4x4x128x256 .f32) (k : FVec Ideal S1x1x4x4x1x1 .f32) (t : FVec Ideal S1x32x4x4x128x1 .f32) (b : Fin 32) (g j : Fin 4) (r : Fin 128) :
    DEN e k t (ix6 0 b g j r 0) = ∑ u, e (ix6 0 b g j r u) + Ideal.exp (k (ix6 0 0 g j 0 0) - t (ix6 0 b g j r 0)) := by
  pointwise [DEN]
  refine congrArg (· + _) ((Idealize.ShloMosaic.Ideal.hostReduceAdd_single reducesTo_S1x32x4x4x128x256_S1x32x4x4x128_d5 red e 0 _).trans ?_)
  rw [zero_add]
  exact Finset.sum_congr rfl fun u _ => congrArg e (lift_at b g j r u)

theorem WT_at (e : FVec Ideal S1x32x4x4x128x256 .f32) (t : FVec Ideal S1x32x4x4x128x1 .f32) (b : Fin 32) (g j : Fin 4) (r : Fin 128) (u : Fin 256) :
    WT e t (ix6 0 b g j r u) = Ideal.div (e (ix6 0 b g j r u)) (t (ix6 0 b g j r 0)) := by
  pointwise [WT]

theorem RD_at (v : FVec Ideal S1x32x256x4x64 .f32) (w : FVec Ideal S1x32x4x4x128x256 .f32) (b : Fin 32) (g j : Fin 4) (r : Fin 128) (d : Fin 64) :
    RD v w (ix6 0 b r g j d) = ∑ u, v (ix5 0 b u g d) * w (ix6 0 b g j r u) := by
  pointwise [RD]

theorem FIN_at (o : FVec Ideal S1x32x128x4x4x64 .f32) (a : FVec Ideal S1x4096x1024 .f32) (b : Fin 32) (r : Fin 128) (g j : Fin 4) (d : Fin 64) :
    FIN o a (ix2 ⟨128 * b.val + r.val, by omega⟩ ⟨64 * (4 * g.val + j.val) + d.val, by omega⟩) = o (ix6 0 b r g j d)
      * (a (ix3 0 ⟨128 * b.val + r.val, by omega⟩ ⟨64 * (4 * g.val + j.val) + d.val, by omega⟩)
        * Ideal.div 1 (1 + Ideal.exp (-a (ix3 0 ⟨128 * b.val + r.val, by omega⟩ ⟨64 * (4 * g.val + j.val) + d.val, by omega⟩)))) := by
  pointwise [FIN]

theorem G_at (i : Fin 4096) (j : Fin 1024) : G A (ix3 0 i j) = A (ix2 i ⟨1536 + j.val, by omega⟩) := by
  pointwise [G]
end At
end Cert.AttRef

end
-- ==== Proof.AttOut.lean ====
/- The attention as the plain program computes it: what it returns, at an index. -/
module

public import proofs.«01_k».proof.Proof.AttAt
public import proofs.«01_k».proof.Proof.AttSpec
public import Idealize.ShloMosaic.Lib.Pipeline.ValueKit
public import Idealize.ShloMosaic.Lib.KernelVsHost

@[expose] public section

set_option maxRecDepth 65536
set_option maxHeartbeats 1000000

noncomputable section

namespace Cert.AttRef

open Cert.Reference12Ideal Cert.Reference12Ideal.Gen Idealize.ShloMosaic Idealize.ShloMosaic.TcCoe Idealize.SL.Sem
open Cert.Att (rope rq rk rv key row kh score res e8 ms top den wt att att_congr Ok score_real)
open Cert.Kernel12Ideal.Att (ang okp sel_if bot_bits)

section Out
variable (A : FVec Ideal S4096x6656 .f32) (p : IVec S1x4096 32) (s : FVec Ideal S1x16 .f32)

theorem q_at (i : Fin 4096) (h : Fin 16) (d : Fin 64) : TQ (Q A) (CS p) (SN p) (ix4 0 i h d) = rq A p i h d := by
  rw [TQ_at]
  unfold rq
  simp only [CS_at, SN_at, Q_at]

theorem k_at (i : Fin 4096) (h : Fin 4) (d : Fin 64) : TK (K A) (CS p) (SN p) (ix4 0 i h d) = rk A p i h d := by
  rw [TK_at]
  unfold rk
  simp only [CS_at, SN_at, K_at]

theorem kh_hd (g j : Fin 4) : kh (hd g j) = g := Fin.ext (by simp [kh, hd] <;> omega)

theorem zs_at (b : Fin 32) (g j : Fin 4) (r : Fin 128) (u : Fin 256) (h : b.val = 0 → 128 ≤ u.val) :
    ZS A p (ix6 0 b g j r u) = score A p b r (hd g j) u := by
  unfold ZS score
  rw [SCO_at, kh_hd]
  refine congrArg (· * e8) (Finset.sum_congr rfl fun d _ => ?_)
  rw [q_at, KEY_at _ _ _ _ _ h, k_at]

theorem v_at (b : Fin 32) (g j : Fin 4) (u : Fin 256) (d : Fin 64) (h : b.val = 0 → 128 ≤ u.val) :
    TWO (PAD (VL A)) (ix5 0 b u g d) = rv A (key b u) (kh (hd g j)) d := by
  rw [KEY_at _ _ _ _ _ h, VL_at, kh_hd]
  rfl

theorem ww_at (b : Fin 32) (g j : Fin 4) (r : Fin 128) (u : Fin 256) :
    WW A p s (ix6 0 b g j r u) = wt (ms (okp (b.val = 0) r.val) (fun u => ZS A p (ix6 0 b g j r u))) (s (ix2 0 (hd g j))) u := by
  have hz : (fun u => MZ A p (ix6 0 b g j r u)) = ms (okp (b.val = 0) r.val) (fun u => ZS A p (ix6 0 b g j r u)) := funext fun u => MSK_at _ b g j r u
  have ht : TP A p s (ix6 0 b g j r 0) = top (ms (okp (b.val = 0) r.val) (fun u => ZS A p (ix6 0 b g j r u))) (s (ix2 0 (hd g j))) := by
    unfold TP
    rw [TOP_at, SNK_at, hz]
  have he : ∀ u, EX A p s (ix6 0 b g j r u) = Ideal.exp (ms (okp (b.val = 0) r.val) (fun u => ZS A p (ix6 0 b g j r u)) u
      - top (ms (okp (b.val = 0) r.val) (fun u => ZS A p (ix6 0 b g j r u))) (s (ix2 0 (hd g j)))) := fun u => by
    unfold EX
    rw [EXP_at, ht, ← hz]
  unfold WW wt den
  rw [WT_at, DEN_at, SNK_at, ht, he]
  simp only [he]

/-- What the plain program returns, at an index. -/
theorem out_at (hA : Ok A s) (b : Fin 32) (r : Fin 128) (g j : Fin 4) (d : Fin 64) :
    OUT A p s (ix2 ⟨128 * b.val + r.val, by omega⟩ ⟨64 * (4 * g.val + j.val) + d.val, by omega⟩) = res A p s b r (hd g j) d := by
  obtain ⟨k, hk⟩ := hA.2 (hd g j)
  have ho : RD (TWO (PAD (VL A))) (WW A p s) (ix6 0 b r g j d)
      = att (okp (b.val = 0) r.val) (score A p b r (hd g j)) (s (ix2 0 (hd g j))) (fun u => rv A (key b u) (kh (hd g j)) d) := by
    rw [RD_at, hk, ← att_congr (okp (b.val = 0) r.val) (fun u => ZS A p (ix6 0 b g j r u)) (score A p b r (hd g j)) k
      (fun u => TWO (PAD (VL A)) (ix5 0 b u g d)) (fun u => rv A (key b u) (kh (hd g j)) d) (fun u h => zs_at A p b g j r u h.2.2) (fun u h => v_at A b g j u d h.2.2)
      (fun u _ => (score_real A p s hA b r (hd g j) u).ne_top)]
    unfold att
    refine Finset.sum_congr rfl fun u _ => ?_
    rw [ww_at, hk, mul_comm]
  unfold OUT
  rw [FIN_at, ho, G_at]
  rfl
end Out

end Cert.AttRef

end
-- ==== Proof.AttFin.lean ====
/- What the attention's call writes over its grid: the plain program's array. -/
module

public import proofs.«01_k».proof.Proof.AttWin
public import proofs.«01_k».proof.Proof.AttOut

@[expose] public section

set_option maxRecDepth 65536
set_option maxHeartbeats 2000000

noncomputable section

namespace Cert.Kernel12Ideal.Att

open Cert.Kernel12Ideal Cert.Kernel12Ideal.Gen Idealize.ShloMosaic Idealize.ShloMosaic.TcCoe Idealize.SL.Sem
open Cert.Att

theorem idx12 : ∀ t : Fin cfg0.N, win0_12.index t = ![t.val, 0] := by decide +kernel

section
variable (m : (ℓ : Loc nD τ sig) → Buf (Elt Ideal) ℓ) (c : Dev nD)

theorem y_out (t : Fin cfg0.N) (hA : Ok (A m c) (S m c)) (r : Fin 128) (j : Fin 1024) :
    (pt m c t).y (ix2 r j) = Cert.AttRef.OUT (A m c) (B m c) (S m c) (ix2 ⟨128 * t.val + r.val, by have := lt32 t; omega⟩ j) := by
  have hj : ∀ (a b : Fin 4) (d : Fin 64) (h : 64 * (Cert.AttRef.hd a b).val + d.val < 1024), a.val = j.val / 256 → b.val = j.val / 64 % 4 → d.val = j.val % 64 →
      (⟨64 * (Cert.AttRef.hd a b).val + d.val, h⟩ : Fin 1024) = j :=
    fun a b d h h1 h2 h3 => Fin.ext (by simp [Cert.AttRef.hd] <;> omega)
  have h1 := y_res m c t hA r (Cert.AttRef.hd ⟨j.val / 256, by omega⟩ ⟨j.val / 64 % 4, by omega⟩) ⟨j.val % 64, by omega⟩
  have h2 := Cert.AttRef.out_at (A m c) (B m c) (S m c) hA (blk t) r ⟨j.val / 256, by omega⟩ ⟨j.val / 64 % 4, by omega⟩ ⟨j.val % 64, by omega⟩
  rw [hj _ _ _ _ rfl rfl rfl] at h1
  refine h1.trans (h2.symm.trans ?_)
  exact congrArg (fun z => Cert.AttRef.OUT (A m c) (B m c) (S m c) (ix2 ⟨128 * t.val + r.val, by have := lt32 t; omega⟩ z)) (hj _ _ _ _ rfl rfl rfl)

theorem final (hA : Ok (A m c) (S m c)) : (dats m 0 c).arrAt 12 cfg0.N = Cert.AttRef.OUT (A m c) (B m c) (S m c) := by
  refine (dats m 0 c).arrAt_eq_of_covers 12 _ (by decide +kernel) fun t hf y => ?_
  have e : ∀ y : S128x1024.Idx, (win0_12.blk t).view.emb y = (ix2 (⟨128 * t.val + (y 0).val, by have := lt32 t; have := (y 0).isLt; simp at this; omega⟩) (y 1) : S4096x1024.Idx) :=
    fun y => by blk_point [idx12 t]
  blk_simp
  rw [after0_12]
  have hr : ∀ y : S128x1024.Idx, (outsAt0 m c t).1 y = Cert.AttRef.OUT (A m c) (B m c) (S m c) (ix2 (⟨128 * t.val + (y 0).val, by have := lt32 t; have := (y 0).isLt; simp at this; omega⟩) (y 1)) := fun y => by
    have := y_out m c t hA (y 0) (y 1)
    rw [show (ix2 (y 0) (y 1) : S128x1024.Idx) = y from by idx_vars y] at this
    rw [out_eq]
    exact this
  exact (hr y).trans (congrArg (Cert.AttRef.OUT (A m c) (B m c) (S m c)) (e y).symm)
end

end Cert.Kernel12Ideal.Att

end
-- ==== Proof.AttPn.lean ====
/- The attention kernel's other three blocks: the turned queries, the turned keys, the weights. -/
module

public import proofs.«01_k».proof.Proof.AttWin

@[expose] public section

set_option maxRecDepth 65536
set_option maxHeartbeats 2000000

noncomputable section

namespace Cert.Att

/-- The weight that a row gives a column: of the column's two keys, one block apart, the row sees at most one. -/
def cw (ok : Fin 256 → Prop) [DecidablePred ok] (s : Fin 256 → EReal) (k : EReal) (j : Fin 128) : EReal :=
  wt (ms ok s) k (ilo j) + wt (ms ok s) k (iup j)

end Cert.Att

namespace Cert.Kernel12Ideal.Att

open Cert.Kernel12Ideal Cert.Kernel12Ideal.Gen Idealize.ShloMosaic Idealize.ShloMosaic.TcCoe Idealize.SL.Sem
open Idealize.ShloMosaic.Pipeline (Dat)
open Cert.Att

/-- The rows of one of four heads. -/
def GA (w : FVec Ideal S512x128 .f32) : FVec Ideal S128x128 .f32 := extractStridedSlice S128x128 ![0, 0] w slices_S512x128_o0_0_S128x128
def GB (w : FVec Ideal S512x128 .f32) : FVec Ideal S128x128 .f32 := extractStridedSlice S128x128 ![128, 0] w slices_S512x128_o128_0_S128x128
def GC (w : FVec Ideal S512x128 .f32) : FVec Ideal S128x128 .f32 := extractStridedSlice S128x128 ![256, 0] w slices_S512x128_o256_0_S128x128
def GD (w : FVec Ideal S512x128 .f32) : FVec Ideal S128x128 .f32 := extractStridedSlice S128x128 ![384, 0] w slices_S512x128_o384_0_S128x128

/-- The weights of four query heads. -/
def PW (n : BitVec 32) (a b : FVec Ideal S128x128 .f32) (k : FVec Ideal S512x128 .bf16) (s0 s1 s2 s3 : Elt Ideal .f32) : FVec Ideal S512x128 .f32 :=
  PN (FM OWN (NOK n) (SC a b k)) (COL s0 s1 s2 s3)

section
variable (P : Pt)
def Pt.w0 : FVec Ideal S512x128 .f32 := PW P.n (Q0 P.qr) (Q1 P.qr) (EV (KV0 P.kr' P.kr)) P.s0 P.s2 P.s1 P.s3
def Pt.w1 : FVec Ideal S512x128 .f32 := PW P.n (Q2 P.qr) (Q3 P.qr) (OD (KV0 P.kr' P.kr)) P.s4 P.s6 P.s5 P.s7
def Pt.w2 : FVec Ideal S512x128 .f32 := PW P.n (Q4 P.qr) (Q5 P.qr) (EV (KV1 P.kr' P.kr)) P.s8 P.s10 P.s9 P.s11
def Pt.w3 : FVec Ideal S512x128 .f32 := PW P.n (Q6 P.qr) (Q7 P.qr) (OD (KV1 P.kr' P.kr)) P.s12 P.s14 P.s13 P.s15

/-- The weights of the sixteen heads, side by side. -/
def Pt.w : FVec Ideal S128x2048 .f32 := concatenate S128x2048 1 [⟨S128x128, GA P.w0⟩, ⟨S128x128, GB P.w0⟩, ⟨S128x128, GC P.w0⟩, ⟨S128x128, GD P.w0⟩, ⟨S128x128, GA P.w1⟩, ⟨S128x128, GB P.w1⟩, ⟨S128x128, GC P.w1⟩, ⟨S128x128, GD P.w1⟩, ⟨S128x128, GA P.w2⟩, ⟨S128x128, GB P.w2⟩, ⟨S128x128, GC P.w2⟩, ⟨S128x128, GD P.w2⟩, ⟨S128x128, GA P.w3⟩, ⟨S128x128, GB P.w3⟩, ⟨S128x128, GC P.w3⟩, ⟨S128x128, GD P.w3⟩]
  concatenates_S128x128_S128x128_S128x128_S128x128_S128x128_S128x128_S128x128_S128x128_S128x128_S128x128_S128x128_S128x128_S128x128_S128x128_S128x128_S128x128_S128x2048_d1
end

section
variable (x0 x1 x2 x3 x4 x5 x6 x7 x8 x9 x10 x11 x12 x13 x14 x15 : FVec Ideal S128x128 .f32)

def CAT : FVec Ideal S128x2048 .f32 := concatenate S128x2048 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩]
  concatenates_S128x128_S128x128_S128x128_S128x128_S128x128_S128x128_S128x128_S128x128_S128x128_S128x128_S128x128_S128x128_S128x128_S128x128_S128x128_S128x128_S128x2048_d1

theorem c_p0 (r l : Fin 128) : CAT x0 x1 x2 x3 x4 x5 x6 x7 x8 x9 x10 x11 x12 x13 x14 x15 (ix2 r ⟨0 + l.val, by omega⟩) = x0 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨0 + l.val, by omega⟩) 0 (by show 0 < 16; omega) S128x128 x0 ?_ ?_ 0 ?_ (ix2 r l) ?_ ?_
  · rfl
  · rfl
  · rfl
  · intro (b : Fin 2) hb
    obtain rfl | rfl : b = 0 ∨ b = 1 := by omega
    · rfl
    · exact absurd rfl hb
  · show 0 + l.val = 0 + l.val
    rfl

theorem c_p1 (r l : Fin 128) : CAT x0 x1 x2 x3 x4 x5 x6 x7 x8 x9 x10 x11 x12 x13 x14 x15 (ix2 r ⟨128 + l.val, by omega⟩) = x1 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨128 + l.val, by omega⟩) 1 (by show 1 < 16; omega) S128x128 x1 ?_ ?_ 128 ?_ (ix2 r l) ?_ ?_
  · rfl
  · rfl
  · rfl
  · intro (b : Fin 2) hb
    obtain rfl | rfl : b = 0 ∨ b = 1 := by omega
    · rfl
    · exact absurd rfl hb
  · show 128 + l.val = 128 + l.val
    rfl

theorem c_p2 (r l : Fin 128) : CAT x0 x1 x2 x3 x4 x5 x6 x7 x8 x9 x10 x11 x12 x13 x14 x15 (ix2 r ⟨256 + l.val, by omega⟩) = x2 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨256 + l.val, by omega⟩) 2 (by show 2 < 16; omega) S128x128 x2 ?_ ?_ 256 ?_ (ix2 r l) ?_ ?_
  · rfl
  · rfl
  · rfl
  · intro (b : Fin 2) hb
    obtain rfl | rfl : b = 0 ∨ b = 1 := by omega
    · rfl
    · exact absurd rfl hb
  · show 256 + l.val = 256 + l.val
    rfl

theorem c_p3 (r l : Fin 128) : CAT x0 x1 x2 x3 x4 x5 x6 x7 x8 x9 x10 x11 x12 x13 x14 x15 (ix2 r ⟨384 + l.val, by omega⟩) = x3 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨384 + l.val, by omega⟩) 3 (by show 3 < 16; omega) S128x128 x3 ?_ ?_ 384 ?_ (ix2 r l) ?_ ?_
  · rfl
  · rfl
  · rfl
  · intro (b : Fin 2) hb
    obtain rfl | rfl : b = 0 ∨ b = 1 := by omega
    · rfl
    · exact absurd rfl hb
  · show 384 + l.val = 384 + l.val
    rfl

theorem c_p4 (r l : Fin 128) : CAT x0 x1 x2 x3 x4 x5 x6 x7 x8 x9 x10 x11 x12 x13 x14 x15 (ix2 r ⟨512 + l.val, by omega⟩) = x4 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨512 + l.val, by omega⟩) 4 (by show 4 < 16; omega) S128x128 x4 ?_ ?_ 512 ?_ (ix2 r l) ?_ ?_
  · rfl
  · rfl
  · rfl
  · intro (b : Fin 2) hb
    obtain rfl | rfl : b = 0 ∨ b = 1 := by omega
    · rfl
    · exact absurd rfl hb
  · show 512 + l.val = 512 + l.val
    rfl

theorem c_p5 (r l : Fin 128) : CAT x0 x1 x2 x3 x4 x5 x6 x7 x8 x9 x10 x11 x12 x13 x14 x15 (ix2 r ⟨640 + l.val, by omega⟩) = x5 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨640 + l.val, by omega⟩) 5 (by show 5 < 16; omega) S128x128 x5 ?_ ?_ 640 ?_ (ix2 r l) ?_ ?_
  · rfl
  · rfl
  · rfl
  · intro (b : Fin 2) hb
    obtain rfl | rfl : b = 0 ∨ b = 1 := by omega
    · rfl
    · exact absurd rfl hb
  · show 640 + l.val = 640 + l.val
    rfl

theorem c_p6 (r l : Fin 128) : CAT x0 x1 x2 x3 x4 x5 x6 x7 x8 x9 x10 x11 x12 x13 x14 x15 (ix2 r ⟨768 + l.val, by omega⟩) = x6 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨768 + l.val, by omega⟩) 6 (by show 6 < 16; omega) S128x128 x6 ?_ ?_ 768 ?_ (ix2 r l) ?_ ?_
  · rfl
  · rfl
  · rfl
  · intro (b : Fin 2) hb
    obtain rfl | rfl : b = 0 ∨ b = 1 := by omega
    · rfl
    · exact absurd rfl hb
  · show 768 + l.val = 768 + l.val
    rfl

theorem c_p7 (r l : Fin 128) : CAT x0 x1 x2 x3 x4 x5 x6 x7 x8 x9 x10 x11 x12 x13 x14 x15 (ix2 r ⟨896 + l.val, by omega⟩) = x7 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨896 + l.val, by omega⟩) 7 (by show 7 < 16; omega) S128x128 x7 ?_ ?_ 896 ?_ (ix2 r l) ?_ ?_
  · rfl
  · rfl
  · rfl
  · intro (b : Fin 2) hb
    obtain rfl | rfl : b = 0 ∨ b = 1 := by omega
    · rfl
    · exact absurd rfl hb
  · show 896 + l.val = 896 + l.val
    rfl

theorem c_p8 (r l : Fin 128) : CAT x0 x1 x2 x3 x4 x5 x6 x7 x8 x9 x10 x11 x12 x13 x14 x15 (ix2 r ⟨1024 + l.val, by omega⟩) = x8 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨1024 + l.val, by omega⟩) 8 (by show 8 < 16; omega) S128x128 x8 ?_ ?_ 1024 ?_ (ix2 r l) ?_ ?_
  · rfl
  · rfl
  · rfl
  · intro (b : Fin 2) hb
    obtain rfl | rfl : b = 0 ∨ b = 1 := by omega
    · rfl
    · exact absurd rfl hb
  · show 1024 + l.val = 1024 + l.val
    rfl

theorem c_p9 (r l : Fin 128) : CAT x0 x1 x2 x3 x4 x5 x6 x7 x8 x9 x10 x11 x12 x13 x14 x15 (ix2 r ⟨1152 + l.val, by omega⟩) = x9 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨1152 + l.val, by omega⟩) 9 (by show 9 < 16; omega) S128x128 x9 ?_ ?_ 1152 ?_ (ix2 r l) ?_ ?_
  · rfl
  · rfl
  · rfl
  · intro (b : Fin 2) hb
    obtain rfl | rfl : b = 0 ∨ b = 1 := by omega
    · rfl
    · exact absurd rfl hb
  · show 1152 + l.val = 1152 + l.val
    rfl

theorem c_p10 (r l : Fin 128) : CAT x0 x1 x2 x3 x4 x5 x6 x7 x8 x9 x10 x11 x12 x13 x14 x15 (ix2 r ⟨1280 + l.val, by omega⟩) = x10 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨1280 + l.val, by omega⟩) 10 (by show 10 < 16; omega) S128x128 x10 ?_ ?_ 1280 ?_ (ix2 r l) ?_ ?_
  · rfl
  · rfl
  · rfl
  · intro (b : Fin 2) hb
    obtain rfl | rfl : b = 0 ∨ b = 1 := by omega
    · rfl
    · exact absurd rfl hb
  · show 1280 + l.val = 1280 + l.val
    rfl

theorem c_p11 (r l : Fin 128) : CAT x0 x1 x2 x3 x4 x5 x6 x7 x8 x9 x10 x11 x12 x13 x14 x15 (ix2 r ⟨1408 + l.val, by omega⟩) = x11 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨1408 + l.val, by omega⟩) 11 (by show 11 < 16; omega) S128x128 x11 ?_ ?_ 1408 ?_ (ix2 r l) ?_ ?_
  · rfl
  · rfl
  · rfl
  · intro (b : Fin 2) hb
    obtain rfl | rfl : b = 0 ∨ b = 1 := by omega
    · rfl
    · exact absurd rfl hb
  · show 1408 + l.val = 1408 + l.val
    rfl

theorem c_p12 (r l : Fin 128) : CAT x0 x1 x2 x3 x4 x5 x6 x7 x8 x9 x10 x11 x12 x13 x14 x15 (ix2 r ⟨1536 + l.val, by omega⟩) = x12 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨1536 + l.val, by omega⟩) 12 (by show 12 < 16; omega) S128x128 x12 ?_ ?_ 1536 ?_ (ix2 r l) ?_ ?_
  · rfl
  · rfl
  · rfl
  · intro (b : Fin 2) hb
    obtain rfl | rfl : b = 0 ∨ b = 1 := by omega
    · rfl
    · exact absurd rfl hb
  · show 1536 + l.val = 1536 + l.val
    rfl

theorem c_p13 (r l : Fin 128) : CAT x0 x1 x2 x3 x4 x5 x6 x7 x8 x9 x10 x11 x12 x13 x14 x15 (ix2 r ⟨1664 + l.val, by omega⟩) = x13 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨1664 + l.val, by omega⟩) 13 (by show 13 < 16; omega) S128x128 x13 ?_ ?_ 1664 ?_ (ix2 r l) ?_ ?_
  · rfl
  · rfl
  · rfl
  · intro (b : Fin 2) hb
    obtain rfl | rfl : b = 0 ∨ b = 1 := by omega
    · rfl
    · exact absurd rfl hb
  · show 1664 + l.val = 1664 + l.val
    rfl

theorem c_p14 (r l : Fin 128) : CAT x0 x1 x2 x3 x4 x5 x6 x7 x8 x9 x10 x11 x12 x13 x14 x15 (ix2 r ⟨1792 + l.val, by omega⟩) = x14 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨1792 + l.val, by omega⟩) 14 (by show 14 < 16; omega) S128x128 x14 ?_ ?_ 1792 ?_ (ix2 r l) ?_ ?_
  · rfl
  · rfl
  · rfl
  · intro (b : Fin 2) hb
    obtain rfl | rfl : b = 0 ∨ b = 1 := by omega
    · rfl
    · exact absurd rfl hb
  · show 1792 + l.val = 1792 + l.val
    rfl

theorem c_p15 (r l : Fin 128) : CAT x0 x1 x2 x3 x4 x5 x6 x7 x8 x9 x10 x11 x12 x13 x14 x15 (ix2 r ⟨1920 + l.val, by omega⟩) = x15 (ix2 r l) := by
  refine concatenate_apply_piece 1 [⟨S128x128, x0⟩, ⟨S128x128, x1⟩, ⟨S128x128, x2⟩, ⟨S128x128, x3⟩, ⟨S128x128, x4⟩, ⟨S128x128, x5⟩, ⟨S128x128, x6⟩, ⟨S128x128, x7⟩, ⟨S128x128, x8⟩, ⟨S128x128, x9⟩, ⟨S128x128, x10⟩, ⟨S128x128, x11⟩, ⟨S128x128, x12⟩, ⟨S128x128, x13⟩, ⟨S128x128, x14⟩, ⟨S128x128, x15⟩] concatenates_S128x128_S128x128_S128x128_S128x128_S128x128_S128x128_S128x128_S128x128_S128x128_S128x128_S128x128_S128x128_S128x128_S128x128_S128x128_S128x128_S128x2048_d1
    (ix2 r ⟨1920 + l.val, by omega⟩) 15 (by show 15 < 16; omega) S128x128 x15 ?_ ?_ 1920 ?_ (ix2 r l) ?_ ?_
  · rfl
  · rfl
  · rfl
  · intro (b : Fin 2) hb
    obtain rfl | rfl : b = 0 ∨ b = 1 := by omega
    · rfl
    · exact absurd rfl hb
  · show 1920 + l.val = 1920 + l.val
    rfl
end

section
variable (P : Pt)

theorem G_p0 (w : FVec Ideal S512x128 .f32) (r l : Fin 128) : GA w (ix2 r l) = w (ix2 ⟨0 + r.val, by omega⟩ l) := by
  pointwise [GA]
  first | done | exact congrArg (fun b => w (ix2 b l)) (Fin.ext (by simp <;> omega))

theorem G_p1 (w : FVec Ideal S512x128 .f32) (r l : Fin 128) : GB w (ix2 r l) = w (ix2 ⟨128 + r.val, by omega⟩ l) := by
  pointwise [GB]
  first | done | exact congrArg (fun b => w (ix2 b l)) (Fin.ext (by simp <;> omega))

theorem G_p2 (w : FVec Ideal S512x128 .f32) (r l : Fin 128) : GC w (ix2 r l) = w (ix2 ⟨256 + r.val, by omega⟩ l) := by
  pointwise [GC]
  first | done | exact congrArg (fun b => w (ix2 b l)) (Fin.ext (by simp <;> omega))

theorem G_p3 (w : FVec Ideal S512x128 .f32) (r l : Fin 128) : GD w (ix2 r l) = w (ix2 ⟨384 + r.val, by omega⟩ l) := by
  pointwise [GD]
  first | done | exact congrArg (fun b => w (ix2 b l)) (Fin.ext (by simp <;> omega))

theorem w_p0 (r l : Fin 128) : P.w (ix2 r ⟨0 + l.val, by omega⟩) = P.w0 (ix2 ⟨0 + r.val, by omega⟩ l) :=
  (c_p0 _ _ _ _ _ _ _ _ _ _ _ _ _ _ _ _ r l).trans (G_p0 P.w0 r l)

theorem w_p1 (r l : Fin 128) : P.w (ix2 r ⟨128 + l.val, by omega⟩) = P.w0 (ix2 ⟨128 + r.val, by omega⟩ l) :=
  (c_p1 _ _ _ _ _ _ _ _ _ _ _ _ _ _ _ _ r l).trans (G_p1 P.w0 r l)

theorem w_p2 (r l : Fin 128) : P.w (ix2 r ⟨256 + l.val, by omega⟩) = P.w0 (ix2 ⟨256 + r.val, by omega⟩ l) :=
  (c_p2 _ _ _ _ _ _ _ _ _ _ _ _ _ _ _ _ r l).trans (G_p2 P.w0 r l)

theorem w_p3 (r l : Fin 128) : P.w (ix2 r ⟨384 + l.val, by omega⟩) = P.w0 (ix2 ⟨384 + r.val, by omega⟩ l) :=
  (c_p3 _ _ _ _ _ _ _ _ _ _ _ _ _ _ _ _ r l).trans (G_p3 P.w0 r l)

theorem w_p4 (r l : Fin 128) : P.w (ix2 r ⟨512 + l.val, by omega⟩) = P.w1 (ix2 ⟨0 + r.val, by omega⟩ l) :=
  (c_p4 _ _ _ _ _ _ _ _ _ _ _ _ _ _ _ _ r l).trans (G_p0 P.w1 r l)

theorem w_p5 (r l : Fin 128) : P.w (ix2 r ⟨640 + l.val, by omega⟩) = P.w1 (ix2 ⟨128 + r.val, by omega⟩ l) :=
  (c_p5 _ _ _ _ _ _ _ _ _ _ _ _ _ _ _ _ r l).trans (G_p1 P.w1 r l)

theorem w_p6 (r l : Fin 128) : P.w (ix2 r ⟨768 + l.val, by omega⟩) = P.w1 (ix2 ⟨256 + r.val, by omega⟩ l) :=
  (c_p6 _ _ _ _ _ _ _ _ _ _ _ _ _ _ _ _ r l).trans (G_p2 P.w1 r l)

theorem w_p7 (r l : Fin 128) : P.w (ix2 r ⟨896 + l.val, by omega⟩) = P.w1 (ix2 ⟨384 + r.val, by omega⟩ l) :=
  (c_p7 _ _ _ _ _ _ _ _ _ _ _ _ _ _ _ _ r l).trans (G_p3 P.w1 r l)

theorem w_p8 (r l : Fin 128) : P.w (ix2 r ⟨1024 + l.val, by omega⟩) = P.w2 (ix2 ⟨0 + r.val, by omega⟩ l) :=
  (c_p8 _ _ _ _ _ _ _ _ _ _ _ _ _ _ _ _ r l).trans (G_p0 P.w2 r l)

theorem w_p9 (r l : Fin 128) : P.w (ix2 r ⟨1152 + l.val, by omega⟩) = P.w2 (ix2 ⟨128 + r.val, by omega⟩ l) :=
  (c_p9 _ _ _ _ _ _ _ _ _ _ _ _ _ _ _ _ r l).trans (G_p1 P.w2 r l)

theorem w_p10 (r l : Fin 128) : P.w (ix2 r ⟨1280 + l.val, by omega⟩) = P.w2 (ix2 ⟨256 + r.val, by omega⟩ l) :=
  (c_p10 _ _ _ _ _ _ _ _ _ _ _ _ _ _ _ _ r l).trans (G_p2 P.w2 r l)

theorem w_p11 (r l : Fin 128) : P.w (ix2 r ⟨1408 + l.val, by omega⟩) = P.w2 (ix2 ⟨384 + r.val, by omega⟩ l) :=
  (c_p11 _ _ _ _ _ _ _ _ _ _ _ _ _ _ _ _ r l).trans (G_p3 P.w2 r l)

theorem w_p12 (r l : Fin 128) : P.w (ix2 r ⟨1536 + l.val, by omega⟩) = P.w3 (ix2 ⟨0 + r.val, by omega⟩ l) :=
  (c_p12 _ _ _ _ _ _ _ _ _ _ _ _ _ _ _ _ r l).trans (G_p0 P.w3 r l)

theorem w_p13 (r l : Fin 128) : P.w (ix2 r ⟨1664 + l.val, by omega⟩) = P.w3 (ix2 ⟨128 + r.val, by omega⟩ l) :=
  (c_p13 _ _ _ _ _ _ _ _ _ _ _ _ _ _ _ _ r l).trans (G_p1 P.w3 r l)

theorem w_p14 (r l : Fin 128) : P.w (ix2 r ⟨1792 + l.val, by omega⟩) = P.w3 (ix2 ⟨256 + r.val, by omega⟩ l) :=
  (c_p14 _ _ _ _ _ _ _ _ _ _ _ _ _ _ _ _ r l).trans (G_p2 P.w3 r l)

theorem w_p15 (r l : Fin 128) : P.w (ix2 r ⟨1920 + l.val, by omega⟩) = P.w3 (ix2 ⟨384 + r.val, by omega⟩ l) :=
  (c_p15 _ _ _ _ _ _ _ _ _ _ _ _ _ _ _ _ r l).trans (G_p3 P.w3 r l)

theorem PN_two (p : FVec Ideal S512x128 .f32) (i : Fin 512) (j : Fin 128) :
    (p (ix2 i j) : EReal) = UF OWN p (ix2 i (ilo j)) + UF OWN p (ix2 i (iup j)) := by
  rw [UF_lo, UF_hi]
  split
  · rw [zero_add]
  · rw [add_zero]

/-- The weights of four heads of one key head, at an index. -/
theorem PW_at (n : BitVec 32) (a b : FVec Ideal S128x128 .f32) {e : Fin 65} {k2 : FVec Ideal S512x128 .bf16}
    {kw : FVec Ideal S256x128 .f32} (hk : IsKV e k2 kw) (s0 s1 s2 s3 : Elt Ideal .f32)
    (hi half : Fin 2) (r : Fin 128) (j : Fin 128) (k : ℝ)
    (hs : (if hi = 0 then (if half = 0 then s0 else s1) else (if half = 0 then s2 else s3)) = (k : EReal))
    (ht : ∀ t, (∑ d' : Fin 64, TWO a b (ix2 ⟨128 * half.val + r.val, by omega⟩ ⟨64 * hi.val + d'.val, by omega⟩)
          * kw (ix2 t ⟨e.val + d'.val, by omega⟩) : EReal) ≠ ⊤) :
    PW n a b k2 s0 s1 s2 s3 (ix2 ⟨256 * hi.val + (128 * half.val + r.val), by omega⟩ j)
      = cw (okp (n = 0#32) r.val) (fun t => ∑ d' : Fin 64, TWO a b (ix2 ⟨128 * half.val + r.val, by omega⟩ ⟨64 * hi.val + d'.val, by omega⟩)
          * kw (ix2 t ⟨e.val + d'.val, by omega⟩)) k j := by
  have hsc := fun t => SC_at hk a b hi ⟨128 * half.val + r.val, by omega⟩ t
  have e1 : (256 * hi.val + (128 * half.val + r.val)) % 128 = r.val := by omega
  have hc : COL s0 s1 s2 s3 (ix2 ⟨256 * hi.val + (128 * half.val + r.val), by omega⟩ 0) = (k : EReal) := by
    rw [← hs, ← COL_at s0 s1 s2 s3 hi half r]
    exact congrArg (fun l => COL s0 s1 s2 s3 (ix2 l 0)) (Fin.ext (by simp; omega))
  unfold PW cw
  refine (PN_two _ _ _).trans ?_
  rw [UF_wt n _ _ k ⟨256 * hi.val + (128 * half.val + r.val), by omega⟩ r.val e1 hc (fun t => by rw [hsc]; exact ht t),
    UF_wt n _ _ k ⟨256 * hi.val + (128 * half.val + r.val), by omega⟩ r.val e1 hc (fun t => by rw [hsc]; exact ht t)]
  simp only [hsc]

theorem w_g0 (r : Fin 128) (hi half : Fin 2) (j : Fin 128) (k : ℝ)
    (hs : P.sk ⟨0 + 2 * half.val + hi.val, by omega⟩ = (k : EReal))
    (ht : ∀ t, P.sc r ⟨0 + 2 * half.val + hi.val, by omega⟩ t ≠ ⊤) :
    P.w (ix2 r ⟨128 * (0 + 2 * hi.val + half.val) + j.val, by omega⟩)
      = cw (okp (P.n = 0#32) r.val) (P.sc r ⟨0 + 2 * half.val + hi.val, by omega⟩) k j := by
  have e4 : (0 + 2 * half.val + hi.val) / 4 = 0 := by omega
  have hsc : ∀ t, (∑ d' : Fin 64, TWO (Q0 P.qr) (Q1 P.qr) (ix2 ⟨128 * half.val + r.val, by omega⟩ ⟨64 * hi.val + d'.val, by omega⟩)
          * KV0 P.kr' P.kr (ix2 t ⟨(0 : Fin 65).val + d'.val, by omega⟩) : EReal) = P.sc r ⟨0 + 2 * half.val + hi.val, by omega⟩ t := fun t => by
    unfold Pt.sc
    refine Finset.sum_congr rfl fun d' _ => ?_
    rw [TWO0_at, KV0_at]
    have i1 : (⟨0 + 128 * half.val + (64 * hi.val + d'.val), by omega⟩ : Fin 1024) = ⟨64 * (0 + 2 * half.val + hi.val) + d'.val, by omega⟩ := Fin.ext (by simp <;> omega)
    have i2 : (⟨0 + ((0 : Fin 65).val + d'.val), by have := d'.isLt; have : (0 : Fin 65).val = 0 := rfl; omega⟩ : Fin 256) = ⟨64 * ((0 + 2 * half.val + hi.val) / 4) + d'.val, by omega⟩ := Fin.ext (by simp only [e4]; have : (0 : Fin 65).val = 0 := rfl; omega)
    simp only [i1, i2]
  have ho : P.w (ix2 r ⟨128 * (0 + 2 * hi.val + half.val) + j.val, by omega⟩)
      = P.w0 (ix2 ⟨256 * hi.val + (128 * half.val + r.val), by omega⟩ j) := by
    obtain rfl | rfl : hi = 0 ∨ hi = 1 := by omega
    all_goals obtain rfl | rfl : half = 0 ∨ half = 1 := by omega
    · refine Eq.trans ?_ ((w_p0 P r j).trans ?_)
      · exact congrArg (fun i => P.w (ix2 r i)) (Fin.ext (by simp <;> omega))
      · exact congrArg (fun i => P.w0 (ix2 i j)) (Fin.ext (by simp <;> omega))
    · refine Eq.trans ?_ ((w_p1 P r j).trans ?_)
      · exact congrArg (fun i => P.w (ix2 r i)) (Fin.ext (by simp <;> omega))
      · exact congrArg (fun i => P.w0 (ix2 i j)) (Fin.ext (by simp <;> omega))
    · refine Eq.trans ?_ ((w_p2 P r j).trans ?_)
      · exact congrArg (fun i => P.w (ix2 r i)) (Fin.ext (by simp <;> omega))
      · exact congrArg (fun i => P.w0 (ix2 i j)) (Fin.ext (by simp <;> omega))
    · refine Eq.trans ?_ ((w_p3 P r j).trans ?_)
      · exact congrArg (fun i => P.w (ix2 r i)) (Fin.ext (by simp <;> omega))
      · exact congrArg (fun i => P.w0 (ix2 i j)) (Fin.ext (by simp <;> omega))
  rw [ho]
  unfold Pt.w0
  rw [PW_at P.n _ _ (EV_is _) P.s0 P.s2 P.s1 P.s3 hi half r j k ?_ (fun t => by rw [hsc]; exact ht t)]
  · exact congrArg (fun s => cw _ s _ _) (funext hsc)
  · rw [← hs]
    obtain rfl | rfl : half = 0 ∨ half = 1 := by omega
    all_goals obtain rfl | rfl : hi = 0 ∨ hi = 1 := by omega
    all_goals rfl

theorem w_g1 (r : Fin 128) (hi half : Fin 2) (j : Fin 128) (k : ℝ)
    (hs : P.sk ⟨4 + 2 * half.val + hi.val, by omega⟩ = (k : EReal))
    (ht : ∀ t, P.sc r ⟨4 + 2 * half.val + hi.val, by omega⟩ t ≠ ⊤) :
    P.w (ix2 r ⟨128 * (4 + 2 * hi.val + half.val) + j.val, by omega⟩)
      = cw (okp (P.n = 0#32) r.val) (P.sc r ⟨4 + 2 * half.val + hi.val, by omega⟩) k j := by
  have e4 : (4 + 2 * half.val + hi.val) / 4 = 1 := by omega
  have hsc : ∀ t, (∑ d' : Fin 64, TWO (Q2 P.qr) (Q3 P.qr) (ix2 ⟨128 * half.val + r.val, by omega⟩ ⟨64 * hi.val + d'.val, by omega⟩)
          * KV0 P.kr' P.kr (ix2 t ⟨(64 : Fin 65).val + d'.val, by omega⟩) : EReal) = P.sc r ⟨4 + 2 * half.val + hi.val, by omega⟩ t := fun t => by
    unfold Pt.sc
    refine Finset.sum_congr rfl fun d' _ => ?_
    rw [TWO1_at, KV0_at]
    have i1 : (⟨256 + 128 * half.val + (64 * hi.val + d'.val), by omega⟩ : Fin 1024) = ⟨64 * (4 + 2 * half.val + hi.val) + d'.val, by omega⟩ := Fin.ext (by simp <;> omega)
    have i2 : (⟨0 + ((64 : Fin 65).val + d'.val), by have := d'.isLt; have : (64 : Fin 65).val = 64 := rfl; omega⟩ : Fin 256) = ⟨64 * ((4 + 2 * half.val + hi.val) / 4) + d'.val, by omega⟩ := Fin.ext (by simp only [e4]; have : (64 : Fin 65).val = 64 := rfl; omega)
    simp only [i1, i2]
  have ho : P.w (ix2 r ⟨128 * (4 + 2 * hi.val + half.val) + j.val, by omega⟩)
      = P.w1 (ix2 ⟨256 * hi.val + (128 * half.val + r.val), by omega⟩ j) := by
    obtain rfl | rfl : hi = 0 ∨ hi = 1 := by omega
    all_goals obtain rfl | rfl : half = 0 ∨ half = 1 := by omega
    · refine Eq.trans ?_ ((w_p4 P r j).trans ?_)
      · exact congrArg (fun i => P.w (ix2 r i)) (Fin.ext (by simp <;> omega))
      · exact congrArg (fun i => P.w1 (ix2 i j)) (Fin.ext (by simp <;> omega))
    · refine Eq.trans ?_ ((w_p5 P r j).trans ?_)
      · exact congrArg (fun i => P.w (ix2 r i)) (Fin.ext (by simp <;> omega))
      · exact congrArg (fun i => P.w1 (ix2 i j)) (Fin.ext (by simp <;> omega))
    · refine Eq.trans ?_ ((w_p6 P r j).trans ?_)
      · exact congrArg (fun i => P.w (ix2 r i)) (Fin.ext (by simp <;> omega))
      · exact congrArg (fun i => P.w1 (ix2 i j)) (Fin.ext (by simp <;> omega))
    · refine Eq.trans ?_ ((w_p7 P r j).trans ?_)
      · exact congrArg (fun i => P.w (ix2 r i)) (Fin.ext (by simp <;> omega))
      · exact congrArg (fun i => P.w1 (ix2 i j)) (Fin.ext (by simp <;> omega))
  rw [ho]
  unfold Pt.w1
  rw [PW_at P.n _ _ (OD_is _) P.s4 P.s6 P.s5 P.s7 hi half r j k ?_ (fun t => by rw [hsc]; exact ht t)]
  · exact congrArg (fun s => cw _ s _ _) (funext hsc)
  · rw [← hs]
    obtain rfl | rfl : half = 0 ∨ half = 1 := by omega
    all_goals obtain rfl | rfl : hi = 0 ∨ hi = 1 := by omega
    all_goals rfl

theorem w_g2 (r : Fin 128) (hi half : Fin 2) (j : Fin 128) (k : ℝ)
    (hs : P.sk ⟨8 + 2 * half.val + hi.val, by omega⟩ = (k : EReal))
    (ht : ∀ t, P.sc r ⟨8 + 2 * half.val + hi.val, by omega⟩ t ≠ ⊤) :
    P.w (ix2 r ⟨128 * (8 + 2 * hi.val + half.val) + j.val, by omega⟩)
      = cw (okp (P.n = 0#32) r.val) (P.sc r ⟨8 + 2 * half.val + hi.val, by omega⟩) k j := by
  have e4 : (8 + 2 * half.val + hi.val) / 4 = 2 := by omega
  have hsc : ∀ t, (∑ d' : Fin 64, TWO (Q4 P.qr) (Q5 P.qr) (ix2 ⟨128 * half.val + r.val, by omega⟩ ⟨64 * hi.val + d'.val, by omega⟩)
          * KV1 P.kr' P.kr (ix2 t ⟨(0 : Fin 65).val + d'.val, by omega⟩) : EReal) = P.sc r ⟨8 + 2 * half.val + hi.val, by omega⟩ t := fun t => by
    unfold Pt.sc
    refine Finset.sum_congr rfl fun d' _ => ?_
    rw [TWO2_at, KV1_at]
    have i1 : (⟨512 + 128 * half.val + (64 * hi.val + d'.val), by omega⟩ : Fin 1024) = ⟨64 * (8 + 2 * half.val + hi.val) + d'.val, by omega⟩ := Fin.ext (by simp <;> omega)
    have i2 : (⟨128 + ((0 : Fin 65).val + d'.val), by have := d'.isLt; have : (0 : Fin 65).val = 0 := rfl; omega⟩ : Fin 256) = ⟨64 * ((8 + 2 * half.val + hi.val) / 4) + d'.val, by omega⟩ := Fin.ext (by simp only [e4]; have : (0 : Fin 65).val = 0 := rfl; omega)
    simp only [i1, i2]
  have ho : P.w (ix2 r ⟨128 * (8 + 2 * hi.val + half.val) + j.val, by omega⟩)
      = P.w2 (ix2 ⟨256 * hi.val + (128 * half.val + r.val), by omega⟩ j) := by
    obtain rfl | rfl : hi = 0 ∨ hi = 1 := by omega
    all_goals obtain rfl | rfl : half = 0 ∨ half = 1 := by omega
    · refine Eq.trans ?_ ((w_p8 P r j).trans ?_)
      · exact congrArg (fun i => P.w (ix2 r i)) (Fin.ext (by simp <;> omega))
      · exact congrArg (fun i => P.w2 (ix2 i j)) (Fin.ext (by simp <;> omega))
    · refine Eq.trans ?_ ((w_p9 P r j).trans ?_)
      · exact congrArg (fun i => P.w (ix2 r i)) (Fin.ext (by simp <;> omega))
      · exact congrArg (fun i => P.w2 (ix2 i j)) (Fin.ext (by simp <;> omega))
    · refine Eq.trans ?_ ((w_p10 P r j).trans ?_)
      · exact congrArg (fun i => P.w (ix2 r i)) (Fin.ext (by simp <;> omega))
      · exact congrArg (fun i => P.w2 (ix2 i j)) (Fin.ext (by simp <;> omega))
    · refine Eq.trans ?_ ((w_p11 P r j).trans ?_)
      · exact congrArg (fun i => P.w (ix2 r i)) (Fin.ext (by simp <;> omega))
      · exact congrArg (fun i => P.w2 (ix2 i j)) (Fin.ext (by simp <;> omega))
  rw [ho]
  unfold Pt.w2
  rw [PW_at P.n _ _ (EV_is _) P.s8 P.s10 P.s9 P.s11 hi half r j k ?_ (fun t => by rw [hsc]; exact ht t)]
  · exact congrArg (fun s => cw _ s _ _) (funext hsc)
  · rw [← hs]
    obtain rfl | rfl : half = 0 ∨ half = 1 := by omega
    all_goals obtain rfl | rfl : hi = 0 ∨ hi = 1 := by omega
    all_goals rfl

theorem w_g3 (r : Fin 128) (hi half : Fin 2) (j : Fin 128) (k : ℝ)
    (hs : P.sk ⟨12 + 2 * half.val + hi.val, by omega⟩ = (k : EReal))
    (ht : ∀ t, P.sc r ⟨12 + 2 * half.val + hi.val, by omega⟩ t ≠ ⊤) :
    P.w (ix2 r ⟨128 * (12 + 2 * hi.val + half.val) + j.val, by omega⟩)
      = cw (okp (P.n = 0#32) r.val) (P.sc r ⟨12 + 2 * half.val + hi.val, by omega⟩) k j := by
  have e4 : (12 + 2 * half.val + hi.val) / 4 = 3 := by omega
  have hsc : ∀ t, (∑ d' : Fin 64, TWO (Q6 P.qr) (Q7 P.qr) (ix2 ⟨128 * half.val + r.val, by omega⟩ ⟨64 * hi.val + d'.val, by omega⟩)
          * KV1 P.kr' P.kr (ix2 t ⟨(64 : Fin 65).val + d'.val, by omega⟩) : EReal) = P.sc r ⟨12 + 2 * half.val + hi.val, by omega⟩ t := fun t => by
    unfold Pt.sc
    refine Finset.sum_congr rfl fun d' _ => ?_
    rw [TWO3_at, KV1_at]
    have i1 : (⟨768 + 128 * half.val + (64 * hi.val + d'.val), by omega⟩ : Fin 1024) = ⟨64 * (12 + 2 * half.val + hi.val) + d'.val, by omega⟩ := Fin.ext (by simp <;> omega)
    have i2 : (⟨128 + ((64 : Fin 65).val + d'.val), by have := d'.isLt; have : (64 : Fin 65).val = 64 := rfl; omega⟩ : Fin 256) = ⟨64 * ((12 + 2 * half.val + hi.val) / 4) + d'.val, by omega⟩ := Fin.ext (by simp only [e4]; have : (64 : Fin 65).val = 64 := rfl; omega)
    simp only [i1, i2]
  have ho : P.w (ix2 r ⟨128 * (12 + 2 * hi.val + half.val) + j.val, by omega⟩)
      = P.w3 (ix2 ⟨256 * hi.val + (128 * half.val + r.val), by omega⟩ j) := by
    obtain rfl | rfl : hi = 0 ∨ hi = 1 := by omega
    all_goals obtain rfl | rfl : half = 0 ∨ half = 1 := by omega
    · refine Eq.trans ?_ ((w_p12 P r j).trans ?_)
      · exact congrArg (fun i => P.w (ix2 r i)) (Fin.ext (by simp <;> omega))
      · exact congrArg (fun i => P.w3 (ix2 i j)) (Fin.ext (by simp <;> omega))
    · refine Eq.trans ?_ ((w_p13 P r j).trans ?_)
      · exact congrArg (fun i => P.w (ix2 r i)) (Fin.ext (by simp <;> omega))
      · exact congrArg (fun i => P.w3 (ix2 i j)) (Fin.ext (by simp <;> omega))
    · refine Eq.trans ?_ ((w_p14 P r j).trans ?_)
      · exact congrArg (fun i => P.w (ix2 r i)) (Fin.ext (by simp <;> omega))
      · exact congrArg (fun i => P.w3 (ix2 i j)) (Fin.ext (by simp <;> omega))
    · refine Eq.trans ?_ ((w_p15 P r j).trans ?_)
      · exact congrArg (fun i => P.w (ix2 r i)) (Fin.ext (by simp <;> omega))
      · exact congrArg (fun i => P.w3 (ix2 i j)) (Fin.ext (by simp <;> omega))
  rw [ho]
  unfold Pt.w3
  rw [PW_at P.n _ _ (OD_is _) P.s12 P.s14 P.s13 P.s15 hi half r j k ?_ (fun t => by rw [hsc]; exact ht t)]
  · exact congrArg (fun s => cw _ s _ _) (funext hsc)
  · rw [← hs]
    obtain rfl | rfl : half = 0 ∨ half = 1 := by omega
    all_goals obtain rfl | rfl : hi = 0 ∨ hi = 1 := by omega
    all_goals rfl

/-- The weights, at an index. -/
theorem w_at (r : Fin 128) (g : Fin 4) (hi half : Fin 2) (j : Fin 128) (k : ℝ)
    (hs : P.sk ⟨4 * g.val + 2 * half.val + hi.val, by omega⟩ = (k : EReal))
    (ht : ∀ t, P.sc r ⟨4 * g.val + 2 * half.val + hi.val, by omega⟩ t ≠ ⊤) :
    P.w (ix2 r ⟨128 * (4 * g.val + 2 * hi.val + half.val) + j.val, by omega⟩)
      = cw (okp (P.n = 0#32) r.val) (P.sc r ⟨4 * g.val + 2 * half.val + hi.val, by omega⟩) k j := by
  obtain rfl | rfl | rfl | rfl : g = 0 ∨ g = 1 ∨ g = 2 ∨ g = 3 := by omega
  · exact w_g0 P r hi half j k hs ht
  · exact w_g1 P r hi half j k hs ht
  · exact w_g2 P r hi half j k hs ht
  · exact w_g3 P r hi half j k hs ht
end

section
variable (own nok : IVec S512x128 1) (s : FVec Ideal S512x256 .f32) (w : FVec Ideal S512x128 .f32) (h : FVec Ideal S512x1 .f32) (s0 s1 s2 s3 : Elt Ideal .f32)
theorem f47 : k0_pay47 (F := Ideal) own nok s k0_pay43 k0_pay44 k0_pay45 s0 s1 s2 s3 = GA (PN (FM own nok s) (COL s0 s1 s2 s3)) := rfl
theorem f48 : k0_pay48 (F := Ideal) own nok s k0_pay43 k0_pay44 k0_pay45 s0 s1 s2 s3 = GB (PN (FM own nok s) (COL s0 s1 s2 s3)) := rfl
theorem f49 : k0_pay49 (F := Ideal) own nok s k0_pay43 k0_pay44 k0_pay45 s0 s1 s2 s3 = GC (PN (FM own nok s) (COL s0 s1 s2 s3)) := rfl
theorem f50 : k0_pay50 (F := Ideal) w = GD w := rfl
theorem f58 : k0_pay58 (F := Ideal) own nok s k0_pay54 (k0_pay55 s0 s1) k0_pay56 s2 s3 = GA (PN (FM own nok s) (COL s0 s1 s2 s3)) := rfl
theorem f59 : k0_pay59 (F := Ideal) own nok s k0_pay54 (k0_pay55 s0 s1) k0_pay56 s2 s3 = GB (PN (FM own nok s) (COL s0 s1 s2 s3)) := rfl
theorem f60 : k0_pay60 (F := Ideal) own nok s k0_pay54 (k0_pay55 s0 s1) k0_pay56 s2 s3 = GC (PN (FM own nok s) (COL s0 s1 s2 s3)) := rfl
theorem f61 : k0_pay61 (F := Ideal) own nok s k0_pay54 (k0_pay55 s0 s1) k0_pay56 s2 s3 = GD (PN (FM own nok s) (COL s0 s1 s2 s3)) := rfl
theorem f71 : k0_pay71 (F := Ideal) h (k0_pay68 own nok s) (k0_pay69 own nok s) = GA (PN (FM own nok s) h) := rfl
theorem f72 : k0_pay72 (F := Ideal) h (k0_pay68 own nok s) (k0_pay69 own nok s) = GB (PN (FM own nok s) h) := rfl
theorem f73 : k0_pay73 (F := Ideal) h (k0_pay68 own nok s) (k0_pay69 own nok s) = GC (PN (FM own nok s) h) := rfl
theorem f74 : k0_pay74 (F := Ideal) h (k0_pay68 own nok s) (k0_pay69 own nok s) = GD (PN (FM own nok s) h) := rfl
theorem f82 : k0_pay82 (F := Ideal) own nok s k0_pay78 k0_pay79 k0_pay80 s0 s1 s2 s3 = GA (PN (FM own nok s) (COL s0 s1 s2 s3)) := rfl
theorem f83 : k0_pay83 (F := Ideal) own nok s k0_pay78 k0_pay79 k0_pay80 s0 s1 s2 s3 = GB (PN (FM own nok s) (COL s0 s1 s2 s3)) := rfl
theorem f84 : k0_pay84 (F := Ideal) own nok s k0_pay78 k0_pay79 k0_pay80 s0 s1 s2 s3 = GC (PN (FM own nok s) (COL s0 s1 s2 s3)) := rfl
theorem f85 : k0_pay85 (F := Ideal) own nok s k0_pay78 k0_pay79 k0_pay80 s0 s1 s2 s3 = GD (PN (FM own nok s) (COL s0 s1 s2 s3)) := rfl
end

section
variable (m : (ℓ : Loc nD τ sig) → Buf (Elt Ideal) ℓ) (c : Dev nD) (t : Fin cfg0.N)

theorem q_eq : (outsAt0 m c t).2.1 = truncf .bf16 (pt m c t).qr bitsLt_bf16_f32 := by
  unfold outsAt0
  frame_out
  simp only [e18, Pt.qr, pt]
  rfl

theorem k_eq : (outsAt0 m c t).2.2.1 = truncf .bf16 (pt m c t).kr bitsLt_bf16_f32 := by
  unfold outsAt0
  frame_out
  simp only [e23, Pt.kr, pt]
  rfl

theorem p_eq : (outsAt0 m c t).2.2.2 = (pt m c t).w := by
  unfold outsAt0
  frame_out
  simp only [e18, e23, e24, e30, e31, e32, e34, e39, e40, e41, e42, e46, f47, f48, f49, f50, f58, f59, f60, f61, f71, f72, f73, f74, f82, f83, f84, f85]
  rw [e67]
  simp only [Pt.w, Pt.w0, Pt.w1, Pt.w2, Pt.w3, PW, Pt.qr, Pt.kr, Pt.kr', pt, OWN, NOK]
  rfl

theorem cw_congr (z z' : Prop) [Decidable z] [Decidable z'] (e : z = z') (r : ℕ) (s : Fin 256 → EReal) (k : EReal) (j : Fin 128) :
    cw (okp z r) s k j = cw (okp z' r) s k j := by
  subst e
  congr

/-- The weight that the point returns for a row, a head and a column. -/
theorem w_res (hA : Ok (A m c) (S m c)) (r : Fin 128) (g : Fin 4) (hi half : Fin 2) (j : Fin 128) :
    (pt m c t).w (ix2 r ⟨128 * (4 * g.val + 2 * hi.val + half.val) + j.val, by omega⟩)
      = cw (okp ((blk t).val = 0) r.val) (score (A m c) (B m c) (blk t) r ⟨4 * g.val + 2 * half.val + hi.val, by omega⟩)
        (S m c (ix2 0 ⟨4 * g.val + 2 * half.val + hi.val, by omega⟩)) j := by
  obtain ⟨k, hk⟩ := hA.2 ⟨4 * g.val + 2 * half.val + hi.val, by omega⟩
  rw [w_at (pt m c t) r g hi half j k ((w_s m c t _).trans hk) (fun u => by rw [w_sc]; exact (score_real _ _ _ hA _ _ _ _).ne_top), hk]
  rw [show (pt m c t).sc r _ = score (A m c) (B m c) (blk t) r _ from funext (w_sc m c t r _), cw_congr _ _ (n_zero m c t)]
end

end Cert.Kernel12Ideal.Att

end
-- ==== Proof.AttPo.lean ====
/- The plain attention's turned queries, turned keys and weights, at an index. -/
module

public import proofs.«01_k».proof.Proof.AttOut
public import proofs.«01_k».proof.Proof.AttPn

@[expose] public section

set_option maxRecDepth 65536
set_option maxHeartbeats 2000000

noncomputable section

namespace Cert.AttRef

open Cert.Reference12Ideal Cert.Reference12Ideal.Gen Idealize.ShloMosaic Idealize.ShloMosaic.TcCoe Idealize.SL.Sem
open Cert.Att (rope rq rk rv key row kh score res e8 ms top den wt att att_congr ms_congr cw ilo iup Ok score_real)
open Cert.Kernel12Ideal.Att (ang okp sel_if bot_bits)

section
variable (w : FVec Ideal S1x32x4x4x128x256 .f32)

def C5 : FVec Ideal S32x4x4x128x256 .f32 := shapeCast _ w shapeCasts_S1x32x4x4x128x256_S32x4x4x128x256
def C4 (x : FVec Ideal S32x4x4x128x256 .f32) : FVec Ideal S32x4x4x128x128 .f32 :=
  addf (extractStridedSlice S32x4x4x128x128 ![0, 0, 0, 0, 0] x slices_S32x4x4x128x256_S32x4x4x128x128_0_0_0_0_0)
    (extractStridedSlice S32x4x4x128x128 ![0, 0, 0, 0, 128] x slices_S32x4x4x128x256_S32x4x4x128x128_0_0_0_0_128)
def C3 (x : FVec Ideal S32x4x4x128x128 .f32) : FVec Ideal S32x4x2x2x128x128 .f32 := shapeCast _ x shapeCasts_S32x4x4x128x128_S32x4x2x2x128x128
def C2 (x : FVec Ideal S32x4x2x2x128x128 .f32) : FVec Ideal S32x128x4x2x2x128 .f32 :=
  transpose S32x128x4x2x2x128 [0, 4, 1, 3, 2, 5] x transposes_S32x4x2x2x128x128_S32x128x4x2x2x128_0_4_1_3_2_5
def C1 (x : FVec Ideal S32x128x4x2x2x128 .f32) : FVec Ideal S4096x2048 .f32 := shapeCast _ x shapeCasts_S32x128x4x2x2x128_S4096x2048

theorem COLS_eq : COLS w = C1 (C2 (C3 (C4 (C5 w)))) := rfl

theorem C5_at (b : Fin 32) (g j : Fin 4) (r : Fin 128) (u : Fin 256) : C5 w (ix5 b g j r u) = w (ix6 0 b g j r u) := by
  pointwise [C5]

theorem C4_at (x : FVec Ideal S32x4x4x128x256 .f32) (b : Fin 32) (g j : Fin 4) (r : Fin 128) (u : Fin 128) :
    C4 x (ix5 b g j r u) = (x (ix5 b g j r (ilo u)) + x (ix5 b g j r (iup u)) : EReal) := by
  pointwise [C4, ilo, iup]

theorem C3_at (x : FVec Ideal S32x4x4x128x128 .f32) (b : Fin 32) (g : Fin 4) (k i : Fin 2) (r : Fin 128) (u : Fin 128) :
    C3 x (ix6 b g k i r u) = x (ix5 b g ⟨2 * k.val + i.val, by omega⟩ r u) := by
  pointwise [C3]
  exact congrArg (fun j => x (ix5 b g j r u)) (Fin.ext (by simp <;> omega))

theorem C2_at (x : FVec Ideal S32x4x2x2x128x128 .f32) (b : Fin 32) (g : Fin 4) (k i : Fin 2) (r : Fin 128) (u : Fin 128) :
    C2 x (ix6 b r g i k u) = x (ix6 b g k i r u) := by
  pointwise [C2]

theorem C1_at (x : FVec Ideal S32x128x4x2x2x128 .f32) (b : Fin 32) (g : Fin 4) (k i : Fin 2) (r : Fin 128) (u : Fin 128) :
    C1 x (ix2 ⟨128 * b.val + r.val, by omega⟩ ⟨128 * (4 * g.val + 2 * i.val + k.val) + u.val, by omega⟩) = x (ix6 b r g i k u) := by
  pointwise [C1]

theorem COLS_at (b : Fin 32) (g : Fin 4) (k i : Fin 2) (r : Fin 128) (u : Fin 128) :
    COLS w (ix2 ⟨128 * b.val + r.val, by omega⟩ ⟨128 * (4 * g.val + 2 * i.val + k.val) + u.val, by omega⟩)
      = (w (ix6 0 b g ⟨2 * k.val + i.val, by omega⟩ r (ilo u)) + w (ix6 0 b g ⟨2 * k.val + i.val, by omega⟩ r (iup u)) : EReal) := by
  rw [COLS_eq, C1_at, C2_at, C3_at, C4_at, C5_at, C5_at]

theorem QF_at (q : FVec Ideal S1x4096x16x64 .f32) (i : Fin 4096) (h : Fin 16) (d : Fin 64) :
    QF q (ix2 i ⟨64 * h.val + d.val, by omega⟩) = (q (ix4 0 i h d) * e8 : EReal) := by
  pointwise [QF]
  rfl

theorem KF_at (q : FVec Ideal S1x4096x4x64 .f32) (i : Fin 4096) (h : Fin 4) (d : Fin 64) :
    KF q (ix2 i ⟨64 * h.val + d.val, by omega⟩) = q (ix4 0 i h d) := by
  pointwise [KF]
end

section
variable (A : FVec Ideal S4096x6656 .f32) (p : IVec S1x4096 32) (s : FVec Ideal S1x16 .f32)

theorem qo_at (i : Fin 4096) (h : Fin 16) (d : Fin 64) : QO A p (ix2 i ⟨64 * h.val + d.val, by omega⟩) = rq A p i h d * e8 := by
  unfold QO
  rw [QF_at, q_at]

theorem ko_at (i : Fin 4096) (h : Fin 4) (d : Fin 64) : KO A p (ix2 i ⟨64 * h.val + d.val, by omega⟩) = rk A p i h d := by
  unfold KO
  rw [KF_at, k_at]

theorem po_at (b : Fin 32) (g : Fin 4) (k i : Fin 2) (r : Fin 128) (u : Fin 128) :
    PO A p s (ix2 ⟨128 * b.val + r.val, by omega⟩ ⟨128 * (4 * g.val + 2 * i.val + k.val) + u.val, by omega⟩)
      = cw (okp (b.val = 0) r.val) (score A p b r (hd g ⟨2 * k.val + i.val, by omega⟩)) (s (ix2 0 (hd g ⟨2 * k.val + i.val, by omega⟩))) u := by
  unfold PO cw
  rw [COLS_at, ww_at, ww_at, ms_congr (okp (b.val = 0) r.val) (fun u => ZS A p (ix6 0 b g ⟨2 * k.val + i.val, by omega⟩ r u))
    (score A p b r (hd g ⟨2 * k.val + i.val, by omega⟩)) (fun u h => zs_at A p b g _ r u h.2.2)]
end

end Cert.AttRef

end
-- ==== Proof.AttFip.lean ====
/- What the attention's call writes beside its result: the plain program's turned queries, turned keys and weights. -/
module

public import proofs.«01_k».proof.Proof.AttPo

@[expose] public section

set_option maxRecDepth 65536
set_option maxHeartbeats 2000000

noncomputable section

namespace Cert.Kernel12Ideal.Att

open Cert.Kernel12Ideal Cert.Kernel12Ideal.Gen Idealize.ShloMosaic Idealize.ShloMosaic.TcCoe Idealize.SL.Sem
open Cert.Att

theorem idx13 : ∀ t : Fin cfg0.N, win0_13.index t = ![t.val, 0] := by decide +kernel
theorem idx14 : ∀ t : Fin cfg0.N, win0_14.index t = ![t.val, 0] := by decide +kernel
theorem idx15 : ∀ t : Fin cfg0.N, win0_15.index t = ![t.val, 0] := by decide +kernel

section
variable (m : (ℓ : Loc nD τ sig) → Buf (Elt Ideal) ℓ) (c : Dev nD)

theorem q_out (t : Fin cfg0.N) (r : Fin 128) (j : Fin 1024) :
    truncf .bf16 (pt m c t).qr bitsLt_bf16_f32 (ix2 r j) = Cert.AttRef.QO (A m c) (B m c) (ix2 ⟨128 * t.val + r.val, by have := lt32 t; omega⟩ j) := by
  have hj : ∀ (a : Fin 16) (d : Fin 64) (h : 64 * a.val + d.val < 1024), a.val = j.val / 64 → d.val = j.val % 64 →
      (⟨64 * a.val + d.val, h⟩ : Fin 1024) = j := fun a d h h1 h2 => Fin.ext (by simp <;> omega)
  have h1 := w_qr m c t r ⟨j.val / 64, by omega⟩ ⟨j.val % 64, by omega⟩
  have h2 := Cert.AttRef.qo_at (A m c) (B m c) (row (blk t) r) ⟨j.val / 64, by omega⟩ ⟨j.val % 64, by omega⟩
  rw [hj _ _ _ rfl rfl] at h1
  refine h1.trans (h2.symm.trans ?_)
  exact congrArg (fun z => Cert.AttRef.QO (A m c) (B m c) (ix2 ⟨128 * t.val + r.val, by have := lt32 t; omega⟩ z)) (hj _ _ _ rfl rfl)

theorem k_out (t : Fin cfg0.N) (r : Fin 128) (j : Fin 256) :
    truncf .bf16 (pt m c t).kr bitsLt_bf16_f32 (ix2 r j) = Cert.AttRef.KO (A m c) (B m c) (ix2 ⟨128 * t.val + r.val, by have := lt32 t; omega⟩ j) := by
  have hj : ∀ (a : Fin 4) (d : Fin 64) (h : 64 * a.val + d.val < 256), a.val = j.val / 64 → d.val = j.val % 64 →
      (⟨64 * a.val + d.val, h⟩ : Fin 256) = j := fun a d h h1 h2 => Fin.ext (by simp <;> omega)
  have h1 := w_kr m c t r ⟨j.val / 64, by omega⟩ ⟨j.val % 64, by omega⟩
  have h2 := Cert.AttRef.ko_at (A m c) (B m c) (row (blk t) r) ⟨j.val / 64, by omega⟩ ⟨j.val % 64, by omega⟩
  rw [hj _ _ _ rfl rfl] at h1
  refine h1.trans (h2.symm.trans ?_)
  exact congrArg (fun z => Cert.AttRef.KO (A m c) (B m c) (ix2 ⟨128 * t.val + r.val, by have := lt32 t; omega⟩ z)) (hj _ _ _ rfl rfl)

theorem p_out (t : Fin cfg0.N) (hA : Ok (A m c) (S m c)) (r : Fin 128) (j : Fin 2048) :
    (pt m c t).w (ix2 r j) = Cert.AttRef.PO (A m c) (B m c) (S m c) (ix2 ⟨128 * t.val + r.val, by have := lt32 t; omega⟩ j) := by
  have hj : ∀ (g : Fin 4) (i k : Fin 2) (d : Fin 128) (h : 128 * (4 * g.val + 2 * i.val + k.val) + d.val < 2048),
      g.val = j.val / 512 → i.val = j.val / 256 % 2 → k.val = j.val / 128 % 2 → d.val = j.val % 128 →
      (⟨128 * (4 * g.val + 2 * i.val + k.val) + d.val, h⟩ : Fin 2048) = j := fun g i k d h h1 h2 h3 h4 => Fin.ext (by simp <;> omega)
  have h1 := w_res m c t hA r ⟨j.val / 512, by omega⟩ ⟨j.val / 256 % 2, by omega⟩ ⟨j.val / 128 % 2, by omega⟩ ⟨j.val % 128, by omega⟩
  have h2 := Cert.AttRef.po_at (A m c) (B m c) (S m c) (blk t) ⟨j.val / 512, by omega⟩ ⟨j.val / 128 % 2, by omega⟩ ⟨j.val / 256 % 2, by omega⟩ r ⟨j.val % 128, by omega⟩
  have hh : ∀ (g : Fin 4) (k i : Fin 2) (h : 4 * g.val + 2 * k.val + i.val < 16),
      (⟨4 * g.val + 2 * k.val + i.val, h⟩ : Fin 16) = Cert.AttRef.hd g ⟨2 * k.val + i.val, by omega⟩ := fun g k i h => Fin.ext (by simp [Cert.AttRef.hd] <;> omega)
  rw [hj _ _ _ _ _ rfl rfl rfl rfl, hh] at h1
  refine h1.trans (h2.symm.trans ?_)
  exact congrArg (fun z => Cert.AttRef.PO (A m c) (B m c) (S m c) (ix2 ⟨128 * t.val + r.val, by have := lt32 t; omega⟩ z)) (hj _ _ _ _ _ rfl rfl rfl rfl)

theorem finalQ : (dats m 0 c).arrAt 13 cfg0.N = Cert.AttRef.QO (A m c) (B m c) := by
  refine (dats m 0 c).arrAt_eq_of_covers 13 _ (by decide +kernel) fun t hf y => ?_
  have e : ∀ y : S128x1024.Idx, (win0_13.blk t).view.emb y = (ix2 (⟨128 * t.val + (y 0).val, by have := lt32 t; have := (y 0).isLt; simp at this; omega⟩) (y 1) : S4096x1024.Idx) :=
    fun y => by blk_point [idx13 t]
  blk_simp
  rw [after0_13]
  have hr : ∀ y : S128x1024.Idx, (outsAt0 m c t).2.1 y = Cert.AttRef.QO (A m c) (B m c) (ix2 (⟨128 * t.val + (y 0).val, by have := lt32 t; have := (y 0).isLt; simp at this; omega⟩) (y 1)) := fun y => by
    have := q_out m c t (y 0) (y 1)
    rw [show (ix2 (y 0) (y 1) : S128x1024.Idx) = y from by idx_vars y] at this
    rw [q_eq]
    exact this
  exact (hr y).trans (congrArg (Cert.AttRef.QO (A m c) (B m c)) (e y).symm)

theorem finalK : (dats m 0 c).arrAt 14 cfg0.N = Cert.AttRef.KO (A m c) (B m c) := by
  refine (dats m 0 c).arrAt_eq_of_covers 14 _ (by decide +kernel) fun t hf y => ?_
  have e : ∀ y : S128x256.Idx, (win0_14.blk t).view.emb y = (ix2 (⟨128 * t.val + (y 0).val, by have := lt32 t; have := (y 0).isLt; simp at this; omega⟩) (y 1) : S4096x256.Idx) :=
    fun y => by blk_point [idx14 t]
  blk_simp
  rw [after0_14]
  have hr : ∀ y : S128x256.Idx, (outsAt0 m c t).2.2.1 y = Cert.AttRef.KO (A m c) (B m c) (ix2 (⟨128 * t.val + (y 0).val, by have := lt32 t; have := (y 0).isLt; simp at this; omega⟩) (y 1)) := fun y => by
    have := k_out m c t (y 0) (y 1)
    rw [show (ix2 (y 0) (y 1) : S128x256.Idx) = y from by idx_vars y] at this
    rw [k_eq]
    exact this
  exact (hr y).trans (congrArg (Cert.AttRef.KO (A m c) (B m c)) (e y).symm)

theorem finalP (hA : Ok (A m c) (S m c)) : (dats m 0 c).arrAt 15 cfg0.N = Cert.AttRef.PO (A m c) (B m c) (S m c) := by
  refine (dats m 0 c).arrAt_eq_of_covers 15 _ (by decide +kernel) fun t hf y => ?_
  have e : ∀ y : S128x2048.Idx, (win0_15.blk t).view.emb y = (ix2 (⟨128 * t.val + (y 0).val, by have := lt32 t; have := (y 0).isLt; simp at this; omega⟩) (y 1) : S4096x2048.Idx) :=
    fun y => by blk_point [idx15 t]
  blk_simp
  rw [after0_15]
  have hr : ∀ y : S128x2048.Idx, (outsAt0 m c t).2.2.2 y = Cert.AttRef.PO (A m c) (B m c) (S m c) (ix2 (⟨128 * t.val + (y 0).val, by have := lt32 t; have := (y 0).isLt; simp at this; omega⟩) (y 1)) := fun y => by
    have := p_out m c t hA (y 0) (y 1)
    rw [show (ix2 (y 0) (y 1) : S128x2048.Idx) = y from by idx_vars y] at this
    rw [p_eq]
    exact this
  exact (hr y).trans (congrArg (Cert.AttRef.PO (A m c) (B m c) (S m c)) (e y).symm)
end

end Cert.Kernel12Ideal.Att

end
-- ==== Proof.AttPre.lean ====
/- What the attention's precondition says: the queries, the keys, the values and the sinks are real numbers. -/
module

public import proofs.«01_k».proof.Proof.Pre
public import proofs.«01_k».proof.Proof.AttSpec

@[expose] public section

set_option maxRecDepth 16384

noncomputable section

namespace Cert.Att

open Idealize.ShloMosaic
open Cert.Lift (reals_of_all and_one)

instance facts12 : Cert.Pre_reals12.Facts where
  slices_S4096x6656_S4096x1280_0_0 := by decide
  bcast_S_S4096x1280 := by decide
  reducesTo_S4096x1280_S_d0_1 := by decide
  h_S_ := by decide
  bcast_S_S1x16 := by decide
  reducesTo_S1x16_S_d0_1 := by decide

theorem cols_at (A : FVec Ideal Cert.Pre_reals12.S4096x6656 .f32) (i : Fin 4096) (j : Fin 1280) :
    extractStridedSlice Cert.Pre_reals12.S4096x1280 ![0, 0] A Cert.Pre_reals12.Facts.slices_S4096x6656_S4096x1280_0_0 (ix2 i j) = A (ix2 i ⟨j.val, by omega⟩) := by
  pointwise

theorem ok_of_pre (A : FVec Ideal Cert.Pre_reals12.S4096x6656 .f32) (p : IVec Cert.Pre_reals12.S1x4096 32) (s : FVec Ideal Cert.Pre_reals12.S1x16 .f32)
    (h : Cert.Pre_reals12.fn (F := Ideal) A p s = fun _ => 1#1) : Ok A s := by
  have h0 := congrFun h (fun a : Fin 0 => a.elim0)
  unfold Cert.Pre_reals12.fn at h0
  obtain ⟨h0, h1⟩ := and_one h0
  haveI : Subsingleton Cert.Pre_reals12.S_.Idx := ⟨fun a b => funext fun k => k.elim0⟩
  refine ⟨fun i j => ?_, fun k => reals_of_all _ _ _ _ _ _ h1 (ix2 0 k)⟩
  obtain ⟨r, hr⟩ := reals_of_all _ _ _ _ _ _ h0 (ix2 i j)
  exact ⟨r, (cols_at A i j).symm.trans hr⟩

end Cert.Att

end
-- ==== Proof.SwapAIdeal.lean ====
/-
The exchange between the two chips of a pair, run on all eight devices at once.

A device and its sibling differ in the last mesh coordinate. Each of the two first tells the other through the runtime's
barrier semaphore that its result buffers are free; then it sends the halves the other needs, one transfer per array, and
waits for its own three sends and the three landings. The run is followed by the protocol of rounds: every device has
seven semaphore cells (the barrier, three for sends, three for landings), each used for one round with one duty. The
signal to a barrier hands over the three result buffers of the device that signals; a landing hands back the receiver's
result buffer holding the sibling's half; a send's completion hands back the half that was read.
-/
module

public import proofs.«01_k».proof.Proof.Gen.Kernel13Ideal
public import proofs.«01_k».proof.Proof.Gen.Kernel13Ideal.Skeleton
public import proofs.«01_k».proof.Proof.Gen.Kernel13Ideal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Kernel13Ideal.Swap

open Cert.Kernel13Ideal Cert.Kernel13Ideal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state of the exchange: rounds over semaphore cells, duties named by booleans, beside the pipeline's own. -/
abbrev US : Type := URounds (GSem nD τ sig) Bool
abbrev UU : Type := UR sig nD τ × US

abbrev EP : Emb (UR sig nD τ) (MT nD τ sig Unit (Elt F) ℕ UU ℕ) := embL
abbrev ES : Emb US (MT nD τ sig Unit (Elt F) ℕ UU ℕ) := embR

variable (m : (ℓ : Loc nD τ sig) → Buf (Elt F) ℓ) (ρ : Dev nD → PrngReg)

/-! ## Siblings -/

set_option backward.proofsInPublic true in
/-- The other device of the pair: the last coordinate flipped. -/
def sib (c : Dev nD) : Dev nD := ⟨2 * (c.val / 2) + (1 - c.val % 2), by have := c.isLt; have : (c.val < 8) := this; show _ < 8; omega⟩

theorem sib_sib (c : Dev nD) : sib (sib c) = c := by revert c; decide +kernel
theorem sib_eq_iff (c d : Dev nD) : c = sib d ↔ d = sib c :=
  ⟨fun h => by rw [h, sib_sib], fun h => by rw [h, sib_sib]⟩
def sibs : Dev nD ≃ Dev nD := ⟨sib, sib, sib_sib, sib_sib⟩

theorem dev1_eq (c : Dev nD) : (⟨k0_dev1 c, k0_dev1_lt c⟩ : Dev nD) = sib c := by revert c; decide +kernel
theorem dev2_eq (c : Dev nD) : (⟨k0_dev2 c, k0_dev2_lt c⟩ : Dev nD) = sib c := by revert c; decide +kernel
theorem dev3_eq (c : Dev nD) : (⟨k0_dev3 c, k0_dev3_lt c⟩ : Dev nD) = sib c := by revert c; decide +kernel
theorem dev4_eq (c : Dev nD) : (⟨k0_dev4 c, k0_dev4_lt c⟩ : Dev nD) = sib c := by revert c; decide +kernel

/-! ## Buffers and cells -/

/-- The half of array 0 that device `c` sends. -/
abbrev src0 (c : Dev nD) : Memref sig .tc .hbm S512x6656 .f32 :=
  ((Memref.whole main_arg0 : Memref sig .tc .hbm S2x512x6656 .f32).slice (Rect.unit (s := S2x512x6656) (k0_off1 c) S1x512x6656.size (k0_off1_inb c)) (fun _ => rfl)).squeeze S512x6656 squeezes_S1x512x6656_S512x6656
abbrev dst0 : Memref sig .tc .hbm S512x6656 .f32 := Memref.whole main_v1_0
abbrev sq0 : DmaSems sig S_ := (cc0_scratch0.slice (Rect.unit (s := S3) ![0] S1.size inb_S3_S1_0)).squeeze S_ squeezes_S1_S_
abbrev rq0 : DmaSems sig S_ := (cc0_scratch1.slice (Rect.unit (s := S3) ![0] S1.size inb_S3_S1_0)).squeeze S_ squeezes_S1_S_
/-- The half of array 1 that device `c` sends. -/
abbrev src1 (c : Dev nD) : Memref sig .tc .hbm S4x4x32x256 .f32 :=
  ((Memref.whole main_arg1 : Memref sig .tc .hbm S4x4x2x32x256 .f32).slice (Rect.unit (s := S4x4x2x32x256) (k0_off2 c) S4x4x1x32x256.size (k0_off2_inb c)) (fun _ => rfl)).squeeze S4x4x32x256 squeezes_S4x4x1x32x256_S4x4x32x256
abbrev dst1 : Memref sig .tc .hbm S4x4x32x256 .f32 := Memref.whole main_v1_1
abbrev sq1 : DmaSems sig S_ := (cc0_scratch0.slice (Rect.unit (s := S3) ![1] S1.size inb_S3_S1_1)).squeeze S_ squeezes_S1_S_
abbrev rq1 : DmaSems sig S_ := (cc0_scratch1.slice (Rect.unit (s := S3) ![1] S1.size inb_S3_S1_1)).squeeze S_ squeezes_S1_S_
/-- The half of array 2 that device `c` sends. -/
abbrev src2 (c : Dev nD) : Memref sig .tc .hbm S4x4x32x256 .f32 :=
  ((Memref.whole main_arg2 : Memref sig .tc .hbm S4x4x2x32x256 .f32).slice (Rect.unit (s := S4x4x2x32x256) (k0_off2 c) S4x4x1x32x256.size (k0_off2_inb c)) (fun _ => rfl)).squeeze S4x4x32x256 squeezes_S4x4x1x32x256_S4x4x32x256
abbrev dst2 : Memref sig .tc .hbm S4x4x32x256 .f32 := Memref.whole main_v1_2
abbrev sq2 : DmaSems sig S_ := (cc0_scratch0.slice (Rect.unit (s := S3) ![2] S1.size inb_S3_S1_2)).squeeze S_ squeezes_S1_S_
abbrev rq2 : DmaSems sig S_ := (cc0_scratch1.slice (Rect.unit (s := S3) ![2] S1.size inb_S3_S1_2)).squeeze S_ squeezes_S1_S_

abbrev barS : Sem sig := (SemArray.scalar (sig.barrier 0 rfl) : Sems sig S_).sem

/-- A device's semaphores by number: the barrier, the three of the sends, the three of the landings. -/
abbrev csem : Fin 7 → SemLoc sig := fun
  | 0 => .reg barS | 1 => .dma sq0.sem | 2 => .dma sq1.sem | 3 => .dma sq2.sem | 4 => .dma rq0.sem | 5 => .dma rq1.sem | 6 => .dma rq2.sem
abbrev kcell (ck : Dev nD × Fin 7) : GSem nD τ sig := ((ck.1 : Thread nD τ), csem ck.2)
/-- The six of them that the launch owns. -/
abbrev osem : Fin 6 → SemLoc sig := fun
  | 0 => .dma sq0.sem | 1 => .dma sq1.sem | 2 => .dma sq2.sem | 3 => .dma rq0.sem | 4 => .dma rq1.sem | 5 => .dma rq2.sem

/-- The number of a semaphore. -/
def idx : SemLoc sig → Fin 7
  | .reg _ => 0
  | .dma q => ⟨q.val + 1, Nat.succ_lt_succ q.isLt⟩
theorem idx_csem (k : Fin 7) : idx (csem k) = k := by revert k; decide

abbrev N0 : ℕ := dst0.view.dmaCredit
abbrev N1 : ℕ := dst1.view.dmaCredit
theorem N0_pos : 0 < N0 := View.dmaCredit_pos _ (by decide)
theorem N1_pos : 0 < N1 := View.dmaCredit_pos _ (by decide)

/-- What each of a device's seven cells is credited in its one round. -/
def amt : Fin 7 → ℕ | 0 => 1 | 1 => N0 | 2 => N1 | 3 => N1 | 4 => N0 | 5 => N1 | 6 => N1
theorem amt_pos (k : Fin 7) : 0 < amt k := by
  fin_cases k
  exacts [Nat.one_pos, N0_pos, N1_pos, N1_pos, N0_pos, N1_pos, N1_pos]

/-! ## Contents -/

/-- What device `c`'s result 0 ends holding: the half its sibling sends. -/
def got0 (c : Dev nD) : Buf (Elt F) (dst0.view.loc (c : Thread nD τ)) :=
  (src0 (sib c)).view.read (Elt F) (m ((sib c : Thread nD τ).loc main_arg0))
def out0 (c : Dev nD) (f : Buf (Elt F) (dst0.view.loc (c : Thread nD τ))) : sProp (MT nD τ sig Unit (Elt F) ℕ UU ℕ) :=
  dst0.view.loc (c : Thread nD τ) ↦[dst0.view.set]{fullShare} f
def half0 (c : Dev nD) : sProp (MT nD τ sig Unit (Elt F) ℕ UU ℕ) :=
  (src0 c).view.loc (c : Thread nD τ) ↦[(src0 c).view.set]{fullShare.right} m ((c : Thread nD τ).loc main_arg0)
def keep0 (c : Dev nD) : sProp (MT nD τ sig Unit (Elt F) ℕ UU ℕ) := ((c : Thread nD τ).loc main_arg0) ↦{fullShare.left} m ((c : Thread nD τ).loc main_arg0)
omit [FloatOps F] in
instance out0_storable (c : Dev nD) (f) : BI.Storable (upEmb : UEmb _ (MT nD τ sig Unit (Elt F) ℕ UU ℕ)) (out0 (F := F) c f) := by unfold out0; infer_instance
omit [FloatOps F] in
instance half0_storable (c : Dev nD) : BI.Storable (upEmb : UEmb _ (MT nD τ sig Unit (Elt F) ℕ UU ℕ)) (half0 (F := F) m c) := by unfold half0; infer_instance
omit [FloatOps F] in
theorem out0_eq (c : Dev nD) (f : Buf (Elt F) ((c : Thread nD τ).loc main_v1_0)) :
    out0 c f = (((c : Thread nD τ).loc main_v1_0) ↦{fullShare} f : sProp (MT nD τ sig Unit (Elt F) ℕ UU ℕ)) := by unfold out0; rw [View.set_whole]
omit [FloatOps F] in
theorem written0 (c : Dev nD) (fd : Buf (Elt F) (dst0.view.loc (c : Thread nD τ))) (x : main_v1_0.ty.Contents (Elt F)) :
    dst0.view.write (Elt F) fd x Finset.univ = x := View.write_whole_univ _ _ _
omit [FloatOps F] in
/-- An argument cut in two shares: one kept whole, the other left only on the half that is sent. -/
theorem cut0 (c : Dev nD) :
    (((c : Thread nD τ).loc main_arg0) ↦{fullShare} m ((c : Thread nD τ).loc main_arg0) : sProp (MT nD τ sig Unit (Elt F) ℕ UU ℕ)) ⊢ iprop(keep0 m c ∗ half0 m c) := by
  unfold keep0 half0
  refine (pointsTo_share (IsOp.posShare_halves fullShare).mem_op).1.trans (sep_mono_right ?_)
  exact (pointsTo_split_subset (Finset.subset_univ _)).1.trans sep_elim_left

/-- What device `c`'s result 1 ends holding: the half its sibling sends. -/
def got1 (c : Dev nD) : Buf (Elt F) (dst1.view.loc (c : Thread nD τ)) :=
  (src1 (sib c)).view.read (Elt F) (m ((sib c : Thread nD τ).loc main_arg1))
def out1 (c : Dev nD) (f : Buf (Elt F) (dst1.view.loc (c : Thread nD τ))) : sProp (MT nD τ sig Unit (Elt F) ℕ UU ℕ) :=
  dst1.view.loc (c : Thread nD τ) ↦[dst1.view.set]{fullShare} f
def half1 (c : Dev nD) : sProp (MT nD τ sig Unit (Elt F) ℕ UU ℕ) :=
  (src1 c).view.loc (c : Thread nD τ) ↦[(src1 c).view.set]{fullShare.right} m ((c : Thread nD τ).loc main_arg1)
def keep1 (c : Dev nD) : sProp (MT nD τ sig Unit (Elt F) ℕ UU ℕ) := ((c : Thread nD τ).loc main_arg1) ↦{fullShare.left} m ((c : Thread nD τ).loc main_arg1)
omit [FloatOps F] in
instance out1_storable (c : Dev nD) (f) : BI.Storable (upEmb : UEmb _ (MT nD τ sig Unit (Elt F) ℕ UU ℕ)) (out1 (F := F) c f) := by unfold out1; infer_instance
omit [FloatOps F] in
instance half1_storable (c : Dev nD) : BI.Storable (upEmb : UEmb _ (MT nD τ sig Unit (Elt F) ℕ UU ℕ)) (half1 (F := F) m c) := by unfold half1; infer_instance
omit [FloatOps F] in
theorem out1_eq (c : Dev nD) (f : Buf (Elt F) ((c : Thread nD τ).loc main_v1_1)) :
    out1 c f = (((c : Thread nD τ).loc main_v1_1) ↦{fullShare} f : sProp (MT nD τ sig Unit (Elt F) ℕ UU ℕ)) := by unfold out1; rw [View.set_whole]
omit [FloatOps F] in
theorem written1 (c : Dev nD) (fd : Buf (Elt F) (dst1.view.loc (c : Thread nD τ))) (x : main_v1_1.ty.Contents (Elt F)) :
    dst1.view.write (Elt F) fd x Finset.univ = x := View.write_whole_univ _ _ _
omit [FloatOps F] in
/-- An argument cut in two shares: one kept whole, the other left only on the half that is sent. -/
theorem cut1 (c : Dev nD) :
    (((c : Thread nD τ).loc main_arg1) ↦{fullShare} m ((c : Thread nD τ).loc main_arg1) : sProp (MT nD τ sig Unit (Elt F) ℕ UU ℕ)) ⊢ iprop(keep1 m c ∗ half1 m c) := by
  unfold keep1 half1
  refine (pointsTo_share (IsOp.posShare_halves fullShare).mem_op).1.trans (sep_mono_right ?_)
  exact (pointsTo_split_subset (Finset.subset_univ _)).1.trans sep_elim_left

/-- What device `c`'s result 2 ends holding: the half its sibling sends. -/
def got2 (c : Dev nD) : Buf (Elt F) (dst2.view.loc (c : Thread nD τ)) :=
  (src2 (sib c)).view.read (Elt F) (m ((sib c : Thread nD τ).loc main_arg2))
def out2 (c : Dev nD) (f : Buf (Elt F) (dst2.view.loc (c : Thread nD τ))) : sProp (MT nD τ sig Unit (Elt F) ℕ UU ℕ) :=
  dst2.view.loc (c : Thread nD τ) ↦[dst2.view.set]{fullShare} f
def half2 (c : Dev nD) : sProp (MT nD τ sig Unit (Elt F) ℕ UU ℕ) :=
  (src2 c).view.loc (c : Thread nD τ) ↦[(src2 c).view.set]{fullShare.right} m ((c : Thread nD τ).loc main_arg2)
def keep2 (c : Dev nD) : sProp (MT nD τ sig Unit (Elt F) ℕ UU ℕ) := ((c : Thread nD τ).loc main_arg2) ↦{fullShare.left} m ((c : Thread nD τ).loc main_arg2)
omit [FloatOps F] in
instance out2_storable (c : Dev nD) (f) : BI.Storable (upEmb : UEmb _ (MT nD τ sig Unit (Elt F) ℕ UU ℕ)) (out2 (F := F) c f) := by unfold out2; infer_instance
omit [FloatOps F] in
instance half2_storable (c : Dev nD) : BI.Storable (upEmb : UEmb _ (MT nD τ sig Unit (Elt F) ℕ UU ℕ)) (half2 (F := F) m c) := by unfold half2; infer_instance
omit [FloatOps F] in
theorem out2_eq (c : Dev nD) (f : Buf (Elt F) ((c : Thread nD τ).loc main_v1_2)) :
    out2 c f = (((c : Thread nD τ).loc main_v1_2) ↦{fullShare} f : sProp (MT nD τ sig Unit (Elt F) ℕ UU ℕ)) := by unfold out2; rw [View.set_whole]
omit [FloatOps F] in
theorem written2 (c : Dev nD) (fd : Buf (Elt F) (dst2.view.loc (c : Thread nD τ))) (x : main_v1_2.ty.Contents (Elt F)) :
    dst2.view.write (Elt F) fd x Finset.univ = x := View.write_whole_univ _ _ _
omit [FloatOps F] in
/-- An argument cut in two shares: one kept whole, the other left only on the half that is sent. -/
theorem cut2 (c : Dev nD) :
    (((c : Thread nD τ).loc main_arg2) ↦{fullShare} m ((c : Thread nD τ).loc main_arg2) : sProp (MT nD τ sig Unit (Elt F) ℕ UU ℕ)) ⊢ iprop(keep2 m c ∗ half2 m c) := by
  unfold keep2 half2
  refine (pointsTo_share (IsOp.posShare_halves fullShare).mem_op).1.trans (sep_mono_right ?_)
  exact (pointsTo_split_subset (Finset.subset_univ _)).1.trans sep_elim_left

/-! ## The schedule -/

/-- What a signal to `c`'s barrier hands over: the sibling's result buffers, free. -/
def barPay (c : Dev nD) : sProp (MT nD τ sig Unit (Elt F) ℕ UU ℕ) := iprop((∃ f, out0 (sib c) f) ∗ (∃ f, out1 (sib c) f) ∗ (∃ f, out2 (sib c) f))

def pay (k : Fin 7) (c : Dev nD) : sProp (MT nD τ sig Unit (Elt F) ℕ UU ℕ) := match k with
  | 0 => barPay c | 1 => half0 m c | 2 => half1 m c | 3 => half2 m c
  | 4 => out0 c (got0 m c) | 5 => out1 c (got1 m c) | 6 => out2 c (got2 m c)

def rd : Rounds.Schedule (GSem nD τ sig) Bool (MT nD τ sig Unit (Elt F) ℕ UU ℕ) where
  duties _ r := if r = 0 then {false} else ∅
  unitless _ := False
  amount g _ _ := amt (idx g.2)
  payload g _ _ := pay m (idx g.2) g.1.1
  amount_pos g _ _ _ := amt_pos _

instance rd_storable (g : GSem nD τ sig) (r : ℕ) (d : Bool) : BI.Storable (upEmb : UEmb _ (MT nD τ sig Unit (Elt F) ℕ UU ℕ)) ((rd (F := F) m).payload g r d) := by
  show BI.Storable upEmb (pay m (idx g.2) g.1.1)
  generalize idx g.2 = k
  unfold pay barPay
  split <;> infer_instance

section Sched
variable (c : Dev nD) (k : Fin 7)

omit [FloatOps F] in
theorem duties_first (g : GSem nD τ sig) : (rd (F := F) m).duties g 0 = {false} := by dsimp only [rd]; exact if_pos rfl
omit [FloatOps F] in
theorem duty_mem (g : GSem nD τ sig) : false ∈ (rd (F := F) m).duties g 0 := by rw [duties_first]; exact Finset.mem_singleton_self _
omit [FloatOps F] in
theorem duties_later (g : GSem nD τ sig) : ∀ r, 1 ≤ r → (rd (F := F) m).duties g r = ∅ := fun r hr => if_neg (by omega)
omit [FloatOps F] in
theorem amount_at (d : Bool) : (rd (F := F) m).amount (kcell (c, k)) 0 d = amt k := by
  show amt (idx (csem k)) = _; rw [idx_csem]
omit [FloatOps F] in
theorem payload_at (d : Bool) : (rd (F := F) m).payload (kcell (c, k)) 0 d = pay m k c := by
  show pay m (idx (csem k)) c = _; rw [idx_csem]
omit [FloatOps F] in
theorem expect_at : (rd (F := F) m).expect (kcell (c, k)) 0 = amt k := by
  unfold Schedule.expect Schedule.amountOf; rw [duties_first, Finset.sum_singleton, amount_at]
omit [FloatOps F] in
theorem rest_at : bigSep ((rd (F := F) m).duties (kcell (c, k)) 0 \ ∅) (fun d => (rd (F := F) m).payload (kcell (c, k)) 0 d) = pay m k c := by
  rw [Finset.sdiff_empty, duties_first, bigSep_singleton, payload_at]
end Sched

/-! ## What is owed at launch; levels -/

theorem kcell_injective : Function.Injective (kcell : Dev nD × Fin 7 → GSem nD τ sig) := by
  rintro ⟨c, k⟩ ⟨c', k'⟩ h
  have h1 : c = c' := by have := congrArg (fun g : GSem nD τ sig => g.1.1) h; exact this
  have h2 : csem k = csem k' := congrArg Prod.snd h
  have h3 : k = k' := by have := congrArg idx h2; rwa [idx_csem, idx_csem] at this
  rw [h1, h3]

def owe (k : Fin 7) (c : Dev nD) : CellTallies nD τ sig Unit := tallyAt (kcell (sib c, k)) () (amt k)
def O₃ (c : Dev nD) : CellTallies nD τ sig Unit := owe 6 c
def O₂ (c : Dev nD) : CellTallies nD τ sig Unit := O₃ c + owe 5 c
def O₁ (c : Dev nD) : CellTallies nD τ sig Unit := O₂ c + owe 4 c
def O₀ (c : Dev nD) : CellTallies nD τ sig Unit := O₁ c + owe 0 c

theorem owe_at (j : Fin 7) (d c : Dev nD) (k : Fin 7) : owe j d (kcell (c, k)) () = if d = sib c ∧ j = k then amt j else 0 := by
  unfold owe
  rw [tallyAt_apply]
  refine if_congr ⟨fun h => ?_, fun h => ?_⟩ rfl rfl
  · have := kcell_injective h.1
    exact ⟨(sib_eq_iff _ _).1 (congrArg Prod.fst this), (congrArg Prod.snd this).symm⟩
  · rw [h.1, h.2, sib_sib]; exact ⟨rfl, rfl⟩

def L (g : GSem nD τ sig) : Finset Unit := if g.1.2 = .tc then {()} else ∅
def lv (g : GSem nD τ sig) (_ : Unit) : ℕ := if idx g.2 = 0 then 1 else if 4 ≤ idx g.2 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Fin 7) : lv (kcell (c, k)) () = if k = 0 then 1 else if 4 ≤ k then 2 else 0 := by
  show (if idx (csem k) = 0 then 1 else if 4 ≤ idx (csem k) then 2 else 0) = _
  rw [idx_csem]

theorem owe_pos {j : Fin 7} {c : Dev nD} {g : GSem nD τ sig} {u : Unit} (h : owe j c g u ≠ 0) : g = kcell (sib c, j) := by
  unfold owe at h
  rw [tallyAt_apply] at h
  by_contra hn
  exact h (if_neg fun h' => hn h'.1)

theorem O₁_pos {c : Dev nD} {g : GSem nD τ sig} {u : Unit} (h : 0 < O₁ c g u) : ∃ k : Fin 7, 4 ≤ k ∧ g = kcell (sib c, k) := by
  unfold O₁ O₂ O₃ at h
  rw [Pi.add_apply, Finsupp.add_apply, Pi.add_apply, Finsupp.add_apply] at h
  by_cases h6 : owe 6 c g u = 0
  · by_cases h5 : owe 5 c g u = 0
    · have h4 : owe 4 c g u ≠ 0 := by omega
      exact ⟨4, by decide, owe_pos h4⟩
    · exact ⟨5, by decide, owe_pos h5⟩
  · exact ⟨6, by decide, owe_pos h6⟩

omit [FloatOps F] in
/-- At its barrier wait a device owes landings only, which lie above. -/
theorem mayWait_bar (c : Dev nD) : (levAts L lv : sProp (MT nD τ sig Unit (Elt F) ℕ UU ℕ)) ⊢ MayWait (c : Thread nD τ) (csem 0) () (O₁ c) :=
  MayOwe.of_cut (L := L) (lev := lv) 1 (fun p hp => by rw [Finset.mem_singleton.mp hp, L_tc]; exact Finset.mem_singleton_self _)
    (fun g u hg => by obtain ⟨k, -, rfl⟩ := O₁_pos hg; exact Finset.mem_singleton_self _)
    (fun p hp => by rw [Finset.mem_singleton.mp hp]; exact le_of_eq ((lv_at c 0).trans (if_pos rfl)))
    (fun g u hg => by
      obtain ⟨k, hk, rfl⟩ := O₁_pos hg
      rw [show lv (kcell (sib c, k)) u = 2 from (lv_at (sib c) k).trans (by
        rw [if_neg (by rintro rfl; exact absurd hk (by decide)), if_pos hk])]
      decide)

/-! ## What a device starts from and ends with -/

def records (K : Dev nD × Fin 7 → ℕ) : sProp (MT nD τ sig Unit (Elt F) ℕ UU ℕ) :=
  iprop((bigSep Finset.univ fun ck : Dev nD × Fin 7 => cellInv ES (rd m) (K ck) (kcell ck))
    ∗ bigSep Finset.univ fun ck : Dev nD × Fin 7 => reached ES (kcell ck) 0)
instance records_persistent (K : Dev nD × Fin 7 → ℕ) : BI.Persistent (records m K) := by unfold records; infer_instance

omit [FloatOps F] in
theorem inv_at (K : Dev nD × Fin 7 → ℕ) (c : Dev nD) (k : Fin 7) : records m K ⊢ cellInv ES (rd m) (K (c, k)) (kcell (c, k)) := by
  unfold records; exact sep_elim_left.trans (bigSep_elim (Finset.mem_univ (c, k)))
omit [FloatOps F] in
theorem reached_at (K : Dev nD × Fin 7 → ℕ) (c : Dev nD) (k : Fin 7) : records m K ⊢ reached ES (kcell (c, k)) 0 := by
  unfold records; exact sep_elim_right.trans (bigSep_elim (Finset.mem_univ (c, k)))

/-- A device's own tokens, as minted. -/
def toks (c : Dev nD) : sProp (MT nD τ sig Unit (Elt F) ℕ UU ℕ) := bigSep Finset.univ fun k : Fin 7 => dutyTok ES (kcell (c, k)) 0 false
/-- The tokens of the duties a device pays: its sibling's barrier and landings, its own sends. -/
def payToks (c : Dev nD) : sProp (MT nD τ sig Unit (Elt F) ℕ UU ℕ) :=
  iprop(dutyTok ES (kcell (sib c, 0)) 0 false
    ∗ dutyTok ES (kcell (c, 1)) 0 false ∗ dutyTok ES (kcell (c, 2)) 0 false ∗ dutyTok ES (kcell (c, 3)) 0 false
    ∗ dutyTok ES (kcell (sib c, 4)) 0 false ∗ dutyTok ES (kcell (sib c, 5)) 0 false ∗ dutyTok ES (kcell (sib c, 6)) 0 false)
def poss (c : Dev nD) : sProp (MT nD τ sig Unit (Elt F) ℕ UU ℕ) := bigSep Finset.univ fun k : Fin 7 => atPos ES (kcell (c, k)) 0 ∅ 0

def ghost (K : Dev nD × Fin 7 → ℕ) (c : Dev nD) : sProp (MT nD τ sig Unit (Elt F) ℕ UU ℕ) := iprop(records m K ∗ poss c ∗ payToks c)

/-- The six buffers as launched. -/
def bufs (c : Dev nD) : sProp (MT nD τ sig Unit (Elt F) ℕ UU ℕ) :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_v1_0) ↦{fullShare} m ((c : Thread nD τ).loc main_v1_0))
    ∗ (((c : Thread nD τ).loc main_v1_1) ↦{fullShare} m ((c : Thread nD τ).loc main_v1_1))
    ∗ (((c : Thread nD τ).loc main_v1_2) ↦{fullShare} m ((c : Thread nD τ).loc main_v1_2)))

def creds (c : Dev nD) : sProp (MT nD τ sig Unit (Elt F) ℕ UU ℕ) :=
  iprop(cred (tallyAt (kcell (c, 0)) () (amt 0)) ∗ cred (tallyAt (kcell (c, 4)) () (amt 4))
    ∗ cred (tallyAt (kcell (c, 5)) () (amt 5)) ∗ cred (tallyAt (kcell (c, 6)) () (amt 6)))

def Φ₀ (c : Dev nD) : sProp (MT nD τ sig Unit (Elt F) ℕ UU ℕ) := iprop((∃ K, ghost m K c) ∗ creds c ∗ levAts L lv ∗ bufs m c)
/-- What a device's body leaves: its arguments readable, its results, and its seven counters at zero. -/
def ends (c : Dev nD) : sProp (MT nD τ sig Unit (Elt F) ℕ UU ℕ) :=
  iprop(keep0 m c ∗ keep1 m c ∗ keep2 m c ∗ out0 c (got0 m c) ∗ out1 c (got1 m c) ∗ out2 c (got2 m c))
def zeros (c : Dev nD) : sProp (MT nD τ sig Unit (Elt F) ℕ UU ℕ) := bigSep Finset.univ fun k : Fin 7 => semVal (kcell (c, k)) 0
def Φ₁ (c : Dev nD) : sProp (MT nD τ sig Unit (Elt F) ℕ UU ℕ) := iprop(ends m c ∗ zeros c)

def dats (_ : Fin 1) (c : Dev nD) : Dat τ (Elt F) Unit ℕ UU ℕ cfg0 c where
  A w := (show Fin 0 from w).elim0
  after w _ := (show Fin 0 from w).elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_fin7 (Φ : Fin 7 → sProp (MT nD τ sig Unit (Elt F) ℕ UU ℕ)) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The body -/

section Body
variable (K : Dev nD × Fin 7 → ℕ)

/-- The transfer of half 0 to the sibling. -/
theorem send0 (c n : Dev nD) (hn : n = sib c) {hsc : (dst0 : Memref sig (Dev.tc n : Thread nD τ).2.kind .hbm S512x6656 .f32).view.ref.isScScratch = false}
    {hsrc : (src0 c).view.WordExact} {hdst : (dst0 : Memref sig (Dev.tc n : Thread nD τ).2.kind .hbm S512x6656 .f32).view.WordExact}
    {hsem : DmaTarget.Typed .hbm (.dma rq0.sem) (.remote (Dev.tc n : Thread nD τ) (dst0 : Memref sig (Dev.tc n : Thread nD τ).2.kind .hbm S512x6656 .f32) (.dma sq0.sem) hsc)}
    {α : Type} {Q : α → sProp (MT nD τ sig Unit (Elt F) ℕ UU ℕ)} {k : PUnit → Prog (TpuEff nD τ sig (Elt F) Λ₀ .tc) α}
    (fn : Buf (Elt F) (dst0.view.loc (sib c : Thread nD τ))) (W : Waits sig Unit)
    {O' : CellTallies nD τ sig Unit} (O : CellTallies nD τ sig Unit) (hO : O' = O + owe 4 c) :
    iprop(records m K ∗ half0 m c ∗ out0 (sib c) fn ∗ owes (c : Thread nD τ) O' W
        ∗ dutyTok ES (kcell (c, 1)) 0 false ∗ dutyTok ES (kcell (sib c, 4)) 0 false)
      ⊢ iprop(((cred (tallyAt (kcell (c, 1)) () (amt 1)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src0 c) (.remote (Dev.tc n : Thread nD τ) dst0 (.dma sq0.sem) hsc) (.dma rq0.sem) hsrc hdst hsem) k) Q) := by
  subst hn
  have ha : (rd (F := F) m).amount ((c : Thread nD τ), SemLoc.dma sq0.sem) 0 false = N0 := (amount_at m c 1 false).trans rfl
  have ha' : (rd (F := F) m).amount ((sib c : Thread nD τ), SemLoc.dma rq0.sem) 0 false = N0 := (amount_at m (sib c) 4 false).trans rfl
  have h1 : half0 m c ⊢ (rd (F := F) m).payload ((c : Thread nD τ), SemLoc.dma sq0.sem) 0 false := by
    rw [show (rd (F := F) m).payload ((c : Thread nD τ), SemLoc.dma sq0.sem) 0 false = half0 m c from payload_at m c 1 false]
  have h2 : (dst0.view.loc (sib c : Thread nD τ) ↦[dst0.view.set]{fullShare}
      (dst0.view.write (Elt F) fn ((src0 c).view.read (Elt F) (m ((c : Thread nD τ).loc main_arg0))) Finset.univ) : sProp (MT nD τ sig Unit (Elt F) ℕ UU ℕ))
      ⊢ (rd (F := F) m).payload ((sib c : Thread nD τ), SemLoc.dma rq0.sem) 0 false := by
    rw [show (rd (F := F) m).payload ((sib c : Thread nD τ), SemLoc.dma rq0.sem) 0 false = out0 (sib c) (got0 m (sib c)) from payload_at m (sib c) 4 false, written0 (sib c)]
    unfold out0 got0
    rw [sib_sib]
  unfold half0 at h1
  have hO' : O' = O + tallyAt ((sib c : Thread nD τ), SemLoc.dma rq0.sem) () N0 := hO
  refine BIBase.Entails.trans ?_ (Rounds.wp_send_pointsTo (c' := (sib c : Thread nD τ)) (src := src0 c) (dst := dst0) (sS := SemLoc.dma sq0.sem) (sem := SemLoc.dma rq0.sem) 𝒱₀ ES (rd m) (c : Thread nD τ) none (κ₁ := K (c, 1)) (κ₂ := K (sib c, 4))
    (q := fullShare.right) (fs := m ((c : Thread nD τ).loc main_arg0))
    (r₁ := 0) (r₂ := 0) (d₁ := false) (d₂ := false) (fd := fn)
    (duty_mem m _) (duty_mem m _)
    () () N0 rfl ha ha' O hO' (W := W) h1 h2)
  unfold half0 out0
  iintro ⟨#HR, Hs, Hd, HO, Ht, Ht'⟩
  isplitr; · iapply (inv_at m K c 1); iexact HR
  isplitr; · iapply (inv_at m K (sib c) 4); iexact HR
  isplitl [Hs]; · iexact Hs
  isplitl [Hd]; · iexact Hd
  isplitl [HO]; · iexact HO
  isplitl [Ht]; · iexact Ht
  isplitr; · iapply (reached_at m K c 1); iexact HR
  isplitl [Ht']; · iexact Ht'
  iapply (reached_at m K (sib c) 4); iexact HR

/-- The transfer of half 1 to the sibling. -/
theorem send1 (c n : Dev nD) (hn : n = sib c) {hsc : (dst1 : Memref sig (Dev.tc n : Thread nD τ).2.kind .hbm S4x4x32x256 .f32).view.ref.isScScratch = false}
    {hsrc : (src1 c).view.WordExact} {hdst : (dst1 : Memref sig (Dev.tc n : Thread nD τ).2.kind .hbm S4x4x32x256 .f32).view.WordExact}
    {hsem : DmaTarget.Typed .hbm (.dma rq1.sem) (.remote (Dev.tc n : Thread nD τ) (dst1 : Memref sig (Dev.tc n : Thread nD τ).2.kind .hbm S4x4x32x256 .f32) (.dma sq1.sem) hsc)}
    {α : Type} {Q : α → sProp (MT nD τ sig Unit (Elt F) ℕ UU ℕ)} {k : PUnit → Prog (TpuEff nD τ sig (Elt F) Λ₀ .tc) α}
    (fn : Buf (Elt F) (dst1.view.loc (sib c : Thread nD τ))) (W : Waits sig Unit)
    {O' : CellTallies nD τ sig Unit} (O : CellTallies nD τ sig Unit) (hO : O' = O + owe 5 c) :
    iprop(records m K ∗ half1 m c ∗ out1 (sib c) fn ∗ owes (c : Thread nD τ) O' W
        ∗ dutyTok ES (kcell (c, 2)) 0 false ∗ dutyTok ES (kcell (sib c, 5)) 0 false)
      ⊢ iprop(((cred (tallyAt (kcell (c, 2)) () (amt 2)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src1 c) (.remote (Dev.tc n : Thread nD τ) dst1 (.dma sq1.sem) hsc) (.dma rq1.sem) hsrc hdst hsem) k) Q) := by
  subst hn
  have ha : (rd (F := F) m).amount ((c : Thread nD τ), SemLoc.dma sq1.sem) 0 false = N1 := (amount_at m c 2 false).trans rfl
  have ha' : (rd (F := F) m).amount ((sib c : Thread nD τ), SemLoc.dma rq1.sem) 0 false = N1 := (amount_at m (sib c) 5 false).trans rfl
  have h1 : half1 m c ⊢ (rd (F := F) m).payload ((c : Thread nD τ), SemLoc.dma sq1.sem) 0 false := by
    rw [show (rd (F := F) m).payload ((c : Thread nD τ), SemLoc.dma sq1.sem) 0 false = half1 m c from payload_at m c 2 false]
  have h2 : (dst1.view.loc (sib c : Thread nD τ) ↦[dst1.view.set]{fullShare}
      (dst1.view.write (Elt F) fn ((src1 c).view.read (Elt F) (m ((c : Thread nD τ).loc main_arg1))) Finset.univ) : sProp (MT nD τ sig Unit (Elt F) ℕ UU ℕ))
      ⊢ (rd (F := F) m).payload ((sib c : Thread nD τ), SemLoc.dma rq1.sem) 0 false := by
    rw [show (rd (F := F) m).payload ((sib c : Thread nD τ), SemLoc.dma rq1.sem) 0 false = out1 (sib c) (got1 m (sib c)) from payload_at m (sib c) 5 false, written1 (sib c)]
    unfold out1 got1
    rw [sib_sib]
  unfold half1 at h1
  have hO' : O' = O + tallyAt ((sib c : Thread nD τ), SemLoc.dma rq1.sem) () N1 := hO
  refine BIBase.Entails.trans ?_ (Rounds.wp_send_pointsTo (c' := (sib c : Thread nD τ)) (src := src1 c) (dst := dst1) (sS := SemLoc.dma sq1.sem) (sem := SemLoc.dma rq1.sem) 𝒱₀ ES (rd m) (c : Thread nD τ) none (κ₁ := K (c, 2)) (κ₂ := K (sib c, 5))
    (q := fullShare.right) (fs := m ((c : Thread nD τ).loc main_arg1))
    (r₁ := 0) (r₂ := 0) (d₁ := false) (d₂ := false) (fd := fn)
    (duty_mem m _) (duty_mem m _)
    () () N1 rfl ha ha' O hO' (W := W) h1 h2)
  unfold half1 out1
  iintro ⟨#HR, Hs, Hd, HO, Ht, Ht'⟩
  isplitr; · iapply (inv_at m K c 2); iexact HR
  isplitr; · iapply (inv_at m K (sib c) 5); iexact HR
  isplitl [Hs]; · iexact Hs
  isplitl [Hd]; · iexact Hd
  isplitl [HO]; · iexact HO
  isplitl [Ht]; · iexact Ht
  isplitr; · iapply (reached_at m K c 2); iexact HR
  isplitl [Ht']; · iexact Ht'
  iapply (reached_at m K (sib c) 5); iexact HR

/-- The transfer of half 2 to the sibling. -/
theorem send2 (c n : Dev nD) (hn : n = sib c) {hsc : (dst2 : Memref sig (Dev.tc n : Thread nD τ).2.kind .hbm S4x4x32x256 .f32).view.ref.isScScratch = false}
    {hsrc : (src2 c).view.WordExact} {hdst : (dst2 : Memref sig (Dev.tc n : Thread nD τ).2.kind .hbm S4x4x32x256 .f32).view.WordExact}
    {hsem : DmaTarget.Typed .hbm (.dma rq2.sem) (.remote (Dev.tc n : Thread nD τ) (dst2 : Memref sig (Dev.tc n : Thread nD τ).2.kind .hbm S4x4x32x256 .f32) (.dma sq2.sem) hsc)}
    {α : Type} {Q : α → sProp (MT nD τ sig Unit (Elt F) ℕ UU ℕ)} {k : PUnit → Prog (TpuEff nD τ sig (Elt F) Λ₀ .tc) α}
    (fn : Buf (Elt F) (dst2.view.loc (sib c : Thread nD τ))) (W : Waits sig Unit)
    {O' : CellTallies nD τ sig Unit} (O : CellTallies nD τ sig Unit) (hO : O' = O + owe 6 c) :
    iprop(records m K ∗ half2 m c ∗ out2 (sib c) fn ∗ owes (c : Thread nD τ) O' W
        ∗ dutyTok ES (kcell (c, 3)) 0 false ∗ dutyTok ES (kcell (sib c, 6)) 0 false)
      ⊢ iprop(((cred (tallyAt (kcell (c, 3)) () (amt 3)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (src2 c) (.remote (Dev.tc n : Thread nD τ) dst2 (.dma sq2.sem) hsc) (.dma rq2.sem) hsrc hdst hsem) k) Q) := by
  subst hn
  have ha : (rd (F := F) m).amount ((c : Thread nD τ), SemLoc.dma sq2.sem) 0 false = N1 := (amount_at m c 3 false).trans rfl
  have ha' : (rd (F := F) m).amount ((sib c : Thread nD τ), SemLoc.dma rq2.sem) 0 false = N1 := (amount_at m (sib c) 6 false).trans rfl
  have h1 : half2 m c ⊢ (rd (F := F) m).payload ((c : Thread nD τ), SemLoc.dma sq2.sem) 0 false := by
    rw [show (rd (F := F) m).payload ((c : Thread nD τ), SemLoc.dma sq2.sem) 0 false = half2 m c from payload_at m c 3 false]
  have h2 : (dst2.view.loc (sib c : Thread nD τ) ↦[dst2.view.set]{fullShare}
      (dst2.view.write (Elt F) fn ((src2 c).view.read (Elt F) (m ((c : Thread nD τ).loc main_arg2))) Finset.univ) : sProp (MT nD τ sig Unit (Elt F) ℕ UU ℕ))
      ⊢ (rd (F := F) m).payload ((sib c : Thread nD τ), SemLoc.dma rq2.sem) 0 false := by
    rw [show (rd (F := F) m).payload ((sib c : Thread nD τ), SemLoc.dma rq2.sem) 0 false = out2 (sib c) (got2 m (sib c)) from payload_at m (sib c) 6 false, written2 (sib c)]
    unfold out2 got2
    rw [sib_sib]
  unfold half2 at h1
  have hO' : O' = O + tallyAt ((sib c : Thread nD τ), SemLoc.dma rq2.sem) () N1 := hO
  refine BIBase.Entails.trans ?_ (Rounds.wp_send_pointsTo (c' := (sib c : Thread nD τ)) (src := src2 c) (dst := dst2) (sS := SemLoc.dma sq2.sem) (sem := SemLoc.dma rq2.sem) 𝒱₀ ES (rd m) (c : Thread nD τ) none (κ₁ := K (c, 3)) (κ₂ := K (sib c, 6))
    (q := fullShare.right) (fs := m ((c : Thread nD τ).loc main_arg2))
    (r₁ := 0) (r₂ := 0) (d₁ := false) (d₂ := false) (fd := fn)
    (duty_mem m _) (duty_mem m _)
    () () N1 rfl ha ha' O hO' (W := W) h1 h2)
  unfold half2 out2
  iintro ⟨#HR, Hs, Hd, HO, Ht, Ht'⟩
  isplitr; · iapply (inv_at m K c 3); iexact HR
  isplitr; · iapply (inv_at m K (sib c) 6); iexact HR
  isplitl [Hs]; · iexact Hs
  isplitl [Hd]; · iexact Hd
  isplitl [HO]; · iexact HO
  isplitl [Ht]; · iexact Ht
  isplitr; · iapply (reached_at m K c 3); iexact HR
  isplitl [Ht']; · iexact Ht'
  iapply (reached_at m K (sib c) 6); iexact HR

def bodyPre (c : Dev nD) : sProp (MT nD τ sig Unit (Elt F) ℕ UU ℕ) :=
  iprop((ghost m K c ∗ creds c ∗ levAts L lv ∗ bufs m c) ∗ (dats m 0 c).owesAt () t₀.castSucc)
def bodyPost (c : Dev nD) : sProp (MT nD τ sig Unit (Elt F) ℕ UU ℕ) := iprop(Φ₁ m c ∗ (dats m 0 c).owesAt () t₀.succ)

theorem credit_src0 (c : Dev nD) : (src0 c).view.dmaCredit = N0 := rfl
theorem credit_src1 (c : Dev nD) : (src1 c).view.dmaCredit = N1 := rfl
theorem credit_src2 (c : Dev nD) : (src2 c).view.dmaCredit = N1 := rfl
theorem credit_dst0 : dst0.view.dmaCredit = N0 := rfl
theorem credit_dst1 : dst1.view.dmaCredit = N1 := rfl
theorem credit_dst2 : dst2.view.dmaCredit = N1 := rfl

set_option maxHeartbeats 2000000 in
/-- The body, an effect at a time in program order. -/
theorem sound_body (c : Dev nD) (Kt : PUnit → sProp (MT nD τ sig Unit (Elt F) ℕ UU ℕ)) :
    iprop(bodyPre m K c ∗ (bodyPost m c -∗ Kt ⟨⟩))
      ⊢ wp frame (wpE (defs₀ (F := F)) 𝒱₀ c none) Set.univ
          (cc0_swap_halves (Memref.whole main_arg0) (Memref.isWhole_whole _) (Memref.whole main_arg1) (Memref.isWhole_whole _)
            (Memref.whole main_arg2) (Memref.isWhole_whole _) (Memref.whole main_v1_0) (Memref.isWhole_whole _) (Memref.whole main_v1_1) (Memref.isWhole_whole _)
            (Memref.whole main_v1_2) (Memref.isWhole_whole _) cc0_scratch0 cc0_scratch1) Kt := by
  simp only [cc0_swap_halves_eq_skeleton]; unfold cc0_swap_halves_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost poss payToks creds bufs
  rw [bigSep_fin7]
  iintro ⟨⟨⟨⟨#HR, ⟨Hp0, Hp1, Hp2, Hp3, Hp4, Hp5, Hp6⟩, Ht0, Ht1, Ht2, Ht3, Ht4, Ht5, Ht6⟩, ⟨Hc0, Hc4, Hc5, Hc6⟩, #Hlev, Ha0, Ha1, Ha2, Hb0, Hb1, Hb2⟩, Ho⟩, Hk⟩
  unfold Dat.owesAt Pipeline.owesWithin
  icases Ho with ⟨%W, %hW, HO⟩
  rw [show (dats m 0 c).owed t₀.castSucc = O₀ c from rfl]
  simp only [dev1_eq c]
  ihave Hx0 := (cut0 m c) $$ Ha0
  icases Hx0 with ⟨Hk0, Hh0⟩
  ihave Hx1 := (cut1 m c) $$ Ha1
  icases Hx1 with ⟨Hk1, Hh1⟩
  ihave Hx2 := (cut2 m c) $$ Ha2
  icases Hx2 with ⟨Hk2, Hh2⟩
  -- the signal to the sibling's barrier, with this device's result buffers
  iapply (Rounds.wp_signal 𝒱₀ ES (rd m) (c : Thread nD τ) none (dst := (sib c : Thread nD τ)) (κ := K (sib c, 0))
      (d := false) (duty_mem m _) ((amount_at m (sib c) 0 false).trans (by decide)) () (O₁ c) rfl) $$ [HO Ht0 Hb0 Hb1 Hb2]
  · isplitr; · iapply (inv_at m K (sib c) 0); iexact HR
    isplitl [HO]; · iexact HO
    isplitl [Ht0]; · iexact Ht0
    isplitl
    · rw [show (rd (F := F) m).payload ((sib c : Thread nD τ), SemLoc.reg barS) 0 false = barPay (sib c) from payload_at m (sib c) 0 false]
      unfold barPay; rw [sib_sib]
      isplitl [Hb0]; · iexists _; rw [out0_eq]; iexact Hb0
      isplitl [Hb1]; · iexists _; rw [out1_eq]; iexact Hb1
      iexists _; rw [out2_eq]; iexact Hb2
    · iapply (reached_at m K (sib c) 0); iexact HR
  iintro HO
  -- the wait on its own barrier: the sibling's result buffers
  iapply (Rounds.wp_wait_rest_token 𝒱₀ ES (rd m) (c : Thread nD τ) none (κ := K (c, 0))
      (wpE_semWait_eq 𝒱₀ (c : Thread nD τ) none Set.univ) (Set.mem_univ _) () (O := O₁ c) (W := W) (R := 0) (m := 0) (T := ∅)
      ((Nat.zero_add _).trans (Eq.trans (by decide) (expect_at m c 0).symm))) $$ [Hc0 HO Hp0]
  · isplitr; · iapply (inv_at m K c 0); iexact HR
    isplitl [Hc0]; · iexact Hc0
    isplitl [HO]; · iexact HO
    isplitr; · iapply (mayWait_bar c); iexact Hlev
    iexact Hp0
  iintro ⟨HO, Hp0, -, Hpay⟩
  ihave Hp := (Entails.of_eq (rest_at m c 0)) $$ Hpay
  unfold pay barPay
  icases Hp with ⟨⟨%f0, Hd0⟩, ⟨%f1, Hd1⟩, ⟨%f2, Hd2⟩⟩
  -- the three transfers
  iapply (send0 m K c _ (dev2_eq c) f0 _ (O₂ c) rfl) $$ [Hh0 Hd0 HO Ht1 Ht4]
  · isplitr; · iexact HR
    isplitl [Hh0]; · iexact Hh0
    isplitl [Hd0]; · iexact Hd0
    isplitl [HO]; · iexact HO
    isplitl [Ht1]; · iexact Ht1
    iexact Ht4
  iintro ⟨Hc1, HO⟩
  iapply (send1 m K c _ (dev3_eq c) f1 _ (O₃ c) rfl) $$ [Hh1 Hd1 HO Ht2 Ht5]
  · isplitr; · iexact HR
    isplitl [Hh1]; · iexact Hh1
    isplitl [Hd1]; · iexact Hd1
    isplitl [HO]; · iexact HO
    isplitl [Ht2]; · iexact Ht2
    iexact Ht5
  iintro ⟨Hc2, HO⟩
  iapply (send2 m K c _ (dev4_eq c) f2 _ 0 (zero_add _).symm) $$ [Hh2 Hd2 HO Ht3 Ht6]
  · isplitr; · iexact HR
    isplitl [Hh2]; · iexact Hh2
    isplitl [Hd2]; · iexact Hd2
    isplitl [HO]; · iexact HO
    isplitl [Ht3]; · iexact Ht3
    iexact Ht6
  iintro ⟨Hc3, HO⟩
  iapply (Rounds.wp_wait_rest_token 𝒱₀ ES (rd m) (c : Thread nD τ) none (κ := K (c, 1))
      (wpE_waitDma2_eq 𝒱₀ (c : Thread nD τ) none Set.univ) (Set.mem_univ _) () (O := 0) (W := (insert (SemLoc.reg barS, ()) W)) (R := 0) (m := 0) (T := ∅)
      ((Nat.zero_add _).trans ((credit_src0 c).trans (expect_at m c 1).symm))) $$ [Hc1 HO Hp1]
  · isplitr; · iapply (inv_at m K c 1); iexact HR
    isplitl [Hc1]; · iexact Hc1
    isplitl [HO]; · iexact HO
    isplitr; · rw [MayWait_zero]; iempintro
    iexact Hp1
  iintro ⟨HO, Hp1, -, Hpay⟩
  iclear Hpay
  iapply (Rounds.wp_wait_rest_token 𝒱₀ ES (rd m) (c : Thread nD τ) none (κ := K (c, 4))
      (wpE_waitDma2_eq 𝒱₀ (c : Thread nD τ) none Set.univ) (Set.mem_univ _) () (O := 0) (W := (insert (SemLoc.dma sq0.sem, ()) (insert (SemLoc.reg barS, ()) W))) (R := 0) (m := 0) (T := ∅)
      ((Nat.zero_add _).trans (credit_dst0.trans (expect_at m c 4).symm))) $$ [Hc4 HO Hp4]
  · isplitr; · iapply (inv_at m K c 4); iexact HR
    isplitl [Hc4]; · iexact Hc4
    isplitl [HO]; · iexact HO
    isplitr; · rw [MayWait_zero]; iempintro
    iexact Hp4
  iintro ⟨HO, Hp4, -, Hpay⟩
  ihave Hr0 := (Entails.of_eq ((rest_at m c 4).trans (show pay m 4 c = out0 c (got0 m c) from rfl))) $$ Hpay
  iapply (Rounds.wp_wait_rest_token 𝒱₀ ES (rd m) (c : Thread nD τ) none (κ := K (c, 2))
      (wpE_waitDma2_eq 𝒱₀ (c : Thread nD τ) none Set.univ) (Set.mem_univ _) () (O := 0) (W := (insert (SemLoc.dma rq0.sem, ()) (insert (SemLoc.dma sq0.sem, ()) (insert (SemLoc.reg barS, ()) W)))) (R := 0) (m := 0) (T := ∅)
      ((Nat.zero_add _).trans ((credit_src1 c).trans (expect_at m c 2).symm))) $$ [Hc2 HO Hp2]
  · isplitr; · iapply (inv_at m K c 2); iexact HR
    isplitl [Hc2]; · iexact Hc2
    isplitl [HO]; · iexact HO
    isplitr; · rw [MayWait_zero]; iempintro
    iexact Hp2
  iintro ⟨HO, Hp2, -, Hpay⟩
  iclear Hpay
  iapply (Rounds.wp_wait_rest_token 𝒱₀ ES (rd m) (c : Thread nD τ) none (κ := K (c, 5))
      (wpE_waitDma2_eq 𝒱₀ (c : Thread nD τ) none Set.univ) (Set.mem_univ _) () (O := 0) (W := (insert (SemLoc.dma sq1.sem, ()) (insert (SemLoc.dma rq0.sem, ()) (insert (SemLoc.dma sq0.sem, ()) (insert (SemLoc.reg barS, ()) W))))) (R := 0) (m := 0) (T := ∅)
      ((Nat.zero_add _).trans (credit_dst1.trans (expect_at m c 5).symm))) $$ [Hc5 HO Hp5]
  · isplitr; · iapply (inv_at m K c 5); iexact HR
    isplitl [Hc5]; · iexact Hc5
    isplitl [HO]; · iexact HO
    isplitr; · rw [MayWait_zero]; iempintro
    iexact Hp5
  iintro ⟨HO, Hp5, -, Hpay⟩
  ihave Hr1 := (Entails.of_eq ((rest_at m c 5).trans (show pay m 5 c = out1 c (got1 m c) from rfl))) $$ Hpay
  iapply (Rounds.wp_wait_rest_token 𝒱₀ ES (rd m) (c : Thread nD τ) none (κ := K (c, 3))
      (wpE_waitDma2_eq 𝒱₀ (c : Thread nD τ) none Set.univ) (Set.mem_univ _) () (O := 0) (W := (insert (SemLoc.dma rq1.sem, ()) (insert (SemLoc.dma sq1.sem, ()) (insert (SemLoc.dma rq0.sem, ()) (insert (SemLoc.dma sq0.sem, ()) (insert (SemLoc.reg barS, ()) W)))))) (R := 0) (m := 0) (T := ∅)
      ((Nat.zero_add _).trans ((credit_src2 c).trans (expect_at m c 3).symm))) $$ [Hc3 HO Hp3]
  · isplitr; · iapply (inv_at m K c 3); iexact HR
    isplitl [Hc3]; · iexact Hc3
    isplitl [HO]; · iexact HO
    isplitr; · rw [MayWait_zero]; iempintro
    iexact Hp3
  iintro ⟨HO, Hp3, -, Hpay⟩
  iclear Hpay
  iapply (Rounds.wp_wait_rest_token 𝒱₀ ES (rd m) (c : Thread nD τ) none (κ := K (c, 6))
      (wpE_waitDma2_eq 𝒱₀ (c : Thread nD τ) none Set.univ) (Set.mem_univ _) () (O := 0) (W := (insert (SemLoc.dma sq2.sem, ()) (insert (SemLoc.dma rq1.sem, ()) (insert (SemLoc.dma sq1.sem, ()) (insert (SemLoc.dma rq0.sem, ()) (insert (SemLoc.dma sq0.sem, ()) (insert (SemLoc.reg barS, ()) W))))))) (R := 0) (m := 0) (T := ∅)
      ((Nat.zero_add _).trans (credit_dst2.trans (expect_at m c 6).symm))) $$ [Hc6 HO Hp6]
  · isplitr; · iapply (inv_at m K c 6); iexact HR
    isplitl [Hc6]; · iexact Hc6
    isplitl [HO]; · iexact HO
    isplitr; · rw [MayWait_zero]; iempintro
    iexact Hp6
  iintro ⟨HO, Hp6, -, Hpay⟩
  ihave Hr2 := (Entails.of_eq ((rest_at m c 6).trans (show pay m 6 c = out2 c (got2 m c) from rfl))) $$ Hpay
  -- every cell closes
  imod (Rounds.cell_close ES (rd m) (Set.mem_univ (K (c, 0))) (fun h => h) (R := 0 + 1) (duties_later m (kcell (c, 0)))) $$ [Hp0] with Hz0
  · isplitr; · iapply (inv_at m K c 0); iexact HR
    iexact Hp0
  imod (Rounds.cell_close ES (rd m) (Set.mem_univ (K (c, 1))) (fun h => h) (R := 0 + 1) (duties_later m (kcell (c, 1)))) $$ [Hp1] with Hz1
  · isplitr; · iapply (inv_at m K c 1); iexact HR
    iexact Hp1
  imod (Rounds.cell_close ES (rd m) (Set.mem_univ (K (c, 2))) (fun h => h) (R := 0 + 1) (duties_later m (kcell (c, 2)))) $$ [Hp2] with Hz2
  · isplitr; · iapply (inv_at m K c 2); iexact HR
    iexact Hp2
  imod (Rounds.cell_close ES (rd m) (Set.mem_univ (K (c, 3))) (fun h => h) (R := 0 + 1) (duties_later m (kcell (c, 3)))) $$ [Hp3] with Hz3
  · isplitr; · iapply (inv_at m K c 3); iexact HR
    iexact Hp3
  imod (Rounds.cell_close ES (rd m) (Set.mem_univ (K (c, 4))) (fun h => h) (R := 0 + 1) (duties_later m (kcell (c, 4)))) $$ [Hp4] with Hz4
  · isplitr; · iapply (inv_at m K c 4); iexact HR
    iexact Hp4
  imod (Rounds.cell_close ES (rd m) (Set.mem_univ (K (c, 5))) (fun h => h) (R := 0 + 1) (duties_later m (kcell (c, 5)))) $$ [Hp5] with Hz5
  · isplitr; · iapply (inv_at m K c 5); iexact HR
    iexact Hp5
  imod (Rounds.cell_close ES (rd m) (Set.mem_univ (K (c, 6))) (fun h => h) (R := 0 + 1) (duties_later m (kcell (c, 6)))) $$ [Hp6] with Hz6
  · isplitr; · iapply (inv_at m K c 6); iexact HR
    iexact Hp6
  rw [wp_ret]; imodintro
  iapply Hk
  unfold bodyPost Φ₁ ends zeros Dat.owesAt Pipeline.owesWithin
  rw [show (dats m 0 c).owed t₀.succ = 0 from rfl, bigSep_fin7]
  isplitr [HO]
  · isplitl [Hk0 Hk1 Hk2 Hr0 Hr1 Hr2]
    · isplitl [Hk0]; · iexact Hk0
      isplitl [Hk1]; · iexact Hk1
      isplitl [Hk2]; · iexact Hk2
      isplitl [Hr0]; · iexact Hr0
      isplitl [Hr1]; · iexact Hr1
      iexact Hr2
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      iexact Hz6
  · iexists _
    isplitr; rotate_left
    · iexact HO
    · ipureintro; exact fun _ _ => Or.inl trivial

theorem bigSep_fin0 (Ψ : Fin 0 → sProp (MT nD τ sig Unit (Elt F) ℕ UU ℕ)) : bigSep Finset.univ Ψ = iprop(emp) := by
  rw [Finset.univ_eq_empty]; exact bigSep_empty

set_option maxRecDepth 4000 in
/-- The obligation of the call's one step. -/
theorem body_obligation (c : Dev nD) : BodyObligation (dats (F := F) m 0 c) (defs₀ (F := F)) 𝒱₀ () Set.univ := fun t => by
  rw [fin_N t]
  show iprop(Φ₀ m c ∗ (dats m 0 c).owesAt () t₀.castSucc ∗ bigSep (Finset.univ : Finset (Fin 0)) _) ⊢ wp frame (wpE (defs₀ (F := F)) 𝒱₀ c none) Set.univ
          (cc0_swap_halves (Memref.whole main_arg0) (Memref.isWhole_whole _) (Memref.whole main_arg1) (Memref.isWhole_whole _)
            (Memref.whole main_arg2) (Memref.isWhole_whole _) (Memref.whole main_v1_0) (Memref.isWhole_whole _) (Memref.whole main_v1_1) (Memref.isWhole_whole _)
            (Memref.whole main_v1_2) (Memref.isWhole_whole _) cc0_scratch0 cc0_scratch1)
    (fun _ => iprop(Φ₁ m c ∗ (dats m 0 c).owesAt () t₀.succ ∗ bigSep (Finset.univ : Finset (Fin 0)) _))
  rw [bigSep_fin0, bigSep_fin0]
  unfold Φ₀
  iintro ⟨⟨⟨%K, Hg⟩, Hc, Hl, Hb⟩, Ho, -⟩
  iapply (sound_body m K c _)
  unfold bodyPre bodyPost
  isplitl
  · isplitr [Ho]
    · isplitl [Hg]; · iexact Hg
      isplitl [Hc]; · iexact Hc
      isplitl [Hl]; · iexact Hl
      iexact Hb
    iexact Ho
  · iintro ⟨H1, H2⟩
    isplitl [H1]; · iexact H1
    isplitl [H2]; · iexact H2
    iempintro

/-! ## The launch -/

theorem ownSemFacts : Pipeline.OwnSemFacts cfg0.spec osem := by decide

theorem share_eq (c : Dev nD) (w : Fin cfg0.W) : (dats (F := F) m 0 c).share w = fullShare := (show Fin 0 from w).elim0

theorem csem_injective : Function.Injective csem := fun a b h => by
  have := congrArg idx h; rwa [idx_csem, idx_csem] at this

def allCells : Finset (GSem nD τ sig) := Finset.univ.map ⟨kcell, kcell_injective⟩
def tokOf (ck : Dev nD × Fin 7) : GSem nD τ sig × ℕ × Bool := (kcell ck, 0, false)
theorem tokOf_injective : Function.Injective tokOf := fun a b h => kcell_injective (congrArg Prod.fst h)
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- A device's share of the ghost state minted at launch. -/
def G (c : Dev nD) : sProp (MT nD τ sig Unit (Elt F) ℕ UU ℕ) :=
  iprop((bigSep Finset.univ fun k : Fin 7 => roundState ES (rd m) (kcell (c, k)) 0)
    ∗ (bigSep Finset.univ fun k : Fin 7 => iprop(atPos ES (kcell (c, k)) 0 ∅ 0 ∗ reached ES (kcell (c, k)) 0)) ∗ toks c)

def G' (c : Dev nD) : sProp (MT nD τ sig Unit (Elt F) ℕ UU ℕ) := iprop(∃ K, ghost m K c)

omit [FloatOps F] in
theorem minted : BI.own (ES (initOf allCells allToks)) ⊢ (|==> bigSep Finset.univ (G m) : sProp (MT nD τ sig Unit (Elt F) ℕ UU ℕ)) := by
  have hC (Ψ : GSem nD τ sig → sProp (MT nD τ sig Unit (Elt F) ℕ UU ℕ)) : bigSep allCells Ψ = bigSep Finset.univ fun c : Dev nD => bigSep Finset.univ fun k : Fin 7 => Ψ (kcell (c, k)) := by
    unfold allCells; rw [bigSep_map, bigSep_univ_prod]; rfl
  have hT : bigSep allToks (fun x => (dutyTok ES x.1 x.2.1 x.2.2 : sProp (MT nD τ sig Unit (Elt F) ℕ UU ℕ))) = bigSep Finset.univ fun c : Dev nD => toks c := by
    unfold allToks toks; rw [bigSep_map, bigSep_univ_prod]; rfl
  have hG : iprop((bigSep allCells fun g => roundState ES (rd m) g 0) ∗ (bigSep allCells fun g => reached ES g 0)
      ∗ (bigSep allCells fun g => atPos ES g 0 ∅ 0) ∗ bigSep allToks fun x => dutyTok ES x.1 x.2.1 x.2.2) ⊢ (bigSep Finset.univ (G m) : sProp (MT nD τ sig Unit (Elt F) ℕ UU ℕ)) := by
    rw [hC, hC, hC, hT]
    unfold G
    simp only [bigSep_sep']
    iintro ⟨H1, H2, H3, H4⟩
    isplitl [H1]; · iexact H1
    isplitl [H2 H3]
    · isplitl [H3]; · iexact H3
      iexact H2
    iexact H4
  iintro H
  imod (Rounds.fund ES (rd m) allCells allToks) $$ H with H
  imodintro
  iapply hG
  iexact H

omit [FloatOps F] in
theorem ownSems0_eq (c : Dev nD) : (Pipeline.ownSems0 (Ix := Unit) (Name := ℕ) (U := UU) (Lvl := ℕ) (Val := Elt F) (τ := τ) osem c : sProp (MT nD τ sig Unit (Elt F) ℕ UU ℕ))
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0) := by
  rw [Pipeline.ownSems0_eq_of_list c osem [0, 1, 2, 3, 4, 5] (by decide) (by decide)]; rfl
omit [FloatOps F] in
theorem unscopedSems0_eq (c : Dev nD) : (unscopedSems0 c : sProp (MT nD τ sig Unit (Elt F) ℕ UU ℕ)) = semVal (kcell (c, 0)) 0 := by
  unfold unscopedSems0; rw [bigSep_eq_bigSepL_of_eq [SemLoc.reg barS] (by decide) (by decide)]; rfl
omit [FloatOps F] in
theorem zeros_eq (c : Dev nD) :
    iprop(unscopedSems0 c ∗ Pipeline.ownSems0 (Ix := Unit) (Name := ℕ) (U := UU) (Lvl := ℕ) (Val := Elt F) (τ := τ) osem c) = (zeros c : sProp (MT nD τ sig Unit (Elt F) ℕ UU ℕ)) := by
  rw [ownSems0_eq, unscopedSems0_eq]; unfold zeros; rw [bigSep_fin7]

omit [FloatOps F] in
/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ES (rd m) κ (kcell (c, k))))
          ∗ (bigSep Finset.univ fun k => iprop(atPos ES (kcell (c, k)) 0 ∅ 0 ∗ reached ES (kcell (c, k)) 0)) ∗ toks c) := by
  have hz : iprop(zeros c ∗ bigSep Finset.univ fun k : Fin 7 => roundState ES (rd m) (kcell (c, k)) 0)
      ⊢ (|={Set.univ}=> bigSep Finset.univ fun k => iprop(∃ κ : ℕ, cellInv ES (rd m) κ (kcell (c, k))) : sProp (MT nD τ sig Unit (Elt F) ℕ UU ℕ)) := by
    unfold zeros
    rw [← bigSep_sep']
    exact (bigSep_mono fun k _ => (Rounds.body_intro ES (rd m) (kcell (c, k))).trans inv_alloc).trans (bigSep_fupd _ _)
  unfold G
  iintro ⟨Hos, Hus, Hst, Hat, Htok⟩
  ihave Hz := (Entails.of_eq (zeros_eq (F := F) c)) $$ [Hos Hus]
  · isplitl [Hus] <;> iassumption
  imod hz $$ [Hz Hst] with Hinv
  · isplitl [Hz] <;> iassumption
  imodintro
  isplitl [Hinv]; · iexact Hinv
  isplitl [Hat]; · iexact Hat
  iexact Htok

omit [FloatOps F] in
/-- Tokens of barriers and landings go to the sibling, the others stay. -/
theorem toks_dealt : (bigSep Finset.univ fun c : Dev nD => (toks c : sProp (MT nD τ sig Unit (Elt F) ℕ UU ℕ))) ⊢ bigSep Finset.univ fun c : Dev nD => payToks c := by
  have e (k : Fin 7) : (bigSep Finset.univ fun c : Dev nD => (dutyTok ES (kcell (sib c, k)) 0 false : sProp (MT nD τ sig Unit (Elt F) ℕ UU ℕ)))
      = bigSep Finset.univ fun c : Dev nD => dutyTok ES (kcell (c, k)) 0 false :=
    (bigSep_univ_equiv sibs (fun c : Dev nD => (dutyTok ES (kcell (c, k)) 0 false : sProp (MT nD τ sig Unit (Elt F) ℕ UU ℕ)))).symm
  unfold toks payToks
  simp only [bigSep_fin7, bigSep_sep', e]
  exact .rfl

omit [FloatOps F] in
theorem share_out {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

omit [FloatOps F] in
theorem regroup :
    (bigSep Finset.univ fun c : Dev nD => iprop((bigSep Finset.univ fun k => iprop(∃ κ : ℕ, cellInv ES (rd m) κ (kcell (c, k))))
          ∗ (bigSep Finset.univ fun k => iprop(atPos ES (kcell (c, k)) 0 ∅ 0 ∗ reached ES (kcell (c, k)) 0)) ∗ toks c) : sProp (MT nD τ sig Unit (Elt F) ℕ UU ℕ))
      ⊢ bigSep Finset.univ (G' m) := by
  rw [bigSep_sep', bigSep_sep', ← bigSep_univ_prod (fun ck : Dev nD × Fin 7 => iprop(∃ κ : ℕ, cellInv ES (rd m) κ (kcell ck))),
    bigSep_congr (s := Finset.univ) (fun (c : Dev nD) _ => bigSep_sep' Finset.univ (fun k : Fin 7 => (atPos ES (kcell (c, k)) 0 ∅ 0 : sProp (MT nD τ sig Unit (Elt F) ℕ UU ℕ))) (fun k => reached ES (kcell (c, k)) 0)),
    bigSep_sep', ← bigSep_univ_prod (fun ck : Dev nD × Fin 7 => (reached ES (kcell ck) 0 : sProp (MT nD τ sig Unit (Elt F) ℕ UU ℕ)))]
  iintro ⟨HI, ⟨Hat, #HR⟩, Htok⟩
  ihave HK := (BI.bigSep_exists_pi Finset.univ (fun (ck : Dev nD × Fin 7) (κ : ℕ) => (cellInv ES (rd m) κ (kcell ck) : sProp (MT nD τ sig Unit (Elt F) ℕ UU ℕ)))) $$ HI
  icases HK with ⟨%K, #HI⟩
  ihave Htk := (toks_dealt (F := F)) $$ Htok
  iapply (share_out (R := records m K) (Φ := fun c : Dev nD => iprop(poss c ∗ payToks c)) fun c _ => show _ ⊢ G' m c from by
    unfold G' ghost
    iintro ⟨H1, H2⟩
    iexists K
    isplitl [H1]; · iexact H1
    iexact H2)
  isplitr
  · unfold records; isplitl; · iexact HI
    iexact HR
  · rw [bigSep_sep']
    isplitl [Hat]; · unfold poss; iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp (MT nD τ sig Unit (Elt F) ℕ UU ℕ))
    ⊢ |={Set.univ}=> bigSep Finset.univ (G' m) :=
  ((bigSep_mono fun c _ => core_alloc m c).trans (bigSep_fupd _ _)).trans (BI.fupd_mono (regroup m))

theorem launch_at (c : Dev nD) (k : Fin 7) (hk : k = 0 ∨ 4 ≤ k) :
    tallyOn (kcell (c, k)) (launchCredit (Pipeline.owing O₀) 0 (kcell (c, k))) = (tallyAt (kcell (c, k)) () (amt k) : CellTallies nD τ sig Unit) := by
  have h1 (d : Dev nD) : O₀ d (kcell (c, k)) () = if d = sib c then amt k else 0 := by
    unfold O₀ O₁ O₂ O₃
    rw [Pi.add_apply, Finsupp.add_apply, Pi.add_apply, Finsupp.add_apply, Pi.add_apply, Finsupp.add_apply, owe_at, owe_at, owe_at, owe_at]
    by_cases hd : d = sib c
    · obtain rfl | rfl | rfl | rfl : k = 0 ∨ k = 4 ∨ k = 5 ∨ k = 6 := by revert k; decide
      all_goals simp [hd]
    · simp [hd]
  unfold tallyAt; refine congrArg _ (Finsupp.ext fun u => ?_); cases u
  rw [Pipeline.launchCredit_owing, Finsupp.single_eq_same, Finset.sum_congr rfl fun d _ => h1 d, Finset.sum_ite_eq' Finset.univ (sib c) fun _ => amt k, if_pos (Finset.mem_univ _)]

omit [FloatOps F] in
theorem creds_intro (c : Dev nD) : (Pipeline.launchCred O₀ c : sProp (MT nD τ sig Unit (Elt F) ℕ UU ℕ)) ⊢ creds c := by
  unfold Pipeline.launchCred
  refine BIBase.Entails.trans (bigSep_subset (Finset.subset_univ (Finset.univ.map ⟨csem, csem_injective⟩))) ?_
  rw [bigSep_map, bigSep_fin7]
  unfold creds
  rw [← launch_at c 0 (by decide), ← launch_at c 4 (by decide), ← launch_at c 5 (by decide), ← launch_at c 6 (by decide)]
  iintro ⟨H0, -, -, -, H4, H5, H6⟩
  isplitl [H0]; · iexact H0
  isplitl [H4]; · iexact H4
  isplitl [H5]; · iexact H5
  iexact H6

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, unscopedRest0_eq]
  unfold Φ₀ G'
  iintro ⟨Hb, Hl, Hc, -, HG⟩
  ihave Hc := (creds_intro (F := F) c) $$ Hc
  imodintro
  isplitl
  · isplitl [HG]; · iexact HG
    isplitl [Hc]; · iexact Hc
    isplitl [Hl]; · iexact Hl
    unfold bufs; iexact Hb
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := sep_elim_left

theorem phi1_exit (c : Dev nD) :
    (dats m 0 c).Φ (Fin.last cfg0.N) ⊢ iprop((ends m c ∗ unscopedSems0 c) ∗ Pipeline.ownSems0 osem c ∗ Pipeline.scopedRest cfg0.spec c) := by
  rw [show (dats m 0 c).Φ (Fin.last cfg0.N) = Φ₁ m c from rfl, scopedRest0_eq]
  unfold Φ₁
  rw [← zeros_eq]
  iintro ⟨He, Hu, Ho⟩
  isplitl [He Hu]
  · isplitl [He]; · iexact He
    iexact Hu
  isplitl [Ho]; · iexact Ho
  iempintro

theorem waits (c : Dev nD) : (levAts L lv : sProp (MT nD τ sig Unit (Elt F) ℕ UU ℕ)) ⊢ Pipeline.cellsWaits cfgs (dats (F := F) m) () 0 c :=
  Pipeline.cellsWaits_intro cfgs (dats m) () 0 c fun w s t => (show Fin 0 from w).elim0

/-! ## The run -/

/-- What is read on device `c` at the end. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2))
  ∧ s.mem ((c : Thread nD τ).loc main_v1_0) = got0 m c
  ∧ s.mem ((c : Thread nD τ).loc main_v1_1) = got1 m c
  ∧ s.mem ((c : Thread nD τ).loc main_v1_2) = got2 m c

theorem ends_read (c : Dev nD) (s' : Phys nD τ sig (Elt F)) :
    iprop((ends m c ∗ unscopedSems0 c) ∗ emp ∗ SI s')
      ⊢ |={Set.univ}=> iprop(⌜Ends m c s'.mem ∧ ∀ sm : SemLoc sig, sm.isScoped .tc = false → s'.mem.sem ((c.tc : Thread nD τ), sm) = 0⌝ ∗ SI s') := by
  unfold ends keep0 keep1 keep2
  rw [out0_eq, out1_eq, out2_eq]
  iintro ⟨⟨⟨H0, H1, H2, H3, H4, H5⟩, Hu⟩, -, HSI⟩
  icombine HSI H0 gives %h0
  icombine HSI H1 gives %h1
  icombine HSI H2 gives %h2
  icombine HSI H3 gives %h3
  icombine HSI H4 gives %h4
  icombine HSI H5 gives %h5
  imod (Pipeline.unscopedSems0_read (X := unscopedSems0 c) (c := c) fupd_intro s') $$ [Hu HSI] with ⟨%hz, HSI⟩
  · isplitl [Hu] <;> iassumption
  imodintro
  isplitr
  · ipureintro
    exact ⟨⟨⟨funext fun i => h0 i (Finset.mem_univ i), funext fun i => h1 i (Finset.mem_univ i), funext fun i => h2 i (Finset.mem_univ i)⟩,
      funext fun i => h3 i (Finset.mem_univ i), funext fun i => h4 i (Finset.mem_univ i), funext fun i => h5 i (Finset.mem_univ i)⟩, hz⟩
  · iexact HSI

set_option maxRecDepth 8000 in
/-- Every weakly fair run ends, with every device's arguments unchanged, its results the halves its sibling sent, and
    every counter at zero. -/
theorem run_main (ρ : Dev nD → PrngReg) : θ_run defs (onTc (τ := τ) (main (F := F))) ⟨m, fun _ => 0, ρ⟩
    (fun r => (∀ c : Dev nD, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => (show Fin 0 from w).elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (minted m) $$ HX with HG
      imodintro
      isplitl [HP] <;> iassumption)
    (hglob := glob m)
    (hA := fun _ w => (show Fin 0 from w).elim0) (hpf := fun _ k => k.elim0)
    (X := Φ₀ m) (Y := fun c => iprop(ends m c ∗ unscopedSems0 c)) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := ends_read m)
    (hQ := fun _ h hs => ⟨fun c => (h c).2.2.1, sem_eq_zero hs fun c => (h c).2.2.2⟩)

end Body

end Cert.Kernel13Ideal.Swap

end
-- ==== Proof.SwapRef.lean ====
/-
The reference of the exchange between the two chips of a pair: what its 39 host operations leave in the three results, and
what a block of a result holds. The reference cuts an array's leading axis into pairs of device slices, takes from each
slice the half that the other device of the pair asks for, and joins the halves in the order of the devices.
-/
module

public import proofs.«01_k».proof.Proof.Gen.Reference13Ideal
public import Idealize.ShloMosaic.Lib.StableHlo.Run
public import Idealize.ShloMosaic.Lib.Pipeline.Frame
public import Idealize.ShloMosaic.Lib.Pipeline.Value
public import Idealize.ShloMosaic.Lib.Pointwise
public import Idealize.ShloMosaic.Lib.Layout

@[expose] public section

noncomputable section

namespace Cert.Reference13Ideal.Swap

open Cert.Reference13Ideal Cert.Reference13Ideal.Gen Idealize.ShloMosaic Idealize.ShloMosaic.TcCoe Idealize.SL.Sem Idealize.ShloMosaic.StableHlo

variable {F : FTy → Type} [FloatOps F]

/-- Two stacks of half slices of the first array, interleaved device by device. -/
def joinA : (⟨S4x1x512x6656, .f32⟩ : BufTy).Contents (Elt F) → (⟨S4x1x512x6656, .f32⟩ : BufTy).Contents (Elt F) → (⟨S4x2x512x6656, .f32⟩ : BufTy).Contents (Elt F) := fun a b => concatenate S4x2x512x6656 1 [⟨S4x1x512x6656, a⟩, ⟨S4x1x512x6656, b⟩] concatenates_S4x1x512x6656_S4x1x512x6656_S4x2x512x6656_d1

/-- Two stacks of half slices of the other arrays, interleaved device by device. -/
def joinB : (⟨S4x1x4x4x32x256, .f32⟩ : BufTy).Contents (Elt F) → (⟨S4x1x4x4x32x256, .f32⟩ : BufTy).Contents (Elt F) → (⟨S4x2x4x4x32x256, .f32⟩ : BufTy).Contents (Elt F) := fun a b => concatenate S4x2x4x4x32x256 1 [⟨S4x1x4x4x32x256, a⟩, ⟨S4x1x4x4x32x256, b⟩] concatenates_S4x1x4x4x32x256_S4x1x4x4x32x256_S4x2x4x4x32x256_d1

/-- The 39 operations of the reference, in order. -/
abbrev ops : List (HloOp τ sig (Elt F)) :=
  [ reshape main_arg0 main_v0 (rfl : (.f32 : EltTy) = .f32) shapeCasts_S16x512x6656_S4x2x2x512x6656,
    unary main_v0 main_v1 ((extractStridedSlice S4x1x2x512x6656 ![0, 1, 0, 0, 0] · slices_S4x2x2x512x6656_S4x1x2x512x6656_0_1_0_0_0) : (⟨S4x2x2x512x6656, .f32⟩ : BufTy).Contents (Elt F) → (⟨S4x1x2x512x6656, .f32⟩ : BufTy).Contents (Elt F)),
    reshape main_v1 main_v2 (rfl : (.f32 : EltTy) = .f32) shapeCasts_S4x1x2x512x6656_S4x2x512x6656,
    unary main_v2 main_v3 ((extractStridedSlice S4x1x512x6656 ![0, 0, 0, 0] · slices_S4x2x512x6656_S4x1x512x6656_0_0_0_0) : (⟨S4x2x512x6656, .f32⟩ : BufTy).Contents (Elt F) → (⟨S4x1x512x6656, .f32⟩ : BufTy).Contents (Elt F)),
    reshape main_v3 main_v4 (rfl : (.f32 : EltTy) = .f32) shapeCasts_S4x1x512x6656_S4x512x6656,
    unary main_v0 main_v5 ((extractStridedSlice S4x1x2x512x6656 ![0, 0, 0, 0, 0] · slices_S4x2x2x512x6656_S4x1x2x512x6656_0_0_0_0_0) : (⟨S4x2x2x512x6656, .f32⟩ : BufTy).Contents (Elt F) → (⟨S4x1x2x512x6656, .f32⟩ : BufTy).Contents (Elt F)),
    reshape main_v5 main_v6 (rfl : (.f32 : EltTy) = .f32) shapeCasts_S4x1x2x512x6656_S4x2x512x6656,
    unary main_v6 main_v7 ((extractStridedSlice S4x1x512x6656 ![0, 1, 0, 0] · slices_S4x2x512x6656_S4x1x512x6656_0_1_0_0) : (⟨S4x2x512x6656, .f32⟩ : BufTy).Contents (Elt F) → (⟨S4x1x512x6656, .f32⟩ : BufTy).Contents (Elt F)),
    reshape main_v7 main_v8 (rfl : (.f32 : EltTy) = .f32) shapeCasts_S4x1x512x6656_S4x512x6656,
    unary main_v4 main_v9 (broadcastInDim S4x1x512x6656 ![0, 2, 3] bcast_S4x512x6656_S4x1x512x6656_0_2_3 : (⟨S4x512x6656, .f32⟩ : BufTy).Contents (Elt F) → (⟨S4x1x512x6656, .f32⟩ : BufTy).Contents (Elt F)),
    unary main_v8 main_v10 (broadcastInDim S4x1x512x6656 ![0, 2, 3] bcast_S4x512x6656_S4x1x512x6656_0_2_3 : (⟨S4x512x6656, .f32⟩ : BufTy).Contents (Elt F) → (⟨S4x1x512x6656, .f32⟩ : BufTy).Contents (Elt F)),
    binary main_v9 main_v10 main_v11 joinA,
    reshape main_v11 main_v12 (rfl : (.f32 : EltTy) = .f32) shapeCasts_S4x2x512x6656_S4096x6656,
    reshape main_arg1 main_v13 (rfl : (.f32 : EltTy) = .f32) shapeCasts_S32x4x2x32x256_S4x2x4x4x2x32x256,
    unary main_v13 main_v14 ((extractStridedSlice S4x1x4x4x2x32x256 ![0, 1, 0, 0, 0, 0, 0] · slices_S4x2x4x4x2x32x256_S4x1x4x4x2x32x256_0_1_0_0_0_0_0) : (⟨S4x2x4x4x2x32x256, .f32⟩ : BufTy).Contents (Elt F) → (⟨S4x1x4x4x2x32x256, .f32⟩ : BufTy).Contents (Elt F)),
    reshape main_v14 main_v15 (rfl : (.f32 : EltTy) = .f32) shapeCasts_S4x1x4x4x2x32x256_S4x4x4x2x32x256,
    unary main_v15 main_v16 ((extractStridedSlice S4x4x4x1x32x256 ![0, 0, 0, 0, 0, 0] · slices_S4x4x4x2x32x256_S4x4x4x1x32x256_0_0_0_0_0_0) : (⟨S4x4x4x2x32x256, .f32⟩ : BufTy).Contents (Elt F) → (⟨S4x4x4x1x32x256, .f32⟩ : BufTy).Contents (Elt F)),
    reshape main_v16 main_v17 (rfl : (.f32 : EltTy) = .f32) shapeCasts_S4x4x4x1x32x256_S4x4x4x32x256,
    unary main_v13 main_v18 ((extractStridedSlice S4x1x4x4x2x32x256 ![0, 0, 0, 0, 0, 0, 0] · slices_S4x2x4x4x2x32x256_S4x1x4x4x2x32x256_0_0_0_0_0_0_0) : (⟨S4x2x4x4x2x32x256, .f32⟩ : BufTy).Contents (Elt F) → (⟨S4x1x4x4x2x32x256, .f32⟩ : BufTy).Contents (Elt F)),
    reshape main_v18 main_v19 (rfl : (.f32 : EltTy) = .f32) shapeCasts_S4x1x4x4x2x32x256_S4x4x4x2x32x256,
    unary main_v19 main_v20 ((extractStridedSlice S4x4x4x1x32x256 ![0, 0, 0, 1, 0, 0] · slices_S4x4x4x2x32x256_S4x4x4x1x32x256_0_0_0_1_0_0) : (⟨S4x4x4x2x32x256, .f32⟩ : BufTy).Contents (Elt F) → (⟨S4x4x4x1x32x256, .f32⟩ : BufTy).Contents (Elt F)),
    reshape main_v20 main_v21 (rfl : (.f32 : EltTy) = .f32) shapeCasts_S4x4x4x1x32x256_S4x4x4x32x256,
    unary main_v17 main_v22 (broadcastInDim S4x1x4x4x32x256 ![0, 2, 3, 4, 5] bcast_S4x4x4x32x256_S4x1x4x4x32x256_0_2_3_4_5 : (⟨S4x4x4x32x256, .f32⟩ : BufTy).Contents (Elt F) → (⟨S4x1x4x4x32x256, .f32⟩ : BufTy).Contents (Elt F)),
    unary main_v21 main_v23 (broadcastInDim S4x1x4x4x32x256 ![0, 2, 3, 4, 5] bcast_S4x4x4x32x256_S4x1x4x4x32x256_0_2_3_4_5 : (⟨S4x4x4x32x256, .f32⟩ : BufTy).Contents (Elt F) → (⟨S4x1x4x4x32x256, .f32⟩ : BufTy).Contents (Elt F)),
    binary main_v22 main_v23 main_v24 joinB,
    reshape main_v24 main_v25 (rfl : (.f32 : EltTy) = .f32) shapeCasts_S4x2x4x4x32x256_S32x4x32x256,
    reshape main_arg2 main_v26 (rfl : (.f32 : EltTy) = .f32) shapeCasts_S32x4x2x32x256_S4x2x4x4x2x32x256,
    unary main_v26 main_v27 ((extractStridedSlice S4x1x4x4x2x32x256 ![0, 1, 0, 0, 0, 0, 0] · slices_S4x2x4x4x2x32x256_S4x1x4x4x2x32x256_0_1_0_0_0_0_0) : (⟨S4x2x4x4x2x32x256, .f32⟩ : BufTy).Contents (Elt F) → (⟨S4x1x4x4x2x32x256, .f32⟩ : BufTy).Contents (Elt F)),
    reshape main_v27 main_v28 (rfl : (.f32 : EltTy) = .f32) shapeCasts_S4x1x4x4x2x32x256_S4x4x4x2x32x256,
    unary main_v28 main_v29 ((extractStridedSlice S4x4x4x1x32x256 ![0, 0, 0, 0, 0, 0] · slices_S4x4x4x2x32x256_S4x4x4x1x32x256_0_0_0_0_0_0) : (⟨S4x4x4x2x32x256, .f32⟩ : BufTy).Contents (Elt F) → (⟨S4x4x4x1x32x256, .f32⟩ : BufTy).Contents (Elt F)),
    reshape main_v29 main_v30 (rfl : (.f32 : EltTy) = .f32) shapeCasts_S4x4x4x1x32x256_S4x4x4x32x256,
    unary main_v26 main_v31 ((extractStridedSlice S4x1x4x4x2x32x256 ![0, 0, 0, 0, 0, 0, 0] · slices_S4x2x4x4x2x32x256_S4x1x4x4x2x32x256_0_0_0_0_0_0_0) : (⟨S4x2x4x4x2x32x256, .f32⟩ : BufTy).Contents (Elt F) → (⟨S4x1x4x4x2x32x256, .f32⟩ : BufTy).Contents (Elt F)),
    reshape main_v31 main_v32 (rfl : (.f32 : EltTy) = .f32) shapeCasts_S4x1x4x4x2x32x256_S4x4x4x2x32x256,
    unary main_v32 main_v33 ((extractStridedSlice S4x4x4x1x32x256 ![0, 0, 0, 1, 0, 0] · slices_S4x4x4x2x32x256_S4x4x4x1x32x256_0_0_0_1_0_0) : (⟨S4x4x4x2x32x256, .f32⟩ : BufTy).Contents (Elt F) → (⟨S4x4x4x1x32x256, .f32⟩ : BufTy).Contents (Elt F)),
    reshape main_v33 main_v34 (rfl : (.f32 : EltTy) = .f32) shapeCasts_S4x4x4x1x32x256_S4x4x4x32x256,
    unary main_v30 main_v35 (broadcastInDim S4x1x4x4x32x256 ![0, 2, 3, 4, 5] bcast_S4x4x4x32x256_S4x1x4x4x32x256_0_2_3_4_5 : (⟨S4x4x4x32x256, .f32⟩ : BufTy).Contents (Elt F) → (⟨S4x1x4x4x32x256, .f32⟩ : BufTy).Contents (Elt F)),
    unary main_v34 main_v36 (broadcastInDim S4x1x4x4x32x256 ![0, 2, 3, 4, 5] bcast_S4x4x4x32x256_S4x1x4x4x32x256_0_2_3_4_5 : (⟨S4x4x4x32x256, .f32⟩ : BufTy).Contents (Elt F) → (⟨S4x1x4x4x32x256, .f32⟩ : BufTy).Contents (Elt F)),
    binary main_v35 main_v36 main_v37 joinB,
    reshape main_v37 main_v38 (rfl : (.f32 : EltTy) = .f32) shapeCasts_S4x2x4x4x32x256_S32x4x32x256 ]

/-- What the reference makes of the first array. -/
def crossA (x : (⟨S16x512x6656, .f32⟩ : BufTy).Contents (Elt F)) : (⟨S4096x6656, .f32⟩ : BufTy).Contents (Elt F) :=
  shapeCast _ (joinA
    (broadcastInDim S4x1x512x6656 ![0, 2, 3] bcast_S4x512x6656_S4x1x512x6656_0_2_3 (shapeCast S4x512x6656
      (extractStridedSlice S4x1x512x6656 ![0, 0, 0, 0] (shapeCast S4x2x512x6656
        (extractStridedSlice S4x1x2x512x6656 ![0, 1, 0, 0, 0] (shapeCast _ x shapeCasts_S16x512x6656_S4x2x2x512x6656)
          slices_S4x2x2x512x6656_S4x1x2x512x6656_0_1_0_0_0) shapeCasts_S4x1x2x512x6656_S4x2x512x6656)
        slices_S4x2x512x6656_S4x1x512x6656_0_0_0_0) shapeCasts_S4x1x512x6656_S4x512x6656))
    (broadcastInDim S4x1x512x6656 ![0, 2, 3] bcast_S4x512x6656_S4x1x512x6656_0_2_3 (shapeCast S4x512x6656
      (extractStridedSlice S4x1x512x6656 ![0, 1, 0, 0] (shapeCast S4x2x512x6656
        (extractStridedSlice S4x1x2x512x6656 ![0, 0, 0, 0, 0] (shapeCast _ x shapeCasts_S16x512x6656_S4x2x2x512x6656)
          slices_S4x2x2x512x6656_S4x1x2x512x6656_0_0_0_0_0) shapeCasts_S4x1x2x512x6656_S4x2x512x6656)
        slices_S4x2x512x6656_S4x1x512x6656_0_1_0_0) shapeCasts_S4x1x512x6656_S4x512x6656)))
    shapeCasts_S4x2x512x6656_S4096x6656

/-- What the reference makes of each of the other two. -/
def crossB (x : (⟨S32x4x2x32x256, .f32⟩ : BufTy).Contents (Elt F)) : (⟨S32x4x32x256, .f32⟩ : BufTy).Contents (Elt F) :=
  shapeCast _ (joinB
    (broadcastInDim S4x1x4x4x32x256 ![0, 2, 3, 4, 5] bcast_S4x4x4x32x256_S4x1x4x4x32x256_0_2_3_4_5 (shapeCast S4x4x4x32x256
      (extractStridedSlice S4x4x4x1x32x256 ![0, 0, 0, 0, 0, 0] (shapeCast S4x4x4x2x32x256
        (extractStridedSlice S4x1x4x4x2x32x256 ![0, 1, 0, 0, 0, 0, 0] (shapeCast _ x shapeCasts_S32x4x2x32x256_S4x2x4x4x2x32x256)
          slices_S4x2x4x4x2x32x256_S4x1x4x4x2x32x256_0_1_0_0_0_0_0) shapeCasts_S4x1x4x4x2x32x256_S4x4x4x2x32x256)
        slices_S4x4x4x2x32x256_S4x4x4x1x32x256_0_0_0_0_0_0) shapeCasts_S4x4x4x1x32x256_S4x4x4x32x256))
    (broadcastInDim S4x1x4x4x32x256 ![0, 2, 3, 4, 5] bcast_S4x4x4x32x256_S4x1x4x4x32x256_0_2_3_4_5 (shapeCast S4x4x4x32x256
      (extractStridedSlice S4x4x4x1x32x256 ![0, 0, 0, 1, 0, 0] (shapeCast S4x4x4x2x32x256
        (extractStridedSlice S4x1x4x4x2x32x256 ![0, 0, 0, 0, 0, 0, 0] (shapeCast _ x shapeCasts_S32x4x2x32x256_S4x2x4x4x2x32x256)
          slices_S4x2x4x4x2x32x256_S4x1x4x4x2x32x256_0_0_0_0_0_0_0) shapeCasts_S4x1x4x4x2x32x256_S4x4x4x2x32x256)
        slices_S4x4x4x2x32x256_S4x4x4x1x32x256_0_0_0_1_0_0) shapeCasts_S4x4x4x1x32x256_S4x4x4x32x256)))
    shapeCasts_S4x2x4x4x32x256_S32x4x32x256

/-! ## The run -/

set_option maxRecDepth 8192 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., reshape_bufs_sub ..⟩

set_option maxRecDepth 8192 in
/-- The reference ends with its results at these functions of its arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = crossA (m ((c.tc : Thread nD τ).loc main_arg0))
      ∧ r.2.mem ((c.tc : Thread nD τ).loc main_v25) = crossB (m ((c.tc : Thread nD τ).loc main_arg1))
      ∧ r.2.mem ((c.tc : Thread nD τ).loc main_v38) = crossB (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v12).trans (by unfold crossA; after_results_simp <;> rfl),
      (h c main_v25).trans (by unfold crossB; after_results_simp <;> rfl),
      (h c main_v38).trans (by unfold crossB; after_results_simp <;> rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

/-! ## A result at an index -/

/-- Row of the stack that keeps half 0 of device slice 1. -/
theorem pieceA0 (x : S16x512x6656.Idx → F .f32) (p : Fin 4) (k : Fin 16) (r : Fin 512) (j : Fin 6656)
    (hk : k.val = 4 * p.val + 2) :
    broadcastInDim S4x1x512x6656 ![0, 2, 3] bcast_S4x512x6656_S4x1x512x6656_0_2_3 (shapeCast S4x512x6656
      (extractStridedSlice S4x1x512x6656 ![0, 0, 0, 0] (shapeCast S4x2x512x6656
        (extractStridedSlice S4x1x2x512x6656 ![0, 1, 0, 0, 0] (shapeCast _ x shapeCasts_S16x512x6656_S4x2x2x512x6656)
          slices_S4x2x2x512x6656_S4x1x2x512x6656_0_1_0_0_0) shapeCasts_S4x1x2x512x6656_S4x2x512x6656)
        slices_S4x2x512x6656_S4x1x512x6656_0_0_0_0) shapeCasts_S4x1x512x6656_S4x512x6656)
      (ix4 p 0 r j) = x (ix3 k r j) :=
  (broadcastInDim_apply _ _ _ _ (ix3 p r j) (fun z => by fin_cases z <;> simp)).trans <|
  (shapeCast_apply _ _ _ (ix4 p 0 r j) (by rw [rowMajor_val4 _ 3407872 3407872 6656 rfl rfl rfl, rowMajor_val3 _ 3407872 6656 rfl rfl]; simp <;> omega)).trans <|
  (extractStridedSlice_apply _ _ _ _ (ix4 p 0 r j) (fun z => by fin_cases z <;> simp)).trans <|
  (shapeCast_apply _ _ _ (ix5 p 0 0 r j) (by rw [rowMajor_val5 _ 6815744 6815744 3407872 6656 rfl rfl rfl rfl, rowMajor_val4 _ 6815744 3407872 6656 rfl rfl rfl]; simp <;> omega)).trans <|
  (extractStridedSlice_apply _ _ _ _ (ix5 p 1 0 r j) (fun z => by fin_cases z <;> simp)).trans <|
  shapeCast_apply _ _ _ (ix3 k r j) (by rw [rowMajor_val3 _ 3407872 6656 rfl rfl, rowMajor_val5 _ 13631488 6815744 3407872 6656 rfl rfl rfl rfl]; simp <;> omega)

/-- Row of the stack that keeps half 1 of device slice 0. -/
theorem pieceA1 (x : S16x512x6656.Idx → F .f32) (p : Fin 4) (k : Fin 16) (r : Fin 512) (j : Fin 6656)
    (hk : k.val = 4 * p.val + 1) :
    broadcastInDim S4x1x512x6656 ![0, 2, 3] bcast_S4x512x6656_S4x1x512x6656_0_2_3 (shapeCast S4x512x6656
      (extractStridedSlice S4x1x512x6656 ![0, 1, 0, 0] (shapeCast S4x2x512x6656
        (extractStridedSlice S4x1x2x512x6656 ![0, 0, 0, 0, 0] (shapeCast _ x shapeCasts_S16x512x6656_S4x2x2x512x6656)
          slices_S4x2x2x512x6656_S4x1x2x512x6656_0_0_0_0_0) shapeCasts_S4x1x2x512x6656_S4x2x512x6656)
        slices_S4x2x512x6656_S4x1x512x6656_0_1_0_0) shapeCasts_S4x1x512x6656_S4x512x6656)
      (ix4 p 0 r j) = x (ix3 k r j) :=
  (broadcastInDim_apply _ _ _ _ (ix3 p r j) (fun z => by fin_cases z <;> simp)).trans <|
  (shapeCast_apply _ _ _ (ix4 p 0 r j) (by rw [rowMajor_val4 _ 3407872 3407872 6656 rfl rfl rfl, rowMajor_val3 _ 3407872 6656 rfl rfl]; simp <;> omega)).trans <|
  (extractStridedSlice_apply _ _ _ _ (ix4 p 1 r j) (fun z => by fin_cases z <;> simp)).trans <|
  (shapeCast_apply _ _ _ (ix5 p 0 1 r j) (by rw [rowMajor_val5 _ 6815744 6815744 3407872 6656 rfl rfl rfl rfl, rowMajor_val4 _ 6815744 3407872 6656 rfl rfl rfl]; simp <;> omega)).trans <|
  (extractStridedSlice_apply _ _ _ _ (ix5 p 0 1 r j) (fun z => by fin_cases z <;> simp)).trans <|
  shapeCast_apply _ _ _ (ix3 k r j) (by rw [rowMajor_val3 _ 3407872 6656 rfl rfl, rowMajor_val5 _ 13631488 6815744 3407872 6656 rfl rfl rfl rfl]; simp <;> omega)

/-- Slab of the stack that keeps half 0 of device slice 1. -/
theorem pieceB0 (x : S32x4x2x32x256.Idx → F .f32) (p : Fin 4) (k : Fin 32) (e d : Fin 4) (s : Fin 32) (l : Fin 256)
    (hk : k.val = 8 * p.val + 4 + e.val) :
    broadcastInDim S4x1x4x4x32x256 ![0, 2, 3, 4, 5] bcast_S4x4x4x32x256_S4x1x4x4x32x256_0_2_3_4_5 (shapeCast S4x4x4x32x256
      (extractStridedSlice S4x4x4x1x32x256 ![0, 0, 0, 0, 0, 0] (shapeCast S4x4x4x2x32x256
        (extractStridedSlice S4x1x4x4x2x32x256 ![0, 1, 0, 0, 0, 0, 0] (shapeCast _ x shapeCasts_S32x4x2x32x256_S4x2x4x4x2x32x256)
          slices_S4x2x4x4x2x32x256_S4x1x4x4x2x32x256_0_1_0_0_0_0_0) shapeCasts_S4x1x4x4x2x32x256_S4x4x4x2x32x256)
        slices_S4x4x4x2x32x256_S4x4x4x1x32x256_0_0_0_0_0_0) shapeCasts_S4x4x4x1x32x256_S4x4x4x32x256)
      (ix6 p 0 e d s l) = x (ix5 k d 0 s l) :=
  (broadcastInDim_apply _ _ _ _ (ix5 p e d s l) (fun z => by fin_cases z <;> simp)).trans <|
  (shapeCast_apply _ _ _ (ix6 p e d 0 s l) (by rw [rowMajor_val6 _ 131072 32768 8192 8192 256 rfl rfl rfl rfl rfl, rowMajor_val5 _ 131072 32768 8192 256 rfl rfl rfl rfl]; simp <;> omega)).trans <|
  (extractStridedSlice_apply _ _ _ _ (ix6 p e d 0 s l) (fun z => by fin_cases z <;> simp)).trans <|
  (shapeCast_apply _ _ _ (ix7 p 0 e d 0 s l) (by rw [rowMajor_val7 _ 262144 262144 65536 16384 8192 256 rfl rfl rfl rfl rfl rfl, rowMajor_val6 _ 262144 65536 16384 8192 256 rfl rfl rfl rfl rfl]; simp <;> omega)).trans <|
  (extractStridedSlice_apply _ _ _ _ (ix7 p 1 e d 0 s l) (fun z => by fin_cases z <;> simp)).trans <|
  shapeCast_apply _ _ _ (ix5 k d 0 s l) (by rw [rowMajor_val5 _ 65536 16384 8192 256 rfl rfl rfl rfl, rowMajor_val7 _ 524288 262144 65536 16384 8192 256 rfl rfl rfl rfl rfl rfl]; simp <;> omega)

/-- Slab of the stack that keeps half 1 of device slice 0. -/
theorem pieceB1 (x : S32x4x2x32x256.Idx → F .f32) (p : Fin 4) (k : Fin 32) (e d : Fin 4) (s : Fin 32) (l : Fin 256)
    (hk : k.val = 8 * p.val + 0 + e.val) :
    broadcastInDim S4x1x4x4x32x256 ![0, 2, 3, 4, 5] bcast_S4x4x4x32x256_S4x1x4x4x32x256_0_2_3_4_5 (shapeCast S4x4x4x32x256
      (extractStridedSlice S4x4x4x1x32x256 ![0, 0, 0, 1, 0, 0] (shapeCast S4x4x4x2x32x256
        (extractStridedSlice S4x1x4x4x2x32x256 ![0, 0, 0, 0, 0, 0, 0] (shapeCast _ x shapeCasts_S32x4x2x32x256_S4x2x4x4x2x32x256)
          slices_S4x2x4x4x2x32x256_S4x1x4x4x2x32x256_0_0_0_0_0_0_0) shapeCasts_S4x1x4x4x2x32x256_S4x4x4x2x32x256)
        slices_S4x4x4x2x32x256_S4x4x4x1x32x256_0_0_0_1_0_0) shapeCasts_S4x4x4x1x32x256_S4x4x4x32x256)
      (ix6 p 0 e d s l) = x (ix5 k d 1 s l) :=
  (broadcastInDim_apply _ _ _ _ (ix5 p e d s l) (fun z => by fin_cases z <;> simp)).trans <|
  (shapeCast_apply _ _ _ (ix6 p e d 0 s l) (by rw [rowMajor_val6 _ 131072 32768 8192 8192 256 rfl rfl rfl rfl rfl, rowMajor_val5 _ 131072 32768 8192 256 rfl rfl rfl rfl]; simp <;> omega)).trans <|
  (extractStridedSlice_apply _ _ _ _ (ix6 p e d 1 s l) (fun z => by fin_cases z <;> simp)).trans <|
  (shapeCast_apply _ _ _ (ix7 p 0 e d 1 s l) (by rw [rowMajor_val7 _ 262144 262144 65536 16384 8192 256 rfl rfl rfl rfl rfl rfl, rowMajor_val6 _ 262144 65536 16384 8192 256 rfl rfl rfl rfl rfl]; simp <;> omega)).trans <|
  (extractStridedSlice_apply _ _ _ _ (ix7 p 0 e d 1 s l) (fun z => by fin_cases z <;> simp)).trans <|
  shapeCast_apply _ _ _ (ix5 k d 1 s l) (by rw [rowMajor_val5 _ 65536 16384 8192 256 rfl rfl rfl rfl, rowMajor_val7 _ 524288 262144 65536 16384 8192 256 rfl rfl rfl rfl rfl rfl]; simp <;> omega)

theorem joinA_0 (a b : S4x1x512x6656.Idx → F .f32) (p : Fin 4) (r : Fin 512) (j : Fin 6656) :
    joinA (F := F) a b (ix4 p 0 r j) = a (ix4 p 0 r j) :=
  concatenate_pair_apply_left 1 a b concatenates_S4x1x512x6656_S4x1x512x6656_S4x2x512x6656_d1 (ix4 p 0 r j) rfl (ix4 p 0 r j) (fun z => by fin_cases z <;> simp)

theorem joinA_1 (a b : S4x1x512x6656.Idx → F .f32) (p : Fin 4) (r : Fin 512) (j : Fin 6656) :
    joinA (F := F) a b (ix4 p 1 r j) = b (ix4 p 0 r j) :=
  concatenate_pair_apply_right 1 a b concatenates_S4x1x512x6656_S4x1x512x6656_S4x2x512x6656_d1 (ix4 p 1 r j) rfl rfl (ix4 p 0 r j) (fun z => by fin_cases z <;> simp) rfl

theorem joinB_0 (a b : S4x1x4x4x32x256.Idx → F .f32) (p e d : Fin 4) (s : Fin 32) (l : Fin 256) :
    joinB (F := F) a b (ix6 p 0 e d s l) = a (ix6 p 0 e d s l) :=
  concatenate_pair_apply_left 1 a b concatenates_S4x1x4x4x32x256_S4x1x4x4x32x256_S4x2x4x4x32x256_d1 (ix6 p 0 e d s l) rfl (ix6 p 0 e d s l) (fun z => by fin_cases z <;> simp)

theorem joinB_1 (a b : S4x1x4x4x32x256.Idx → F .f32) (p e d : Fin 4) (s : Fin 32) (l : Fin 256) :
    joinB (F := F) a b (ix6 p 1 e d s l) = b (ix6 p 0 e d s l) :=
  concatenate_pair_apply_right 1 a b concatenates_S4x1x4x4x32x256_S4x1x4x4x32x256_S4x2x4x4x32x256_d1 (ix6 p 1 e d s l) rfl rfl (ix6 p 0 e d s l) (fun z => by fin_cases z <;> simp) rfl

/-- A row of the result on an even device: half 0 of its sibling's slice. -/
theorem crossA_even (x : S16x512x6656.Idx → F .f32) (i : Fin 4096) (p : Fin 4) (k : Fin 16) (r : Fin 512) (j : Fin 6656)
    (hi : i.val = 1024 * p.val + 0 + r.val) (hk : k.val = 4 * p.val + 2) :
    crossA (F := F) x (ix2 i j) = x (ix3 k r j) :=
  (shapeCast_apply _ _ _ (ix4 p 0 r j) (by rw [rowMajor_val4 _ 6815744 3407872 6656 rfl rfl rfl, rowMajor_val2 _ 6656 rfl]; simp <;> omega)).trans <|
  (joinA_0 ..).trans <|
  pieceA0 x p k r j hk

/-- A row of the result on an odd device: half 1 of its sibling's slice. -/
theorem crossA_odd (x : S16x512x6656.Idx → F .f32) (i : Fin 4096) (p : Fin 4) (k : Fin 16) (r : Fin 512) (j : Fin 6656)
    (hi : i.val = 1024 * p.val + 512 + r.val) (hk : k.val = 4 * p.val + 1) :
    crossA (F := F) x (ix2 i j) = x (ix3 k r j) :=
  (shapeCast_apply _ _ _ (ix4 p 1 r j) (by rw [rowMajor_val4 _ 6815744 3407872 6656 rfl rfl rfl, rowMajor_val2 _ 6656 rfl]; simp <;> omega)).trans <|
  (joinA_1 ..).trans <|
  pieceA1 x p k r j hk

/-- A slab of the result on an even device: half 0 of its sibling's slice. -/
theorem crossB_even (x : S32x4x2x32x256.Idx → F .f32) (i : Fin 32) (p : Fin 4) (k : Fin 32) (e d : Fin 4) (s : Fin 32) (l : Fin 256)
    (hi : i.val = 8 * p.val + 0 + e.val) (hk : k.val = 8 * p.val + 4 + e.val) :
    crossB (F := F) x (ix4 i d s l) = x (ix5 k d 0 s l) :=
  (shapeCast_apply _ _ _ (ix6 p 0 e d s l) (by rw [rowMajor_val6 _ 262144 131072 32768 8192 256 rfl rfl rfl rfl rfl, rowMajor_val4 _ 32768 8192 256 rfl rfl rfl]; simp <;> omega)).trans <|
  (joinB_0 ..).trans <|
  pieceB0 x p k e d s l hk

/-- A slab of the result on an odd device: half 1 of its sibling's slice. -/
theorem crossB_odd (x : S32x4x2x32x256.Idx → F .f32) (i : Fin 32) (p : Fin 4) (k : Fin 32) (e d : Fin 4) (s : Fin 32) (l : Fin 256)
    (hi : i.val = 8 * p.val + 4 + e.val) (hk : k.val = 8 * p.val + 0 + e.val) :
    crossB (F := F) x (ix4 i d s l) = x (ix5 k d 1 s l) :=
  (shapeCast_apply _ _ _ (ix6 p 1 e d s l) (by rw [rowMajor_val6 _ 262144 131072 32768 8192 256 rfl rfl rfl rfl rfl, rowMajor_val4 _ 32768 8192 256 rfl rfl rfl]; simp <;> omega)).trans <|
  (joinB_1 ..).trans <|
  pieceB1 x p k e d s l hk

end Cert.Reference13Ideal.Swap

end
-- ==== Proof.SwapBoth.lean ====
/-
What a device holds after the exchange is its block of what the reference makes of the whole arrays.
-/
module

public import proofs.«01_k».proof.Proof.SwapAIdeal
public import proofs.«01_k».proof.Proof.SwapRef

@[expose] public section

noncomputable section

namespace Cert.SwapBoth

open Idealize.ShloMosaic Idealize.ShloMosaic.TcCoe
open Cert.Kernel13Ideal Cert.Kernel13Ideal.Gen Cert.Kernel13Ideal.Swap
open Cert.Reference13Ideal.Swap (crossA crossB crossA_even crossA_odd crossB_even crossB_odd)

variable {F : FTy → Type} [FloatOps F]
variable (m : (ℓ : Loc nD τ sig) → Buf (Elt F) ℓ)

theorem sib_val (c : Dev nD) : (sib c).val = 2 * (c.val / 2) + (1 - c.val % 2) := rfl

/-- A row of the half that device `d` sends of the first array. -/
theorem sent0 (d : Dev nD) (f : (⟨S2x512x6656, .f32⟩ : BufTy).Contents (Elt F)) (b : Fin 2) (hb : b.val = 1 - d.val % 2)
    (r : Fin 512) (j : Fin 6656) : (src0 d).view.read (Elt F) f (ix2 r j) = f (ix3 b r j) := by
  have e : Shape.reshapeEquiv (squeezes_S1x512x6656_S512x6656).numel_eq (ix2 r j) = ix3 (0 : Fin 1) r j :=
    Shape.reshapeEquiv_eq_of_vals _ _ _ _ _ (rowMajor_val3 _ 3407872 6656 rfl rfl) (rowMajor_val2 _ 6656 rfl) (by simp)
  refine (show _ = f ((Rect.unit (s := S2x512x6656) (k0_off1 d) S1x512x6656.size (k0_off1_inb d)).emb
    (Shape.reshapeEquiv (squeezes_S1x512x6656_S512x6656).numel_eq (ix2 r j))) from rfl).trans ?_
  rw [e]
  refine congrArg f (funext fun a => Fin.ext ?_)
  rw [Rect.emb_apply]
  have ho := congrFun (k0_off1_eq d) a
  fin_cases a <;> simp_all

/-- An entry of the half that device `d` sends of array 1. -/
theorem sent1 (d : Dev nD) (f : (⟨S4x4x2x32x256, .f32⟩ : BufTy).Contents (Elt F)) (b : Fin 2) (hb : b.val = 1 - d.val % 2)
    (e g : Fin 4) (s : Fin 32) (l : Fin 256) : (src1 d).view.read (Elt F) f (ix4 e g s l) = f (ix5 e g b s l) := by
  have e : Shape.reshapeEquiv (squeezes_S4x4x1x32x256_S4x4x32x256).numel_eq (ix4 e g s l) = ix5 e g (0 : Fin 1) s l :=
    Shape.reshapeEquiv_eq_of_vals _ _ _ _ _ (rowMajor_val5 _ 32768 8192 8192 256 rfl rfl rfl rfl)
      (rowMajor_val4 _ 32768 8192 256 rfl rfl rfl) (by simp)
  refine (show _ = f ((Rect.unit (s := S4x4x2x32x256) (k0_off2 d) S4x4x1x32x256.size (k0_off2_inb d)).emb
    (Shape.reshapeEquiv (squeezes_S4x4x1x32x256_S4x4x32x256).numel_eq (ix4 _ g s l))) from rfl).trans ?_
  rw [e]
  refine congrArg f (funext fun a => Fin.ext ?_)
  rw [Rect.emb_apply]
  have ho := congrFun (k0_off2_eq d) a
  fin_cases a <;> simp_all

/-- An entry of the half that device `d` sends of array 2. -/
theorem sent2 (d : Dev nD) (f : (⟨S4x4x2x32x256, .f32⟩ : BufTy).Contents (Elt F)) (b : Fin 2) (hb : b.val = 1 - d.val % 2)
    (e g : Fin 4) (s : Fin 32) (l : Fin 256) : (src2 d).view.read (Elt F) f (ix4 e g s l) = f (ix5 e g b s l) := by
  have e : Shape.reshapeEquiv (squeezes_S4x4x1x32x256_S4x4x32x256).numel_eq (ix4 e g s l) = ix5 e g (0 : Fin 1) s l :=
    Shape.reshapeEquiv_eq_of_vals _ _ _ _ _ (rowMajor_val5 _ 32768 8192 8192 256 rfl rfl rfl rfl)
      (rowMajor_val4 _ 32768 8192 256 rfl rfl rfl) (by simp)
  refine (show _ = f ((Rect.unit (s := S4x4x2x32x256) (k0_off2 d) S4x4x1x32x256.size (k0_off2_inb d)).emb
    (Shape.reshapeEquiv (squeezes_S4x4x1x32x256_S4x4x32x256).numel_eq (ix4 _ g s l))) from rfl).trans ?_
  rw [e]
  refine congrArg f (funext fun a => Fin.ext ?_)
  rw [Rect.emb_apply]
  have ho := congrFun (k0_off2_eq d) a
  fin_cases a <;> simp_all

/-- Device `c`'s first result is its block of what the reference makes of the first array. -/
theorem got0_eq (x : (⟨⟨3, ![16, 512, 6656]⟩, .f32⟩ : BufTy).Contents (Elt F)) (c : Dev nD)
    (h : ∀ d : Dev nD, m ((d : Thread nD τ).loc main_arg0) = Layout.block ⟨3, ![2, 512, 6656]⟩ ⟨3, ![16, 512, 6656]⟩ 0 8 d x) :
    got0 m c = Layout.block ⟨2, ![512, 6656]⟩ ⟨2, ![4096, 6656]⟩ 0 8 c (crossA (F := F) x) := by
  have hc : c.val < 8 := c.isLt
  have hs := sib_val c
  funext y
  obtain ⟨r, j, rfl⟩ : ∃ (r : Fin 512) (j : Fin 6656), y = ix2 r j := ⟨y 0, y 1, eq_ix2 y⟩
  have hi : (Layout.Tiles.idx (S := ⟨2, ![512, 6656]⟩) (T := ⟨2, ![4096, 6656]⟩) (a := 0) (k := 8) (by decide) c (ix2 r j))
      = ix2 (⟨512 * c.val + r.val, by omega⟩ : Fin 4096) j := by
    funext a; refine Fin.ext ?_; rw [Layout.Tiles.idx_val]; fin_cases a <;> simp [Nat.mul_comm]
  have hk (b : Fin 2) : (Layout.Tiles.idx (S := ⟨3, ![2, 512, 6656]⟩) (T := ⟨3, ![16, 512, 6656]⟩) (a := 0) (k := 8) (by decide) (sib c) (ix3 b r j))
      = ix3 (⟨2 * (sib c).val + b.val, by omega⟩ : Fin 16) r j := by
    funext a; refine Fin.ext ?_; rw [Layout.Tiles.idx_val]; fin_cases a <;> simp [Nat.mul_comm]
  rw [Layout.block_apply, hi]
  rcases Nat.mod_two_eq_zero_or_one c.val with h0 | h1
  · refine (sent0 (sib c) _ 0 (by simp; omega) r j).trans ?_
    rw [h (sib c), Layout.block_apply, hk]
    exact (crossA_even x _ ⟨c.val / 2, by omega⟩ _ r j (by simp; omega) (by simp; omega)).symm
  · refine (sent0 (sib c) _ 1 (by simp; omega) r j).trans ?_
    rw [h (sib c), Layout.block_apply, hk]
    exact (crossA_odd x _ ⟨c.val / 2, by omega⟩ _ r j (by simp; omega) (by simp; omega)).symm

/-- Device `c`'s result 1 is its block of what the reference makes of array 1. -/
theorem got1_eq (x : (⟨⟨5, ![32, 4, 2, 32, 256]⟩, .f32⟩ : BufTy).Contents (Elt F)) (c : Dev nD)
    (h : ∀ d : Dev nD, m ((d : Thread nD τ).loc main_arg1) = Layout.block ⟨5, ![4, 4, 2, 32, 256]⟩ ⟨5, ![32, 4, 2, 32, 256]⟩ 0 8 d x) :
    got1 m c = Layout.block ⟨4, ![4, 4, 32, 256]⟩ ⟨4, ![32, 4, 32, 256]⟩ 0 8 c (crossB (F := F) x) := by
  have hc : c.val < 8 := c.isLt
  have hs := sib_val c
  funext y
  obtain ⟨e, g, s, l, rfl⟩ : ∃ (e g : Fin 4) (s : Fin 32) (l : Fin 256), y = ix4 e g s l := ⟨y 0, y 1, y 2, y 3, eq_ix4 y⟩
  have hi : (Layout.Tiles.idx (S := ⟨4, ![4, 4, 32, 256]⟩) (T := ⟨4, ![32, 4, 32, 256]⟩) (a := 0) (k := 8) (by decide) c (ix4 e g s l))
      = ix4 (⟨4 * c.val + e.val, by omega⟩ : Fin 32) g s l := by
    funext a; refine Fin.ext ?_; rw [Layout.Tiles.idx_val]; fin_cases a <;> simp [Nat.mul_comm]
  have hk (b : Fin 2) : (Layout.Tiles.idx (S := ⟨5, ![4, 4, 2, 32, 256]⟩) (T := ⟨5, ![32, 4, 2, 32, 256]⟩) (a := 0) (k := 8) (by decide) (sib c) (ix5 e g b s l))
      = ix5 (⟨4 * (sib c).val + e.val, by omega⟩ : Fin 32) g b s l := by
    funext a; refine Fin.ext ?_; rw [Layout.Tiles.idx_val]; fin_cases a <;> simp [Nat.mul_comm]
  rw [Layout.block_apply, hi]
  rcases Nat.mod_two_eq_zero_or_one c.val with h0 | h1
  · refine (sent1 (sib c) _ 0 (by simp; omega) e g s l).trans ?_
    rw [h (sib c), Layout.block_apply, hk]
    exact (crossB_even x _ ⟨c.val / 2, by omega⟩ _ e g s l (by simp; omega) (by simp; omega)).symm
  · refine (sent1 (sib c) _ 1 (by simp; omega) e g s l).trans ?_
    rw [h (sib c), Layout.block_apply, hk]
    exact (crossB_odd x _ ⟨c.val / 2, by omega⟩ _ e g s l (by simp; omega) (by simp; omega)).symm

/-- Device `c`'s result 2 is its block of what the reference makes of array 2. -/
theorem got2_eq (x : (⟨⟨5, ![32, 4, 2, 32, 256]⟩, .f32⟩ : BufTy).Contents (Elt F)) (c : Dev nD)
    (h : ∀ d : Dev nD, m ((d : Thread nD τ).loc main_arg2) = Layout.block ⟨5, ![4, 4, 2, 32, 256]⟩ ⟨5, ![32, 4, 2, 32, 256]⟩ 0 8 d x) :
    got2 m c = Layout.block ⟨4, ![4, 4, 32, 256]⟩ ⟨4, ![32, 4, 32, 256]⟩ 0 8 c (crossB (F := F) x) := by
  have hc : c.val < 8 := c.isLt
  have hs := sib_val c
  funext y
  obtain ⟨e, g, s, l, rfl⟩ : ∃ (e g : Fin 4) (s : Fin 32) (l : Fin 256), y = ix4 e g s l := ⟨y 0, y 1, y 2, y 3, eq_ix4 y⟩
  have hi : (Layout.Tiles.idx (S := ⟨4, ![4, 4, 32, 256]⟩) (T := ⟨4, ![32, 4, 32, 256]⟩) (a := 0) (k := 8) (by decide) c (ix4 e g s l))
      = ix4 (⟨4 * c.val + e.val, by omega⟩ : Fin 32) g s l := by
    funext a; refine Fin.ext ?_; rw [Layout.Tiles.idx_val]; fin_cases a <;> simp [Nat.mul_comm]
  have hk (b : Fin 2) : (Layout.Tiles.idx (S := ⟨5, ![4, 4, 2, 32, 256]⟩) (T := ⟨5, ![32, 4, 2, 32, 256]⟩) (a := 0) (k := 8) (by decide) (sib c) (ix5 e g b s l))
      = ix5 (⟨4 * (sib c).val + e.val, by omega⟩ : Fin 32) g b s l := by
    funext a; refine Fin.ext ?_; rw [Layout.Tiles.idx_val]; fin_cases a <;> simp [Nat.mul_comm]
  rw [Layout.block_apply, hi]
  rcases Nat.mod_two_eq_zero_or_one c.val with h0 | h1
  · refine (sent2 (sib c) _ 0 (by simp; omega) e g s l).trans ?_
    rw [h (sib c), Layout.block_apply, hk]
    exact (crossB_even x _ ⟨c.val / 2, by omega⟩ _ e g s l (by simp; omega) (by simp; omega)).symm
  · refine (sent2 (sib c) _ 1 (by simp; omega) e g s l).trans ?_
    rw [h (sib c), Layout.block_apply, hk]
    exact (crossB_odd x _ ⟨c.val / 2, by omega⟩ _ e g s l (by simp; omega) (by simp; omega)).symm

end Cert.SwapBoth

end
-- ==== Proof.lean ====
/- The proof of the certificate's claims. For each call: the frames come from the generated runs, and the value claim joins the
   kernel's run to the reference's at the same arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.InKer
public import proofs.«01_k».proof.Proof.InRun
public import proofs.«01_k».proof.Proof.Pre
public import proofs.«01_k».proof.Proof.MergeKer
public import proofs.«01_k».proof.Proof.InGrad
public import proofs.«01_k».proof.Proof.SqGrad
public import proofs.«01_k».proof.Proof.AdaStep
public import proofs.«01_k».proof.Proof.InStep
public import proofs.«01_k».proof.Proof.SqStep
public import proofs.«01_k».proof.Proof.RgStep
public import proofs.«01_k».proof.Proof.SmStep
public import proofs.«01_k».proof.Proof.ProjOk
public import proofs.«01_k».proof.Proof.ProjFrom
public import proofs.«01_k».proof.Proof.OwnOk
public import proofs.«01_k».proof.Proof.ProjOwn
public import proofs.«01_k».proof.Proof.AttFin
public import proofs.«01_k».proof.Proof.AttFip
public import proofs.«01_k».proof.Proof.AttPre
public import proofs.«01_k».proof.Proof.Gen.Kernel13
public import proofs.«01_k».proof.Proof.Gen.Kernel13Ideal
public import proofs.«01_k».proof.Proof.Gen.Reference13Ideal
public import proofs.«01_k».proof.Proof.SwapA
public import proofs.«01_k».proof.Proof.SwapAIdeal
public import proofs.«01_k».proof.Proof.SwapRef
public import proofs.«01_k».proof.Proof.SwapBoth
public import Idealize.ShloMosaic.Lib.Claim
public import Idealize.ShloMosaic.Adequacy
public import Idealize.ShloMosaic.Init

@[expose] public section

set_option maxHeartbeats 1000000

noncomputable section

-- The claims about the kernels also say that every semaphore counter ends at zero; the frames show that too.

namespace Cert.Proof

open Idealize.ShloMosaic Idealize.SL.Sem

theorem algebraic : Cert.algebraic_KernelIdeal_ReferenceIdeal_pre_reals := by
  intro m g m' g' hpre hagree
  have hD (c) : Cert.InBwd.DM m' c = Cert.KernelIdeal.InBwd.D m c := by
    obtain ⟨e0, e1, e2, e3, e4, e5, e⟩ := hagree c
    unfold Cert.InBwd.DM Cert.KernelIdeal.InBwd.D
    rw [e0, e1, e2, e3, e4, e5]
  refine ⟨_, _, _, _, Cert.KernelIdeal.Value.run_blocks m g, (θ_run _ _ _).mono (fun r h c => ?_) (Cert.InBwd.run m' g')⟩
  obtain ⟨h0, h1, h2, h3, h4, h5, h6, h8, h9⟩ := Cert.Lift.reals_of_pre _ _ _ _ _ _ _ _ _ _ (hpre c)
  obtain ⟨e0, e1, e2, e3, e4, e5, e6, e7, e8, e9⟩ := hagree c
  refine ⟨(h c).1.trans ?_, (h c).2.1.trans ?_, (h c).2.2.1.trans ?_, (h c).2.2.2.1.trans ?_, (h c).2.2.2.2⟩
  · rw [hD, e6, e7, e8, e9]
    exact (Cert.KernelIdeal.InBwd.final10 m c (Cert.KernelIdeal.InBwd.D_real m c h0 h1 h2 h3 h4 h5) h6 h8 h9).symm
  · rw [hD]
    exact (Cert.KernelIdeal.InBwd.final11 m c).symm
  · rw [hD, e6, e9]
    exact (Cert.KernelIdeal.InBwd.final12 m c).symm
  · rw [hD, e6, e8]
    exact (Cert.KernelIdeal.InBwd.final13 m c).symm

theorem algebraic2 : Cert.algebraic_Kernel2Ideal_Reference2Ideal_pre_reals2 := by
  intro m g m' g' hpre hagree
  have hA (c) : Cert.Merge.args m' c = Cert.Kernel2Ideal.Merge.args m c := by
    obtain ⟨e0, e1, e2, e3, e4, e5, e6, e7, e8, e9⟩ := hagree c
    unfold Cert.Merge.args Cert.Kernel2Ideal.Merge.args
    rw [e0, e1, e2, e3, e4, e5, e6, e7, e8, e9]
  have hR (c) : (Cert.Kernel2Ideal.Merge.args m c).Real := Cert.Merge.real_of_pre (hpre c)
  refine ⟨_, _, _, _, _, _, _, _, _, _, _, Cert.Kernel2Ideal.Value.run_blocks m g, (θ_run _ _ _).mono (fun r h c => ?_) (Cert.Merge.run m' g')⟩
  have h := h c
  rw [hA c] at h
  refine ⟨h.1.trans (Cert.Kernel2Ideal.Merge.final13 m c (hR c)).symm, h.2.1.trans (Cert.Kernel2Ideal.Merge.final14 m c).symm, h.2.2.1.trans (Cert.Kernel2Ideal.Merge.final15 m c (hR c)).symm, h.2.2.2.1.trans (Cert.Kernel2Ideal.Merge.final16 m c (hR c)).symm, h.2.2.2.2.1.trans (Cert.Kernel2Ideal.Merge.final17 m c (hR c)).symm, h.2.2.2.2.2.1.trans (Cert.Kernel2Ideal.Merge.final18 m c (hR c)).symm, h.2.2.2.2.2.2.1.trans (Cert.Kernel2Ideal.Merge.final19 m c (hR c)).symm, h.2.2.2.2.2.2.2.1.trans (Cert.Kernel2Ideal.Merge.final20 m c (hR c)).symm, h.2.2.2.2.2.2.2.2.1.trans (Cert.Kernel2Ideal.Merge.final21 m c).symm, h.2.2.2.2.2.2.2.2.2.1.trans (Cert.Kernel2Ideal.Merge.final22 m c (hR c)).symm, h.2.2.2.2.2.2.2.2.2.2.1.trans (Cert.Kernel2Ideal.Merge.final23 m c (hR c)).symm, h.2.2.2.2.2.2.2.2.2.2.2⟩

theorem chip_lt (m : (ℓ : Loc Cert.Kernel10Ideal.nD Cert.Kernel10Ideal.τ Cert.Kernel10Ideal.sig) → Buf (Elt Ideal) ℓ)
    (h : @Cert.Pre_Kernel10Ideal Cert.ProjOk.facts m) : Cert.ProjFrom.chip m < 4 :=
  Cert.ProjOk.chip_lt _ _ _ _ (h 0)

theorem ok10 (m : (ℓ : Loc Cert.Kernel10.nD Cert.Kernel10.τ Cert.Kernel10.sig) → Buf (Elt Bits) ℓ)
    (h : @Cert.Pre_Kernel10 Cert.ProjOk.facts m) : Cert.Kernel10.Gen.Ok m :=
  Cert.ProjOk.Kernel10_ok (F := Bits) _ (by
    rw [show (Cert.Kernel10.Gen.tbl m 0 : IVec Cert.Kernel10.S1 32) = _ from Cert.Kernel10.Gen.V_main_arg2 m 0]
    exact Cert.ProjOk.chip_lt _ _ _ _ (h 0))

theorem ok10i (m : (ℓ : Loc Cert.Kernel10Ideal.nD Cert.Kernel10Ideal.τ Cert.Kernel10Ideal.sig) → Buf (Elt Ideal) ℓ)
    (h : @Cert.Pre_Kernel10Ideal Cert.ProjOk.facts m) : Cert.Kernel10Ideal.Gen.Ok m :=
  Cert.ProjOk.Kernel10Ideal_ok (F := Ideal) _ (by rw [Cert.ProjFrom.tbl_chip]; exact chip_lt m h)

theorem algebraic10 : @Cert.algebraic_Kernel10Ideal_Reference10Ideal Cert.Kernel10Ideal.Gen.facts Cert.Reference10Ideal.Gen.facts Cert.ProjOk.facts := by
  intro m g m' g' hpre hagree
  refine ⟨_, Cert.ProjFrom.run m g (chip_lt m hpre), (θ_run _ _ _).mono (fun r h c => ?_) (Cert.Reference10Ideal.Value.run m' g')⟩
  obtain ⟨e0, e1, e2, e3⟩ := hagree c
  refine ⟨(h c).1.trans ?_, (h c).2⟩
  rw [e0, e1, e2, e3]
  rfl

theorem own_lt (m : (ℓ : Loc Cert.Kernel11Ideal.nD Cert.Kernel11Ideal.τ Cert.Kernel11Ideal.sig) → Buf (Elt Ideal) ℓ)
    (h : @Cert.Pre_Kernel11Ideal Cert.OwnOk.facts m) : Cert.ProjOwn.chip m < 4 :=
  Cert.OwnOk.chip_lt _ _ _ (fun _ => 0) (h 0)

theorem ok11 (m : (ℓ : Loc Cert.Kernel11.nD Cert.Kernel11.τ Cert.Kernel11.sig) → Buf (Elt Bits) ℓ)
    (h : @Cert.Pre_Kernel11 Cert.OwnOk.facts m) : Cert.Kernel11.Gen.Ok m :=
  Cert.OwnOk.Kernel11_ok (F := Bits) _ (by
    rw [show (Cert.Kernel11.Gen.tbl m 0 : IVec Cert.Kernel11.S1 32) = _ from Cert.Kernel11.Gen.V_main_arg2 m 0]
    exact Cert.OwnOk.chip_lt _ _ _ (fun _ => 0) (h 0))

theorem ok11i (m : (ℓ : Loc Cert.Kernel11Ideal.nD Cert.Kernel11Ideal.τ Cert.Kernel11Ideal.sig) → Buf (Elt Ideal) ℓ)
    (h : @Cert.Pre_Kernel11Ideal Cert.OwnOk.facts m) : Cert.Kernel11Ideal.Gen.Ok m :=
  Cert.OwnOk.Kernel11Ideal_ok (F := Ideal) _ (by rw [Cert.ProjOwn.tbl_chip]; exact own_lt m h)

theorem algebraic11 : @Cert.algebraic_Kernel11Ideal_Reference11Ideal_on_own_columns Cert.Kernel11Ideal.Gen.facts Cert.Reference11Ideal.Gen.facts
    Cert.OwnOk.facts Cert.OwnOk.onfacts := by
  intro m g m' g' hpre hagree
  refine ⟨Cert.ProjOwn.G m, (θ_run _ _ _).mono (fun r h c => ?_) (Cert.ProjOwn.run m g (own_lt m hpre)),
    (θ_run _ _ _).mono (fun r h c => ?_) (Cert.Reference11Ideal.Value.run m' g')⟩
  · refine ⟨fun i hi => ?_, (h c).2⟩
    have e : (ix2 (i 0) (i 1) : (⟨2, ![4096, 6656]⟩ : Shape).Idx) = i := by idx_vars i
    rw [← e] at hi ⊢
    obtain rfl : c = 0 := Subsingleton.elim _ _
    exact (h 0).1 _ _ (Cert.OwnOk.mask_in _ _ _ ⟨Cert.ProjOwn.chip m, own_lt m hpre⟩ rfl _ _ hi)
  · obtain ⟨e0, e1, e2⟩ := hagree c
    refine ⟨fun i _ => congrFun ((h c).1.trans ?_) i, (h c).2⟩
    rw [e0, e1]
    rfl

theorem algebraic12 : Cert.algebraic_Kernel12Ideal_Reference12Ideal_pre_reals12 := by
  intro m g m' g' hpre hagree
  refine ⟨_, _, _, _, Cert.Kernel12Ideal.Value.run_blocks m g, (θ_run _ _ _).mono (fun r h c => ?_) (Cert.AttRef.run m' g')⟩
  obtain ⟨e0, e1, e2⟩ := hagree c
  refine ⟨(h c).1.trans ?_, (h c).2.1.trans ?_, (h c).2.2.1.trans ?_, (h c).2.2.2.1.trans ?_, (h c).2.2.2.2⟩
  · rw [e0, e1, e2]
    exact (Cert.Kernel12Ideal.Att.final m c (Cert.Att.ok_of_pre _ _ _ (hpre c))).symm
  · rw [e0, e1]
    exact (Cert.Kernel12Ideal.Att.finalQ m c).symm
  · rw [e0, e1]
    exact (Cert.Kernel12Ideal.Att.finalK m c).symm
  · rw [e0, e1, e2]
    exact (Cert.Kernel12Ideal.Att.finalP m c (Cert.Att.ok_of_pre _ _ _ (hpre c))).symm

theorem masked : Cert.preserves_Kernel12_Kernel12Ideal := IdealRules.named_const.statement Cert.Kernel12Ideal.κ "masked" .f32 0xF149F2CA#32 ⊥ rfl

theorem algebraic3 : Cert.algebraic_Kernel3Ideal_Reference3Ideal := by
  intro m g m' g' _ hagree
  refine ⟨_, Cert.Kernel3Ideal.Value.run_blocks m g, (θ_run _ _ _).mono (fun r h c => ?_) (Cert.Reference3Ideal.Value.run m' g')⟩
  obtain ⟨e0, e1, e2, e3, e4, e5⟩ := hagree c
  refine ⟨(h c).1.trans ?_, (h c).2⟩
  · rw [e0, e1, e2, e3, e4, e5]
    exact (Cert.InGrad.final m c).symm

theorem algebraic4 : Cert.algebraic_Kernel4Ideal_Reference4Ideal := by
  intro m g m' g' _ hagree
  refine ⟨_, Cert.Kernel4Ideal.Value.run_blocks m g, (θ_run _ _ _).mono (fun r h c => ?_) (Cert.Reference4Ideal.Value.run m' g')⟩
  obtain ⟨e0, e1⟩ := hagree c
  refine ⟨(h c).1.trans ?_, (h c).2⟩
  · rw [e0, e1]
    exact (Cert.SqGrad.final m c).symm

theorem algebraic5 : Cert.algebraic_Kernel5Ideal_Reference5Ideal := by
  intro m g m' g' _ hagree
  refine ⟨_, _, _, _, Cert.Kernel5Ideal.Value.run_blocks m g, (θ_run _ _ _).mono (fun r h c => ?_) (Cert.AdaStep.run m' g')⟩
  obtain ⟨e0, e1, e2, e3, e4⟩ := hagree c
  refine ⟨(h c).1.trans ?_, (h c).2.1.trans ?_, (h c).2.2.1.trans ?_, (h c).2.2.2.1.trans ?_, (h c).2.2.2.2⟩
  · rw [e0, e1]
    exact (Cert.AdaStep.final5 m c).symm
  · rw [e0, e1, e2, e3, e4]
    exact (Cert.AdaStep.final6 m c).symm
  · rw [e0, e1, e3]
    exact (Cert.AdaStep.final7 m c).symm
  · rw [e0, e1, e4]
    exact (Cert.AdaStep.final8 m c).symm

theorem algebraic6 : Cert.algebraic_Kernel6Ideal_Reference6Ideal := by
  intro m g m' g' _ hagree
  refine ⟨_, _, _, _, Cert.Kernel6Ideal.Value.run_blocks m g, (θ_run _ _ _).mono (fun r h c => ?_) (Cert.InStep.run m' g')⟩
  obtain ⟨e0, e1, e2, e3⟩ := hagree c
  refine ⟨(h c).1.trans ?_, (h c).2.1.trans ?_, (h c).2.2.1.trans ?_, (h c).2.2.2.1.trans ?_, (h c).2.2.2.2⟩
  · rw [e0]
    exact (Cert.InStep.final4 m c).symm
  · rw [e0, e1, e2, e3]
    exact (Cert.InStep.final5 m c).symm
  · rw [e0, e2]
    exact (Cert.InStep.final6 m c).symm
  · rw [e0, e3]
    exact (Cert.InStep.final7 m c).symm

theorem algebraic7 : Cert.algebraic_Kernel7Ideal_Reference7Ideal := by
  intro m g m' g' _ hagree
  refine ⟨_, _, _, _, _, _, _, _, _, _, _, _, Cert.Kernel7Ideal.Value.run_blocks m g, (θ_run _ _ _).mono (fun r h c => ?_) (Cert.SqStep.run m' g')⟩
  obtain ⟨e0, e1, e2, e3, e4, e5, e6, e7, e8, e9, e10, e11⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩
  · rw [e0]
    exact (Cert.SqStep.final12 m c).symm
  · rw [e0, e3, e6, e9]
    exact (Cert.SqStep.final13 m c).symm
  · rw [e0, e6]
    exact (Cert.SqStep.final14 m c).symm
  · rw [e0, e9]
    exact (Cert.SqStep.final15 m c).symm
  · rw [e1]
    exact (Cert.SqStep.final16 m c).symm
  · rw [e1, e4, e7, e10]
    exact (Cert.SqStep.final17 m c).symm
  · rw [e1, e7]
    exact (Cert.SqStep.final18 m c).symm
  · rw [e1, e10]
    exact (Cert.SqStep.final19 m c).symm
  · rw [e2]
    exact (Cert.SqStep.final20 m c).symm
  · rw [e2, e5, e8, e11]
    exact (Cert.SqStep.final21 m c).symm
  · rw [e2, e8]
    exact (Cert.SqStep.final22 m c).symm
  · rw [e2, e11]
    exact (Cert.SqStep.final23 m c).symm

theorem algebraic8 : Cert.algebraic_Kernel8Ideal_Reference8Ideal := by
  intro m g m' g' _ hagree
  refine ⟨_, _, _, _, _, _, _, _, Cert.Kernel8Ideal.Value.run_blocks m g, (θ_run _ _ _).mono (fun r h c => ?_) (Cert.RgStep.run m' g')⟩
  obtain ⟨e0, e1, e2, e3, e4, e5, e6, e7⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩
  · rw [e0]
    exact (Cert.RgStep.final8 m c).symm
  · rw [e0, e2, e4, e6]
    exact (Cert.RgStep.final9 m c).symm
  · rw [e0, e4]
    exact (Cert.RgStep.final10 m c).symm
  · rw [e0, e6]
    exact (Cert.RgStep.final11 m c).symm
  · rw [e1]
    exact (Cert.RgStep.final12 m c).symm
  · rw [e1, e3, e5, e7]
    exact (Cert.RgStep.final13 m c).symm
  · rw [e1, e5]
    exact (Cert.RgStep.final14 m c).symm
  · rw [e1, e7]
    exact (Cert.RgStep.final15 m c).symm

theorem algebraic9 : Cert.algebraic_Kernel9Ideal_Reference9Ideal := by
  intro m g m' g' _ hagree
  refine ⟨_, _, _, _, Cert.Kernel9Ideal.Value.run_blocks m g, (θ_run _ _ _).mono (fun r h c => ?_) (Cert.SmStep.run m' g')⟩
  obtain ⟨e0, e1, e2, e3⟩ := hagree c
  refine ⟨(h c).1.trans ?_, (h c).2.1.trans ?_, (h c).2.2.1.trans ?_, (h c).2.2.2.1.trans ?_, (h c).2.2.2.2⟩
  · rw [e0]
    exact ((Cert.Kernel9Ideal.Value.final4 m c).trans (Cert.SmStep.sum_eq _ _ _ _)).symm
  · rw [e0, e1, e2, e3]
    exact ((Cert.Kernel9Ideal.Value.final5 m c).trans (Cert.SmStep.ch_eq _ _ _ _)).symm
  · rw [e0, e2]
    exact ((Cert.Kernel9Ideal.Value.final6 m c).trans (Cert.SmStep.mo_eq _ _ _ _)).symm
  · rw [e0, e3]
    exact ((Cert.Kernel9Ideal.Value.final7 m c).trans (Cert.SmStep.va_eq _ _ _ _)).symm

theorem frame_reference : Cert.quiescent_ReferenceIdeal := fun m ρ _ =>
  (θ_run (Cert.ReferenceIdeal.defs (F := Ideal)) _ _).mono (fun r h => And.intro (fun c => (h c).2.2.2.2)
    (sem_eq_zero_of_no_sems (by decide) r.2)) (Cert.InBwd.run m ρ)

theorem frame_reference2 : Cert.quiescent_Reference2Ideal := fun m ρ _ =>
  (θ_run (Cert.Reference2Ideal.defs (F := Ideal)) _ _).mono (fun r h => And.intro (fun c => (h c).2.2.2.2.2.2.2.2.2.2.2)
    (sem_eq_zero_of_no_sems (by decide) r.2)) (Cert.Merge.run m ρ)

theorem frame_reference3 : Cert.quiescent_Reference3Ideal := fun m ρ _ =>
  (θ_run (Cert.Reference3Ideal.defs (F := Ideal)) _ _).mono (fun r h => And.intro (fun c => (h c).2)
    (sem_eq_zero_of_no_sems (by decide) r.2)) (Cert.Reference3Ideal.Value.run m ρ)

theorem frame_reference4 : Cert.quiescent_Reference4Ideal := fun m ρ _ =>
  (θ_run (Cert.Reference4Ideal.defs (F := Ideal)) _ _).mono (fun r h => And.intro (fun c => (h c).2)
    (sem_eq_zero_of_no_sems (by decide) r.2)) (Cert.Reference4Ideal.Value.run m ρ)

theorem frame_reference5 : Cert.quiescent_Reference5Ideal := fun m ρ _ =>
  (θ_run (Cert.Reference5Ideal.defs (F := Ideal)) _ _).mono (fun r h => And.intro (fun c => (h c).2.2.2.2)
    (sem_eq_zero_of_no_sems (by decide) r.2)) (Cert.AdaStep.run m ρ)

theorem frame_reference6 : Cert.quiescent_Reference6Ideal := fun m ρ _ =>
  (θ_run (Cert.Reference6Ideal.defs (F := Ideal)) _ _).mono (fun r h => And.intro (fun c => (h c).2.2.2.2)
    (sem_eq_zero_of_no_sems (by decide) r.2)) (Cert.InStep.run m ρ)

theorem frame_reference7 : Cert.quiescent_Reference7Ideal := fun m ρ _ =>
  (θ_run (Cert.Reference7Ideal.defs (F := Ideal)) _ _).mono (fun r h => And.intro (fun c => (h c).2.2.2.2.2.2.2.2.2.2.2.2)
    (sem_eq_zero_of_no_sems (by decide) r.2)) (Cert.SqStep.run m ρ)

theorem frame_reference8 : Cert.quiescent_Reference8Ideal := fun m ρ _ =>
  (θ_run (Cert.Reference8Ideal.defs (F := Ideal)) _ _).mono (fun r h => And.intro (fun c => (h c).2.2.2.2.2.2.2.2)
    (sem_eq_zero_of_no_sems (by decide) r.2)) (Cert.RgStep.run m ρ)

theorem frame_reference9 : Cert.quiescent_Reference9Ideal := fun m ρ _ =>
  (θ_run (Cert.Reference9Ideal.defs (F := Ideal)) _ _).mono (fun r h => And.intro (fun c => (h c).2.2.2.2)
    (sem_eq_zero_of_no_sems (by decide) r.2)) (Cert.SmStep.run m ρ)

theorem frame_reference10 : Cert.quiescent_Reference10Ideal := fun m ρ _ =>
  (θ_run (Cert.Reference10Ideal.defs (F := Ideal)) _ _).mono (fun r h => And.intro (fun c => (h c).2)
    (sem_eq_zero_of_no_sems (by decide) r.2)) (Cert.Reference10Ideal.Value.run m ρ)

theorem frame_reference11 : Cert.quiescent_Reference11Ideal := fun m ρ _ =>
  (θ_run (Cert.Reference11Ideal.defs (F := Ideal)) _ _).mono (fun r h => And.intro (fun c => (h c).2)
    (sem_eq_zero_of_no_sems (by decide) r.2)) (Cert.Reference11Ideal.Value.run m ρ)

theorem frame_reference12 : Cert.quiescent_Reference12Ideal := fun m ρ _ =>
  (θ_run (Cert.Reference12Ideal.defs (F := Ideal)) _ _).mono (fun r h => And.intro (fun c => (h c).2.2.2.2)
    (sem_eq_zero_of_no_sems (by decide) r.2)) (Cert.AttRef.run m ρ)

theorem frame_kernel13 : Cert.quiescent_Kernel13 := fun m ρ _ =>
  (θ_run (Cert.Kernel13.defs (F := Bits)) _ _).mono (fun r h => And.intro (fun c => (h.1 c).1) h.2) (Cert.Kernel13.Swap.run_main m ρ)

theorem frame_ideal13 : Cert.quiescent_Kernel13Ideal := fun m ρ _ =>
  (θ_run (Cert.Kernel13Ideal.defs (F := Ideal)) _ _).mono (fun r h => And.intro (fun c => (h.1 c).1) h.2) (Cert.Kernel13Ideal.Swap.run_main m ρ)

theorem frame_reference13 : Cert.quiescent_Reference13Ideal := fun m ρ _ =>
  (θ_run (Cert.Reference13Ideal.defs (F := Ideal)) _ _).mono (fun r h => And.intro (fun c => (h c).2.2.2)
    (sem_eq_zero_of_no_sems (by decide) r.2)) (Cert.Reference13Ideal.Swap.run m ρ)

theorem algebraic13 : Cert.algebraic_Kernel13Ideal_Reference13Ideal := by
  intro m ρ m' ρ' _ hin
  refine ⟨_, _, _, (θ_run (Cert.Kernel13Ideal.defs (F := Ideal)) _ _).mono (fun r h c => ?_) (Cert.Kernel13Ideal.Swap.run_main m ρ),
    (θ_run (Cert.Reference13Ideal.defs (F := Ideal)) _ _).mono (fun r h => h 0) (Cert.Reference13Ideal.Swap.run m' ρ')⟩
  obtain ⟨hargs, h0, h1, h2⟩ := h.1 c
  exact ⟨h0.trans (Cert.SwapBoth.got0_eq m _ c fun d => (hin d).1), h1.trans (Cert.SwapBoth.got1_eq m _ c fun d => (hin d).2.1),
    h2.trans (Cert.SwapBoth.got2_eq m _ c fun d => (hin d).2.2), hargs⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Lift.facts, Cert.Merge.facts2, Cert.ProjOk.facts, Cert.OwnOk.facts, Cert.Att.facts12, Cert.OwnOk.onfacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ h => Cert.Kernel10.Gen.frame m ρ (ok10 m h),
    fun m ρ h => Cert.Kernel10Ideal.Gen.frame m ρ (ok10i m h),
    frame_reference10,
    fun m ρ _ => frame_reference10 m ρ trivial,
    fun m ρ h => Cert.Kernel11.Gen.frame m ρ (ok11 m h),
    fun m ρ h => Cert.Kernel11Ideal.Gen.frame m ρ (ok11i m h),
    frame_reference11,
    fun m ρ _ => frame_reference11 m ρ trivial,
    fun m ρ _ => Cert.Kernel12.Gen.frame m ρ,
    fun m ρ _ => Cert.Kernel12Ideal.Gen.frame m ρ,
    fun m ρ _ => Cert.Kernel12Ideal.Gen.frame m ρ,
    frame_reference12,
    fun m ρ _ => frame_reference12 m ρ trivial,
    frame_kernel13, frame_ideal13, frame_reference13,
    trivial, algebraic, trivial, algebraic2, trivial, algebraic3, trivial, algebraic4, trivial, algebraic5, trivial, algebraic6, trivial, algebraic7, trivial, algebraic8, trivial, algebraic9, trivial, algebraic10, trivial, algebraic11, masked, algebraic12, trivial, algebraic13⟩

end Cert.Proof

end
